-- ==== Defs.lean ====
def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixGradIdeal (m : (ℓ : Loc Cert.MixGradIdeal.nD Cert.MixGradIdeal.τ Cert.MixGradIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownIdeal_down_finite [hPre_down_finite : Cert.Pre_down_finite.Facts] (m : (ℓ : Loc Cert.DownIdeal.nD Cert.DownIdeal.τ Cert.DownIdeal.sig) → Buf (Elt Ideal) ℓ) : Prop :=
  ∀ c : Dev Cert.DownIdeal.nD,
    (Cert.Pre_down_finite.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5))) = (fun _ => 1#1)

def Pre_DownGradIdeal (m : (ℓ : Loc Cert.DownGradIdeal.nD Cert.DownGradIdeal.τ Cert.DownGradIdeal.sig) → Buf (Elt Ideal) ℓ) : Prop :=
  True

def Pre_DownGradIdeal_down_finite [hPre_down_finite : Cert.Pre_down_finite.Facts] (m : (ℓ : Loc Cert.DownGradIdeal.nD Cert.DownGradIdeal.τ Cert.DownGradIdeal.sig) → Buf (Elt Ideal) ℓ) : Prop :=
  ∀ c : Dev Cert.DownGradIdeal.nD,
    (Cert.Pre_down_finite.fn (F := Ideal) (m ((c.tc : Thread Cert.DownGradIdeal.nD Cert.DownGradIdeal.τ).loc Cert.DownGradIdeal.main_arg0)) (m ((c.tc : Thread Cert.DownGradIdeal.nD Cert.DownGradIdeal.τ).loc Cert.DownGradIdeal.main_arg1)) (m ((c.tc : Thread Cert.DownGradIdeal.nD Cert.DownGradIdeal.τ).loc Cert.DownGradIdeal.main_arg2)) (m ((c.tc : Thread Cert.DownGradIdeal.nD Cert.DownGradIdeal.τ).loc Cert.DownGradIdeal.main_arg3)) (m ((c.tc : Thread Cert.DownGradIdeal.nD Cert.DownGradIdeal.τ).loc Cert.DownGradIdeal.main_arg4)) (m ((c.tc : Thread Cert.DownGradIdeal.nD Cert.DownGradIdeal.τ).loc Cert.DownGradIdeal.main_arg5))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_norm_finite [hPre_norm_finite : Cert.Pre_norm_finite.Facts] (m : (ℓ : Loc Cert.NormIdeal.nD Cert.NormIdeal.τ Cert.NormIdeal.sig) → Buf (Elt Ideal) ℓ) : Prop :=
  ∀ c : Dev Cert.NormIdeal.nD,
    (Cert.Pre_norm_finite.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6)) (m ((c.tc : Thread Cert.NormIdeal.nD Cert.NormIdeal.τ).loc Cert.NormIdeal.main_arg7))) = (fun _ => 1#1)

def Pre_NormGradIdeal (m : (ℓ : Loc Cert.NormGradIdeal.nD Cert.NormGradIdeal.τ Cert.NormGradIdeal.sig) → Buf (Elt Ideal) ℓ) : Prop :=
  True

def Pre_NormGradIdeal_norm_finite [hPre_norm_finite : Cert.Pre_norm_finite.Facts] (m : (ℓ : Loc Cert.NormGradIdeal.nD Cert.NormGradIdeal.τ Cert.NormGradIdeal.sig) → Buf (Elt Ideal) ℓ) : Prop :=
  ∀ c : Dev Cert.NormGradIdeal.nD,
    (Cert.Pre_norm_finite.fn (F := Ideal) (m ((c.tc : Thread Cert.NormGradIdeal.nD Cert.NormGradIdeal.τ).loc Cert.NormGradIdeal.main_arg0)) (m ((c.tc : Thread Cert.NormGradIdeal.nD Cert.NormGradIdeal.τ).loc Cert.NormGradIdeal.main_arg1)) (m ((c.tc : Thread Cert.NormGradIdeal.nD Cert.NormGradIdeal.τ).loc Cert.NormGradIdeal.main_arg2)) (m ((c.tc : Thread Cert.NormGradIdeal.nD Cert.NormGradIdeal.τ).loc Cert.NormGradIdeal.main_arg3)) (m ((c.tc : Thread Cert.NormGradIdeal.nD Cert.NormGradIdeal.τ).loc Cert.NormGradIdeal.main_arg4)) (m ((c.tc : Thread Cert.NormGradIdeal.nD Cert.NormGradIdeal.τ).loc Cert.NormGradIdeal.main_arg5)) (m ((c.tc : Thread Cert.NormGradIdeal.nD Cert.NormGradIdeal.τ).loc Cert.NormGradIdeal.main_arg6)) (m ((c.tc : Thread Cert.NormGradIdeal.nD Cert.NormGradIdeal.τ).loc Cert.NormGradIdeal.main_arg7))) = (fun _ => 1#1)

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpIdeal_inp_finite [hPre_inp_finite : Cert.Pre_inp_finite.Facts] (m : (ℓ : Loc Cert.InpIdeal.nD Cert.InpIdeal.τ Cert.InpIdeal.sig) → Buf (Elt Ideal) ℓ) : Prop :=
  ∀ c : Dev Cert.InpIdeal.nD,
    (Cert.Pre_inp_finite.fn (F := Ideal) (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)) (m ((c.tc : Thread Cert.InpIdeal.nD Cert.InpIdeal.τ).loc Cert.InpIdeal.main_arg4)) (m ((c.tc : Thread Cert.InpIdeal.nD Cert.InpIdeal.τ).loc Cert.InpIdeal.main_arg5)) (m ((c.tc : Thread Cert.InpIdeal.nD Cert.InpIdeal.τ).loc Cert.InpIdeal.main_arg6)) (m ((c.tc : Thread Cert.InpIdeal.nD Cert.InpIdeal.τ).loc Cert.InpIdeal.main_arg7))) = (fun _ => 1#1)

def Pre_InpGradIdeal (m : (ℓ : Loc Cert.InpGradIdeal.nD Cert.InpGradIdeal.τ Cert.InpGradIdeal.sig) → Buf (Elt Ideal) ℓ) : Prop :=
  True

def Pre_InpGradIdeal_inp_finite [hPre_inp_finite : Cert.Pre_inp_finite.Facts] (m : (ℓ : Loc Cert.InpGradIdeal.nD Cert.InpGradIdeal.τ Cert.InpGradIdeal.sig) → Buf (Elt Ideal) ℓ) : Prop :=
  ∀ c : Dev Cert.InpGradIdeal.nD,
    (Cert.Pre_inp_finite.fn (F := Ideal) (m ((c.tc : Thread Cert.InpGradIdeal.nD Cert.InpGradIdeal.τ).loc Cert.InpGradIdeal.main_arg0)) (m ((c.tc : Thread Cert.InpGradIdeal.nD Cert.InpGradIdeal.τ).loc Cert.InpGradIdeal.main_arg1)) (m ((c.tc : Thread Cert.InpGradIdeal.nD Cert.InpGradIdeal.τ).loc Cert.InpGradIdeal.main_arg2)) (m ((c.tc : Thread Cert.InpGradIdeal.nD Cert.InpGradIdeal.τ).loc Cert.InpGradIdeal.main_arg3)) (m ((c.tc : Thread Cert.InpGradIdeal.nD Cert.InpGradIdeal.τ).loc Cert.InpGradIdeal.main_arg4)) (m ((c.tc : Thread Cert.InpGradIdeal.nD Cert.InpGradIdeal.τ).loc Cert.InpGradIdeal.main_arg5)) (m ((c.tc : Thread Cert.InpGradIdeal.nD Cert.InpGradIdeal.τ).loc Cert.InpGradIdeal.main_arg6)) (m ((c.tc : Thread Cert.InpGradIdeal.nD Cert.InpGradIdeal.τ).loc Cert.InpGradIdeal.main_arg7))) = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_ffn_finite [hPre_ffn_finite : Cert.Pre_ffn_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6))) = (fun _ => 1#1)

def Pre_FfnGradIdeal (m : (ℓ : Loc Cert.FfnGradIdeal.nD Cert.FfnGradIdeal.τ Cert.FfnGradIdeal.sig) → Buf (Elt Ideal) ℓ) : Prop :=
  True

def Pre_FfnGradIdeal_ffn_finite [hPre_ffn_finite : Cert.Pre_ffn_finite.Facts] (m : (ℓ : Loc Cert.FfnGradIdeal.nD Cert.FfnGradIdeal.τ Cert.FfnGradIdeal.sig) → Buf (Elt Ideal) ℓ) : Prop :=
  ∀ c : Dev Cert.FfnGradIdeal.nD,
    (Cert.Pre_ffn_finite.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5)) (m ((c.tc : Thread Cert.FfnGradIdeal.nD Cert.FfnGradIdeal.τ).loc Cert.FfnGradIdeal.main_arg6))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnGradIdeal (m : (ℓ : Loc Cert.AttnGradIdeal.nD Cert.AttnGradIdeal.τ Cert.AttnGradIdeal.sig) → Buf (Elt Ideal) ℓ) : Prop :=
  True

def Pre_AttnGradIdeal_attn_finite [hPre_attn_finite : Cert.Pre_attn_finite.Facts] (m : (ℓ : Loc Cert.AttnGradIdeal.nD Cert.AttnGradIdeal.τ Cert.AttnGradIdeal.sig) → Buf (Elt Ideal) ℓ) : Prop :=
  ∀ c : Dev Cert.AttnGradIdeal.nD,
    (Cert.Pre_attn_finite.fn (F := Ideal) (m ((c.tc : Thread Cert.AttnGradIdeal.nD Cert.AttnGradIdeal.τ).loc Cert.AttnGradIdeal.main_arg0)) (m ((c.tc : Thread Cert.AttnGradIdeal.nD Cert.AttnGradIdeal.τ).loc Cert.AttnGradIdeal.main_arg1)) (m ((c.tc : Thread Cert.AttnGradIdeal.nD Cert.AttnGradIdeal.τ).loc Cert.AttnGradIdeal.main_arg2)) (m ((c.tc : Thread Cert.AttnGradIdeal.nD Cert.AttnGradIdeal.τ).loc Cert.AttnGradIdeal.main_arg3))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpHostIdeal (m : (ℓ : Loc Cert.UpHostIdeal.nD Cert.UpHostIdeal.τ Cert.UpHostIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjHostIdeal (m : (ℓ : Loc Cert.ProjHostIdeal.nD Cert.ProjHostIdeal.τ Cert.ProjHostIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_merge_finite [hPre_merge_finite : Cert.Pre_merge_finite.Facts] (m : (ℓ : Loc Cert.MergeIdeal.nD Cert.MergeIdeal.τ Cert.MergeIdeal.sig) → Buf (Elt Ideal) ℓ) : Prop :=
  ∀ c : Dev Cert.MergeIdeal.nD,
    (Cert.Pre_merge_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10))) = (fun _ => 1#1)

def Pre_MergeHostIdeal (m : (ℓ : Loc Cert.MergeHostIdeal.nD Cert.MergeHostIdeal.τ Cert.MergeHostIdeal.sig) → Buf (Elt Ideal) ℓ) : Prop :=
  True

def Pre_MergeHostIdeal_merge_finite [hPre_merge_finite : Cert.Pre_merge_finite.Facts] (m : (ℓ : Loc Cert.MergeHostIdeal.nD Cert.MergeHostIdeal.τ Cert.MergeHostIdeal.sig) → Buf (Elt Ideal) ℓ) : Prop :=
  ∀ c : Dev Cert.MergeHostIdeal.nD,
    (Cert.Pre_merge_finite.fn (F := Ideal) (m ((c.tc : Thread Cert.MergeHostIdeal.nD Cert.MergeHostIdeal.τ).loc Cert.MergeHostIdeal.main_arg0)) (m ((c.tc : Thread Cert.MergeHostIdeal.nD Cert.MergeHostIdeal.τ).loc Cert.MergeHostIdeal.main_arg1)) (m ((c.tc : Thread Cert.MergeHostIdeal.nD Cert.MergeHostIdeal.τ).loc Cert.MergeHostIdeal.main_arg2)) (m ((c.tc : Thread Cert.MergeHostIdeal.nD Cert.MergeHostIdeal.τ).loc Cert.MergeHostIdeal.main_arg3)) (m ((c.tc : Thread Cert.MergeHostIdeal.nD Cert.MergeHostIdeal.τ).loc Cert.MergeHostIdeal.main_arg4)) (m ((c.tc : Thread Cert.MergeHostIdeal.nD Cert.MergeHostIdeal.τ).loc Cert.MergeHostIdeal.main_arg5)) (m ((c.tc : Thread Cert.MergeHostIdeal.nD Cert.MergeHostIdeal.τ).loc Cert.MergeHostIdeal.main_arg6)) (m ((c.tc : Thread Cert.MergeHostIdeal.nD Cert.MergeHostIdeal.τ).loc Cert.MergeHostIdeal.main_arg7)) (m ((c.tc : Thread Cert.MergeHostIdeal.nD Cert.MergeHostIdeal.τ).loc Cert.MergeHostIdeal.main_arg8)) (m ((c.tc : Thread Cert.MergeHostIdeal.nD Cert.MergeHostIdeal.τ).loc Cert.MergeHostIdeal.main_arg9)) (m ((c.tc : Thread Cert.MergeHostIdeal.nD Cert.MergeHostIdeal.τ).loc Cert.MergeHostIdeal.main_arg10))) = (fun _ => 1#1)

def Pre_Look (m : (ℓ : Loc Cert.Look.nD Cert.Look.τ Cert.Look.sig) → Buf (Elt Bits) ℓ) : Prop :=
  True

def Pre_LookIdeal (m : (ℓ : Loc Cert.LookIdeal.nD Cert.LookIdeal.τ Cert.LookIdeal.sig) → Buf (Elt Ideal) ℓ) : Prop :=
  True

def Pre_LookHostIdeal (m : (ℓ : Loc Cert.LookHostIdeal.nD Cert.LookHostIdeal.τ Cert.LookHostIdeal.sig) → Buf (Elt Ideal) ℓ) : Prop :=
  True

def Pre_Weights (m : (ℓ : Loc Cert.Weights.nD Cert.Weights.τ Cert.Weights.sig) → Buf (Elt Bits) ℓ) : Prop :=
  True

def Pre_WeightsIdeal (m : (ℓ : Loc Cert.WeightsIdeal.nD Cert.WeightsIdeal.τ Cert.WeightsIdeal.sig) → Buf (Elt Ideal) ℓ) : Prop :=
  True

def Pre_WeightsGradIdeal (m : (ℓ : Loc Cert.WeightsGradIdeal.nD Cert.WeightsGradIdeal.τ Cert.WeightsGradIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamHostIdeal (m : (ℓ : Loc Cert.AdamHostIdeal.nD Cert.AdamHostIdeal.τ Cert.AdamHostIdeal.sig) → Buf (Elt Ideal) ℓ) : Prop :=
  True

def Pre_Update (m : (ℓ : Loc Cert.Update.nD Cert.Update.τ Cert.Update.sig) → Buf (Elt Bits) ℓ) : Prop :=
  True

def Pre_UpdateIdeal (m : (ℓ : Loc Cert.UpdateIdeal.nD Cert.UpdateIdeal.τ Cert.UpdateIdeal.sig) → Buf (Elt Ideal) ℓ) : Prop :=
  True

def Pre_UpdateHostIdeal (m : (ℓ : Loc Cert.UpdateHostIdeal.nD Cert.UpdateHostIdeal.τ Cert.UpdateHostIdeal.sig) → Buf (Elt Ideal) ℓ) : Prop :=
  True

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixGradIdeal [hMixGradIdeal : Cert.MixGradIdeal.Facts] : Prop :=
  ∀ (m : (ℓ : Loc Cert.MixGradIdeal.nD Cert.MixGradIdeal.τ Cert.MixGradIdeal.sig) → Buf (Elt Ideal) ℓ) (g : Dev Cert.MixGradIdeal.nD → PrngReg), Pre_MixGradIdeal m →
    θ_run (Cert.MixGradIdeal.defs (F := Ideal)) (onTc (τ := Cert.MixGradIdeal.τ) (Cert.MixGradIdeal.main (F := Ideal))) ⟨m, fun _ => 0, g⟩ (fun r => (∀ c : Dev Cert.MixGradIdeal.nD,
      r.2.mem ((c.tc : Thread Cert.MixGradIdeal.nD Cert.MixGradIdeal.τ).loc Cert.MixGradIdeal.main_arg0) = m ((c.tc : Thread Cert.MixGradIdeal.nD Cert.MixGradIdeal.τ).loc Cert.MixGradIdeal.main_arg0)
      ∧ r.2.mem ((c.tc : Thread Cert.MixGradIdeal.nD Cert.MixGradIdeal.τ).loc Cert.MixGradIdeal.main_arg1) = m ((c.tc : Thread Cert.MixGradIdeal.nD Cert.MixGradIdeal.τ).loc Cert.MixGradIdeal.main_arg1)
      ∧ r.2.mem ((c.tc : Thread Cert.MixGradIdeal.nD Cert.MixGradIdeal.τ).loc Cert.MixGradIdeal.main_arg2) = m ((c.tc : Thread Cert.MixGradIdeal.nD Cert.MixGradIdeal.τ).loc Cert.MixGradIdeal.main_arg2)
      ∧ r.2.mem ((c.tc : Thread Cert.MixGradIdeal.nD Cert.MixGradIdeal.τ).loc Cert.MixGradIdeal.main_arg3) = m ((c.tc : Thread Cert.MixGradIdeal.nD Cert.MixGradIdeal.τ).loc Cert.MixGradIdeal.main_arg3)
      ∧ r.2.mem ((c.tc : Thread Cert.MixGradIdeal.nD Cert.MixGradIdeal.τ).loc Cert.MixGradIdeal.main_arg4) = m ((c.tc : Thread Cert.MixGradIdeal.nD Cert.MixGradIdeal.τ).loc Cert.MixGradIdeal.main_arg4)
      ∧ r.2.mem ((c.tc : Thread Cert.MixGradIdeal.nD Cert.MixGradIdeal.τ).loc Cert.MixGradIdeal.main_arg5) = m ((c.tc : Thread Cert.MixGradIdeal.nD Cert.MixGradIdeal.τ).loc Cert.MixGradIdeal.main_arg5)
      ∧ r.2.mem ((c.tc : Thread Cert.MixGradIdeal.nD Cert.MixGradIdeal.τ).loc Cert.MixGradIdeal.main_arg6) = m ((c.tc : Thread Cert.MixGradIdeal.nD Cert.MixGradIdeal.τ).loc Cert.MixGradIdeal.main_arg6)
      ∧ r.2.mem ((c.tc : Thread Cert.MixGradIdeal.nD Cert.MixGradIdeal.τ).loc Cert.MixGradIdeal.main_arg7) = m ((c.tc : Thread Cert.MixGradIdeal.nD Cert.MixGradIdeal.τ).loc Cert.MixGradIdeal.main_arg7)
      ∧ r.2.mem ((c.tc : Thread Cert.MixGradIdeal.nD Cert.MixGradIdeal.τ).loc Cert.MixGradIdeal.main_arg8) = m ((c.tc : Thread Cert.MixGradIdeal.nD Cert.MixGradIdeal.τ).loc Cert.MixGradIdeal.main_arg8)
      ∧ r.2.mem ((c.tc : Thread Cert.MixGradIdeal.nD Cert.MixGradIdeal.τ).loc Cert.MixGradIdeal.main_arg9) = m ((c.tc : Thread Cert.MixGradIdeal.nD Cert.MixGradIdeal.τ).loc Cert.MixGradIdeal.main_arg9))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownIdeal_pre_down_finite [hDownIdeal : Cert.DownIdeal.Facts] [hPre_down_finite : Cert.Pre_down_finite.Facts] : Prop :=
  ∀ (m : (ℓ : Loc Cert.DownIdeal.nD Cert.DownIdeal.τ Cert.DownIdeal.sig) → Buf (Elt Ideal) ℓ) (g : Dev Cert.DownIdeal.nD → PrngReg), Pre_DownIdeal_down_finite m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownGradIdeal [hDownGradIdeal : Cert.DownGradIdeal.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1)
      ∧ r.2.mem ((c.tc : Thread Cert.DownGradIdeal.nD Cert.DownGradIdeal.τ).loc Cert.DownGradIdeal.main_arg2) = m ((c.tc : Thread Cert.DownGradIdeal.nD Cert.DownGradIdeal.τ).loc Cert.DownGradIdeal.main_arg2)
      ∧ r.2.mem ((c.tc : Thread Cert.DownGradIdeal.nD Cert.DownGradIdeal.τ).loc Cert.DownGradIdeal.main_arg3) = m ((c.tc : Thread Cert.DownGradIdeal.nD Cert.DownGradIdeal.τ).loc Cert.DownGradIdeal.main_arg3)
      ∧ r.2.mem ((c.tc : Thread Cert.DownGradIdeal.nD Cert.DownGradIdeal.τ).loc Cert.DownGradIdeal.main_arg4) = m ((c.tc : Thread Cert.DownGradIdeal.nD Cert.DownGradIdeal.τ).loc Cert.DownGradIdeal.main_arg4)
      ∧ r.2.mem ((c.tc : Thread Cert.DownGradIdeal.nD Cert.DownGradIdeal.τ).loc Cert.DownGradIdeal.main_arg5) = m ((c.tc : Thread Cert.DownGradIdeal.nD Cert.DownGradIdeal.τ).loc Cert.DownGradIdeal.main_arg5))
      ∧ r.2.sem = fun _ => 0)

def quiescent_DownGradIdeal_pre_down_finite [hDownGradIdeal : Cert.DownGradIdeal.Facts] [hPre_down_finite : Cert.Pre_down_finite.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal_down_finite m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1)
      ∧ r.2.mem ((c.tc : Thread Cert.DownGradIdeal.nD Cert.DownGradIdeal.τ).loc Cert.DownGradIdeal.main_arg2) = m ((c.tc : Thread Cert.DownGradIdeal.nD Cert.DownGradIdeal.τ).loc Cert.DownGradIdeal.main_arg2)
      ∧ r.2.mem ((c.tc : Thread Cert.DownGradIdeal.nD Cert.DownGradIdeal.τ).loc Cert.DownGradIdeal.main_arg3) = m ((c.tc : Thread Cert.DownGradIdeal.nD Cert.DownGradIdeal.τ).loc Cert.DownGradIdeal.main_arg3)
      ∧ r.2.mem ((c.tc : Thread Cert.DownGradIdeal.nD Cert.DownGradIdeal.τ).loc Cert.DownGradIdeal.main_arg4) = m ((c.tc : Thread Cert.DownGradIdeal.nD Cert.DownGradIdeal.τ).loc Cert.DownGradIdeal.main_arg4)
      ∧ r.2.mem ((c.tc : Thread Cert.DownGradIdeal.nD Cert.DownGradIdeal.τ).loc Cert.DownGradIdeal.main_arg5) = m ((c.tc : Thread Cert.DownGradIdeal.nD Cert.DownGradIdeal.τ).loc Cert.DownGradIdeal.main_arg5))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5)
      ∧ r.2.mem ((c.tc : Thread Cert.Norm.nD Cert.Norm.τ).loc Cert.Norm.main_arg6) = m ((c.tc : Thread Cert.Norm.nD Cert.Norm.τ).loc Cert.Norm.main_arg6)
      ∧ r.2.mem ((c.tc : Thread Cert.Norm.nD Cert.Norm.τ).loc Cert.Norm.main_arg7) = m ((c.tc : Thread Cert.Norm.nD Cert.Norm.τ).loc Cert.Norm.main_arg7))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
      ∧ r.2.mem ((c.tc : Thread Cert.NormIdeal.nD Cert.NormIdeal.τ).loc Cert.NormIdeal.main_arg7) = m ((c.tc : Thread Cert.NormIdeal.nD Cert.NormIdeal.τ).loc Cert.NormIdeal.main_arg7))
      ∧ r.2.sem = fun _ => 0)

def quiescent_NormIdeal_pre_norm_finite [hNormIdeal : Cert.NormIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg), Pre_NormIdeal_norm_finite m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
      ∧ r.2.mem ((c.tc : Thread Cert.NormIdeal.nD Cert.NormIdeal.τ).loc Cert.NormIdeal.main_arg7) = m ((c.tc : Thread Cert.NormIdeal.nD Cert.NormIdeal.τ).loc Cert.NormIdeal.main_arg7))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
      ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4)
      ∧ r.2.mem ((c.tc : Thread Cert.NormGradIdeal.nD Cert.NormGradIdeal.τ).loc Cert.NormGradIdeal.main_arg5) = m ((c.tc : Thread Cert.NormGradIdeal.nD Cert.NormGradIdeal.τ).loc Cert.NormGradIdeal.main_arg5)
      ∧ r.2.mem ((c.tc : Thread Cert.NormGradIdeal.nD Cert.NormGradIdeal.τ).loc Cert.NormGradIdeal.main_arg6) = m ((c.tc : Thread Cert.NormGradIdeal.nD Cert.NormGradIdeal.τ).loc Cert.NormGradIdeal.main_arg6)
      ∧ r.2.mem ((c.tc : Thread Cert.NormGradIdeal.nD Cert.NormGradIdeal.τ).loc Cert.NormGradIdeal.main_arg7) = m ((c.tc : Thread Cert.NormGradIdeal.nD Cert.NormGradIdeal.τ).loc Cert.NormGradIdeal.main_arg7))
      ∧ r.2.sem = fun _ => 0)

def quiescent_NormGradIdeal_pre_norm_finite [hNormGradIdeal : Cert.NormGradIdeal.Facts] [hPre_norm_finite : Cert.Pre_norm_finite.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal_norm_finite m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
      ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4)
      ∧ r.2.mem ((c.tc : Thread Cert.NormGradIdeal.nD Cert.NormGradIdeal.τ).loc Cert.NormGradIdeal.main_arg5) = m ((c.tc : Thread Cert.NormGradIdeal.nD Cert.NormGradIdeal.τ).loc Cert.NormGradIdeal.main_arg5)
      ∧ r.2.mem ((c.tc : Thread Cert.NormGradIdeal.nD Cert.NormGradIdeal.τ).loc Cert.NormGradIdeal.main_arg6) = m ((c.tc : Thread Cert.NormGradIdeal.nD Cert.NormGradIdeal.τ).loc Cert.NormGradIdeal.main_arg6)
      ∧ r.2.mem ((c.tc : Thread Cert.NormGradIdeal.nD Cert.NormGradIdeal.τ).loc Cert.NormGradIdeal.main_arg7) = m ((c.tc : Thread Cert.NormGradIdeal.nD Cert.NormGradIdeal.τ).loc Cert.NormGradIdeal.main_arg7))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3)
      ∧ r.2.mem ((c.tc : Thread Cert.Inp.nD Cert.Inp.τ).loc Cert.Inp.main_arg4) = m ((c.tc : Thread Cert.Inp.nD Cert.Inp.τ).loc Cert.Inp.main_arg4)
      ∧ r.2.mem ((c.tc : Thread Cert.Inp.nD Cert.Inp.τ).loc Cert.Inp.main_arg5) = m ((c.tc : Thread Cert.Inp.nD Cert.Inp.τ).loc Cert.Inp.main_arg5)
      ∧ r.2.mem ((c.tc : Thread Cert.Inp.nD Cert.Inp.τ).loc Cert.Inp.main_arg6) = m ((c.tc : Thread Cert.Inp.nD Cert.Inp.τ).loc Cert.Inp.main_arg6)
      ∧ r.2.mem ((c.tc : Thread Cert.Inp.nD Cert.Inp.τ).loc Cert.Inp.main_arg7) = m ((c.tc : Thread Cert.Inp.nD Cert.Inp.τ).loc Cert.Inp.main_arg7))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
      ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
      ∧ r.2.mem ((c.tc : Thread Cert.InpIdeal.nD Cert.InpIdeal.τ).loc Cert.InpIdeal.main_arg6) = m ((c.tc : Thread Cert.InpIdeal.nD Cert.InpIdeal.τ).loc Cert.InpIdeal.main_arg6)
      ∧ r.2.mem ((c.tc : Thread Cert.InpIdeal.nD Cert.InpIdeal.τ).loc Cert.InpIdeal.main_arg7) = m ((c.tc : Thread Cert.InpIdeal.nD Cert.InpIdeal.τ).loc Cert.InpIdeal.main_arg7))
      ∧ r.2.sem = fun _ => 0)

def quiescent_InpIdeal_pre_inp_finite [hInpIdeal : Cert.InpIdeal.Facts] [hPre_inp_finite : Cert.Pre_inp_finite.Facts] : Prop :=
  ∀ (m : (ℓ : Loc Cert.InpIdeal.nD Cert.InpIdeal.τ Cert.InpIdeal.sig) → Buf (Elt Ideal) ℓ) (g : Dev Cert.InpIdeal.nD → PrngReg), Pre_InpIdeal_inp_finite m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
      ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
      ∧ r.2.mem ((c.tc : Thread Cert.InpIdeal.nD Cert.InpIdeal.τ).loc Cert.InpIdeal.main_arg6) = m ((c.tc : Thread Cert.InpIdeal.nD Cert.InpIdeal.τ).loc Cert.InpIdeal.main_arg6)
      ∧ r.2.mem ((c.tc : Thread Cert.InpIdeal.nD Cert.InpIdeal.τ).loc Cert.InpIdeal.main_arg7) = m ((c.tc : Thread Cert.InpIdeal.nD Cert.InpIdeal.τ).loc Cert.InpIdeal.main_arg7))
      ∧ r.2.sem = fun _ => 0)

def quiescent_InpGradIdeal [hInpGradIdeal : Cert.InpGradIdeal.Facts] : Prop :=
  ∀ (m : (ℓ : Loc Cert.InpGradIdeal.nD Cert.InpGradIdeal.τ Cert.InpGradIdeal.sig) → Buf (Elt Ideal) ℓ) (g : Dev Cert.InpGradIdeal.nD → PrngReg), Pre_InpGradIdeal m →
    θ_run (Cert.InpGradIdeal.defs (F := Ideal)) (onTc (τ := Cert.InpGradIdeal.τ) (Cert.InpGradIdeal.main (F := Ideal))) ⟨m, fun _ => 0, g⟩ (fun r => (∀ c : Dev Cert.InpGradIdeal.nD,
      r.2.mem ((c.tc : Thread Cert.InpGradIdeal.nD Cert.InpGradIdeal.τ).loc Cert.InpGradIdeal.main_arg0) = m ((c.tc : Thread Cert.InpGradIdeal.nD Cert.InpGradIdeal.τ).loc Cert.InpGradIdeal.main_arg0)
      ∧ r.2.mem ((c.tc : Thread Cert.InpGradIdeal.nD Cert.InpGradIdeal.τ).loc Cert.InpGradIdeal.main_arg1) = m ((c.tc : Thread Cert.InpGradIdeal.nD Cert.InpGradIdeal.τ).loc Cert.InpGradIdeal.main_arg1)
      ∧ r.2.mem ((c.tc : Thread Cert.InpGradIdeal.nD Cert.InpGradIdeal.τ).loc Cert.InpGradIdeal.main_arg2) = m ((c.tc : Thread Cert.InpGradIdeal.nD Cert.InpGradIdeal.τ).loc Cert.InpGradIdeal.main_arg2)
      ∧ r.2.mem ((c.tc : Thread Cert.InpGradIdeal.nD Cert.InpGradIdeal.τ).loc Cert.InpGradIdeal.main_arg3) = m ((c.tc : Thread Cert.InpGradIdeal.nD Cert.InpGradIdeal.τ).loc Cert.InpGradIdeal.main_arg3)
      ∧ r.2.mem ((c.tc : Thread Cert.InpGradIdeal.nD Cert.InpGradIdeal.τ).loc Cert.InpGradIdeal.main_arg4) = m ((c.tc : Thread Cert.InpGradIdeal.nD Cert.InpGradIdeal.τ).loc Cert.InpGradIdeal.main_arg4)
      ∧ r.2.mem ((c.tc : Thread Cert.InpGradIdeal.nD Cert.InpGradIdeal.τ).loc Cert.InpGradIdeal.main_arg5) = m ((c.tc : Thread Cert.InpGradIdeal.nD Cert.InpGradIdeal.τ).loc Cert.InpGradIdeal.main_arg5)
      ∧ r.2.mem ((c.tc : Thread Cert.InpGradIdeal.nD Cert.InpGradIdeal.τ).loc Cert.InpGradIdeal.main_arg6) = m ((c.tc : Thread Cert.InpGradIdeal.nD Cert.InpGradIdeal.τ).loc Cert.InpGradIdeal.main_arg6)
      ∧ r.2.mem ((c.tc : Thread Cert.InpGradIdeal.nD Cert.InpGradIdeal.τ).loc Cert.InpGradIdeal.main_arg7) = m ((c.tc : Thread Cert.InpGradIdeal.nD Cert.InpGradIdeal.τ).loc Cert.InpGradIdeal.main_arg7))
      ∧ r.2.sem = fun _ => 0)

def quiescent_InpGradIdeal_pre_inp_finite [hInpGradIdeal : Cert.InpGradIdeal.Facts] [hPre_inp_finite : Cert.Pre_inp_finite.Facts] : Prop :=
  ∀ (m : (ℓ : Loc Cert.InpGradIdeal.nD Cert.InpGradIdeal.τ Cert.InpGradIdeal.sig) → Buf (Elt Ideal) ℓ) (g : Dev Cert.InpGradIdeal.nD → PrngReg), Pre_InpGradIdeal_inp_finite m →
    θ_run (Cert.InpGradIdeal.defs (F := Ideal)) (onTc (τ := Cert.InpGradIdeal.τ) (Cert.InpGradIdeal.main (F := Ideal))) ⟨m, fun _ => 0, g⟩ (fun r => (∀ c : Dev Cert.InpGradIdeal.nD,
      r.2.mem ((c.tc : Thread Cert.InpGradIdeal.nD Cert.InpGradIdeal.τ).loc Cert.InpGradIdeal.main_arg0) = m ((c.tc : Thread Cert.InpGradIdeal.nD Cert.InpGradIdeal.τ).loc Cert.InpGradIdeal.main_arg0)
      ∧ r.2.mem ((c.tc : Thread Cert.InpGradIdeal.nD Cert.InpGradIdeal.τ).loc Cert.InpGradIdeal.main_arg1) = m ((c.tc : Thread Cert.InpGradIdeal.nD Cert.InpGradIdeal.τ).loc Cert.InpGradIdeal.main_arg1)
      ∧ r.2.mem ((c.tc : Thread Cert.InpGradIdeal.nD Cert.InpGradIdeal.τ).loc Cert.InpGradIdeal.main_arg2) = m ((c.tc : Thread Cert.InpGradIdeal.nD Cert.InpGradIdeal.τ).loc Cert.InpGradIdeal.main_arg2)
      ∧ r.2.mem ((c.tc : Thread Cert.InpGradIdeal.nD Cert.InpGradIdeal.τ).loc Cert.InpGradIdeal.main_arg3) = m ((c.tc : Thread Cert.InpGradIdeal.nD Cert.InpGradIdeal.τ).loc Cert.InpGradIdeal.main_arg3)
      ∧ r.2.mem ((c.tc : Thread Cert.InpGradIdeal.nD Cert.InpGradIdeal.τ).loc Cert.InpGradIdeal.main_arg4) = m ((c.tc : Thread Cert.InpGradIdeal.nD Cert.InpGradIdeal.τ).loc Cert.InpGradIdeal.main_arg4)
      ∧ r.2.mem ((c.tc : Thread Cert.InpGradIdeal.nD Cert.InpGradIdeal.τ).loc Cert.InpGradIdeal.main_arg5) = m ((c.tc : Thread Cert.InpGradIdeal.nD Cert.InpGradIdeal.τ).loc Cert.InpGradIdeal.main_arg5)
      ∧ r.2.mem ((c.tc : Thread Cert.InpGradIdeal.nD Cert.InpGradIdeal.τ).loc Cert.InpGradIdeal.main_arg6) = m ((c.tc : Thread Cert.InpGradIdeal.nD Cert.InpGradIdeal.τ).loc Cert.InpGradIdeal.main_arg6)
      ∧ r.2.mem ((c.tc : Thread Cert.InpGradIdeal.nD Cert.InpGradIdeal.τ).loc Cert.InpGradIdeal.main_arg7) = m ((c.tc : Thread Cert.InpGradIdeal.nD Cert.InpGradIdeal.τ).loc Cert.InpGradIdeal.main_arg7))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5)
      ∧ r.2.mem ((c.tc : Thread Cert.FfnBwd.nD Cert.FfnBwd.τ).loc Cert.FfnBwd.main_arg6) = m ((c.tc : Thread Cert.FfnBwd.nD Cert.FfnBwd.τ).loc Cert.FfnBwd.main_arg6))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6))
      ∧ r.2.sem = fun _ => 0)

def quiescent_FfnBwdIdeal_pre_ffn_finite [hFfnBwdIdeal : Cert.FfnBwdIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_ffn_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6))
      ∧ r.2.sem = fun _ => 0)

def quiescent_FfnGradIdeal [hFfnGradIdeal : Cert.FfnGradIdeal.Facts] : Prop :=
  ∀ (m : (ℓ : Loc Cert.FfnGradIdeal.nD Cert.FfnGradIdeal.τ Cert.FfnGradIdeal.sig) → Buf (Elt Ideal) ℓ) (g : Dev Cert.FfnGradIdeal.nD → PrngReg), Pre_FfnGradIdeal m →
    θ_run (Cert.FfnGradIdeal.defs (F := Ideal)) (onTc (τ := Cert.FfnGradIdeal.τ) (Cert.FfnGradIdeal.main (F := Ideal))) ⟨m, fun _ => 0, g⟩ (fun r => (∀ c : Dev Cert.FfnGradIdeal.nD,
      r.2.mem ((c.tc : Thread Cert.FfnGradIdeal.nD Cert.FfnGradIdeal.τ).loc Cert.FfnGradIdeal.main_arg0) = m ((c.tc : Thread Cert.FfnGradIdeal.nD Cert.FfnGradIdeal.τ).loc Cert.FfnGradIdeal.main_arg0)
      ∧ r.2.mem ((c.tc : Thread Cert.FfnGradIdeal.nD Cert.FfnGradIdeal.τ).loc Cert.FfnGradIdeal.main_arg1) = m ((c.tc : Thread Cert.FfnGradIdeal.nD Cert.FfnGradIdeal.τ).loc Cert.FfnGradIdeal.main_arg1)
      ∧ r.2.mem ((c.tc : Thread Cert.FfnGradIdeal.nD Cert.FfnGradIdeal.τ).loc Cert.FfnGradIdeal.main_arg2) = m ((c.tc : Thread Cert.FfnGradIdeal.nD Cert.FfnGradIdeal.τ).loc Cert.FfnGradIdeal.main_arg2)
      ∧ r.2.mem ((c.tc : Thread Cert.FfnGradIdeal.nD Cert.FfnGradIdeal.τ).loc Cert.FfnGradIdeal.main_arg3) = m ((c.tc : Thread Cert.FfnGradIdeal.nD Cert.FfnGradIdeal.τ).loc Cert.FfnGradIdeal.main_arg3)
      ∧ r.2.mem ((c.tc : Thread Cert.FfnGradIdeal.nD Cert.FfnGradIdeal.τ).loc Cert.FfnGradIdeal.main_arg4) = m ((c.tc : Thread Cert.FfnGradIdeal.nD Cert.FfnGradIdeal.τ).loc Cert.FfnGradIdeal.main_arg4)
      ∧ r.2.mem ((c.tc : Thread Cert.FfnGradIdeal.nD Cert.FfnGradIdeal.τ).loc Cert.FfnGradIdeal.main_arg5) = m ((c.tc : Thread Cert.FfnGradIdeal.nD Cert.FfnGradIdeal.τ).loc Cert.FfnGradIdeal.main_arg5)
      ∧ r.2.mem ((c.tc : Thread Cert.FfnGradIdeal.nD Cert.FfnGradIdeal.τ).loc Cert.FfnGradIdeal.main_arg6) = m ((c.tc : Thread Cert.FfnGradIdeal.nD Cert.FfnGradIdeal.τ).loc Cert.FfnGradIdeal.main_arg6))
      ∧ r.2.sem = fun _ => 0)

def quiescent_FfnGradIdeal_pre_ffn_finite [hFfnGradIdeal : Cert.FfnGradIdeal.Facts] [hPre_ffn_finite : Cert.Pre_ffn_finite.Facts] : Prop :=
  ∀ (m : (ℓ : Loc Cert.FfnGradIdeal.nD Cert.FfnGradIdeal.τ Cert.FfnGradIdeal.sig) → Buf (Elt Ideal) ℓ) (g : Dev Cert.FfnGradIdeal.nD → PrngReg), Pre_FfnGradIdeal_ffn_finite m →
    θ_run (Cert.FfnGradIdeal.defs (F := Ideal)) (onTc (τ := Cert.FfnGradIdeal.τ) (Cert.FfnGradIdeal.main (F := Ideal))) ⟨m, fun _ => 0, g⟩ (fun r => (∀ c : Dev Cert.FfnGradIdeal.nD,
      r.2.mem ((c.tc : Thread Cert.FfnGradIdeal.nD Cert.FfnGradIdeal.τ).loc Cert.FfnGradIdeal.main_arg0) = m ((c.tc : Thread Cert.FfnGradIdeal.nD Cert.FfnGradIdeal.τ).loc Cert.FfnGradIdeal.main_arg0)
      ∧ r.2.mem ((c.tc : Thread Cert.FfnGradIdeal.nD Cert.FfnGradIdeal.τ).loc Cert.FfnGradIdeal.main_arg1) = m ((c.tc : Thread Cert.FfnGradIdeal.nD Cert.FfnGradIdeal.τ).loc Cert.FfnGradIdeal.main_arg1)
      ∧ r.2.mem ((c.tc : Thread Cert.FfnGradIdeal.nD Cert.FfnGradIdeal.τ).loc Cert.FfnGradIdeal.main_arg2) = m ((c.tc : Thread Cert.FfnGradIdeal.nD Cert.FfnGradIdeal.τ).loc Cert.FfnGradIdeal.main_arg2)
      ∧ r.2.mem ((c.tc : Thread Cert.FfnGradIdeal.nD Cert.FfnGradIdeal.τ).loc Cert.FfnGradIdeal.main_arg3) = m ((c.tc : Thread Cert.FfnGradIdeal.nD Cert.FfnGradIdeal.τ).loc Cert.FfnGradIdeal.main_arg3)
      ∧ r.2.mem ((c.tc : Thread Cert.FfnGradIdeal.nD Cert.FfnGradIdeal.τ).loc Cert.FfnGradIdeal.main_arg4) = m ((c.tc : Thread Cert.FfnGradIdeal.nD Cert.FfnGradIdeal.τ).loc Cert.FfnGradIdeal.main_arg4)
      ∧ r.2.mem ((c.tc : Thread Cert.FfnGradIdeal.nD Cert.FfnGradIdeal.τ).loc Cert.FfnGradIdeal.main_arg5) = m ((c.tc : Thread Cert.FfnGradIdeal.nD Cert.FfnGradIdeal.τ).loc Cert.FfnGradIdeal.main_arg5)
      ∧ r.2.mem ((c.tc : Thread Cert.FfnGradIdeal.nD Cert.FfnGradIdeal.τ).loc Cert.FfnGradIdeal.main_arg6) = m ((c.tc : Thread Cert.FfnGradIdeal.nD Cert.FfnGradIdeal.τ).loc Cert.FfnGradIdeal.main_arg6))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnGradIdeal [hAttnGradIdeal : Cert.AttnGradIdeal.Facts] : Prop :=
  ∀ (m : (ℓ : Loc Cert.AttnGradIdeal.nD Cert.AttnGradIdeal.τ Cert.AttnGradIdeal.sig) → Buf (Elt Ideal) ℓ) (g : Dev Cert.AttnGradIdeal.nD → PrngReg), Pre_AttnGradIdeal m →
    θ_run (Cert.AttnGradIdeal.defs (F := Ideal)) (onTc (τ := Cert.AttnGradIdeal.τ) (Cert.AttnGradIdeal.main (F := Ideal))) ⟨m, fun _ => 0, g⟩ (fun r => (∀ c : Dev Cert.AttnGradIdeal.nD,
      r.2.mem ((c.tc : Thread Cert.AttnGradIdeal.nD Cert.AttnGradIdeal.τ).loc Cert.AttnGradIdeal.main_arg0) = m ((c.tc : Thread Cert.AttnGradIdeal.nD Cert.AttnGradIdeal.τ).loc Cert.AttnGradIdeal.main_arg0)
      ∧ r.2.mem ((c.tc : Thread Cert.AttnGradIdeal.nD Cert.AttnGradIdeal.τ).loc Cert.AttnGradIdeal.main_arg1) = m ((c.tc : Thread Cert.AttnGradIdeal.nD Cert.AttnGradIdeal.τ).loc Cert.AttnGradIdeal.main_arg1)
      ∧ r.2.mem ((c.tc : Thread Cert.AttnGradIdeal.nD Cert.AttnGradIdeal.τ).loc Cert.AttnGradIdeal.main_arg2) = m ((c.tc : Thread Cert.AttnGradIdeal.nD Cert.AttnGradIdeal.τ).loc Cert.AttnGradIdeal.main_arg2)
      ∧ r.2.mem ((c.tc : Thread Cert.AttnGradIdeal.nD Cert.AttnGradIdeal.τ).loc Cert.AttnGradIdeal.main_arg3) = m ((c.tc : Thread Cert.AttnGradIdeal.nD Cert.AttnGradIdeal.τ).loc Cert.AttnGradIdeal.main_arg3))
      ∧ r.2.sem = fun _ => 0)

def quiescent_AttnGradIdeal_pre_attn_finite [hAttnGradIdeal : Cert.AttnGradIdeal.Facts] [hPre_attn_finite : Cert.Pre_attn_finite.Facts] : Prop :=
  ∀ (m : (ℓ : Loc Cert.AttnGradIdeal.nD Cert.AttnGradIdeal.τ Cert.AttnGradIdeal.sig) → Buf (Elt Ideal) ℓ) (g : Dev Cert.AttnGradIdeal.nD → PrngReg), Pre_AttnGradIdeal_attn_finite m →
    θ_run (Cert.AttnGradIdeal.defs (F := Ideal)) (onTc (τ := Cert.AttnGradIdeal.τ) (Cert.AttnGradIdeal.main (F := Ideal))) ⟨m, fun _ => 0, g⟩ (fun r => (∀ c : Dev Cert.AttnGradIdeal.nD,
      r.2.mem ((c.tc : Thread Cert.AttnGradIdeal.nD Cert.AttnGradIdeal.τ).loc Cert.AttnGradIdeal.main_arg0) = m ((c.tc : Thread Cert.AttnGradIdeal.nD Cert.AttnGradIdeal.τ).loc Cert.AttnGradIdeal.main_arg0)
      ∧ r.2.mem ((c.tc : Thread Cert.AttnGradIdeal.nD Cert.AttnGradIdeal.τ).loc Cert.AttnGradIdeal.main_arg1) = m ((c.tc : Thread Cert.AttnGradIdeal.nD Cert.AttnGradIdeal.τ).loc Cert.AttnGradIdeal.main_arg1)
      ∧ r.2.mem ((c.tc : Thread Cert.AttnGradIdeal.nD Cert.AttnGradIdeal.τ).loc Cert.AttnGradIdeal.main_arg2) = m ((c.tc : Thread Cert.AttnGradIdeal.nD Cert.AttnGradIdeal.τ).loc Cert.AttnGradIdeal.main_arg2)
      ∧ r.2.mem ((c.tc : Thread Cert.AttnGradIdeal.nD Cert.AttnGradIdeal.τ).loc Cert.AttnGradIdeal.main_arg3) = m ((c.tc : Thread Cert.AttnGradIdeal.nD Cert.AttnGradIdeal.τ).loc Cert.AttnGradIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpHostIdeal [hUpHostIdeal : Cert.UpHostIdeal.Facts] : Prop :=
  ∀ (m : (ℓ : Loc Cert.UpHostIdeal.nD Cert.UpHostIdeal.τ Cert.UpHostIdeal.sig) → Buf (Elt Ideal) ℓ) (g : Dev Cert.UpHostIdeal.nD → PrngReg), Pre_UpHostIdeal m →
    θ_run (Cert.UpHostIdeal.defs (F := Ideal)) (onTc (τ := Cert.UpHostIdeal.τ) (Cert.UpHostIdeal.main (F := Ideal))) ⟨m, fun _ => 0, g⟩ (fun r => (∀ c : Dev Cert.UpHostIdeal.nD,
      r.2.mem ((c.tc : Thread Cert.UpHostIdeal.nD Cert.UpHostIdeal.τ).loc Cert.UpHostIdeal.main_arg0) = m ((c.tc : Thread Cert.UpHostIdeal.nD Cert.UpHostIdeal.τ).loc Cert.UpHostIdeal.main_arg0)
      ∧ r.2.mem ((c.tc : Thread Cert.UpHostIdeal.nD Cert.UpHostIdeal.τ).loc Cert.UpHostIdeal.main_arg1) = m ((c.tc : Thread Cert.UpHostIdeal.nD Cert.UpHostIdeal.τ).loc Cert.UpHostIdeal.main_arg1)
      ∧ r.2.mem ((c.tc : Thread Cert.UpHostIdeal.nD Cert.UpHostIdeal.τ).loc Cert.UpHostIdeal.main_arg2) = m ((c.tc : Thread Cert.UpHostIdeal.nD Cert.UpHostIdeal.τ).loc Cert.UpHostIdeal.main_arg2)
      ∧ r.2.mem ((c.tc : Thread Cert.UpHostIdeal.nD Cert.UpHostIdeal.τ).loc Cert.UpHostIdeal.main_arg3) = m ((c.tc : Thread Cert.UpHostIdeal.nD Cert.UpHostIdeal.τ).loc Cert.UpHostIdeal.main_arg3)
      ∧ r.2.mem ((c.tc : Thread Cert.UpHostIdeal.nD Cert.UpHostIdeal.τ).loc Cert.UpHostIdeal.main_arg4) = m ((c.tc : Thread Cert.UpHostIdeal.nD Cert.UpHostIdeal.τ).loc Cert.UpHostIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjHostIdeal [hProjHostIdeal : Cert.ProjHostIdeal.Facts] : Prop :=
  ∀ (m : (ℓ : Loc Cert.ProjHostIdeal.nD Cert.ProjHostIdeal.τ Cert.ProjHostIdeal.sig) → Buf (Elt Ideal) ℓ) (g : Dev Cert.ProjHostIdeal.nD → PrngReg), Pre_ProjHostIdeal m →
    θ_run (Cert.ProjHostIdeal.defs (F := Ideal)) (onTc (τ := Cert.ProjHostIdeal.τ) (Cert.ProjHostIdeal.main (F := Ideal))) ⟨m, fun _ => 0, g⟩ (fun r => (∀ c : Dev Cert.ProjHostIdeal.nD,
      r.2.mem ((c.tc : Thread Cert.ProjHostIdeal.nD Cert.ProjHostIdeal.τ).loc Cert.ProjHostIdeal.main_arg0) = m ((c.tc : Thread Cert.ProjHostIdeal.nD Cert.ProjHostIdeal.τ).loc Cert.ProjHostIdeal.main_arg0)
      ∧ r.2.mem ((c.tc : Thread Cert.ProjHostIdeal.nD Cert.ProjHostIdeal.τ).loc Cert.ProjHostIdeal.main_arg1) = m ((c.tc : Thread Cert.ProjHostIdeal.nD Cert.ProjHostIdeal.τ).loc Cert.ProjHostIdeal.main_arg1)
      ∧ r.2.mem ((c.tc : Thread Cert.ProjHostIdeal.nD Cert.ProjHostIdeal.τ).loc Cert.ProjHostIdeal.main_arg2) = m ((c.tc : Thread Cert.ProjHostIdeal.nD Cert.ProjHostIdeal.τ).loc Cert.ProjHostIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeIdeal_pre_merge_finite [hMergeIdeal : Cert.MergeIdeal.Facts] [hPre_merge_finite : Cert.Pre_merge_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_merge_finite m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeHostIdeal [hMergeHostIdeal : Cert.MergeHostIdeal.Facts] : Prop :=
  ∀ (m : (ℓ : Loc Cert.MergeHostIdeal.nD Cert.MergeHostIdeal.τ Cert.MergeHostIdeal.sig) → Buf (Elt Ideal) ℓ) (g : Dev Cert.MergeHostIdeal.nD → PrngReg), Pre_MergeHostIdeal m →
    θ_run (Cert.MergeHostIdeal.defs (F := Ideal)) (onTc (τ := Cert.MergeHostIdeal.τ) (Cert.MergeHostIdeal.main (F := Ideal))) ⟨m, fun _ => 0, g⟩ (fun r => (∀ c : Dev Cert.MergeHostIdeal.nD,
      r.2.mem ((c.tc : Thread Cert.MergeHostIdeal.nD Cert.MergeHostIdeal.τ).loc Cert.MergeHostIdeal.main_arg0) = m ((c.tc : Thread Cert.MergeHostIdeal.nD Cert.MergeHostIdeal.τ).loc Cert.MergeHostIdeal.main_arg0)
      ∧ r.2.mem ((c.tc : Thread Cert.MergeHostIdeal.nD Cert.MergeHostIdeal.τ).loc Cert.MergeHostIdeal.main_arg1) = m ((c.tc : Thread Cert.MergeHostIdeal.nD Cert.MergeHostIdeal.τ).loc Cert.MergeHostIdeal.main_arg1)
      ∧ r.2.mem ((c.tc : Thread Cert.MergeHostIdeal.nD Cert.MergeHostIdeal.τ).loc Cert.MergeHostIdeal.main_arg2) = m ((c.tc : Thread Cert.MergeHostIdeal.nD Cert.MergeHostIdeal.τ).loc Cert.MergeHostIdeal.main_arg2)
      ∧ r.2.mem ((c.tc : Thread Cert.MergeHostIdeal.nD Cert.MergeHostIdeal.τ).loc Cert.MergeHostIdeal.main_arg3) = m ((c.tc : Thread Cert.MergeHostIdeal.nD Cert.MergeHostIdeal.τ).loc Cert.MergeHostIdeal.main_arg3)
      ∧ r.2.mem ((c.tc : Thread Cert.MergeHostIdeal.nD Cert.MergeHostIdeal.τ).loc Cert.MergeHostIdeal.main_arg4) = m ((c.tc : Thread Cert.MergeHostIdeal.nD Cert.MergeHostIdeal.τ).loc Cert.MergeHostIdeal.main_arg4)
      ∧ r.2.mem ((c.tc : Thread Cert.MergeHostIdeal.nD Cert.MergeHostIdeal.τ).loc Cert.MergeHostIdeal.main_arg5) = m ((c.tc : Thread Cert.MergeHostIdeal.nD Cert.MergeHostIdeal.τ).loc Cert.MergeHostIdeal.main_arg5)
      ∧ r.2.mem ((c.tc : Thread Cert.MergeHostIdeal.nD Cert.MergeHostIdeal.τ).loc Cert.MergeHostIdeal.main_arg6) = m ((c.tc : Thread Cert.MergeHostIdeal.nD Cert.MergeHostIdeal.τ).loc Cert.MergeHostIdeal.main_arg6)
      ∧ r.2.mem ((c.tc : Thread Cert.MergeHostIdeal.nD Cert.MergeHostIdeal.τ).loc Cert.MergeHostIdeal.main_arg7) = m ((c.tc : Thread Cert.MergeHostIdeal.nD Cert.MergeHostIdeal.τ).loc Cert.MergeHostIdeal.main_arg7)
      ∧ r.2.mem ((c.tc : Thread Cert.MergeHostIdeal.nD Cert.MergeHostIdeal.τ).loc Cert.MergeHostIdeal.main_arg8) = m ((c.tc : Thread Cert.MergeHostIdeal.nD Cert.MergeHostIdeal.τ).loc Cert.MergeHostIdeal.main_arg8)
      ∧ r.2.mem ((c.tc : Thread Cert.MergeHostIdeal.nD Cert.MergeHostIdeal.τ).loc Cert.MergeHostIdeal.main_arg9) = m ((c.tc : Thread Cert.MergeHostIdeal.nD Cert.MergeHostIdeal.τ).loc Cert.MergeHostIdeal.main_arg9)
      ∧ r.2.mem ((c.tc : Thread Cert.MergeHostIdeal.nD Cert.MergeHostIdeal.τ).loc Cert.MergeHostIdeal.main_arg10) = m ((c.tc : Thread Cert.MergeHostIdeal.nD Cert.MergeHostIdeal.τ).loc Cert.MergeHostIdeal.main_arg10))
      ∧ r.2.sem = fun _ => 0)

def quiescent_MergeHostIdeal_pre_merge_finite [hMergeHostIdeal : Cert.MergeHostIdeal.Facts] [hPre_merge_finite : Cert.Pre_merge_finite.Facts] : Prop :=
  ∀ (m : (ℓ : Loc Cert.MergeHostIdeal.nD Cert.MergeHostIdeal.τ Cert.MergeHostIdeal.sig) → Buf (Elt Ideal) ℓ) (g : Dev Cert.MergeHostIdeal.nD → PrngReg), Pre_MergeHostIdeal_merge_finite m →
    θ_run (Cert.MergeHostIdeal.defs (F := Ideal)) (onTc (τ := Cert.MergeHostIdeal.τ) (Cert.MergeHostIdeal.main (F := Ideal))) ⟨m, fun _ => 0, g⟩ (fun r => (∀ c : Dev Cert.MergeHostIdeal.nD,
      r.2.mem ((c.tc : Thread Cert.MergeHostIdeal.nD Cert.MergeHostIdeal.τ).loc Cert.MergeHostIdeal.main_arg0) = m ((c.tc : Thread Cert.MergeHostIdeal.nD Cert.MergeHostIdeal.τ).loc Cert.MergeHostIdeal.main_arg0)
      ∧ r.2.mem ((c.tc : Thread Cert.MergeHostIdeal.nD Cert.MergeHostIdeal.τ).loc Cert.MergeHostIdeal.main_arg1) = m ((c.tc : Thread Cert.MergeHostIdeal.nD Cert.MergeHostIdeal.τ).loc Cert.MergeHostIdeal.main_arg1)
      ∧ r.2.mem ((c.tc : Thread Cert.MergeHostIdeal.nD Cert.MergeHostIdeal.τ).loc Cert.MergeHostIdeal.main_arg2) = m ((c.tc : Thread Cert.MergeHostIdeal.nD Cert.MergeHostIdeal.τ).loc Cert.MergeHostIdeal.main_arg2)
      ∧ r.2.mem ((c.tc : Thread Cert.MergeHostIdeal.nD Cert.MergeHostIdeal.τ).loc Cert.MergeHostIdeal.main_arg3) = m ((c.tc : Thread Cert.MergeHostIdeal.nD Cert.MergeHostIdeal.τ).loc Cert.MergeHostIdeal.main_arg3)
      ∧ r.2.mem ((c.tc : Thread Cert.MergeHostIdeal.nD Cert.MergeHostIdeal.τ).loc Cert.MergeHostIdeal.main_arg4) = m ((c.tc : Thread Cert.MergeHostIdeal.nD Cert.MergeHostIdeal.τ).loc Cert.MergeHostIdeal.main_arg4)
      ∧ r.2.mem ((c.tc : Thread Cert.MergeHostIdeal.nD Cert.MergeHostIdeal.τ).loc Cert.MergeHostIdeal.main_arg5) = m ((c.tc : Thread Cert.MergeHostIdeal.nD Cert.MergeHostIdeal.τ).loc Cert.MergeHostIdeal.main_arg5)
      ∧ r.2.mem ((c.tc : Thread Cert.MergeHostIdeal.nD Cert.MergeHostIdeal.τ).loc Cert.MergeHostIdeal.main_arg6) = m ((c.tc : Thread Cert.MergeHostIdeal.nD Cert.MergeHostIdeal.τ).loc Cert.MergeHostIdeal.main_arg6)
      ∧ r.2.mem ((c.tc : Thread Cert.MergeHostIdeal.nD Cert.MergeHostIdeal.τ).loc Cert.MergeHostIdeal.main_arg7) = m ((c.tc : Thread Cert.MergeHostIdeal.nD Cert.MergeHostIdeal.τ).loc Cert.MergeHostIdeal.main_arg7)
      ∧ r.2.mem ((c.tc : Thread Cert.MergeHostIdeal.nD Cert.MergeHostIdeal.τ).loc Cert.MergeHostIdeal.main_arg8) = m ((c.tc : Thread Cert.MergeHostIdeal.nD Cert.MergeHostIdeal.τ).loc Cert.MergeHostIdeal.main_arg8)
      ∧ r.2.mem ((c.tc : Thread Cert.MergeHostIdeal.nD Cert.MergeHostIdeal.τ).loc Cert.MergeHostIdeal.main_arg9) = m ((c.tc : Thread Cert.MergeHostIdeal.nD Cert.MergeHostIdeal.τ).loc Cert.MergeHostIdeal.main_arg9)
      ∧ r.2.mem ((c.tc : Thread Cert.MergeHostIdeal.nD Cert.MergeHostIdeal.τ).loc Cert.MergeHostIdeal.main_arg10) = m ((c.tc : Thread Cert.MergeHostIdeal.nD Cert.MergeHostIdeal.τ).loc Cert.MergeHostIdeal.main_arg10))
      ∧ r.2.sem = fun _ => 0)

def quiescent_Look [hLook : Cert.Look.Facts] : Prop :=
  ∀ (m : (ℓ : Loc Cert.Look.nD Cert.Look.τ Cert.Look.sig) → Buf (Elt Bits) ℓ) (g : Dev Cert.Look.nD → PrngReg), Pre_Look m →
    θ_run (Cert.Look.defs (F := Bits)) (onTc (τ := Cert.Look.τ) (Cert.Look.main (F := Bits))) ⟨m, fun _ => 0, g⟩ (fun r => (∀ c : Dev Cert.Look.nD,
      r.2.mem ((c.tc : Thread Cert.Look.nD Cert.Look.τ).loc Cert.Look.main_arg0) = m ((c.tc : Thread Cert.Look.nD Cert.Look.τ).loc Cert.Look.main_arg0)
      ∧ r.2.mem ((c.tc : Thread Cert.Look.nD Cert.Look.τ).loc Cert.Look.main_arg1) = m ((c.tc : Thread Cert.Look.nD Cert.Look.τ).loc Cert.Look.main_arg1)
      ∧ r.2.mem ((c.tc : Thread Cert.Look.nD Cert.Look.τ).loc Cert.Look.main_arg2) = m ((c.tc : Thread Cert.Look.nD Cert.Look.τ).loc Cert.Look.main_arg2))
      ∧ r.2.sem = fun _ => 0)

def quiescent_LookIdeal [hLookIdeal : Cert.LookIdeal.Facts] : Prop :=
  ∀ (m : (ℓ : Loc Cert.LookIdeal.nD Cert.LookIdeal.τ Cert.LookIdeal.sig) → Buf (Elt Ideal) ℓ) (g : Dev Cert.LookIdeal.nD → PrngReg), Pre_LookIdeal m →
    θ_run (Cert.LookIdeal.defs (F := Ideal)) (onTc (τ := Cert.LookIdeal.τ) (Cert.LookIdeal.main (F := Ideal))) ⟨m, fun _ => 0, g⟩ (fun r => (∀ c : Dev Cert.LookIdeal.nD,
      r.2.mem ((c.tc : Thread Cert.LookIdeal.nD Cert.LookIdeal.τ).loc Cert.LookIdeal.main_arg0) = m ((c.tc : Thread Cert.LookIdeal.nD Cert.LookIdeal.τ).loc Cert.LookIdeal.main_arg0)
      ∧ r.2.mem ((c.tc : Thread Cert.LookIdeal.nD Cert.LookIdeal.τ).loc Cert.LookIdeal.main_arg1) = m ((c.tc : Thread Cert.LookIdeal.nD Cert.LookIdeal.τ).loc Cert.LookIdeal.main_arg1)
      ∧ r.2.mem ((c.tc : Thread Cert.LookIdeal.nD Cert.LookIdeal.τ).loc Cert.LookIdeal.main_arg2) = m ((c.tc : Thread Cert.LookIdeal.nD Cert.LookIdeal.τ).loc Cert.LookIdeal.main_arg2))
      ∧ r.2.sem = fun _ => 0)

def quiescent_LookHostIdeal [hLookHostIdeal : Cert.LookHostIdeal.Facts] : Prop :=
  ∀ (m : (ℓ : Loc Cert.LookHostIdeal.nD Cert.LookHostIdeal.τ Cert.LookHostIdeal.sig) → Buf (Elt Ideal) ℓ) (g : Dev Cert.LookHostIdeal.nD → PrngReg), Pre_LookHostIdeal m →
    θ_run (Cert.LookHostIdeal.defs (F := Ideal)) (onTc (τ := Cert.LookHostIdeal.τ) (Cert.LookHostIdeal.main (F := Ideal))) ⟨m, fun _ => 0, g⟩ (fun r => (∀ c : Dev Cert.LookHostIdeal.nD,
      r.2.mem ((c.tc : Thread Cert.LookHostIdeal.nD Cert.LookHostIdeal.τ).loc Cert.LookHostIdeal.main_arg0) = m ((c.tc : Thread Cert.LookHostIdeal.nD Cert.LookHostIdeal.τ).loc Cert.LookHostIdeal.main_arg0)
      ∧ r.2.mem ((c.tc : Thread Cert.LookHostIdeal.nD Cert.LookHostIdeal.τ).loc Cert.LookHostIdeal.main_arg1) = m ((c.tc : Thread Cert.LookHostIdeal.nD Cert.LookHostIdeal.τ).loc Cert.LookHostIdeal.main_arg1)
      ∧ r.2.mem ((c.tc : Thread Cert.LookHostIdeal.nD Cert.LookHostIdeal.τ).loc Cert.LookHostIdeal.main_arg2) = m ((c.tc : Thread Cert.LookHostIdeal.nD Cert.LookHostIdeal.τ).loc Cert.LookHostIdeal.main_arg2))
      ∧ r.2.sem = fun _ => 0)

def quiescent_Weights [hWeights : Cert.Weights.Facts] : Prop :=
  ∀ (m : (ℓ : Loc Cert.Weights.nD Cert.Weights.τ Cert.Weights.sig) → Buf (Elt Bits) ℓ) (g : Dev Cert.Weights.nD → PrngReg), Pre_Weights m →
    θ_run (Cert.Weights.defs (F := Bits)) (onTc (τ := Cert.Weights.τ) (Cert.Weights.main (F := Bits))) ⟨m, fun _ => 0, g⟩ (fun r => (∀ c : Dev Cert.Weights.nD,
      r.2.mem ((c.tc : Thread Cert.Weights.nD Cert.Weights.τ).loc Cert.Weights.main_arg0) = m ((c.tc : Thread Cert.Weights.nD Cert.Weights.τ).loc Cert.Weights.main_arg0)
      ∧ r.2.mem ((c.tc : Thread Cert.Weights.nD Cert.Weights.τ).loc Cert.Weights.main_arg1) = m ((c.tc : Thread Cert.Weights.nD Cert.Weights.τ).loc Cert.Weights.main_arg1))
      ∧ r.2.sem = fun _ => 0)

def quiescent_WeightsIdeal [hWeightsIdeal : Cert.WeightsIdeal.Facts] : Prop :=
  ∀ (m : (ℓ : Loc Cert.WeightsIdeal.nD Cert.WeightsIdeal.τ Cert.WeightsIdeal.sig) → Buf (Elt Ideal) ℓ) (g : Dev Cert.WeightsIdeal.nD → PrngReg), Pre_WeightsIdeal m →
    θ_run (Cert.WeightsIdeal.defs (F := Ideal)) (onTc (τ := Cert.WeightsIdeal.τ) (Cert.WeightsIdeal.main (F := Ideal))) ⟨m, fun _ => 0, g⟩ (fun r => (∀ c : Dev Cert.WeightsIdeal.nD,
      r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
      ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1))
      ∧ r.2.sem = fun _ => 0)

def quiescent_WeightsGradIdeal [hWeightsGradIdeal : Cert.WeightsGradIdeal.Facts] : Prop :=
  ∀ (m : (ℓ : Loc Cert.WeightsGradIdeal.nD Cert.WeightsGradIdeal.τ Cert.WeightsGradIdeal.sig) → Buf (Elt Ideal) ℓ) (g : Dev Cert.WeightsGradIdeal.nD → PrngReg), Pre_WeightsGradIdeal m →
    θ_run (Cert.WeightsGradIdeal.defs (F := Ideal)) (onTc (τ := Cert.WeightsGradIdeal.τ) (Cert.WeightsGradIdeal.main (F := Ideal))) ⟨m, fun _ => 0, g⟩ (fun r => (∀ c : Dev Cert.WeightsGradIdeal.nD,
      r.2.mem ((c.tc : Thread Cert.WeightsGradIdeal.nD Cert.WeightsGradIdeal.τ).loc Cert.WeightsGradIdeal.main_arg0) = m ((c.tc : Thread Cert.WeightsGradIdeal.nD Cert.WeightsGradIdeal.τ).loc Cert.WeightsGradIdeal.main_arg0)
      ∧ r.2.mem ((c.tc : Thread Cert.WeightsGradIdeal.nD Cert.WeightsGradIdeal.τ).loc Cert.WeightsGradIdeal.main_arg1) = m ((c.tc : Thread Cert.WeightsGradIdeal.nD Cert.WeightsGradIdeal.τ).loc Cert.WeightsGradIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamHostIdeal [hAdamHostIdeal : Cert.AdamHostIdeal.Facts] : Prop :=
  ∀ (m : (ℓ : Loc Cert.AdamHostIdeal.nD Cert.AdamHostIdeal.τ Cert.AdamHostIdeal.sig) → Buf (Elt Ideal) ℓ) (g : Dev Cert.AdamHostIdeal.nD → PrngReg), Pre_AdamHostIdeal m →
    θ_run (Cert.AdamHostIdeal.defs (F := Ideal)) (onTc (τ := Cert.AdamHostIdeal.τ) (Cert.AdamHostIdeal.main (F := Ideal))) ⟨m, fun _ => 0, g⟩ (fun r => (∀ c : Dev Cert.AdamHostIdeal.nD,
      r.2.mem ((c.tc : Thread Cert.AdamHostIdeal.nD Cert.AdamHostIdeal.τ).loc Cert.AdamHostIdeal.main_arg0) = m ((c.tc : Thread Cert.AdamHostIdeal.nD Cert.AdamHostIdeal.τ).loc Cert.AdamHostIdeal.main_arg0)
      ∧ r.2.mem ((c.tc : Thread Cert.AdamHostIdeal.nD Cert.AdamHostIdeal.τ).loc Cert.AdamHostIdeal.main_arg1) = m ((c.tc : Thread Cert.AdamHostIdeal.nD Cert.AdamHostIdeal.τ).loc Cert.AdamHostIdeal.main_arg1)
      ∧ r.2.mem ((c.tc : Thread Cert.AdamHostIdeal.nD Cert.AdamHostIdeal.τ).loc Cert.AdamHostIdeal.main_arg2) = m ((c.tc : Thread Cert.AdamHostIdeal.nD Cert.AdamHostIdeal.τ).loc Cert.AdamHostIdeal.main_arg2)
      ∧ r.2.mem ((c.tc : Thread Cert.AdamHostIdeal.nD Cert.AdamHostIdeal.τ).loc Cert.AdamHostIdeal.main_arg3) = m ((c.tc : Thread Cert.AdamHostIdeal.nD Cert.AdamHostIdeal.τ).loc Cert.AdamHostIdeal.main_arg3))
      ∧ r.2.sem = fun _ => 0)

def quiescent_Update [hUpdate : Cert.Update.Facts] : Prop :=
  ∀ (m : (ℓ : Loc Cert.Update.nD Cert.Update.τ Cert.Update.sig) → Buf (Elt Bits) ℓ) (g : Dev Cert.Update.nD → PrngReg), Pre_Update m →
    θ_run (Cert.Update.defs (F := Bits)) (onTc (τ := Cert.Update.τ) (Cert.Update.main (F := Bits))) ⟨m, fun _ => 0, g⟩ (fun r => (∀ c : Dev Cert.Update.nD,
      r.2.mem ((c.tc : Thread Cert.Update.nD Cert.Update.τ).loc Cert.Update.main_arg0) = m ((c.tc : Thread Cert.Update.nD Cert.Update.τ).loc Cert.Update.main_arg0)
      ∧ r.2.mem ((c.tc : Thread Cert.Update.nD Cert.Update.τ).loc Cert.Update.main_arg1) = m ((c.tc : Thread Cert.Update.nD Cert.Update.τ).loc Cert.Update.main_arg1)
      ∧ r.2.mem ((c.tc : Thread Cert.Update.nD Cert.Update.τ).loc Cert.Update.main_arg2) = m ((c.tc : Thread Cert.Update.nD Cert.Update.τ).loc Cert.Update.main_arg2)
      ∧ r.2.mem ((c.tc : Thread Cert.Update.nD Cert.Update.τ).loc Cert.Update.main_arg3) = m ((c.tc : Thread Cert.Update.nD Cert.Update.τ).loc Cert.Update.main_arg3)
      ∧ r.2.mem ((c.tc : Thread Cert.Update.nD Cert.Update.τ).loc Cert.Update.main_arg4) = m ((c.tc : Thread Cert.Update.nD Cert.Update.τ).loc Cert.Update.main_arg4)
      ∧ r.2.mem ((c.tc : Thread Cert.Update.nD Cert.Update.τ).loc Cert.Update.main_arg5) = m ((c.tc : Thread Cert.Update.nD Cert.Update.τ).loc Cert.Update.main_arg5)
      ∧ r.2.mem ((c.tc : Thread Cert.Update.nD Cert.Update.τ).loc Cert.Update.main_arg6) = m ((c.tc : Thread Cert.Update.nD Cert.Update.τ).loc Cert.Update.main_arg6)
      ∧ r.2.mem ((c.tc : Thread Cert.Update.nD Cert.Update.τ).loc Cert.Update.main_arg7) = m ((c.tc : Thread Cert.Update.nD Cert.Update.τ).loc Cert.Update.main_arg7)
      ∧ r.2.mem ((c.tc : Thread Cert.Update.nD Cert.Update.τ).loc Cert.Update.main_arg8) = m ((c.tc : Thread Cert.Update.nD Cert.Update.τ).loc Cert.Update.main_arg8)
      ∧ r.2.mem ((c.tc : Thread Cert.Update.nD Cert.Update.τ).loc Cert.Update.main_arg9) = m ((c.tc : Thread Cert.Update.nD Cert.Update.τ).loc Cert.Update.main_arg9)
      ∧ r.2.mem ((c.tc : Thread Cert.Update.nD Cert.Update.τ).loc Cert.Update.main_arg10) = m ((c.tc : Thread Cert.Update.nD Cert.Update.τ).loc Cert.Update.main_arg10)
      ∧ r.2.mem ((c.tc : Thread Cert.Update.nD Cert.Update.τ).loc Cert.Update.main_arg11) = m ((c.tc : Thread Cert.Update.nD Cert.Update.τ).loc Cert.Update.main_arg11))
      ∧ r.2.sem = fun _ => 0)

def quiescent_UpdateIdeal [hUpdateIdeal : Cert.UpdateIdeal.Facts] : Prop :=
  ∀ (m : (ℓ : Loc Cert.UpdateIdeal.nD Cert.UpdateIdeal.τ Cert.UpdateIdeal.sig) → Buf (Elt Ideal) ℓ) (g : Dev Cert.UpdateIdeal.nD → PrngReg), Pre_UpdateIdeal m →
    θ_run (Cert.UpdateIdeal.defs (F := Ideal)) (onTc (τ := Cert.UpdateIdeal.τ) (Cert.UpdateIdeal.main (F := Ideal))) ⟨m, fun _ => 0, g⟩ (fun r => (∀ c : Dev Cert.UpdateIdeal.nD,
      r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
      ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
      ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
      ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3)
      ∧ r.2.mem ((c.tc : Thread Cert.UpdateIdeal.nD Cert.UpdateIdeal.τ).loc Cert.UpdateIdeal.main_arg4) = m ((c.tc : Thread Cert.UpdateIdeal.nD Cert.UpdateIdeal.τ).loc Cert.UpdateIdeal.main_arg4)
      ∧ r.2.mem ((c.tc : Thread Cert.UpdateIdeal.nD Cert.UpdateIdeal.τ).loc Cert.UpdateIdeal.main_arg5) = m ((c.tc : Thread Cert.UpdateIdeal.nD Cert.UpdateIdeal.τ).loc Cert.UpdateIdeal.main_arg5)
      ∧ r.2.mem ((c.tc : Thread Cert.UpdateIdeal.nD Cert.UpdateIdeal.τ).loc Cert.UpdateIdeal.main_arg6) = m ((c.tc : Thread Cert.UpdateIdeal.nD Cert.UpdateIdeal.τ).loc Cert.UpdateIdeal.main_arg6)
      ∧ r.2.mem ((c.tc : Thread Cert.UpdateIdeal.nD Cert.UpdateIdeal.τ).loc Cert.UpdateIdeal.main_arg7) = m ((c.tc : Thread Cert.UpdateIdeal.nD Cert.UpdateIdeal.τ).loc Cert.UpdateIdeal.main_arg7)
      ∧ r.2.mem ((c.tc : Thread Cert.UpdateIdeal.nD Cert.UpdateIdeal.τ).loc Cert.UpdateIdeal.main_arg8) = m ((c.tc : Thread Cert.UpdateIdeal.nD Cert.UpdateIdeal.τ).loc Cert.UpdateIdeal.main_arg8)
      ∧ r.2.mem ((c.tc : Thread Cert.UpdateIdeal.nD Cert.UpdateIdeal.τ).loc Cert.UpdateIdeal.main_arg9) = m ((c.tc : Thread Cert.UpdateIdeal.nD Cert.UpdateIdeal.τ).loc Cert.UpdateIdeal.main_arg9)
      ∧ r.2.mem ((c.tc : Thread Cert.UpdateIdeal.nD Cert.UpdateIdeal.τ).loc Cert.UpdateIdeal.main_arg10) = m ((c.tc : Thread Cert.UpdateIdeal.nD Cert.UpdateIdeal.τ).loc Cert.UpdateIdeal.main_arg10)
      ∧ r.2.mem ((c.tc : Thread Cert.UpdateIdeal.nD Cert.UpdateIdeal.τ).loc Cert.UpdateIdeal.main_arg11) = m ((c.tc : Thread Cert.UpdateIdeal.nD Cert.UpdateIdeal.τ).loc Cert.UpdateIdeal.main_arg11))
      ∧ r.2.sem = fun _ => 0)

def quiescent_UpdateHostIdeal [hUpdateHostIdeal : Cert.UpdateHostIdeal.Facts] : Prop :=
  ∀ (m : (ℓ : Loc Cert.UpdateHostIdeal.nD Cert.UpdateHostIdeal.τ Cert.UpdateHostIdeal.sig) → Buf (Elt Ideal) ℓ) (g : Dev Cert.UpdateHostIdeal.nD → PrngReg), Pre_UpdateHostIdeal m →
    θ_run (Cert.UpdateHostIdeal.defs (F := Ideal)) (onTc (τ := Cert.UpdateHostIdeal.τ) (Cert.UpdateHostIdeal.main (F := Ideal))) ⟨m, fun _ => 0, g⟩ (fun r => (∀ c : Dev Cert.UpdateHostIdeal.nD,
      r.2.mem ((c.tc : Thread Cert.UpdateHostIdeal.nD Cert.UpdateHostIdeal.τ).loc Cert.UpdateHostIdeal.main_arg0) = m ((c.tc : Thread Cert.UpdateHostIdeal.nD Cert.UpdateHostIdeal.τ).loc Cert.UpdateHostIdeal.main_arg0)
      ∧ r.2.mem ((c.tc : Thread Cert.UpdateHostIdeal.nD Cert.UpdateHostIdeal.τ).loc Cert.UpdateHostIdeal.main_arg1) = m ((c.tc : Thread Cert.UpdateHostIdeal.nD Cert.UpdateHostIdeal.τ).loc Cert.UpdateHostIdeal.main_arg1)
      ∧ r.2.mem ((c.tc : Thread Cert.UpdateHostIdeal.nD Cert.UpdateHostIdeal.τ).loc Cert.UpdateHostIdeal.main_arg2) = m ((c.tc : Thread Cert.UpdateHostIdeal.nD Cert.UpdateHostIdeal.τ).loc Cert.UpdateHostIdeal.main_arg2)
      ∧ r.2.mem ((c.tc : Thread Cert.UpdateHostIdeal.nD Cert.UpdateHostIdeal.τ).loc Cert.UpdateHostIdeal.main_arg3) = m ((c.tc : Thread Cert.UpdateHostIdeal.nD Cert.UpdateHostIdeal.τ).loc Cert.UpdateHostIdeal.main_arg3)
      ∧ r.2.mem ((c.tc : Thread Cert.UpdateHostIdeal.nD Cert.UpdateHostIdeal.τ).loc Cert.UpdateHostIdeal.main_arg4) = m ((c.tc : Thread Cert.UpdateHostIdeal.nD Cert.UpdateHostIdeal.τ).loc Cert.UpdateHostIdeal.main_arg4)
      ∧ r.2.mem ((c.tc : Thread Cert.UpdateHostIdeal.nD Cert.UpdateHostIdeal.τ).loc Cert.UpdateHostIdeal.main_arg5) = m ((c.tc : Thread Cert.UpdateHostIdeal.nD Cert.UpdateHostIdeal.τ).loc Cert.UpdateHostIdeal.main_arg5)
      ∧ r.2.mem ((c.tc : Thread Cert.UpdateHostIdeal.nD Cert.UpdateHostIdeal.τ).loc Cert.UpdateHostIdeal.main_arg6) = m ((c.tc : Thread Cert.UpdateHostIdeal.nD Cert.UpdateHostIdeal.τ).loc Cert.UpdateHostIdeal.main_arg6)
      ∧ r.2.mem ((c.tc : Thread Cert.UpdateHostIdeal.nD Cert.UpdateHostIdeal.τ).loc Cert.UpdateHostIdeal.main_arg7) = m ((c.tc : Thread Cert.UpdateHostIdeal.nD Cert.UpdateHostIdeal.τ).loc Cert.UpdateHostIdeal.main_arg7)
      ∧ r.2.mem ((c.tc : Thread Cert.UpdateHostIdeal.nD Cert.UpdateHostIdeal.τ).loc Cert.UpdateHostIdeal.main_arg8) = m ((c.tc : Thread Cert.UpdateHostIdeal.nD Cert.UpdateHostIdeal.τ).loc Cert.UpdateHostIdeal.main_arg8)
      ∧ r.2.mem ((c.tc : Thread Cert.UpdateHostIdeal.nD Cert.UpdateHostIdeal.τ).loc Cert.UpdateHostIdeal.main_arg9) = m ((c.tc : Thread Cert.UpdateHostIdeal.nD Cert.UpdateHostIdeal.τ).loc Cert.UpdateHostIdeal.main_arg9)
      ∧ r.2.mem ((c.tc : Thread Cert.UpdateHostIdeal.nD Cert.UpdateHostIdeal.τ).loc Cert.UpdateHostIdeal.main_arg10) = m ((c.tc : Thread Cert.UpdateHostIdeal.nD Cert.UpdateHostIdeal.τ).loc Cert.UpdateHostIdeal.main_arg10)
      ∧ r.2.mem ((c.tc : Thread Cert.UpdateHostIdeal.nD Cert.UpdateHostIdeal.τ).loc Cert.UpdateHostIdeal.main_arg11) = m ((c.tc : Thread Cert.UpdateHostIdeal.nD Cert.UpdateHostIdeal.τ).loc Cert.UpdateHostIdeal.main_arg11))
      ∧ r.2.sem = fun _ => 0)

def preserves_Mix_MixIdeal : Prop :=
  True

def algebraic_MixIdeal_MixGradIdeal [hMixIdeal : Cert.MixIdeal.Facts] [hMixGradIdeal : Cert.MixGradIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixGradIdeal.nD Cert.MixGradIdeal.τ Cert.MixGradIdeal.sig) → Buf (Elt Ideal) ℓ) (g' : Dev Cert.MixGradIdeal.nD → PrngReg), Pre_MixIdeal m →
    (∀ c : Dev Cert.MixIdeal.nD,
      m' ((c.tc : Thread Cert.MixGradIdeal.nD Cert.MixGradIdeal.τ).loc Cert.MixGradIdeal.main_arg0) = m ((c.tc : Thread Cert.MixIdeal.nD Cert.MixIdeal.τ).loc Cert.MixIdeal.main_arg0)
      ∧ m' ((c.tc : Thread Cert.MixGradIdeal.nD Cert.MixGradIdeal.τ).loc Cert.MixGradIdeal.main_arg1) = m ((c.tc : Thread Cert.MixIdeal.nD Cert.MixIdeal.τ).loc Cert.MixIdeal.main_arg1)
      ∧ m' ((c.tc : Thread Cert.MixGradIdeal.nD Cert.MixGradIdeal.τ).loc Cert.MixGradIdeal.main_arg2) = m ((c.tc : Thread Cert.MixIdeal.nD Cert.MixIdeal.τ).loc Cert.MixIdeal.main_arg2)
      ∧ m' ((c.tc : Thread Cert.MixGradIdeal.nD Cert.MixGradIdeal.τ).loc Cert.MixGradIdeal.main_arg3) = m ((c.tc : Thread Cert.MixIdeal.nD Cert.MixIdeal.τ).loc Cert.MixIdeal.main_arg3)
      ∧ m' ((c.tc : Thread Cert.MixGradIdeal.nD Cert.MixGradIdeal.τ).loc Cert.MixGradIdeal.main_arg4) = m ((c.tc : Thread Cert.MixIdeal.nD Cert.MixIdeal.τ).loc Cert.MixIdeal.main_arg4)
      ∧ m' ((c.tc : Thread Cert.MixGradIdeal.nD Cert.MixGradIdeal.τ).loc Cert.MixGradIdeal.main_arg5) = m ((c.tc : Thread Cert.MixIdeal.nD Cert.MixIdeal.τ).loc Cert.MixIdeal.main_arg5)
      ∧ m' ((c.tc : Thread Cert.MixGradIdeal.nD Cert.MixGradIdeal.τ).loc Cert.MixGradIdeal.main_arg6) = m ((c.tc : Thread Cert.MixIdeal.nD Cert.MixIdeal.τ).loc Cert.MixIdeal.main_arg6)
      ∧ m' ((c.tc : Thread Cert.MixGradIdeal.nD Cert.MixGradIdeal.τ).loc Cert.MixGradIdeal.main_arg7) = m ((c.tc : Thread Cert.MixIdeal.nD Cert.MixIdeal.τ).loc Cert.MixIdeal.main_arg7)
      ∧ m' ((c.tc : Thread Cert.MixGradIdeal.nD Cert.MixGradIdeal.τ).loc Cert.MixGradIdeal.main_arg8) = m ((c.tc : Thread Cert.MixIdeal.nD Cert.MixIdeal.τ).loc Cert.MixIdeal.main_arg8)
      ∧ m' ((c.tc : Thread Cert.MixGradIdeal.nD Cert.MixGradIdeal.τ).loc Cert.MixGradIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v25_0)) (v1 : (c : Dev Cert.MixIdeal.nD) → Buf (Elt Ideal) ((c.tc : Thread Cert.MixIdeal.nD Cert.MixIdeal.τ).loc Cert.MixIdeal.main_v25_1)) (v2 : (c : Dev Cert.MixIdeal.nD) → Buf (Elt Ideal) ((c.tc : Thread Cert.MixIdeal.nD Cert.MixIdeal.τ).loc Cert.MixIdeal.main_v25_2)) (v3 : (c : Dev Cert.MixIdeal.nD) → Buf (Elt Ideal) ((c.tc : Thread Cert.MixIdeal.nD Cert.MixIdeal.τ).loc Cert.MixIdeal.main_v25_3)) (v4 : (c : Dev Cert.MixIdeal.nD) → Buf (Elt Ideal) ((c.tc : Thread Cert.MixIdeal.nD Cert.MixIdeal.τ).loc Cert.MixIdeal.main_v25_4)) (v5 : (c : Dev Cert.MixIdeal.nD) → Buf (Elt Ideal) ((c.tc : Thread Cert.MixIdeal.nD Cert.MixIdeal.τ).loc Cert.MixIdeal.main_v25_5)) (v6 : (c : Dev Cert.MixIdeal.nD) → Buf (Elt Ideal) ((c.tc : Thread Cert.MixIdeal.nD Cert.MixIdeal.τ).loc Cert.MixIdeal.main_v25_6)) (v7 : (c : Dev Cert.MixIdeal.nD) → Buf (Elt Ideal) ((c.tc : Thread Cert.MixIdeal.nD Cert.MixIdeal.τ).loc Cert.MixIdeal.main_v25_7)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v25_0) = v0 c
          ∧ r.2.mem ((c.tc : Thread Cert.MixIdeal.nD Cert.MixIdeal.τ).loc Cert.MixIdeal.main_v25_1) = v1 c
          ∧ r.2.mem ((c.tc : Thread Cert.MixIdeal.nD Cert.MixIdeal.τ).loc Cert.MixIdeal.main_v25_2) = v2 c
          ∧ r.2.mem ((c.tc : Thread Cert.MixIdeal.nD Cert.MixIdeal.τ).loc Cert.MixIdeal.main_v25_3) = v3 c
          ∧ r.2.mem ((c.tc : Thread Cert.MixIdeal.nD Cert.MixIdeal.τ).loc Cert.MixIdeal.main_v25_4) = v4 c
          ∧ r.2.mem ((c.tc : Thread Cert.MixIdeal.nD Cert.MixIdeal.τ).loc Cert.MixIdeal.main_v25_5) = v5 c
          ∧ r.2.mem ((c.tc : Thread Cert.MixIdeal.nD Cert.MixIdeal.τ).loc Cert.MixIdeal.main_v25_6) = v6 c
          ∧ r.2.mem ((c.tc : Thread Cert.MixIdeal.nD Cert.MixIdeal.τ).loc Cert.MixIdeal.main_v25_7) = v7 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixGradIdeal.defs (F := Ideal)) (onTc (τ := Cert.MixGradIdeal.τ) (Cert.MixGradIdeal.main (F := Ideal))) ⟨m', fun _ => 0, g'⟩ (fun r => ∀ c : Dev Cert.MixGradIdeal.nD,
          r.2.mem ((c.tc : Thread Cert.MixGradIdeal.nD Cert.MixGradIdeal.τ).loc Cert.MixGradIdeal.main_v52) = v0 c
          ∧ r.2.mem ((c.tc : Thread Cert.MixGradIdeal.nD Cert.MixGradIdeal.τ).loc Cert.MixGradIdeal.main_v53) = v1 c
          ∧ r.2.mem ((c.tc : Thread Cert.MixGradIdeal.nD Cert.MixGradIdeal.τ).loc Cert.MixGradIdeal.main_v54) = v2 c
          ∧ r.2.mem ((c.tc : Thread Cert.MixGradIdeal.nD Cert.MixGradIdeal.τ).loc Cert.MixGradIdeal.main_v46) = v3 c
          ∧ r.2.mem ((c.tc : Thread Cert.MixGradIdeal.nD Cert.MixGradIdeal.τ).loc Cert.MixGradIdeal.main_v55) = v4 c
          ∧ r.2.mem ((c.tc : Thread Cert.MixGradIdeal.nD Cert.MixGradIdeal.τ).loc Cert.MixGradIdeal.main_v51) = v5 c
          ∧ r.2.mem ((c.tc : Thread Cert.MixGradIdeal.nD Cert.MixGradIdeal.τ).loc Cert.MixGradIdeal.main_v56) = v6 c
          ∧ r.2.mem ((c.tc : Thread Cert.MixGradIdeal.nD Cert.MixGradIdeal.τ).loc Cert.MixGradIdeal.main_v57) = v7 c
          ∧ r.2.mem ((c.tc : Thread Cert.MixGradIdeal.nD Cert.MixGradIdeal.τ).loc Cert.MixGradIdeal.main_arg0) = m' ((c.tc : Thread Cert.MixGradIdeal.nD Cert.MixGradIdeal.τ).loc Cert.MixGradIdeal.main_arg0)
          ∧ r.2.mem ((c.tc : Thread Cert.MixGradIdeal.nD Cert.MixGradIdeal.τ).loc Cert.MixGradIdeal.main_arg1) = m' ((c.tc : Thread Cert.MixGradIdeal.nD Cert.MixGradIdeal.τ).loc Cert.MixGradIdeal.main_arg1)
          ∧ r.2.mem ((c.tc : Thread Cert.MixGradIdeal.nD Cert.MixGradIdeal.τ).loc Cert.MixGradIdeal.main_arg2) = m' ((c.tc : Thread Cert.MixGradIdeal.nD Cert.MixGradIdeal.τ).loc Cert.MixGradIdeal.main_arg2)
          ∧ r.2.mem ((c.tc : Thread Cert.MixGradIdeal.nD Cert.MixGradIdeal.τ).loc Cert.MixGradIdeal.main_arg3) = m' ((c.tc : Thread Cert.MixGradIdeal.nD Cert.MixGradIdeal.τ).loc Cert.MixGradIdeal.main_arg3)
          ∧ r.2.mem ((c.tc : Thread Cert.MixGradIdeal.nD Cert.MixGradIdeal.τ).loc Cert.MixGradIdeal.main_arg4) = m' ((c.tc : Thread Cert.MixGradIdeal.nD Cert.MixGradIdeal.τ).loc Cert.MixGradIdeal.main_arg4)
          ∧ r.2.mem ((c.tc : Thread Cert.MixGradIdeal.nD Cert.MixGradIdeal.τ).loc Cert.MixGradIdeal.main_arg5) = m' ((c.tc : Thread Cert.MixGradIdeal.nD Cert.MixGradIdeal.τ).loc Cert.MixGradIdeal.main_arg5)
          ∧ r.2.mem ((c.tc : Thread Cert.MixGradIdeal.nD Cert.MixGradIdeal.τ).loc Cert.MixGradIdeal.main_arg6) = m' ((c.tc : Thread Cert.MixGradIdeal.nD Cert.MixGradIdeal.τ).loc Cert.MixGradIdeal.main_arg6)
          ∧ r.2.mem ((c.tc : Thread Cert.MixGradIdeal.nD Cert.MixGradIdeal.τ).loc Cert.MixGradIdeal.main_arg7) = m' ((c.tc : Thread Cert.MixGradIdeal.nD Cert.MixGradIdeal.τ).loc Cert.MixGradIdeal.main_arg7)
          ∧ r.2.mem ((c.tc : Thread Cert.MixGradIdeal.nD Cert.MixGradIdeal.τ).loc Cert.MixGradIdeal.main_arg8) = m' ((c.tc : Thread Cert.MixGradIdeal.nD Cert.MixGradIdeal.τ).loc Cert.MixGradIdeal.main_arg8)
          ∧ r.2.mem ((c.tc : Thread Cert.MixGradIdeal.nD Cert.MixGradIdeal.τ).loc Cert.MixGradIdeal.main_arg9) = m' ((c.tc : Thread Cert.MixGradIdeal.nD Cert.MixGradIdeal.τ).loc Cert.MixGradIdeal.main_arg9))

def preserves_Down_DownIdeal : Prop :=
  True

def algebraic_DownIdeal_DownGradIdeal_pre_down_finite [hDownIdeal : Cert.DownIdeal.Facts] [hDownGradIdeal : Cert.DownGradIdeal.Facts] [hPre_down_finite : Cert.Pre_down_finite.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownGradIdeal.nD Cert.DownGradIdeal.τ Cert.DownGradIdeal.sig) → Buf (Elt Ideal) ℓ) (g' : Dev Cert.DownGradIdeal.nD → PrngReg), Pre_DownIdeal_down_finite m →
    (∀ c : Dev Cert.DownIdeal.nD,
      m' ((c.tc : Thread Cert.DownGradIdeal.nD Cert.DownGradIdeal.τ).loc Cert.DownGradIdeal.main_arg0) = m ((c.tc : Thread Cert.DownIdeal.nD Cert.DownIdeal.τ).loc Cert.DownIdeal.main_arg0)
      ∧ m' ((c.tc : Thread Cert.DownGradIdeal.nD Cert.DownGradIdeal.τ).loc Cert.DownGradIdeal.main_arg1) = m ((c.tc : Thread Cert.DownIdeal.nD Cert.DownIdeal.τ).loc Cert.DownIdeal.main_arg1)
      ∧ m' ((c.tc : Thread Cert.DownGradIdeal.nD Cert.DownGradIdeal.τ).loc Cert.DownGradIdeal.main_arg2) = m ((c.tc : Thread Cert.DownIdeal.nD Cert.DownIdeal.τ).loc Cert.DownIdeal.main_arg2)
      ∧ m' ((c.tc : Thread Cert.DownGradIdeal.nD Cert.DownGradIdeal.τ).loc Cert.DownGradIdeal.main_arg3) = m ((c.tc : Thread Cert.DownIdeal.nD Cert.DownIdeal.τ).loc Cert.DownIdeal.main_arg3)
      ∧ m' ((c.tc : Thread Cert.DownGradIdeal.nD Cert.DownGradIdeal.τ).loc Cert.DownGradIdeal.main_arg4) = m ((c.tc : Thread Cert.DownIdeal.nD Cert.DownIdeal.τ).loc Cert.DownIdeal.main_arg4)
      ∧ m' ((c.tc : Thread Cert.DownGradIdeal.nD Cert.DownGradIdeal.τ).loc Cert.DownGradIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v4_0)) (v1 : (c : Dev Cert.DownIdeal.nD) → Buf (Elt Ideal) ((c.tc : Thread Cert.DownIdeal.nD Cert.DownIdeal.τ).loc Cert.DownIdeal.main_v4_1)) (v2 : (c : Dev Cert.DownIdeal.nD) → Buf (Elt Ideal) ((c.tc : Thread Cert.DownIdeal.nD Cert.DownIdeal.τ).loc Cert.DownIdeal.main_v4_2)) (v3 : (c : Dev Cert.DownIdeal.nD) → Buf (Elt Ideal) ((c.tc : Thread Cert.DownIdeal.nD Cert.DownIdeal.τ).loc Cert.DownIdeal.main_v4_3)) (v4 : (c : Dev Cert.DownIdeal.nD) → Buf (Elt Ideal) ((c.tc : Thread Cert.DownIdeal.nD Cert.DownIdeal.τ).loc Cert.DownIdeal.main_v4_4)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v4_0) = v0 c
          ∧ r.2.mem ((c.tc : Thread Cert.DownIdeal.nD Cert.DownIdeal.τ).loc Cert.DownIdeal.main_v4_1) = v1 c
          ∧ r.2.mem ((c.tc : Thread Cert.DownIdeal.nD Cert.DownIdeal.τ).loc Cert.DownIdeal.main_v4_2) = v2 c
          ∧ r.2.mem ((c.tc : Thread Cert.DownIdeal.nD Cert.DownIdeal.τ).loc Cert.DownIdeal.main_v4_3) = v3 c
          ∧ r.2.mem ((c.tc : Thread Cert.DownIdeal.nD Cert.DownIdeal.τ).loc Cert.DownIdeal.main_v4_4) = v4 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownGradIdeal.defs (F := Ideal)) (onTc (τ := Cert.DownGradIdeal.τ) (Cert.DownGradIdeal.main (F := Ideal))) ⟨m', fun _ => 0, g'⟩ (fun r => ∀ c : Dev Cert.DownGradIdeal.nD,
          r.2.mem ((c.tc : Thread Cert.DownGradIdeal.nD Cert.DownGradIdeal.τ).loc Cert.DownGradIdeal.main_v80) = v0 c
          ∧ r.2.mem ((c.tc : Thread Cert.DownGradIdeal.nD Cert.DownGradIdeal.τ).loc Cert.DownGradIdeal.main_v81) = v1 c
          ∧ r.2.mem ((c.tc : Thread Cert.DownGradIdeal.nD Cert.DownGradIdeal.τ).loc Cert.DownGradIdeal.main_v82) = v2 c
          ∧ r.2.mem ((c.tc : Thread Cert.DownGradIdeal.nD Cert.DownGradIdeal.τ).loc Cert.DownGradIdeal.main_v83) = v3 c
          ∧ r.2.mem ((c.tc : Thread Cert.DownGradIdeal.nD Cert.DownGradIdeal.τ).loc Cert.DownGradIdeal.main_v84) = v4 c
          ∧ r.2.mem ((c.tc : Thread Cert.DownGradIdeal.nD Cert.DownGradIdeal.τ).loc Cert.DownGradIdeal.main_arg0) = m' ((c.tc : Thread Cert.DownGradIdeal.nD Cert.DownGradIdeal.τ).loc Cert.DownGradIdeal.main_arg0)
          ∧ r.2.mem ((c.tc : Thread Cert.DownGradIdeal.nD Cert.DownGradIdeal.τ).loc Cert.DownGradIdeal.main_arg1) = m' ((c.tc : Thread Cert.DownGradIdeal.nD Cert.DownGradIdeal.τ).loc Cert.DownGradIdeal.main_arg1)
          ∧ r.2.mem ((c.tc : Thread Cert.DownGradIdeal.nD Cert.DownGradIdeal.τ).loc Cert.DownGradIdeal.main_arg2) = m' ((c.tc : Thread Cert.DownGradIdeal.nD Cert.DownGradIdeal.τ).loc Cert.DownGradIdeal.main_arg2)
          ∧ r.2.mem ((c.tc : Thread Cert.DownGradIdeal.nD Cert.DownGradIdeal.τ).loc Cert.DownGradIdeal.main_arg3) = m' ((c.tc : Thread Cert.DownGradIdeal.nD Cert.DownGradIdeal.τ).loc Cert.DownGradIdeal.main_arg3)
          ∧ r.2.mem ((c.tc : Thread Cert.DownGradIdeal.nD Cert.DownGradIdeal.τ).loc Cert.DownGradIdeal.main_arg4) = m' ((c.tc : Thread Cert.DownGradIdeal.nD Cert.DownGradIdeal.τ).loc Cert.DownGradIdeal.main_arg4)
          ∧ r.2.mem ((c.tc : Thread Cert.DownGradIdeal.nD Cert.DownGradIdeal.τ).loc Cert.DownGradIdeal.main_arg5) = m' ((c.tc : Thread Cert.DownGradIdeal.nD Cert.DownGradIdeal.τ).loc Cert.DownGradIdeal.main_arg5))

def preserves_Norm_NormIdeal : Prop :=
  True

def algebraic_NormIdeal_NormGradIdeal_pre_norm_finite [hNormIdeal : Cert.NormIdeal.Facts] [hNormGradIdeal : Cert.NormGradIdeal.Facts] [hPre_norm_finite : Cert.Pre_norm_finite.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormGradIdeal.nD Cert.NormGradIdeal.τ Cert.NormGradIdeal.sig) → Buf (Elt Ideal) ℓ) (g' : Dev Cert.NormGradIdeal.nD → PrngReg), Pre_NormIdeal_norm_finite m →
    (∀ c : Dev Cert.NormIdeal.nD,
      m' ((c.tc : Thread Cert.NormGradIdeal.nD Cert.NormGradIdeal.τ).loc Cert.NormGradIdeal.main_arg0) = m ((c.tc : Thread Cert.NormIdeal.nD Cert.NormIdeal.τ).loc Cert.NormIdeal.main_arg0)
      ∧ m' ((c.tc : Thread Cert.NormGradIdeal.nD Cert.NormGradIdeal.τ).loc Cert.NormGradIdeal.main_arg1) = m ((c.tc : Thread Cert.NormIdeal.nD Cert.NormIdeal.τ).loc Cert.NormIdeal.main_arg1)
      ∧ m' ((c.tc : Thread Cert.NormGradIdeal.nD Cert.NormGradIdeal.τ).loc Cert.NormGradIdeal.main_arg2) = m ((c.tc : Thread Cert.NormIdeal.nD Cert.NormIdeal.τ).loc Cert.NormIdeal.main_arg2)
      ∧ m' ((c.tc : Thread Cert.NormGradIdeal.nD Cert.NormGradIdeal.τ).loc Cert.NormGradIdeal.main_arg3) = m ((c.tc : Thread Cert.NormIdeal.nD Cert.NormIdeal.τ).loc Cert.NormIdeal.main_arg3)
      ∧ m' ((c.tc : Thread Cert.NormGradIdeal.nD Cert.NormGradIdeal.τ).loc Cert.NormGradIdeal.main_arg4) = m ((c.tc : Thread Cert.NormIdeal.nD Cert.NormIdeal.τ).loc Cert.NormIdeal.main_arg4)
      ∧ m' ((c.tc : Thread Cert.NormGradIdeal.nD Cert.NormGradIdeal.τ).loc Cert.NormGradIdeal.main_arg5) = m ((c.tc : Thread Cert.NormIdeal.nD Cert.NormIdeal.τ).loc Cert.NormIdeal.main_arg5)
      ∧ m' ((c.tc : Thread Cert.NormGradIdeal.nD Cert.NormGradIdeal.τ).loc Cert.NormGradIdeal.main_arg6) = m ((c.tc : Thread Cert.NormIdeal.nD Cert.NormIdeal.τ).loc Cert.NormIdeal.main_arg6)
      ∧ m' ((c.tc : Thread Cert.NormGradIdeal.nD Cert.NormGradIdeal.τ).loc Cert.NormGradIdeal.main_arg7) = m ((c.tc : Thread Cert.NormIdeal.nD Cert.NormIdeal.τ).loc Cert.NormIdeal.main_arg7)) →
    ∃ (v0 : (c : Dev Cert.NormIdeal.nD) → Buf (Elt Ideal) ((c.tc : Thread Cert.NormIdeal.nD Cert.NormIdeal.τ).loc Cert.NormIdeal.main_v26_0)) (v1 : (c : Dev Cert.NormIdeal.nD) → Buf (Elt Ideal) ((c.tc : Thread Cert.NormIdeal.nD Cert.NormIdeal.τ).loc Cert.NormIdeal.main_v26_1)) (v2 : (c : Dev Cert.NormIdeal.nD) → Buf (Elt Ideal) ((c.tc : Thread Cert.NormIdeal.nD Cert.NormIdeal.τ).loc Cert.NormIdeal.main_v26_2)) (v3 : (c : Dev Cert.NormIdeal.nD) → Buf (Elt Ideal) ((c.tc : Thread Cert.NormIdeal.nD Cert.NormIdeal.τ).loc Cert.NormIdeal.main_v26_3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v26_0) = v0 c
          ∧ r.2.mem ((c.tc : Thread Cert.NormIdeal.nD Cert.NormIdeal.τ).loc Cert.NormIdeal.main_v26_1) = v1 c
          ∧ r.2.mem ((c.tc : Thread Cert.NormIdeal.nD Cert.NormIdeal.τ).loc Cert.NormIdeal.main_v26_2) = v2 c
          ∧ r.2.mem ((c.tc : Thread Cert.NormIdeal.nD Cert.NormIdeal.τ).loc Cert.NormIdeal.main_v26_3) = v3 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
          ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
          ∧ r.2.mem ((c.tc : Thread Cert.NormIdeal.nD Cert.NormIdeal.τ).loc Cert.NormIdeal.main_arg7) = m ((c.tc : Thread Cert.NormIdeal.nD Cert.NormIdeal.τ).loc Cert.NormIdeal.main_arg7))
      ∧ θ_run (Cert.NormGradIdeal.defs (F := Ideal)) (onTc (τ := Cert.NormGradIdeal.τ) (Cert.NormGradIdeal.main (F := Ideal))) ⟨m', fun _ => 0, g'⟩ (fun r => ∀ c : Dev Cert.NormGradIdeal.nD,
          r.2.mem ((c.tc : Thread Cert.NormGradIdeal.nD Cert.NormGradIdeal.τ).loc Cert.NormGradIdeal.main_v71) = v0 c
          ∧ r.2.mem ((c.tc : Thread Cert.NormGradIdeal.nD Cert.NormGradIdeal.τ).loc Cert.NormGradIdeal.main_v72) = v1 c
          ∧ r.2.mem ((c.tc : Thread Cert.NormGradIdeal.nD Cert.NormGradIdeal.τ).loc Cert.NormGradIdeal.main_v73) = v2 c
          ∧ r.2.mem ((c.tc : Thread Cert.NormGradIdeal.nD Cert.NormGradIdeal.τ).loc Cert.NormGradIdeal.main_v74) = v3 c
          ∧ r.2.mem ((c.tc : Thread Cert.NormGradIdeal.nD Cert.NormGradIdeal.τ).loc Cert.NormGradIdeal.main_arg0) = m' ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m' ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m' ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m' ((c.tc : Thread Cert.NormGradIdeal.nD Cert.NormGradIdeal.τ).loc Cert.NormGradIdeal.main_arg3)
          ∧ r.2.mem ((c.tc : Thread Cert.NormGradIdeal.nD Cert.NormGradIdeal.τ).loc Cert.NormGradIdeal.main_arg4) = m' ((c.tc : Thread Cert.NormGradIdeal.nD Cert.NormGradIdeal.τ).loc Cert.NormGradIdeal.main_arg4)
          ∧ r.2.mem ((c.tc : Thread Cert.NormGradIdeal.nD Cert.NormGradIdeal.τ).loc Cert.NormGradIdeal.main_arg5) = m' ((c.tc : Thread Cert.NormGradIdeal.nD Cert.NormGradIdeal.τ).loc Cert.NormGradIdeal.main_arg5)
          ∧ r.2.mem ((c.tc : Thread Cert.NormGradIdeal.nD Cert.NormGradIdeal.τ).loc Cert.NormGradIdeal.main_arg6) = m' ((c.tc : Thread Cert.NormGradIdeal.nD Cert.NormGradIdeal.τ).loc Cert.NormGradIdeal.main_arg6)
          ∧ r.2.mem ((c.tc : Thread Cert.NormGradIdeal.nD Cert.NormGradIdeal.τ).loc Cert.NormGradIdeal.main_arg7) = m' ((c.tc : Thread Cert.NormGradIdeal.nD Cert.NormGradIdeal.τ).loc Cert.NormGradIdeal.main_arg7))

def preserves_Inp_InpIdeal : Prop :=
  True

def algebraic_InpIdeal_InpGradIdeal_pre_inp_finite [hInpIdeal : Cert.InpIdeal.Facts] [hInpGradIdeal : Cert.InpGradIdeal.Facts] [hPre_inp_finite : Cert.Pre_inp_finite.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpGradIdeal.nD Cert.InpGradIdeal.τ Cert.InpGradIdeal.sig) → Buf (Elt Ideal) ℓ) (g' : Dev Cert.InpGradIdeal.nD → PrngReg), Pre_InpIdeal_inp_finite m →
    (∀ c : Dev Cert.InpIdeal.nD,
      m' ((c.tc : Thread Cert.InpGradIdeal.nD Cert.InpGradIdeal.τ).loc Cert.InpGradIdeal.main_arg0) = m ((c.tc : Thread Cert.InpIdeal.nD Cert.InpIdeal.τ).loc Cert.InpIdeal.main_arg0)
      ∧ m' ((c.tc : Thread Cert.InpGradIdeal.nD Cert.InpGradIdeal.τ).loc Cert.InpGradIdeal.main_arg1) = m ((c.tc : Thread Cert.InpIdeal.nD Cert.InpIdeal.τ).loc Cert.InpIdeal.main_arg1)
      ∧ m' ((c.tc : Thread Cert.InpGradIdeal.nD Cert.InpGradIdeal.τ).loc Cert.InpGradIdeal.main_arg2) = m ((c.tc : Thread Cert.InpIdeal.nD Cert.InpIdeal.τ).loc Cert.InpIdeal.main_arg2)
      ∧ m' ((c.tc : Thread Cert.InpGradIdeal.nD Cert.InpGradIdeal.τ).loc Cert.InpGradIdeal.main_arg3) = m ((c.tc : Thread Cert.InpIdeal.nD Cert.InpIdeal.τ).loc Cert.InpIdeal.main_arg3)
      ∧ m' ((c.tc : Thread Cert.InpGradIdeal.nD Cert.InpGradIdeal.τ).loc Cert.InpGradIdeal.main_arg4) = m ((c.tc : Thread Cert.InpIdeal.nD Cert.InpIdeal.τ).loc Cert.InpIdeal.main_arg4)
      ∧ m' ((c.tc : Thread Cert.InpGradIdeal.nD Cert.InpGradIdeal.τ).loc Cert.InpGradIdeal.main_arg5) = m ((c.tc : Thread Cert.InpIdeal.nD Cert.InpIdeal.τ).loc Cert.InpIdeal.main_arg5)
      ∧ m' ((c.tc : Thread Cert.InpGradIdeal.nD Cert.InpGradIdeal.τ).loc Cert.InpGradIdeal.main_arg6) = m ((c.tc : Thread Cert.InpIdeal.nD Cert.InpIdeal.τ).loc Cert.InpIdeal.main_arg6)
      ∧ m' ((c.tc : Thread Cert.InpGradIdeal.nD Cert.InpGradIdeal.τ).loc Cert.InpGradIdeal.main_arg7) = m ((c.tc : Thread Cert.InpIdeal.nD Cert.InpIdeal.τ).loc Cert.InpIdeal.main_arg7)) →
    ∃ (v0 : (c : Dev Cert.InpIdeal.nD) → Buf (Elt Ideal) ((c.tc : Thread Cert.InpIdeal.nD Cert.InpIdeal.τ).loc Cert.InpIdeal.main_v7_0)) (v1 : (c : Dev Cert.InpIdeal.nD) → Buf (Elt Ideal) ((c.tc : Thread Cert.InpIdeal.nD Cert.InpIdeal.τ).loc Cert.InpIdeal.main_v7_1)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v7_0) = v0 c
          ∧ r.2.mem ((c.tc : Thread Cert.InpIdeal.nD Cert.InpIdeal.τ).loc Cert.InpIdeal.main_v7_1) = v1 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
          ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
          ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
          ∧ r.2.mem ((c.tc : Thread Cert.InpIdeal.nD Cert.InpIdeal.τ).loc Cert.InpIdeal.main_arg6) = m ((c.tc : Thread Cert.InpIdeal.nD Cert.InpIdeal.τ).loc Cert.InpIdeal.main_arg6)
          ∧ r.2.mem ((c.tc : Thread Cert.InpIdeal.nD Cert.InpIdeal.τ).loc Cert.InpIdeal.main_arg7) = m ((c.tc : Thread Cert.InpIdeal.nD Cert.InpIdeal.τ).loc Cert.InpIdeal.main_arg7))
      ∧ θ_run (Cert.InpGradIdeal.defs (F := Ideal)) (onTc (τ := Cert.InpGradIdeal.τ) (Cert.InpGradIdeal.main (F := Ideal))) ⟨m', fun _ => 0, g'⟩ (fun r => ∀ c : Dev Cert.InpGradIdeal.nD,
          r.2.mem ((c.tc : Thread Cert.InpGradIdeal.nD Cert.InpGradIdeal.τ).loc Cert.InpGradIdeal.main_v180) = v0 c
          ∧ r.2.mem ((c.tc : Thread Cert.InpGradIdeal.nD Cert.InpGradIdeal.τ).loc Cert.InpGradIdeal.main_v181) = v1 c
          ∧ r.2.mem ((c.tc : Thread Cert.InpGradIdeal.nD Cert.InpGradIdeal.τ).loc Cert.InpGradIdeal.main_arg0) = m' ((c.tc : Thread Cert.InpGradIdeal.nD Cert.InpGradIdeal.τ).loc Cert.InpGradIdeal.main_arg0)
          ∧ r.2.mem ((c.tc : Thread Cert.InpGradIdeal.nD Cert.InpGradIdeal.τ).loc Cert.InpGradIdeal.main_arg1) = m' ((c.tc : Thread Cert.InpGradIdeal.nD Cert.InpGradIdeal.τ).loc Cert.InpGradIdeal.main_arg1)
          ∧ r.2.mem ((c.tc : Thread Cert.InpGradIdeal.nD Cert.InpGradIdeal.τ).loc Cert.InpGradIdeal.main_arg2) = m' ((c.tc : Thread Cert.InpGradIdeal.nD Cert.InpGradIdeal.τ).loc Cert.InpGradIdeal.main_arg2)
          ∧ r.2.mem ((c.tc : Thread Cert.InpGradIdeal.nD Cert.InpGradIdeal.τ).loc Cert.InpGradIdeal.main_arg3) = m' ((c.tc : Thread Cert.InpGradIdeal.nD Cert.InpGradIdeal.τ).loc Cert.InpGradIdeal.main_arg3)
          ∧ r.2.mem ((c.tc : Thread Cert.InpGradIdeal.nD Cert.InpGradIdeal.τ).loc Cert.InpGradIdeal.main_arg4) = m' ((c.tc : Thread Cert.InpGradIdeal.nD Cert.InpGradIdeal.τ).loc Cert.InpGradIdeal.main_arg4)
          ∧ r.2.mem ((c.tc : Thread Cert.InpGradIdeal.nD Cert.InpGradIdeal.τ).loc Cert.InpGradIdeal.main_arg5) = m' ((c.tc : Thread Cert.InpGradIdeal.nD Cert.InpGradIdeal.τ).loc Cert.InpGradIdeal.main_arg5)
          ∧ r.2.mem ((c.tc : Thread Cert.InpGradIdeal.nD Cert.InpGradIdeal.τ).loc Cert.InpGradIdeal.main_arg6) = m' ((c.tc : Thread Cert.InpGradIdeal.nD Cert.InpGradIdeal.τ).loc Cert.InpGradIdeal.main_arg6)
          ∧ r.2.mem ((c.tc : Thread Cert.InpGradIdeal.nD Cert.InpGradIdeal.τ).loc Cert.InpGradIdeal.main_arg7) = m' ((c.tc : Thread Cert.InpGradIdeal.nD Cert.InpGradIdeal.τ).loc Cert.InpGradIdeal.main_arg7))

def preserves_FfnBwd_FfnBwdIdeal : Prop :=
  IdealRules.named_const.Statement Cert.FfnBwdIdeal.κ "root_half" .f32 0x3F3504F3#32 (((Real.sqrt 2)⁻¹ : ℝ) : EReal)
  ∧ IdealRules.named_const.Statement Cert.FfnBwdIdeal.κ "gauss" .f32 0x3ECC422A#32 (((9465531 / 8388608) * (2 * (Real.sqrt 2))⁻¹ : ℝ) : EReal)

def algebraic_FfnBwdIdeal_FfnGradIdeal_pre_ffn_finite [hFfnBwdIdeal : Cert.FfnBwdIdeal.Facts] [hFfnGradIdeal : Cert.FfnGradIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnGradIdeal.nD Cert.FfnGradIdeal.τ Cert.FfnGradIdeal.sig) → Buf (Elt Ideal) ℓ) (g' : Dev Cert.FfnGradIdeal.nD → PrngReg), Pre_FfnBwdIdeal_ffn_finite m →
    (∀ c : Dev Cert.FfnBwdIdeal.nD,
      m' ((c.tc : Thread Cert.FfnGradIdeal.nD Cert.FfnGradIdeal.τ).loc Cert.FfnGradIdeal.main_arg0) = m ((c.tc : Thread Cert.FfnBwdIdeal.nD Cert.FfnBwdIdeal.τ).loc Cert.FfnBwdIdeal.main_arg0)
      ∧ m' ((c.tc : Thread Cert.FfnGradIdeal.nD Cert.FfnGradIdeal.τ).loc Cert.FfnGradIdeal.main_arg1) = m ((c.tc : Thread Cert.FfnBwdIdeal.nD Cert.FfnBwdIdeal.τ).loc Cert.FfnBwdIdeal.main_arg1)
      ∧ m' ((c.tc : Thread Cert.FfnGradIdeal.nD Cert.FfnGradIdeal.τ).loc Cert.FfnGradIdeal.main_arg2) = m ((c.tc : Thread Cert.FfnBwdIdeal.nD Cert.FfnBwdIdeal.τ).loc Cert.FfnBwdIdeal.main_arg2)
      ∧ m' ((c.tc : Thread Cert.FfnGradIdeal.nD Cert.FfnGradIdeal.τ).loc Cert.FfnGradIdeal.main_arg3) = m ((c.tc : Thread Cert.FfnBwdIdeal.nD Cert.FfnBwdIdeal.τ).loc Cert.FfnBwdIdeal.main_arg3)
      ∧ m' ((c.tc : Thread Cert.FfnGradIdeal.nD Cert.FfnGradIdeal.τ).loc Cert.FfnGradIdeal.main_arg4) = m ((c.tc : Thread Cert.FfnBwdIdeal.nD Cert.FfnBwdIdeal.τ).loc Cert.FfnBwdIdeal.main_arg4)
      ∧ m' ((c.tc : Thread Cert.FfnGradIdeal.nD Cert.FfnGradIdeal.τ).loc Cert.FfnGradIdeal.main_arg5) = m ((c.tc : Thread Cert.FfnBwdIdeal.nD Cert.FfnBwdIdeal.τ).loc Cert.FfnBwdIdeal.main_arg5)
      ∧ m' ((c.tc : Thread Cert.FfnGradIdeal.nD Cert.FfnGradIdeal.τ).loc Cert.FfnGradIdeal.main_arg6) = m ((c.tc : Thread Cert.FfnBwdIdeal.nD Cert.FfnBwdIdeal.τ).loc Cert.FfnBwdIdeal.main_arg6)) →
    ∃ (v0 : (c : Dev Cert.FfnBwdIdeal.nD) → Buf (Elt Ideal) ((c.tc : Thread Cert.FfnBwdIdeal.nD Cert.FfnBwdIdeal.τ).loc Cert.FfnBwdIdeal.main_v6_0)) (v1 : (c : Dev Cert.FfnBwdIdeal.nD) → Buf (Elt Ideal) ((c.tc : Thread Cert.FfnBwdIdeal.nD Cert.FfnBwdIdeal.τ).loc Cert.FfnBwdIdeal.main_v6_1)) (v2 : (c : Dev Cert.FfnBwdIdeal.nD) → Buf (Elt Ideal) ((c.tc : Thread Cert.FfnBwdIdeal.nD Cert.FfnBwdIdeal.τ).loc Cert.FfnBwdIdeal.main_v6_2)) (v3 : (c : Dev Cert.FfnBwdIdeal.nD) → Buf (Elt Ideal) ((c.tc : Thread Cert.FfnBwdIdeal.nD Cert.FfnBwdIdeal.τ).loc Cert.FfnBwdIdeal.main_v6_3)) (v4 : (c : Dev Cert.FfnBwdIdeal.nD) → Buf (Elt Ideal) ((c.tc : Thread Cert.FfnBwdIdeal.nD Cert.FfnBwdIdeal.τ).loc Cert.FfnBwdIdeal.main_v6_4)) (v5 : (c : Dev Cert.FfnBwdIdeal.nD) → Buf (Elt Ideal) ((c.tc : Thread Cert.FfnBwdIdeal.nD Cert.FfnBwdIdeal.τ).loc Cert.FfnBwdIdeal.main_v6_5)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v6_0) = v0 c
          ∧ r.2.mem ((c.tc : Thread Cert.FfnBwdIdeal.nD Cert.FfnBwdIdeal.τ).loc Cert.FfnBwdIdeal.main_v6_1) = v1 c
          ∧ r.2.mem ((c.tc : Thread Cert.FfnBwdIdeal.nD Cert.FfnBwdIdeal.τ).loc Cert.FfnBwdIdeal.main_v6_2) = v2 c
          ∧ r.2.mem ((c.tc : Thread Cert.FfnBwdIdeal.nD Cert.FfnBwdIdeal.τ).loc Cert.FfnBwdIdeal.main_v6_3) = v3 c
          ∧ r.2.mem ((c.tc : Thread Cert.FfnBwdIdeal.nD Cert.FfnBwdIdeal.τ).loc Cert.FfnBwdIdeal.main_v6_4) = v4 c
          ∧ r.2.mem ((c.tc : Thread Cert.FfnBwdIdeal.nD Cert.FfnBwdIdeal.τ).loc Cert.FfnBwdIdeal.main_v6_5) = v5 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
          ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6))
      ∧ θ_run (Cert.FfnGradIdeal.defs (F := Ideal)) (onTc (τ := Cert.FfnGradIdeal.τ) (Cert.FfnGradIdeal.main (F := Ideal))) ⟨m', fun _ => 0, g'⟩ (fun r => ∀ c : Dev Cert.FfnGradIdeal.nD,
          r.2.mem ((c.tc : Thread Cert.FfnGradIdeal.nD Cert.FfnGradIdeal.τ).loc Cert.FfnGradIdeal.main_v106) = v0 c
          ∧ r.2.mem ((c.tc : Thread Cert.FfnGradIdeal.nD Cert.FfnGradIdeal.τ).loc Cert.FfnGradIdeal.main_v107) = v1 c
          ∧ r.2.mem ((c.tc : Thread Cert.FfnGradIdeal.nD Cert.FfnGradIdeal.τ).loc Cert.FfnGradIdeal.main_v108) = v2 c
          ∧ r.2.mem ((c.tc : Thread Cert.FfnGradIdeal.nD Cert.FfnGradIdeal.τ).loc Cert.FfnGradIdeal.main_v110) = v3 c
          ∧ r.2.mem ((c.tc : Thread Cert.FfnGradIdeal.nD Cert.FfnGradIdeal.τ).loc Cert.FfnGradIdeal.main_v112) = v4 c
          ∧ r.2.mem ((c.tc : Thread Cert.FfnGradIdeal.nD Cert.FfnGradIdeal.τ).loc Cert.FfnGradIdeal.main_v105) = v5 c
          ∧ r.2.mem ((c.tc : Thread Cert.FfnGradIdeal.nD Cert.FfnGradIdeal.τ).loc Cert.FfnGradIdeal.main_arg0) = m' ((c.tc : Thread Cert.FfnGradIdeal.nD Cert.FfnGradIdeal.τ).loc Cert.FfnGradIdeal.main_arg0)
          ∧ r.2.mem ((c.tc : Thread Cert.FfnGradIdeal.nD Cert.FfnGradIdeal.τ).loc Cert.FfnGradIdeal.main_arg1) = m' ((c.tc : Thread Cert.FfnGradIdeal.nD Cert.FfnGradIdeal.τ).loc Cert.FfnGradIdeal.main_arg1)
          ∧ r.2.mem ((c.tc : Thread Cert.FfnGradIdeal.nD Cert.FfnGradIdeal.τ).loc Cert.FfnGradIdeal.main_arg2) = m' ((c.tc : Thread Cert.FfnGradIdeal.nD Cert.FfnGradIdeal.τ).loc Cert.FfnGradIdeal.main_arg2)
          ∧ r.2.mem ((c.tc : Thread Cert.FfnGradIdeal.nD Cert.FfnGradIdeal.τ).loc Cert.FfnGradIdeal.main_arg3) = m' ((c.tc : Thread Cert.FfnGradIdeal.nD Cert.FfnGradIdeal.τ).loc Cert.FfnGradIdeal.main_arg3)
          ∧ r.2.mem ((c.tc : Thread Cert.FfnGradIdeal.nD Cert.FfnGradIdeal.τ).loc Cert.FfnGradIdeal.main_arg4) = m' ((c.tc : Thread Cert.FfnGradIdeal.nD Cert.FfnGradIdeal.τ).loc Cert.FfnGradIdeal.main_arg4)
          ∧ r.2.mem ((c.tc : Thread Cert.FfnGradIdeal.nD Cert.FfnGradIdeal.τ).loc Cert.FfnGradIdeal.main_arg5) = m' ((c.tc : Thread Cert.FfnGradIdeal.nD Cert.FfnGradIdeal.τ).loc Cert.FfnGradIdeal.main_arg5)
          ∧ r.2.mem ((c.tc : Thread Cert.FfnGradIdeal.nD Cert.FfnGradIdeal.τ).loc Cert.FfnGradIdeal.main_arg6) = m' ((c.tc : Thread Cert.FfnGradIdeal.nD Cert.FfnGradIdeal.τ).loc Cert.FfnGradIdeal.main_arg6))

def preserves_Attn_AttnIdeal : Prop :=
  IdealRules.named_const.Statement Cert.AttnIdeal.κ "mask" .f32 0xF149F2CA#32 ⊥

def algebraic_AttnIdeal_AttnGradIdeal_pre_attn_finite [hAttnIdeal : Cert.AttnIdeal.Facts] [hAttnGradIdeal : Cert.AttnGradIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnGradIdeal.nD Cert.AttnGradIdeal.τ Cert.AttnGradIdeal.sig) → Buf (Elt Ideal) ℓ) (g' : Dev Cert.AttnGradIdeal.nD → PrngReg), Pre_AttnIdeal_attn_finite m →
    (∀ c : Dev Cert.AttnIdeal.nD,
      m' ((c.tc : Thread Cert.AttnGradIdeal.nD Cert.AttnGradIdeal.τ).loc Cert.AttnGradIdeal.main_arg0) = m ((c.tc : Thread Cert.AttnIdeal.nD Cert.AttnIdeal.τ).loc Cert.AttnIdeal.main_arg0)
      ∧ m' ((c.tc : Thread Cert.AttnGradIdeal.nD Cert.AttnGradIdeal.τ).loc Cert.AttnGradIdeal.main_arg1) = m ((c.tc : Thread Cert.AttnIdeal.nD Cert.AttnIdeal.τ).loc Cert.AttnIdeal.main_arg1)
      ∧ m' ((c.tc : Thread Cert.AttnGradIdeal.nD Cert.AttnGradIdeal.τ).loc Cert.AttnGradIdeal.main_arg2) = m ((c.tc : Thread Cert.AttnIdeal.nD Cert.AttnIdeal.τ).loc Cert.AttnIdeal.main_arg2)
      ∧ m' ((c.tc : Thread Cert.AttnGradIdeal.nD Cert.AttnGradIdeal.τ).loc Cert.AttnGradIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v191_0)) (v1 : (c : Dev Cert.AttnIdeal.nD) → Buf (Elt Ideal) ((c.tc : Thread Cert.AttnIdeal.nD Cert.AttnIdeal.τ).loc Cert.AttnIdeal.main_v191_1)) (v2 : (c : Dev Cert.AttnIdeal.nD) → Buf (Elt Ideal) ((c.tc : Thread Cert.AttnIdeal.nD Cert.AttnIdeal.τ).loc Cert.AttnIdeal.main_v191_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v191_0) = v0 c
          ∧ r.2.mem ((c.tc : Thread Cert.AttnIdeal.nD Cert.AttnIdeal.τ).loc Cert.AttnIdeal.main_v191_1) = v1 c
          ∧ r.2.mem ((c.tc : Thread Cert.AttnIdeal.nD Cert.AttnIdeal.τ).loc Cert.AttnIdeal.main_v191_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnGradIdeal.defs (F := Ideal)) (onTc (τ := Cert.AttnGradIdeal.τ) (Cert.AttnGradIdeal.main (F := Ideal))) ⟨m', fun _ => 0, g'⟩ (fun r => ∀ c : Dev Cert.AttnGradIdeal.nD,
          r.2.mem ((c.tc : Thread Cert.AttnGradIdeal.nD Cert.AttnGradIdeal.τ).loc Cert.AttnGradIdeal.main_v194) = v0 c
          ∧ r.2.mem ((c.tc : Thread Cert.AttnGradIdeal.nD Cert.AttnGradIdeal.τ).loc Cert.AttnGradIdeal.main_v195) = v1 c
          ∧ r.2.mem ((c.tc : Thread Cert.AttnGradIdeal.nD Cert.AttnGradIdeal.τ).loc Cert.AttnGradIdeal.main_v196) = v2 c
          ∧ r.2.mem ((c.tc : Thread Cert.AttnGradIdeal.nD Cert.AttnGradIdeal.τ).loc Cert.AttnGradIdeal.main_arg0) = m' ((c.tc : Thread Cert.AttnGradIdeal.nD Cert.AttnGradIdeal.τ).loc Cert.AttnGradIdeal.main_arg0)
          ∧ r.2.mem ((c.tc : Thread Cert.AttnGradIdeal.nD Cert.AttnGradIdeal.τ).loc Cert.AttnGradIdeal.main_arg1) = m' ((c.tc : Thread Cert.AttnGradIdeal.nD Cert.AttnGradIdeal.τ).loc Cert.AttnGradIdeal.main_arg1)
          ∧ r.2.mem ((c.tc : Thread Cert.AttnGradIdeal.nD Cert.AttnGradIdeal.τ).loc Cert.AttnGradIdeal.main_arg2) = m' ((c.tc : Thread Cert.AttnGradIdeal.nD Cert.AttnGradIdeal.τ).loc Cert.AttnGradIdeal.main_arg2)
          ∧ r.2.mem ((c.tc : Thread Cert.AttnGradIdeal.nD Cert.AttnGradIdeal.τ).loc Cert.AttnGradIdeal.main_arg3) = m' ((c.tc : Thread Cert.AttnGradIdeal.nD Cert.AttnGradIdeal.τ).loc Cert.AttnGradIdeal.main_arg3))

def preserves_Up_UpIdeal : Prop :=
  IdealRules.named_const.Statement Cert.UpIdeal.κ "root_half" .f32 0x3F3504F3#32 (((Real.sqrt 2)⁻¹ : ℝ) : EReal)

def algebraic_UpIdeal_UpHostIdeal [hUpIdeal : Cert.UpIdeal.Facts] [hUpHostIdeal : Cert.UpHostIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpHostIdeal.nD Cert.UpHostIdeal.τ Cert.UpHostIdeal.sig) → Buf (Elt Ideal) ℓ) (g' : Dev Cert.UpHostIdeal.nD → PrngReg), Pre_UpIdeal m →
    (∀ c : Dev Cert.UpIdeal.nD,
      m' ((c.tc : Thread Cert.UpHostIdeal.nD Cert.UpHostIdeal.τ).loc Cert.UpHostIdeal.main_arg0) = m ((c.tc : Thread Cert.UpIdeal.nD Cert.UpIdeal.τ).loc Cert.UpIdeal.main_arg0)
      ∧ m' ((c.tc : Thread Cert.UpHostIdeal.nD Cert.UpHostIdeal.τ).loc Cert.UpHostIdeal.main_arg1) = m ((c.tc : Thread Cert.UpIdeal.nD Cert.UpIdeal.τ).loc Cert.UpIdeal.main_arg1)
      ∧ m' ((c.tc : Thread Cert.UpHostIdeal.nD Cert.UpHostIdeal.τ).loc Cert.UpHostIdeal.main_arg2) = m ((c.tc : Thread Cert.UpIdeal.nD Cert.UpIdeal.τ).loc Cert.UpIdeal.main_arg2)
      ∧ m' ((c.tc : Thread Cert.UpHostIdeal.nD Cert.UpHostIdeal.τ).loc Cert.UpHostIdeal.main_arg3) = m ((c.tc : Thread Cert.UpIdeal.nD Cert.UpIdeal.τ).loc Cert.UpIdeal.main_arg3)
      ∧ m' ((c.tc : Thread Cert.UpHostIdeal.nD Cert.UpHostIdeal.τ).loc Cert.UpHostIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v6_0)) (v1 : (c : Dev Cert.UpIdeal.nD) → Buf (Elt Ideal) ((c.tc : Thread Cert.UpIdeal.nD Cert.UpIdeal.τ).loc Cert.UpIdeal.main_v6_1)) (v2 : (c : Dev Cert.UpIdeal.nD) → Buf (Elt Ideal) ((c.tc : Thread Cert.UpIdeal.nD Cert.UpIdeal.τ).loc Cert.UpIdeal.main_v6_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v6_0) = v0 c
          ∧ r.2.mem ((c.tc : Thread Cert.UpIdeal.nD Cert.UpIdeal.τ).loc Cert.UpIdeal.main_v6_1) = v1 c
          ∧ r.2.mem ((c.tc : Thread Cert.UpIdeal.nD Cert.UpIdeal.τ).loc Cert.UpIdeal.main_v6_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpHostIdeal.defs (F := Ideal)) (onTc (τ := Cert.UpHostIdeal.τ) (Cert.UpHostIdeal.main (F := Ideal))) ⟨m', fun _ => 0, g'⟩ (fun r => ∀ c : Dev Cert.UpHostIdeal.nD,
          r.2.mem ((c.tc : Thread Cert.UpHostIdeal.nD Cert.UpHostIdeal.τ).loc Cert.UpHostIdeal.main_v0) = v0 c
          ∧ r.2.mem ((c.tc : Thread Cert.UpHostIdeal.nD Cert.UpHostIdeal.τ).loc Cert.UpHostIdeal.main_v1) = v1 c
          ∧ r.2.mem ((c.tc : Thread Cert.UpHostIdeal.nD Cert.UpHostIdeal.τ).loc Cert.UpHostIdeal.main_v39) = v2 c
          ∧ r.2.mem ((c.tc : Thread Cert.UpHostIdeal.nD Cert.UpHostIdeal.τ).loc Cert.UpHostIdeal.main_arg0) = m' ((c.tc : Thread Cert.UpHostIdeal.nD Cert.UpHostIdeal.τ).loc Cert.UpHostIdeal.main_arg0)
          ∧ r.2.mem ((c.tc : Thread Cert.UpHostIdeal.nD Cert.UpHostIdeal.τ).loc Cert.UpHostIdeal.main_arg1) = m' ((c.tc : Thread Cert.UpHostIdeal.nD Cert.UpHostIdeal.τ).loc Cert.UpHostIdeal.main_arg1)
          ∧ r.2.mem ((c.tc : Thread Cert.UpHostIdeal.nD Cert.UpHostIdeal.τ).loc Cert.UpHostIdeal.main_arg2) = m' ((c.tc : Thread Cert.UpHostIdeal.nD Cert.UpHostIdeal.τ).loc Cert.UpHostIdeal.main_arg2)
          ∧ r.2.mem ((c.tc : Thread Cert.UpHostIdeal.nD Cert.UpHostIdeal.τ).loc Cert.UpHostIdeal.main_arg3) = m' ((c.tc : Thread Cert.UpHostIdeal.nD Cert.UpHostIdeal.τ).loc Cert.UpHostIdeal.main_arg3)
          ∧ r.2.mem ((c.tc : Thread Cert.UpHostIdeal.nD Cert.UpHostIdeal.τ).loc Cert.UpHostIdeal.main_arg4) = m' ((c.tc : Thread Cert.UpHostIdeal.nD Cert.UpHostIdeal.τ).loc Cert.UpHostIdeal.main_arg4))

def preserves_Proj_ProjIdeal : Prop :=
  True

def algebraic_ProjIdeal_ProjHostIdeal [hProjIdeal : Cert.ProjIdeal.Facts] [hProjHostIdeal : Cert.ProjHostIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjHostIdeal.nD Cert.ProjHostIdeal.τ Cert.ProjHostIdeal.sig) → Buf (Elt Ideal) ℓ) (g' : Dev Cert.ProjHostIdeal.nD → PrngReg), Pre_ProjIdeal m →
    (∀ c : Dev Cert.ProjIdeal.nD,
      m' ((c.tc : Thread Cert.ProjHostIdeal.nD Cert.ProjHostIdeal.τ).loc Cert.ProjHostIdeal.main_arg0) = m ((c.tc : Thread Cert.ProjIdeal.nD Cert.ProjIdeal.τ).loc Cert.ProjIdeal.main_arg0)
      ∧ m' ((c.tc : Thread Cert.ProjHostIdeal.nD Cert.ProjHostIdeal.τ).loc Cert.ProjHostIdeal.main_arg1) = m ((c.tc : Thread Cert.ProjIdeal.nD Cert.ProjIdeal.τ).loc Cert.ProjIdeal.main_arg1)
      ∧ m' ((c.tc : Thread Cert.ProjHostIdeal.nD Cert.ProjHostIdeal.τ).loc Cert.ProjHostIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v27_0)) (v1 : (c : Dev Cert.ProjIdeal.nD) → Buf (Elt Ideal) ((c.tc : Thread Cert.ProjIdeal.nD Cert.ProjIdeal.τ).loc Cert.ProjIdeal.main_v27_1)) (v2 : (c : Dev Cert.ProjIdeal.nD) → Buf (Elt Ideal) ((c.tc : Thread Cert.ProjIdeal.nD Cert.ProjIdeal.τ).loc Cert.ProjIdeal.main_v27_2)) (v3 : (c : Dev Cert.ProjIdeal.nD) → Buf (Elt Ideal) ((c.tc : Thread Cert.ProjIdeal.nD Cert.ProjIdeal.τ).loc Cert.ProjIdeal.main_v27_3)) (v4 : (c : Dev Cert.ProjIdeal.nD) → Buf (Elt Ideal) ((c.tc : Thread Cert.ProjIdeal.nD Cert.ProjIdeal.τ).loc Cert.ProjIdeal.main_v27_4)) (v5 : (c : Dev Cert.ProjIdeal.nD) → Buf (Elt Ideal) ((c.tc : Thread Cert.ProjIdeal.nD Cert.ProjIdeal.τ).loc Cert.ProjIdeal.main_v27_5)) (v6 : (c : Dev Cert.ProjIdeal.nD) → Buf (Elt Ideal) ((c.tc : Thread Cert.ProjIdeal.nD Cert.ProjIdeal.τ).loc Cert.ProjIdeal.main_v27_6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v27_0) = v0 c
          ∧ r.2.mem ((c.tc : Thread Cert.ProjIdeal.nD Cert.ProjIdeal.τ).loc Cert.ProjIdeal.main_v27_1) = v1 c
          ∧ r.2.mem ((c.tc : Thread Cert.ProjIdeal.nD Cert.ProjIdeal.τ).loc Cert.ProjIdeal.main_v27_2) = v2 c
          ∧ r.2.mem ((c.tc : Thread Cert.ProjIdeal.nD Cert.ProjIdeal.τ).loc Cert.ProjIdeal.main_v27_3) = v3 c
          ∧ r.2.mem ((c.tc : Thread Cert.ProjIdeal.nD Cert.ProjIdeal.τ).loc Cert.ProjIdeal.main_v27_4) = v4 c
          ∧ r.2.mem ((c.tc : Thread Cert.ProjIdeal.nD Cert.ProjIdeal.τ).loc Cert.ProjIdeal.main_v27_5) = v5 c
          ∧ r.2.mem ((c.tc : Thread Cert.ProjIdeal.nD Cert.ProjIdeal.τ).loc Cert.ProjIdeal.main_v27_6) = v6 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjHostIdeal.defs (F := Ideal)) (onTc (τ := Cert.ProjHostIdeal.τ) (Cert.ProjHostIdeal.main (F := Ideal))) ⟨m', fun _ => 0, g'⟩ (fun r => ∀ c : Dev Cert.ProjHostIdeal.nD,
          r.2.mem ((c.tc : Thread Cert.ProjHostIdeal.nD Cert.ProjHostIdeal.τ).loc Cert.ProjHostIdeal.main_v66) = v0 c
          ∧ r.2.mem ((c.tc : Thread Cert.ProjHostIdeal.nD Cert.ProjHostIdeal.τ).loc Cert.ProjHostIdeal.main_v37) = v1 c
          ∧ r.2.mem ((c.tc : Thread Cert.ProjHostIdeal.nD Cert.ProjHostIdeal.τ).loc Cert.ProjHostIdeal.main_v59) = v2 c
          ∧ r.2.mem ((c.tc : Thread Cert.ProjHostIdeal.nD Cert.ProjHostIdeal.τ).loc Cert.ProjHostIdeal.main_v68) = v3 c
          ∧ r.2.mem ((c.tc : Thread Cert.ProjHostIdeal.nD Cert.ProjHostIdeal.τ).loc Cert.ProjHostIdeal.main_v69) = v4 c
          ∧ r.2.mem ((c.tc : Thread Cert.ProjHostIdeal.nD Cert.ProjHostIdeal.τ).loc Cert.ProjHostIdeal.main_v79) = v5 c
          ∧ r.2.mem ((c.tc : Thread Cert.ProjHostIdeal.nD Cert.ProjHostIdeal.τ).loc Cert.ProjHostIdeal.main_v64) = v6 c
          ∧ r.2.mem ((c.tc : Thread Cert.ProjHostIdeal.nD Cert.ProjHostIdeal.τ).loc Cert.ProjHostIdeal.main_arg0) = m' ((c.tc : Thread Cert.ProjHostIdeal.nD Cert.ProjHostIdeal.τ).loc Cert.ProjHostIdeal.main_arg0)
          ∧ r.2.mem ((c.tc : Thread Cert.ProjHostIdeal.nD Cert.ProjHostIdeal.τ).loc Cert.ProjHostIdeal.main_arg1) = m' ((c.tc : Thread Cert.ProjHostIdeal.nD Cert.ProjHostIdeal.τ).loc Cert.ProjHostIdeal.main_arg1)
          ∧ r.2.mem ((c.tc : Thread Cert.ProjHostIdeal.nD Cert.ProjHostIdeal.τ).loc Cert.ProjHostIdeal.main_arg2) = m' ((c.tc : Thread Cert.ProjHostIdeal.nD Cert.ProjHostIdeal.τ).loc Cert.ProjHostIdeal.main_arg2))

def preserves_Merge_MergeIdeal : Prop :=
  True

def algebraic_MergeIdeal_MergeHostIdeal_pre_merge_finite [hMergeIdeal : Cert.MergeIdeal.Facts] [hMergeHostIdeal : Cert.MergeHostIdeal.Facts] [hPre_merge_finite : Cert.Pre_merge_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeHostIdeal.nD Cert.MergeHostIdeal.τ Cert.MergeHostIdeal.sig) → Buf (Elt Ideal) ℓ) (g' : Dev Cert.MergeHostIdeal.nD → PrngReg), Pre_MergeIdeal_merge_finite m →
    (∀ c : Dev Cert.MergeIdeal.nD,
      m' ((c.tc : Thread Cert.MergeHostIdeal.nD Cert.MergeHostIdeal.τ).loc Cert.MergeHostIdeal.main_arg0) = m ((c.tc : Thread Cert.MergeIdeal.nD Cert.MergeIdeal.τ).loc Cert.MergeIdeal.main_arg0)
      ∧ m' ((c.tc : Thread Cert.MergeHostIdeal.nD Cert.MergeHostIdeal.τ).loc Cert.MergeHostIdeal.main_arg1) = m ((c.tc : Thread Cert.MergeIdeal.nD Cert.MergeIdeal.τ).loc Cert.MergeIdeal.main_arg1)
      ∧ m' ((c.tc : Thread Cert.MergeHostIdeal.nD Cert.MergeHostIdeal.τ).loc Cert.MergeHostIdeal.main_arg2) = m ((c.tc : Thread Cert.MergeIdeal.nD Cert.MergeIdeal.τ).loc Cert.MergeIdeal.main_arg2)
      ∧ m' ((c.tc : Thread Cert.MergeHostIdeal.nD Cert.MergeHostIdeal.τ).loc Cert.MergeHostIdeal.main_arg3) = m ((c.tc : Thread Cert.MergeIdeal.nD Cert.MergeIdeal.τ).loc Cert.MergeIdeal.main_arg3)
      ∧ m' ((c.tc : Thread Cert.MergeHostIdeal.nD Cert.MergeHostIdeal.τ).loc Cert.MergeHostIdeal.main_arg4) = m ((c.tc : Thread Cert.MergeIdeal.nD Cert.MergeIdeal.τ).loc Cert.MergeIdeal.main_arg4)
      ∧ m' ((c.tc : Thread Cert.MergeHostIdeal.nD Cert.MergeHostIdeal.τ).loc Cert.MergeHostIdeal.main_arg5) = m ((c.tc : Thread Cert.MergeIdeal.nD Cert.MergeIdeal.τ).loc Cert.MergeIdeal.main_arg5)
      ∧ m' ((c.tc : Thread Cert.MergeHostIdeal.nD Cert.MergeHostIdeal.τ).loc Cert.MergeHostIdeal.main_arg6) = m ((c.tc : Thread Cert.MergeIdeal.nD Cert.MergeIdeal.τ).loc Cert.MergeIdeal.main_arg6)
      ∧ m' ((c.tc : Thread Cert.MergeHostIdeal.nD Cert.MergeHostIdeal.τ).loc Cert.MergeHostIdeal.main_arg7) = m ((c.tc : Thread Cert.MergeIdeal.nD Cert.MergeIdeal.τ).loc Cert.MergeIdeal.main_arg7)
      ∧ m' ((c.tc : Thread Cert.MergeHostIdeal.nD Cert.MergeHostIdeal.τ).loc Cert.MergeHostIdeal.main_arg8) = m ((c.tc : Thread Cert.MergeIdeal.nD Cert.MergeIdeal.τ).loc Cert.MergeIdeal.main_arg8)
      ∧ m' ((c.tc : Thread Cert.MergeHostIdeal.nD Cert.MergeHostIdeal.τ).loc Cert.MergeHostIdeal.main_arg9) = m ((c.tc : Thread Cert.MergeIdeal.nD Cert.MergeIdeal.τ).loc Cert.MergeIdeal.main_arg9)
      ∧ m' ((c.tc : Thread Cert.MergeHostIdeal.nD Cert.MergeHostIdeal.τ).loc Cert.MergeHostIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v6_0)) (v1 : (c : Dev Cert.MergeIdeal.nD) → Buf (Elt Ideal) ((c.tc : Thread Cert.MergeIdeal.nD Cert.MergeIdeal.τ).loc Cert.MergeIdeal.main_v6_1)) (v2 : (c : Dev Cert.MergeIdeal.nD) → Buf (Elt Ideal) ((c.tc : Thread Cert.MergeIdeal.nD Cert.MergeIdeal.τ).loc Cert.MergeIdeal.main_v6_2)) (v3 : (c : Dev Cert.MergeIdeal.nD) → Buf (Elt Ideal) ((c.tc : Thread Cert.MergeIdeal.nD Cert.MergeIdeal.τ).loc Cert.MergeIdeal.main_v6_3)) (v4 : (c : Dev Cert.MergeIdeal.nD) → Buf (Elt Ideal) ((c.tc : Thread Cert.MergeIdeal.nD Cert.MergeIdeal.τ).loc Cert.MergeIdeal.main_v6_4)) (v5 : (c : Dev Cert.MergeIdeal.nD) → Buf (Elt Ideal) ((c.tc : Thread Cert.MergeIdeal.nD Cert.MergeIdeal.τ).loc Cert.MergeIdeal.main_v6_5)) (v6 : (c : Dev Cert.MergeIdeal.nD) → Buf (Elt Ideal) ((c.tc : Thread Cert.MergeIdeal.nD Cert.MergeIdeal.τ).loc Cert.MergeIdeal.main_v6_6)) (v7 : (c : Dev Cert.MergeIdeal.nD) → Buf (Elt Ideal) ((c.tc : Thread Cert.MergeIdeal.nD Cert.MergeIdeal.τ).loc Cert.MergeIdeal.main_v6_7)) (v8 : (c : Dev Cert.MergeIdeal.nD) → Buf (Elt Ideal) ((c.tc : Thread Cert.MergeIdeal.nD Cert.MergeIdeal.τ).loc Cert.MergeIdeal.main_v6_8)) (v9 : (c : Dev Cert.MergeIdeal.nD) → Buf (Elt Ideal) ((c.tc : Thread Cert.MergeIdeal.nD Cert.MergeIdeal.τ).loc Cert.MergeIdeal.main_v6_9)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6_0) = v0 c
          ∧ r.2.mem ((c.tc : Thread Cert.MergeIdeal.nD Cert.MergeIdeal.τ).loc Cert.MergeIdeal.main_v6_1) = v1 c
          ∧ r.2.mem ((c.tc : Thread Cert.MergeIdeal.nD Cert.MergeIdeal.τ).loc Cert.MergeIdeal.main_v6_2) = v2 c
          ∧ r.2.mem ((c.tc : Thread Cert.MergeIdeal.nD Cert.MergeIdeal.τ).loc Cert.MergeIdeal.main_v6_3) = v3 c
          ∧ r.2.mem ((c.tc : Thread Cert.MergeIdeal.nD Cert.MergeIdeal.τ).loc Cert.MergeIdeal.main_v6_4) = v4 c
          ∧ r.2.mem ((c.tc : Thread Cert.MergeIdeal.nD Cert.MergeIdeal.τ).loc Cert.MergeIdeal.main_v6_5) = v5 c
          ∧ r.2.mem ((c.tc : Thread Cert.MergeIdeal.nD Cert.MergeIdeal.τ).loc Cert.MergeIdeal.main_v6_6) = v6 c
          ∧ r.2.mem ((c.tc : Thread Cert.MergeIdeal.nD Cert.MergeIdeal.τ).loc Cert.MergeIdeal.main_v6_7) = v7 c
          ∧ r.2.mem ((c.tc : Thread Cert.MergeIdeal.nD Cert.MergeIdeal.τ).loc Cert.MergeIdeal.main_v6_8) = v8 c
          ∧ r.2.mem ((c.tc : Thread Cert.MergeIdeal.nD Cert.MergeIdeal.τ).loc Cert.MergeIdeal.main_v6_9) = v9 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeHostIdeal.defs (F := Ideal)) (onTc (τ := Cert.MergeHostIdeal.τ) (Cert.MergeHostIdeal.main (F := Ideal))) ⟨m', fun _ => 0, g'⟩ (fun r => ∀ c : Dev Cert.MergeHostIdeal.nD,
          r.2.mem ((c.tc : Thread Cert.MergeHostIdeal.nD Cert.MergeHostIdeal.τ).loc Cert.MergeHostIdeal.main_v147) = v0 c
          ∧ r.2.mem ((c.tc : Thread Cert.MergeHostIdeal.nD Cert.MergeHostIdeal.τ).loc Cert.MergeHostIdeal.main_v148) = v1 c
          ∧ r.2.mem ((c.tc : Thread Cert.MergeHostIdeal.nD Cert.MergeHostIdeal.τ).loc Cert.MergeHostIdeal.main_v149) = v2 c
          ∧ r.2.mem ((c.tc : Thread Cert.MergeHostIdeal.nD Cert.MergeHostIdeal.τ).loc Cert.MergeHostIdeal.main_v109) = v3 c
          ∧ r.2.mem ((c.tc : Thread Cert.MergeHostIdeal.nD Cert.MergeHostIdeal.τ).loc Cert.MergeHostIdeal.main_v150) = v4 c
          ∧ r.2.mem ((c.tc : Thread Cert.MergeHostIdeal.nD Cert.MergeHostIdeal.τ).loc Cert.MergeHostIdeal.main_v151) = v5 c
          ∧ r.2.mem ((c.tc : Thread Cert.MergeHostIdeal.nD Cert.MergeHostIdeal.τ).loc Cert.MergeHostIdeal.main_v140) = v6 c
          ∧ r.2.mem ((c.tc : Thread Cert.MergeHostIdeal.nD Cert.MergeHostIdeal.τ).loc Cert.MergeHostIdeal.main_v152) = v7 c
          ∧ r.2.mem ((c.tc : Thread Cert.MergeHostIdeal.nD Cert.MergeHostIdeal.τ).loc Cert.MergeHostIdeal.main_v146) = v8 c
          ∧ r.2.mem ((c.tc : Thread Cert.MergeHostIdeal.nD Cert.MergeHostIdeal.τ).loc Cert.MergeHostIdeal.main_v153) = v9 c
          ∧ r.2.mem ((c.tc : Thread Cert.MergeHostIdeal.nD Cert.MergeHostIdeal.τ).loc Cert.MergeHostIdeal.main_arg0) = m' ((c.tc : Thread Cert.MergeHostIdeal.nD Cert.MergeHostIdeal.τ).loc Cert.MergeHostIdeal.main_arg0)
          ∧ r.2.mem ((c.tc : Thread Cert.MergeHostIdeal.nD Cert.MergeHostIdeal.τ).loc Cert.MergeHostIdeal.main_arg1) = m' ((c.tc : Thread Cert.MergeHostIdeal.nD Cert.MergeHostIdeal.τ).loc Cert.MergeHostIdeal.main_arg1)
          ∧ r.2.mem ((c.tc : Thread Cert.MergeHostIdeal.nD Cert.MergeHostIdeal.τ).loc Cert.MergeHostIdeal.main_arg2) = m' ((c.tc : Thread Cert.MergeHostIdeal.nD Cert.MergeHostIdeal.τ).loc Cert.MergeHostIdeal.main_arg2)
          ∧ r.2.mem ((c.tc : Thread Cert.MergeHostIdeal.nD Cert.MergeHostIdeal.τ).loc Cert.MergeHostIdeal.main_arg3) = m' ((c.tc : Thread Cert.MergeHostIdeal.nD Cert.MergeHostIdeal.τ).loc Cert.MergeHostIdeal.main_arg3)
          ∧ r.2.mem ((c.tc : Thread Cert.MergeHostIdeal.nD Cert.MergeHostIdeal.τ).loc Cert.MergeHostIdeal.main_arg4) = m' ((c.tc : Thread Cert.MergeHostIdeal.nD Cert.MergeHostIdeal.τ).loc Cert.MergeHostIdeal.main_arg4)
          ∧ r.2.mem ((c.tc : Thread Cert.MergeHostIdeal.nD Cert.MergeHostIdeal.τ).loc Cert.MergeHostIdeal.main_arg5) = m' ((c.tc : Thread Cert.MergeHostIdeal.nD Cert.MergeHostIdeal.τ).loc Cert.MergeHostIdeal.main_arg5)
          ∧ r.2.mem ((c.tc : Thread Cert.MergeHostIdeal.nD Cert.MergeHostIdeal.τ).loc Cert.MergeHostIdeal.main_arg6) = m' ((c.tc : Thread Cert.MergeHostIdeal.nD Cert.MergeHostIdeal.τ).loc Cert.MergeHostIdeal.main_arg6)
          ∧ r.2.mem ((c.tc : Thread Cert.MergeHostIdeal.nD Cert.MergeHostIdeal.τ).loc Cert.MergeHostIdeal.main_arg7) = m' ((c.tc : Thread Cert.MergeHostIdeal.nD Cert.MergeHostIdeal.τ).loc Cert.MergeHostIdeal.main_arg7)
          ∧ r.2.mem ((c.tc : Thread Cert.MergeHostIdeal.nD Cert.MergeHostIdeal.τ).loc Cert.MergeHostIdeal.main_arg8) = m' ((c.tc : Thread Cert.MergeHostIdeal.nD Cert.MergeHostIdeal.τ).loc Cert.MergeHostIdeal.main_arg8)
          ∧ r.2.mem ((c.tc : Thread Cert.MergeHostIdeal.nD Cert.MergeHostIdeal.τ).loc Cert.MergeHostIdeal.main_arg9) = m' ((c.tc : Thread Cert.MergeHostIdeal.nD Cert.MergeHostIdeal.τ).loc Cert.MergeHostIdeal.main_arg9)
          ∧ r.2.mem ((c.tc : Thread Cert.MergeHostIdeal.nD Cert.MergeHostIdeal.τ).loc Cert.MergeHostIdeal.main_arg10) = m' ((c.tc : Thread Cert.MergeHostIdeal.nD Cert.MergeHostIdeal.τ).loc Cert.MergeHostIdeal.main_arg10))

def preserves_Look_LookIdeal : Prop :=
  IdealRules.named_const.Statement Cert.LookIdeal.κ "mask" .f32 0xF149F2CA#32 ⊥

def preserves_Weights_WeightsIdeal : Prop :=
  True

def algebraic_WeightsIdeal_WeightsGradIdeal [hWeightsIdeal : Cert.WeightsIdeal.Facts] [hWeightsGradIdeal : Cert.WeightsGradIdeal.Facts] : Prop :=
  ∀ (m : (ℓ : Loc Cert.WeightsIdeal.nD Cert.WeightsIdeal.τ Cert.WeightsIdeal.sig) → Buf (Elt Ideal) ℓ) (g : Dev Cert.WeightsIdeal.nD → PrngReg)
    (m' : (ℓ : Loc Cert.WeightsGradIdeal.nD Cert.WeightsGradIdeal.τ Cert.WeightsGradIdeal.sig) → Buf (Elt Ideal) ℓ) (g' : Dev Cert.WeightsGradIdeal.nD → PrngReg), Pre_WeightsIdeal m →
    (∀ c : Dev Cert.WeightsIdeal.nD,
      m' ((c.tc : Thread Cert.WeightsGradIdeal.nD Cert.WeightsGradIdeal.τ).loc Cert.WeightsGradIdeal.main_arg0) = m ((c.tc : Thread Cert.WeightsIdeal.nD Cert.WeightsIdeal.τ).loc Cert.WeightsIdeal.main_arg0)
      ∧ m' ((c.tc : Thread Cert.WeightsGradIdeal.nD Cert.WeightsGradIdeal.τ).loc Cert.WeightsGradIdeal.main_arg1) = m ((c.tc : Thread Cert.WeightsIdeal.nD Cert.WeightsIdeal.τ).loc Cert.WeightsIdeal.main_arg1)) →
    ∃ (v0 : (c : Dev Cert.WeightsIdeal.nD) → Buf (Elt Ideal) ((c.tc : Thread Cert.WeightsIdeal.nD Cert.WeightsIdeal.τ).loc Cert.WeightsIdeal.main_v3)),
      θ_run (Cert.WeightsIdeal.defs (F := Ideal)) (onTc (τ := Cert.WeightsIdeal.τ) (Cert.WeightsIdeal.main (F := Ideal))) ⟨m, fun _ => 0, g⟩ (fun r => ∀ c : Dev Cert.WeightsIdeal.nD,
          r.2.mem ((c.tc : Thread Cert.WeightsIdeal.nD Cert.WeightsIdeal.τ).loc Cert.WeightsIdeal.main_v3) = v0 c
          ∧ r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
          ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1))
      ∧ θ_run (Cert.WeightsGradIdeal.defs (F := Ideal)) (onTc (τ := Cert.WeightsGradIdeal.τ) (Cert.WeightsGradIdeal.main (F := Ideal))) ⟨m', fun _ => 0, g'⟩ (fun r => ∀ c : Dev Cert.WeightsGradIdeal.nD,
          r.2.mem ((c.tc : Thread Cert.WeightsGradIdeal.nD Cert.WeightsGradIdeal.τ).loc Cert.WeightsGradIdeal.main_v6) = v0 c
          ∧ r.2.mem ((c.tc : Thread Cert.WeightsGradIdeal.nD Cert.WeightsGradIdeal.τ).loc Cert.WeightsGradIdeal.main_arg0) = m' ((c.tc : Thread Cert.WeightsGradIdeal.nD Cert.WeightsGradIdeal.τ).loc Cert.WeightsGradIdeal.main_arg0)
          ∧ r.2.mem ((c.tc : Thread Cert.WeightsGradIdeal.nD Cert.WeightsGradIdeal.τ).loc Cert.WeightsGradIdeal.main_arg1) = m' ((c.tc : Thread Cert.WeightsGradIdeal.nD Cert.WeightsGradIdeal.τ).loc Cert.WeightsGradIdeal.main_arg1))

def preserves_Adam_AdamIdeal : Prop :=
  True

def algebraic_AdamIdeal_AdamHostIdeal [hAdamIdeal : Cert.AdamIdeal.Facts] [hAdamHostIdeal : Cert.AdamHostIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamHostIdeal.nD Cert.AdamHostIdeal.τ Cert.AdamHostIdeal.sig) → Buf (Elt Ideal) ℓ) (g' : Dev Cert.AdamHostIdeal.nD → PrngReg), Pre_AdamIdeal m →
    (∀ c : Dev Cert.AdamIdeal.nD,
      m' ((c.tc : Thread Cert.AdamHostIdeal.nD Cert.AdamHostIdeal.τ).loc Cert.AdamHostIdeal.main_arg0) = m ((c.tc : Thread Cert.AdamIdeal.nD Cert.AdamIdeal.τ).loc Cert.AdamIdeal.main_arg0)
      ∧ m' ((c.tc : Thread Cert.AdamHostIdeal.nD Cert.AdamHostIdeal.τ).loc Cert.AdamHostIdeal.main_arg1) = m ((c.tc : Thread Cert.AdamIdeal.nD Cert.AdamIdeal.τ).loc Cert.AdamIdeal.main_arg1)
      ∧ m' ((c.tc : Thread Cert.AdamHostIdeal.nD Cert.AdamHostIdeal.τ).loc Cert.AdamHostIdeal.main_arg2) = m ((c.tc : Thread Cert.AdamIdeal.nD Cert.AdamIdeal.τ).loc Cert.AdamIdeal.main_arg2)
      ∧ m' ((c.tc : Thread Cert.AdamHostIdeal.nD Cert.AdamHostIdeal.τ).loc Cert.AdamHostIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v1_0)) (v1 : (c : Dev Cert.AdamIdeal.nD) → Buf (Elt Ideal) ((c.tc : Thread Cert.AdamIdeal.nD Cert.AdamIdeal.τ).loc Cert.AdamIdeal.main_v1_1)) (v2 : (c : Dev Cert.AdamIdeal.nD) → Buf (Elt Ideal) ((c.tc : Thread Cert.AdamIdeal.nD Cert.AdamIdeal.τ).loc Cert.AdamIdeal.main_v1_2)) (v3 : (c : Dev Cert.AdamIdeal.nD) → Buf (Elt Ideal) ((c.tc : Thread Cert.AdamIdeal.nD Cert.AdamIdeal.τ).loc Cert.AdamIdeal.main_v1_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v1_0) = v0 c
          ∧ r.2.mem ((c.tc : Thread Cert.AdamIdeal.nD Cert.AdamIdeal.τ).loc Cert.AdamIdeal.main_v1_1) = v1 c
          ∧ r.2.mem ((c.tc : Thread Cert.AdamIdeal.nD Cert.AdamIdeal.τ).loc Cert.AdamIdeal.main_v1_2) = v2 c
          ∧ r.2.mem ((c.tc : Thread Cert.AdamIdeal.nD Cert.AdamIdeal.τ).loc Cert.AdamIdeal.main_v1_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamHostIdeal.defs (F := Ideal)) (onTc (τ := Cert.AdamHostIdeal.τ) (Cert.AdamHostIdeal.main (F := Ideal))) ⟨m', fun _ => 0, g'⟩ (fun r => ∀ c : Dev Cert.AdamHostIdeal.nD,
          r.2.mem ((c.tc : Thread Cert.AdamHostIdeal.nD Cert.AdamHostIdeal.τ).loc Cert.AdamHostIdeal.main_v0) = v0 c
          ∧ r.2.mem ((c.tc : Thread Cert.AdamHostIdeal.nD Cert.AdamHostIdeal.τ).loc Cert.AdamHostIdeal.main_v24) = v1 c
          ∧ r.2.mem ((c.tc : Thread Cert.AdamHostIdeal.nD Cert.AdamHostIdeal.τ).loc Cert.AdamHostIdeal.main_v5) = v2 c
          ∧ r.2.mem ((c.tc : Thread Cert.AdamHostIdeal.nD Cert.AdamHostIdeal.τ).loc Cert.AdamHostIdeal.main_v11) = v3 c
          ∧ r.2.mem ((c.tc : Thread Cert.AdamHostIdeal.nD Cert.AdamHostIdeal.τ).loc Cert.AdamHostIdeal.main_arg0) = m' ((c.tc : Thread Cert.AdamHostIdeal.nD Cert.AdamHostIdeal.τ).loc Cert.AdamHostIdeal.main_arg0)
          ∧ r.2.mem ((c.tc : Thread Cert.AdamHostIdeal.nD Cert.AdamHostIdeal.τ).loc Cert.AdamHostIdeal.main_arg1) = m' ((c.tc : Thread Cert.AdamHostIdeal.nD Cert.AdamHostIdeal.τ).loc Cert.AdamHostIdeal.main_arg1)
          ∧ r.2.mem ((c.tc : Thread Cert.AdamHostIdeal.nD Cert.AdamHostIdeal.τ).loc Cert.AdamHostIdeal.main_arg2) = m' ((c.tc : Thread Cert.AdamHostIdeal.nD Cert.AdamHostIdeal.τ).loc Cert.AdamHostIdeal.main_arg2)
          ∧ r.2.mem ((c.tc : Thread Cert.AdamHostIdeal.nD Cert.AdamHostIdeal.τ).loc Cert.AdamHostIdeal.main_arg3) = m' ((c.tc : Thread Cert.AdamHostIdeal.nD Cert.AdamHostIdeal.τ).loc Cert.AdamHostIdeal.main_arg3))

def preserves_Update_UpdateIdeal : Prop :=
  True

def algebraic_UpdateIdeal_UpdateHostIdeal [hUpdateIdeal : Cert.UpdateIdeal.Facts] [hUpdateHostIdeal : Cert.UpdateHostIdeal.Facts] : Prop :=
  ∀ (m : (ℓ : Loc Cert.UpdateIdeal.nD Cert.UpdateIdeal.τ Cert.UpdateIdeal.sig) → Buf (Elt Ideal) ℓ) (g : Dev Cert.UpdateIdeal.nD → PrngReg)
    (m' : (ℓ : Loc Cert.UpdateHostIdeal.nD Cert.UpdateHostIdeal.τ Cert.UpdateHostIdeal.sig) → Buf (Elt Ideal) ℓ) (g' : Dev Cert.UpdateHostIdeal.nD → PrngReg), Pre_UpdateIdeal m →
    (∀ c : Dev Cert.UpdateIdeal.nD,
      m' ((c.tc : Thread Cert.UpdateHostIdeal.nD Cert.UpdateHostIdeal.τ).loc Cert.UpdateHostIdeal.main_arg0) = m ((c.tc : Thread Cert.UpdateIdeal.nD Cert.UpdateIdeal.τ).loc Cert.UpdateIdeal.main_arg0)
      ∧ m' ((c.tc : Thread Cert.UpdateHostIdeal.nD Cert.UpdateHostIdeal.τ).loc Cert.UpdateHostIdeal.main_arg1) = m ((c.tc : Thread Cert.UpdateIdeal.nD Cert.UpdateIdeal.τ).loc Cert.UpdateIdeal.main_arg1)
      ∧ m' ((c.tc : Thread Cert.UpdateHostIdeal.nD Cert.UpdateHostIdeal.τ).loc Cert.UpdateHostIdeal.main_arg2) = m ((c.tc : Thread Cert.UpdateIdeal.nD Cert.UpdateIdeal.τ).loc Cert.UpdateIdeal.main_arg2)
      ∧ m' ((c.tc : Thread Cert.UpdateHostIdeal.nD Cert.UpdateHostIdeal.τ).loc Cert.UpdateHostIdeal.main_arg3) = m ((c.tc : Thread Cert.UpdateIdeal.nD Cert.UpdateIdeal.τ).loc Cert.UpdateIdeal.main_arg3)
      ∧ m' ((c.tc : Thread Cert.UpdateHostIdeal.nD Cert.UpdateHostIdeal.τ).loc Cert.UpdateHostIdeal.main_arg4) = m ((c.tc : Thread Cert.UpdateIdeal.nD Cert.UpdateIdeal.τ).loc Cert.UpdateIdeal.main_arg4)
      ∧ m' ((c.tc : Thread Cert.UpdateHostIdeal.nD Cert.UpdateHostIdeal.τ).loc Cert.UpdateHostIdeal.main_arg5) = m ((c.tc : Thread Cert.UpdateIdeal.nD Cert.UpdateIdeal.τ).loc Cert.UpdateIdeal.main_arg5)
      ∧ m' ((c.tc : Thread Cert.UpdateHostIdeal.nD Cert.UpdateHostIdeal.τ).loc Cert.UpdateHostIdeal.main_arg6) = m ((c.tc : Thread Cert.UpdateIdeal.nD Cert.UpdateIdeal.τ).loc Cert.UpdateIdeal.main_arg6)
      ∧ m' ((c.tc : Thread Cert.UpdateHostIdeal.nD Cert.UpdateHostIdeal.τ).loc Cert.UpdateHostIdeal.main_arg7) = m ((c.tc : Thread Cert.UpdateIdeal.nD Cert.UpdateIdeal.τ).loc Cert.UpdateIdeal.main_arg7)
      ∧ m' ((c.tc : Thread Cert.UpdateHostIdeal.nD Cert.UpdateHostIdeal.τ).loc Cert.UpdateHostIdeal.main_arg8) = m ((c.tc : Thread Cert.UpdateIdeal.nD Cert.UpdateIdeal.τ).loc Cert.UpdateIdeal.main_arg8)
      ∧ m' ((c.tc : Thread Cert.UpdateHostIdeal.nD Cert.UpdateHostIdeal.τ).loc Cert.UpdateHostIdeal.main_arg9) = m ((c.tc : Thread Cert.UpdateIdeal.nD Cert.UpdateIdeal.τ).loc Cert.UpdateIdeal.main_arg9)
      ∧ m' ((c.tc : Thread Cert.UpdateHostIdeal.nD Cert.UpdateHostIdeal.τ).loc Cert.UpdateHostIdeal.main_arg10) = m ((c.tc : Thread Cert.UpdateIdeal.nD Cert.UpdateIdeal.τ).loc Cert.UpdateIdeal.main_arg10)
      ∧ m' ((c.tc : Thread Cert.UpdateHostIdeal.nD Cert.UpdateHostIdeal.τ).loc Cert.UpdateHostIdeal.main_arg11) = m ((c.tc : Thread Cert.UpdateIdeal.nD Cert.UpdateIdeal.τ).loc Cert.UpdateIdeal.main_arg11)) →
    ∃ (v0 : (c : Dev Cert.UpdateIdeal.nD) → Buf (Elt Ideal) ((c.tc : Thread Cert.UpdateIdeal.nD Cert.UpdateIdeal.τ).loc Cert.UpdateIdeal.main_v11_0)) (v1 : (c : Dev Cert.UpdateIdeal.nD) → Buf (Elt Ideal) ((c.tc : Thread Cert.UpdateIdeal.nD Cert.UpdateIdeal.τ).loc Cert.UpdateIdeal.main_v11_1)) (v2 : (c : Dev Cert.UpdateIdeal.nD) → Buf (Elt Ideal) ((c.tc : Thread Cert.UpdateIdeal.nD Cert.UpdateIdeal.τ).loc Cert.UpdateIdeal.main_v11_2)) (v3 : (c : Dev Cert.UpdateIdeal.nD) → Buf (Elt Ideal) ((c.tc : Thread Cert.UpdateIdeal.nD Cert.UpdateIdeal.τ).loc Cert.UpdateIdeal.main_v11_3)) (v4 : (c : Dev Cert.UpdateIdeal.nD) → Buf (Elt Ideal) ((c.tc : Thread Cert.UpdateIdeal.nD Cert.UpdateIdeal.τ).loc Cert.UpdateIdeal.main_v11_4)) (v5 : (c : Dev Cert.UpdateIdeal.nD) → Buf (Elt Ideal) ((c.tc : Thread Cert.UpdateIdeal.nD Cert.UpdateIdeal.τ).loc Cert.UpdateIdeal.main_v11_5)) (v6 : (c : Dev Cert.UpdateIdeal.nD) → Buf (Elt Ideal) ((c.tc : Thread Cert.UpdateIdeal.nD Cert.UpdateIdeal.τ).loc Cert.UpdateIdeal.main_v11_6)) (v7 : (c : Dev Cert.UpdateIdeal.nD) → Buf (Elt Ideal) ((c.tc : Thread Cert.UpdateIdeal.nD Cert.UpdateIdeal.τ).loc Cert.UpdateIdeal.main_v11_7)) (v8 : (c : Dev Cert.UpdateIdeal.nD) → Buf (Elt Ideal) ((c.tc : Thread Cert.UpdateIdeal.nD Cert.UpdateIdeal.τ).loc Cert.UpdateIdeal.main_v11_8)) (v9 : (c : Dev Cert.UpdateIdeal.nD) → Buf (Elt Ideal) ((c.tc : Thread Cert.UpdateIdeal.nD Cert.UpdateIdeal.τ).loc Cert.UpdateIdeal.main_v11_9)) (v10 : (c : Dev Cert.UpdateIdeal.nD) → Buf (Elt Ideal) ((c.tc : Thread Cert.UpdateIdeal.nD Cert.UpdateIdeal.τ).loc Cert.UpdateIdeal.main_v11_10)) (v11 : (c : Dev Cert.UpdateIdeal.nD) → Buf (Elt Ideal) ((c.tc : Thread Cert.UpdateIdeal.nD Cert.UpdateIdeal.τ).loc Cert.UpdateIdeal.main_v11_11)),
      θ_run (Cert.UpdateIdeal.defs (F := Ideal)) (onTc (τ := Cert.UpdateIdeal.τ) (Cert.UpdateIdeal.main (F := Ideal))) ⟨m, fun _ => 0, g⟩ (fun r => ∀ c : Dev Cert.UpdateIdeal.nD,
          r.2.mem ((c.tc : Thread Cert.UpdateIdeal.nD Cert.UpdateIdeal.τ).loc Cert.UpdateIdeal.main_v11_0) = v0 c
          ∧ r.2.mem ((c.tc : Thread Cert.UpdateIdeal.nD Cert.UpdateIdeal.τ).loc Cert.UpdateIdeal.main_v11_1) = v1 c
          ∧ r.2.mem ((c.tc : Thread Cert.UpdateIdeal.nD Cert.UpdateIdeal.τ).loc Cert.UpdateIdeal.main_v11_2) = v2 c
          ∧ r.2.mem ((c.tc : Thread Cert.UpdateIdeal.nD Cert.UpdateIdeal.τ).loc Cert.UpdateIdeal.main_v11_3) = v3 c
          ∧ r.2.mem ((c.tc : Thread Cert.UpdateIdeal.nD Cert.UpdateIdeal.τ).loc Cert.UpdateIdeal.main_v11_4) = v4 c
          ∧ r.2.mem ((c.tc : Thread Cert.UpdateIdeal.nD Cert.UpdateIdeal.τ).loc Cert.UpdateIdeal.main_v11_5) = v5 c
          ∧ r.2.mem ((c.tc : Thread Cert.UpdateIdeal.nD Cert.UpdateIdeal.τ).loc Cert.UpdateIdeal.main_v11_6) = v6 c
          ∧ r.2.mem ((c.tc : Thread Cert.UpdateIdeal.nD Cert.UpdateIdeal.τ).loc Cert.UpdateIdeal.main_v11_7) = v7 c
          ∧ r.2.mem ((c.tc : Thread Cert.UpdateIdeal.nD Cert.UpdateIdeal.τ).loc Cert.UpdateIdeal.main_v11_8) = v8 c
          ∧ r.2.mem ((c.tc : Thread Cert.UpdateIdeal.nD Cert.UpdateIdeal.τ).loc Cert.UpdateIdeal.main_v11_9) = v9 c
          ∧ r.2.mem ((c.tc : Thread Cert.UpdateIdeal.nD Cert.UpdateIdeal.τ).loc Cert.UpdateIdeal.main_v11_10) = v10 c
          ∧ r.2.mem ((c.tc : Thread Cert.UpdateIdeal.nD Cert.UpdateIdeal.τ).loc Cert.UpdateIdeal.main_v11_11) = v11 c
          ∧ r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
          ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
          ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
          ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3)
          ∧ r.2.mem ((c.tc : Thread Cert.UpdateIdeal.nD Cert.UpdateIdeal.τ).loc Cert.UpdateIdeal.main_arg4) = m ((c.tc : Thread Cert.UpdateIdeal.nD Cert.UpdateIdeal.τ).loc Cert.UpdateIdeal.main_arg4)
          ∧ r.2.mem ((c.tc : Thread Cert.UpdateIdeal.nD Cert.UpdateIdeal.τ).loc Cert.UpdateIdeal.main_arg5) = m ((c.tc : Thread Cert.UpdateIdeal.nD Cert.UpdateIdeal.τ).loc Cert.UpdateIdeal.main_arg5)
          ∧ r.2.mem ((c.tc : Thread Cert.UpdateIdeal.nD Cert.UpdateIdeal.τ).loc Cert.UpdateIdeal.main_arg6) = m ((c.tc : Thread Cert.UpdateIdeal.nD Cert.UpdateIdeal.τ).loc Cert.UpdateIdeal.main_arg6)
          ∧ r.2.mem ((c.tc : Thread Cert.UpdateIdeal.nD Cert.UpdateIdeal.τ).loc Cert.UpdateIdeal.main_arg7) = m ((c.tc : Thread Cert.UpdateIdeal.nD Cert.UpdateIdeal.τ).loc Cert.UpdateIdeal.main_arg7)
          ∧ r.2.mem ((c.tc : Thread Cert.UpdateIdeal.nD Cert.UpdateIdeal.τ).loc Cert.UpdateIdeal.main_arg8) = m ((c.tc : Thread Cert.UpdateIdeal.nD Cert.UpdateIdeal.τ).loc Cert.UpdateIdeal.main_arg8)
          ∧ r.2.mem ((c.tc : Thread Cert.UpdateIdeal.nD Cert.UpdateIdeal.τ).loc Cert.UpdateIdeal.main_arg9) = m ((c.tc : Thread Cert.UpdateIdeal.nD Cert.UpdateIdeal.τ).loc Cert.UpdateIdeal.main_arg9)
          ∧ r.2.mem ((c.tc : Thread Cert.UpdateIdeal.nD Cert.UpdateIdeal.τ).loc Cert.UpdateIdeal.main_arg10) = m ((c.tc : Thread Cert.UpdateIdeal.nD Cert.UpdateIdeal.τ).loc Cert.UpdateIdeal.main_arg10)
          ∧ r.2.mem ((c.tc : Thread Cert.UpdateIdeal.nD Cert.UpdateIdeal.τ).loc Cert.UpdateIdeal.main_arg11) = m ((c.tc : Thread Cert.UpdateIdeal.nD Cert.UpdateIdeal.τ).loc Cert.UpdateIdeal.main_arg11))
      ∧ θ_run (Cert.UpdateHostIdeal.defs (F := Ideal)) (onTc (τ := Cert.UpdateHostIdeal.τ) (Cert.UpdateHostIdeal.main (F := Ideal))) ⟨m', fun _ => 0, g'⟩ (fun r => ∀ c : Dev Cert.UpdateHostIdeal.nD,
          r.2.mem ((c.tc : Thread Cert.UpdateHostIdeal.nD Cert.UpdateHostIdeal.τ).loc Cert.UpdateHostIdeal.main_v75) = v0 c
          ∧ r.2.mem ((c.tc : Thread Cert.UpdateHostIdeal.nD Cert.UpdateHostIdeal.τ).loc Cert.UpdateHostIdeal.main_v76) = v1 c
          ∧ r.2.mem ((c.tc : Thread Cert.UpdateHostIdeal.nD Cert.UpdateHostIdeal.τ).loc Cert.UpdateHostIdeal.main_v77) = v2 c
          ∧ r.2.mem ((c.tc : Thread Cert.UpdateHostIdeal.nD Cert.UpdateHostIdeal.τ).loc Cert.UpdateHostIdeal.main_v78) = v3 c
          ∧ r.2.mem ((c.tc : Thread Cert.UpdateHostIdeal.nD Cert.UpdateHostIdeal.τ).loc Cert.UpdateHostIdeal.main_v79) = v4 c
          ∧ r.2.mem ((c.tc : Thread Cert.UpdateHostIdeal.nD Cert.UpdateHostIdeal.τ).loc Cert.UpdateHostIdeal.main_v80) = v5 c
          ∧ r.2.mem ((c.tc : Thread Cert.UpdateHostIdeal.nD Cert.UpdateHostIdeal.τ).loc Cert.UpdateHostIdeal.main_v81) = v6 c
          ∧ r.2.mem ((c.tc : Thread Cert.UpdateHostIdeal.nD Cert.UpdateHostIdeal.τ).loc Cert.UpdateHostIdeal.main_v82) = v7 c
          ∧ r.2.mem ((c.tc : Thread Cert.UpdateHostIdeal.nD Cert.UpdateHostIdeal.τ).loc Cert.UpdateHostIdeal.main_v50) = v8 c
          ∧ r.2.mem ((c.tc : Thread Cert.UpdateHostIdeal.nD Cert.UpdateHostIdeal.τ).loc Cert.UpdateHostIdeal.main_v74) = v9 c
          ∧ r.2.mem ((c.tc : Thread Cert.UpdateHostIdeal.nD Cert.UpdateHostIdeal.τ).loc Cert.UpdateHostIdeal.main_v55) = v10 c
          ∧ r.2.mem ((c.tc : Thread Cert.UpdateHostIdeal.nD Cert.UpdateHostIdeal.τ).loc Cert.UpdateHostIdeal.main_v61) = v11 c
          ∧ r.2.mem ((c.tc : Thread Cert.UpdateHostIdeal.nD Cert.UpdateHostIdeal.τ).loc Cert.UpdateHostIdeal.main_arg0) = m' ((c.tc : Thread Cert.UpdateHostIdeal.nD Cert.UpdateHostIdeal.τ).loc Cert.UpdateHostIdeal.main_arg0)
          ∧ r.2.mem ((c.tc : Thread Cert.UpdateHostIdeal.nD Cert.UpdateHostIdeal.τ).loc Cert.UpdateHostIdeal.main_arg1) = m' ((c.tc : Thread Cert.UpdateHostIdeal.nD Cert.UpdateHostIdeal.τ).loc Cert.UpdateHostIdeal.main_arg1)
          ∧ r.2.mem ((c.tc : Thread Cert.UpdateHostIdeal.nD Cert.UpdateHostIdeal.τ).loc Cert.UpdateHostIdeal.main_arg2) = m' ((c.tc : Thread Cert.UpdateHostIdeal.nD Cert.UpdateHostIdeal.τ).loc Cert.UpdateHostIdeal.main_arg2)
          ∧ r.2.mem ((c.tc : Thread Cert.UpdateHostIdeal.nD Cert.UpdateHostIdeal.τ).loc Cert.UpdateHostIdeal.main_arg3) = m' ((c.tc : Thread Cert.UpdateHostIdeal.nD Cert.UpdateHostIdeal.τ).loc Cert.UpdateHostIdeal.main_arg3)
          ∧ r.2.mem ((c.tc : Thread Cert.UpdateHostIdeal.nD Cert.UpdateHostIdeal.τ).loc Cert.UpdateHostIdeal.main_arg4) = m' ((c.tc : Thread Cert.UpdateHostIdeal.nD Cert.UpdateHostIdeal.τ).loc Cert.UpdateHostIdeal.main_arg4)
          ∧ r.2.mem ((c.tc : Thread Cert.UpdateHostIdeal.nD Cert.UpdateHostIdeal.τ).loc Cert.UpdateHostIdeal.main_arg5) = m' ((c.tc : Thread Cert.UpdateHostIdeal.nD Cert.UpdateHostIdeal.τ).loc Cert.UpdateHostIdeal.main_arg5)
          ∧ r.2.mem ((c.tc : Thread Cert.UpdateHostIdeal.nD Cert.UpdateHostIdeal.τ).loc Cert.UpdateHostIdeal.main_arg6) = m' ((c.tc : Thread Cert.UpdateHostIdeal.nD Cert.UpdateHostIdeal.τ).loc Cert.UpdateHostIdeal.main_arg6)
          ∧ r.2.mem ((c.tc : Thread Cert.UpdateHostIdeal.nD Cert.UpdateHostIdeal.τ).loc Cert.UpdateHostIdeal.main_arg7) = m' ((c.tc : Thread Cert.UpdateHostIdeal.nD Cert.UpdateHostIdeal.τ).loc Cert.UpdateHostIdeal.main_arg7)
          ∧ r.2.mem ((c.tc : Thread Cert.UpdateHostIdeal.nD Cert.UpdateHostIdeal.τ).loc Cert.UpdateHostIdeal.main_arg8) = m' ((c.tc : Thread Cert.UpdateHostIdeal.nD Cert.UpdateHostIdeal.τ).loc Cert.UpdateHostIdeal.main_arg8)
          ∧ r.2.mem ((c.tc : Thread Cert.UpdateHostIdeal.nD Cert.UpdateHostIdeal.τ).loc Cert.UpdateHostIdeal.main_arg9) = m' ((c.tc : Thread Cert.UpdateHostIdeal.nD Cert.UpdateHostIdeal.τ).loc Cert.UpdateHostIdeal.main_arg9)
          ∧ r.2.mem ((c.tc : Thread Cert.UpdateHostIdeal.nD Cert.UpdateHostIdeal.τ).loc Cert.UpdateHostIdeal.main_arg10) = m' ((c.tc : Thread Cert.UpdateHostIdeal.nD Cert.UpdateHostIdeal.τ).loc Cert.UpdateHostIdeal.main_arg10)
          ∧ r.2.mem ((c.tc : Thread Cert.UpdateHostIdeal.nD Cert.UpdateHostIdeal.τ).loc Cert.UpdateHostIdeal.main_arg11) = m' ((c.tc : Thread Cert.UpdateHostIdeal.nD Cert.UpdateHostIdeal.τ).loc Cert.UpdateHostIdeal.main_arg11))

def Claim : Prop :=
  ∃ (hMix : Cert.Mix.Facts) (hMixIdeal : Cert.MixIdeal.Facts) (hMixGradIdeal : Cert.MixGradIdeal.Facts) (hDown : Cert.Down.Facts) (hDownIdeal : Cert.DownIdeal.Facts) (hDownGradIdeal : Cert.DownGradIdeal.Facts) (hNorm : Cert.Norm.Facts) (hNormIdeal : Cert.NormIdeal.Facts) (hNormGradIdeal : Cert.NormGradIdeal.Facts) (hInp : Cert.Inp.Facts) (hInpIdeal : Cert.InpIdeal.Facts) (hInpGradIdeal : Cert.InpGradIdeal.Facts) (hFfnBwd : Cert.FfnBwd.Facts) (hFfnBwdIdeal : Cert.FfnBwdIdeal.Facts) (hFfnGradIdeal : Cert.FfnGradIdeal.Facts) (hAttn : Cert.Attn.Facts) (hAttnIdeal : Cert.AttnIdeal.Facts) (hAttnGradIdeal : Cert.AttnGradIdeal.Facts) (hUp : Cert.Up.Facts) (hUpIdeal : Cert.UpIdeal.Facts) (hUpHostIdeal : Cert.UpHostIdeal.Facts) (hProj : Cert.Proj.Facts) (hProjIdeal : Cert.ProjIdeal.Facts) (hProjHostIdeal : Cert.ProjHostIdeal.Facts) (hMerge : Cert.Merge.Facts) (hMergeIdeal : Cert.MergeIdeal.Facts) (hMergeHostIdeal : Cert.MergeHostIdeal.Facts) (hLook : Cert.Look.Facts) (hLookIdeal : Cert.LookIdeal.Facts) (hLookHostIdeal : Cert.LookHostIdeal.Facts) (hWeights : Cert.Weights.Facts) (hWeightsIdeal : Cert.WeightsIdeal.Facts) (hWeightsGradIdeal : Cert.WeightsGradIdeal.Facts) (hAdam : Cert.Adam.Facts) (hAdamIdeal : Cert.AdamIdeal.Facts) (hAdamHostIdeal : Cert.AdamHostIdeal.Facts) (hUpdate : Cert.Update.Facts) (hUpdateIdeal : Cert.UpdateIdeal.Facts) (hUpdateHostIdeal : Cert.UpdateHostIdeal.Facts) (hPre_down_finite : Cert.Pre_down_finite.Facts) (hPre_norm_finite : Cert.Pre_norm_finite.Facts) (hPre_inp_finite : Cert.Pre_inp_finite.Facts) (hPre_ffn_finite : Cert.Pre_ffn_finite.Facts) (hPre_attn_finite : Cert.Pre_attn_finite.Facts) (hPre_merge_finite : Cert.Pre_merge_finite.Facts),
    quiescent_Mix (hMix := hMix)
    ∧ quiescent_MixIdeal (hMixIdeal := hMixIdeal)
    ∧ quiescent_MixGradIdeal (hMixGradIdeal := hMixGradIdeal)
    ∧ quiescent_Down (hDown := hDown)
    ∧ quiescent_DownIdeal (hDownIdeal := hDownIdeal)
    ∧ quiescent_DownIdeal_pre_down_finite (hDownIdeal := hDownIdeal) (hPre_down_finite := hPre_down_finite)
    ∧ quiescent_DownGradIdeal (hDownGradIdeal := hDownGradIdeal)
    ∧ quiescent_DownGradIdeal_pre_down_finite (hDownGradIdeal := hDownGradIdeal) (hPre_down_finite := hPre_down_finite)
    ∧ quiescent_Norm (hNorm := hNorm)
    ∧ quiescent_NormIdeal (hNormIdeal := hNormIdeal)
    ∧ quiescent_NormIdeal_pre_norm_finite (hNormIdeal := hNormIdeal) (hPre_norm_finite := hPre_norm_finite)
    ∧ quiescent_NormGradIdeal (hNormGradIdeal := hNormGradIdeal)
    ∧ quiescent_NormGradIdeal_pre_norm_finite (hNormGradIdeal := hNormGradIdeal) (hPre_norm_finite := hPre_norm_finite)
    ∧ quiescent_Inp (hInp := hInp)
    ∧ quiescent_InpIdeal (hInpIdeal := hInpIdeal)
    ∧ quiescent_InpIdeal_pre_inp_finite (hInpIdeal := hInpIdeal) (hPre_inp_finite := hPre_inp_finite)
    ∧ quiescent_InpGradIdeal (hInpGradIdeal := hInpGradIdeal)
    ∧ quiescent_InpGradIdeal_pre_inp_finite (hInpGradIdeal := hInpGradIdeal) (hPre_inp_finite := hPre_inp_finite)
    ∧ quiescent_FfnBwd (hFfnBwd := hFfnBwd)
    ∧ quiescent_FfnBwdIdeal (hFfnBwdIdeal := hFfnBwdIdeal)
    ∧ quiescent_FfnBwdIdeal_pre_ffn_finite (hFfnBwdIdeal := hFfnBwdIdeal) (hPre_ffn_finite := hPre_ffn_finite)
    ∧ quiescent_FfnGradIdeal (hFfnGradIdeal := hFfnGradIdeal)
    ∧ quiescent_FfnGradIdeal_pre_ffn_finite (hFfnGradIdeal := hFfnGradIdeal) (hPre_ffn_finite := hPre_ffn_finite)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnGradIdeal (hAttnGradIdeal := hAttnGradIdeal)
    ∧ quiescent_AttnGradIdeal_pre_attn_finite (hAttnGradIdeal := hAttnGradIdeal) (hPre_attn_finite := hPre_attn_finite)
    ∧ quiescent_Up (hUp := hUp)
    ∧ quiescent_UpIdeal (hUpIdeal := hUpIdeal)
    ∧ quiescent_UpHostIdeal (hUpHostIdeal := hUpHostIdeal)
    ∧ quiescent_Proj (hProj := hProj)
    ∧ quiescent_ProjIdeal (hProjIdeal := hProjIdeal)
    ∧ quiescent_ProjHostIdeal (hProjHostIdeal := hProjHostIdeal)
    ∧ quiescent_Merge (hMerge := hMerge)
    ∧ quiescent_MergeIdeal (hMergeIdeal := hMergeIdeal)
    ∧ quiescent_MergeIdeal_pre_merge_finite (hMergeIdeal := hMergeIdeal) (hPre_merge_finite := hPre_merge_finite)
    ∧ quiescent_MergeHostIdeal (hMergeHostIdeal := hMergeHostIdeal)
    ∧ quiescent_MergeHostIdeal_pre_merge_finite (hMergeHostIdeal := hMergeHostIdeal) (hPre_merge_finite := hPre_merge_finite)
    ∧ quiescent_Look (hLook := hLook)
    ∧ quiescent_LookIdeal (hLookIdeal := hLookIdeal)
    ∧ quiescent_LookHostIdeal (hLookHostIdeal := hLookHostIdeal)
    ∧ quiescent_Weights (hWeights := hWeights)
    ∧ quiescent_WeightsIdeal (hWeightsIdeal := hWeightsIdeal)
    ∧ quiescent_WeightsGradIdeal (hWeightsGradIdeal := hWeightsGradIdeal)
    ∧ quiescent_Adam (hAdam := hAdam)
    ∧ quiescent_AdamIdeal (hAdamIdeal := hAdamIdeal)
    ∧ quiescent_AdamHostIdeal (hAdamHostIdeal := hAdamHostIdeal)
    ∧ quiescent_Update (hUpdate := hUpdate)
    ∧ quiescent_UpdateIdeal (hUpdateIdeal := hUpdateIdeal)
    ∧ quiescent_UpdateHostIdeal (hUpdateHostIdeal := hUpdateHostIdeal)
    ∧ preserves_Mix_MixIdeal
    ∧ algebraic_MixIdeal_MixGradIdeal (hMixIdeal := hMixIdeal) (hMixGradIdeal := hMixGradIdeal)
    ∧ preserves_Down_DownIdeal
    ∧ algebraic_DownIdeal_DownGradIdeal_pre_down_finite (hDownIdeal := hDownIdeal) (hDownGradIdeal := hDownGradIdeal) (hPre_down_finite := hPre_down_finite)
    ∧ preserves_Norm_NormIdeal
    ∧ algebraic_NormIdeal_NormGradIdeal_pre_norm_finite (hNormIdeal := hNormIdeal) (hNormGradIdeal := hNormGradIdeal) (hPre_norm_finite := hPre_norm_finite)
    ∧ preserves_Inp_InpIdeal
    ∧ algebraic_InpIdeal_InpGradIdeal_pre_inp_finite (hInpIdeal := hInpIdeal) (hInpGradIdeal := hInpGradIdeal) (hPre_inp_finite := hPre_inp_finite)
    ∧ preserves_FfnBwd_FfnBwdIdeal
    ∧ algebraic_FfnBwdIdeal_FfnGradIdeal_pre_ffn_finite (hFfnBwdIdeal := hFfnBwdIdeal) (hFfnGradIdeal := hFfnGradIdeal) (hPre_ffn_finite := hPre_ffn_finite)
    ∧ preserves_Attn_AttnIdeal
    ∧ algebraic_AttnIdeal_AttnGradIdeal_pre_attn_finite (hAttnIdeal := hAttnIdeal) (hAttnGradIdeal := hAttnGradIdeal) (hPre_attn_finite := hPre_attn_finite)
    ∧ preserves_Up_UpIdeal
    ∧ algebraic_UpIdeal_UpHostIdeal (hUpIdeal := hUpIdeal) (hUpHostIdeal := hUpHostIdeal)
    ∧ preserves_Proj_ProjIdeal
    ∧ algebraic_ProjIdeal_ProjHostIdeal (hProjIdeal := hProjIdeal) (hProjHostIdeal := hProjHostIdeal)
    ∧ preserves_Merge_MergeIdeal
    ∧ algebraic_MergeIdeal_MergeHostIdeal_pre_merge_finite (hMergeIdeal := hMergeIdeal) (hMergeHostIdeal := hMergeHostIdeal) (hPre_merge_finite := hPre_merge_finite)
    ∧ preserves_Look_LookIdeal
    ∧ preserves_Weights_WeightsIdeal
    ∧ algebraic_WeightsIdeal_WeightsGradIdeal (hWeightsIdeal := hWeightsIdeal) (hWeightsGradIdeal := hWeightsGradIdeal)
    ∧ preserves_Adam_AdamIdeal
    ∧ algebraic_AdamIdeal_AdamHostIdeal (hAdamIdeal := hAdamIdeal) (hAdamHostIdeal := hAdamHostIdeal)
    ∧ preserves_Update_UpdateIdeal
    ∧ algebraic_UpdateIdeal_UpdateHostIdeal (hUpdateIdeal := hUpdateIdeal) (hUpdateHostIdeal := hUpdateHostIdeal)
-- ==== Pre_attn_finite.lean ====
abbrev S2048x512 : Shape := ⟨2, ![2048, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn_part1 {F : FTy → Type} [FloatOps F] (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  main_v18

def fn {F : FTy → Type} [FloatOps F] (main_arg0 : FVec F S2048x512 .f32) (main_arg1 : FVec F S2048x512 .f32) (main_arg2 : FVec F S2048x512 .f32) (main_arg3 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S2048x512 .f32 := Host.absf main_arg3
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_v13 main_v16
-- ==== Pre_down_finite.lean ====
abbrev S2048x2816 : Shape := ⟨2, ![2048, 2816]⟩
abbrev S2816x1024 : Shape := ⟨2, ![2816, 1024]⟩
abbrev S2048x1024 : Shape := ⟨2, ![2048, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S2048x2816 .f32) (main_arg1 : FVec F S2816x1024 .f32) (main_arg2 : FVec F S2048x1024 .f32) (main_arg3 : FVec F S2048x1024 .f32) (main_arg4 : FVec F S1024 .f32) (main_arg5 : FVec F S1024 .f32) : IVec S_ 1 :=
  let main_v0 : FVec F S2048x1024 .f32 := Host.absf main_arg3
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024 .f32 := Host.absf main_arg4
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg5
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Pre_ffn_finite.lean ====
abbrev S2048x1024 : Shape := ⟨2, ![2048, 1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  main_v18

def fn {F : FTy → Type} [FloatOps F] (main_arg0 : FVec F S2048x1024 .f32) (main_arg1 : FVec F S1024x2816 .f32) (main_arg2 : FVec F S1024x2816 .f32) (main_arg3 : FVec F S3x2816 .f32) (main_arg4 : FVec F S2816 .f32) (main_arg5 : FVec F S2816x1024 .f32) (main_arg6 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x2816 .f32 := Host.absf main_arg2
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S2816x1024 .f32 := Host.absf main_arg5
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S2048x1024 .f32 := Host.absf main_arg6
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_v13 main_v16
-- ==== Pre_inp_finite.lean ====
abbrev S2048x1024 : Shape := ⟨2, ![2048, 1024]⟩
abbrev S1024x4096 : Shape := ⟨2, ![1024, 4096]⟩
abbrev S2048x512 : Shape := ⟨2, ![2048, 512]⟩
abbrev S2048x2048 : Shape := ⟨2, ![2048, 2048]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn {F : FTy → Type} [FloatOps F] (main_arg0 : FVec F S2048x1024 .f32) (main_arg1 : FVec F S1024x4096 .f32) (main_arg2 : FVec F S2048x512 .f32) (main_arg3 : FVec F S2048x512 .f32) (main_arg4 : FVec F S2048x512 .f32) (main_arg5 : FVec F S2048x512 .f32) (main_arg6 : FVec F S2048x2048 .f32) (main_arg7 : FVec F S2048x1024 .f32) : IVec S_ 1 :=
  let main_v0 : FVec F S2048x512 .f32 := Host.absf main_arg5
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  main_v3
-- ==== Pre_merge_finite.lean ====
abbrev S2048x512 : Shape := ⟨2, ![2048, 512]⟩
abbrev S2048x2048 : Shape := ⟨2, ![2048, 2048]⟩
abbrev S2048x1024 : Shape := ⟨2, ![2048, 1024]⟩
abbrev S512x1024 : Shape := ⟨2, ![512, 1024]⟩
abbrev S4x128x128 : Shape := ⟨3, ![4, 128, 128]⟩
abbrev S512 : Shape := ⟨1, ![512]⟩
abbrev S1024x1024 : Shape := ⟨2, ![1024, 1024]⟩
abbrev S1024 : Shape := ⟨1, ![1024]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn {F : FTy → Type} [FloatOps F] (main_arg0 : FVec F S2048x512 .f32) (main_arg1 : FVec F S2048x512 .f32) (main_arg2 : FVec F S2048x2048 .f32) (main_arg3 : FVec F S2048x1024 .f32) (main_arg4 : FVec F S512x1024 .f32) (main_arg5 : FVec F S4x128x128 .f32) (main_arg6 : FVec F S512 .f32) (main_arg7 : FVec F S512x1024 .f32) (main_arg8 : FVec F S1024x1024 .f32) (main_arg9 : FVec F S1024 .f32) (main_arg10 : FVec F S1024 .f32) : IVec S_ 1 :=
  let main_v0 : FVec F S2048x512 .f32 := Host.absf main_arg1
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  main_v3
-- ==== Pre_norm_finite.lean ====
abbrev S2048x1024 : Shape := ⟨2, ![2048, 1024]⟩
abbrev S1024 : Shape := ⟨1, ![1024]⟩
abbrev S1024x2816 : Shape := ⟨2, ![1024, 2816]⟩
abbrev S2048x2816 : Shape := ⟨2, ![2048, 2816]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S2048x2816 : S_.BroadcastsInDim S2048x2816 (![] : Fin 0 → Fin S2048x2816.rank)
  reducesTo_S2048x2816_S_d0_1 : S2048x2816.ReducesTo [0, 1] S_

variable [Facts]

def fn_part1 {F : FTy → Type} [FloatOps F] (main_arg6 : FVec F S2048x2816 .f32) (main_arg7 : FVec F S2048x2816 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S2048x2816 .f32 := Host.absf main_arg6
  let main_cst_6 : FVec F S_ .f32 := constant S_ .f32 0x7F800000#32
  let main_v20 : FVec F S2048x2816 .f32 := broadcastInDim S2048x2816 ![] bcast_S_S2048x2816 main_cst_6
  let main_v21 : IVec S2048x2816 1 := cmpf .olt main_v19 main_v20
  let main_c_7 : IVec S_ 1 := constantI S_ 1 1#1
  let main_v22 : IVec S_ 1 := (fun x v => Host.reduce IntOp.andi x v reducesTo_S2048x2816_S_d0_1 h_S_) main_v21 main_c_7
  let main_v23 : IVec S_ 1 := andi main_v18 main_v22
  let main_v24 : FVec F S2048x2816 .f32 := Host.absf main_arg7
  let main_cst_8 : FVec F S_ .f32 := constant S_ .f32 0x7F800000#32
  let main_v25 : FVec F S2048x2816 .f32 := broadcastInDim S2048x2816 ![] bcast_S_S2048x2816 main_cst_8
  let main_v26 : IVec S2048x2816 1 := cmpf .olt main_v24 main_v25
  let main_c_9 : IVec S_ 1 := constantI S_ 1 1#1
  let main_v27 : IVec S_ 1 := (fun x v => Host.reduce IntOp.andi x v reducesTo_S2048x2816_S_d0_1 h_S_) main_v26 main_c_9
  let main_v28 : IVec S_ 1 := andi main_v23 main_v27
  main_v28

def fn {F : FTy → Type} [FloatOps F] (main_arg0 : FVec F S2048x1024 .f32) (main_arg1 : FVec F S1024 .f32) (main_arg2 : FVec F S1024 .f32) (main_arg3 : FVec F S1024x2816 .f32) (main_arg4 : FVec F S1024x2816 .f32) (main_arg5 : FVec F S2048x1024 .f32) (main_arg6 : FVec F S2048x2816 .f32) (main_arg7 : FVec F S2048x2816 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x2816 .f32 := Host.absf main_arg3
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S1024x2816 .f32 := Host.absf main_arg4
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S2048x1024 .f32 := Host.absf main_arg5
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg6 main_arg7 main_v13 main_v16
-- ==== Mix.lean ====
abbrev S2048x512 : Shape := ⟨2, ![2048, 512]⟩
abbrev S2048x2048 : Shape := ⟨2, ![2048, 2048]⟩
abbrev S2048 : Shape := ⟨1, ![2048]⟩
abbrev S512x1024 : Shape := ⟨2, ![512, 1024]⟩
abbrev S4x128x128 : Shape := ⟨3, ![4, 128, 128]⟩
abbrev S512 : Shape := ⟨1, ![512]⟩
abbrev S1024x1024 : Shape := ⟨2, ![1024, 1024]⟩
abbrev S2048x1024 : Shape := ⟨2, ![2048, 1024]⟩
abbrev S1x2048 : Shape := ⟨2, ![1, 2048]⟩
abbrev S_ : Shape := ⟨0, ![]⟩
abbrev S2048x4x128 : Shape := ⟨3, ![2048, 4, 128]⟩
abbrev S4x128x2048 : Shape := ⟨3, ![4, 128, 2048]⟩
abbrev S1x512 : Shape := ⟨2, ![1, 512]⟩
abbrev S256x1024 : Shape := ⟨2, ![256, 1024]⟩
abbrev S256x2048 : Shape := ⟨2, ![256, 2048]⟩
abbrev S256x512 : Shape := ⟨2, ![256, 512]⟩
abbrev S1x1024 : Shape := ⟨2, ![1, 1024]⟩
abbrev S1024 : Shape := ⟨1, ![1024]⟩
abbrev S256x128 : Shape := ⟨2, ![256, 128]⟩
abbrev S1x128x128 : Shape := ⟨3, ![1, 128, 128]⟩
abbrev S128x128 : Shape := ⟨2, ![128, 128]⟩

abbrev nBuf : Space → Nat
  | .hbm => 45
  | .vmem => 29
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x2048, .f32⟩
  | .hbm, ⟨3, _⟩ => ⟨S2048, .f32⟩
  | .hbm, ⟨4, _⟩ => ⟨S512x1024, .f32⟩
  | .hbm, ⟨5, _⟩ => ⟨S4x128x128, .f32⟩
  | .hbm, ⟨6, _⟩ => ⟨S512, .f32⟩
  | .hbm, ⟨7, _⟩ => ⟨S512x1024, .f32⟩
  | .hbm, ⟨8, _⟩ => ⟨S1024x1024, .f32⟩
  | .hbm, ⟨9, _⟩ => ⟨S2048x1024, .f32⟩
  | .hbm, ⟨10, _⟩ => ⟨S1x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x1024, .f32⟩
  | .hbm, ⟨22, _⟩ => ⟨S2048x4x128, .f32⟩
  | .hbm, ⟨23, _⟩ => ⟨S4x128x2048, .f32⟩
  | .hbm, ⟨24, _⟩ => ⟨S2048x4x128, .f32⟩
  | .hbm, ⟨25, _⟩ => ⟨S2048x512, .f32⟩
  | .hbm, ⟨26, _⟩ => ⟨S1x512, .f32⟩
  | .hbm, ⟨27, _⟩ => ⟨S2048x512, .f32⟩
  | .hbm, ⟨28, _⟩ => ⟨S2048x512, .f32⟩
  | .hbm, ⟨29, _⟩ => ⟨S2048x1024, .f32⟩
  | .hbm, ⟨30, _⟩ => ⟨S2048x1024, .bf16⟩
  | .hbm, ⟨31, _⟩ => ⟨S2048x1024, .bf16⟩
  | .hbm, ⟨32, _⟩ => ⟨S2048x1024, .bf16⟩
  | .hbm, ⟨33, _⟩ => ⟨S1024x1024, .bf16⟩
  | .hbm, ⟨34, _⟩ => ⟨S512x1024, .bf16⟩
  | .hbm, ⟨35, _⟩ => ⟨S512x1024, .bf16⟩
  | .hbm, ⟨36, _⟩ => ⟨S1x512, .f32⟩
  | .hbm, ⟨37, _⟩ => ⟨S2048x2048, .bf16⟩
  | .hbm, ⟨38, _⟩ => ⟨S2048x1024, .bf16⟩
  | .hbm, ⟨39, _⟩ => ⟨S2048x1024, .bf16⟩
  | .hbm, ⟨40, _⟩ => ⟨S2048x512, .f32⟩
  | .hbm, ⟨41, _⟩ => ⟨S2048x512, .bf16⟩
  | .hbm, ⟨42, _⟩ => ⟨S2048x512, .f32⟩
  | .hbm, ⟨43, _⟩ => ⟨S1x2048, .f32⟩
  | .hbm, ⟨44, _⟩ => ⟨S1x512, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .f32⟩
  | .local _ .vmem, ⟨7, _⟩ => ⟨S256x2048, .f32⟩
  | .local _ .vmem, ⟨8, _⟩ => ⟨S256x512, .f32⟩
  | .local _ .vmem, ⟨9, _⟩ => ⟨S256x512, .f32⟩
  | .local _ .vmem, ⟨10, _⟩ => ⟨S1024x1024, .bf16⟩
  | .local _ .vmem, ⟨11, _⟩ => ⟨S512x1024, .bf16⟩
  | .local _ .vmem, ⟨12, _⟩ => ⟨S512x1024, .bf16⟩
  | .local _ .vmem, ⟨13, _⟩ => ⟨S4x128x128, .f32⟩
  | .local _ .vmem, ⟨14, _⟩ => ⟨S1x512, .f32⟩
  | .local _ .vmem, ⟨15, _⟩ => ⟨S256x2048, .bf16⟩
  | .local _ .vmem, ⟨16, _⟩ => ⟨S256x2048, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x512, .f32⟩
  | .local _ .vmem, ⟨22, _⟩ => ⟨S256x512, .f32⟩
  | .local _ .vmem, ⟨23, _⟩ => ⟨S256x512, .bf16⟩
  | .local _ .vmem, ⟨24, _⟩ => ⟨S256x512, .bf16⟩
  | .local _ .vmem, ⟨25, _⟩ => ⟨S256x512, .f32⟩
  | .local _ .vmem, ⟨26, _⟩ => ⟨S256x512, .f32⟩
  | .local _ .vmem, ⟨27, _⟩ => ⟨S1x2048, .f32⟩
  | .local _ .vmem, ⟨28, _⟩ => ⟨S1x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25_0 : Ref sig .tc := ⟨.hbm, 37, rfl⟩
abbrev main_v25_1 : Ref sig .tc := ⟨.hbm, 38, rfl⟩
abbrev main_v25_2 : Ref sig .tc := ⟨.hbm, 39, rfl⟩
abbrev main_v25_3 : Ref sig .tc := ⟨.hbm, 40, rfl⟩
abbrev main_v25_4 : Ref sig .tc := ⟨.hbm, 41, rfl⟩
abbrev main_v25_5 : Ref sig .tc := ⟨.hbm, 42, rfl⟩
abbrev main_v25_6 : Ref sig .tc := ⟨.hbm, 43, rfl⟩
abbrev main_v25_7 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg17_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem17_0 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== MixGradIdeal.lean ====
abbrev S2048x512 : Shape := ⟨2, ![2048, 512]⟩
abbrev S2048x2048 : Shape := ⟨2, ![2048, 2048]⟩
abbrev S2048 : Shape := ⟨1, ![2048]⟩
abbrev S512x1024 : Shape := ⟨2, ![512, 1024]⟩
abbrev S4x128x128 : Shape := ⟨3, ![4, 128, 128]⟩
abbrev S512 : Shape := ⟨1, ![512]⟩
abbrev S1024x1024 : Shape := ⟨2, ![1024, 1024]⟩
abbrev S2048x1024 : Shape := ⟨2, ![2048, 1024]⟩
abbrev S2048x4x128 : Shape := ⟨3, ![2048, 4, 128]⟩
abbrev S4x128x2048 : Shape := ⟨3, ![4, 128, 2048]⟩
abbrev S1x512 : Shape := ⟨2, ![1, 512]⟩
abbrev S1x2048 : Shape := ⟨2, ![1, 2048]⟩
abbrev S_ : Shape := ⟨0, ![]⟩
abbrev S4x2048x128 : Shape := ⟨3, ![4, 2048, 128]⟩

abbrev nBuf : Space → Nat
  | .hbm => 77
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x2048, .f32⟩
  | .hbm, ⟨3, _⟩ => ⟨S2048, .f32⟩
  | .hbm, ⟨4, _⟩ => ⟨S512x1024, .f32⟩
  | .hbm, ⟨5, _⟩ => ⟨S4x128x128, .f32⟩
  | .hbm, ⟨6, _⟩ => ⟨S512, .f32⟩
  | .hbm, ⟨7, _⟩ => ⟨S512x1024, .f32⟩
  | .hbm, ⟨8, _⟩ => ⟨S1024x1024, .f32⟩
  | .hbm, ⟨9, _⟩ => ⟨S2048x1024, .f32⟩
  | .hbm, ⟨10, _⟩ => ⟨S2048x4x128, .f32⟩
  | .hbm, ⟨11, _⟩ => ⟨S4x128x2048, .f32⟩
  | .hbm, ⟨12, _⟩ => ⟨S2048x4x128, .f32⟩
  | .hbm, ⟨13, _⟩ => ⟨S2048x512, .f32⟩
  | .hbm, ⟨14, _⟩ => ⟨S2048x1024, .f32⟩
  | .hbm, ⟨15, _⟩ => ⟨S1x512, .f32⟩
  | .hbm, ⟨16, _⟩ => ⟨S2048x512, .f32⟩
  | .hbm, ⟨17, _⟩ => ⟨S2048x512, .f32⟩
  | .hbm, ⟨18, _⟩ => ⟨S2048x1024, .f32⟩
  | .hbm, ⟨19, _⟩ => ⟨S1x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048x2048, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S_, .f32⟩
  | .hbm, ⟨55, _⟩ => ⟨S2048, .f32⟩
  | .hbm, ⟨56, _⟩ => ⟨S2048x512, .f32⟩
  | .hbm, ⟨57, _⟩ => ⟨S2048x512, .f32⟩
  | .hbm, ⟨58, _⟩ => ⟨S_, .f32⟩
  | .hbm, ⟨59, _⟩ => ⟨S512, .f32⟩
  | .hbm, ⟨60, _⟩ => ⟨S1x512, .f32⟩
  | .hbm, ⟨61, _⟩ => ⟨S2048x512, .f32⟩
  | .hbm, ⟨62, _⟩ => ⟨S2048x512, .f32⟩
  | .hbm, ⟨63, _⟩ => ⟨S_, .f32⟩
  | .hbm, ⟨64, _⟩ => ⟨S512, .f32⟩
  | .hbm, ⟨65, _⟩ => ⟨S2048x512, .f32⟩
  | .hbm, ⟨66, _⟩ => ⟨S2048x4x128, .f32⟩
  | .hbm, ⟨67, _⟩ => ⟨S4x128x2048, .f32⟩
  | .hbm, ⟨68, _⟩ => ⟨S4x2048x128, .f32⟩
  | .hbm, ⟨69, _⟩ => ⟨S2048x4x128, .f32⟩
  | .hbm, ⟨70, _⟩ => ⟨S2048x512, .f32⟩
  | .hbm, ⟨71, _⟩ => ⟨S2048x2048, .bf16⟩
  | .hbm, ⟨72, _⟩ => ⟨S2048x1024, .bf16⟩
  | .hbm, ⟨73, _⟩ => ⟨S2048x1024, .bf16⟩
  | .hbm, ⟨74, _⟩ => ⟨S2048x512, .bf16⟩
  | .hbm, ⟨75, _⟩ => ⟨S1x2048, .f32⟩
  | .hbm, ⟨76, _⟩ => ⟨S1x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩

abbrev nD : Nat := 1
abbrev τ : Topo := Topo.v7x

variable {F : FTy → Type} [FloatOps F]
-- ==== Down.lean ====
abbrev S2048x2816 : Shape := ⟨2, ![2048, 2816]⟩
abbrev S2816x1024 : Shape := ⟨2, ![2816, 1024]⟩
abbrev S2048x1024 : Shape := ⟨2, ![2048, 1024]⟩
abbrev S1024 : Shape := ⟨1, ![1024]⟩
abbrev S1x1024 : Shape := ⟨2, ![1, 1024]⟩
abbrev S8x128 : Shape := ⟨2, ![8, 128]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 15
  | .vmem => 16
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S2048x2816, .bf16⟩
  | .hbm, ⟨7, _⟩ => ⟨S2816x1024, .bf16⟩
  | .hbm, ⟨8, _⟩ => ⟨S1x1024, .f32⟩
  | .hbm, ⟨9, _⟩ => ⟨S1x1024, .f32⟩
  | .hbm, ⟨10, _⟩ => ⟨S2048x1024, .f32⟩
  | .hbm, ⟨11, _⟩ => ⟨S2048x1024, .bf16⟩
  | .hbm, ⟨12, _⟩ => ⟨S8x128, .f32⟩
  | .hbm, ⟨13, _⟩ => ⟨S1x1024, .f32⟩
  | .hbm, ⟨14, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S8x128, .f32⟩
  | .local _ .vmem, ⟨14, _⟩ => ⟨S1x1024, .f32⟩
  | .local _ .vmem, ⟨15, _⟩ => ⟨S1x1024, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== DownGradIdeal.lean ====
abbrev S2048x2816 : Shape := ⟨2, ![2048, 2816]⟩
abbrev S2816x1024 : Shape := ⟨2, ![2816, 1024]⟩
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S8x128 : Shape := ⟨2, ![8, 128]⟩

abbrev nBuf : Space → Nat
  | .hbm => 118
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S1x1024, .f32⟩
  | .hbm, ⟨42, _⟩ => ⟨S2048x1024, .f32⟩
  | .hbm, ⟨43, _⟩ => ⟨S2048x1024, .f32⟩
  | .hbm, ⟨44, _⟩ => ⟨S1x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048, .f32⟩
  | .hbm, ⟨54, _⟩ => ⟨S_, .f32⟩
  | .hbm, ⟨55, _⟩ => ⟨S2048, .f32⟩
  | .hbm, ⟨56, _⟩ => ⟨S2048, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S2048, .f32⟩
  | .hbm, ⟨65, _⟩ => ⟨S_, .f32⟩
  | .hbm, ⟨66, _⟩ => ⟨S2048, .f32⟩
  | .hbm, ⟨67, _⟩ => ⟨S2048, .f32⟩
  | .hbm, ⟨68, _⟩ => ⟨S2048x1024, .f32⟩
  | .hbm, ⟨69, _⟩ => ⟨S2048x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S_, .f32⟩
  | .hbm, ⟨74, _⟩ => ⟨S1024, .f32⟩
  | .hbm, ⟨75, _⟩ => ⟨S2048x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S2048x1024, .f32⟩
  | .hbm, ⟨80, _⟩ => ⟨S2048x1024, .f32⟩
  | .hbm, ⟨81, _⟩ => ⟨S_, .f32⟩
  | .hbm, ⟨82, _⟩ => ⟨S1024, .f32⟩
  | .hbm, ⟨83, _⟩ => ⟨S2048x1024, .f32⟩
  | .hbm, ⟨84, _⟩ => ⟨S_, .f32⟩
  | .hbm, ⟨85, _⟩ => ⟨S2048, .f32⟩
  | .hbm, ⟨86, _⟩ => ⟨S2048x1, .f32⟩
  | .hbm, ⟨87, _⟩ => ⟨S2048x1024, .f32⟩
  | .hbm, ⟨88, _⟩ => ⟨S2048x1024, .f32⟩
  | .hbm, ⟨89, _⟩ => ⟨S2048x1, .f32⟩
  | .hbm, ⟨90, _⟩ => ⟨S2048x1024, .f32⟩
  | .hbm, ⟨91, _⟩ => ⟨S_, .f32⟩
  | .hbm, ⟨92, _⟩ => ⟨S2048, .f32⟩
  | .hbm, ⟨93, _⟩ => ⟨S2048x1, .f32⟩
  | .hbm, ⟨94, _⟩ => ⟨S_, .f32⟩
  | .hbm, ⟨95, _⟩ => ⟨S2048x1, .f32⟩
  | .hbm, ⟨96, _⟩ => ⟨S2048x1, .f32⟩
  | .hbm, ⟨97, _⟩ => ⟨S_, .f32⟩
  | .hbm, ⟨98, _⟩ => ⟨S2048, .f32⟩
  | .hbm, ⟨99, _⟩ => ⟨S2048x1024, .f32⟩
  | .hbm, ⟨100, _⟩ => ⟨S2048x1024, .f32⟩
  | .hbm, ⟨101, _⟩ => ⟨S2048x1024, .f32⟩
  | .hbm, ⟨102, _⟩ => ⟨S_, .f32⟩
  | .hbm, ⟨103, _⟩ => ⟨S2048, .f32⟩
  | .hbm, ⟨104, _⟩ => ⟨S2048x1, .f32⟩
  | .hbm, ⟨105, _⟩ => ⟨S2048x1024, .f32⟩
  | .hbm, ⟨106, _⟩ => ⟨S2048x1, .f32⟩
  | .hbm, ⟨107, _⟩ => ⟨S_, .f32⟩
  | .hbm, ⟨108, _⟩ => ⟨S2048x1, .f32⟩
  | .hbm, ⟨109, _⟩ => ⟨S2048x1, .f32⟩
  | .hbm, ⟨110, _⟩ => ⟨S_, .f32⟩
  | .hbm, ⟨111, _⟩ => ⟨S2048, .f32⟩
  | .hbm, ⟨112, _⟩ => ⟨S2048x1024, .f32⟩
  | .hbm, ⟨113, _⟩ => ⟨S2048x1024, .f32⟩
  | .hbm, ⟨114, _⟩ => ⟨S2048x1024, .bf16⟩
  | .hbm, ⟨115, _⟩ => ⟨S8x128, .f32⟩
  | .hbm, ⟨116, _⟩ => ⟨S1x1024, .f32⟩
  | .hbm, ⟨117, _⟩ => ⟨S1x1024, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_cst_12 : Ref sig .tc := ⟨.hbm, 61, rfl⟩
abbrev main_cst_13 : Ref sig .tc := ⟨.hbm, 62, rfl⟩
abbrev main_v42 : Ref sig .tc := ⟨.hbm, 63, rfl⟩
abbrev main_v43 : Ref sig .tc := ⟨.hbm, 64, rfl⟩
abbrev main_cst_14 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_15 : Ref sig .tc := ⟨.hbm, 70, rfl⟩
abbrev main_v48 : Ref sig .tc := ⟨.hbm, 71, rfl⟩
abbrev main_v49 : Ref sig .tc := ⟨.hbm, 72, rfl⟩
abbrev main_cst_16 : Ref sig .tc := ⟨.hbm, 73, rfl⟩
abbrev main_v50 : Ref sig .tc := ⟨.hbm, 74, rfl⟩
abbrev main_v51 : Ref sig .tc := ⟨.hbm, 75, rfl⟩
abbrev main_cst_17 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_18 : Ref sig .tc := ⟨.hbm, 81, rfl⟩
abbrev main_v56 : Ref sig .tc := ⟨.hbm, 82, rfl⟩
abbrev main_v57 : Ref sig .tc := ⟨.hbm, 83, rfl⟩
abbrev main_cst_19 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_20 : Ref sig .tc := ⟨.hbm, 91, rfl⟩
abbrev main_v64 : Ref sig .tc := ⟨.hbm, 92, rfl⟩
abbrev main_v65 : Ref sig .tc := ⟨.hbm, 93, rfl⟩
abbrev main_cst_21 : Ref sig .tc := ⟨.hbm, 94, rfl⟩
abbrev main_v66 : Ref sig .tc := ⟨.hbm, 95, rfl⟩
abbrev main_v67 : Ref sig .tc := ⟨.hbm, 96, rfl⟩
abbrev main_cst_22 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_23 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_24 : Ref sig .tc := ⟨.hbm, 107, rfl⟩
abbrev main_v76 : Ref sig .tc := ⟨.hbm, 108, rfl⟩
abbrev main_v77 : Ref sig .tc := ⟨.hbm, 109, rfl⟩
abbrev main_cst_25 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩

abbrev nD : Nat := 1
abbrev τ : Topo := Topo.v7x

variable {F : FTy → Type} [FloatOps F]
-- ==== Norm.lean ====
abbrev S2048x1024 : Shape := ⟨2, ![2048, 1024]⟩
abbrev S1024 : Shape := ⟨1, ![1024]⟩
abbrev S1024x2816 : Shape := ⟨2, ![1024, 2816]⟩
abbrev S2048x2816 : Shape := ⟨2, ![2048, 2816]⟩
abbrev S_ : Shape := ⟨0, ![]⟩
abbrev S2048 : Shape := ⟨1, ![2048]⟩
abbrev S2048x1 : Shape := ⟨2, ![2048, 1]⟩
abbrev S2816x1024 : Shape := ⟨2, ![2816, 1024]⟩
abbrev S2048x128 : Shape := ⟨2, ![2048, 128]⟩
abbrev S1x1024 : Shape := ⟨2, ![1, 1024]⟩
abbrev S256x1024 : Shape := ⟨2, ![256, 1024]⟩
abbrev S256x2816 : Shape := ⟨2, ![256, 2816]⟩
abbrev S256x128 : Shape := ⟨2, ![256, 128]⟩
abbrev S256x1 : Shape := ⟨2, ![256, 1]⟩
abbrev S256 : Shape := ⟨1, ![256]⟩

abbrev nBuf : Space → Nat
  | .hbm => 43
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2048x1024, .f32⟩
  | .hbm, ⟨6, _⟩ => ⟨S2048x2816, .f32⟩
  | .hbm, ⟨7, _⟩ => ⟨S2048x2816, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x2816, .bf16⟩
  | .hbm, ⟨32, _⟩ => ⟨S2048x2816, .bf16⟩
  | .hbm, ⟨33, _⟩ => ⟨S2816x1024, .f32⟩
  | .hbm, ⟨34, _⟩ => ⟨S2816x1024, .bf16⟩
  | .hbm, ⟨35, _⟩ => ⟨S2816x1024, .f32⟩
  | .hbm, ⟨36, _⟩ => ⟨S2816x1024, .bf16⟩
  | .hbm, ⟨37, _⟩ => ⟨S2048x128, .f32⟩
  | .hbm, ⟨38, _⟩ => ⟨S1x1024, .f32⟩
  | .hbm, ⟨39, _⟩ => ⟨S2048x1024, .f32⟩
  | .hbm, ⟨40, _⟩ => ⟨S2048x1024, .bf16⟩
  | .hbm, ⟨41, _⟩ => ⟨S1x1024, .f32⟩
  | .hbm, ⟨42, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S2816x1024, .bf16⟩
  | .local _ .vmem, ⟨7, _⟩ => ⟨S2816x1024, .bf16⟩
  | .local _ .vmem, ⟨8, _⟩ => ⟨S256x1024, .f32⟩
  | .local _ .vmem, ⟨9, _⟩ => ⟨S256x1024, .f32⟩
  | .local _ .vmem, ⟨10, _⟩ => ⟨S256x128, .f32⟩
  | .local _ .vmem, ⟨11, _⟩ => ⟨S256x128, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | .local _ .vmem, ⟨18, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26_0 : Ref sig .tc := ⟨.hbm, 39, rfl⟩
abbrev main_v26_1 : Ref sig .tc := ⟨.hbm, 40, rfl⟩
abbrev main_v26_2 : Ref sig .tc := ⟨.hbm, 41, rfl⟩
abbrev main_v26_3 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== NormGradIdeal.lean ====
abbrev S2048x1024 : Shape := ⟨2, ![2048, 1024]⟩
abbrev S1024 : Shape := ⟨1, ![1024]⟩
abbrev S1024x2816 : Shape := ⟨2, ![1024, 2816]⟩
abbrev S2048x2816 : Shape := ⟨2, ![2048, 2816]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 103
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2048x1024, .f32⟩
  | .hbm, ⟨6, _⟩ => ⟨S2048x2816, .f32⟩
  | .hbm, ⟨7, _⟩ => ⟨S2048x2816, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S1x1024, .f32⟩
  | .hbm, ⟨39, _⟩ => ⟨S2048x1024, .f32⟩
  | .hbm, ⟨40, _⟩ => ⟨S2048x1024, .f32⟩
  | .hbm, ⟨41, _⟩ => ⟨S1x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S2048x1024, .f32⟩
  | .hbm, ⟨46, _⟩ => ⟨S2048x1024, .f32⟩
  | .hbm, ⟨47, _⟩ => ⟨S2048x2816, .f32⟩
  | .hbm, ⟨48, _⟩ => ⟨S2048x2816, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S_, .f32⟩
  | .hbm, ⟨60, _⟩ => ⟨S1024, .f32⟩
  | .hbm, ⟨61, _⟩ => ⟨S2048x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S2048x1024, .f32⟩
  | .hbm, ⟨66, _⟩ => ⟨S2048x1024, .f32⟩
  | .hbm, ⟨67, _⟩ => ⟨S_, .f32⟩
  | .hbm, ⟨68, _⟩ => ⟨S1024, .f32⟩
  | .hbm, ⟨69, _⟩ => ⟨S2048x1024, .f32⟩
  | .hbm, ⟨70, _⟩ => ⟨S_, .f32⟩
  | .hbm, ⟨71, _⟩ => ⟨S2048, .f32⟩
  | .hbm, ⟨72, _⟩ => ⟨S2048x1, .f32⟩
  | .hbm, ⟨73, _⟩ => ⟨S2048x1024, .f32⟩
  | .hbm, ⟨74, _⟩ => ⟨S2048x1024, .f32⟩
  | .hbm, ⟨75, _⟩ => ⟨S2048x1, .f32⟩
  | .hbm, ⟨76, _⟩ => ⟨S2048x1024, .f32⟩
  | .hbm, ⟨77, _⟩ => ⟨S_, .f32⟩
  | .hbm, ⟨78, _⟩ => ⟨S2048, .f32⟩
  | .hbm, ⟨79, _⟩ => ⟨S2048x1, .f32⟩
  | .hbm, ⟨80, _⟩ => ⟨S_, .f32⟩
  | .hbm, ⟨81, _⟩ => ⟨S2048x1, .f32⟩
  | .hbm, ⟨82, _⟩ => ⟨S2048x1, .f32⟩
  | .hbm, ⟨83, _⟩ => ⟨S_, .f32⟩
  | .hbm, ⟨84, _⟩ => ⟨S2048, .f32⟩
  | .hbm, ⟨85, _⟩ => ⟨S2048x1024, .f32⟩
  | .hbm, ⟨86, _⟩ => ⟨S2048x1024, .f32⟩
  | .hbm, ⟨87, _⟩ => ⟨S2048x1024, .f32⟩
  | .hbm, ⟨88, _⟩ => ⟨S_, .f32⟩
  | .hbm, ⟨89, _⟩ => ⟨S2048, .f32⟩
  | .hbm, ⟨90, _⟩ => ⟨S2048x1, .f32⟩
  | .hbm, ⟨91, _⟩ => ⟨S2048x1024, .f32⟩
  | .hbm, ⟨92, _⟩ => ⟨S2048x1, .f32⟩
  | .hbm, ⟨93, _⟩ => ⟨S_, .f32⟩
  | .hbm, ⟨94, _⟩ => ⟨S2048x1, .f32⟩
  | .hbm, ⟨95, _⟩ => ⟨S2048x1, .f32⟩
  | .hbm, ⟨96, _⟩ => ⟨S_, .f32⟩
  | .hbm, ⟨97, _⟩ => ⟨S2048, .f32⟩
  | .hbm, ⟨98, _⟩ => ⟨S2048x1024, .f32⟩
  | .hbm, ⟨99, _⟩ => ⟨S2048x1024, .f32⟩
  | .hbm, ⟨100, _⟩ => ⟨S2048x1024, .bf16⟩
  | .hbm, ⟨101, _⟩ => ⟨S1x1024, .f32⟩
  | .hbm, ⟨102, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_11 : Ref sig .tc := ⟨.hbm, 67, rfl⟩
abbrev main_v47 : Ref sig .tc := ⟨.hbm, 68, rfl⟩
abbrev main_v48 : Ref sig .tc := ⟨.hbm, 69, rfl⟩
abbrev main_cst_12 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_13 : Ref sig .tc := ⟨.hbm, 77, rfl⟩
abbrev main_v55 : Ref sig .tc := ⟨.hbm, 78, rfl⟩
abbrev main_v56 : Ref sig .tc := ⟨.hbm, 79, rfl⟩
abbrev main_cst_14 : Ref sig .tc := ⟨.hbm, 80, rfl⟩
abbrev main_v57 : Ref sig .tc := ⟨.hbm, 81, rfl⟩
abbrev main_v58 : Ref sig .tc := ⟨.hbm, 82, rfl⟩
abbrev main_cst_15 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_16 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_17 : Ref sig .tc := ⟨.hbm, 93, rfl⟩
abbrev main_v67 : Ref sig .tc := ⟨.hbm, 94, rfl⟩
abbrev main_v68 : Ref sig .tc := ⟨.hbm, 95, rfl⟩
abbrev main_cst_18 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩

abbrev nD : Nat := 1
abbrev τ : Topo := Topo.v7x

variable {F : FTy → Type} [FloatOps F]
-- ==== Inp.lean ====
abbrev S2048x1024 : Shape := ⟨2, ![2048, 1024]⟩
abbrev S1024x4096 : Shape := ⟨2, ![1024, 4096]⟩
abbrev S2048x512 : Shape := ⟨2, ![2048, 512]⟩
abbrev S2048x2048 : Shape := ⟨2, ![2048, 2048]⟩
abbrev S1024x8x512 : Shape := ⟨3, ![1024, 8, 512]⟩
abbrev S8x1024x512 : Shape := ⟨3, ![8, 1024, 512]⟩
abbrev S2048x4096 : Shape := ⟨2, ![2048, 4096]⟩
abbrev S256x512 : Shape := ⟨2, ![256, 512]⟩
abbrev S16x512 : Shape := ⟨2, ![16, 512]⟩
abbrev S256x2048 : Shape := ⟨2, ![256, 2048]⟩
abbrev S256x1024 : Shape := ⟨2, ![256, 1024]⟩
abbrev S256x4096 : Shape := ⟨2, ![256, 4096]⟩
abbrev S272x512 : Shape := ⟨2, ![272, 512]⟩
abbrev S256x128 : Shape := ⟨2, ![256, 128]⟩
abbrev S256x1 : Shape := ⟨2, ![256, 1]⟩
abbrev S16x128 : Shape := ⟨2, ![16, 128]⟩
abbrev S16x1 : Shape := ⟨2, ![16, 1]⟩
abbrev S1x1024x512 : Shape := ⟨3, ![1, 1024, 512]⟩
abbrev S1024x512 : Shape := ⟨2, ![1024, 512]⟩

abbrev nBuf : Space → Nat
  | .hbm => 17
  | .vmem => 20
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x2048, .f32⟩
  | .hbm, ⟨7, _⟩ => ⟨S2048x1024, .f32⟩
  | .hbm, ⟨8, _⟩ => ⟨S1024x8x512, .f32⟩
  | .hbm, ⟨9, _⟩ => ⟨S8x1024x512, .f32⟩
  | .hbm, ⟨10, _⟩ => ⟨S8x1024x512, .bf16⟩
  | .hbm, ⟨11, _⟩ => ⟨S2048x512, .bf16⟩
  | .hbm, ⟨12, _⟩ => ⟨S2048x512, .bf16⟩
  | .hbm, ⟨13, _⟩ => ⟨S2048x512, .bf16⟩
  | .hbm, ⟨14, _⟩ => ⟨S2048x2048, .bf16⟩
  | .hbm, ⟨15, _⟩ => ⟨S2048x1024, .f32⟩
  | .hbm, ⟨16, _⟩ => ⟨S2048x4096, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .f32⟩
  | .local _ .vmem, ⟨7, _⟩ => ⟨S256x512, .f32⟩
  | .local _ .vmem, ⟨8, _⟩ => ⟨S16x512, .f32⟩
  | .local _ .vmem, ⟨9, _⟩ => ⟨S16x512, .f32⟩
  | .local _ .vmem, ⟨10, _⟩ => ⟨S256x2048, .bf16⟩
  | .local _ .vmem, ⟨11, _⟩ => ⟨S256x2048, .bf16⟩
  | .local _ .vmem, ⟨12, _⟩ => ⟨S256x1024, .f32⟩
  | .local _ .vmem, ⟨13, _⟩ => ⟨S256x1024, .f32⟩
  | .local _ .vmem, ⟨14, _⟩ => ⟨S8x1024x512, .bf16⟩
  | .local _ .vmem, ⟨15, _⟩ => ⟨S256x1024, .f32⟩
  | .local _ .vmem, ⟨16, _⟩ => ⟨S256x1024, .f32⟩
  | .local _ .vmem, ⟨17, _⟩ => ⟨S256x4096, .bf16⟩
  | .local _ .vmem, ⟨18, _⟩ => ⟨S256x4096, .bf16⟩
  | .local _ .vmem, ⟨19, _⟩ => ⟨S272x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== InpGradIdeal.lean ====
abbrev S2048x1024 : Shape := ⟨2, ![2048, 1024]⟩
abbrev S1024x4096 : Shape := ⟨2, ![1024, 4096]⟩
abbrev S2048x512 : Shape := ⟨2, ![2048, 512]⟩
abbrev S2048x2048 : Shape := ⟨2, ![2048, 2048]⟩
abbrev S_ : Shape := ⟨0, ![]⟩
abbrev S2048x4096 : Shape := ⟨2, ![2048, 4096]⟩
abbrev S1x512 : Shape := ⟨2, ![1, 512]⟩
abbrev S2049x512 : Shape := ⟨2, ![2049, 512]⟩
abbrev S2048 : Shape := ⟨1, ![2048]⟩
abbrev S2048x128 : Shape := ⟨2, ![2048, 128]⟩
abbrev S2049x128 : Shape := ⟨2, ![2049, 128]⟩
abbrev S2048x1 : Shape := ⟨2, ![2048, 1]⟩

abbrev nBuf : Space → Nat
  | .hbm => 243
  | .vmem => 0
  | .smem => 0
  | _ => 0

abbrev hbmTy0_0 (i : Nat) : BufTy := match i % 128 with
  | 0 => ⟨S2048x1024, .f32⟩
  | 1 => ⟨S1024x4096, .f32⟩
  | 2 => ⟨S2048x512, .f32⟩
  | 3 => ⟨S2048x512, .f32⟩
  | 4 => ⟨S2048x512, .f32⟩
  | 5 => ⟨S2048x512, .f32⟩
  | 6 => ⟨S2048x2048, .f32⟩
  | 7 => ⟨S2048x1024, .f32⟩
  | 8 => ⟨S_, .f32⟩
  | 9 => ⟨S2048x1024, .f32⟩
  | 10 => ⟨S2048x1024, .f32⟩
  | 11 => ⟨S2048x4096, .f32⟩
  | 12 => ⟨S2048x512, .f32⟩
  | 13 => ⟨S2048x512, .f32⟩
  | 14 => ⟨S2048x512, .f32⟩
  | 15 => ⟨S2048x512, .f32⟩
  | 16 => ⟨S_, .f32⟩
  | 17 => ⟨S1x512, .f32⟩
  | 18 => ⟨S_, .f32⟩
  | 19 => ⟨S_, .f32⟩
  | 20 => ⟨S2048x512, .f32⟩
  | 21 => ⟨S2049x512, .f32⟩
  | 22 => ⟨S_, .f32⟩
  | 23 => ⟨S1x512, .f32⟩
  | 24 => ⟨S2048, .i32⟩
  | 25 => ⟨S_, .i32⟩
  | 26 => ⟨S2048, .i32⟩
  | 27 => ⟨S2048, .i32⟩
  | 28 => ⟨S_, .i32⟩
  | 29 => ⟨S2048, .i32⟩
  | 30 => ⟨S2048, .i32⟩
  | 31 => ⟨S_, .i32⟩
  | 32 => ⟨S2048, .i32⟩
  | 33 => ⟨S2048, .i32⟩
  | 34 => ⟨S_, .i32⟩
  | 35 => ⟨S2048, .i32⟩
  | 36 => ⟨S2048, .i32⟩
  | 37 => ⟨S2048, .i32⟩
  | 38 => ⟨S2048, .f32⟩
  | 39 => ⟨S2048x128, .f32⟩
  | 40 => ⟨S2049x128, .f32⟩
  | 41 => ⟨S_, .i32⟩
  | 42 => ⟨S2048, .i32⟩
  | 43 => ⟨S2048, .i1⟩
  | 44 => ⟨S_, .i32⟩
  | 45 => ⟨S2048, .i32⟩
  | 46 => ⟨S2048, .i32⟩
  | 47 => ⟨S2048, .i32⟩
  | 48 => ⟨S2048x1, .i32⟩
  | 49 => ⟨S2048x128, .f32⟩
  | 50 => ⟨S2048x128, .f32⟩
  | 51 => ⟨S2048x1, .f32⟩
  | 52 => ⟨S2048x128, .f32⟩
  | 53 => ⟨S2048x128, .f32⟩
  | 54 => ⟨S2048x128, .f32⟩
  | 55 => ⟨S2048x128, .f32⟩
  | 56 => ⟨S_, .i32⟩
  | 57 => ⟨S2048, .i32⟩
  | 58 => ⟨S2048, .i32⟩
  | 59 => ⟨S_, .i32⟩
  | 60 => ⟨S2048, .i32⟩
  | 61 => ⟨S2048, .i32⟩
  | 62 => ⟨S_, .i32⟩
  | 63 => ⟨S2048, .i32⟩
  | 64 => ⟨S2048, .i32⟩
  | 65 => ⟨S_, .i32⟩
  | 66 => ⟨S2048, .i32⟩
  | 67 => ⟨S2048, .i32⟩
  | 68 => ⟨S2048, .i32⟩
  | 69 => ⟨S2048, .f32⟩
  | 70 => ⟨S2048x128, .f32⟩
  | 71 => ⟨S2049x128, .f32⟩
  | 72 => ⟨S_, .i32⟩
  | 73 => ⟨S2048, .i32⟩
  | 74 => ⟨S2048, .i1⟩
  | 75 => ⟨S_, .i32⟩
  | 76 => ⟨S2048, .i32⟩
  | 77 => ⟨S2048, .i32⟩
  | 78 => ⟨S2048, .i32⟩
  | 79 => ⟨S2048x1, .i32⟩
  | 80 => ⟨S2048x128, .f32⟩
  | 81 => ⟨S2048x128, .f32⟩
  | 82 => ⟨S2048x1, .f32⟩
  | 83 => ⟨S2048x128, .f32⟩
  | 84 => ⟨S2048x128, .f32⟩
  | 85 => ⟨S2048x128, .f32⟩
  | 86 => ⟨S2048x128, .f32⟩
  | 87 => ⟨S_, .i32⟩
  | 88 => ⟨S2048, .i32⟩
  | 89 => ⟨S2048, .i32⟩
  | 90 => ⟨S_, .i32⟩
  | 91 => ⟨S2048, .i32⟩
  | 92 => ⟨S2048, .i32⟩
  | 93 => ⟨S_, .i32⟩
  | 94 => ⟨S2048, .i32⟩
  | 95 => ⟨S2048, .i32⟩
  | 96 => ⟨S_, .i32⟩
  | 97 => ⟨S2048, .i32⟩
  | 98 => ⟨S2048, .i32⟩
  | 99 => ⟨S2048, .i32⟩
  | 100 => ⟨S2048, .f32⟩
  | 101 => ⟨S2048x128, .f32⟩
  | 102 => ⟨S2049x128, .f32⟩
  | 103 => ⟨S_, .i32⟩
  | 104 => ⟨S2048, .i32⟩
  | 105 => ⟨S2048, .i1⟩
  | 106 => ⟨S_, .i32⟩
  | 107 => ⟨S2048, .i32⟩
  | 108 => ⟨S2048, .i32⟩
  | 109 => ⟨S2048, .i32⟩
  | 110 => ⟨S2048x1, .i32⟩
  | 111 => ⟨S2048x128, .f32⟩
  | 112 => ⟨S2048x128, .f32⟩
  | 113 => ⟨S2048x1, .f32⟩
  | 114 => ⟨S2048x128, .f32⟩
  | 115 => ⟨S2048x128, .f32⟩
  | 116 => ⟨S2048x128, .f32⟩
  | 117 => ⟨S2048x128, .f32⟩
  | 118 => ⟨S_, .i32⟩
  | 119 => ⟨S2048, .i32⟩
  | 120 => ⟨S2048, .i32⟩
  | 121 => ⟨S_, .i32⟩
  | 122 => ⟨S2048, .i32⟩
  | 123 => ⟨S2048, .i32⟩
  | 124 => ⟨S_, .i32⟩
  | 125 => ⟨S2048, .i32⟩
  | 126 => ⟨S2048, .i32⟩
  | 127 => ⟨S_, .i32⟩
  | _ => ⟨S2048x1024, .f32⟩

abbrev hbmTy0_1 (i : Nat) : BufTy := match i % 128 with
  | 0 => ⟨S2048, .i32⟩
  | 1 => ⟨S2048, .i32⟩
  | 2 => ⟨S2048, .i32⟩
  | 3 => ⟨S2048, .f32⟩
  | 4 => ⟨S2048x128, .f32⟩
  | 5 => ⟨S2049x128, .f32⟩
  | 6 => ⟨S_, .i32⟩
  | 7 => ⟨S2048, .i32⟩
  | 8 => ⟨S2048, .i1⟩
  | 9 => ⟨S_, .i32⟩
  | 10 => ⟨S2048, .i32⟩
  | 11 => ⟨S2048, .i32⟩
  | 12 => ⟨S2048, .i32⟩
  | 13 => ⟨S2048x1, .i32⟩
  | 14 => ⟨S2048x128, .f32⟩
  | 15 => ⟨S2048x128, .f32⟩
  | 16 => ⟨S2048x1, .f32⟩
  | 17 => ⟨S2048x128, .f32⟩
  | 18 => ⟨S2048x128, .f32⟩
  | 19 => ⟨S2048x128, .f32⟩
  | 20 => ⟨S2048x128, .f32⟩
  | 21 => ⟨S2048x512, .f32⟩
  | 22 => ⟨S2048x2048, .f32⟩
  | 23 => ⟨S_, .f32⟩
  | 24 => ⟨S2048x4096, .f32⟩
  | 25 => ⟨S2048x128, .f32⟩
  | 26 => ⟨S2048x128, .f32⟩
  | 27 => ⟨S2048x128, .f32⟩
  | 28 => ⟨S2048x128, .f32⟩
  | 29 => ⟨S2048x128, .f32⟩
  | 30 => ⟨S_, .f32⟩
  | 31 => ⟨S2048x512, .f32⟩
  | 32 => ⟨S2048x128, .f32⟩
  | 33 => ⟨S2048x128, .f32⟩
  | 34 => ⟨S2048x128, .f32⟩
  | 35 => ⟨S_, .f32⟩
  | 36 => ⟨S2049x128, .f32⟩
  | 37 => ⟨S2049x128, .f32⟩
  | 38 => ⟨S_, .f32⟩
  | 39 => ⟨S2049x512, .f32⟩
  | 40 => ⟨S_, .f32⟩
  | 41 => ⟨S2049x512, .f32⟩
  | 42 => ⟨S2049x512, .f32⟩
  | 43 => ⟨S2048x128, .f32⟩
  | 44 => ⟨S_, .f32⟩
  | 45 => ⟨S2048x512, .f32⟩
  | 46 => ⟨S2048x512, .f32⟩
  | 47 => ⟨S2048x128, .f32⟩
  | 48 => ⟨S2048x128, .f32⟩
  | 49 => ⟨S2048x128, .f32⟩
  | 50 => ⟨S_, .f32⟩
  | 51 => ⟨S2049x128, .f32⟩
  | 52 => ⟨S2049x128, .f32⟩
  | 53 => ⟨S_, .f32⟩
  | 54 => ⟨S2049x512, .f32⟩
  | 55 => ⟨S2049x512, .f32⟩
  | 56 => ⟨S_, .f32⟩
  | 57 => ⟨S2049x512, .f32⟩
  | 58 => ⟨S2049x512, .f32⟩
  | 59 => ⟨S2048x128, .f32⟩
  | 60 => ⟨S_, .f32⟩
  | 61 => ⟨S2048x512, .f32⟩
  | 62 => ⟨S2048x512, .f32⟩
  | 63 => ⟨S2048x128, .f32⟩
  | 64 => ⟨S2048x128, .f32⟩
  | 65 => ⟨S2048x128, .f32⟩
  | 66 => ⟨S_, .f32⟩
  | 67 => ⟨S2049x128, .f32⟩
  | 68 => ⟨S2049x128, .f32⟩
  | 69 => ⟨S_, .f32⟩
  | 70 => ⟨S2049x512, .f32⟩
  | 71 => ⟨S2049x512, .f32⟩
  | 72 => ⟨S_, .f32⟩
  | 73 => ⟨S2049x512, .f32⟩
  | 74 => ⟨S2049x512, .f32⟩
  | 75 => ⟨S2048x128, .f32⟩
  | 76 => ⟨S_, .f32⟩
  | 77 => ⟨S2048x512, .f32⟩
  | 78 => ⟨S2048x512, .f32⟩
  | 79 => ⟨S2048x128, .f32⟩
  | 80 => ⟨S2048x128, .f32⟩
  | 81 => ⟨S2048x128, .f32⟩
  | 82 => ⟨S_, .f32⟩
  | 83 => ⟨S2049x128, .f32⟩
  | 84 => ⟨S2049x128, .f32⟩
  | 85 => ⟨S_, .f32⟩
  | 86 => ⟨S2049x512, .f32⟩
  | 87 => ⟨S2049x512, .f32⟩
  | 88 => ⟨S_, .f32⟩
  | 89 => ⟨S2049x512, .f32⟩
  | 90 => ⟨S2049x512, .f32⟩
  | 91 => ⟨S1x512, .f32⟩
  | 92 => ⟨S2048x512, .f32⟩
  | 93 => ⟨S_, .f32⟩
  | 94 => ⟨S_, .f32⟩
  | 95 => ⟨S2048x512, .f32⟩
  | 96 => ⟨S2048x512, .f32⟩
  | 97 => ⟨S_, .f32⟩
  | 98 => ⟨S2048x4096, .f32⟩
  | 99 => ⟨S2048x4096, .f32⟩
  | 100 => ⟨S_, .f32⟩
  | 101 => ⟨S2048x4096, .f32⟩
  | 102 => ⟨S2048x4096, .f32⟩
  | 103 => ⟨S_, .f32⟩
  | 104 => ⟨S2048x4096, .f32⟩
  | 105 => ⟨S2048x4096, .f32⟩
  | 106 => ⟨S_, .f32⟩
  | 107 => ⟨S2048x4096, .f32⟩
  | 108 => ⟨S2048x4096, .f32⟩
  | 109 => ⟨S2048x1024, .f32⟩
  | 110 => ⟨S_, .f32⟩
  | 111 => ⟨S2048x1024, .f32⟩
  | 112 => ⟨S2048x1024, .f32⟩
  | 113 => ⟨S2048x1024, .f32⟩
  | 114 => ⟨S2048x4096, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_call0_cst : Ref sig .tc := ⟨.hbm, 18, rfl⟩
abbrev main_call0_v0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_c_8 : Ref sig .tc := ⟨.hbm, 59, rfl⟩
abbrev main_v39 : Ref sig .tc := ⟨.hbm, 60, rfl⟩
abbrev main_v40 : Ref sig .tc := ⟨.hbm, 61, rfl⟩
abbrev main_c_9 : Ref sig .tc := ⟨.hbm, 62, rfl⟩
abbrev main_v41 : Ref sig .tc := ⟨.hbm, 63, rfl⟩
abbrev main_v42 : Ref sig .tc := ⟨.hbm, 64, rfl⟩
abbrev main_c_10 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_11 : Ref sig .tc := ⟨.hbm, 72, rfl⟩
abbrev main_v49 : Ref sig .tc := ⟨.hbm, 73, rfl⟩
abbrev main_v50 : Ref sig .tc := ⟨.hbm, 74, rfl⟩
abbrev main_c_12 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_13 : Ref sig .tc := ⟨.hbm, 87, rfl⟩
abbrev main_v62 : Ref sig .tc := ⟨.hbm, 88, rfl⟩
abbrev main_v63 : Ref sig .tc := ⟨.hbm, 89, rfl⟩
abbrev main_c_14 : Ref sig .tc := ⟨.hbm, 90, rfl⟩
abbrev main_v64 : Ref sig .tc := ⟨.hbm, 91, rfl⟩
abbrev main_v65 : Ref sig .tc := ⟨.hbm, 92, rfl⟩
abbrev main_c_15 : Ref sig .tc := ⟨.hbm, 93, rfl⟩
abbrev main_v66 : Ref sig .tc := ⟨.hbm, 94, rfl⟩
abbrev main_v67 : Ref sig .tc := ⟨.hbm, 95, rfl⟩
abbrev main_c_16 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_17 : Ref sig .tc := ⟨.hbm, 103, rfl⟩
abbrev main_v74 : Ref sig .tc := ⟨.hbm, 104, rfl⟩
abbrev main_v75 : Ref sig .tc := ⟨.hbm, 105, rfl⟩
abbrev main_c_18 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_c_19 : Ref sig .tc := ⟨.hbm, 118, rfl⟩
abbrev main_v87 : Ref sig .tc := ⟨.hbm, 119, rfl⟩
abbrev main_v88 : Ref sig .tc := ⟨.hbm, 120, rfl⟩
abbrev main_c_20 : Ref sig .tc := ⟨.hbm, 121, rfl⟩
abbrev main_v89 : Ref sig .tc := ⟨.hbm, 122, rfl⟩
abbrev main_v90 : Ref sig .tc := ⟨.hbm, 123, rfl⟩
abbrev main_c_21 : Ref sig .tc := ⟨.hbm, 124, rfl⟩
abbrev main_v91 : Ref sig .tc := ⟨.hbm, 125, rfl⟩
abbrev main_v92 : Ref sig .tc := ⟨.hbm, 126, rfl⟩
abbrev main_c_22 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_c_23 : Ref sig .tc := ⟨.hbm, 134, rfl⟩
abbrev main_v99 : Ref sig .tc := ⟨.hbm, 135, rfl⟩
abbrev main_v100 : Ref sig .tc := ⟨.hbm, 136, rfl⟩
abbrev main_c_24 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_cst_25 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_cst_26 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_cst_27 : Ref sig .tc := ⟨.hbm, 163, rfl⟩
abbrev main_v124 : Ref sig .tc := ⟨.hbm, 164, rfl⟩
abbrev main_v125 : Ref sig .tc := ⟨.hbm, 165, rfl⟩
abbrev main_cst_28 : Ref sig .tc := ⟨.hbm, 166, rfl⟩
abbrev main_v126 : Ref sig .tc := ⟨.hbm, 167, rfl⟩
abbrev main_cst_29 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_cst_30 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_cst_31 : Ref sig .tc := ⟨.hbm, 178, rfl⟩
abbrev main_v135 : Ref sig .tc := ⟨.hbm, 179, rfl⟩
abbrev main_v136 : Ref sig .tc := ⟨.hbm, 180, rfl⟩
abbrev main_cst_32 : Ref sig .tc := ⟨.hbm, 181, rfl⟩
abbrev main_v137 : Ref sig .tc := ⟨.hbm, 182, rfl⟩
abbrev main_v138 : Ref sig .tc := ⟨.hbm, 183, rfl⟩
abbrev main_cst_33 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_cst_34 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_cst_35 : Ref sig .tc := ⟨.hbm, 194, rfl⟩
abbrev main_v147 : Ref sig .tc := ⟨.hbm, 195, rfl⟩
abbrev main_v148 : Ref sig .tc := ⟨.hbm, 196, rfl⟩
abbrev main_cst_36 : Ref sig .tc := ⟨.hbm, 197, rfl⟩
abbrev main_v149 : Ref sig .tc := ⟨.hbm, 198, rfl⟩
abbrev main_v150 : Ref sig .tc := ⟨.hbm, 199, rfl⟩
abbrev main_cst_37 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_cst_38 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_cst_39 : Ref sig .tc := ⟨.hbm, 210, rfl⟩
abbrev main_v159 : Ref sig .tc := ⟨.hbm, 211, rfl⟩
abbrev main_v160 : Ref sig .tc := ⟨.hbm, 212, rfl⟩
abbrev main_cst_40 : Ref sig .tc := ⟨.hbm, 213, rfl⟩
abbrev main_v161 : Ref sig .tc := ⟨.hbm, 214, rfl⟩
abbrev main_v162 : Ref sig .tc := ⟨.hbm, 215, rfl⟩
abbrev main_cst_41 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_call1_cst : Ref sig .tc := ⟨.hbm, 221, rfl⟩
abbrev main_call1_v0 : Ref sig .tc := ⟨.hbm, 222, rfl⟩
abbrev main_v167 : Ref sig .tc := ⟨.hbm, 223, rfl⟩
abbrev main_v168 : Ref sig .tc := ⟨.hbm, 224, rfl⟩
abbrev main_cst_42 : Ref sig .tc := ⟨.hbm, 225, rfl⟩
abbrev main_v169 : Ref sig .tc := ⟨.hbm, 226, rfl⟩
abbrev main_v170 : Ref sig .tc := ⟨.hbm, 227, rfl⟩
abbrev main_cst_43 : Ref sig .tc := ⟨.hbm, 228, rfl⟩
abbrev main_v171 : Ref sig .tc := ⟨.hbm, 229, rfl⟩
abbrev main_v172 : Ref sig .tc := ⟨.hbm, 230, rfl⟩
abbrev main_cst_44 : Ref sig .tc := ⟨.hbm, 231, rfl⟩
abbrev main_v173 : Ref sig .tc := ⟨.hbm, 232, rfl⟩
abbrev main_v174 : Ref sig .tc := ⟨.hbm, 233, rfl⟩
abbrev main_cst_45 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_cst_46 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩

abbrev nD : Nat := 1
abbrev τ : Topo := Topo.v7x

variable {F : FTy → Type} [FloatOps F]
-- ==== FfnBwd.lean ====
abbrev S2048x1024 : Shape := ⟨2, ![2048, 1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S2048x2816 : Shape := ⟨2, ![2048, 2816]⟩
abbrev S1x2816 : Shape := ⟨2, ![1, 2816]⟩
abbrev S8x2816 : Shape := ⟨2, ![8, 2816]⟩
abbrev S2048x256 : Shape := ⟨2, ![2048, 256]⟩
abbrev S256x1024 : Shape := ⟨2, ![256, 1024]⟩
abbrev S3x256 : Shape := ⟨2, ![3, 256]⟩
abbrev S1x256 : Shape := ⟨2, ![1, 256]⟩
abbrev S8x256 : Shape := ⟨2, ![8, 256]⟩
abbrev S256 : Shape := ⟨1, ![256]⟩
abbrev S4x256 : Shape := ⟨2, ![4, 256]⟩

abbrev nBuf : Space → Nat
  | .hbm => 19
  | .vmem => 24
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S2048x1024, .f32⟩
  | .hbm, ⟨7, _⟩ => ⟨S2048x2816, .f32⟩
  | .hbm, ⟨8, _⟩ => ⟨S2048x2816, .f32⟩
  | .hbm, ⟨9, _⟩ => ⟨S2048x1024, .bf16⟩
  | .hbm, ⟨10, _⟩ => ⟨S2048x1024, .bf16⟩
  | .hbm, ⟨11, _⟩ => ⟨S2816x1024, .bf16⟩
  | .hbm, ⟨12, _⟩ => ⟨S1x2816, .f32⟩
  | .hbm, ⟨13, _⟩ => ⟨S2048x2816, .bf16⟩
  | .hbm, ⟨14, _⟩ => ⟨S2048x2816, .bf16⟩
  | .hbm, ⟨15, _⟩ => ⟨S2816x1024, .bf16⟩
  | .hbm, ⟨16, _⟩ => ⟨S2816x1024, .bf16⟩
  | .hbm, ⟨17, _⟩ => ⟨S2816x1024, .bf16⟩
  | .hbm, ⟨18, _⟩ => ⟨S8x2816, .f32⟩
  | .local _ .vmem, ⟨0, _⟩ => ⟨S2048x1024, .bf16⟩
  | .local _ .vmem, ⟨1, _⟩ => ⟨S2048x1024, .bf16⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S256x1024, .bf16⟩
  | .local _ .vmem, ⟨7, _⟩ => ⟨S256x1024, .bf16⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S8x256, .f32⟩
  | .local _ .vmem, ⟨23, _⟩ => ⟨S8x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev main_v6_5 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== FfnBwdIdeal.lean ====
variable {F : FTy → Type} [FloatOps F] [Named F]
def κ : String → Option EReal := fun
  | "gauss" => some (((9465531 / 8388608) * (2 * (Real.sqrt 2))⁻¹ : ℝ) : EReal)
  | "root_half" => some (((Real.sqrt 2)⁻¹ : ℝ) : EReal)
  | _ => none
-- ==== FfnGradIdeal.lean ====
abbrev S2048x1024 : Shape := ⟨2, ![2048, 1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S2048x2816 : Shape := ⟨2, ![2048, 2816]⟩
abbrev S_ : Shape := ⟨0, ![]⟩
abbrev S2x2816 : Shape := ⟨2, ![2, 2816]⟩
abbrev S2050x2816 : Shape := ⟨2, ![2050, 2816]⟩
abbrev S1x2816 : Shape := ⟨2, ![1, 2816]⟩
abbrev S4x2816 : Shape := ⟨2, ![4, 2816]⟩
abbrev S8x2816 : Shape := ⟨2, ![8, 2816]⟩

abbrev nBuf : Space → Nat
  | .hbm => 142
  | .vmem => 0
  | .smem => 0
  | _ => 0

abbrev hbmTy0_0 (i : Nat) : BufTy := match i % 128 with
  | 0 => ⟨S2048x1024, .f32⟩
  | 1 => ⟨S1024x2816, .f32⟩
  | 2 => ⟨S1024x2816, .f32⟩
  | 3 => ⟨S3x2816, .f32⟩
  | 4 => ⟨S2816, .f32⟩
  | 5 => ⟨S2816x1024, .f32⟩
  | 6 => ⟨S2048x1024, .f32⟩
  | 7 => ⟨S2048x2816, .f32⟩
  | 8 => ⟨S2048x2816, .f32⟩
  | 9 => ⟨S_, .f32⟩
  | 10 => ⟨S2x2816, .f32⟩
  | 11 => ⟨S2050x2816, .f32⟩
  | 12 => ⟨S_, .f32⟩
  | 13 => ⟨S2x2816, .f32⟩
  | 14 => ⟨S2048x2816, .f32⟩
  | 15 => ⟨S1x2816, .f32⟩
  | 16 => ⟨S2816, .f32⟩
  | 17 => ⟨S1x2816, .f32⟩
  | 18 => ⟨S2048x2816, .f32⟩
  | 19 => ⟨S2048x2816, .f32⟩
  | 20 => ⟨S_, .f32⟩
  | 21 => ⟨S2048x2816, .f32⟩
  | 22 => ⟨S2048x2816, .f32⟩
  | 23 => ⟨S2048x2816, .f32⟩
  | 24 => ⟨S1x2816, .f32⟩
  | 25 => ⟨S2816, .f32⟩
  | 26 => ⟨S1x2816, .f32⟩
  | 27 => ⟨S2048x2816, .f32⟩
  | 28 => ⟨S2048x2816, .f32⟩
  | 29 => ⟨S2048x2816, .f32⟩
  | 30 => ⟨S2048x2816, .f32⟩
  | 31 => ⟨S1x2816, .f32⟩
  | 32 => ⟨S2816, .f32⟩
  | 33 => ⟨S1x2816, .f32⟩
  | 34 => ⟨S2048x2816, .f32⟩
  | 35 => ⟨S2048x2816, .f32⟩
  | 36 => ⟨S2048x2816, .f32⟩
  | 37 => ⟨S1x2816, .f32⟩
  | 38 => ⟨S2048x2816, .f32⟩
  | 39 => ⟨S2048x2816, .f32⟩
  | 40 => ⟨S_, .f32⟩
  | 41 => ⟨S2048x2816, .f32⟩
  | 42 => ⟨S2048x2816, .f32⟩
  | 43 => ⟨S2048x2816, .f32⟩
  | 44 => ⟨S_, .f32⟩
  | 45 => ⟨S_, .f32⟩
  | 46 => ⟨S_, .f32⟩
  | 47 => ⟨S2048x2816, .f32⟩
  | 48 => ⟨S2048x2816, .f32⟩
  | 49 => ⟨S2048x2816, .f32⟩
  | 50 => ⟨S2048x2816, .f32⟩
  | 51 => ⟨S2048x2816, .f32⟩
  | 52 => ⟨S2048x2816, .f32⟩
  | 53 => ⟨S2048x2816, .f32⟩
  | 54 => ⟨S2048x2816, .f32⟩
  | 55 => ⟨S2048x1024, .f32⟩
  | 56 => ⟨S1024x2816, .f32⟩
  | 57 => ⟨S2816x1024, .f32⟩
  | 58 => ⟨S2048x2816, .f32⟩
  | 59 => ⟨S2048x2816, .f32⟩
  | 60 => ⟨S2048x2816, .f32⟩
  | 61 => ⟨S2048x2816, .f32⟩
  | 62 => ⟨S2048x2816, .f32⟩
  | 63 => ⟨S_, .f32⟩
  | 64 => ⟨S2048x2816, .f32⟩
  | 65 => ⟨S2048x2816, .f32⟩
  | 66 => ⟨S2048x2816, .f32⟩
  | 67 => ⟨S2048x2816, .f32⟩
  | 68 => ⟨S2048x2816, .f32⟩
  | 69 => ⟨S2048x2816, .f32⟩
  | 70 => ⟨S_, .f32⟩
  | 71 => ⟨S2048x2816, .f32⟩
  | 72 => ⟨S2048x2816, .f32⟩
  | 73 => ⟨S2048x2816, .f32⟩
  | 74 => ⟨S_, .f32⟩
  | 75 => ⟨S2816, .f32⟩
  | 76 => ⟨S1x2816, .f32⟩
  | 77 => ⟨S_, .f32⟩
  | 78 => ⟨S2816, .f32⟩
  | 79 => ⟨S2048x2816, .f32⟩
  | 80 => ⟨S_, .f32⟩
  | 81 => ⟨S2816, .f32⟩
  | 82 => ⟨S1x2816, .f32⟩
  | 83 => ⟨S2048x2816, .f32⟩
  | 84 => ⟨S2048x2816, .f32⟩
  | 85 => ⟨S_, .f32⟩
  | 86 => ⟨S2816, .f32⟩
  | 87 => ⟨S1x2816, .f32⟩
  | 88 => ⟨S_, .f32⟩
  | 89 => ⟨S3x2816, .f32⟩
  | 90 => ⟨S_, .f32⟩
  | 91 => ⟨S2050x2816, .f32⟩
  | 92 => ⟨S2048x2816, .f32⟩
  | 93 => ⟨S_, .f32⟩
  | 94 => ⟨S2816, .f32⟩
  | 95 => ⟨S1x2816, .f32⟩
  | 96 => ⟨S2048x2816, .f32⟩
  | 97 => ⟨S2048x2816, .f32⟩
  | 98 => ⟨S_, .f32⟩
  | 99 => ⟨S2816, .f32⟩
  | 100 => ⟨S1x2816, .f32⟩
  | 101 => ⟨S_, .f32⟩
  | 102 => ⟨S3x2816, .f32⟩
  | 103 => ⟨S3x2816, .f32⟩
  | 104 => ⟨S_, .f32⟩
  | 105 => ⟨S2050x2816, .f32⟩
  | 106 => ⟨S2050x2816, .f32⟩
  | 107 => ⟨S2048x2816, .f32⟩
  | 108 => ⟨S_, .f32⟩
  | 109 => ⟨S2816, .f32⟩
  | 110 => ⟨S1x2816, .f32⟩
  | 111 => ⟨S2048x2816, .f32⟩
  | 112 => ⟨S2048x2816, .f32⟩
  | 113 => ⟨S_, .f32⟩
  | 114 => ⟨S2816, .f32⟩
  | 115 => ⟨S1x2816, .f32⟩
  | 116 => ⟨S_, .f32⟩
  | 117 => ⟨S3x2816, .f32⟩
  | 118 => ⟨S3x2816, .f32⟩
  | 119 => ⟨S_, .f32⟩
  | 120 => ⟨S2050x2816, .f32⟩
  | 121 => ⟨S2050x2816, .f32⟩
  | 122 => ⟨S2x2816, .f32⟩
  | 123 => ⟨S2048x2816, .f32⟩
  | 124 => ⟨S2816x1024, .f32⟩
  | 125 => ⟨S1024x2816, .f32⟩
  | 126 => ⟨S2048x1024, .f32⟩
  | 127 => ⟨S2816x1024, .f32⟩
  | _ => ⟨S2048x1024, .f32⟩

abbrev hbmTy0_1 (i : Nat) : BufTy := match i % 128 with
  | 0 => ⟨S1024x2816, .f32⟩
  | 1 => ⟨S2048x1024, .f32⟩
  | 2 => ⟨S2048x1024, .f32⟩
  | 3 => ⟨S1x2816, .f32⟩
  | 4 => ⟨S_, .f32⟩
  | 5 => ⟨S4x2816, .f32⟩
  | 6 => ⟨S8x2816, .f32⟩
  | 7 => ⟨S2048x2816, .bf16⟩
  | 8 => ⟨S2048x2816, .bf16⟩
  | 9 => ⟨S2816x1024, .bf16⟩
  | 10 => ⟨S2816x1024, .f32⟩
  | 11 => ⟨S2816x1024, .bf16⟩
  | 12 => ⟨S2816x1024, .f32⟩
  | 13 => ⟨S2816x1024, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_4 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_5 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_6 : Ref sig .tc := ⟨.hbm, 74, rfl⟩
abbrev main_v60 : Ref sig .tc := ⟨.hbm, 75, rfl⟩
abbrev main_v61 : Ref sig .tc := ⟨.hbm, 76, rfl⟩
abbrev main_cst_7 : Ref sig .tc := ⟨.hbm, 77, rfl⟩
abbrev main_v62 : Ref sig .tc := ⟨.hbm, 78, rfl⟩
abbrev main_v63 : Ref sig .tc := ⟨.hbm, 79, rfl⟩
abbrev main_cst_8 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_9 : Ref sig .tc := ⟨.hbm, 85, rfl⟩
abbrev main_v68 : Ref sig .tc := ⟨.hbm, 86, rfl⟩
abbrev main_v69 : Ref sig .tc := ⟨.hbm, 87, rfl⟩
abbrev main_cst_10 : Ref sig .tc := ⟨.hbm, 88, rfl⟩
abbrev main_v70 : Ref sig .tc := ⟨.hbm, 89, rfl⟩
abbrev main_cst_11 : Ref sig .tc := ⟨.hbm, 90, rfl⟩
abbrev main_v71 : Ref sig .tc := ⟨.hbm, 91, rfl⟩
abbrev main_v72 : Ref sig .tc := ⟨.hbm, 92, rfl⟩
abbrev main_cst_12 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_13 : Ref sig .tc := ⟨.hbm, 98, rfl⟩
abbrev main_v77 : Ref sig .tc := ⟨.hbm, 99, rfl⟩
abbrev main_v78 : Ref sig .tc := ⟨.hbm, 100, rfl⟩
abbrev main_cst_14 : Ref sig .tc := ⟨.hbm, 101, rfl⟩
abbrev main_v79 : Ref sig .tc := ⟨.hbm, 102, rfl⟩
abbrev main_v80 : Ref sig .tc := ⟨.hbm, 103, rfl⟩
abbrev main_cst_15 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_16 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_17 : Ref sig .tc := ⟨.hbm, 113, rfl⟩
abbrev main_v88 : Ref sig .tc := ⟨.hbm, 114, rfl⟩
abbrev main_v89 : Ref sig .tc := ⟨.hbm, 115, rfl⟩
abbrev main_cst_18 : Ref sig .tc := ⟨.hbm, 116, rfl⟩
abbrev main_v90 : Ref sig .tc := ⟨.hbm, 117, rfl⟩
abbrev main_v91 : Ref sig .tc := ⟨.hbm, 118, rfl⟩
abbrev main_cst_19 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_cst_20 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩

abbrev nD : Nat := 1
abbrev τ : Topo := Topo.v7x

variable {F : FTy → Type} [FloatOps F]
-- ==== Attn.lean ====
abbrev S2048x512 : Shape := ⟨2, ![2048, 512]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x8x64 : Shape := ⟨3, ![2048, 8, 64]⟩
abbrev S8x2048x64 : Shape := ⟨3, ![8, 2048, 64]⟩
abbrev S8x2048x32 : Shape := ⟨3, ![8, 2048, 32]⟩
abbrev S1x2048x32 : Shape := ⟨3, ![1, 2048, 32]⟩
abbrev S8x8x256x64 : Shape := ⟨4, ![8, 8, 256, 64]⟩
abbrev S8x8x64 : Shape := ⟨3, ![8, 8, 64]⟩
abbrev S8x2048x8 : Shape := ⟨3, ![8, 2048, 8]⟩
abbrev S8 : Shape := ⟨1, ![8]⟩
abbrev S1x8 : Shape := ⟨2, ![1, 8]⟩
abbrev S2048x8 : Shape := ⟨2, ![2048, 8]⟩
abbrev S8x2048x3 : Shape := ⟨3, ![8, 2048, 3]⟩
abbrev S8x2048x3x1 : Shape := ⟨4, ![8, 2048, 3, 1]⟩
abbrev S1x1x1x8 : Shape := ⟨4, ![1, 1, 1, 8]⟩
abbrev S8x2048x3x8 : Shape := ⟨4, ![8, 2048, 3, 8]⟩
abbrev S1x2048x8 : Shape := ⟨3, ![1, 2048, 8]⟩
abbrev S8x2048x56 : Shape := ⟨3, ![8, 2048, 56]⟩
abbrev S1x2048 : Shape := ⟨2, ![1, 2048]⟩
abbrev S2048x2048 : Shape := ⟨2, ![2048, 2048]⟩
abbrev S8x2048x8x256 : Shape := ⟨4, ![8, 2048, 8, 256]⟩
abbrev S8x2048x2048 : Shape := ⟨3, ![8, 2048, 2048]⟩
abbrev S1x2048x2048 : Shape := ⟨3, ![1, 2048, 2048]⟩
abbrev S8x2048 : Shape := ⟨2, ![8, 2048]⟩
abbrev S8x2048x1 : Shape := ⟨3, ![8, 2048, 1]⟩
abbrev S4x2x2048 : Shape := ⟨3, ![4, 2, 2048]⟩
abbrev S4x6x2048 : Shape := ⟨3, ![4, 6, 2048]⟩
abbrev S4x8x2048 : Shape := ⟨3, ![4, 8, 2048]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S1x8x2048 : Shape := ⟨3, ![1, 8, 2048]⟩
abbrev S256x128 : Shape := ⟨2, ![256, 128]⟩
abbrev S2048x256 : Shape := ⟨2, ![2048, 256]⟩
abbrev S256x64 : Shape := ⟨2, ![256, 64]⟩
abbrev S256x256 : Shape := ⟨2, ![256, 256]⟩
abbrev S256 : Shape := ⟨1, ![256]⟩
abbrev S256x1 : Shape := ⟨2, ![256, 1]⟩
abbrev S128x256 : Shape := ⟨2, ![128, 256]⟩
abbrev S1x256 : Shape := ⟨2, ![1, 256]⟩
abbrev S1x1x256 : Shape := ⟨3, ![1, 1, 256]⟩
abbrev S512x128 : Shape := ⟨2, ![512, 128]⟩
abbrev S512x256 : Shape := ⟨2, ![512, 256]⟩
abbrev S512x64 : Shape := ⟨2, ![512, 64]⟩
abbrev S768x128 : Shape := ⟨2, ![768, 128]⟩
abbrev S768x256 : Shape := ⟨2, ![768, 256]⟩
abbrev S768x64 : Shape := ⟨2, ![768, 64]⟩
abbrev S1024x128 : Shape := ⟨2, ![1024, 128]⟩
abbrev S1024x256 : Shape := ⟨2, ![1024, 256]⟩
abbrev S1024x64 : Shape := ⟨2, ![1024, 64]⟩
abbrev S1280x128 : Shape := ⟨2, ![1280, 128]⟩
abbrev S1280x256 : Shape := ⟨2, ![1280, 256]⟩
abbrev S1280x64 : Shape := ⟨2, ![1280, 64]⟩
abbrev S1536x128 : Shape := ⟨2, ![1536, 128]⟩
abbrev S1536x256 : Shape := ⟨2, ![1536, 256]⟩
abbrev S1536x64 : Shape := ⟨2, ![1536, 64]⟩
abbrev S1792x128 : Shape := ⟨2, ![1792, 128]⟩
abbrev S1792x256 : Shape := ⟨2, ![1792, 256]⟩
abbrev S1792x64 : Shape := ⟨2, ![1792, 64]⟩

abbrev nBuf : Space → Nat
  | .hbm => 319
  | .vmem => 33
  | .smem => 0
  | _ => 0

abbrev hbmTy0_0 (i : Nat) : BufTy := match i % 128 with
  | 0 => ⟨S2048x512, .f32⟩
  | 1 => ⟨S2048x512, .f32⟩
  | 2 => ⟨S2048x512, .f32⟩
  | 3 => ⟨S2048x512, .f32⟩
  | 4 => ⟨S32, .f32⟩
  | 5 => ⟨S_, .f32⟩
  | 6 => ⟨S32, .f32⟩
  | 7 => ⟨S32, .f32⟩
  | 8 => ⟨S_, .f32⟩
  | 9 => ⟨S32, .f32⟩
  | 10 => ⟨S32, .f32⟩
  | 11 => ⟨S_, .f32⟩
  | 12 => ⟨S32, .f32⟩
  | 13 => ⟨S32, .f32⟩
  | 14 => ⟨S2048, .f32⟩
  | 15 => ⟨S2048x1, .f32⟩
  | 16 => ⟨S1x32, .f32⟩
  | 17 => ⟨S2048x32, .f32⟩
  | 18 => ⟨S2048x32, .f32⟩
  | 19 => ⟨S2048x32, .f32⟩
  | 20 => ⟨S2048x32, .f32⟩
  | 21 => ⟨S2048x32, .f32⟩
  | 22 => ⟨S2048x8x64, .f32⟩
  | 23 => ⟨S8x2048x64, .f32⟩
  | 24 => ⟨S8x2048x32, .f32⟩
  | 25 => ⟨S8x2048x32, .f32⟩
  | 26 => ⟨S1x2048x32, .f32⟩
  | 27 => ⟨S8x2048x32, .f32⟩
  | 28 => ⟨S8x2048x32, .f32⟩
  | 29 => ⟨S1x2048x32, .f32⟩
  | 30 => ⟨S8x2048x32, .f32⟩
  | 31 => ⟨S8x2048x32, .f32⟩
  | 32 => ⟨S8x2048x32, .f32⟩
  | 33 => ⟨S1x2048x32, .f32⟩
  | 34 => ⟨S8x2048x32, .f32⟩
  | 35 => ⟨S8x2048x32, .f32⟩
  | 36 => ⟨S1x2048x32, .f32⟩
  | 37 => ⟨S8x2048x32, .f32⟩
  | 38 => ⟨S8x2048x32, .f32⟩
  | 39 => ⟨S8x2048x32, .f32⟩
  | 40 => ⟨S8x2048x64, .f32⟩
  | 41 => ⟨S2048x8x64, .f32⟩
  | 42 => ⟨S8x2048x64, .f32⟩
  | 43 => ⟨S8x2048x32, .f32⟩
  | 44 => ⟨S8x2048x32, .f32⟩
  | 45 => ⟨S1x2048x32, .f32⟩
  | 46 => ⟨S8x2048x32, .f32⟩
  | 47 => ⟨S8x2048x32, .f32⟩
  | 48 => ⟨S1x2048x32, .f32⟩
  | 49 => ⟨S8x2048x32, .f32⟩
  | 50 => ⟨S8x2048x32, .f32⟩
  | 51 => ⟨S8x2048x32, .f32⟩
  | 52 => ⟨S1x2048x32, .f32⟩
  | 53 => ⟨S8x2048x32, .f32⟩
  | 54 => ⟨S8x2048x32, .f32⟩
  | 55 => ⟨S1x2048x32, .f32⟩
  | 56 => ⟨S8x2048x32, .f32⟩
  | 57 => ⟨S8x2048x32, .f32⟩
  | 58 => ⟨S8x2048x32, .f32⟩
  | 59 => ⟨S8x2048x64, .f32⟩
  | 60 => ⟨S2048x8x64, .f32⟩
  | 61 => ⟨S8x2048x64, .f32⟩
  | 62 => ⟨S8x8x256x64, .f32⟩
  | 63 => ⟨S_, .f32⟩
  | 64 => ⟨S8x8x64, .f32⟩
  | 65 => ⟨S_, .f32⟩
  | 66 => ⟨S8x8x64, .f32⟩
  | 67 => ⟨S8x8x64, .f32⟩
  | 68 => ⟨S2048, .i32⟩
  | 69 => ⟨S_, .i32⟩
  | 70 => ⟨S_, .i32⟩
  | 71 => ⟨S2048, .i32⟩
  | 72 => ⟨S2048, .i32⟩
  | 73 => ⟨S2048, .i32⟩
  | 74 => ⟨S_, .i32⟩
  | 75 => ⟨S2048, .i32⟩
  | 76 => ⟨S2048, .i1⟩
  | 77 => ⟨S2048, .i32⟩
  | 78 => ⟨S2048, .i32⟩
  | 79 => ⟨S_, .i32⟩
  | 80 => ⟨S2048, .i32⟩
  | 81 => ⟨S2048, .i1⟩
  | 82 => ⟨S2048, .i1⟩
  | 83 => ⟨S_, .i32⟩
  | 84 => ⟨S2048, .i32⟩
  | 85 => ⟨S2048, .i32⟩
  | 86 => ⟨S2048, .i32⟩
  | 87 => ⟨S8x2048x8, .f32⟩
  | 88 => ⟨S8, .i32⟩
  | 89 => ⟨S1x8, .i32⟩
  | 90 => ⟨S2048x1, .i32⟩
  | 91 => ⟨S2048x8, .i32⟩
  | 92 => ⟨S2048x8, .i32⟩
  | 93 => ⟨S2048x8, .i1⟩
  | 94 => ⟨S_, .f32⟩
  | 95 => ⟨S_, .f32⟩
  | 96 => ⟨S8x2048x8, .i1⟩
  | 97 => ⟨S8x2048x8, .f32⟩
  | 98 => ⟨S8x2048x8, .f32⟩
  | 99 => ⟨S8x2048x3, .f32⟩
  | 100 => ⟨S8x2048x3, .i32⟩
  | 101 => ⟨S8x2048x3x1, .i32⟩
  | 102 => ⟨S8, .i32⟩
  | 103 => ⟨S1x1x1x8, .i32⟩
  | 104 => ⟨S8x2048x3x8, .i32⟩
  | 105 => ⟨S8x2048x3x8, .i32⟩
  | 106 => ⟨S8x2048x3x8, .i1⟩
  | 107 => ⟨S_, .i1⟩
  | 108 => ⟨S8x2048x8, .i1⟩
  | 109 => ⟨S1x2048x8, .i1⟩
  | 110 => ⟨S8x2048x8, .i1⟩
  | 111 => ⟨S8x2048x8, .i1⟩
  | 112 => ⟨S8, .i32⟩
  | 113 => ⟨S1x8, .i32⟩
  | 114 => ⟨S2048, .i32⟩
  | 115 => ⟨S_, .i32⟩
  | 116 => ⟨S_, .i32⟩
  | 117 => ⟨S2048, .i32⟩
  | 118 => ⟨S2048, .i32⟩
  | 119 => ⟨S2048, .i32⟩
  | 120 => ⟨S_, .i32⟩
  | 121 => ⟨S2048, .i32⟩
  | 122 => ⟨S2048, .i1⟩
  | 123 => ⟨S2048, .i32⟩
  | 124 => ⟨S2048, .i32⟩
  | 125 => ⟨S_, .i32⟩
  | 126 => ⟨S2048, .i32⟩
  | 127 => ⟨S2048, .i1⟩
  | _ => ⟨S2048x512, .f32⟩

abbrev hbmTy0_1 (i : Nat) : BufTy := match i % 128 with
  | 0 => ⟨S2048, .i1⟩
  | 1 => ⟨S_, .i32⟩
  | 2 => ⟨S2048, .i32⟩
  | 3 => ⟨S2048, .i32⟩
  | 4 => ⟨S2048, .i32⟩
  | 5 => ⟨S2048x1, .i32⟩
  | 6 => ⟨S2048x8, .i32⟩
  | 7 => ⟨S2048x8, .i32⟩
  | 8 => ⟨S2048x8, .i1⟩
  | 9 => ⟨S8x2048x8, .i1⟩
  | 10 => ⟨S1x2048x8, .i1⟩
  | 11 => ⟨S8x2048x8, .i1⟩
  | 12 => ⟨S8x2048x8, .i1⟩
  | 13 => ⟨S_, .f32⟩
  | 14 => ⟨S_, .f32⟩
  | 15 => ⟨S8x2048x8, .f32⟩
  | 16 => ⟨S8x2048x8, .f32⟩
  | 17 => ⟨S8x2048x8, .f32⟩
  | 18 => ⟨S_, .f32⟩
  | 19 => ⟨S8x2048x56, .f32⟩
  | 20 => ⟨S8x2048x8, .f32⟩
  | 21 => ⟨S8x2048x64, .f32⟩
  | 22 => ⟨S8x8x256x64, .f32⟩
  | 23 => ⟨S_, .f32⟩
  | 24 => ⟨S8x8x64, .f32⟩
  | 25 => ⟨S_, .f32⟩
  | 26 => ⟨S8x8x64, .f32⟩
  | 27 => ⟨S8x8x64, .f32⟩
  | 28 => ⟨S2048, .i32⟩
  | 29 => ⟨S_, .i32⟩
  | 30 => ⟨S_, .i32⟩
  | 31 => ⟨S2048, .i32⟩
  | 32 => ⟨S2048, .i32⟩
  | 33 => ⟨S2048, .i32⟩
  | 34 => ⟨S_, .i32⟩
  | 35 => ⟨S2048, .i32⟩
  | 36 => ⟨S2048, .i1⟩
  | 37 => ⟨S2048, .i32⟩
  | 38 => ⟨S2048, .i32⟩
  | 39 => ⟨S_, .i32⟩
  | 40 => ⟨S2048, .i32⟩
  | 41 => ⟨S2048, .i1⟩
  | 42 => ⟨S2048, .i1⟩
  | 43 => ⟨S_, .i32⟩
  | 44 => ⟨S2048, .i32⟩
  | 45 => ⟨S2048, .i32⟩
  | 46 => ⟨S2048, .i32⟩
  | 47 => ⟨S8x2048x8, .f32⟩
  | 48 => ⟨S8, .i32⟩
  | 49 => ⟨S1x8, .i32⟩
  | 50 => ⟨S2048x1, .i32⟩
  | 51 => ⟨S2048x8, .i32⟩
  | 52 => ⟨S2048x8, .i32⟩
  | 53 => ⟨S2048x8, .i1⟩
  | 54 => ⟨S_, .f32⟩
  | 55 => ⟨S_, .f32⟩
  | 56 => ⟨S8x2048x8, .i1⟩
  | 57 => ⟨S8x2048x8, .f32⟩
  | 58 => ⟨S8x2048x8, .f32⟩
  | 59 => ⟨S8x2048x3, .f32⟩
  | 60 => ⟨S8x2048x3, .i32⟩
  | 61 => ⟨S8x2048x3x1, .i32⟩
  | 62 => ⟨S8, .i32⟩
  | 63 => ⟨S1x1x1x8, .i32⟩
  | 64 => ⟨S8x2048x3x8, .i32⟩
  | 65 => ⟨S8x2048x3x8, .i32⟩
  | 66 => ⟨S8x2048x3x8, .i1⟩
  | 67 => ⟨S_, .i1⟩
  | 68 => ⟨S8x2048x8, .i1⟩
  | 69 => ⟨S1x2048x8, .i1⟩
  | 70 => ⟨S8x2048x8, .i1⟩
  | 71 => ⟨S8x2048x8, .i1⟩
  | 72 => ⟨S2048, .i32⟩
  | 73 => ⟨S2048x1, .i32⟩
  | 74 => ⟨S_, .i32⟩
  | 75 => ⟨S_, .i32⟩
  | 76 => ⟨S2048x1, .i32⟩
  | 77 => ⟨S2048x1, .i32⟩
  | 78 => ⟨S2048x1, .i32⟩
  | 79 => ⟨S_, .i32⟩
  | 80 => ⟨S2048x1, .i32⟩
  | 81 => ⟨S2048x1, .i1⟩
  | 82 => ⟨S2048x1, .i32⟩
  | 83 => ⟨S2048x1, .i32⟩
  | 84 => ⟨S_, .i32⟩
  | 85 => ⟨S2048x1, .i32⟩
  | 86 => ⟨S2048x1, .i1⟩
  | 87 => ⟨S2048x1, .i1⟩
  | 88 => ⟨S_, .i32⟩
  | 89 => ⟨S2048x1, .i32⟩
  | 90 => ⟨S2048x1, .i32⟩
  | 91 => ⟨S2048x1, .i32⟩
  | 92 => ⟨S1x2048, .i32⟩
  | 93 => ⟨S_, .i32⟩
  | 94 => ⟨S_, .i32⟩
  | 95 => ⟨S1x2048, .i32⟩
  | 96 => ⟨S1x2048, .i32⟩
  | 97 => ⟨S1x2048, .i32⟩
  | 98 => ⟨S_, .i32⟩
  | 99 => ⟨S1x2048, .i32⟩
  | 100 => ⟨S1x2048, .i1⟩
  | 101 => ⟨S1x2048, .i32⟩
  | 102 => ⟨S1x2048, .i32⟩
  | 103 => ⟨S_, .i32⟩
  | 104 => ⟨S1x2048, .i32⟩
  | 105 => ⟨S1x2048, .i1⟩
  | 106 => ⟨S1x2048, .i1⟩
  | 107 => ⟨S_, .i32⟩
  | 108 => ⟨S1x2048, .i32⟩
  | 109 => ⟨S1x2048, .i32⟩
  | 110 => ⟨S1x2048, .i32⟩
  | 111 => ⟨S2048x2048, .i32⟩
  | 112 => ⟨S2048x2048, .i32⟩
  | 113 => ⟨S2048x2048, .i1⟩
  | 114 => ⟨S1x2048, .i32⟩
  | 115 => ⟨S2048x1, .i32⟩
  | 116 => ⟨S2048x2048, .i32⟩
  | 117 => ⟨S2048x2048, .i32⟩
  | 118 => ⟨S2048x2048, .i1⟩
  | 119 => ⟨S2048x2048, .i1⟩
  | 120 => ⟨S8x2048x8x256, .i1⟩
  | 121 => ⟨S8x2048x2048, .i1⟩
  | 122 => ⟨S1x2048x2048, .i1⟩
  | 123 => ⟨S8x2048x2048, .i1⟩
  | 124 => ⟨S8x2048x2048, .i1⟩
  | 125 => ⟨S_, .f32⟩
  | 126 => ⟨S8x2048x64, .f32⟩
  | 127 => ⟨S8x2048x64, .f32⟩
  | _ => ⟨S2048x512, .f32⟩

abbrev hbmTy0_2 (i : Nat) : BufTy := match i % 128 with
  | 0 => ⟨S8x2048x2048, .f32⟩
  | 1 => ⟨S_, .f32⟩
  | 2 => ⟨S_, .f32⟩
  | 3 => ⟨S8x2048x2048, .f32⟩
  | 4 => ⟨S8x2048x2048, .f32⟩
  | 5 => ⟨S_, .f32⟩
  | 6 => ⟨S8x2048, .f32⟩
  | 7 => ⟨S8x2048x1, .f32⟩
  | 8 => ⟨S8x2048x2048, .f32⟩
  | 9 => ⟨S8x2048x2048, .f32⟩
  | 10 => ⟨S8x2048x2048, .f32⟩
  | 11 => ⟨S_, .f32⟩
  | 12 => ⟨S8x2048, .f32⟩
  | 13 => ⟨S8x2048x1, .f32⟩
  | 14 => ⟨S8x2048x64, .f32⟩
  | 15 => ⟨S8x2048x64, .f32⟩
  | 16 => ⟨S8x2048x64, .f32⟩
  | 17 => ⟨S8x2048x1, .f32⟩
  | 18 => ⟨S8x2048x1, .f32⟩
  | 19 => ⟨S8x2048, .f32⟩
  | 20 => ⟨S4x2x2048, .f32⟩
  | 21 => ⟨S_, .f32⟩
  | 22 => ⟨S4x6x2048, .f32⟩
  | 23 => ⟨S4x8x2048, .f32⟩
  | 24 => ⟨S2048x8x64, .f32⟩
  | 25 => ⟨S2048x512, .f32⟩
  | 26 => ⟨S2048x8x64, .f32⟩
  | 27 => ⟨S2048x512, .f32⟩
  | 28 => ⟨S2048x512, .bf16⟩
  | 29 => ⟨S2048x8x64, .f32⟩
  | 30 => ⟨S2048x512, .f32⟩
  | 31 => ⟨S2048x512, .bf16⟩
  | 32 => ⟨S2048x8x64, .f32⟩
  | 33 => ⟨S2048x512, .f32⟩
  | 34 => ⟨S32, .f32⟩
  | 35 => ⟨S_, .f32⟩
  | 36 => ⟨S32, .f32⟩
  | 37 => ⟨S32, .f32⟩
  | 38 => ⟨S_, .f32⟩
  | 39 => ⟨S32, .f32⟩
  | 40 => ⟨S32, .f32⟩
  | 41 => ⟨S_, .f32⟩
  | 42 => ⟨S32, .f32⟩
  | 43 => ⟨S32, .f32⟩
  | 44 => ⟨S2048, .f32⟩
  | 45 => ⟨S2048x1, .f32⟩
  | 46 => ⟨S1x32, .f32⟩
  | 47 => ⟨S2048x32, .f32⟩
  | 48 => ⟨S2048x32, .f32⟩
  | 49 => ⟨S2048x32, .f32⟩
  | 50 => ⟨S2048x32, .f32⟩
  | 51 => ⟨S2048x32, .f32⟩
  | 52 => ⟨S1x2048x1x32, .f32⟩
  | 53 => ⟨S1x2048x4x32, .f32⟩
  | 54 => ⟨S2048x128, .f32⟩
  | 55 => ⟨S2048x32, .f32⟩
  | 56 => ⟨S2048x64, .f32⟩
  | 57 => ⟨S1x2048x1x64, .f32⟩
  | 58 => ⟨S1x2048x2x64, .f32⟩
  | 59 => ⟨S2048x128, .f32⟩
  | 60 => ⟨S2048x512, .bf16⟩
  | 61 => ⟨S2048x512, .bf16⟩
  | 62 => ⟨S2048x512, .bf16⟩
  | _ => ⟨S2048x512, .f32⟩

abbrev hbmTy (i : Nat) : BufTy := match i / 128 with
  | 0 => hbmTy0_0 i
  | 1 => hbmTy0_1 i
  | 2 => hbmTy0_2 i
  | _ => ⟨S2048x512, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S2048x128, .f32⟩
  | .local _ .vmem, ⟨10, _⟩ => ⟨S1x8x2048, .f32⟩
  | .local _ .vmem, ⟨11, _⟩ => ⟨S1x8x2048, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x64, .f32⟩
  | .local _ .vmem, ⟨26, _⟩ => ⟨S2048x64, .f32⟩
  | .local _ .vmem, ⟨27, _⟩ => ⟨S2048x128, .bf16⟩
  | .local _ .vmem, ⟨28, _⟩ => ⟨S256x128, .bf16⟩
  | .local _ .vmem, ⟨29, _⟩ => ⟨S2048x256, .f32⟩
  | .local _ .vmem, ⟨30, _⟩ => ⟨S2048x256, .f32⟩
  | .local _ .vmem, ⟨31, _⟩ => ⟨S2048x256, .bf16⟩
  | .local _ .vmem, ⟨32, _⟩ => ⟨S2048x256, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_cst_2 : Ref sig .tc := ⟨.hbm, 63, rfl⟩
abbrev main_v56 : Ref sig .tc := ⟨.hbm, 64, rfl⟩
abbrev main_cst_3 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_c : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_v5 : Ref sig .tc := ⟨.hbm, 75, rfl⟩
abbrev main_call0_v6 : Ref sig .tc := ⟨.hbm, 76, rfl⟩
abbrev main_call0_v7 : Ref sig .tc := ⟨.hbm, 77, rfl⟩
abbrev main_call0_v8 : Ref sig .tc := ⟨.hbm, 78, rfl⟩
abbrev main_call0_c : Ref sig .tc := ⟨.hbm, 79, rfl⟩
abbrev main_call0_v9 : Ref sig .tc := ⟨.hbm, 80, rfl⟩
abbrev main_call0_v10 : Ref sig .tc := ⟨.hbm, 81, rfl⟩
abbrev main_call0_v11 : Ref sig .tc := ⟨.hbm, 82, rfl⟩
abbrev main_call0_c_0 : Ref sig .tc := ⟨.hbm, 83, rfl⟩
abbrev main_call0_v12 : Ref sig .tc := ⟨.hbm, 84, rfl⟩
abbrev main_call0_v13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_4 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_v68 : Ref sig .tc := ⟨.hbm, 98, rfl⟩
abbrev main_values : Ref sig .tc := ⟨.hbm, 99, rfl⟩
abbrev main_indices : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_5 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_c_6 : Ref sig .tc := ⟨.hbm, 115, rfl⟩
abbrev main_call2_v0 : Ref sig .tc := ⟨.hbm, 116, rfl⟩
abbrev main_call2_v1 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_call2_v5 : Ref sig .tc := ⟨.hbm, 121, rfl⟩
abbrev main_call2_v6 : Ref sig .tc := ⟨.hbm, 122, rfl⟩
abbrev main_call2_v7 : Ref sig .tc := ⟨.hbm, 123, rfl⟩
abbrev main_call2_v8 : Ref sig .tc := ⟨.hbm, 124, rfl⟩
abbrev main_call2_c : Ref sig .tc := ⟨.hbm, 125, rfl⟩
abbrev main_call2_v9 : Ref sig .tc := ⟨.hbm, 126, rfl⟩
abbrev main_call2_v10 : Ref sig .tc := ⟨.hbm, 127, rfl⟩
abbrev main_call2_v11 : Ref sig .tc := ⟨.hbm, 128, rfl⟩
abbrev main_call2_c_0 : Ref sig .tc := ⟨.hbm, 129, rfl⟩
abbrev main_call2_v12 : Ref sig .tc := ⟨.hbm, 130, rfl⟩
abbrev main_call2_v13 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_7 : Ref sig .tc := ⟨.hbm, 141, rfl⟩
abbrev main_cst_8 : Ref sig .tc := ⟨.hbm, 142, rfl⟩
abbrev main_call3_v0 : Ref sig .tc := ⟨.hbm, 143, rfl⟩
abbrev main_call3_v1 : Ref sig .tc := ⟨.hbm, 144, rfl⟩
abbrev main_v91 : Ref sig .tc := ⟨.hbm, 145, rfl⟩
abbrev main_cst_9 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_cst_10 : Ref sig .tc := ⟨.hbm, 151, rfl⟩
abbrev main_v96 : Ref sig .tc := ⟨.hbm, 152, rfl⟩
abbrev main_cst_11 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_c_12 : Ref sig .tc := ⟨.hbm, 157, rfl⟩
abbrev main_call4_v0 : Ref sig .tc := ⟨.hbm, 158, rfl⟩
abbrev main_call4_v1 : Ref sig .tc := ⟨.hbm, 159, rfl⟩
abbrev main_call4_v2 : Ref sig .tc := ⟨.hbm, 160, rfl⟩
abbrev main_call4_v3 : Ref sig .tc := ⟨.hbm, 161, rfl⟩
abbrev main_call4_v4 : Ref sig .tc := ⟨.hbm, 162, rfl⟩
abbrev main_call4_v5 : Ref sig .tc := ⟨.hbm, 163, rfl⟩
abbrev main_call4_v6 : Ref sig .tc := ⟨.hbm, 164, rfl⟩
abbrev main_call4_v7 : Ref sig .tc := ⟨.hbm, 165, rfl⟩
abbrev main_call4_v8 : Ref sig .tc := ⟨.hbm, 166, rfl⟩
abbrev main_call4_c : Ref sig .tc := ⟨.hbm, 167, rfl⟩
abbrev main_call4_v9 : Ref sig .tc := ⟨.hbm, 168, rfl⟩
abbrev main_call4_v10 : Ref sig .tc := ⟨.hbm, 169, rfl⟩
abbrev main_call4_v11 : Ref sig .tc := ⟨.hbm, 170, rfl⟩
abbrev main_call4_c_0 : Ref sig .tc := ⟨.hbm, 171, rfl⟩
abbrev main_call4_v12 : Ref sig .tc := ⟨.hbm, 172, rfl⟩
abbrev main_call4_v13 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_cst_13 : Ref sig .tc := ⟨.hbm, 182, rfl⟩
abbrev main_call5_v0 : Ref sig .tc := ⟨.hbm, 183, rfl⟩
abbrev main_call5_v1 : Ref sig .tc := ⟨.hbm, 184, rfl⟩
abbrev main_call5_v2 : Ref sig .tc := ⟨.hbm, 185, rfl⟩
abbrev main_v108 : Ref sig .tc := ⟨.hbm, 186, rfl⟩
abbrev main_values_14 : Ref sig .tc := ⟨.hbm, 187, rfl⟩
abbrev main_indices_15 : Ref sig .tc := ⟨.hbm, 188, rfl⟩
abbrev main_v109 : Ref sig .tc := ⟨.hbm, 189, rfl⟩
abbrev main_v110 : Ref sig .tc := ⟨.hbm, 190, rfl⟩
abbrev main_v111 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩
abbrev main_c_16 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_v119 : Ref sig .tc := ⟨.hbm, 200, rfl⟩
abbrev main_v120 : Ref sig .tc := ⟨.hbm, 201, rfl⟩
abbrev main_c_17 : Ref sig .tc := ⟨.hbm, 202, rfl⟩
abbrev main_call6_v0 : Ref sig .tc := ⟨.hbm, 203, rfl⟩
abbrev main_call6_v1 : Ref sig .tc := ⟨.hbm, 204, rfl⟩
abbrev main_call6_v2 : Ref sig .tc := ⟨.hbm, 205, rfl⟩
abbrev main_call6_v3 : Ref sig .tc := ⟨.hbm, 206, rfl⟩
abbrev main_call6_v4 : Ref sig .tc := ⟨.hbm, 207, rfl⟩
abbrev main_call6_v5 : Ref sig .tc := ⟨.hbm, 208, rfl⟩
abbrev main_call6_v6 : Ref sig .tc := ⟨.hbm, 209, rfl⟩
abbrev main_call6_v7 : Ref sig .tc := ⟨.hbm, 210, rfl⟩
abbrev main_call6_v8 : Ref sig .tc := ⟨.hbm, 211, rfl⟩
abbrev main_call6_c : Ref sig .tc := ⟨.hbm, 212, rfl⟩
abbrev main_call6_v9 : Ref sig .tc := ⟨.hbm, 213, rfl⟩
abbrev main_call6_v10 : Ref sig .tc := ⟨.hbm, 214, rfl⟩
abbrev main_call6_v11 : Ref sig .tc := ⟨.hbm, 215, rfl⟩
abbrev main_call6_c_0 : Ref sig .tc := ⟨.hbm, 216, rfl⟩
abbrev main_call6_v12 : Ref sig .tc := ⟨.hbm, 217, rfl⟩
abbrev main_call6_v13 : Ref sig .tc := ⟨.hbm, 218, rfl⟩
abbrev main_v121 : Ref sig .tc := ⟨.hbm, 219, rfl⟩
abbrev main_v122 : Ref sig .tc := ⟨.hbm, 220, rfl⟩
abbrev main_c_18 : Ref sig .tc := ⟨.hbm, 221, rfl⟩
abbrev main_call7_v0 : Ref sig .tc := ⟨.hbm, 222, rfl⟩
abbrev main_call7_v1 : Ref sig .tc := ⟨.hbm, 223, rfl⟩
abbrev main_call7_v2 : Ref sig .tc := ⟨.hbm, 224, rfl⟩
abbrev main_call7_v3 : Ref sig .tc := ⟨.hbm, 225, rfl⟩
abbrev main_call7_v4 : Ref sig .tc := ⟨.hbm, 226, rfl⟩
abbrev main_call7_v5 : Ref sig .tc := ⟨.hbm, 227, rfl⟩
abbrev main_call7_v6 : Ref sig .tc := ⟨.hbm, 228, rfl⟩
abbrev main_call7_v7 : Ref sig .tc := ⟨.hbm, 229, rfl⟩
abbrev main_call7_v8 : Ref sig .tc := ⟨.hbm, 230, rfl⟩
abbrev main_call7_c : Ref sig .tc := ⟨.hbm, 231, rfl⟩
abbrev main_call7_v9 : Ref sig .tc := ⟨.hbm, 232, rfl⟩
abbrev main_call7_v10 : Ref sig .tc := ⟨.hbm, 233, rfl⟩
abbrev main_call7_v11 : Ref sig .tc := ⟨.hbm, 234, rfl⟩
abbrev main_call7_c_0 : Ref sig .tc := ⟨.hbm, 235, rfl⟩
abbrev main_call7_v12 : Ref sig .tc := ⟨.hbm, 236, rfl⟩
abbrev main_call7_v13 : Ref sig .tc := ⟨.hbm, 237, rfl⟩
abbrev main_v123 : Ref sig .tc := ⟨.hbm, 238, rfl⟩
abbrev main_v124 : Ref sig .tc := ⟨.hbm, 239, rfl⟩
abbrev main_v125 : Ref sig .tc := ⟨.hbm, 240, rfl⟩
abbrev main_v126 : Ref sig .tc := ⟨.hbm, 241, rfl⟩
abbrev main_v127 : Ref sig .tc := ⟨.hbm, 242, rfl⟩
abbrev main_v128 : Ref sig .tc := ⟨.hbm, 243, rfl⟩
abbrev main_v129 : Ref sig .tc := ⟨.hbm, 244, rfl⟩
abbrev main_v130 : Ref sig .tc := ⟨.hbm, 245, rfl⟩
abbrev main_v131 : Ref sig .tc := ⟨.hbm, 246, rfl⟩
abbrev main_v132 : Ref sig .tc := ⟨.hbm, 247, rfl⟩
abbrev main_v133 : Ref sig .tc := ⟨.hbm, 248, rfl⟩
abbrev main_v134 : Ref sig .tc := ⟨.hbm, 249, rfl⟩
abbrev main_v135 : Ref sig .tc := ⟨.hbm, 250, rfl⟩
abbrev main_v136 : Ref sig .tc := ⟨.hbm, 251, rfl⟩
abbrev main_v137 : Ref sig .tc := ⟨.hbm, 252, rfl⟩
abbrev main_cst_19 : Ref sig .tc := ⟨.hbm, 253, rfl⟩
abbrev main_v138 : Ref sig .tc := ⟨.hbm, 254, rfl⟩
abbrev main_v139 : Ref sig .tc := ⟨.hbm, 255, rfl⟩
abbrev main_v140 : Ref sig .tc := ⟨.hbm, 256, rfl⟩
abbrev main_cst_20 : Ref sig .tc := ⟨.hbm, 257, rfl⟩
abbrev main_call8_v0 : Ref sig .tc := ⟨.hbm, 258, rfl⟩
abbrev main_call8_v1 : Ref sig .tc := ⟨.hbm, 259, rfl⟩
abbrev main_v141 : Ref sig .tc := ⟨.hbm, 260, rfl⟩
abbrev main_cst_21 : Ref sig .tc := ⟨.hbm, 261, rfl⟩
abbrev main_v142 : Ref sig .tc := ⟨.hbm, 262, rfl⟩
abbrev main_v143 : Ref sig .tc := ⟨.hbm, 263, rfl⟩
abbrev main_v144 : Ref sig .tc := ⟨.hbm, 264, rfl⟩
abbrev main_v145 : Ref sig .tc := ⟨.hbm, 265, rfl⟩
abbrev main_v146 : Ref sig .tc := ⟨.hbm, 266, rfl⟩
abbrev main_cst_22 : Ref sig .tc := ⟨.hbm, 267, rfl⟩
abbrev main_v147 : Ref sig .tc := ⟨.hbm, 268, rfl⟩
abbrev main_v148 : Ref sig .tc := ⟨.hbm, 269, rfl⟩
abbrev main_v149 : Ref sig .tc := ⟨.hbm, 270, rfl⟩
abbrev main_v150 : Ref sig .tc := ⟨.hbm, 271, rfl⟩
abbrev main_v151 : Ref sig .tc := ⟨.hbm, 272, rfl⟩
abbrev main_v152 : Ref sig .tc := ⟨.hbm, 273, rfl⟩
abbrev main_v153 : Ref sig .tc := ⟨.hbm, 274, rfl⟩
abbrev main_v154 : Ref sig .tc := ⟨.hbm, 275, rfl⟩
abbrev main_v155 : Ref sig .tc := ⟨.hbm, 276, rfl⟩
abbrev main_cst_23 : Ref sig .tc := ⟨.hbm, 277, rfl⟩
abbrev main_v156 : Ref sig .tc := ⟨.hbm, 278, rfl⟩
abbrev main_v157 : Ref sig .tc := ⟨.hbm, 279, rfl⟩
abbrev main_v158 : Ref sig .tc := ⟨.hbm, 280, rfl⟩
abbrev main_v159 : Ref sig .tc := ⟨.hbm, 281, rfl⟩
abbrev main_v160 : Ref sig .tc := ⟨.hbm, 282, rfl⟩
abbrev main_v161 : Ref sig .tc := ⟨.hbm, 283, rfl⟩
abbrev main_v162 : Ref sig .tc := ⟨.hbm, 284, rfl⟩
abbrev main_v163 : Ref sig .tc := ⟨.hbm, 285, rfl⟩
abbrev main_v164 : Ref sig .tc := ⟨.hbm, 286, rfl⟩
abbrev main_v165 : Ref sig .tc := ⟨.hbm, 287, rfl⟩
abbrev main_v166 : Ref sig .tc := ⟨.hbm, 288, rfl⟩
abbrev main_v167 : Ref sig .tc := ⟨.hbm, 289, rfl⟩
abbrev main_v168 : Ref sig .tc := ⟨.hbm, 290, rfl⟩
abbrev main_cst_24 : Ref sig .tc := ⟨.hbm, 291, rfl⟩
abbrev main_v169 : Ref sig .tc := ⟨.hbm, 292, rfl⟩
abbrev main_v170 : Ref sig .tc := ⟨.hbm, 293, rfl⟩
abbrev main_cst_25 : Ref sig .tc := ⟨.hbm, 294, rfl⟩
abbrev main_v171 : Ref sig .tc := ⟨.hbm, 295, rfl⟩
abbrev main_v172 : Ref sig .tc := ⟨.hbm, 296, rfl⟩
abbrev main_cst_26 : Ref sig .tc := ⟨.hbm, 297, rfl⟩
abbrev main_v173 : Ref sig .tc := ⟨.hbm, 298, rfl⟩
abbrev main_v174 : Ref sig .tc := ⟨.hbm, 299, rfl⟩
abbrev main_v175 : Ref sig .tc := ⟨.hbm, 300, rfl⟩
abbrev main_v176 : Ref sig .tc := ⟨.hbm, 301, rfl⟩
abbrev main_v177 : Ref sig .tc := ⟨.hbm, 302, rfl⟩
abbrev main_v178 : Ref sig .tc := ⟨.hbm, 303, rfl⟩
abbrev main_v179 : Ref sig .tc := ⟨.hbm, 304, rfl⟩
abbrev main_v180 : Ref sig .tc := ⟨.hbm, 305, rfl⟩
abbrev main_v181 : Ref sig .tc := ⟨.hbm, 306, rfl⟩
abbrev main_v182 : Ref sig .tc := ⟨.hbm, 307, rfl⟩
abbrev main_v183 : Ref sig .tc := ⟨.hbm, 308, rfl⟩
abbrev main_v184 : Ref sig .tc := ⟨.hbm, 309, rfl⟩
abbrev main_v185 : Ref sig .tc := ⟨.hbm, 310, rfl⟩
abbrev main_v186 : Ref sig .tc := ⟨.hbm, 311, rfl⟩
abbrev main_v187 : Ref sig .tc := ⟨.hbm, 312, rfl⟩
abbrev main_v188 : Ref sig .tc := ⟨.hbm, 313, rfl⟩
abbrev main_v189 : Ref sig .tc := ⟨.hbm, 314, rfl⟩
abbrev main_v190 : Ref sig .tc := ⟨.hbm, 315, rfl⟩
abbrev main_v191_0 : Ref sig .tc := ⟨.hbm, 316, rfl⟩
abbrev main_v191_1 : Ref sig .tc := ⟨.hbm, 317, rfl⟩
abbrev main_v191_2 : Ref sig .tc := ⟨.hbm, 318, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_scratch9 : Ref sig .tc := ⟨.vmem, 31, rfl⟩
abbrev cc0_scratch10 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== AttnIdeal.lean ====
variable {F : FTy → Type} [FloatOps F] [Named F]
def κ : String → Option EReal := fun
  | "mask" => some ⊥
  | _ => none
-- ==== AttnGradIdeal.lean ====
abbrev S2048x512 : Shape := ⟨2, ![2048, 512]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x8x64 : Shape := ⟨3, ![2048, 8, 64]⟩
abbrev S8x2048x64 : Shape := ⟨3, ![8, 2048, 64]⟩
abbrev S8x2048x32 : Shape := ⟨3, ![8, 2048, 32]⟩
abbrev S1x2048x32 : Shape := ⟨3, ![1, 2048, 32]⟩
abbrev S8x8x256x64 : Shape := ⟨4, ![8, 8, 256, 64]⟩
abbrev S8x8x64 : Shape := ⟨3, ![8, 8, 64]⟩
abbrev S8x2048x8 : Shape := ⟨3, ![8, 2048, 8]⟩
abbrev S8 : Shape := ⟨1, ![8]⟩
abbrev S1x8 : Shape := ⟨2, ![1, 8]⟩
abbrev S2048x8 : Shape := ⟨2, ![2048, 8]⟩
abbrev S8x2048x3 : Shape := ⟨3, ![8, 2048, 3]⟩
abbrev S8x2048x3x1 : Shape := ⟨4, ![8, 2048, 3, 1]⟩
abbrev S1x1x1x8 : Shape := ⟨4, ![1, 1, 1, 8]⟩
abbrev S8x2048x3x8 : Shape := ⟨4, ![8, 2048, 3, 8]⟩
abbrev S1x2048x8 : Shape := ⟨3, ![1, 2048, 8]⟩
abbrev S1x2048 : Shape := ⟨2, ![1, 2048]⟩
abbrev S2048x2048 : Shape := ⟨2, ![2048, 2048]⟩
abbrev S8x2048x8x256 : Shape := ⟨4, ![8, 2048, 8, 256]⟩
abbrev S8x2048x2048 : Shape := ⟨3, ![8, 2048, 2048]⟩
abbrev S1x2048x2048 : Shape := ⟨3, ![1, 2048, 2048]⟩
abbrev S8x2048 : Shape := ⟨2, ![8, 2048]⟩
abbrev S8x2048x1 : Shape := ⟨3, ![8, 2048, 1]⟩
abbrev S8x64x2048 : Shape := ⟨3, ![8, 64, 2048]⟩

abbrev nBuf : Space → Nat
  | .hbm => 291
  | .vmem => 0
  | .smem => 0
  | _ => 0

abbrev hbmTy0_0 (i : Nat) : BufTy := match i % 128 with
  | 0 => ⟨S2048x512, .f32⟩
  | 1 => ⟨S2048x512, .f32⟩
  | 2 => ⟨S2048x512, .f32⟩
  | 3 => ⟨S2048x512, .f32⟩
  | 4 => ⟨S32, .f32⟩
  | 5 => ⟨S_, .f32⟩
  | 6 => ⟨S32, .f32⟩
  | 7 => ⟨S32, .f32⟩
  | 8 => ⟨S_, .f32⟩
  | 9 => ⟨S32, .f32⟩
  | 10 => ⟨S32, .f32⟩
  | 11 => ⟨S_, .f32⟩
  | 12 => ⟨S32, .f32⟩
  | 13 => ⟨S32, .f32⟩
  | 14 => ⟨S2048, .f32⟩
  | 15 => ⟨S2048x1, .f32⟩
  | 16 => ⟨S1x32, .f32⟩
  | 17 => ⟨S2048x32, .f32⟩
  | 18 => ⟨S2048x32, .f32⟩
  | 19 => ⟨S2048x32, .f32⟩
  | 20 => ⟨S2048x32, .f32⟩
  | 21 => ⟨S2048x32, .f32⟩
  | 22 => ⟨S2048x8x64, .f32⟩
  | 23 => ⟨S8x2048x64, .f32⟩
  | 24 => ⟨S8x2048x32, .f32⟩
  | 25 => ⟨S8x2048x32, .f32⟩
  | 26 => ⟨S1x2048x32, .f32⟩
  | 27 => ⟨S8x2048x32, .f32⟩
  | 28 => ⟨S8x2048x32, .f32⟩
  | 29 => ⟨S1x2048x32, .f32⟩
  | 30 => ⟨S8x2048x32, .f32⟩
  | 31 => ⟨S8x2048x32, .f32⟩
  | 32 => ⟨S8x2048x32, .f32⟩
  | 33 => ⟨S1x2048x32, .f32⟩
  | 34 => ⟨S8x2048x32, .f32⟩
  | 35 => ⟨S8x2048x32, .f32⟩
  | 36 => ⟨S1x2048x32, .f32⟩
  | 37 => ⟨S8x2048x32, .f32⟩
  | 38 => ⟨S8x2048x32, .f32⟩
  | 39 => ⟨S8x2048x32, .f32⟩
  | 40 => ⟨S8x2048x64, .f32⟩
  | 41 => ⟨S2048x8x64, .f32⟩
  | 42 => ⟨S8x2048x64, .f32⟩
  | 43 => ⟨S8x2048x32, .f32⟩
  | 44 => ⟨S8x2048x32, .f32⟩
  | 45 => ⟨S1x2048x32, .f32⟩
  | 46 => ⟨S8x2048x32, .f32⟩
  | 47 => ⟨S8x2048x32, .f32⟩
  | 48 => ⟨S1x2048x32, .f32⟩
  | 49 => ⟨S8x2048x32, .f32⟩
  | 50 => ⟨S8x2048x32, .f32⟩
  | 51 => ⟨S8x2048x32, .f32⟩
  | 52 => ⟨S1x2048x32, .f32⟩
  | 53 => ⟨S8x2048x32, .f32⟩
  | 54 => ⟨S8x2048x32, .f32⟩
  | 55 => ⟨S1x2048x32, .f32⟩
  | 56 => ⟨S8x2048x32, .f32⟩
  | 57 => ⟨S8x2048x32, .f32⟩
  | 58 => ⟨S8x2048x32, .f32⟩
  | 59 => ⟨S8x2048x64, .f32⟩
  | 60 => ⟨S2048x8x64, .f32⟩
  | 61 => ⟨S8x2048x64, .f32⟩
  | 62 => ⟨S8x8x256x64, .f32⟩
  | 63 => ⟨S_, .f32⟩
  | 64 => ⟨S8x8x64, .f32⟩
  | 65 => ⟨S_, .f32⟩
  | 66 => ⟨S8x8x64, .f32⟩
  | 67 => ⟨S8x8x64, .f32⟩
  | 68 => ⟨S2048, .i32⟩
  | 69 => ⟨S_, .i32⟩
  | 70 => ⟨S_, .i32⟩
  | 71 => ⟨S2048, .i32⟩
  | 72 => ⟨S2048, .i32⟩
  | 73 => ⟨S2048, .i32⟩
  | 74 => ⟨S_, .i32⟩
  | 75 => ⟨S2048, .i32⟩
  | 76 => ⟨S2048, .i1⟩
  | 77 => ⟨S2048, .i32⟩
  | 78 => ⟨S2048, .i32⟩
  | 79 => ⟨S_, .i32⟩
  | 80 => ⟨S2048, .i32⟩
  | 81 => ⟨S2048, .i1⟩
  | 82 => ⟨S2048, .i1⟩
  | 83 => ⟨S_, .i32⟩
  | 84 => ⟨S2048, .i32⟩
  | 85 => ⟨S2048, .i32⟩
  | 86 => ⟨S2048, .i32⟩
  | 87 => ⟨S8x2048x8, .f32⟩
  | 88 => ⟨S8, .i32⟩
  | 89 => ⟨S1x8, .i32⟩
  | 90 => ⟨S2048x1, .i32⟩
  | 91 => ⟨S2048x8, .i32⟩
  | 92 => ⟨S2048x8, .i32⟩
  | 93 => ⟨S2048x8, .i1⟩
  | 94 => ⟨S_, .f32⟩
  | 95 => ⟨S_, .f32⟩
  | 96 => ⟨S8x2048x8, .i1⟩
  | 97 => ⟨S8x2048x8, .f32⟩
  | 98 => ⟨S8x2048x8, .f32⟩
  | 99 => ⟨S_, .f32⟩
  | 100 => ⟨S8x2048x8, .f32⟩
  | 101 => ⟨S8x2048x3, .f32⟩
  | 102 => ⟨S8x2048x3, .i32⟩
  | 103 => ⟨S8x2048x3x1, .i32⟩
  | 104 => ⟨S8x2048x3x1, .i32⟩
  | 105 => ⟨S8, .i32⟩
  | 106 => ⟨S1x1x1x8, .i32⟩
  | 107 => ⟨S8x2048x3x8, .i32⟩
  | 108 => ⟨S8x2048x3x8, .i32⟩
  | 109 => ⟨S8x2048x3x8, .i1⟩
  | 110 => ⟨S_, .i1⟩
  | 111 => ⟨S8x2048x8, .i1⟩
  | 112 => ⟨S1x2048x8, .i1⟩
  | 113 => ⟨S8x2048x8, .i1⟩
  | 114 => ⟨S8x2048x8, .i1⟩
  | 115 => ⟨S2048, .i32⟩
  | 116 => ⟨S2048x1, .i32⟩
  | 117 => ⟨S_, .i32⟩
  | 118 => ⟨S_, .i32⟩
  | 119 => ⟨S2048x1, .i32⟩
  | 120 => ⟨S2048x1, .i32⟩
  | 121 => ⟨S2048x1, .i32⟩
  | 122 => ⟨S_, .i32⟩
  | 123 => ⟨S2048x1, .i32⟩
  | 124 => ⟨S2048x1, .i1⟩
  | 125 => ⟨S2048x1, .i32⟩
  | 126 => ⟨S2048x1, .i32⟩
  | 127 => ⟨S_, .i32⟩
  | _ => ⟨S2048x512, .f32⟩

abbrev hbmTy0_1 (i : Nat) : BufTy := match i % 128 with
  | 0 => ⟨S2048x1, .i32⟩
  | 1 => ⟨S2048x1, .i1⟩
  | 2 => ⟨S2048x1, .i1⟩
  | 3 => ⟨S_, .i32⟩
  | 4 => ⟨S2048x1, .i32⟩
  | 5 => ⟨S2048x1, .i32⟩
  | 6 => ⟨S2048x1, .i32⟩
  | 7 => ⟨S1x2048, .i32⟩
  | 8 => ⟨S_, .i32⟩
  | 9 => ⟨S_, .i32⟩
  | 10 => ⟨S1x2048, .i32⟩
  | 11 => ⟨S1x2048, .i32⟩
  | 12 => ⟨S1x2048, .i32⟩
  | 13 => ⟨S_, .i32⟩
  | 14 => ⟨S1x2048, .i32⟩
  | 15 => ⟨S1x2048, .i1⟩
  | 16 => ⟨S1x2048, .i32⟩
  | 17 => ⟨S1x2048, .i32⟩
  | 18 => ⟨S_, .i32⟩
  | 19 => ⟨S1x2048, .i32⟩
  | 20 => ⟨S1x2048, .i1⟩
  | 21 => ⟨S1x2048, .i1⟩
  | 22 => ⟨S_, .i32⟩
  | 23 => ⟨S1x2048, .i32⟩
  | 24 => ⟨S1x2048, .i32⟩
  | 25 => ⟨S1x2048, .i32⟩
  | 26 => ⟨S2048x2048, .i32⟩
  | 27 => ⟨S2048x2048, .i32⟩
  | 28 => ⟨S2048x2048, .i1⟩
  | 29 => ⟨S1x2048, .i32⟩
  | 30 => ⟨S2048x1, .i32⟩
  | 31 => ⟨S2048x2048, .i32⟩
  | 32 => ⟨S2048x2048, .i32⟩
  | 33 => ⟨S2048x2048, .i1⟩
  | 34 => ⟨S2048x2048, .i1⟩
  | 35 => ⟨S8x2048x8x256, .i1⟩
  | 36 => ⟨S8x2048x2048, .i1⟩
  | 37 => ⟨S1x2048x2048, .i1⟩
  | 38 => ⟨S8x2048x2048, .i1⟩
  | 39 => ⟨S8x2048x2048, .i1⟩
  | 40 => ⟨S_, .f32⟩
  | 41 => ⟨S8x2048x64, .f32⟩
  | 42 => ⟨S8x2048x64, .f32⟩
  | 43 => ⟨S8x2048x2048, .f32⟩
  | 44 => ⟨S_, .f32⟩
  | 45 => ⟨S_, .f32⟩
  | 46 => ⟨S8x2048x2048, .f32⟩
  | 47 => ⟨S8x2048x2048, .f32⟩
  | 48 => ⟨S_, .f32⟩
  | 49 => ⟨S8x2048x2048, .f32⟩
  | 50 => ⟨S_, .f32⟩
  | 51 => ⟨S8x2048, .f32⟩
  | 52 => ⟨S8x2048x1, .f32⟩
  | 53 => ⟨S8x2048x2048, .f32⟩
  | 54 => ⟨S8x2048x2048, .i1⟩
  | 55 => ⟨S8x2048x2048, .f32⟩
  | 56 => ⟨S_, .f32⟩
  | 57 => ⟨S8x2048, .f32⟩
  | 58 => ⟨S_, .f32⟩
  | 59 => ⟨S8x2048, .f32⟩
  | 60 => ⟨S8x2048, .f32⟩
  | 61 => ⟨S_, .f32⟩
  | 62 => ⟨S8x2048, .f32⟩
  | 63 => ⟨S8x2048, .i1⟩
  | 64 => ⟨S_, .f32⟩
  | 65 => ⟨S8x2048, .f32⟩
  | 66 => ⟨S8x2048, .i1⟩
  | 67 => ⟨S_, .f32⟩
  | 68 => ⟨S8x2048, .f32⟩
  | 69 => ⟨S_, .f32⟩
  | 70 => ⟨S8x2048, .f32⟩
  | 71 => ⟨S_, .f32⟩
  | 72 => ⟨S8x2048, .f32⟩
  | 73 => ⟨S8x2048, .f32⟩
  | 74 => ⟨S8x2048, .f32⟩
  | 75 => ⟨S8x2048x1, .f32⟩
  | 76 => ⟨S8x2048x2048, .f32⟩
  | 77 => ⟨S8x2048x2048, .f32⟩
  | 78 => ⟨S8x2048x2048, .f32⟩
  | 79 => ⟨S_, .f32⟩
  | 80 => ⟨S8x2048, .f32⟩
  | 81 => ⟨S8x2048x1, .f32⟩
  | 82 => ⟨S8x2048x2048, .f32⟩
  | 83 => ⟨S8x2048x2048, .f32⟩
  | 84 => ⟨S8x2048x1, .f32⟩
  | 85 => ⟨S_, .f32⟩
  | 86 => ⟨S8x2048x1, .f32⟩
  | 87 => ⟨S8x2048x1, .f32⟩
  | 88 => ⟨S8x2048x64, .f32⟩
  | 89 => ⟨S2048x8x64, .f32⟩
  | 90 => ⟨S2048x512, .f32⟩
  | 91 => ⟨S2048x8x64, .f32⟩
  | 92 => ⟨S8x2048x64, .f32⟩
  | 93 => ⟨S8x64x2048, .f32⟩
  | 94 => ⟨S8x2048x64, .f32⟩
  | 95 => ⟨S8x2048x2048, .f32⟩
  | 96 => ⟨S8x2048x2048, .f32⟩
  | 97 => ⟨S8x2048x2048, .f32⟩
  | 98 => ⟨S8x2048x2048, .f32⟩
  | 99 => ⟨S_, .f32⟩
  | 100 => ⟨S8x2048, .f32⟩
  | 101 => ⟨S8x2048x1, .f32⟩
  | 102 => ⟨S8x2048x1, .f32⟩
  | 103 => ⟨S8x2048x2048, .f32⟩
  | 104 => ⟨S8x2048x2048, .f32⟩
  | 105 => ⟨S_, .f32⟩
  | 106 => ⟨S8x2048, .f32⟩
  | 107 => ⟨S8x2048x2048, .f32⟩
  | 108 => ⟨S8x2048x2048, .f32⟩
  | 109 => ⟨S8x2048x2048, .f32⟩
  | 110 => ⟨S_, .f32⟩
  | 111 => ⟨S8x2048x2048, .f32⟩
  | 112 => ⟨S8x2048x2048, .f32⟩
  | 113 => ⟨S8x2048x64, .f32⟩
  | 114 => ⟨S8x2048x64, .f32⟩
  | 115 => ⟨S_, .f32⟩
  | 116 => ⟨S8x2048x64, .f32⟩
  | 117 => ⟨S8x2048x64, .f32⟩
  | 118 => ⟨S2048x8x64, .f32⟩
  | 119 => ⟨S2048x512, .f32⟩
  | 120 => ⟨S8x2048x32, .f32⟩
  | 121 => ⟨S8x2048x32, .f32⟩
  | 122 => ⟨S8x2048x32, .f32⟩
  | 123 => ⟨S8x2048x32, .f32⟩
  | 124 => ⟨S8x2048x32, .f32⟩
  | 125 => ⟨S8x2048x32, .f32⟩
  | 126 => ⟨S8x2048x32, .f32⟩
  | 127 => ⟨S8x2048x32, .f32⟩
  | _ => ⟨S2048x512, .f32⟩

abbrev hbmTy0_2 (i : Nat) : BufTy := match i % 128 with
  | 0 => ⟨S8x2048x32, .f32⟩
  | 1 => ⟨S8x2048x32, .f32⟩
  | 2 => ⟨S8x2048x32, .f32⟩
  | 3 => ⟨S8x2048x32, .f32⟩
  | 4 => ⟨S8x2048x32, .f32⟩
  | 5 => ⟨S_, .f32⟩
  | 6 => ⟨S8x2048x64, .f32⟩
  | 7 => ⟨S_, .f32⟩
  | 8 => ⟨S8x2048x64, .f32⟩
  | 9 => ⟨S8x2048x64, .f32⟩
  | 10 => ⟨S2048x8x64, .f32⟩
  | 11 => ⟨S2048x512, .f32⟩
  | 12 => ⟨S8x2048x32, .f32⟩
  | 13 => ⟨S8x2048x32, .f32⟩
  | 14 => ⟨S8x2048x32, .f32⟩
  | 15 => ⟨S8x2048x32, .f32⟩
  | 16 => ⟨S8x2048x32, .f32⟩
  | 17 => ⟨S8x2048x32, .f32⟩
  | 18 => ⟨S8x2048x32, .f32⟩
  | 19 => ⟨S8x2048x32, .f32⟩
  | 20 => ⟨S8x2048x32, .f32⟩
  | 21 => ⟨S8x2048x32, .f32⟩
  | 22 => ⟨S8x2048x32, .f32⟩
  | 23 => ⟨S8x2048x32, .f32⟩
  | 24 => ⟨S8x2048x32, .f32⟩
  | 25 => ⟨S_, .f32⟩
  | 26 => ⟨S8x2048x64, .f32⟩
  | 27 => ⟨S_, .f32⟩
  | 28 => ⟨S8x2048x64, .f32⟩
  | 29 => ⟨S8x2048x64, .f32⟩
  | 30 => ⟨S2048x8x64, .f32⟩
  | 31 => ⟨S2048x512, .f32⟩
  | 32 => ⟨S2048x512, .bf16⟩
  | 33 => ⟨S2048x512, .bf16⟩
  | 34 => ⟨S2048x512, .bf16⟩
  | _ => ⟨S2048x512, .f32⟩

abbrev hbmTy (i : Nat) : BufTy := match i / 128 with
  | 0 => hbmTy0_0 i
  | 1 => hbmTy0_1 i
  | 2 => hbmTy0_2 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_cst_2 : Ref sig .tc := ⟨.hbm, 63, rfl⟩
abbrev main_v56 : Ref sig .tc := ⟨.hbm, 64, rfl⟩
abbrev main_cst_3 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_c : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_v5 : Ref sig .tc := ⟨.hbm, 75, rfl⟩
abbrev main_call0_v6 : Ref sig .tc := ⟨.hbm, 76, rfl⟩
abbrev main_call0_v7 : Ref sig .tc := ⟨.hbm, 77, rfl⟩
abbrev main_call0_v8 : Ref sig .tc := ⟨.hbm, 78, rfl⟩
abbrev main_call0_c : Ref sig .tc := ⟨.hbm, 79, rfl⟩
abbrev main_call0_v9 : Ref sig .tc := ⟨.hbm, 80, rfl⟩
abbrev main_call0_v10 : Ref sig .tc := ⟨.hbm, 81, rfl⟩
abbrev main_call0_v11 : Ref sig .tc := ⟨.hbm, 82, rfl⟩
abbrev main_call0_c_0 : Ref sig .tc := ⟨.hbm, 83, rfl⟩
abbrev main_call0_v12 : Ref sig .tc := ⟨.hbm, 84, rfl⟩
abbrev main_call0_v13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_4 : Ref sig .tc := ⟨.hbm, 94, rfl⟩
abbrev main_call1_v0 : Ref sig .tc := ⟨.hbm, 95, rfl⟩
abbrev main_v68_1 : Ref sig .tc := ⟨.hbm, 96, rfl⟩
abbrev main_call1_v2 : Ref sig .tc := ⟨.hbm, 97, rfl⟩
abbrev main_v68_0 : Ref sig .tc := ⟨.hbm, 98, rfl⟩
abbrev main_call1_cst : Ref sig .tc := ⟨.hbm, 99, rfl⟩
abbrev main_v68_2 : Ref sig .tc := ⟨.hbm, 100, rfl⟩
abbrev main_values : Ref sig .tc := ⟨.hbm, 101, rfl⟩
abbrev main_indices : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_c_5 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_c_6 : Ref sig .tc := ⟨.hbm, 117, rfl⟩
abbrev main_call2_v0 : Ref sig .tc := ⟨.hbm, 118, rfl⟩
abbrev main_call2_v1 : Ref sig .tc := ⟨.hbm, 119, rfl⟩
abbrev main_call2_v2 : Ref sig .tc := ⟨.hbm, 120, rfl⟩
abbrev main_call2_v3 : Ref sig .tc := ⟨.hbm, 121, rfl⟩
abbrev main_call2_v4 : Ref sig .tc := ⟨.hbm, 122, rfl⟩
abbrev main_call2_v5 : Ref sig .tc := ⟨.hbm, 123, rfl⟩
abbrev main_call2_v6 : Ref sig .tc := ⟨.hbm, 124, rfl⟩
abbrev main_call2_v7 : Ref sig .tc := ⟨.hbm, 125, rfl⟩
abbrev main_call2_v8 : Ref sig .tc := ⟨.hbm, 126, rfl⟩
abbrev main_call2_c : Ref sig .tc := ⟨.hbm, 127, rfl⟩
abbrev main_call2_v9 : Ref sig .tc := ⟨.hbm, 128, rfl⟩
abbrev main_call2_v10 : Ref sig .tc := ⟨.hbm, 129, rfl⟩
abbrev main_call2_v11 : Ref sig .tc := ⟨.hbm, 130, rfl⟩
abbrev main_call2_c_0 : Ref sig .tc := ⟨.hbm, 131, rfl⟩
abbrev main_call2_v12 : Ref sig .tc := ⟨.hbm, 132, rfl⟩
abbrev main_call2_v13 : Ref sig .tc := ⟨.hbm, 133, rfl⟩
abbrev main_v82 : Ref sig .tc := ⟨.hbm, 134, rfl⟩
abbrev main_v83 : Ref sig .tc := ⟨.hbm, 135, rfl⟩
abbrev main_c_7 : Ref sig .tc := ⟨.hbm, 136, rfl⟩
abbrev main_call3_v0 : Ref sig .tc := ⟨.hbm, 137, rfl⟩
abbrev main_call3_v1 : Ref sig .tc := ⟨.hbm, 138, rfl⟩
abbrev main_call3_v2 : Ref sig .tc := ⟨.hbm, 139, rfl⟩
abbrev main_call3_v3 : Ref sig .tc := ⟨.hbm, 140, rfl⟩
abbrev main_call3_v4 : Ref sig .tc := ⟨.hbm, 141, rfl⟩
abbrev main_call3_v5 : Ref sig .tc := ⟨.hbm, 142, rfl⟩
abbrev main_call3_v6 : Ref sig .tc := ⟨.hbm, 143, rfl⟩
abbrev main_call3_v7 : Ref sig .tc := ⟨.hbm, 144, rfl⟩
abbrev main_call3_v8 : Ref sig .tc := ⟨.hbm, 145, rfl⟩
abbrev main_call3_c : Ref sig .tc := ⟨.hbm, 146, rfl⟩
abbrev main_call3_v9 : Ref sig .tc := ⟨.hbm, 147, rfl⟩
abbrev main_call3_v10 : Ref sig .tc := ⟨.hbm, 148, rfl⟩
abbrev main_call3_v11 : Ref sig .tc := ⟨.hbm, 149, rfl⟩
abbrev main_call3_c_0 : Ref sig .tc := ⟨.hbm, 150, rfl⟩
abbrev main_call3_v12 : Ref sig .tc := ⟨.hbm, 151, rfl⟩
abbrev main_call3_v13 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_cst_8 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_cst_9 : Ref sig .tc := ⟨.hbm, 172, rfl⟩
abbrev main_call4_v0 : Ref sig .tc := ⟨.hbm, 173, rfl⟩
abbrev main_call4_v1 : Ref sig .tc := ⟨.hbm, 174, rfl⟩
abbrev main_v102_0 : Ref sig .tc := ⟨.hbm, 175, rfl⟩
abbrev main_call4_cst : Ref sig .tc := ⟨.hbm, 176, rfl⟩
abbrev main_v102_1 : Ref sig .tc := ⟨.hbm, 177, rfl⟩
abbrev main_cst_10 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_v107 : Ref sig .tc := ⟨.hbm, 183, rfl⟩
abbrev main_cst_11 : Ref sig .tc := ⟨.hbm, 184, rfl⟩
abbrev main_v108 : Ref sig .tc := ⟨.hbm, 185, rfl⟩
abbrev main_cst_12 : Ref sig .tc := ⟨.hbm, 186, rfl⟩
abbrev main_v109 : Ref sig .tc := ⟨.hbm, 187, rfl⟩
abbrev main_v110 : Ref sig .tc := ⟨.hbm, 188, rfl⟩
abbrev main_cst_13 : Ref sig .tc := ⟨.hbm, 189, rfl⟩
abbrev main_v111 : Ref sig .tc := ⟨.hbm, 190, rfl⟩
abbrev main_v112 : Ref sig .tc := ⟨.hbm, 191, rfl⟩
abbrev main_cst_14 : Ref sig .tc := ⟨.hbm, 192, rfl⟩
abbrev main_v113 : Ref sig .tc := ⟨.hbm, 193, rfl⟩
abbrev main_v114 : Ref sig .tc := ⟨.hbm, 194, rfl⟩
abbrev main_cst_15 : Ref sig .tc := ⟨.hbm, 195, rfl⟩
abbrev main_v115 : Ref sig .tc := ⟨.hbm, 196, rfl⟩
abbrev main_cst_16 : Ref sig .tc := ⟨.hbm, 197, rfl⟩
abbrev main_v116 : Ref sig .tc := ⟨.hbm, 198, rfl⟩
abbrev main_cst_17 : Ref sig .tc := ⟨.hbm, 199, rfl⟩
abbrev main_v117 : Ref sig .tc := ⟨.hbm, 200, rfl⟩
abbrev main_v118 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_v122 : Ref sig .tc := ⟨.hbm, 205, rfl⟩
abbrev main_v123 : Ref sig .tc := ⟨.hbm, 206, rfl⟩
abbrev main_cst_18 : Ref sig .tc := ⟨.hbm, 207, rfl⟩
abbrev main_v124 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_v128 : Ref sig .tc := ⟨.hbm, 212, rfl⟩
abbrev main_cst_19 : Ref sig .tc := ⟨.hbm, 213, rfl⟩
abbrev main_v129 : Ref sig .tc := ⟨.hbm, 214, rfl⟩
abbrev main_v130 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_v136 : Ref sig .tc := ⟨.hbm, 221, rfl⟩
abbrev main_v137 : Ref sig .tc := ⟨.hbm, 222, rfl⟩
abbrev main_v138 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_cst_20 : Ref sig .tc := ⟨.hbm, 227, rfl⟩
abbrev main_v142 : Ref sig .tc := ⟨.hbm, 228, rfl⟩
abbrev main_v143 : Ref sig .tc := ⟨.hbm, 229, rfl⟩
abbrev main_v144 : Ref sig .tc := ⟨.hbm, 230, rfl⟩
abbrev main_v145 : Ref sig .tc := ⟨.hbm, 231, rfl⟩
abbrev main_v146 : Ref sig .tc := ⟨.hbm, 232, rfl⟩
abbrev main_cst_21 : Ref sig .tc := ⟨.hbm, 233, rfl⟩
abbrev main_v147 : Ref sig .tc := ⟨.hbm, 234, rfl⟩
abbrev main_v148 : Ref sig .tc := ⟨.hbm, 235, rfl⟩
abbrev main_v149 : Ref sig .tc := ⟨.hbm, 236, rfl⟩
abbrev main_v150 : Ref sig .tc := ⟨.hbm, 237, rfl⟩
abbrev main_call5_cst : Ref sig .tc := ⟨.hbm, 238, rfl⟩
abbrev main_call5_v0 : Ref sig .tc := ⟨.hbm, 239, rfl⟩
abbrev main_v151 : Ref sig .tc := ⟨.hbm, 240, rfl⟩
abbrev main_v152 : Ref sig .tc := ⟨.hbm, 241, rfl⟩
abbrev main_v153 : Ref sig .tc := ⟨.hbm, 242, rfl⟩
abbrev main_cst_22 : Ref sig .tc := ⟨.hbm, 243, rfl⟩
abbrev main_v154 : Ref sig .tc := ⟨.hbm, 244, rfl⟩
abbrev main_v155 : Ref sig .tc := ⟨.hbm, 245, rfl⟩
abbrev main_v156 : Ref sig .tc := ⟨.hbm, 246, rfl⟩
abbrev main_v157 : Ref sig .tc := ⟨.hbm, 247, rfl⟩
abbrev main_v158 : Ref sig .tc := ⟨.hbm, 248, rfl⟩
abbrev main_v159 : Ref sig .tc := ⟨.hbm, 249, rfl⟩
abbrev main_v160 : Ref sig .tc := ⟨.hbm, 250, rfl⟩
abbrev main_v161 : Ref sig .tc := ⟨.hbm, 251, rfl⟩
abbrev main_v162 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_v166 : Ref sig .tc := ⟨.hbm, 256, rfl⟩
abbrev main_v167 : Ref sig .tc := ⟨.hbm, 257, rfl⟩
abbrev main_v168 : Ref sig .tc := ⟨.hbm, 258, rfl⟩
abbrev main_v169 : Ref sig .tc := ⟨.hbm, 259, rfl⟩
abbrev main_v170 : Ref sig .tc := ⟨.hbm, 260, rfl⟩
abbrev main_cst_23 : Ref sig .tc := ⟨.hbm, 261, rfl⟩
abbrev main_v171 : Ref sig .tc := ⟨.hbm, 262, rfl⟩
abbrev main_cst_24 : Ref sig .tc := ⟨.hbm, 263, rfl⟩
abbrev main_v172 : Ref sig .tc := ⟨.hbm, 264, rfl⟩
abbrev main_v173 : Ref sig .tc := ⟨.hbm, 265, rfl⟩
abbrev main_v174 : Ref sig .tc := ⟨.hbm, 266, rfl⟩
abbrev main_v175 : Ref sig .tc := ⟨.hbm, 267, rfl⟩
abbrev main_v176 : Ref sig .tc := ⟨.hbm, 268, rfl⟩
abbrev main_v177 : Ref sig .tc := ⟨.hbm, 269, rfl⟩
abbrev main_v178 : Ref sig .tc := ⟨.hbm, 270, rfl⟩
abbrev main_v179 : Ref sig .tc := ⟨.hbm, 271, rfl⟩
abbrev main_v180 : Ref sig .tc := ⟨.hbm, 272, rfl⟩
abbrev main_v181 : Ref sig .tc := ⟨.hbm, 273, rfl⟩
abbrev main_v182 : Ref sig .tc := ⟨.hbm, 274, rfl⟩
abbrev main_v183 : Ref sig .tc := ⟨.hbm, 275, rfl⟩
abbrev main_v184 : Ref sig .tc := ⟨.hbm, 276, rfl⟩
abbrev main_v185 : Ref sig .tc := ⟨.hbm, 277, rfl⟩
abbrev main_v186 : Ref sig .tc := ⟨.hbm, 278, rfl⟩
abbrev main_v187 : Ref sig .tc := ⟨.hbm, 279, rfl⟩
abbrev main_v188 : Ref sig .tc := ⟨.hbm, 280, rfl⟩
abbrev main_cst_25 : Ref sig .tc := ⟨.hbm, 281, rfl⟩
abbrev main_v189 : Ref sig .tc := ⟨.hbm, 282, rfl⟩
abbrev main_cst_26 : Ref sig .tc := ⟨.hbm, 283, rfl⟩
abbrev main_v190 : Ref sig .tc := ⟨.hbm, 284, rfl⟩
abbrev main_v191 : Ref sig .tc := ⟨.hbm, 285, rfl⟩
abbrev main_v192 : Ref sig .tc := ⟨.hbm, 286, rfl⟩
abbrev main_v193 : Ref sig .tc := ⟨.hbm, 287, rfl⟩
abbrev main_v194 : Ref sig .tc := ⟨.hbm, 288, rfl⟩
abbrev main_v195 : Ref sig .tc := ⟨.hbm, 289, rfl⟩
abbrev main_v196 : Ref sig .tc := ⟨.hbm, 290, rfl⟩

abbrev nD : Nat := 1
abbrev τ : Topo := Topo.v7x

variable {F : FTy → Type} [FloatOps F]
-- ==== Up.lean ====
abbrev S2048x1024 : Shape := ⟨2, ![2048, 1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S1x2816 : Shape := ⟨2, ![1, 2816]⟩
abbrev S2048x2816 : Shape := ⟨2, ![2048, 2816]⟩
abbrev S256x1024 : Shape := ⟨2, ![256, 1024]⟩
abbrev S3x256 : Shape := ⟨2, ![3, 256]⟩
abbrev S1x256 : Shape := ⟨2, ![1, 256]⟩
abbrev S2048x256 : Shape := ⟨2, ![2048, 256]⟩

abbrev nBuf : Space → Nat
  | .hbm => 14
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S3x2816, .f32⟩
  | .hbm, ⟨4, _⟩ => ⟨S2816, .f32⟩
  | .hbm, ⟨5, _⟩ => ⟨S2048x1024, .bf16⟩
  | .hbm, ⟨6, _⟩ => ⟨S2816x1024, .f32⟩
  | .hbm, ⟨7, _⟩ => ⟨S2816x1024, .bf16⟩
  | .hbm, ⟨8, _⟩ => ⟨S2816x1024, .f32⟩
  | .hbm, ⟨9, _⟩ => ⟨S2816x1024, .bf16⟩
  | .hbm, ⟨10, _⟩ => ⟨S1x2816, .f32⟩
  | .hbm, ⟨11, _⟩ => ⟨S2048x2816, .f32⟩
  | .hbm, ⟨12, _⟩ => ⟨S2048x2816, .f32⟩
  | .hbm, ⟨13, _⟩ => ⟨S2048x2816, .bf16⟩
  | .local _ .vmem, ⟨0, _⟩ => ⟨S2048x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S3x256, .f32⟩
  | .local _ .vmem, ⟨6, _⟩ => ⟨S3x256, .f32⟩
  | .local _ .vmem, ⟨7, _⟩ => ⟨S1x256, .f32⟩
  | .local _ .vmem, ⟨8, _⟩ => ⟨S1x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .bf16⟩
  | .local _ .vmem, ⟨14, _⟩ => ⟨S2048x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpIdeal.lean ====
variable {F : FTy → Type} [FloatOps F] [Named F]
def κ : String → Option EReal := fun
  | "root_half" => some (((Real.sqrt 2)⁻¹ : ℝ) : EReal)
  | _ => none
-- ==== UpHostIdeal.lean ====
abbrev S2048x1024 : Shape := ⟨2, ![2048, 1024]⟩
abbrev S1024x2816 : Shape := ⟨2, ![1024, 2816]⟩
abbrev S3x2816 : Shape := ⟨2, ![3, 2816]⟩
abbrev S2816 : Shape := ⟨1, ![2816]⟩
abbrev S2048x2816 : Shape := ⟨2, ![2048, 2816]⟩
abbrev S_ : Shape := ⟨0, ![]⟩
abbrev S2x2816 : Shape := ⟨2, ![2, 2816]⟩
abbrev S2050x2816 : Shape := ⟨2, ![2050, 2816]⟩
abbrev S1x2816 : Shape := ⟨2, ![1, 2816]⟩

abbrev nBuf : Space → Nat
  | .hbm => 49
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S3x2816, .f32⟩
  | .hbm, ⟨4, _⟩ => ⟨S2816, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2x2816, .f32⟩
  | .hbm, ⟨9, _⟩ => ⟨S2050x2816, .f32⟩
  | .hbm, ⟨10, _⟩ => ⟨S2048x2816, .f32⟩
  | .hbm, ⟨11, _⟩ => ⟨S1x2816, .f32⟩
  | .hbm, ⟨12, _⟩ => ⟨S2816, .f32⟩
  | .hbm, ⟨13, _⟩ => ⟨S1x2816, .f32⟩
  | .hbm, ⟨14, _⟩ => ⟨S2048x2816, .f32⟩
  | .hbm, ⟨15, _⟩ => ⟨S2048x2816, .f32⟩
  | .hbm, ⟨16, _⟩ => ⟨S_, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S1x2816, .f32⟩
  | .hbm, ⟨21, _⟩ => ⟨S2816, .f32⟩
  | .hbm, ⟨22, _⟩ => ⟨S1x2816, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S2048x2816, .f32⟩
  | .hbm, ⟨27, _⟩ => ⟨S1x2816, .f32⟩
  | .hbm, ⟨28, _⟩ => ⟨S2816, .f32⟩
  | .hbm, ⟨29, _⟩ => ⟨S1x2816, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S1x2816, .f32⟩
  | .hbm, ⟨34, _⟩ => ⟨S2048x2816, .f32⟩
  | .hbm, ⟨35, _⟩ => ⟨S2048x2816, .f32⟩
  | .hbm, ⟨36, _⟩ => ⟨S_, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S2048x2816, .f32⟩
  | .hbm, ⟨44, _⟩ => ⟨S2048x2816, .f32⟩
  | .hbm, ⟨45, _⟩ => ⟨S2048x2816, .f32⟩
  | .hbm, ⟨46, _⟩ => ⟨S2048x2816, .f32⟩
  | .hbm, ⟨47, _⟩ => ⟨S2048x2816, .f32⟩
  | .hbm, ⟨48, _⟩ => ⟨S2048x2816, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_1 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩

abbrev nD : Nat := 1
abbrev τ : Topo := Topo.v7x

variable {F : FTy → Type} [FloatOps F]
-- ==== Proj.lean ====
abbrev S2048x1024 : Shape := ⟨2, ![2048, 1024]⟩
abbrev S1024x4096 : Shape := ⟨2, ![1024, 4096]⟩
abbrev S2048 : Shape := ⟨1, ![2048]⟩
abbrev S1024x8x512 : Shape := ⟨3, ![1024, 8, 512]⟩
abbrev S8x1024x512 : Shape := ⟨3, ![8, 1024, 512]⟩
abbrev S1x2048 : Shape := ⟨2, ![1, 2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S1024x2048 : Shape := ⟨2, ![1024, 2048]⟩
abbrev S2048x512 : Shape := ⟨2, ![2048, 512]⟩
abbrev S2048x2048 : Shape := ⟨2, ![2048, 2048]⟩
abbrev S8x1x512 : Shape := ⟨3, ![8, 1, 512]⟩
abbrev S256x1024 : Shape := ⟨2, ![256, 1024]⟩
abbrev S256x128 : Shape := ⟨2, ![256, 128]⟩
abbrev S1024x256 : Shape := ⟨2, ![1024, 256]⟩
abbrev S256x512 : Shape := ⟨2, ![256, 512]⟩
abbrev S256x2048 : Shape := ⟨2, ![256, 2048]⟩
abbrev S1x1x512 : Shape := ⟨3, ![1, 1, 512]⟩
abbrev S1x1024x512 : Shape := ⟨3, ![1, 1024, 512]⟩
abbrev S1024x512 : Shape := ⟨2, ![1024, 512]⟩
abbrev S512 : Shape := ⟨1, ![512]⟩
abbrev S1x512 : Shape := ⟨2, ![1, 512]⟩

abbrev nBuf : Space → Nat
  | .hbm => 40
  | .vmem => 22
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048, .f32⟩
  | .hbm, ⟨3, _⟩ => ⟨S1024x8x512, .f32⟩
  | .hbm, ⟨4, _⟩ => ⟨S8x1024x512, .f32⟩
  | .hbm, ⟨5, _⟩ => ⟨S8x1024x512, .bf16⟩
  | .hbm, ⟨6, _⟩ => ⟨S1x2048, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S2048, .f32⟩
  | .hbm, ⟨18, _⟩ => ⟨S2048x1, .f32⟩
  | .hbm, ⟨19, _⟩ => ⟨S1x32, .f32⟩
  | .hbm, ⟨20, _⟩ => ⟨S2048x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S1x2048x1x32, .f32⟩
  | .hbm, ⟨26, _⟩ => ⟨S1x2048x4x32, .f32⟩
  | .hbm, ⟨27, _⟩ => ⟨S2048x128, .f32⟩
  | .hbm, ⟨28, _⟩ => ⟨S2048x32, .f32⟩
  | .hbm, ⟨29, _⟩ => ⟨S2048x64, .f32⟩
  | .hbm, ⟨30, _⟩ => ⟨S1x2048x1x64, .f32⟩
  | .hbm, ⟨31, _⟩ => ⟨S1x2048x2x64, .f32⟩
  | .hbm, ⟨32, _⟩ => ⟨S2048x128, .f32⟩
  | .hbm, ⟨33, _⟩ => ⟨S1024x2048, .bf16⟩
  | .hbm, ⟨34, _⟩ => ⟨S2048x512, .f32⟩
  | .hbm, ⟨35, _⟩ => ⟨S2048x512, .f32⟩
  | .hbm, ⟨36, _⟩ => ⟨S2048x512, .bf16⟩
  | .hbm, ⟨37, _⟩ => ⟨S2048x512, .f32⟩
  | .hbm, ⟨38, _⟩ => ⟨S2048x2048, .f32⟩
  | .hbm, ⟨39, _⟩ => ⟨S8x1x512, .f32⟩
  | .local _ .vmem, ⟨0, _⟩ => ⟨S256x1024, .f32⟩
  | .local _ .vmem, ⟨1, _⟩ => ⟨S256x1024, .f32⟩
  | .local _ .vmem, ⟨2, _⟩ => ⟨S8x1024x512, .bf16⟩
  | .local _ .vmem, ⟨3, _⟩ => ⟨S1x2048, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1024x256, .bf16⟩
  | .local _ .vmem, ⟨9, _⟩ => ⟨S1024x256, .bf16⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .bf16⟩
  | .local _ .vmem, ⟨15, _⟩ => ⟨S256x512, .bf16⟩
  | .local _ .vmem, ⟨16, _⟩ => ⟨S256x512, .f32⟩
  | .local _ .vmem, ⟨17, _⟩ => ⟨S256x512, .f32⟩
  | .local _ .vmem, ⟨18, _⟩ => ⟨S256x2048, .f32⟩
  | .local _ .vmem, ⟨19, _⟩ => ⟨S256x2048, .f32⟩
  | .local _ .vmem, ⟨20, _⟩ => ⟨S1x1x512, .f32⟩
  | .local _ .vmem, ⟨21, _⟩ => ⟨S1x1x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27_0 : Ref sig .tc := ⟨.hbm, 33, rfl⟩
abbrev main_v27_1 : Ref sig .tc := ⟨.hbm, 34, rfl⟩
abbrev main_v27_2 : Ref sig .tc := ⟨.hbm, 35, rfl⟩
abbrev main_v27_3 : Ref sig .tc := ⟨.hbm, 36, rfl⟩
abbrev main_v27_4 : Ref sig .tc := ⟨.hbm, 37, rfl⟩
abbrev main_v27_5 : Ref sig .tc := ⟨.hbm, 38, rfl⟩
abbrev main_v27_6 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ProjHostIdeal.lean ====
abbrev S2048x1024 : Shape := ⟨2, ![2048, 1024]⟩
abbrev S1024x4096 : Shape := ⟨2, ![1024, 4096]⟩
abbrev S2048 : Shape := ⟨1, ![2048]⟩
abbrev S2048x4096 : Shape := ⟨2, ![2048, 4096]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x512 : Shape := ⟨2, ![2048, 512]⟩
abbrev S2048x8x64 : Shape := ⟨3, ![2048, 8, 64]⟩
abbrev S8x2048x64 : Shape := ⟨3, ![8, 2048, 64]⟩
abbrev S8x2048x32 : Shape := ⟨3, ![8, 2048, 32]⟩
abbrev S1x2048x32 : Shape := ⟨3, ![1, 2048, 32]⟩
abbrev S8x256x512 : Shape := ⟨3, ![8, 256, 512]⟩
abbrev S8x512 : Shape := ⟨2, ![8, 512]⟩
abbrev S8x1x512 : Shape := ⟨3, ![8, 1, 512]⟩
abbrev S1024x2048 : Shape := ⟨2, ![1024, 2048]⟩
abbrev S2048x2048 : Shape := ⟨2, ![2048, 2048]⟩
abbrev S1x2048 : Shape := ⟨2, ![1, 2048]⟩

abbrev nBuf : Space → Nat
  | .hbm => 90
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048, .f32⟩
  | .hbm, ⟨3, _⟩ => ⟨S2048x4096, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S2048, .f32⟩
  | .hbm, ⟨15, _⟩ => ⟨S2048x1, .f32⟩
  | .hbm, ⟨16, _⟩ => ⟨S1x32, .f32⟩
  | .hbm, ⟨17, _⟩ => ⟨S2048x32, .f32⟩
  | .hbm, ⟨18, _⟩ => ⟨S2048x32, .f32⟩
  | .hbm, ⟨19, _⟩ => ⟨S2048x32, .f32⟩
  | .hbm, ⟨20, _⟩ => ⟨S2048x32, .f32⟩
  | .hbm, ⟨21, _⟩ => ⟨S2048x32, .f32⟩
  | .hbm, ⟨22, _⟩ => ⟨S2048x512, .f32⟩
  | .hbm, ⟨23, _⟩ => ⟨S2048x8x64, .f32⟩
  | .hbm, ⟨24, _⟩ => ⟨S8x2048x64, .f32⟩
  | .hbm, ⟨25, _⟩ => ⟨S8x2048x32, .f32⟩
  | .hbm, ⟨26, _⟩ => ⟨S8x2048x32, .f32⟩
  | .hbm, ⟨27, _⟩ => ⟨S1x2048x32, .f32⟩
  | .hbm, ⟨28, _⟩ => ⟨S8x2048x32, .f32⟩
  | .hbm, ⟨29, _⟩ => ⟨S8x2048x32, .f32⟩
  | .hbm, ⟨30, _⟩ => ⟨S1x2048x32, .f32⟩
  | .hbm, ⟨31, _⟩ => ⟨S8x2048x32, .f32⟩
  | .hbm, ⟨32, _⟩ => ⟨S8x2048x32, .f32⟩
  | .hbm, ⟨33, _⟩ => ⟨S8x2048x32, .f32⟩
  | .hbm, ⟨34, _⟩ => ⟨S1x2048x32, .f32⟩
  | .hbm, ⟨35, _⟩ => ⟨S8x2048x32, .f32⟩
  | .hbm, ⟨36, _⟩ => ⟨S8x2048x32, .f32⟩
  | .hbm, ⟨37, _⟩ => ⟨S1x2048x32, .f32⟩
  | .hbm, ⟨38, _⟩ => ⟨S8x2048x32, .f32⟩
  | .hbm, ⟨39, _⟩ => ⟨S8x2048x32, .f32⟩
  | .hbm, ⟨40, _⟩ => ⟨S8x2048x32, .f32⟩
  | .hbm, ⟨41, _⟩ => ⟨S8x2048x64, .f32⟩
  | .hbm, ⟨42, _⟩ => ⟨S2048x8x64, .f32⟩
  | .hbm, ⟨43, _⟩ => ⟨S2048x512, .f32⟩
  | .hbm, ⟨44, _⟩ => ⟨S2048x512, .f32⟩
  | .hbm, ⟨45, _⟩ => ⟨S2048x8x64, .f32⟩
  | .hbm, ⟨46, _⟩ => ⟨S8x2048x64, .f32⟩
  | .hbm, ⟨47, _⟩ => ⟨S8x2048x32, .f32⟩
  | .hbm, ⟨48, _⟩ => ⟨S8x2048x32, .f32⟩
  | .hbm, ⟨49, _⟩ => ⟨S1x2048x32, .f32⟩
  | .hbm, ⟨50, _⟩ => ⟨S8x2048x32, .f32⟩
  | .hbm, ⟨51, _⟩ => ⟨S8x2048x32, .f32⟩
  | .hbm, ⟨52, _⟩ => ⟨S1x2048x32, .f32⟩
  | .hbm, ⟨53, _⟩ => ⟨S8x2048x32, .f32⟩
  | .hbm, ⟨54, _⟩ => ⟨S8x2048x32, .f32⟩
  | .hbm, ⟨55, _⟩ => ⟨S8x2048x32, .f32⟩
  | .hbm, ⟨56, _⟩ => ⟨S1x2048x32, .f32⟩
  | .hbm, ⟨57, _⟩ => ⟨S8x2048x32, .f32⟩
  | .hbm, ⟨58, _⟩ => ⟨S8x2048x32, .f32⟩
  | .hbm, ⟨59, _⟩ => ⟨S1x2048x32, .f32⟩
  | .hbm, ⟨60, _⟩ => ⟨S8x2048x32, .f32⟩
  | .hbm, ⟨61, _⟩ => ⟨S8x2048x32, .f32⟩
  | .hbm, ⟨62, _⟩ => ⟨S8x2048x32, .f32⟩
  | .hbm, ⟨63, _⟩ => ⟨S8x2048x64, .f32⟩
  | .hbm, ⟨64, _⟩ => ⟨S2048x8x64, .f32⟩
  | .hbm, ⟨65, _⟩ => ⟨S2048x512, .f32⟩
  | .hbm, ⟨66, _⟩ => ⟨S8x256x512, .f32⟩
  | .hbm, ⟨67, _⟩ => ⟨S_, .f32⟩
  | .hbm, ⟨68, _⟩ => ⟨S8x512, .f32⟩
  | .hbm, ⟨69, _⟩ => ⟨S8x1x512, .f32⟩
  | .hbm, ⟨70, _⟩ => ⟨S_, .f32⟩
  | .hbm, ⟨71, _⟩ => ⟨S8x1x512, .f32⟩
  | .hbm, ⟨72, _⟩ => ⟨S8x1x512, .f32⟩
  | .hbm, ⟨73, _⟩ => ⟨S1024x2048, .f32⟩
  | .hbm, ⟨74, _⟩ => ⟨S1024x2048, .bf16⟩
  | .hbm, ⟨75, _⟩ => ⟨S2048x512, .f32⟩
  | .hbm, ⟨76, _⟩ => ⟨S2048x512, .bf16⟩
  | .hbm, ⟨77, _⟩ => ⟨S2048x512, .f32⟩
  | .hbm, ⟨78, _⟩ => ⟨S2048x2048, .f32⟩
  | .hbm, ⟨79, _⟩ => ⟨S1x2048, .f32⟩
  | .hbm, ⟨80, _⟩ => ⟨S2048x2048, .f32⟩
  | .hbm, ⟨81, _⟩ => ⟨S2048x2048, .f32⟩
  | .hbm, ⟨82, _⟩ => ⟨S2048x2048, .f32⟩
  | .hbm, ⟨83, _⟩ => ⟨S2048x2048, .f32⟩
  | .hbm, ⟨84, _⟩ => ⟨S_, .f32⟩
  | .hbm, ⟨85, _⟩ => ⟨S2048x2048, .f32⟩
  | .hbm, ⟨86, _⟩ => ⟨S2048x2048, .f32⟩
  | .hbm, ⟨87, _⟩ => ⟨S_, .f32⟩
  | .hbm, ⟨88, _⟩ => ⟨S2048x2048, .f32⟩
  | .hbm, ⟨89, _⟩ => ⟨S2048x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_cst_2 : Ref sig .tc := ⟨.hbm, 67, rfl⟩
abbrev main_v61 : Ref sig .tc := ⟨.hbm, 68, rfl⟩
abbrev main_v62 : Ref sig .tc := ⟨.hbm, 69, rfl⟩
abbrev main_cst_3 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_cst_4 : Ref sig .tc := ⟨.hbm, 84, rfl⟩
abbrev main_v76 : Ref sig .tc := ⟨.hbm, 85, rfl⟩
abbrev main_v77 : Ref sig .tc := ⟨.hbm, 86, rfl⟩
abbrev main_cst_5 : Ref sig .tc := ⟨.hbm, 87, rfl⟩
abbrev main_v78 : Ref sig .tc := ⟨.hbm, 88, rfl⟩
abbrev main_v79 : Ref sig .tc := ⟨.hbm, 89, rfl⟩

abbrev nD : Nat := 1
abbrev τ : Topo := Topo.v7x

variable {F : FTy → Type} [FloatOps F]
-- ==== Merge.lean ====
abbrev S2048x512 : Shape := ⟨2, ![2048, 512]⟩
abbrev S2048x2048 : Shape := ⟨2, ![2048, 2048]⟩
abbrev S2048x1024 : Shape := ⟨2, ![2048, 1024]⟩
abbrev S512x1024 : Shape := ⟨2, ![512, 1024]⟩
abbrev S4x128x128 : Shape := ⟨3, ![4, 128, 128]⟩
abbrev S512 : Shape := ⟨1, ![512]⟩
abbrev S1024x1024 : Shape := ⟨2, ![1024, 1024]⟩
abbrev S1024 : Shape := ⟨1, ![1024]⟩
abbrev S1x512 : Shape := ⟨2, ![1, 512]⟩
abbrev S1x1024 : Shape := ⟨2, ![1, 1024]⟩
abbrev S2048x128 : Shape := ⟨2, ![2048, 128]⟩
abbrev S256x512 : Shape := ⟨2, ![256, 512]⟩
abbrev S16x512 : Shape := ⟨2, ![16, 512]⟩
abbrev S256x2048 : Shape := ⟨2, ![256, 2048]⟩
abbrev S256x1024 : Shape := ⟨2, ![256, 1024]⟩
abbrev S256x128 : Shape := ⟨2, ![256, 128]⟩
abbrev S272x512 : Shape := ⟨2, ![272, 512]⟩
abbrev S256x1 : Shape := ⟨2, ![256, 1]⟩
abbrev S1x128x128 : Shape := ⟨3, ![1, 128, 128]⟩
abbrev S128x128 : Shape := ⟨2, ![128, 128]⟩
abbrev S256 : Shape := ⟨1, ![256]⟩

abbrev nBuf : Space → Nat
  | .hbm => 27
  | .vmem => 38
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x2048, .f32⟩
  | .hbm, ⟨3, _⟩ => ⟨S2048x1024, .f32⟩
  | .hbm, ⟨4, _⟩ => ⟨S512x1024, .f32⟩
  | .hbm, ⟨5, _⟩ => ⟨S4x128x128, .f32⟩
  | .hbm, ⟨6, _⟩ => ⟨S512, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S512x1024, .bf16⟩
  | .hbm, ⟨12, _⟩ => ⟨S512x1024, .bf16⟩
  | .hbm, ⟨13, _⟩ => ⟨S1024x1024, .bf16⟩
  | .hbm, ⟨14, _⟩ => ⟨S1x512, .f32⟩
  | .hbm, ⟨15, _⟩ => ⟨S1x1024, .f32⟩
  | .hbm, ⟨16, _⟩ => ⟨S1x1024, .f32⟩
  | .hbm, ⟨17, _⟩ => ⟨S2048x1024, .bf16⟩
  | .hbm, ⟨18, _⟩ => ⟨S2048x1024, .bf16⟩
  | .hbm, ⟨19, _⟩ => ⟨S2048x512, .bf16⟩
  | .hbm, ⟨20, _⟩ => ⟨S2048x512, .f32⟩
  | .hbm, ⟨21, _⟩ => ⟨S2048x512, .bf16⟩
  | .hbm, ⟨22, _⟩ => ⟨S2048x1024, .bf16⟩
  | .hbm, ⟨23, _⟩ => ⟨S2048x1024, .f32⟩
  | .hbm, ⟨24, _⟩ => ⟨S2048x128, .f32⟩
  | .hbm, ⟨25, _⟩ => ⟨S2048x1024, .f32⟩
  | .hbm, ⟨26, _⟩ => ⟨S2048x1024, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S16x512, .f32⟩
  | .local _ .vmem, ⟨5, _⟩ => ⟨S16x512, .f32⟩
  | .local _ .vmem, ⟨6, _⟩ => ⟨S256x2048, .f32⟩
  | .local _ .vmem, ⟨7, _⟩ => ⟨S256x2048, .f32⟩
  | .local _ .vmem, ⟨8, _⟩ => ⟨S256x1024, .f32⟩
  | .local _ .vmem, ⟨9, _⟩ => ⟨S256x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S4x128x128, .f32⟩
  | .local _ .vmem, ⟨14, _⟩ => ⟨S1x512, .f32⟩
  | .local _ .vmem, ⟨15, _⟩ => ⟨S1x1024, .f32⟩
  | .local _ .vmem, ⟨16, _⟩ => ⟨S1x1024, .f32⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x512, .bf16⟩
  | .local _ .vmem, ⟨22, _⟩ => ⟨S256x512, .bf16⟩
  | .local _ .vmem, ⟨23, _⟩ => ⟨S256x512, .f32⟩
  | .local _ .vmem, ⟨24, _⟩ => ⟨S256x512, .f32⟩
  | .local _ .vmem, ⟨25, _⟩ => ⟨S256x512, .bf16⟩
  | .local _ .vmem, ⟨26, _⟩ => ⟨S256x512, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .f32⟩
  | .local _ .vmem, ⟨30, _⟩ => ⟨S256x1024, .f32⟩
  | .local _ .vmem, ⟨31, _⟩ => ⟨S256x128, .f32⟩
  | .local _ .vmem, ⟨32, _⟩ => ⟨S256x128, .f32⟩
  | .local _ .vmem, ⟨33, _⟩ => ⟨S256x1024, .f32⟩
  | .local _ .vmem, ⟨34, _⟩ => ⟨S256x1024, .f32⟩
  | .local _ .vmem, ⟨35, _⟩ => ⟨S256x1024, .bf16⟩
  | .local _ .vmem, ⟨36, _⟩ => ⟨S256x1024, .bf16⟩
  | .local _ .vmem, ⟨37, _⟩ => ⟨S272x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev main_v6_4 : Ref sig .tc := ⟨.hbm, 21, rfl⟩
abbrev main_v6_5 : Ref sig .tc := ⟨.hbm, 22, rfl⟩
abbrev main_v6_6 : Ref sig .tc := ⟨.hbm, 23, rfl⟩
abbrev main_v6_7 : Ref sig .tc := ⟨.hbm, 24, rfl⟩
abbrev main_v6_8 : Ref sig .tc := ⟨.hbm, 25, rfl⟩
abbrev main_v6_9 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_scratch0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== MergeHostIdeal.lean ====
abbrev S2048x512 : Shape := ⟨2, ![2048, 512]⟩
abbrev S2048x2048 : Shape := ⟨2, ![2048, 2048]⟩
abbrev S2048x1024 : Shape := ⟨2, ![2048, 1024]⟩
abbrev S512x1024 : Shape := ⟨2, ![512, 1024]⟩
abbrev S4x128x128 : Shape := ⟨3, ![4, 128, 128]⟩
abbrev S512 : Shape := ⟨1, ![512]⟩
abbrev S1024x1024 : Shape := ⟨2, ![1024, 1024]⟩
abbrev S1024 : Shape := ⟨1, ![1024]⟩
abbrev S_ : Shape := ⟨0, ![]⟩
abbrev S1x512 : Shape := ⟨2, ![1, 512]⟩
abbrev S2049x512 : Shape := ⟨2, ![2049, 512]⟩
abbrev S2048 : Shape := ⟨1, ![2048]⟩
abbrev S2048x128 : Shape := ⟨2, ![2048, 128]⟩
abbrev S2049x128 : Shape := ⟨2, ![2049, 128]⟩
abbrev S2048x1 : Shape := ⟨2, ![2048, 1]⟩
abbrev S2048x4x128 : Shape := ⟨3, ![2048, 4, 128]⟩
abbrev S4x128x2048 : Shape := ⟨3, ![4, 128, 2048]⟩
abbrev S1x1024 : Shape := ⟨2, ![1, 1024]⟩

abbrev nBuf : Space → Nat
  | .hbm => 198
  | .vmem => 0
  | .smem => 0
  | _ => 0

abbrev hbmTy0_0 (i : Nat) : BufTy := match i % 128 with
  | 0 => ⟨S2048x512, .f32⟩
  | 1 => ⟨S2048x512, .f32⟩
  | 2 => ⟨S2048x2048, .f32⟩
  | 3 => ⟨S2048x1024, .f32⟩
  | 4 => ⟨S512x1024, .f32⟩
  | 5 => ⟨S4x128x128, .f32⟩
  | 6 => ⟨S512, .f32⟩
  | 7 => ⟨S512x1024, .f32⟩
  | 8 => ⟨S1024x1024, .f32⟩
  | 9 => ⟨S1024, .f32⟩
  | 10 => ⟨S1024, .f32⟩
  | 11 => ⟨S2048x1024, .f32⟩
  | 12 => ⟨S_, .f32⟩
  | 13 => ⟨S1x512, .f32⟩
  | 14 => ⟨S_, .f32⟩
  | 15 => ⟨S_, .f32⟩
  | 16 => ⟨S2048x512, .f32⟩
  | 17 => ⟨S2049x512, .f32⟩
  | 18 => ⟨S2048, .i32⟩
  | 19 => ⟨S_, .i32⟩
  | 20 => ⟨S2048, .i32⟩
  | 21 => ⟨S2048, .i32⟩
  | 22 => ⟨S_, .i32⟩
  | 23 => ⟨S2048, .i32⟩
  | 24 => ⟨S2048, .i32⟩
  | 25 => ⟨S_, .i32⟩
  | 26 => ⟨S2048, .i32⟩
  | 27 => ⟨S2048, .i32⟩
  | 28 => ⟨S_, .i32⟩
  | 29 => ⟨S2048, .i32⟩
  | 30 => ⟨S2048, .i32⟩
  | 31 => ⟨S2048, .i32⟩
  | 32 => ⟨S2048, .f32⟩
  | 33 => ⟨S2048x128, .f32⟩
  | 34 => ⟨S2049x128, .f32⟩
  | 35 => ⟨S_, .i32⟩
  | 36 => ⟨S2048, .i32⟩
  | 37 => ⟨S2048, .i1⟩
  | 38 => ⟨S_, .i32⟩
  | 39 => ⟨S2048, .i32⟩
  | 40 => ⟨S2048, .i32⟩
  | 41 => ⟨S2048, .i32⟩
  | 42 => ⟨S2048x1, .i32⟩
  | 43 => ⟨S2048x128, .f32⟩
  | 44 => ⟨S2048x128, .f32⟩
  | 45 => ⟨S2048x1, .f32⟩
  | 46 => ⟨S2048x128, .f32⟩
  | 47 => ⟨S2048x128, .f32⟩
  | 48 => ⟨S2048x128, .f32⟩
  | 49 => ⟨S2048x128, .f32⟩
  | 50 => ⟨S_, .i32⟩
  | 51 => ⟨S2048, .i32⟩
  | 52 => ⟨S2048, .i32⟩
  | 53 => ⟨S_, .i32⟩
  | 54 => ⟨S2048, .i32⟩
  | 55 => ⟨S2048, .i32⟩
  | 56 => ⟨S_, .i32⟩
  | 57 => ⟨S2048, .i32⟩
  | 58 => ⟨S2048, .i32⟩
  | 59 => ⟨S_, .i32⟩
  | 60 => ⟨S2048, .i32⟩
  | 61 => ⟨S2048, .i32⟩
  | 62 => ⟨S2048, .i32⟩
  | 63 => ⟨S2048, .f32⟩
  | 64 => ⟨S2048x128, .f32⟩
  | 65 => ⟨S2049x128, .f32⟩
  | 66 => ⟨S_, .i32⟩
  | 67 => ⟨S2048, .i32⟩
  | 68 => ⟨S2048, .i1⟩
  | 69 => ⟨S_, .i32⟩
  | 70 => ⟨S2048, .i32⟩
  | 71 => ⟨S2048, .i32⟩
  | 72 => ⟨S2048, .i32⟩
  | 73 => ⟨S2048x1, .i32⟩
  | 74 => ⟨S2048x128, .f32⟩
  | 75 => ⟨S2048x128, .f32⟩
  | 76 => ⟨S2048x1, .f32⟩
  | 77 => ⟨S2048x128, .f32⟩
  | 78 => ⟨S2048x128, .f32⟩
  | 79 => ⟨S2048x128, .f32⟩
  | 80 => ⟨S2048x128, .f32⟩
  | 81 => ⟨S_, .i32⟩
  | 82 => ⟨S2048, .i32⟩
  | 83 => ⟨S2048, .i32⟩
  | 84 => ⟨S_, .i32⟩
  | 85 => ⟨S2048, .i32⟩
  | 86 => ⟨S2048, .i32⟩
  | 87 => ⟨S_, .i32⟩
  | 88 => ⟨S2048, .i32⟩
  | 89 => ⟨S2048, .i32⟩
  | 90 => ⟨S_, .i32⟩
  | 91 => ⟨S2048, .i32⟩
  | 92 => ⟨S2048, .i32⟩
  | 93 => ⟨S2048, .i32⟩
  | 94 => ⟨S2048, .f32⟩
  | 95 => ⟨S2048x128, .f32⟩
  | 96 => ⟨S2049x128, .f32⟩
  | 97 => ⟨S_, .i32⟩
  | 98 => ⟨S2048, .i32⟩
  | 99 => ⟨S2048, .i1⟩
  | 100 => ⟨S_, .i32⟩
  | 101 => ⟨S2048, .i32⟩
  | 102 => ⟨S2048, .i32⟩
  | 103 => ⟨S2048, .i32⟩
  | 104 => ⟨S2048x1, .i32⟩
  | 105 => ⟨S2048x128, .f32⟩
  | 106 => ⟨S2048x128, .f32⟩
  | 107 => ⟨S2048x1, .f32⟩
  | 108 => ⟨S2048x128, .f32⟩
  | 109 => ⟨S2048x128, .f32⟩
  | 110 => ⟨S2048x128, .f32⟩
  | 111 => ⟨S2048x128, .f32⟩
  | 112 => ⟨S_, .i32⟩
  | 113 => ⟨S2048, .i32⟩
  | 114 => ⟨S2048, .i32⟩
  | 115 => ⟨S_, .i32⟩
  | 116 => ⟨S2048, .i32⟩
  | 117 => ⟨S2048, .i32⟩
  | 118 => ⟨S_, .i32⟩
  | 119 => ⟨S2048, .i32⟩
  | 120 => ⟨S2048, .i32⟩
  | 121 => ⟨S_, .i32⟩
  | 122 => ⟨S2048, .i32⟩
  | 123 => ⟨S2048, .i32⟩
  | 124 => ⟨S2048, .i32⟩
  | 125 => ⟨S2048, .f32⟩
  | 126 => ⟨S2048x128, .f32⟩
  | 127 => ⟨S2049x128, .f32⟩
  | _ => ⟨S2048x512, .f32⟩

abbrev hbmTy0_1 (i : Nat) : BufTy := match i % 128 with
  | 0 => ⟨S_, .i32⟩
  | 1 => ⟨S2048, .i32⟩
  | 2 => ⟨S2048, .i1⟩
  | 3 => ⟨S_, .i32⟩
  | 4 => ⟨S2048, .i32⟩
  | 5 => ⟨S2048, .i32⟩
  | 6 => ⟨S2048, .i32⟩
  | 7 => ⟨S2048x1, .i32⟩
  | 8 => ⟨S2048x128, .f32⟩
  | 9 => ⟨S2048x128, .f32⟩
  | 10 => ⟨S2048x1, .f32⟩
  | 11 => ⟨S2048x128, .f32⟩
  | 12 => ⟨S2048x128, .f32⟩
  | 13 => ⟨S2048x128, .f32⟩
  | 14 => ⟨S2048x128, .f32⟩
  | 15 => ⟨S2048x512, .f32⟩
  | 16 => ⟨S2048x4x128, .f32⟩
  | 17 => ⟨S4x128x2048, .f32⟩
  | 18 => ⟨S2048x4x128, .f32⟩
  | 19 => ⟨S2048x512, .f32⟩
  | 20 => ⟨S1x512, .f32⟩
  | 21 => ⟨S2048x512, .f32⟩
  | 22 => ⟨S2048x512, .f32⟩
  | 23 => ⟨S2048x1024, .f32⟩
  | 24 => ⟨S2048x1024, .f32⟩
  | 25 => ⟨S2048x1024, .f32⟩
  | 26 => ⟨S2048x1024, .f32⟩
  | 27 => ⟨S2048x1024, .f32⟩
  | 28 => ⟨S2048x1024, .f32⟩
  | 29 => ⟨S_, .f32⟩
  | 30 => ⟨S2048x1024, .f32⟩
  | 31 => ⟨S2048x1024, .f32⟩
  | 32 => ⟨S2048x1024, .f32⟩
  | 33 => ⟨S2048x1024, .f32⟩
  | 34 => ⟨S_, .f32⟩
  | 35 => ⟨S2048, .f32⟩
  | 36 => ⟨S2048x1, .f32⟩
  | 37 => ⟨S_, .f32⟩
  | 38 => ⟨S2048x1, .f32⟩
  | 39 => ⟨S2048x1, .f32⟩
  | 40 => ⟨S2048x1024, .f32⟩
  | 41 => ⟨S2048x1024, .f32⟩
  | 42 => ⟨S2048x1024, .f32⟩
  | 43 => ⟨S_, .f32⟩
  | 44 => ⟨S2048, .f32⟩
  | 45 => ⟨S2048x1, .f32⟩
  | 46 => ⟨S_, .f32⟩
  | 47 => ⟨S2048x1, .f32⟩
  | 48 => ⟨S2048x1, .f32⟩
  | 49 => ⟨S_, .f32⟩
  | 50 => ⟨S2048x1, .f32⟩
  | 51 => ⟨S2048x1, .f32⟩
  | 52 => ⟨S2048x1, .f32⟩
  | 53 => ⟨S2048x1024, .f32⟩
  | 54 => ⟨S2048x1024, .f32⟩
  | 55 => ⟨S2048x1024, .f32⟩
  | 56 => ⟨S2048x1024, .f32⟩
  | 57 => ⟨S1x1024, .f32⟩
  | 58 => ⟨S2048x1024, .f32⟩
  | 59 => ⟨S2048x1024, .f32⟩
  | 60 => ⟨S1x1024, .f32⟩
  | 61 => ⟨S2048x1024, .f32⟩
  | 62 => ⟨S2048x1024, .f32⟩
  | 63 => ⟨S2048x1024, .bf16⟩
  | 64 => ⟨S2048x1024, .bf16⟩
  | 65 => ⟨S2048x512, .bf16⟩
  | 66 => ⟨S2048x512, .bf16⟩
  | 67 => ⟨S2048x1024, .bf16⟩
  | 68 => ⟨S2048x128, .f32⟩
  | 69 => ⟨S2048x1024, .bf16⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_call0_cst : Ref sig .tc := ⟨.hbm, 14, rfl⟩
abbrev main_call0_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_c_1 : Ref sig .tc := ⟨.hbm, 25, rfl⟩
abbrev main_v9 : Ref sig .tc := ⟨.hbm, 26, rfl⟩
abbrev main_v10 : Ref sig .tc := ⟨.hbm, 27, rfl⟩
abbrev main_c_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_9 : Ref sig .tc := ⟨.hbm, 66, rfl⟩
abbrev main_v42 : Ref sig .tc := ⟨.hbm, 67, rfl⟩
abbrev main_v43 : Ref sig .tc := ⟨.hbm, 68, rfl⟩
abbrev main_c_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_11 : Ref sig .tc := ⟨.hbm, 81, rfl⟩
abbrev main_v55 : Ref sig .tc := ⟨.hbm, 82, rfl⟩
abbrev main_v56 : Ref sig .tc := ⟨.hbm, 83, rfl⟩
abbrev main_c_12 : Ref sig .tc := ⟨.hbm, 84, rfl⟩
abbrev main_v57 : Ref sig .tc := ⟨.hbm, 85, rfl⟩
abbrev main_v58 : Ref sig .tc := ⟨.hbm, 86, rfl⟩
abbrev main_c_13 : Ref sig .tc := ⟨.hbm, 87, rfl⟩
abbrev main_v59 : Ref sig .tc := ⟨.hbm, 88, rfl⟩
abbrev main_v60 : Ref sig .tc := ⟨.hbm, 89, rfl⟩
abbrev main_c_14 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_15 : Ref sig .tc := ⟨.hbm, 97, rfl⟩
abbrev main_v67 : Ref sig .tc := ⟨.hbm, 98, rfl⟩
abbrev main_v68 : Ref sig .tc := ⟨.hbm, 99, rfl⟩
abbrev main_c_16 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_c_17 : Ref sig .tc := ⟨.hbm, 112, rfl⟩
abbrev main_v80 : Ref sig .tc := ⟨.hbm, 113, rfl⟩
abbrev main_v81 : Ref sig .tc := ⟨.hbm, 114, rfl⟩
abbrev main_c_18 : Ref sig .tc := ⟨.hbm, 115, rfl⟩
abbrev main_v82 : Ref sig .tc := ⟨.hbm, 116, rfl⟩
abbrev main_v83 : Ref sig .tc := ⟨.hbm, 117, rfl⟩
abbrev main_c_19 : Ref sig .tc := ⟨.hbm, 118, rfl⟩
abbrev main_v84 : Ref sig .tc := ⟨.hbm, 119, rfl⟩
abbrev main_v85 : Ref sig .tc := ⟨.hbm, 120, rfl⟩
abbrev main_c_20 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_c_21 : Ref sig .tc := ⟨.hbm, 128, rfl⟩
abbrev main_v92 : Ref sig .tc := ⟨.hbm, 129, rfl⟩
abbrev main_v93 : Ref sig .tc := ⟨.hbm, 130, rfl⟩
abbrev main_c_22 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_cst_23 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_cst_24 : Ref sig .tc := ⟨.hbm, 162, rfl⟩
abbrev main_v123 : Ref sig .tc := ⟨.hbm, 163, rfl⟩
abbrev main_v124 : Ref sig .tc := ⟨.hbm, 164, rfl⟩
abbrev main_cst_25 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_cst_26 : Ref sig .tc := ⟨.hbm, 171, rfl⟩
abbrev main_v130 : Ref sig .tc := ⟨.hbm, 172, rfl⟩
abbrev main_v131 : Ref sig .tc := ⟨.hbm, 173, rfl⟩
abbrev main_cst_27 : Ref sig .tc := ⟨.hbm, 174, rfl⟩
abbrev main_v132 : Ref sig .tc := ⟨.hbm, 175, rfl⟩
abbrev main_v133 : Ref sig .tc := ⟨.hbm, 176, rfl⟩
abbrev main_cst_28 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩

abbrev nD : Nat := 1
abbrev τ : Topo := Topo.v7x

variable {F : FTy → Type} [FloatOps F]
-- ==== Look.lean ====
abbrev S2048x512 : Shape := ⟨2, ![2048, 512]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x8x64 : Shape := ⟨3, ![2048, 8, 64]⟩
abbrev S8x2048x64 : Shape := ⟨3, ![8, 2048, 64]⟩
abbrev S8x2048x32 : Shape := ⟨3, ![8, 2048, 32]⟩
abbrev S1x2048x32 : Shape := ⟨3, ![1, 2048, 32]⟩
abbrev S8x256x512 : Shape := ⟨3, ![8, 256, 512]⟩
abbrev S8x512 : Shape := ⟨2, ![8, 512]⟩
abbrev S4x8x2048 : Shape := ⟨3, ![4, 8, 2048]⟩
abbrev S2048x128 : Shape := ⟨2, ![2048, 128]⟩
abbrev S8x128 : Shape := ⟨2, ![8, 128]⟩
abbrev S1x8x2048 : Shape := ⟨3, ![1, 8, 2048]⟩
abbrev S256x128 : Shape := ⟨2, ![256, 128]⟩
abbrev S256x2048 : Shape := ⟨2, ![256, 2048]⟩
abbrev S6x2048 : Shape := ⟨2, ![6, 2048]⟩
abbrev S1x6x2048 : Shape := ⟨3, ![1, 6, 2048]⟩
abbrev S2048x64 : Shape := ⟨2, ![2048, 64]⟩
abbrev S8x64 : Shape := ⟨2, ![8, 64]⟩
abbrev S256x64 : Shape := ⟨2, ![256, 64]⟩
abbrev S256x256 : Shape := ⟨2, ![256, 256]⟩
abbrev S256 : Shape := ⟨1, ![256]⟩
abbrev S256x1 : Shape := ⟨2, ![256, 1]⟩
abbrev S128x256 : Shape := ⟨2, ![128, 256]⟩
abbrev S1x256 : Shape := ⟨2, ![1, 256]⟩
abbrev S1x1x256 : Shape := ⟨3, ![1, 1, 256]⟩
abbrev S512x128 : Shape := ⟨2, ![512, 128]⟩
abbrev S256x512 : Shape := ⟨2, ![256, 512]⟩
abbrev S512x64 : Shape := ⟨2, ![512, 64]⟩
abbrev S768x128 : Shape := ⟨2, ![768, 128]⟩
abbrev S256x768 : Shape := ⟨2, ![256, 768]⟩
abbrev S768x64 : Shape := ⟨2, ![768, 64]⟩
abbrev S1024x128 : Shape := ⟨2, ![1024, 128]⟩
abbrev S256x1024 : Shape := ⟨2, ![256, 1024]⟩
abbrev S1024x64 : Shape := ⟨2, ![1024, 64]⟩
abbrev S8x256 : Shape := ⟨2, ![8, 256]⟩
abbrev S120x256 : Shape := ⟨2, ![120, 256]⟩
abbrev S1280x128 : Shape := ⟨2, ![1280, 128]⟩
abbrev S256x1280 : Shape := ⟨2, ![256, 1280]⟩
abbrev S1280x64 : Shape := ⟨2, ![1280, 64]⟩
abbrev S1536x128 : Shape := ⟨2, ![1536, 128]⟩
abbrev S256x1536 : Shape := ⟨2, ![256, 1536]⟩
abbrev S1536x64 : Shape := ⟨2, ![1536, 64]⟩
abbrev S1792x128 : Shape := ⟨2, ![1792, 128]⟩
abbrev S256x1792 : Shape := ⟨2, ![256, 1792]⟩
abbrev S1792x64 : Shape := ⟨2, ![1792, 64]⟩

abbrev nBuf : Space → Nat
  | .hbm => 73
  | .vmem => 18
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S2048, .f32⟩
  | .hbm, ⟨14, _⟩ => ⟨S2048x1, .f32⟩
  | .hbm, ⟨15, _⟩ => ⟨S1x32, .f32⟩
  | .hbm, ⟨16, _⟩ => ⟨S2048x32, .f32⟩
  | .hbm, ⟨17, _⟩ => ⟨S2048x32, .f32⟩
  | .hbm, ⟨18, _⟩ => ⟨S2048x32, .f32⟩
  | .hbm, ⟨19, _⟩ => ⟨S2048x32, .f32⟩
  | .hbm, ⟨20, _⟩ => ⟨S2048x32, .f32⟩
  | .hbm, ⟨21, _⟩ => ⟨S2048x8x64, .f32⟩
  | .hbm, ⟨22, _⟩ => ⟨S8x2048x64, .f32⟩
  | .hbm, ⟨23, _⟩ => ⟨S8x2048x32, .f32⟩
  | .hbm, ⟨24, _⟩ => ⟨S8x2048x32, .f32⟩
  | .hbm, ⟨25, _⟩ => ⟨S1x2048x32, .f32⟩
  | .hbm, ⟨26, _⟩ => ⟨S8x2048x32, .f32⟩
  | .hbm, ⟨27, _⟩ => ⟨S8x2048x32, .f32⟩
  | .hbm, ⟨28, _⟩ => ⟨S1x2048x32, .f32⟩
  | .hbm, ⟨29, _⟩ => ⟨S8x2048x32, .f32⟩
  | .hbm, ⟨30, _⟩ => ⟨S8x2048x32, .f32⟩
  | .hbm, ⟨31, _⟩ => ⟨S8x2048x32, .f32⟩
  | .hbm, ⟨32, _⟩ => ⟨S1x2048x32, .f32⟩
  | .hbm, ⟨33, _⟩ => ⟨S8x2048x32, .f32⟩
  | .hbm, ⟨34, _⟩ => ⟨S8x2048x32, .f32⟩
  | .hbm, ⟨35, _⟩ => ⟨S1x2048x32, .f32⟩
  | .hbm, ⟨36, _⟩ => ⟨S8x2048x32, .f32⟩
  | .hbm, ⟨37, _⟩ => ⟨S8x2048x32, .f32⟩
  | .hbm, ⟨38, _⟩ => ⟨S8x2048x32, .f32⟩
  | .hbm, ⟨39, _⟩ => ⟨S8x2048x64, .f32⟩
  | .hbm, ⟨40, _⟩ => ⟨S2048x8x64, .f32⟩
  | .hbm, ⟨41, _⟩ => ⟨S2048x512, .f32⟩
  | .hbm, ⟨42, _⟩ => ⟨S2048x8x64, .f32⟩
  | .hbm, ⟨43, _⟩ => ⟨S8x2048x64, .f32⟩
  | .hbm, ⟨44, _⟩ => ⟨S8x2048x32, .f32⟩
  | .hbm, ⟨45, _⟩ => ⟨S8x2048x32, .f32⟩
  | .hbm, ⟨46, _⟩ => ⟨S1x2048x32, .f32⟩
  | .hbm, ⟨47, _⟩ => ⟨S8x2048x32, .f32⟩
  | .hbm, ⟨48, _⟩ => ⟨S8x2048x32, .f32⟩
  | .hbm, ⟨49, _⟩ => ⟨S1x2048x32, .f32⟩
  | .hbm, ⟨50, _⟩ => ⟨S8x2048x32, .f32⟩
  | .hbm, ⟨51, _⟩ => ⟨S8x2048x32, .f32⟩
  | .hbm, ⟨52, _⟩ => ⟨S8x2048x32, .f32⟩
  | .hbm, ⟨53, _⟩ => ⟨S1x2048x32, .f32⟩
  | .hbm, ⟨54, _⟩ => ⟨S8x2048x32, .f32⟩
  | .hbm, ⟨55, _⟩ => ⟨S8x2048x32, .f32⟩
  | .hbm, ⟨56, _⟩ => ⟨S1x2048x32, .f32⟩
  | .hbm, ⟨57, _⟩ => ⟨S8x2048x32, .f32⟩
  | .hbm, ⟨58, _⟩ => ⟨S8x2048x32, .f32⟩
  | .hbm, ⟨59, _⟩ => ⟨S8x2048x32, .f32⟩
  | .hbm, ⟨60, _⟩ => ⟨S8x2048x64, .f32⟩
  | .hbm, ⟨61, _⟩ => ⟨S2048x8x64, .f32⟩
  | .hbm, ⟨62, _⟩ => ⟨S2048x512, .f32⟩
  | .hbm, ⟨63, _⟩ => ⟨S8x256x512, .f32⟩
  | .hbm, ⟨64, _⟩ => ⟨S_, .f32⟩
  | .hbm, ⟨65, _⟩ => ⟨S8x512, .f32⟩
  | .hbm, ⟨66, _⟩ => ⟨S_, .f32⟩
  | .hbm, ⟨67, _⟩ => ⟨S8x512, .f32⟩
  | .hbm, ⟨68, _⟩ => ⟨S8x512, .f32⟩
  | .hbm, ⟨69, _⟩ => ⟨S2048x512, .bf16⟩
  | .hbm, ⟨70, _⟩ => ⟨S2048x512, .f32⟩
  | .hbm, ⟨71, _⟩ => ⟨S4x8x2048, .f32⟩
  | .hbm, ⟨72, _⟩ => ⟨S2048x512, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .bf16⟩
  | .local _ .vmem, ⟨5, _⟩ => ⟨S2048x128, .bf16⟩
  | .local _ .vmem, ⟨6, _⟩ => ⟨S8x128, .f32⟩
  | .local _ .vmem, ⟨7, _⟩ => ⟨S8x128, .f32⟩
  | .local _ .vmem, ⟨8, _⟩ => ⟨S2048x128, .f32⟩
  | .local _ .vmem, ⟨9, _⟩ => ⟨S2048x128, .f32⟩
  | .local _ .vmem, ⟨10, _⟩ => ⟨S1x8x2048, .f32⟩
  | .local _ .vmem, ⟨11, _⟩ => ⟨S1x8x2048, .f32⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S256x128, .bf16⟩
  | .local _ .vmem, ⟨16, _⟩ => ⟨S256x2048, .f32⟩
  | .local _ .vmem, ⟨17, _⟩ => ⟨S256x2048, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_cst_2 : Ref sig .tc := ⟨.hbm, 64, rfl⟩
abbrev main_v58 : Ref sig .tc := ⟨.hbm, 65, rfl⟩
abbrev main_cst_3 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62_0 : Ref sig .tc := ⟨.hbm, 70, rfl⟩
abbrev main_v62_1 : Ref sig .tc := ⟨.hbm, 71, rfl⟩
abbrev main_v62_2 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LookIdeal.lean ====
variable {F : FTy → Type} [FloatOps F] [Named F]
def κ : String → Option EReal := fun
  | "mask" => some ⊥
  | _ => none
-- ==== LookHostIdeal.lean ====
abbrev S2048x512 : Shape := ⟨2, ![2048, 512]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x8x64 : Shape := ⟨3, ![2048, 8, 64]⟩
abbrev S8x2048x64 : Shape := ⟨3, ![8, 2048, 64]⟩
abbrev S8x2048x32 : Shape := ⟨3, ![8, 2048, 32]⟩
abbrev S1x2048x32 : Shape := ⟨3, ![1, 2048, 32]⟩
abbrev S8x8x256x64 : Shape := ⟨4, ![8, 8, 256, 64]⟩
abbrev S8x8x64 : Shape := ⟨3, ![8, 8, 64]⟩
abbrev S8x2048x8 : Shape := ⟨3, ![8, 2048, 8]⟩
abbrev S8 : Shape := ⟨1, ![8]⟩
abbrev S1x8 : Shape := ⟨2, ![1, 8]⟩
abbrev S2048x8 : Shape := ⟨2, ![2048, 8]⟩
abbrev S8x2048x3 : Shape := ⟨3, ![8, 2048, 3]⟩
abbrev S8x2048x3x1 : Shape := ⟨4, ![8, 2048, 3, 1]⟩
abbrev S1x1x1x8 : Shape := ⟨4, ![1, 1, 1, 8]⟩
abbrev S8x2048x3x8 : Shape := ⟨4, ![8, 2048, 3, 8]⟩
abbrev S1x2048x8 : Shape := ⟨3, ![1, 2048, 8]⟩
abbrev S1x2048 : Shape := ⟨2, ![1, 2048]⟩
abbrev S2048x2048 : Shape := ⟨2, ![2048, 2048]⟩
abbrev S8x2048x8x256 : Shape := ⟨4, ![8, 2048, 8, 256]⟩
abbrev S8x2048x2048 : Shape := ⟨3, ![8, 2048, 2048]⟩
abbrev S1x2048x2048 : Shape := ⟨3, ![1, 2048, 2048]⟩
abbrev S8x2048 : Shape := ⟨2, ![8, 2048]⟩
abbrev S8x2048x1 : Shape := ⟨3, ![8, 2048, 1]⟩

abbrev nBuf : Space → Nat
  | .hbm => 189
  | .vmem => 0
  | .smem => 0
  | _ => 0

abbrev hbmTy0_0 (i : Nat) : BufTy := match i % 128 with
  | 0 => ⟨S2048x512, .f32⟩
  | 1 => ⟨S2048x512, .f32⟩
  | 2 => ⟨S2048x512, .f32⟩
  | 3 => ⟨S32, .f32⟩
  | 4 => ⟨S_, .f32⟩
  | 5 => ⟨S32, .f32⟩
  | 6 => ⟨S32, .f32⟩
  | 7 => ⟨S_, .f32⟩
  | 8 => ⟨S32, .f32⟩
  | 9 => ⟨S32, .f32⟩
  | 10 => ⟨S_, .f32⟩
  | 11 => ⟨S32, .f32⟩
  | 12 => ⟨S32, .f32⟩
  | 13 => ⟨S2048, .f32⟩
  | 14 => ⟨S2048x1, .f32⟩
  | 15 => ⟨S1x32, .f32⟩
  | 16 => ⟨S2048x32, .f32⟩
  | 17 => ⟨S2048x32, .f32⟩
  | 18 => ⟨S2048x32, .f32⟩
  | 19 => ⟨S2048x32, .f32⟩
  | 20 => ⟨S2048x32, .f32⟩
  | 21 => ⟨S2048x8x64, .f32⟩
  | 22 => ⟨S8x2048x64, .f32⟩
  | 23 => ⟨S8x2048x32, .f32⟩
  | 24 => ⟨S8x2048x32, .f32⟩
  | 25 => ⟨S1x2048x32, .f32⟩
  | 26 => ⟨S8x2048x32, .f32⟩
  | 27 => ⟨S8x2048x32, .f32⟩
  | 28 => ⟨S1x2048x32, .f32⟩
  | 29 => ⟨S8x2048x32, .f32⟩
  | 30 => ⟨S8x2048x32, .f32⟩
  | 31 => ⟨S8x2048x32, .f32⟩
  | 32 => ⟨S1x2048x32, .f32⟩
  | 33 => ⟨S8x2048x32, .f32⟩
  | 34 => ⟨S8x2048x32, .f32⟩
  | 35 => ⟨S1x2048x32, .f32⟩
  | 36 => ⟨S8x2048x32, .f32⟩
  | 37 => ⟨S8x2048x32, .f32⟩
  | 38 => ⟨S8x2048x32, .f32⟩
  | 39 => ⟨S8x2048x64, .f32⟩
  | 40 => ⟨S2048x8x64, .f32⟩
  | 41 => ⟨S8x2048x64, .f32⟩
  | 42 => ⟨S8x2048x32, .f32⟩
  | 43 => ⟨S8x2048x32, .f32⟩
  | 44 => ⟨S1x2048x32, .f32⟩
  | 45 => ⟨S8x2048x32, .f32⟩
  | 46 => ⟨S8x2048x32, .f32⟩
  | 47 => ⟨S1x2048x32, .f32⟩
  | 48 => ⟨S8x2048x32, .f32⟩
  | 49 => ⟨S8x2048x32, .f32⟩
  | 50 => ⟨S8x2048x32, .f32⟩
  | 51 => ⟨S1x2048x32, .f32⟩
  | 52 => ⟨S8x2048x32, .f32⟩
  | 53 => ⟨S8x2048x32, .f32⟩
  | 54 => ⟨S1x2048x32, .f32⟩
  | 55 => ⟨S8x2048x32, .f32⟩
  | 56 => ⟨S8x2048x32, .f32⟩
  | 57 => ⟨S8x2048x32, .f32⟩
  | 58 => ⟨S8x2048x64, .f32⟩
  | 59 => ⟨S2048x8x64, .f32⟩
  | 60 => ⟨S8x2048x64, .f32⟩
  | 61 => ⟨S8x8x256x64, .f32⟩
  | 62 => ⟨S_, .f32⟩
  | 63 => ⟨S8x8x64, .f32⟩
  | 64 => ⟨S_, .f32⟩
  | 65 => ⟨S8x8x64, .f32⟩
  | 66 => ⟨S8x8x64, .f32⟩
  | 67 => ⟨S2048, .i32⟩
  | 68 => ⟨S_, .i32⟩
  | 69 => ⟨S_, .i32⟩
  | 70 => ⟨S2048, .i32⟩
  | 71 => ⟨S2048, .i32⟩
  | 72 => ⟨S2048, .i32⟩
  | 73 => ⟨S_, .i32⟩
  | 74 => ⟨S2048, .i32⟩
  | 75 => ⟨S2048, .i1⟩
  | 76 => ⟨S2048, .i32⟩
  | 77 => ⟨S2048, .i32⟩
  | 78 => ⟨S_, .i32⟩
  | 79 => ⟨S2048, .i32⟩
  | 80 => ⟨S2048, .i1⟩
  | 81 => ⟨S2048, .i1⟩
  | 82 => ⟨S_, .i32⟩
  | 83 => ⟨S2048, .i32⟩
  | 84 => ⟨S2048, .i32⟩
  | 85 => ⟨S2048, .i32⟩
  | 86 => ⟨S8x2048x8, .f32⟩
  | 87 => ⟨S8, .i32⟩
  | 88 => ⟨S1x8, .i32⟩
  | 89 => ⟨S2048x1, .i32⟩
  | 90 => ⟨S2048x8, .i32⟩
  | 91 => ⟨S2048x8, .i32⟩
  | 92 => ⟨S2048x8, .i1⟩
  | 93 => ⟨S_, .f32⟩
  | 94 => ⟨S_, .f32⟩
  | 95 => ⟨S8x2048x8, .i1⟩
  | 96 => ⟨S8x2048x8, .f32⟩
  | 97 => ⟨S8x2048x8, .f32⟩
  | 98 => ⟨S8x2048x3, .f32⟩
  | 99 => ⟨S8x2048x3, .i32⟩
  | 100 => ⟨S8x2048x3x1, .i32⟩
  | 101 => ⟨S8, .i32⟩
  | 102 => ⟨S1x1x1x8, .i32⟩
  | 103 => ⟨S8x2048x3x8, .i32⟩
  | 104 => ⟨S8x2048x3x8, .i32⟩
  | 105 => ⟨S8x2048x3x8, .i1⟩
  | 106 => ⟨S_, .i1⟩
  | 107 => ⟨S8x2048x8, .i1⟩
  | 108 => ⟨S1x2048x8, .i1⟩
  | 109 => ⟨S8x2048x8, .i1⟩
  | 110 => ⟨S8x2048x8, .i1⟩
  | 111 => ⟨S2048, .i32⟩
  | 112 => ⟨S2048x1, .i32⟩
  | 113 => ⟨S_, .i32⟩
  | 114 => ⟨S_, .i32⟩
  | 115 => ⟨S2048x1, .i32⟩
  | 116 => ⟨S2048x1, .i32⟩
  | 117 => ⟨S2048x1, .i32⟩
  | 118 => ⟨S_, .i32⟩
  | 119 => ⟨S2048x1, .i32⟩
  | 120 => ⟨S2048x1, .i1⟩
  | 121 => ⟨S2048x1, .i32⟩
  | 122 => ⟨S2048x1, .i32⟩
  | 123 => ⟨S_, .i32⟩
  | 124 => ⟨S2048x1, .i32⟩
  | 125 => ⟨S2048x1, .i1⟩
  | 126 => ⟨S2048x1, .i1⟩
  | 127 => ⟨S_, .i32⟩
  | _ => ⟨S2048x512, .f32⟩

abbrev hbmTy0_1 (i : Nat) : BufTy := match i % 128 with
  | 0 => ⟨S2048x1, .i32⟩
  | 1 => ⟨S2048x1, .i32⟩
  | 2 => ⟨S2048x1, .i32⟩
  | 3 => ⟨S1x2048, .i32⟩
  | 4 => ⟨S_, .i32⟩
  | 5 => ⟨S_, .i32⟩
  | 6 => ⟨S1x2048, .i32⟩
  | 7 => ⟨S1x2048, .i32⟩
  | 8 => ⟨S1x2048, .i32⟩
  | 9 => ⟨S_, .i32⟩
  | 10 => ⟨S1x2048, .i32⟩
  | 11 => ⟨S1x2048, .i1⟩
  | 12 => ⟨S1x2048, .i32⟩
  | 13 => ⟨S1x2048, .i32⟩
  | 14 => ⟨S_, .i32⟩
  | 15 => ⟨S1x2048, .i32⟩
  | 16 => ⟨S1x2048, .i1⟩
  | 17 => ⟨S1x2048, .i1⟩
  | 18 => ⟨S_, .i32⟩
  | 19 => ⟨S1x2048, .i32⟩
  | 20 => ⟨S1x2048, .i32⟩
  | 21 => ⟨S1x2048, .i32⟩
  | 22 => ⟨S2048x2048, .i32⟩
  | 23 => ⟨S2048x2048, .i32⟩
  | 24 => ⟨S2048x2048, .i1⟩
  | 25 => ⟨S1x2048, .i32⟩
  | 26 => ⟨S2048x1, .i32⟩
  | 27 => ⟨S2048x2048, .i32⟩
  | 28 => ⟨S2048x2048, .i32⟩
  | 29 => ⟨S2048x2048, .i1⟩
  | 30 => ⟨S2048x2048, .i1⟩
  | 31 => ⟨S8x2048x8x256, .i1⟩
  | 32 => ⟨S8x2048x2048, .i1⟩
  | 33 => ⟨S1x2048x2048, .i1⟩
  | 34 => ⟨S8x2048x2048, .i1⟩
  | 35 => ⟨S8x2048x2048, .i1⟩
  | 36 => ⟨S_, .f32⟩
  | 37 => ⟨S8x2048x64, .f32⟩
  | 38 => ⟨S8x2048x64, .f32⟩
  | 39 => ⟨S8x2048x2048, .f32⟩
  | 40 => ⟨S_, .f32⟩
  | 41 => ⟨S_, .f32⟩
  | 42 => ⟨S8x2048x2048, .f32⟩
  | 43 => ⟨S8x2048x2048, .f32⟩
  | 44 => ⟨S_, .f32⟩
  | 45 => ⟨S8x2048, .f32⟩
  | 46 => ⟨S_, .f32⟩
  | 47 => ⟨S8x2048, .f32⟩
  | 48 => ⟨S8x2048, .f32⟩
  | 49 => ⟨S8x2048x1, .f32⟩
  | 50 => ⟨S8x2048x2048, .f32⟩
  | 51 => ⟨S8x2048x2048, .f32⟩
  | 52 => ⟨S8x2048x2048, .f32⟩
  | 53 => ⟨S_, .f32⟩
  | 54 => ⟨S8x2048, .f32⟩
  | 55 => ⟨S8x2048x1, .f32⟩
  | 56 => ⟨S8x2048x2048, .f32⟩
  | 57 => ⟨S8x2048x2048, .f32⟩
  | 58 => ⟨S8x2048x64, .f32⟩
  | 59 => ⟨S2048x8x64, .f32⟩
  | 60 => ⟨S2048x512, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_cst_2 : Ref sig .tc := ⟨.hbm, 62, rfl⟩
abbrev main_v56 : Ref sig .tc := ⟨.hbm, 63, rfl⟩
abbrev main_cst_3 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_c : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_v5 : Ref sig .tc := ⟨.hbm, 74, rfl⟩
abbrev main_call0_v6 : Ref sig .tc := ⟨.hbm, 75, rfl⟩
abbrev main_call0_v7 : Ref sig .tc := ⟨.hbm, 76, rfl⟩
abbrev main_call0_v8 : Ref sig .tc := ⟨.hbm, 77, rfl⟩
abbrev main_call0_c : Ref sig .tc := ⟨.hbm, 78, rfl⟩
abbrev main_call0_v9 : Ref sig .tc := ⟨.hbm, 79, rfl⟩
abbrev main_call0_v10 : Ref sig .tc := ⟨.hbm, 80, rfl⟩
abbrev main_call0_v11 : Ref sig .tc := ⟨.hbm, 81, rfl⟩
abbrev main_call0_c_0 : Ref sig .tc := ⟨.hbm, 82, rfl⟩
abbrev main_call0_v12 : Ref sig .tc := ⟨.hbm, 83, rfl⟩
abbrev main_call0_v13 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_4 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_v68 : Ref sig .tc := ⟨.hbm, 97, rfl⟩
abbrev main_values : Ref sig .tc := ⟨.hbm, 98, rfl⟩
abbrev main_indices : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_5 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_c_6 : Ref sig .tc := ⟨.hbm, 113, rfl⟩
abbrev main_call2_v0 : Ref sig .tc := ⟨.hbm, 114, rfl⟩
abbrev main_call2_v1 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_call2_v5 : Ref sig .tc := ⟨.hbm, 119, rfl⟩
abbrev main_call2_v6 : Ref sig .tc := ⟨.hbm, 120, rfl⟩
abbrev main_call2_v7 : Ref sig .tc := ⟨.hbm, 121, rfl⟩
abbrev main_call2_v8 : Ref sig .tc := ⟨.hbm, 122, rfl⟩
abbrev main_call2_c : Ref sig .tc := ⟨.hbm, 123, rfl⟩
abbrev main_call2_v9 : Ref sig .tc := ⟨.hbm, 124, rfl⟩
abbrev main_call2_v10 : Ref sig .tc := ⟨.hbm, 125, rfl⟩
abbrev main_call2_v11 : Ref sig .tc := ⟨.hbm, 126, rfl⟩
abbrev main_call2_c_0 : Ref sig .tc := ⟨.hbm, 127, rfl⟩
abbrev main_call2_v12 : Ref sig .tc := ⟨.hbm, 128, rfl⟩
abbrev main_call2_v13 : Ref sig .tc := ⟨.hbm, 129, rfl⟩
abbrev main_v81 : Ref sig .tc := ⟨.hbm, 130, rfl⟩
abbrev main_v82 : Ref sig .tc := ⟨.hbm, 131, rfl⟩
abbrev main_c_7 : Ref sig .tc := ⟨.hbm, 132, rfl⟩
abbrev main_call3_v0 : Ref sig .tc := ⟨.hbm, 133, rfl⟩
abbrev main_call3_v1 : Ref sig .tc := ⟨.hbm, 134, rfl⟩
abbrev main_call3_v2 : Ref sig .tc := ⟨.hbm, 135, rfl⟩
abbrev main_call3_v3 : Ref sig .tc := ⟨.hbm, 136, rfl⟩
abbrev main_call3_v4 : Ref sig .tc := ⟨.hbm, 137, rfl⟩
abbrev main_call3_v5 : Ref sig .tc := ⟨.hbm, 138, rfl⟩
abbrev main_call3_v6 : Ref sig .tc := ⟨.hbm, 139, rfl⟩
abbrev main_call3_v7 : Ref sig .tc := ⟨.hbm, 140, rfl⟩
abbrev main_call3_v8 : Ref sig .tc := ⟨.hbm, 141, rfl⟩
abbrev main_call3_c : Ref sig .tc := ⟨.hbm, 142, rfl⟩
abbrev main_call3_v9 : Ref sig .tc := ⟨.hbm, 143, rfl⟩
abbrev main_call3_v10 : Ref sig .tc := ⟨.hbm, 144, rfl⟩
abbrev main_call3_v11 : Ref sig .tc := ⟨.hbm, 145, rfl⟩
abbrev main_call3_c_0 : Ref sig .tc := ⟨.hbm, 146, rfl⟩
abbrev main_call3_v12 : Ref sig .tc := ⟨.hbm, 147, rfl⟩
abbrev main_call3_v13 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_cst_8 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_cst_9 : Ref sig .tc := ⟨.hbm, 168, rfl⟩
abbrev main_call4_v0 : Ref sig .tc := ⟨.hbm, 169, rfl⟩
abbrev main_call4_v1 : Ref sig .tc := ⟨.hbm, 170, rfl⟩
abbrev main_v101 : Ref sig .tc := ⟨.hbm, 171, rfl⟩
abbrev main_cst_10 : Ref sig .tc := ⟨.hbm, 172, rfl⟩
abbrev main_v102 : Ref sig .tc := ⟨.hbm, 173, rfl⟩
abbrev main_cst_11 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_cst_12 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩

abbrev nD : Nat := 1
abbrev τ : Topo := Topo.v7x

variable {F : FTy → Type} [FloatOps F]
-- ==== Weights.lean ====
abbrev S2048x1024 : Shape := ⟨2, ![2048, 1024]⟩
abbrev S2048x4096 : Shape := ⟨2, ![2048, 4096]⟩
abbrev S1024x2048 : Shape := ⟨2, ![1024, 2048]⟩
abbrev S8x1024x512 : Shape := ⟨3, ![8, 1024, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S1024x2048, .f32⟩
  | .hbm, ⟨3, _⟩ => ⟨S1024x2048, .bf16⟩
  | .hbm, ⟨4, _⟩ => ⟨S2048x4096, .bf16⟩
  | .hbm, ⟨5, _⟩ => ⟨S8x1024x512, .bf16⟩
  | .local _ .vmem, ⟨0, _⟩ => ⟨S1024x2048, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WeightsGradIdeal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S_, .f32⟩
  | .hbm, ⟨3, _⟩ => ⟨S1024x4096, .f32⟩
  | .hbm, ⟨4, _⟩ => ⟨S2048x4096, .f32⟩
  | .hbm, ⟨5, _⟩ => ⟨S4096x1024, .f32⟩
  | .hbm, ⟨6, _⟩ => ⟨S1024x4096, .f32⟩
  | .hbm, ⟨7, _⟩ => ⟨S1024x8x512, .f32⟩
  | .hbm, ⟨8, _⟩ => ⟨S8x1024x512, .f32⟩
  | .hbm, ⟨9, _⟩ => ⟨S8x1024x512, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Adam.lean ====
abbrev S4x1024x512 : Shape := ⟨3, ![4, 1024, 512]⟩
abbrev S1024x512 : Shape := ⟨2, ![1024, 512]⟩
abbrev S4x256x512 : Shape := ⟨3, ![4, 256, 512]⟩
abbrev S256x512 : Shape := ⟨2, ![256, 512]⟩
abbrev S1x256x512 : Shape := ⟨3, ![1, 256, 512]⟩

abbrev nBuf : Space → Nat
  | .hbm => 9
  | .vmem => 16
  | .smem => 0
  | _ => 0

abbrev bufTy : (tb : Table) → Fin (tcTables nBuf tb) → BufTy
  | .hbm, ⟨0, _⟩ => ⟨S4x1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S4x1024x512, .bf16⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .local _ .vmem, ⟨0, _⟩ => ⟨S4x256x512, .bf16⟩
  | .local _ .vmem, ⟨1, _⟩ => ⟨S4x256x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamHostIdeal.lean ====
abbrev S4x1024x512 : Shape := ⟨3, ![4, 1024, 512]⟩
abbrev S1024x512 : Shape := ⟨2, ![1024, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S_, .f32⟩
  | .hbm, ⟨7, _⟩ => ⟨S1024x512, .f32⟩
  | .hbm, ⟨8, _⟩ => ⟨S1024x512, .f32⟩
  | .hbm, ⟨9, _⟩ => ⟨S_, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S_, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S_, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S_, .f32⟩
  | .hbm, ⟨29, _⟩ => ⟨S1024x512, .f32⟩
  | .hbm, ⟨30, _⟩ => ⟨S1024x512, .f32⟩
  | .hbm, ⟨31, _⟩ => ⟨S1024x512, .f32⟩
  | .hbm, ⟨32, _⟩ => ⟨S_, .f32⟩
  | .hbm, ⟨33, _⟩ => ⟨S1024x512, .f32⟩
  | .hbm, ⟨34, _⟩ => ⟨S1024x512, .f32⟩
  | .hbm, ⟨35, _⟩ => ⟨S1024x512, .f32⟩
  | .hbm, ⟨36, _⟩ => ⟨S_, .f32⟩
  | .hbm, ⟨37, _⟩ => ⟨S1024x512, .f32⟩
  | .hbm, ⟨38, _⟩ => ⟨S1024x512, .f32⟩
  | _, _ => ⟨S4x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Update.lean ====
abbrev S4x1024x352 : Shape := ⟨3, ![4, 1024, 352]⟩
abbrev S1024x352 : Shape := ⟨2, ![1024, 352]⟩
abbrev S4x352x1024 : Shape := ⟨3, ![4, 352, 1024]⟩
abbrev S352x1024 : Shape := ⟨2, ![352, 1024]⟩
abbrev S4x176x1024 : Shape := ⟨3, ![4, 176, 1024]⟩
abbrev S176x1024 : Shape := ⟨2, ![176, 1024]⟩
abbrev S1x176x1024 : Shape := ⟨3, ![1, 176, 1024]⟩

abbrev nBuf : Space → Nat
  | .hbm => 35
  | .vmem => 48
  | .smem => 0
  | _ => 0

abbrev bufTy : (tb : Table) → Fin (tcTables nBuf tb) → BufTy
  | .hbm, ⟨0, _⟩ => ⟨S4x1024x352, .f32⟩
  | .hbm, ⟨1, _⟩ => ⟨S1024x352, .f32⟩
  | .hbm, ⟨2, _⟩ => ⟨S1024x352, .f32⟩
  | .hbm, ⟨3, _⟩ => ⟨S1024x352, .f32⟩
  | .hbm, ⟨4, _⟩ => ⟨S4x1024x352, .f32⟩
  | .hbm, ⟨5, _⟩ => ⟨S1024x352, .f32⟩
  | .hbm, ⟨6, _⟩ => ⟨S1024x352, .f32⟩
  | .hbm, ⟨7, _⟩ => ⟨S1024x352, .f32⟩
  | .hbm, ⟨8, _⟩ => ⟨S4x352x1024, .f32⟩
  | .hbm, ⟨9, _⟩ => ⟨S352x1024, .f32⟩
  | .hbm, ⟨10, _⟩ => ⟨S352x1024, .f32⟩
  | .hbm, ⟨11, _⟩ => ⟨S352x1024, .f32⟩
  | .hbm, ⟨12, _⟩ => ⟨S4x352x1024, .f32⟩
  | .hbm, ⟨13, _⟩ => ⟨S4x352x1024, .bf16⟩
  | .hbm, ⟨14, _⟩ => ⟨S352x1024, .f32⟩
  | .hbm, ⟨15, _⟩ => ⟨S352x1024, .f32⟩
  | .hbm, ⟨16, _⟩ => ⟨S352x1024, .f32⟩
  | .hbm, ⟨17, _⟩ => ⟨S4x352x1024, .f32⟩
  | .hbm, ⟨18, _⟩ => ⟨S4x352x1024, .bf16⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S4x352x1024, .bf16⟩
  | .hbm, ⟨23, _⟩ => ⟨S352x1024, .f32⟩
  | .hbm, ⟨24, _⟩ => ⟨S352x1024, .f32⟩
  | .hbm, ⟨25, _⟩ => ⟨S352x1024, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S352x1024, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S352x1024, .f32⟩
  | .hbm, ⟨34, _⟩ => ⟨S352x1024, .f32⟩
  | .local _ .vmem, ⟨0, _⟩ => ⟨S4x176x1024, .bf16⟩
  | .local _ .vmem, ⟨1, _⟩ => ⟨S4x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S4x176x1024, .bf16⟩
  | .local _ .vmem, ⟨9, _⟩ => ⟨S4x176x1024, .bf16⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S4x176x1024, .bf16⟩
  | .local _ .vmem, ⟨17, _⟩ => ⟨S4x176x1024, .bf16⟩
  | .local _ .vmem, ⟨18, _⟩ => ⟨S176x1024, .f32⟩
  | .local _ .vmem, ⟨19, _⟩ => ⟨S176x1024, .f32⟩
  | .local _ .vmem, ⟨20, _⟩ => ⟨S176x1024, .f32⟩
  | .local _ .vmem, ⟨21, _⟩ => ⟨S176x1024, .f32⟩
  | .local _ .vmem, ⟨22, _⟩ => ⟨S176x1024, .f32⟩
  | .local _ .vmem, ⟨23, _⟩ => ⟨S176x1024, .f32⟩
  | .local _ .vmem, ⟨24, _⟩ => ⟨S176x1024, .f32⟩
  | .local _ .vmem, ⟨25, _⟩ => ⟨S176x1024, .f32⟩
  | .local _ .vmem, ⟨26, _⟩ => ⟨S176x1024, .f32⟩
  | .local _ .vmem, ⟨27, _⟩ => ⟨S176x1024, .f32⟩
  | .local _ .vmem, ⟨28, _⟩ => ⟨S176x1024, .f32⟩
  | .local _ .vmem, ⟨29, _⟩ => ⟨S176x1024, .f32⟩
  | .local _ .vmem, ⟨30, _⟩ => ⟨S176x1024, .f32⟩
  | .local _ .vmem, ⟨31, _⟩ => ⟨S176x1024, .f32⟩
  | .local _ .vmem, ⟨32, _⟩ => ⟨S176x1024, .f32⟩
  | .local _ .vmem, ⟨33, _⟩ => ⟨S176x1024, .f32⟩
  | .local _ .vmem, ⟨34, _⟩ => ⟨S176x1024, .f32⟩
  | .local _ .vmem, ⟨35, _⟩ => ⟨S176x1024, .f32⟩
  | .local _ .vmem, ⟨36, _⟩ => ⟨S176x1024, .f32⟩
  | .local _ .vmem, ⟨37, _⟩ => ⟨S176x1024, .f32⟩
  | .local _ .vmem, ⟨38, _⟩ => ⟨S176x1024, .f32⟩
  | .local _ .vmem, ⟨39, _⟩ => ⟨S176x1024, .f32⟩
  | .local _ .vmem, ⟨40, _⟩ => ⟨S176x1024, .f32⟩
  | .local _ .vmem, ⟨41, _⟩ => ⟨S176x1024, .f32⟩
  | .local _ .vmem, ⟨42, _⟩ => ⟨S176x1024, .f32⟩
  | .local _ .vmem, ⟨43, _⟩ => ⟨S176x1024, .f32⟩
  | .local _ .vmem, ⟨44, _⟩ => ⟨S176x1024, .f32⟩
  | .local _ .vmem, ⟨45, _⟩ => ⟨S176x1024, .f32⟩
  | .local _ .vmem, ⟨46, _⟩ => ⟨S176x1024, .f32⟩
  | .local _ .vmem, ⟨47, _⟩ => ⟨S176x1024, .f32⟩
  | _, _ => ⟨S4x1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v11_3 : Ref sig .tc := ⟨.hbm, 26, rfl⟩
abbrev main_v11_4 : Ref sig .tc := ⟨.hbm, 27, rfl⟩
abbrev main_v11_5 : Ref sig .tc := ⟨.hbm, 28, rfl⟩
abbrev main_v11_6 : Ref sig .tc := ⟨.hbm, 29, rfl⟩
abbrev main_v11_7 : Ref sig .tc := ⟨.hbm, 30, rfl⟩
abbrev main_v11_8 : Ref sig .tc := ⟨.hbm, 31, rfl⟩
abbrev main_v11_9 : Ref sig .tc := ⟨.hbm, 32, rfl⟩
abbrev main_v11_10 : Ref sig .tc := ⟨.hbm, 33, rfl⟩
abbrev main_v11_11 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x176x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x176x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S176x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S176x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S176x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S176x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S176x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S176x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S176x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S176x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S176x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S176x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S176x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S176x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S176x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== UpdateHostIdeal.lean ====
abbrev S4x1024x352 : Shape := ⟨3, ![4, 1024, 352]⟩
abbrev S1024x352 : Shape := ⟨2, ![1024, 352]⟩
abbrev S4x352x1024 : Shape := ⟨3, ![4, 352, 1024]⟩
abbrev S352x1024 : Shape := ⟨2, ![352, 1024]⟩
abbrev S_ : Shape := ⟨0, ![]⟩

abbrev nBuf : Space → Nat
  | .hbm => 125
  | .vmem => 0
  | .smem => 0
  | _ => 0

abbrev bufTy : (tb : Table) → Fin (tcTables nBuf tb) → BufTy
  | .hbm, ⟨0, _⟩ => ⟨S4x1024x352, .f32⟩
  | .hbm, ⟨1, _⟩ => ⟨S1024x352, .f32⟩
  | .hbm, ⟨2, _⟩ => ⟨S1024x352, .f32⟩
  | .hbm, ⟨3, _⟩ => ⟨S1024x352, .f32⟩
  | .hbm, ⟨4, _⟩ => ⟨S4x1024x352, .f32⟩
  | .hbm, ⟨5, _⟩ => ⟨S1024x352, .f32⟩
  | .hbm, ⟨6, _⟩ => ⟨S1024x352, .f32⟩
  | .hbm, ⟨7, _⟩ => ⟨S1024x352, .f32⟩
  | .hbm, ⟨8, _⟩ => ⟨S4x352x1024, .f32⟩
  | .hbm, ⟨9, _⟩ => ⟨S352x1024, .f32⟩
  | .hbm, ⟨10, _⟩ => ⟨S352x1024, .f32⟩
  | .hbm, ⟨11, _⟩ => ⟨S352x1024, .f32⟩
  | .hbm, ⟨12, _⟩ => ⟨S_, .f32⟩
  | .hbm, ⟨13, _⟩ => ⟨S1024x352, .f32⟩
  | .hbm, ⟨14, _⟩ => ⟨S_, .f32⟩
  | .hbm, ⟨15, _⟩ => ⟨S1024x352, .f32⟩
  | .hbm, ⟨16, _⟩ => ⟨S1024x352, .f32⟩
  | .hbm, ⟨17, _⟩ => ⟨S_, .f32⟩
  | .hbm, ⟨18, _⟩ => ⟨S1024x352, .f32⟩
  | .hbm, ⟨19, _⟩ => ⟨S1024x352, .f32⟩
  | .hbm, ⟨20, _⟩ => ⟨S1024x352, .f32⟩
  | .hbm, ⟨21, _⟩ => ⟨S_, .f32⟩
  | .hbm, ⟨22, _⟩ => ⟨S1024x352, .f32⟩
  | .hbm, ⟨23, _⟩ => ⟨S1024x352, .f32⟩
  | .hbm, ⟨24, _⟩ => ⟨S1024x352, .f32⟩
  | .hbm, ⟨25, _⟩ => ⟨S_, .f32⟩
  | .hbm, ⟨26, _⟩ => ⟨S1024x352, .f32⟩
  | .hbm, ⟨27, _⟩ => ⟨S1024x352, .f32⟩
  | .hbm, ⟨28, _⟩ => ⟨S1024x352, .f32⟩
  | .hbm, ⟨29, _⟩ => ⟨S_, .f32⟩
  | .hbm, ⟨30, _⟩ => ⟨S1024x352, .f32⟩
  | .hbm, ⟨31, _⟩ => ⟨S1024x352, .f32⟩
  | .hbm, ⟨32, _⟩ => ⟨S_, .f32⟩
  | .hbm, ⟨33, _⟩ => ⟨S1024x352, .f32⟩
  | .hbm, ⟨34, _⟩ => ⟨S1024x352, .f32⟩
  | .hbm, ⟨35, _⟩ => ⟨S1024x352, .f32⟩
  | .hbm, ⟨36, _⟩ => ⟨S_, .f32⟩
  | .hbm, ⟨37, _⟩ => ⟨S1024x352, .f32⟩
  | .hbm, ⟨38, _⟩ => ⟨S1024x352, .f32⟩
  | .hbm, ⟨39, _⟩ => ⟨S1024x352, .f32⟩
  | .hbm, ⟨40, _⟩ => ⟨S_, .f32⟩
  | .hbm, ⟨41, _⟩ => ⟨S1024x352, .f32⟩
  | .hbm, ⟨42, _⟩ => ⟨S1024x352, .f32⟩
  | .hbm, ⟨43, _⟩ => ⟨S1024x352, .f32⟩
  | .hbm, ⟨44, _⟩ => ⟨S_, .f32⟩
  | .hbm, ⟨45, _⟩ => ⟨S1024x352, .f32⟩
  | .hbm, ⟨46, _⟩ => ⟨S1024x352, .f32⟩
  | .hbm, ⟨47, _⟩ => ⟨S_, .f32⟩
  | .hbm, ⟨48, _⟩ => ⟨S1024x352, .f32⟩
  | .hbm, ⟨49, _⟩ => ⟨S_, .f32⟩
  | .hbm, ⟨50, _⟩ => ⟨S1024x352, .f32⟩
  | .hbm, ⟨51, _⟩ => ⟨S1024x352, .f32⟩
  | .hbm, ⟨52, _⟩ => ⟨S_, .f32⟩
  | .hbm, ⟨53, _⟩ => ⟨S1024x352, .f32⟩
  | .hbm, ⟨54, _⟩ => ⟨S1024x352, .f32⟩
  | .hbm, ⟨55, _⟩ => ⟨S1024x352, .f32⟩
  | .hbm, ⟨56, _⟩ => ⟨S_, .f32⟩
  | .hbm, ⟨57, _⟩ => ⟨S1024x352, .f32⟩
  | .hbm, ⟨58, _⟩ => ⟨S1024x352, .f32⟩
  | .hbm, ⟨59, _⟩ => ⟨S1024x352, .f32⟩
  | .hbm, ⟨60, _⟩ => ⟨S_, .f32⟩
  | .hbm, ⟨61, _⟩ => ⟨S1024x352, .f32⟩
  | .hbm, ⟨62, _⟩ => ⟨S1024x352, .f32⟩
  | .hbm, ⟨63, _⟩ => ⟨S1024x352, .f32⟩
  | .hbm, ⟨64, _⟩ => ⟨S_, .f32⟩
  | .hbm, ⟨65, _⟩ => ⟨S1024x352, .f32⟩
  | .hbm, ⟨66, _⟩ => ⟨S1024x352, .f32⟩
  | .hbm, ⟨67, _⟩ => ⟨S_, .f32⟩
  | .hbm, ⟨68, _⟩ => ⟨S1024x352, .f32⟩
  | .hbm, ⟨69, _⟩ => ⟨S1024x352, .f32⟩
  | .hbm, ⟨70, _⟩ => ⟨S1024x352, .f32⟩
  | .hbm, ⟨71, _⟩ => ⟨S_, .f32⟩
  | .hbm, ⟨72, _⟩ => ⟨S1024x352, .f32⟩
  | .hbm, ⟨73, _⟩ => ⟨S1024x352, .f32⟩
  | .hbm, ⟨74, _⟩ => ⟨S1024x352, .f32⟩
  | .hbm, ⟨75, _⟩ => ⟨S_, .f32⟩
  | .hbm, ⟨76, _⟩ => ⟨S1024x352, .f32⟩
  | .hbm, ⟨77, _⟩ => ⟨S1024x352, .f32⟩
  | .hbm, ⟨78, _⟩ => ⟨S1024x352, .f32⟩
  | .hbm, ⟨79, _⟩ => ⟨S_, .f32⟩
  | .hbm, ⟨80, _⟩ => ⟨S1024x352, .f32⟩
  | .hbm, ⟨81, _⟩ => ⟨S1024x352, .f32⟩
  | .hbm, ⟨82, _⟩ => ⟨S_, .f32⟩
  | .hbm, ⟨83, _⟩ => ⟨S352x1024, .f32⟩
  | .hbm, ⟨84, _⟩ => ⟨S_, .f32⟩
  | .hbm, ⟨85, _⟩ => ⟨S352x1024, .f32⟩
  | .hbm, ⟨86, _⟩ => ⟨S352x1024, .f32⟩
  | .hbm, ⟨87, _⟩ => ⟨S_, .f32⟩
  | .hbm, ⟨88, _⟩ => ⟨S352x1024, .f32⟩
  | .hbm, ⟨89, _⟩ => ⟨S352x1024, .f32⟩
  | .hbm, ⟨90, _⟩ => ⟨S352x1024, .f32⟩
  | .hbm, ⟨91, _⟩ => ⟨S_, .f32⟩
  | .hbm, ⟨92, _⟩ => ⟨S352x1024, .f32⟩
  | .hbm, ⟨93, _⟩ => ⟨S352x1024, .f32⟩
  | .hbm, ⟨94, _⟩ => ⟨S352x1024, .f32⟩
  | .hbm, ⟨95, _⟩ => ⟨S_, .f32⟩
  | .hbm, ⟨96, _⟩ => ⟨S352x1024, .f32⟩
  | .hbm, ⟨97, _⟩ => ⟨S352x1024, .f32⟩
  | .hbm, ⟨98, _⟩ => ⟨S352x1024, .f32⟩
  | .hbm, ⟨99, _⟩ => ⟨S_, .f32⟩
  | .hbm, ⟨100, _⟩ => ⟨S352x1024, .f32⟩
  | .hbm, ⟨101, _⟩ => ⟨S352x1024, .f32⟩
  | .hbm, ⟨102, _⟩ => ⟨S_, .f32⟩
  | .hbm, ⟨103, _⟩ => ⟨S352x1024, .f32⟩
  | .hbm, ⟨104, _⟩ => ⟨S352x1024, .f32⟩
  | .hbm, ⟨105, _⟩ => ⟨S352x1024, .f32⟩
  | .hbm, ⟨106, _⟩ => ⟨S_, .f32⟩
  | .hbm, ⟨107, _⟩ => ⟨S352x1024, .f32⟩
  | .hbm, ⟨108, _⟩ => ⟨S352x1024, .f32⟩
  | .hbm, ⟨109, _⟩ => ⟨S352x1024, .f32⟩
  | .hbm, ⟨110, _⟩ => ⟨S_, .f32⟩
  | .hbm, ⟨111, _⟩ => ⟨S352x1024, .f32⟩
  | .hbm, ⟨112, _⟩ => ⟨S352x1024, .f32⟩
  | .hbm, ⟨113, _⟩ => ⟨S352x1024, .f32⟩
  | .hbm, ⟨114, _⟩ => ⟨S_, .f32⟩
  | .hbm, ⟨115, _⟩ => ⟨S352x1024, .f32⟩
  | .hbm, ⟨116, _⟩ => ⟨S352x1024, .f32⟩
  | .hbm, ⟨117, _⟩ => ⟨S352x1024, .f32⟩
  | .hbm, ⟨118, _⟩ => ⟨S352x1024, .f32⟩
  | .hbm, ⟨119, _⟩ => ⟨S352x1024, .f32⟩
  | .hbm, ⟨120, _⟩ => ⟨S352x1024, .f32⟩
  | .hbm, ⟨121, _⟩ => ⟨S352x1024, .f32⟩
  | .hbm, ⟨122, _⟩ => ⟨S352x1024, .f32⟩
  | .hbm, ⟨123, _⟩ => ⟨S352x1024, .f32⟩
  | .hbm, ⟨124, _⟩ => ⟨S352x1024, .f32⟩
  | _, _ => ⟨S4x1024x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_cst_1 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_3 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_4 : Ref sig .tc := ⟨.hbm, 29, rfl⟩
abbrev main_v12 : Ref sig .tc := ⟨.hbm, 30, rfl⟩
abbrev main_v13 : Ref sig .tc := ⟨.hbm, 31, rfl⟩
abbrev main_cst_5 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_6 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_7 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_8 : Ref sig .tc := ⟨.hbm, 44, rfl⟩
abbrev main_v23 : Ref sig .tc := ⟨.hbm, 45, rfl⟩
abbrev main_v24 : Ref sig .tc := ⟨.hbm, 46, rfl⟩
abbrev main_cst_9 : Ref sig .tc := ⟨.hbm, 47, rfl⟩
abbrev main_v25 : Ref sig .tc := ⟨.hbm, 48, rfl⟩
abbrev main_cst_10 : Ref sig .tc := ⟨.hbm, 49, rfl⟩
abbrev main_v26 : Ref sig .tc := ⟨.hbm, 50, rfl⟩
abbrev main_v27 : Ref sig .tc := ⟨.hbm, 51, rfl⟩
abbrev main_cst_11 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_12 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_13 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_14 : Ref sig .tc := ⟨.hbm, 64, rfl⟩
abbrev main_v37 : Ref sig .tc := ⟨.hbm, 65, rfl⟩
abbrev main_v38 : Ref sig .tc := ⟨.hbm, 66, rfl⟩
abbrev main_cst_15 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_16 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_17 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_18 : Ref sig .tc := ⟨.hbm, 79, rfl⟩
abbrev main_v48 : Ref sig .tc := ⟨.hbm, 80, rfl⟩
abbrev main_v49 : Ref sig .tc := ⟨.hbm, 81, rfl⟩
abbrev main_cst_19 : Ref sig .tc := ⟨.hbm, 82, rfl⟩
abbrev main_v50 : Ref sig .tc := ⟨.hbm, 83, rfl⟩
abbrev main_cst_20 : Ref sig .tc := ⟨.hbm, 84, rfl⟩
abbrev main_v51 : Ref sig .tc := ⟨.hbm, 85, rfl⟩
abbrev main_v52 : Ref sig .tc := ⟨.hbm, 86, rfl⟩
abbrev main_cst_21 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_22 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_23 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_24 : Ref sig .tc := ⟨.hbm, 99, rfl⟩
abbrev main_v62 : Ref sig .tc := ⟨.hbm, 100, rfl⟩
abbrev main_v63 : Ref sig .tc := ⟨.hbm, 101, rfl⟩
abbrev main_cst_25 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_26 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_27 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_28 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩

abbrev nD : Nat := 1
abbrev τ : Topo := Topo.v7x

variable {F : FTy → Type} [FloatOps F]
-- ==== Proof.MixFrames.lean ====
module

public import proofs.«01_k».proof.Defs
public import proofs.«01_k».proof.Proof.Gen.Mix.Frame
public import proofs.«01_k».proof.Proof.Gen.MixIdeal.Frame
public import proofs.«01_k».proof.Proof.Gen.MixGradIdeal.Run
public import Idealize.ShloMosaic.Lib.Quiescent

@[expose] public section

set_option maxRecDepth 16384

noncomputable section

open Idealize.ShloMosaic Idealize.SL.Sem

namespace Cert.Proof.Mix

theorem frame : Cert.quiescent_Mix := fun m ρ _ => Cert.Mix.Gen.frame m ρ

theorem frameIdeal : Cert.quiescent_MixIdeal := fun m ρ _ => Cert.MixIdeal.Gen.frame m ρ

theorem frameReference : Cert.quiescent_MixGradIdeal := fun m ρ _ =>
  (θ_run Cert.MixGradIdeal.defs _ _).mono (fun r h => ⟨fun c => (h c).2.2.2.2.2.2.2.2, Idealize.ShloMosaic.sem_eq_zero_of_no_sems (by decide) r.2⟩) (Cert.MixGradIdeal.Value.run (F := Ideal) m ρ)

theorem preserves : Cert.preserves_Mix_MixIdeal :=
  trivial

end Cert.Proof.Mix

end

end
-- ==== Proof.MixEntry.lean ====
module

public import proofs.«01_k».proof.Proof.Gen.MixIdeal.Value
public import proofs.«01_k».proof.Proof.Gen.MixGradIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.MixIdeal.Value
open Cert.MixIdeal Cert.MixIdeal.Gen
open Cert.MixGradIdeal.Read

variable (m : (ℓ : Loc nD τ sig) → Buf (Elt Ideal) ℓ)

theorem ct_entry (c : Dev nD) : V m c main_v18 = (m ((c : Thread nD τ).loc main_arg9)) := by
  entry_read
  rfl

theorem attnBranch_entry (c : Dev nD) : V m c main_v19 = val_main_v4 (F := Ideal) (m ((c : Thread nD τ).loc main_arg0)) (m ((c : Thread nD τ).loc main_arg4)) := by
  entry_read
  rfl

theorem poolBranch_entry (c : Dev nD) : V m c main_v20 = val_main_v8 (F := Ideal) (m ((c : Thread nD τ).loc main_arg1)) (m ((c : Thread nD τ).loc main_arg5)) (m ((c : Thread nD τ).loc main_arg6)) (m ((c : Thread nD τ).loc main_arg7)) := by
  entry_read
  rfl

theorem gates_entry (c : Dev nD) : V m c main_v8 = val_main_v17 (F := Ideal) (m ((c : Thread nD τ).loc main_arg2)) (m ((c : Thread nD τ).loc main_arg3)) := by
  entry_read
  rfl

theorem mixed_entry (c : Dev nD) : V m c main_v13 = val_main_v3 (F := Ideal) (m ((c : Thread nD τ).loc main_arg1)) (m ((c : Thread nD τ).loc main_arg5)) := by
  entry_read
  rfl

theorem wOut_entry (c : Dev nD) : V m c main_v21 = (m ((c : Thread nD τ).loc main_arg8)) := by
  entry_read
  rfl

theorem wBranchAttn_entry (c : Dev nD) : V m c main_v22 = (m ((c : Thread nD τ).loc main_arg4)) := by
  entry_read
  rfl

theorem wBranchPool_entry (c : Dev nD) : V m c main_v23 = (m ((c : Thread nD τ).loc main_arg7)) := by
  entry_read
  rfl

theorem poolScale_entry (c : Dev nD) : V m c main_v24 = val_main_v5 (F := Ideal) (m ((c : Thread nD τ).loc main_arg6)) := by
  entry_read
  rfl

end Cert.MixIdeal.Value
-- ==== Proof.MixRows.lean ====
module

public import proofs.«01_k».proof.Proof.MixEntry

@[expose] public section

set_option maxRecDepth 16384

noncomputable section

open Idealize.ShloMosaic Idealize.ShloMosaic.TcCoe Idealize.SL.Sem

namespace Cert.MixIdeal.Value
open Cert.MixIdeal Cert.MixIdeal.Gen
open Cert.MixGradIdeal.Read

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![0, 0] ∧ win0_6.index t = ![0, 0] ∧ win0_7.index t = ![0, 0] ∧ win0_8.index t = ![0, 0, 0] ∧ win0_9.index t = ![0, 0]
    ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ t.val < 8 :=
  (by decide +kernel : ∀ t : Fin grid0.N, _)

/-- Row `r` of block `t`, as a row of the whole array. -/
def row (t : Fin cfg0.N) (r : Fin 256) : Fin 2048 := ⟨t.val * 256 + r.val, by have := (idx t).2.2.2.2.2.2.2.2.2.2.2.2.2.2.2.2; omega⟩

end Cert.MixIdeal.Value
-- ==== Proof.MixBlocks.lean ====
module

public import proofs.«01_k».proof.Proof.MixRows

@[expose] public section

set_option maxRecDepth 16384

noncomputable section

open Idealize.ShloMosaic Idealize.ShloMosaic.TcCoe Idealize.SL.Sem

namespace Cert.MixIdeal.Value
open Cert.MixIdeal Cert.MixIdeal.Gen
open Cert.MixGradIdeal.Read

variable (m : (ℓ : Loc nD τ sig) → Buf (Elt Ideal) ℓ)

theorem attnBranch_final (c : Dev nD) : (dats m 0 c).arrAt 11 (cfgs 0).N = val_main_v53 (F := Ideal) (m ((c : Thread nD τ).loc main_arg2)) (m ((c : Thread nD τ).loc main_arg3)) (m ((c : Thread nD τ).loc main_arg8)) (m ((c : Thread nD τ).loc main_arg9)) := by
  refine (dats m 0 c).arrAt_eq_of_covers 11 _ (by decide +kernel) fun t _ y => ?_
  blk_simp
  rw [after0_11]
  by_cases h : t.val % 8 = 0
  · rw [outsAt0_A m c t h]; frame_out
    pointwise [k0_pay13, k0_pay4, k0_pay5, val_main_v53, val_main_v31, val_main_v21, val_main_v27]
    blk_point [iblk, gates_entry, ct_entry, wOut_entry, wBranchAttn_entry, wBranchPool_entry, poolScale_entry, idx t]
  · rw [outsAt0_B m c t h]; frame_out
    pointwise [k0_pay13, k0_pay4, k0_pay5, val_main_v53, val_main_v31, val_main_v21, val_main_v27]
    blk_point [iblk, gates_entry, ct_entry, wOut_entry, wBranchAttn_entry, wBranchPool_entry, poolScale_entry, idx t]

theorem poolBranch_final (c : Dev nD) : (dats m 0 c).arrAt 12 (cfgs 0).N = val_main_v54 (F := Ideal) (m ((c : Thread nD τ).loc main_arg2)) (m ((c : Thread nD τ).loc main_arg3)) (m ((c : Thread nD τ).loc main_arg8)) (m ((c : Thread nD τ).loc main_arg9)) := by
  refine (dats m 0 c).arrAt_eq_of_covers 12 _ (by decide +kernel) fun t _ y => ?_
  blk_simp
  rw [after0_12]
  by_cases h : t.val % 8 = 0
  · rw [outsAt0_A m c t h]; frame_out
    pointwise [k0_pay14, k0_pay4, k0_pay6, val_main_v54, val_main_v28, val_main_v23, val_main_v27]
    blk_point [iblk, gates_entry, ct_entry, wOut_entry, wBranchAttn_entry, wBranchPool_entry, poolScale_entry, idx t]
  · rw [outsAt0_B m c t h]; frame_out
    pointwise [k0_pay14, k0_pay4, k0_pay6, val_main_v54, val_main_v28, val_main_v23, val_main_v27]
    blk_point [iblk, gates_entry, ct_entry, wOut_entry, wBranchAttn_entry, wBranchPool_entry, poolScale_entry, idx t]

theorem attn_final (c : Dev nD) : (dats m 0 c).arrAt 13 (cfgs 0).N = val_main_v46 (F := Ideal) (m ((c : Thread nD τ).loc main_arg2)) (m ((c : Thread nD τ).loc main_arg3)) (m ((c : Thread nD τ).loc main_arg4)) (m ((c : Thread nD τ).loc main_arg8)) (m ((c : Thread nD τ).loc main_arg9)) := by
  refine (dats m 0 c).arrAt_eq_of_covers 13 _ (by decide +kernel) fun t _ y => ?_
  blk_simp
  rw [after0_13]
  by_cases h : t.val % 8 = 0
  · rw [outsAt0_A m c t h]; frame_out
    pointwise [k0_pay15, k0_pay13, k0_pay4, k0_pay5, val_main_v46, val_main_v31, val_main_v21, val_main_v27]
    blk_point [iblk, gates_entry, ct_entry, wOut_entry, wBranchAttn_entry, wBranchPool_entry, poolScale_entry, idx t]
  · rw [outsAt0_B m c t h]; frame_out
    pointwise [k0_pay15, k0_pay13, k0_pay4, k0_pay5, val_main_v46, val_main_v31, val_main_v21, val_main_v27]
    blk_point [iblk, gates_entry, ct_entry, wOut_entry, wBranchAttn_entry, wBranchPool_entry, poolScale_entry, idx t]

theorem mixed_final (c : Dev nD) : (dats m 0 c).arrAt 14 (cfgs 0).N = val_main_v55 (F := Ideal) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) := by
  refine (dats m 0 c).arrAt_eq_of_covers 14 _ (by decide +kernel) fun t _ y => ?_
  blk_simp
  rw [after0_14]
  by_cases h : t.val % 8 = 0
  · rw [outsAt0_A m c t h]; frame_out
    pointwise [k0_pay20, k0_pay16, k0_pay14, k0_pay4, k0_pay6, val_main_v55, val_main_v44, val_main_v43, val_main_v39, val_main_v28, val_main_v23, val_main_v27]
    blk_point [iblk, gates_entry, ct_entry, wOut_entry, wBranchAttn_entry, wBranchPool_entry, poolScale_entry, idx t]
  · rw [outsAt0_B m c t h]; frame_out
    pointwise [k0_pay20, k0_pay16, k0_pay14, k0_pay4, k0_pay6, val_main_v55, val_main_v44, val_main_v43, val_main_v39, val_main_v28, val_main_v23, val_main_v27]
    blk_point [iblk, gates_entry, ct_entry, wOut_entry, wBranchAttn_entry, wBranchPool_entry, poolScale_entry, idx t]

end Cert.MixIdeal.Value
-- ==== Proof.MixGates.lean ====
module

public import proofs.«01_k».proof.Proof.MixRows
public import Idealize.ShloMosaic.Lib.Pipeline.ReadBack

@[expose] public section

set_option maxRecDepth 16384

noncomputable section

open Idealize.ShloMosaic Idealize.ShloMosaic.TcCoe Idealize.SL.Sem

namespace Cert.MixIdeal.Value
open Cert.MixIdeal Cert.MixIdeal.Gen
open Cert.MixGradIdeal.Read

variable (m : (ℓ : Loc nD τ sig) → Buf (Elt Ideal) ℓ)

theorem gateLow (c : Dev nD) (t : Fin cfg0.N) (r : Fin 256) (l : Fin 1024) (inb) :
    k0_pay7 (F := Ideal) (iblk m c 0 t) (iblk m c 5 t) (View.ld (iblk m c 3 t) (Rect.unit ![0, 0] ![256, 1024] inb)) (iblk m c 1 t) (ix2 r l)
      = val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 (row t r) ⟨l.val, by omega⟩) := by
  pointwise [k0_pay7, k0_pay4, k0_pay5, val_main_v35, val_main_v34, val_main_v30, val_main_v29, val_main_v33, val_main_v32, val_main_v20, val_main_v19, val_main_v18, val_main_cst_1, val_main_cst_2, val_main_cst_3, val_main_v27]
  rw [dif_neg (fun h => h.1)]
  refine (mul_assoc _ _ _).trans (congrArg₂ (· * ·) (Eq.trans ?_ (zero_add _).symm) ?_) <;> blk_point [iblk, gates_entry, ct_entry, wOut_entry, attnBranch_entry, poolBranch_entry, mixed_entry, wBranchAttn_entry, wBranchPool_entry, poolScale_entry, row, idx t]

theorem gateHigh (c : Dev nD) (t : Fin cfg0.N) (r : Fin 256) (l : Fin 1024) (inb) :
    k0_pay8 (F := Ideal) (iblk m c 0 t) (iblk m c 5 t) (View.ld (iblk m c 3 t) (Rect.unit ![0, 1024] ![256, 1024] inb)) (iblk m c 2 t) (ix2 r l)
      = val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 (row t r) ⟨1024 + l.val, by omega⟩) := by
  pointwise [k0_pay8, k0_pay4, k0_pay6, val_main_v35, val_main_v34, val_main_v30, val_main_v29, val_main_v33, val_main_v32, val_main_v20, val_main_v19, val_main_v18, val_main_cst_1, val_main_cst_2, val_main_cst_3, val_main_v27]
  refine (mul_assoc _ _ _).trans (congrArg₂ (· * ·) ?_ ?_) <;> blk_point [iblk, gates_entry, ct_entry, wOut_entry, attnBranch_entry, poolBranch_entry, mixed_entry, wBranchAttn_entry, wBranchPool_entry, poolScale_entry, row, idx t]

theorem gate_final (c : Dev nD) : (dats m 0 c).arrAt 10 (cfgs 0).N = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 10 _ (by decide +kernel) fun t _ y => ?_
  blk_simp
  rw [after0_10]
  by_cases hA : t.val % 8 = 0
  on_goal 1 => rw [outsAt0_A m c t hA]
  on_goal 2 => rw [outsAt0_B m c t hA]
  all_goals frame_out
  all_goals canon_tiles x h
  all_goals refine (congrArg _ (eq_ix2 x)).trans ?_
  · refine (gateHigh m c t (x 0) (x 1) _).trans (congrArg (val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) ?_); blk_ext [row, idx t]
  · refine (gateLow m c t (x 0) (x 1) _).trans (congrArg (val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) ?_); blk_ext [row, idx t]
  · refine (gateHigh m c t (x 0) (x 1) _).trans (congrArg (val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) ?_); blk_ext [row, idx t]
  · refine (gateLow m c t (x 0) (x 1) _).trans (congrArg (val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) ?_); blk_ext [row, idx t]

/-- The part of the gate bias's gradient that block `t` adds at lane `j`: the gate gradient summed over the block's rows. -/
abbrev biasPart (c : Dev nD) (t : Fin cfg0.N) (j : S1x2048.Idx) : EReal :=
  ∑ r : Fin 256, val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 (row t r) (j 1))

theorem bias_first (c : Dev nD) (t : Fin cfg0.N) (h : t.val % 8 = 0) (j : S1x2048.Idx) :
    (outsAt0 m c t.val t.isLt).2.2.2.2.2.2.1 j = 0 + biasPart m c t j := by
  rw [outsAt0_A m c t h]
  frame_open
  simp (disch := decide) only [↓ View.readCov_skip, ↓ View.readCov_cons_toLoadRect, ↓ View.readCov_fill]
  frame_out
  refine View.canon_append_of_piecesOf (Val := Elt Ideal) (e := .f32) (fun j => (0 + biasPart m c t j : EReal)) [_] [_, _] ⟨fun x => ?_, fun x => ?_, trivial⟩ j ?_
  · pointwise [k0_pay12, k0_pay2]
    refine (Finset.sum_congr rfl fun r _ => (gateHigh m c t r (x 1) _).trans (congrArg (val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) ?_))
    blk_ext [row, idx t]
  · pointwise [k0_pay11, k0_pay2]
    refine (Finset.sum_congr rfl fun r _ => (gateLow m c t r (x 1) _).trans (congrArg (val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) ?_))
    blk_ext [row, idx t]
  · exact View.cover_of_tiledL _ ![1, 1024] (by sl_kernel_rfl) j

theorem bias_next (c : Dev nD) (t : Fin cfg0.N) (h : ¬ t.val % 8 = 0) (j : S1x2048.Idx) :
    (outsAt0 m c t.val t.isLt).2.2.2.2.2.2.1 j = (outsAt0 m c (t.val - 1) (Nat.lt_of_le_of_lt (Nat.sub_le _ _) t.isLt)).2.2.2.2.2.2.1 j + biasPart m c t j := by
  rw [outsAt0_B m c t h]; frame_out
  generalize (outsAt0 m c (t.val - 1) _).2.2.2.2.2.2.1 = acc
  canon_tiles x hx
  · pointwise [k0_pay12]
    refine congrArg₂ (· + ·) (congrArg acc ?_) (Finset.sum_congr rfl fun r _ => (gateHigh m c t r (x 1) _).trans (congrArg (val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) ?_))
    · blk_ext [hx0, hx1]
    · blk_ext [row, hx1]
  · pointwise [k0_pay11]
    refine congrArg₂ (· + ·) (congrArg acc ?_) (Finset.sum_congr rfl fun r _ => (gateLow m c t r (x 1) _).trans (congrArg (val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) ?_))
    · blk_ext [hx0, hx1]
    · blk_ext [row, hx1]

theorem bias_final (c : Dev nD) : (dats m 0 c).arrAt 16 (cfgs 0).N = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_after_last 16 t0_7 (by decide +kernel) _ fun j => ?_
  blk_simp
  rw [after0_16]
  refine (Pipeline.eq_sum_fin_of_reset_step_apply_last (fun n h => (outsAt0 m c n h).2.2.2.2.2.2.1) 8 (fun _ => 0)
    (fun p j => ∑ r : Fin 256, val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 (row p r) (j 1)))
    (fun t h j => bias_first m c t h j) (fun t h j => bias_next m c t h j) (le_of_eq N_0) t0_7 rfl j).trans ?_
  rw [zero_add]
  pointwise [val_main_v56, val_main_v38, val_main_v37, val_main_v36, val_main_cst_4, val_main_cst_5]
  refine Eq.trans ?_ (Fintype.sum_subsingleton _ 0).symm
  exact Fin.sum_mul_add_congr (S := 8) (n := 256) (L := 2048)
    (F := fun p r => val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 (row p r) (j 1)))
    (f := fun x => val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 x (j 1))) fun p r hl => rfl

end Cert.MixIdeal.Value
-- ==== Proof.MixPool.lean ====
module

public import proofs.«01_k».proof.Proof.MixRows
public import Idealize.ShloMosaic.Lib.Pipeline.ReadBack

@[expose] public section

set_option maxRecDepth 16384

noncomputable section

open Idealize.ShloMosaic Idealize.ShloMosaic.TcCoe Idealize.SL.Sem

namespace Cert.MixIdeal.Value
open Cert.MixIdeal Cert.MixIdeal.Gen
open Cert.MixGradIdeal.Read

variable (m : (ℓ : Loc nD τ sig) → Buf (Elt Ideal) ℓ)

/-- The gradient of the pooled branch's projection input, of which the pool scale's gradient and the pooled values' gradient are made. -/
theorem projGrad (c : Dev nD) (t : Fin cfg0.N) (r : Fin 256) (l : Fin 512) (inb) :
    k0_pay16 (F := Ideal) (k0_pay4 (iblk m c 0 t) (iblk m c 5 t)) (k0_pay6 (View.ld (iblk m c 3 t) (Rect.unit ![0, 1024] ![256, 1024] inb))) (iblk m c 7 t) (ix2 r l)
      = val_main_v39 (F := Ideal) (m ((c : Thread nD τ).loc main_arg2)) (m ((c : Thread nD τ).loc main_arg3)) (m ((c : Thread nD τ).loc main_arg7)) (m ((c : Thread nD τ).loc main_arg8)) (m ((c : Thread nD τ).loc main_arg9)) (ix2 (row t r) l) := by
  pointwise [k0_pay16, k0_pay14, k0_pay4, k0_pay6, val_main_v39, val_main_v28, val_main_v23, val_main_v27]
  blk_point [iblk, gates_entry, ct_entry, wOut_entry, attnBranch_entry, poolBranch_entry, mixed_entry, wBranchAttn_entry, wBranchPool_entry, poolScale_entry, row, idx t]

/-- The part of the pool scale's gradient that block `t` adds at lane `j`. -/
abbrev scalePart (c : Dev nD) (t : Fin cfg0.N) (j : S1x512.Idx) : EReal :=
  ∑ r : Fin 256, val_main_v40 (F := Ideal) (m ((c : Thread nD τ).loc main_arg1)) (m ((c : Thread nD τ).loc main_arg2)) (m ((c : Thread nD τ).loc main_arg3)) (m ((c : Thread nD τ).loc main_arg5)) (m ((c : Thread nD τ).loc main_arg7)) (m ((c : Thread nD τ).loc main_arg8)) (m ((c : Thread nD τ).loc main_arg9)) (ix2 (row t r) (j 1))

theorem scaleSum (c : Dev nD) (t : Fin cfg0.N) (acc : Vec Ideal S1x512 .f32) (j : S1x512.Idx) (inb) :
    k0_pay19 (F := Ideal) (k0_pay17 acc) (k0_pay18 (k0_pay4 (iblk m c 0 t) (iblk m c 5 t)) (k0_pay6 (View.ld (iblk m c 3 t) (Rect.unit ![0, 1024] ![256, 1024] inb)))
      (iblk m c 7 t) (iblk m c 4 t)) j = acc j + scalePart m c t j := by
  idx_vars j
  pointwise [k0_pay19, k0_pay17, k0_pay18, val_main_v40]
  refine congrArg (_ + ·) (Finset.sum_congr rfl fun r _ => (Ideal.mul_congr (projGrad m c t r _ _) ?_).trans (mul_comm _ _))
  blk_point [iblk, gates_entry, ct_entry, wOut_entry, attnBranch_entry, poolBranch_entry, mixed_entry, wBranchAttn_entry, wBranchPool_entry, poolScale_entry, row, idx t]

theorem scale_first (c : Dev nD) (t : Fin cfg0.N) (h : t.val % 8 = 0) (j : S1x512.Idx) :
    (outsAt0 m c t.val t.isLt).2.2.2.2.2.2.2 j = 0 + scalePart m c t j := by
  rw [outsAt0_A m c t h]
  frame_open
  simp (disch := decide) only [↓ View.readCov_skip, ↓ View.readCov_cons_toLoadRect, ↓ View.readCov_fill]
  frame_out
  refine (scaleSum m c t (k0_pay3 (F := Ideal)) j _).trans (congrArg (· + _) ?_)
  pointwise [k0_pay3]

theorem scale_next (c : Dev nD) (t : Fin cfg0.N) (h : ¬ t.val % 8 = 0) (j : S1x512.Idx) :
    (outsAt0 m c t.val t.isLt).2.2.2.2.2.2.2 j = (outsAt0 m c (t.val - 1) (Nat.lt_of_le_of_lt (Nat.sub_le _ _) t.isLt)).2.2.2.2.2.2.2 j + scalePart m c t j := by
  rw [outsAt0_B m c t h]; frame_out
  exact scaleSum m c t _ j _

theorem scale_final (c : Dev nD) : (dats m 0 c).arrAt 17 (cfgs 0).N = val_main_v57 (F := Ideal) (m ((c : Thread nD τ).loc main_arg1)) (m ((c : Thread nD τ).loc main_arg2)) (m ((c : Thread nD τ).loc main_arg3)) (m ((c : Thread nD τ).loc main_arg5)) (m ((c : Thread nD τ).loc main_arg7)) (m ((c : Thread nD τ).loc main_arg8)) (m ((c : Thread nD τ).loc main_arg9)) := by
  refine (dats m 0 c).arrAt_eq_of_after_last 17 t0_7 (by decide +kernel) _ fun j => ?_
  blk_simp
  rw [after0_17]
  refine (Pipeline.eq_sum_fin_of_reset_step_apply_last (fun n h => (outsAt0 m c n h).2.2.2.2.2.2.2) 8 (fun _ => 0)
    (fun p j => ∑ r : Fin 256, val_main_v40 (F := Ideal) (m ((c : Thread nD τ).loc main_arg1)) (m ((c : Thread nD τ).loc main_arg2)) (m ((c : Thread nD τ).loc main_arg3)) (m ((c : Thread nD τ).loc main_arg5)) (m ((c : Thread nD τ).loc main_arg7)) (m ((c : Thread nD τ).loc main_arg8)) (m ((c : Thread nD τ).loc main_arg9)) (ix2 (row p r) (j 1)))
    (fun t h j => scale_first m c t h j) (fun t h j => scale_next m c t h j) (le_of_eq N_0) t0_7 rfl j).trans ?_
  rw [zero_add]
  pointwise [val_main_v57, val_main_v45, val_main_v42, val_main_v41, val_main_cst_6, val_main_cst_7]
  refine Eq.trans ?_ (Fintype.sum_subsingleton _ 0).symm
  exact Fin.sum_mul_add_congr (S := 8) (n := 256) (L := 2048)
    (F := fun p r => val_main_v40 (F := Ideal) (m ((c : Thread nD τ).loc main_arg1)) (m ((c : Thread nD τ).loc main_arg2)) (m ((c : Thread nD τ).loc main_arg3)) (m ((c : Thread nD τ).loc main_arg5)) (m ((c : Thread nD τ).loc main_arg7)) (m ((c : Thread nD τ).loc main_arg8)) (m ((c : Thread nD τ).loc main_arg9)) (ix2 (row p r) (j 1)))
    (f := fun x => val_main_v40 (F := Ideal) (m ((c : Thread nD τ).loc main_arg1)) (m ((c : Thread nD τ).loc main_arg2)) (m ((c : Thread nD τ).loc main_arg3)) (m ((c : Thread nD τ).loc main_arg5)) (m ((c : Thread nD τ).loc main_arg7)) (m ((c : Thread nD τ).loc main_arg8)) (m ((c : Thread nD τ).loc main_arg9)) (ix2 x (j 1))) fun p r hl => rfl

/-- One group of the grouped product of the pooled gradient with the pool weights, over the group's lanes of the projection's gradient. -/
theorem groupSum (c : Dev nD) (t : Fin cfg0.N) (g : Fin 4) (r : Fin 256) (l : Fin 128) (inb) (e : Fin 128 → Fin 512) (he : ∀ k, (e k).val = g.val * 128 + k.val) (z : S2048x512.Idx) (hr : (z 0).val = t.val * 256 + r.val) (hl : (z 1).val = g.val * 128 + l.val) :
    ∑ k : Fin 128, (k0_pay16 (F := Ideal) (k0_pay4 (iblk m c 0 t) (iblk m c 5 t)) (k0_pay6 (View.ld (iblk m c 3 t) (Rect.unit ![0, 1024] ![256, 1024] inb))) (iblk m c 7 t) (ix2 r (e k))
      * iblk m c 9 t (ix2 0 (e k)) * iblk m c 8 t (ix3 g l k) : EReal) = val_main_v51 (F := Ideal) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) z := by
  obtain ⟨a, b, rfl⟩ : ∃ (a : Fin 2048) (b : Fin 512), z = ix2 a b := ⟨z 0, z 1, eq_ix2 z⟩
  obtain rfl : a = row t r := Fin.ext hr
  obtain rfl : e = fun k => ⟨g.val * 128 + k.val, by omega⟩ := funext fun k => Fin.ext (he k)
  have hb : g.val * 128 + l.val < 512 := by omega
  obtain rfl : b = ⟨g.val * 128 + l.val, hb⟩ := Fin.ext hl
  pointwise [val_main_v51, val_main_v50, val_main_v49, val_main_v48, val_main_v47, val_main_v44, val_main_v43]
  refine Finset.sum_congr rfl fun k _ => Ideal.mul_congr (Ideal.mul_congr (projGrad m c t r _ _) ?_) ?_
  · blk_point [iblk, gates_entry, ct_entry, wOut_entry, attnBranch_entry, poolBranch_entry, mixed_entry, wBranchAttn_entry, wBranchPool_entry, poolScale_entry, row, idx t]
  · blk_point [iblk, gates_entry, ct_entry, wOut_entry, attnBranch_entry, poolBranch_entry, mixed_entry, wBranchAttn_entry, wBranchPool_entry, poolScale_entry, row, idx t]

set_option maxHeartbeats 1000000 in
theorem pool_final (c : Dev nD) : (dats m 0 c).arrAt 15 (cfgs 0).N = val_main_v51 (F := Ideal) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 15 _ (by decide +kernel) fun t _ y => ?_
  blk_simp
  rw [after0_15]
  by_cases hA : t.val % 8 = 0
  on_goal 1 => rw [outsAt0_A m c t hA]
  on_goal 2 => rw [outsAt0_B m c t hA]
  all_goals frame_out
  all_goals canon_tiles x h
  all_goals pointwise [k0_pay21, k0_pay22, k0_pay23, k0_pay24, k0_pay1, k0_pay20]
  on_goal 1 => refine groupSum m c t 3 (x 0) (x 1) _ _ (fun k => rfl) _ ?_ ?_
  on_goal 3 => refine groupSum m c t 2 (x 0) (x 1) _ _ (fun k => rfl) _ ?_ ?_
  on_goal 5 => refine groupSum m c t 1 (x 0) (x 1) _ _ (fun k => rfl) _ ?_ ?_
  on_goal 7 => refine groupSum m c t 0 (x 0) (x 1) _ _ (fun k => (Nat.zero_add _).symm) _ ?_ ?_
  on_goal 9 => refine groupSum m c t 3 (x 0) (x 1) _ _ (fun k => rfl) _ ?_ ?_
  on_goal 11 => refine groupSum m c t 2 (x 0) (x 1) _ _ (fun k => rfl) _ ?_ ?_
  on_goal 13 => refine groupSum m c t 1 (x 0) (x 1) _ _ (fun k => rfl) _ ?_ ?_
  on_goal 15 => refine groupSum m c t 0 (x 0) (x 1) _ _ (fun k => (Nat.zero_add _).symm) _ ?_ ?_
  all_goals (blk_simp [idx t, h0, h1] <;> try omega)
end Cert.MixIdeal.Value
-- ==== Proof.MixClaim.lean ====
module

public import proofs.«01_k».proof.Proof.MixFrames
public import proofs.«01_k».proof.Proof.MixBlocks
public import proofs.«01_k».proof.Proof.MixGates
public import proofs.«01_k».proof.Proof.MixPool

@[expose] public section

set_option maxRecDepth 16384

noncomputable section

open Idealize.ShloMosaic Idealize.SL.Sem

namespace Cert.Proof.Mix

theorem algebraic : Cert.algebraic_MixIdeal_MixGradIdeal := by
  intro m ρ m' ρ' _ hagree
  refine ⟨_, _, _, _, _, _, _, _, Cert.MixIdeal.Value.run_blocks m ρ, ?_⟩
  refine (θ_run Cert.MixGradIdeal.defs _ _).mono (fun _ h c => ?_) (Cert.MixGradIdeal.Value.run (F := Ideal) m' ρ')
  obtain ⟨a0, a1, a2, a3, a4, a5, a6, a7, a8, a9⟩ := hagree c
  obtain ⟨h0, h1, h2, h3, h4, h5, h6, h7, hargs⟩ := h c
  refine ⟨h0.trans ?_, h1.trans ?_, h2.trans ?_, h3.trans ?_, h4.trans ?_, h5.trans ?_, h6.trans ?_, h7.trans ?_, hargs⟩
  · refine (Cert.MixGradIdeal.Read.val_main_v52_eq ..).trans ?_
    simp only [a0, a1, a2, a3, a4, a5, a6, a7, a8, a9]
    exact (Cert.MixIdeal.Value.gate_final m c).symm
  · refine (Cert.MixGradIdeal.Read.val_main_v53_eq ..).trans ?_
    simp only [a0, a1, a2, a3, a4, a5, a6, a7, a8, a9]
    exact (Cert.MixIdeal.Value.attnBranch_final m c).symm
  · refine (Cert.MixGradIdeal.Read.val_main_v54_eq ..).trans ?_
    simp only [a0, a1, a2, a3, a4, a5, a6, a7, a8, a9]
    exact (Cert.MixIdeal.Value.poolBranch_final m c).symm
  · refine (Cert.MixGradIdeal.Read.val_main_v46_eq ..).trans ?_
    simp only [a0, a1, a2, a3, a4, a5, a6, a7, a8, a9]
    exact (Cert.MixIdeal.Value.attn_final m c).symm
  · refine (Cert.MixGradIdeal.Read.val_main_v55_eq ..).trans ?_
    simp only [a0, a1, a2, a3, a4, a5, a6, a7, a8, a9]
    exact (Cert.MixIdeal.Value.mixed_final m c).symm
  · refine (Cert.MixGradIdeal.Read.val_main_v51_eq ..).trans ?_
    simp only [a0, a1, a2, a3, a4, a5, a6, a7, a8, a9]
    exact (Cert.MixIdeal.Value.pool_final m c).symm
  · refine (Cert.MixGradIdeal.Read.val_main_v56_eq ..).trans ?_
    simp only [a0, a1, a2, a3, a4, a5, a6, a7, a8, a9]
    exact (Cert.MixIdeal.Value.bias_final m c).symm
  · refine (Cert.MixGradIdeal.Read.val_main_v57_eq ..).trans ?_
    simp only [a0, a1, a2, a3, a4, a5, a6, a7, a8, a9]
    exact (Cert.MixIdeal.Value.scale_final m c).symm

end Cert.Proof.Mix

end

end
-- ==== Proof.DownFrames.lean ====
module

public import proofs.«01_k».proof.Defs
public import proofs.«01_k».proof.Proof.Gen.Down.Frame
public import proofs.«01_k».proof.Proof.Gen.DownIdeal.Frame
public import proofs.«01_k».proof.Proof.Gen.DownGradIdeal.Run
public import Idealize.ShloMosaic.Lib.Quiescent

@[expose] public section

set_option maxRecDepth 16384

noncomputable section

open Idealize.ShloMosaic Idealize.SL.Sem

namespace Cert.Proof.Down

theorem frame : Cert.quiescent_Down := fun m ρ _ => Cert.Down.Gen.frame m ρ

theorem frameIdeal : Cert.quiescent_DownIdeal := fun m ρ _ => Cert.DownIdeal.Gen.frame m ρ

theorem frameReference : Cert.quiescent_DownGradIdeal := fun m ρ _ =>
  (θ_run Cert.DownGradIdeal.defs _ _).mono (fun r h => ⟨fun c => (h c).2.2.2.2.2, Idealize.ShloMosaic.sem_eq_zero_of_no_sems (by decide) r.2⟩) (Cert.DownGradIdeal.Value.run (F := Ideal) m ρ)

theorem preserves : Cert.preserves_Down_DownIdeal :=
  trivial

end Cert.Proof.Down

end

end
-- ==== Proof.Reals.lean ====
module

public import Idealize.ShloMosaic.Lib.StableHlo
public import Idealize.ShloMosaic.PureOps
public import Idealize.ShloMosaic.Lib.ReduceAll
public import Idealize.ShloMosaic.Lib.Pipeline.ValueKit

/-!
Extended reals that are real numbers: what keeps them so, and what a precondition that all entries are finite says.
-/

@[expose] public section

noncomputable section

namespace Cert.Reals

open Idealize.ShloMosaic

/-- The value is a real number. -/
def IsReal (x : EReal) : Prop := ∃ r : ℝ, x = (r : EReal)

theorem coe (r : ℝ) : IsReal (r : EReal) := ⟨r, rfl⟩

theorem IsReal.coe_toReal {x : EReal} (h : IsReal x) : (x.toReal : EReal) = x := by
  obtain ⟨r, rfl⟩ := h; rw [EReal.toReal_coe]

theorem IsReal.eq {x : EReal} (h : IsReal x) : x = (x.toReal : EReal) := h.coe_toReal.symm

theorem IsReal.add {x y : EReal} : IsReal x → IsReal y → IsReal (x + y) := by
  rintro ⟨a, rfl⟩ ⟨b, rfl⟩; exact ⟨a + b, (EReal.coe_add a b).symm⟩

theorem IsReal.sub {x y : EReal} : IsReal x → IsReal y → IsReal (x - y) := by
  rintro ⟨a, rfl⟩ ⟨b, rfl⟩; exact ⟨a - b, (EReal.coe_sub a b).symm⟩

theorem IsReal.mul {x y : EReal} : IsReal x → IsReal y → IsReal (x * y) := by
  rintro ⟨a, rfl⟩ ⟨b, rfl⟩; exact ⟨a * b, (EReal.coe_mul a b).symm⟩

theorem IsReal.neg {x : EReal} : IsReal x → IsReal (-x) := by
  rintro ⟨a, rfl⟩; exact ⟨-a, (EReal.coe_neg a).symm⟩

theorem IsReal.sin {x : EReal} : IsReal x → IsReal (Ideal.sin x) := by
  rintro ⟨a, rfl⟩; exact ⟨_, rfl⟩

theorem IsReal.cos {x : EReal} : IsReal x → IsReal (Ideal.cos x) := by
  rintro ⟨a, rfl⟩; exact ⟨_, rfl⟩

theorem IsReal.pow {x y : EReal} : IsReal x → IsReal y → IsReal (Ideal.pow x y) := by
  rintro ⟨a, rfl⟩ ⟨b, rfl⟩; exact ⟨_, rfl⟩

theorem coe_sum {ι : Type} [Fintype ι] (f : ι → ℝ) : ((∑ i, f i : ℝ) : EReal) = ∑ i, (f i : EReal) :=
  map_sum (⟨⟨Real.toEReal, EReal.coe_zero⟩, EReal.coe_add⟩ : ℝ →+ EReal) f Finset.univ

theorem IsReal.sum {ι : Type} [Fintype ι] {f : ι → EReal} (h : ∀ i, IsReal (f i)) : IsReal (∑ i, f i) :=
  ⟨∑ i, (f i).toReal, by rw [coe_sum]; exact Finset.sum_congr rfl fun i _ => (h i).eq⟩

theorem IsReal.div {x y : EReal} (hx : IsReal x) (hy : IsReal y) (h0 : y ≠ 0) : IsReal (Ideal.div x y) := by
  obtain ⟨a, rfl⟩ := hx; obtain ⟨b, rfl⟩ := hy
  rw [Ideal.div_coe (fun e => h0 (by rw [e, EReal.coe_zero]))]
  exact (coe a).mul (coe _)

theorem div_eq {a b : ℝ} (h : b ≠ 0) : Ideal.div (a : EReal) (b : EReal) = ((a / b : ℝ) : EReal) := by
  rw [Ideal.div_coe h, ← EReal.coe_mul, mul_one_div]

/-- An entry whose absolute value is below infinity. -/
theorem of_lt {x : Ideal .f32} (h : FloatOps.cmpf .olt (FloatOps.hostAbsf x) (FloatOps.ofBits (F := Ideal) .f32 0x7F800000#32) = 1#1) :
    IsReal (x : EReal) := by
  have e : max (x : EReal) (-(x : EReal)) < Ideal.ofBits .f32 0x7F800000#32 := by
    by_contra hn
    have : BitVec.ofBool (decide (max (x : EReal) (-(x : EReal)) < Ideal.ofBits .f32 0x7F800000#32)) = 1#1 := h
    rw [decide_eq_false hn] at this
    exact absurd this (by decide)
  have top : Ideal.ofBits .f32 0x7F800000#32 = ⊤ := by simp [Ideal.ofBits, Ideal.ieee]
  rw [top, max_lt_iff] at e
  rcases x with _ | _ | r
  · exact absurd e.2 (by show ¬ (-(⊥ : EReal) < ⊤); simp)
  · exact absurd e.1 (by show ¬ ((⊤ : EReal) < ⊤); simp)
  · exact ⟨r, rfl⟩

/-- All entries of an array are finite, as the preconditions say it. -/
theorem of_all {s t u : Shape} {axes : List (Fin s.rank)} [Subsingleton t.Idx] (x : FVec Ideal s .f32) (init : u.Idx → BitVec 1) (bound : FVec Ideal s .f32)
    (hb : ∀ i, bound i = FloatOps.ofBits (F := Ideal) .f32 0x7F800000#32) (h : s.ReducesTo axes t) (hu : 0 < u.numel) (j : t.Idx)
    (e : Host.reduce IntOp.andi (cmpf .olt (Host.absf x) bound) init h hu j = 1#1) (i : s.Idx) : IsReal (x i) := by
  have := Host.reduce_andi_all _ init h hu j e i
  exact of_lt ((congrArg (FloatOps.cmpf .olt (FloatOps.hostAbsf (x i))) (hb i)).symm.trans this)

end Cert.Reals
-- ==== Proof.LayerNorm.lean ====
module

public import proofs.«01_k».proof.Proof.Reals

/-!
Layer normalisation of one row of 1024 numbers, its input's gradient as the kernels compute it and as
differentiation writes it, and that the two agree where the incoming gradient is real.
-/

@[expose] public section

noncomputable section

namespace Cert.LayerNorm

open Idealize.ShloMosaic Cert.Reals

/-- The width of a row, as its word reads. -/
abbrev width : EReal := Ideal.ofBits .f32 0x44800000#32

/-- The number added to the variance. -/
abbrev eps : EReal := Ideal.ofBits .f32 0x3727C5AC#32

theorem width_eq : width = ((1024 : ℝ) : EReal) := by
  simp [width, Ideal.ofBits, Ideal.ieee, -EReal.coe_mul]; norm_num

theorem eps_pos : ∃ e : ℝ, 0 < e ∧ eps = (e : EReal) := by
  refine ⟨_, ?_, rfl⟩
  simp [Ideal.ieee]

theorem two_eq : Ideal.ofBits .f32 0x40000000#32 = ((2 : ℝ) : EReal) := by
  simp [Ideal.ofBits, Ideal.ieee, -EReal.coe_mul]; norm_num

theorem minus_half_eq : Ideal.ofBits .f32 0xBF000000#32 = ((-(1 / 2) : ℝ) : EReal) := by
  simp [Ideal.ofBits, Ideal.ieee, -EReal.coe_mul]; norm_num

variable (x dxh : Fin 1024 → EReal)

/-- The mean of a row. -/
abbrev mean : EReal := Ideal.div (∑ k, x k) width

/-- A row less its mean. -/
abbrev centred (j : Fin 1024) : EReal := x j - mean x

/-- The variance of a row, with the small number added. -/
abbrev spread : EReal := mean (fun k => centred x k * centred x k) + eps

/-- The reciprocal of the standard deviation. -/
abbrev rstd : EReal := Ideal.rsqrt (spread x)

/-- The normalised row. -/
abbrev hat (j : Fin 1024) : EReal := centred x j * rstd x

/-- The gradient of the row as the kernels compute it, from the gradient `dxh` of the normalised row. -/
abbrev back (j : Fin 1024) : EReal := rstd x * ((dxh j - mean dxh) - hat x j * mean fun k => dxh k * hat x k)

/-- The part of the gradient of the row that comes by the variance, as differentiation writes it. -/
abbrev byVar (j : Fin 1024) : EReal :=
  Ideal.div ((∑ k, centred x k * dxh k) * (Ideal.ofBits .f32 0xBF000000#32 * Ideal.div (rstd x) (spread x))) width
    * (Ideal.ofBits .f32 0x40000000#32 * centred x j)

/-- The gradient of the row as differentiation writes it. -/
abbrev grad (j : Fin 1024) : EReal :=
  (dxh j * rstd x + byVar x dxh j)
    + Ideal.div ((∑ k, -(dxh k * rstd x)) + ∑ k, -(byVar x dxh k)) width

section
variable (a d : Fin 1024 → ℝ)

/-- The mean, over the reals. -/
def mean' : ℝ := (∑ k, a k) / 1024

theorem mean_coe : mean (fun k => (a k : EReal)) = ((mean' a : ℝ) : EReal) := by
  rw [mean, width_eq, ← coe_sum, div_eq (by norm_num)]; rfl

theorem centred_coe (j : Fin 1024) : centred (fun k => (a k : EReal)) j = ((a j - mean' a : ℝ) : EReal) := by
  rw [centred, mean_coe, EReal.coe_sub]

/-- The reciprocal of the standard deviation is a real number whose square is the reciprocal of a positive one. -/
theorem rstd_coe : ∃ s v : ℝ, 0 < v ∧ s * s = 1 / v ∧ spread (fun k => (a k : EReal)) = (v : EReal) ∧ rstd (fun k => (a k : EReal)) = (s : EReal) := by
  obtain ⟨e, he, ee⟩ := eps_pos
  have sp : spread (fun k => (a k : EReal)) = ((mean' (fun k => (a k - mean' a) * (a k - mean' a)) + e : ℝ) : EReal) := by
    rw [spread, ee, EReal.coe_add, ← mean_coe]
    simp only [centred_coe, EReal.coe_mul]
  have pos : 0 < mean' (fun k => (a k - mean' a) * (a k - mean' a)) + e := by
    have : 0 ≤ mean' (fun k => (a k - mean' a) * (a k - mean' a)) :=
      div_nonneg (Finset.sum_nonneg fun k _ => mul_self_nonneg _) (by norm_num)
    linarith
  refine ⟨_, _, pos, ?_, sp, by rw [rstd, sp, Ideal.rsqrt_coe, if_neg (not_lt.2 pos.le), if_neg pos.ne']⟩
  rw [← mul_inv, Real.mul_self_sqrt pos.le, one_div]

theorem centred_sum : ∑ k, (a k - mean' a) = 0 := by
  rw [Finset.sum_sub_distrib, Finset.sum_const, Finset.card_univ, Fintype.card_fin, mean']
  simp only [nsmul_eq_mul]
  push_cast
  ring

theorem back_coe (s : ℝ) (hs : rstd (fun k => (a k : EReal)) = (s : EReal)) (j : Fin 1024) :
    back (fun k => (a k : EReal)) (fun k => (d k : EReal)) j
      = ((s * ((d j - mean' d) - (a j - mean' a) * s * mean' fun k => d k * ((a k - mean' a) * s)) : ℝ) : EReal) := by
  rw [back, mean_coe, hat]
  simp only [hat, hs, centred_coe, ← EReal.coe_mul, ← EReal.coe_sub]
  rw [mean_coe]
  simp only [← EReal.coe_mul, ← EReal.coe_sub]

theorem byVar_coe (s v : ℝ) (hv : 0 < v) (hs : rstd (fun k => (a k : EReal)) = (s : EReal)) (hsp : spread (fun k => (a k : EReal)) = (v : EReal)) (j : Fin 1024) :
    byVar (fun k => (a k : EReal)) (fun k => (d k : EReal)) j
      = (((∑ k, (a k - mean' a) * d k) * (-(1 / 2) * (s / v)) / 1024 * (2 * (a j - mean' a)) : ℝ) : EReal) := by
  rw [byVar, hs, hsp, div_eq hv.ne', width_eq, two_eq, minus_half_eq]
  simp only [centred_coe, ← EReal.coe_mul, ← coe_sum]
  rw [div_eq (by norm_num), ← EReal.coe_mul]

/-- The two forms of the gradient agree on real rows. -/
theorem grad_coe (j : Fin 1024) : grad (fun k => (a k : EReal)) (fun k => (d k : EReal)) j = back (fun k => (a k : EReal)) (fun k => (d k : EReal)) j := by
  obtain ⟨s, v, hv, hss, hsp, hs⟩ := rstd_coe a
  rw [back_coe a d s hs, grad, width_eq, hs]
  simp only [byVar_coe a d s v hv hs hsp, ← EReal.coe_mul, ← EReal.coe_neg, ← coe_sum, ← EReal.coe_add]
  rw [div_eq (by norm_num), ← EReal.coe_add]
  refine congrArg Real.toEReal ?_
  have z : ∑ k, -((∑ k, (a k - mean' a) * d k) * (-(1 / 2) * (s / v)) / 1024 * (2 * (a k - mean' a))) = 0 := by
    rw [Finset.sum_neg_distrib, ← Finset.mul_sum, ← Finset.mul_sum, centred_sum]; ring
  have y : ∑ k, -(d k * s) = -(s * ∑ k, d k) := by
    rw [Finset.sum_neg_distrib, ← Finset.sum_mul, mul_comm]
  have w : (mean' fun k => d k * ((a k - mean' a) * s)) = s * (∑ k, (a k - mean' a) * d k) / 1024 := by
    rw [mean', Finset.mul_sum]
    refine congrArg (· / (1024 : ℝ)) (Finset.sum_congr rfl fun k _ => by ring)
  rw [z, y, w, show s / v = s * (s * s) by rw [hss]; ring, show mean' d = (∑ k, d k) / 1024 from rfl]
  ring

end

theorem real_of_add {a b : EReal} (h : IsReal (a + b)) : IsReal a ∧ IsReal b := by
  obtain ⟨r, h⟩ := h
  induction a using EReal.rec with
  | bot => rw [EReal.bot_add] at h; exact absurd h.symm (EReal.coe_ne_bot r)
  | coe a =>
    refine ⟨coe a, ?_⟩
    induction b using EReal.rec with
    | bot => rw [EReal.add_bot] at h; exact absurd h.symm (EReal.coe_ne_bot r)
    | coe b => exact coe b
    | top => rw [EReal.coe_add_top] at h; exact absurd h.symm (EReal.coe_ne_top r)
  | top =>
    induction b using EReal.rec with
    | bot => rw [EReal.add_bot] at h; exact absurd h.symm (EReal.coe_ne_bot r)
    | coe b => rw [EReal.top_add_coe] at h; exact absurd h.symm (EReal.coe_ne_top r)
    | top => rw [EReal.top_add_top] at h; exact absurd h.symm (EReal.coe_ne_top r)

theorem real_of_sum {ι : Type} (s : Finset ι) (f : ι → EReal) : IsReal (∑ i ∈ s, f i) → ∀ i ∈ s, IsReal (f i) := by
  classical
  induction s using Finset.induction_on with
  | empty => intro _ i hi; exact absurd hi (Finset.notMem_empty i)
  | insert a s ha ih =>
    intro h i hi
    rw [Finset.sum_insert ha] at h
    rcases Finset.mem_insert.1 hi with rfl | hi
    · exact (real_of_add h).1
    · exact ih (real_of_add h).2 i hi

theorem real_or (a : EReal) : IsReal a ∨ a = ⊤ ∨ a = ⊥ := by
  induction a using EReal.rec with
  | bot => exact .inr (.inr rfl)
  | coe a => exact .inl (coe a)
  | top => exact .inr (.inl rfl)

theorem top_mean : Ideal.div ⊤ width = ⊤ := by
  rw [width_eq, Ideal.div_coe (by norm_num)]; exact EReal.top_mul_coe_of_pos (by norm_num)

theorem bot_mean : Ideal.div ⊥ width = ⊥ := by
  rw [width_eq, Ideal.div_coe (by norm_num)]; exact EReal.bot_mul_coe_of_pos (by norm_num)

/-- A row with an infinite entry has an infinite variance, and is normalised to zero. -/
theorem rstd_zero (h : ¬ ∀ k, IsReal (x k)) : rstd x = 0 ∧ spread x = ⊤ := by
  have hs : ¬ IsReal (∑ k, x k) := fun e => h fun k => real_of_sum _ _ e k (Finset.mem_univ k)
  have sq (j : Fin 1024) : centred x j * centred x j = ⊤ := by
    rcases real_or (∑ k, x k) with e | e | e
    · exact absurd e hs
    · rw [centred, mean, e, top_mean, EReal.sub_top]; rfl
    · rw [centred, mean, e, bot_mean]
      rcases real_or (x j) with ⟨r, hr⟩ | hr | hr <;> rw [hr] <;> rfl
  have tot : ∑ k : Fin 1024, centred x k * centred x k = ⊤ := by
    rcases real_or (∑ k, centred x k * centred x k) with e | e | e
    · obtain ⟨r, hr⟩ := real_of_sum _ _ e 0 (Finset.mem_univ _)
      rw [sq] at hr
      exact absurd hr.symm (EReal.coe_ne_top r)
    · exact e
    · have : (0 : EReal) ≤ ∑ k, centred x k * centred x k := Finset.sum_nonneg fun k _ => by rw [sq]; exact le_top
      rw [e] at this
      exact absurd this (by simp)
  have sp : spread x = ⊤ := by
    obtain ⟨e, -, he⟩ := eps_pos
    rw [spread, mean, tot, top_mean, he, EReal.top_add_coe]
  exact ⟨by rw [rstd, sp]; rfl, sp⟩

/-- The two forms of the gradient agree where the incoming gradient of a real row is real. -/
theorem grad_eq (hd : (∀ k, IsReal (x k)) → ∀ k, IsReal (dxh k)) (j : Fin 1024) : grad x dxh j = back x dxh j := by
  by_cases hx : ∀ k, IsReal (x k)
  · have ex : x = fun k => ((x k).toReal : EReal) := funext fun k => (hx k).eq
    have ed : dxh = fun k => ((dxh k).toReal : EReal) := funext fun k => (hd hx k).eq
    rw [ex, ed]
    exact grad_coe _ _ j
  · obtain ⟨h, sp⟩ := rstd_zero x hx
    have bv (k) : byVar x dxh k = 0 := by
      rw [byVar, h, sp, show Ideal.div 0 ⊤ = 0 by simp [Ideal.div], mul_zero, mul_zero, width_eq, Ideal.div_coe (by norm_num), zero_mul, zero_mul]
    rw [grad, back, h]
    simp only [bv, mul_zero, zero_mul, neg_zero, Finset.sum_const_zero, add_zero]
    rw [width_eq, Ideal.div_coe (by norm_num), zero_mul, zero_add]

/-- The normalised row is real. -/
theorem hat_real (j : Fin 1024) : IsReal (hat x j) := by
  by_cases hx : ∀ k, IsReal (x k)
  · have ex : x = fun k => ((x k).toReal : EReal) := funext fun k => (hx k).eq
    rw [ex]
    obtain ⟨s, v, -, -, -, hs⟩ := rstd_coe fun k => (x k).toReal
    rw [hat, centred_coe, hs]
    exact (coe _).mul (coe _)
  · rw [hat, (rstd_zero x hx).1, mul_zero]
    exact coe 0

end Cert.LayerNorm
-- ==== Proof.DownRows.lean ====
module

public import proofs.«01_k».proof.Proof.Gen.DownIdeal.Value
public import proofs.«01_k».proof.Proof.LayerNorm
public import Idealize.ShloMosaic.Lib.Pipeline.ValueKit
public import Idealize.ShloMosaic.Lib.Pointwise
public import Idealize.ShloMosaic.Lib.Claim

/-!
What a block of the feed-forward kernel computes, one row at a time.
-/

@[expose] public section

set_option maxRecDepth 16384

noncomputable section

open Idealize.ShloMosaic Idealize.ShloMosaic.TcCoe Idealize.SL.Sem

namespace Cert.DownIdeal.Value
open Cert.DownIdeal Cert.DownIdeal.Gen Cert.LayerNorm Cert.Reals

variable (v3 : Vec Ideal S256x1024 .f32) (v6 : Vec Ideal S256x2816 .bf16) (v8 : Vec Ideal S2816x1024 .bf16) (g b : Vec Ideal S1x1024 .f32) (tgt : Vec Ideal S256x1024 .f32)
variable (r : Fin 256) (j : Fin 1024)

/-- The residual of row `r` of the block. -/
abbrev line (k : Fin 1024) : EReal := Ideal.ofBits .f32 0x3F9837F0#32 * v3 (ix2 r k) + ∑ e : Fin 2816, v6 (ix2 r e) * v8 (ix2 e k)

theorem centred_at : k0_pay6 (F := Ideal) v3 v6 v8 (ix2 r j) = centred (line v3 v6 v8 r) j := by
  pointwise [k0_pay6, centred, mean, line]

theorem rstd_at (z : Fin 1) : k0_pay7 (F := Ideal) v3 v6 v8 (ix2 r z) = rstd (line v3 v6 v8 r) := by
  pointwise [k0_pay7, rstd, spread, mean]
  simp only [centred_at]

theorem hat_at : k0_pay8 (F := Ideal) v3 v6 v8 (ix2 r j) = hat (line v3 v6 v8 r) j := by
  pointwise [k0_pay8, hat]
  exact congrArg₂ (fun x y : EReal => x * y) (centred_at ..) (rstd_at ..)

theorem out_at : k0_pay9 (F := Ideal) v3 v6 v8 g b (ix2 r j) = hat (line v3 v6 v8 r) j * g (ix2 0 j) + b (ix2 0 j) := by
  pointwise [k0_pay9]
  simp only [hat_at]

/-- The difference of the normalised output and the target. -/
abbrev diff : EReal := hat (line v3 v6 v8 r) j * g (ix2 0 j) + b (ix2 0 j) - tgt (ix2 r j)

theorem diff_at : k0_pay10 (F := Ideal) (k0_pay9 (F := Ideal) v3 v6 v8 g b) tgt (ix2 r j) = diff v3 v6 v8 g b tgt r j := by
  pointwise [k0_pay10, diff]
  simp only [out_at]

/-- The gradient of the output. -/
abbrev dy : EReal := diff v3 v6 v8 g b tgt r j * Ideal.ofBits .f32 0x3A800000#32

theorem dy_at : k0_pay12 (F := Ideal) (k0_pay9 (F := Ideal) v3 v6 v8 g b) tgt (ix2 r j) = dy v3 v6 v8 g b tgt r j := by
  pointwise [k0_pay12, dy]
  simp only [diff_at]

theorem dxh_at : k0_pay15 (F := Ideal) (k0_pay9 (F := Ideal) v3 v6 v8 g b) tgt g (ix2 r j) = dy v3 v6 v8 g b tgt r j * g (ix2 0 j) := by
  pointwise [k0_pay15]
  simp only [dy_at]

theorem dxhMean_at (z : Fin 1) : k0_pay16 (F := Ideal) (k0_pay9 (F := Ideal) v3 v6 v8 g b) tgt g (ix2 r z) = mean fun k => dy v3 v6 v8 g b tgt r k * g (ix2 0 k) := by
  pointwise [k0_pay16, mean]
  simp only [dxh_at]

theorem dxhHat_at : k0_pay17 (F := Ideal) (k0_pay8 (F := Ideal) v3 v6 v8) (k0_pay9 (F := Ideal) v3 v6 v8 g b) tgt g (ix2 r j)
    = dy v3 v6 v8 g b tgt r j * g (ix2 0 j) * hat (line v3 v6 v8 r) j := by
  pointwise [k0_pay17]
  exact congrArg₂ (fun x y : EReal => x * y) (dxh_at ..) (hat_at ..)

/-- The gradient of the residual that a block stores. -/
theorem back_at : k0_pay1 (F := Ideal) (k0_pay7 (F := Ideal) v3 v6 v8) (k0_pay8 (F := Ideal) v3 v6 v8)
      (k0_pay15 (F := Ideal) (k0_pay9 (F := Ideal) v3 v6 v8 g b) tgt g) (k0_pay16 (F := Ideal) (k0_pay9 (F := Ideal) v3 v6 v8 g b) tgt g)
      (k0_pay17 (F := Ideal) (k0_pay8 (F := Ideal) v3 v6 v8) (k0_pay9 (F := Ideal) v3 v6 v8 g b) tgt g) (ix2 r j)
    = back (line v3 v6 v8 r) (fun k => dy v3 v6 v8 g b tgt r k * g (ix2 0 k)) j := by
  pointwise [k0_pay1, back]
  simp only [dxh_at, dxhMean_at, dxhHat_at, rstd_at, hat_at]

/-- What a block adds to the loss. -/
theorem loss_at (acc : Vec Ideal S8x128 .f32) (i : S8x128.Idx) : k0_pay11 (F := Ideal) (k0_pay9 (F := Ideal) v3 v6 v8 g b) tgt acc i
    = acc i + (∑ r : Fin 256, ∑ k : Fin 1024, diff v3 v6 v8 g b tgt r k * diff v3 v6 v8 g b tgt r k) * Ideal.ofBits .f32 0x3A000000#32 := by
  idx_vars i
  pointwise [k0_pay11]
  simp only [diff_at]

/-- What a block adds to the gradient of the gain. -/
theorem gain_at (acc : Vec Ideal S1x1024 .f32) (i : S1x1024.Idx) : k0_pay13 (F := Ideal) (k0_pay8 (F := Ideal) v3 v6 v8) (k0_pay9 (F := Ideal) v3 v6 v8 g b) tgt acc i
    = acc i + ∑ r : Fin 256, dy v3 v6 v8 g b tgt r (i 1) * hat (line v3 v6 v8 r) (i 1) := by
  idx_vars i
  pointwise [k0_pay13]
  simp only [dy_at, hat_at]

/-- What a block adds to the gradient of the shift. -/
theorem shift_at (acc : Vec Ideal S1x1024 .f32) (i : S1x1024.Idx) : k0_pay14 (F := Ideal) (k0_pay9 (F := Ideal) v3 v6 v8 g b) tgt acc i
    = acc i + ∑ r : Fin 256, dy v3 v6 v8 g b tgt r (i 1) := by
  idx_vars i
  pointwise [k0_pay14]
  simp only [dy_at]

end Cert.DownIdeal.Value
-- ==== Proof.DownGrads.lean ====
module

public import proofs.«01_k».proof.Proof.Gen.DownGradIdeal.Read
public import proofs.«01_k».proof.Proof.LayerNorm
public import Idealize.ShloMosaic.Lib.Pipeline.ValueKit
public import Idealize.ShloMosaic.Lib.Pointwise
public import Idealize.ShloMosaic.Lib.Claim

/-!
What the reference of the feed-forward block computes, one row at a time.
-/

@[expose] public section

set_option maxRecDepth 16384

noncomputable section

open Idealize.ShloMosaic Idealize.ShloMosaic.TcCoe Idealize.SL.Sem

namespace Cert.DownGradIdeal.Rows
open Cert.DownGradIdeal Cert.DownGradIdeal.Gen Cert.DownGradIdeal.Read Cert.LayerNorm Cert.Reals

variable (x0 : (⟨S2048x2816, .f32⟩ : BufTy).Contents (Elt Ideal)) (x1 : (⟨S2816x1024, .f32⟩ : BufTy).Contents (Elt Ideal)) (x2 x3 : (⟨S2048x1024, .f32⟩ : BufTy).Contents (Elt Ideal)) (x4 x5 : (⟨S1024, .f32⟩ : BufTy).Contents (Elt Ideal))
variable (i : Fin 2048) (j : Fin 1024) (z : Fin 1)

/-- The residual of row `i`. -/
abbrev line (k : Fin 1024) : EReal := val_main_v3 (F := Ideal) x0 x1 x2 (ix2 i k)

theorem line_apply (k : Fin 1024) : line x0 x1 x2 i k = Ideal.ofBits .f32 0x3F9837F0#32 * x2 (ix2 i k) + ∑ e : Fin 2816, x0 (ix2 i e) * x1 (ix2 e k) := by
  pointwise [line, val_main_v3, val_main_v1, val_main_v0, val_main_v2, val_main_cst]

theorem mean_at : val_main_v7 (F := Ideal) x0 x1 x2 (ix2 i z) = mean (line x0 x1 x2 i) := by
  pointwise [val_main_v7, val_main_v5, val_main_v4, val_main_v6, val_main_cst_0, val_main_cst_1, mean]

theorem centred_at : val_main_v9 (F := Ideal) x0 x1 x2 (ix2 i j) = centred (line x0 x1 x2 i) j := by
  pointwise [val_main_v9, val_main_v8]
  exact congrArg (_ - ·) (mean_at ..)

theorem centred_at' : val_main_v18 (F := Ideal) x0 x1 x2 (ix2 i j) = centred (line x0 x1 x2 i) j := by
  pointwise [val_main_v18, val_main_v17]
  exact congrArg (_ - ·) (mean_at ..)

theorem spread_at : val_main_v20 (F := Ideal) x0 x1 x2 (ix2 i z) = spread (line x0 x1 x2 i) := by
  pointwise [val_main_v20, val_main_v16, val_main_v14, val_main_v13, val_main_v10, val_main_v15, val_main_v19, val_main_cst_3, val_main_cst_4, val_main_cst_5, spread]
  simp only [centred_at]

theorem rstd_at : val_main_v21 (F := Ideal) x0 x1 x2 (ix2 i z) = rstd (line x0 x1 x2 i) := by
  pointwise [val_main_v21]
  exact congrArg Ideal.rsqrt (spread_at ..)

theorem hat_at : val_main_v26 (F := Ideal) x0 x1 x2 (ix2 i j) = hat (line x0 x1 x2 i) j := by
  pointwise [val_main_v26, val_main_v25]
  exact congrArg₂ (fun x y : EReal => x * y) (centred_at' ..) (rstd_at ..)

theorem diff_at : val_main_v33 (F := Ideal) x0 x1 x2 x3 x4 x5 (ix2 i j) = hat (line x0 x1 x2 i) j * x4 (ix1 j) + x5 (ix1 j) - x3 (ix2 i j) := by
  pointwise [val_main_v33, val_main_v32, val_main_v29, val_main_v28, val_main_v27, val_main_v31, val_main_v30]
  simp only [hat_at]

/-- The gradient of the output. -/
abbrev dy : EReal := val_main_v47 (F := Ideal) x0 x1 x2 x3 x4 x5 (ix2 i j)

theorem scale_eq : Ideal.div (Ideal.ofBits .f32 0x3F000000#32) width * Ideal.ofBits .f32 0x40000000#32 = Ideal.ofBits .f32 0x3A800000#32 := by
  rw [width_eq, two_eq, show Ideal.ofBits .f32 0x3F000000#32 = ((1 / 2 : ℝ) : EReal) by simp [Ideal.ofBits, Ideal.ieee, -EReal.coe_mul]; norm_num,
    show Ideal.ofBits .f32 0x3A800000#32 = ((1 / 1024 : ℝ) : EReal) by simp [Ideal.ofBits, Ideal.ieee, -EReal.coe_mul]; norm_num,
    div_eq (by norm_num), ← EReal.coe_mul]
  norm_num

theorem dy_at : dy x0 x1 x2 x3 x4 x5 i j = val_main_v33 (F := Ideal) x0 x1 x2 x3 x4 x5 (ix2 i j) * Ideal.ofBits .f32 0x3A800000#32 := by
  pointwise [dy, val_main_v47, val_main_v46, val_main_v45, val_main_v43, val_main_v42, val_main_v44, val_main_cst_12, val_main_cst_13, val_main_cst_14, val_main_v36, val_main_v35, val_main_cst_7]
  rw [← mul_assoc, scale_eq, mul_comm]

/-- The gradient of the normalised row. -/
abbrev dxh : EReal := dy x0 x1 x2 x3 x4 x5 i j * x4 (ix1 j)

theorem dxh_at : val_main_v55 (F := Ideal) x0 x1 x2 x3 x4 x5 (ix2 i j) = dxh x0 x1 x2 x3 x4 x5 i j := by
  pointwise [val_main_v55, val_main_v54, val_main_v27]

theorem direct_at : val_main_v61 (F := Ideal) x0 x1 x2 x3 x4 x5 (ix2 i j) = dxh x0 x1 x2 x3 x4 x5 i j * rstd (line x0 x1 x2 i) := by
  pointwise [val_main_v61, val_main_v60]
  exact congrArg₂ (fun x y : EReal => x * y) (dxh_at ..) (rstd_at ..)

theorem slope_at : val_main_v24 (F := Ideal) x0 x1 x2 (ix2 i z) = Ideal.ofBits .f32 0xBF000000#32 * Ideal.div (rstd (line x0 x1 x2 i)) (spread (line x0 x1 x2 i)) := by
  pointwise [val_main_v24, val_main_v22, val_main_v23, val_main_cst_6]
  exact congrArg (_ * ·) (congrArg₂ Ideal.div (rstd_at ..) (spread_at ..))

theorem inner_at : val_main_v59 (F := Ideal) x0 x1 x2 x3 x4 x5 (ix2 i z) = ∑ k, centred (line x0 x1 x2 i) k * dxh x0 x1 x2 x3 x4 x5 i k := by
  pointwise [val_main_v59, val_main_v58, val_main_v57, val_main_cst_19]
  refine Finset.sum_congr rfl fun k _ => congrArg₂ (fun x y : EReal => x * y) (centred_at' ..) (dxh_at ..)

theorem byVar_at : val_main_v70 (F := Ideal) x0 x1 x2 x3 x4 x5 (ix2 i j) = byVar (line x0 x1 x2 i) (dxh x0 x1 x2 x3 x4 x5 i) j := by
  pointwise [val_main_v70, val_main_v69, val_main_v68, val_main_v67, val_main_v66, val_main_v62, val_main_v12, val_main_v11, val_main_cst_2, val_main_cst_21, val_main_cst_22]
  simp only [centred_at, inner_at, slope_at]
  exact congrArg (· * _) (Fintype.sum_subsingleton _ (0 : Fin 1))

theorem grad_at : val_main_v80 (F := Ideal) x0 x1 x2 x3 x4 x5 (ix2 i j) = grad (line x0 x1 x2 i) (dxh x0 x1 x2 x3 x4 x5 i) j := by
  pointwise [val_main_v80, val_main_v79, val_main_v78, val_main_v77, val_main_v76, val_main_v75, val_main_v74, val_main_v65, val_main_v64, val_main_v63, val_main_v73, val_main_v72, val_main_v71, val_main_cst_20, val_main_cst_23, val_main_cst_24, val_main_cst_25]
  simp only [direct_at, byVar_at]
  exact congrArg (_ + ·) (Fintype.sum_subsingleton _ (0 : Fin 1))

/-- The loss, as the sum over rows of each row's mean square. -/
theorem loss_at : val_main_v41 (F := Ideal) x0 x1 x2 x3 x4 x5 ix0
    = Ideal.ofBits .f32 0x3F000000#32 * ∑ i : Fin 2048, Ideal.div (∑ k : Fin 1024, val_main_v33 (F := Ideal) x0 x1 x2 x3 x4 x5 (ix2 i k) * val_main_v33 (F := Ideal) x0 x1 x2 x3 x4 x5 (ix2 i k)) width := by
  pointwise [val_main_v41, val_main_v40, val_main_v39, val_main_v38, val_main_v37, val_main_v34, val_main_cst_8, val_main_cst_9, val_main_cst_10, val_main_cst_11]

theorem shift_at : val_main_v84 (F := Ideal) x0 x1 x2 x3 x4 x5 (ix2 z j) = ∑ i : Fin 2048, dy x0 x1 x2 x3 x4 x5 i j := by
  pointwise [val_main_v84, val_main_v50, val_main_v49, val_main_v48, val_main_cst_15, val_main_cst_16]
  exact Fintype.sum_subsingleton _ (0 : Fin 1)

theorem gain_at : val_main_v83 (F := Ideal) x0 x1 x2 x3 x4 x5 (ix2 z j) = ∑ i : Fin 2048, hat (line x0 x1 x2 i) j * dy x0 x1 x2 x3 x4 x5 i j := by
  pointwise [val_main_v83, val_main_v56, val_main_v53, val_main_v52, val_main_v51, val_main_cst_17, val_main_cst_18]
  simp only [hat_at]
  exact Fintype.sum_subsingleton _ (0 : Fin 1)

end Cert.DownGradIdeal.Rows
-- ==== Proof.DownEntry.lean ====
module

public import proofs.«01_k».proof.Proof.DownRows
public import proofs.«01_k».proof.Proof.DownGrads
public import Idealize.ShloMosaic.Lib.Pipeline.ValueKit
public import Idealize.ShloMosaic.Lib.Pointwise
public import Idealize.ShloMosaic.Lib.Claim

/-!
The arrays the feed-forward kernel reads, block by block.
-/

@[expose] public section

set_option maxRecDepth 16384

noncomputable section

open Idealize.ShloMosaic Idealize.ShloMosaic.TcCoe Idealize.SL.Sem

namespace Cert.DownIdeal.Value
open Cert.DownIdeal Cert.DownIdeal.Gen Cert.LayerNorm Cert.Reals

variable (m : (ℓ : Loc nD τ sig) → Buf (Elt Ideal) ℓ)

theorem act_entry (c : Dev nD) : V m c main_v0 = (m ((c : Thread nD τ).loc main_arg0)) := by
  entry_read
  rfl

theorem wd_entry (c : Dev nD) : V m c main_v1 = (m ((c : Thread nD τ).loc main_arg1)) := by
  entry_read
  rfl

theorem gain_entry (c : Dev nD) (z : Fin 1) (j : Fin 1024) : V m c main_v2 (ix2 z j) = (m ((c : Thread nD τ).loc main_arg4)) (ix1 j) := by
  have : V m c main_v2 = Cert.DownGradIdeal.Read.val_main_v27 (F := Ideal) (m ((c : Thread nD τ).loc main_arg4)) := by
    entry_read
    rfl
  rw [this]
  pointwise [Cert.DownGradIdeal.Read.val_main_v27]

theorem shift_entry (c : Dev nD) (z : Fin 1) (j : Fin 1024) : V m c main_v3 (ix2 z j) = (m ((c : Thread nD τ).loc main_arg5)) (ix1 j) := by
  have : V m c main_v3 = Cert.DownGradIdeal.Read.val_main_v30 (F := Ideal) (m ((c : Thread nD τ).loc main_arg5)) := by
    entry_read
    rfl
  rw [this]
  pointwise [Cert.DownGradIdeal.Read.val_main_v30]

/-- The row of the whole array at row `r` of block `t`. -/
abbrev row (t : Fin cfg0.N) (r : Fin 256) : Fin 2048 := ⟨t.val * 256 + r.val, by have := t.isLt.trans_le (le_of_eq N_0); omega⟩

theorem idx : ∀ t : Fin cfg0.N, win0_0.index t = ![t.val, 0] ∧ win0_1.index t = ![0, 0] ∧ win0_2.index t = ![t.val, 0] ∧ win0_3.index t = ![t.val, 0] ∧ win0_4.index t = ![0, 0] ∧ win0_5.index t = ![0, 0]
    ∧ win0_6.index t = ![t.val, 0] ∧ win0_7.index t = ![t.val, 0] := (by decide +kernel : ∀ t : Fin grid0.N, _)

variable (c : Dev nD) (t : Fin cfg0.N) (r : Fin 256) (j : Fin 1024)

theorem act_block (e : Fin 2816) : iblk m c 0 t (ix2 r e) = (m ((c : Thread nD τ).loc main_arg0)) (ix2 (row t r) e) := by
  rw [← act_entry m c]
  unfold iblk; blk_simp; generalize V m c main_v0 = y; refine congrArg y ?_; blk_ext [row, idx t]

theorem wd_block (e : Fin 2816) : iblk m c 1 t (ix2 e j) = (m ((c : Thread nD τ).loc main_arg1)) (ix2 e j) := by
  rw [← wd_entry m c]
  unfold iblk; blk_simp; generalize V m c main_v1 = y; refine congrArg y ?_; blk_ext [idx t]

theorem h_block : iblk m c 2 t (ix2 r j) = (m ((c : Thread nD τ).loc main_arg2)) (ix2 (row t r) j) := by
  blk_point [iblk, V_main_arg2, row, idx t]

theorem target_block : iblk m c 3 t (ix2 r j) = (m ((c : Thread nD τ).loc main_arg3)) (ix2 (row t r) j) := by
  blk_point [iblk, V_main_arg3, row, idx t]

theorem gain_block : iblk m c 4 t (ix2 0 j) = (m ((c : Thread nD τ).loc main_arg4)) (ix1 j) := by
  rw [← gain_entry m c 0 j]
  unfold iblk; blk_simp; generalize V m c main_v2 = y; refine congrArg y ?_; blk_ext [idx t]

theorem shift_block : iblk m c 5 t (ix2 0 j) = (m ((c : Thread nD τ).loc main_arg5)) (ix1 j) := by
  rw [← shift_entry m c 0 j]
  unfold iblk; blk_simp; generalize V m c main_v3 = y; refine congrArg y ?_; blk_ext [idx t]

end Cert.DownIdeal.Value
-- ==== Proof.DownFinite.lean ====
module

public import proofs.«01_k».proof.Proof.Reals
public import proofs.«01_k».proof.Proof.LayerNorm
public import proofs.«01_k».proof.Proof.Gen.Pre_down_finite
public import proofs.«01_k».proof.Proof.Gen.DownIdeal.Value
public import Idealize.ShloMosaic.Lib.Pipeline.ValueKit
public import Idealize.ShloMosaic.Lib.Pointwise
public import Idealize.ShloMosaic.Lib.Claim

/-!
What the precondition of the feed-forward claim gives.
-/

@[expose] public section

set_option maxRecDepth 16384

noncomputable section

open Idealize.ShloMosaic Idealize.ShloMosaic.TcCoe Idealize.SL.Sem

namespace Cert.DownIdeal.Value
open Cert.DownIdeal Cert.DownIdeal.Gen Cert.LayerNorm Cert.Reals

/-- Finite arguments are real numbers. -/
theorem finite_args (x0 : (⟨S2048x2816, .f32⟩ : BufTy).Contents (Elt Ideal)) (x1 : (⟨S2816x1024, .f32⟩ : BufTy).Contents (Elt Ideal)) (x2 x3 : (⟨S2048x1024, .f32⟩ : BufTy).Contents (Elt Ideal)) (x4 x5 : (⟨S1024, .f32⟩ : BufTy).Contents (Elt Ideal))
    (h : Cert.Pre_down_finite.fn (F := Ideal) x0 x1 x2 x3 x4 x5 = fun _ => 1#1) :
    (∀ i, IsReal (x3 i)) ∧ (∀ i, IsReal (x4 i)) ∧ (∀ i, IsReal (x5 i)) := by
  have both (a b : BitVec 1) : IntOp.andi a b = 1#1 → a = 1#1 ∧ b = 1#1 := by revert a b; decide
  have e := congrFun h (Shape.Idx.first (by decide))
  unfold Cert.Pre_down_finite.fn at e
  obtain ⟨e, e5⟩ := both _ _ e
  obtain ⟨e3, e4⟩ := both _ _ e
  exact ⟨of_all x3 _ _ (fun _ => rfl) _ _ _ e3, of_all x4 _ _ (fun _ => rfl) _ _ _ e4, of_all x5 _ _ (fun _ => rfl) _ _ _ e5⟩

end Cert.DownIdeal.Value
-- ==== Proof.DownFinal.lean ====
module

public import proofs.«01_k».proof.Proof.DownEntry
public import proofs.«01_k».proof.Proof.DownFinite
public import Idealize.ShloMosaic.Lib.Pipeline.ReadBack
public import Idealize.ShloMosaic.Lib.Pipeline.ValueKit
public import Idealize.ShloMosaic.Lib.Pointwise
public import Idealize.ShloMosaic.Lib.Claim

/-!
The five results of the feed-forward kernel are those of its reference.
-/

@[expose] public section

set_option maxRecDepth 16384

noncomputable section

open Idealize.ShloMosaic Idealize.ShloMosaic.TcCoe Idealize.SL.Sem

namespace Cert.DownIdeal.Value
open Cert.DownGradIdeal.Read Cert.DownIdeal Cert.DownIdeal.Gen Cert.LayerNorm Cert.Reals

variable (m : (ℓ : Loc nD τ sig) → Buf (Elt Ideal) ℓ) (c : Dev nD) (t : Fin cfg0.N) (r : Fin 256) (j : Fin 1024)

/-- Row `i` of the residual. -/
abbrev res (i : Fin 2048) : Fin 1024 → EReal := Cert.DownGradIdeal.Rows.line (m ((c : Thread nD τ).loc main_arg0)) (m ((c : Thread nD τ).loc main_arg1)) (m ((c : Thread nD τ).loc main_arg2)) i

/-- The output's difference from the target. -/
abbrev gap : Fin 2048 → Fin 1024 → EReal := fun i j => val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 i j)

/-- The output's gradient. -/
abbrev slope : Fin 2048 → Fin 1024 → EReal := fun i j => Cert.DownGradIdeal.Rows.dy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i j

theorem line_eq : line (iblk m c 2 t) (iblk m c 0 t) (iblk m c 1 t) r = res m c (row t r) := by
  funext k
  rw [line, res, Cert.DownGradIdeal.Rows.line_apply, h_block]
  exact congrArg (_ + ·) (Finset.sum_congr rfl fun e _ => congrArg₂ (fun x y : EReal => x * y) (act_block m c t r e) (wd_block m c t k e))

theorem diff_eq : diff (iblk m c 2 t) (iblk m c 0 t) (iblk m c 1 t) (iblk m c 4 t) (iblk m c 5 t) (iblk m c 3 t) r j = gap m c (row t r) j := by
  rw [diff, line_eq, gap, Cert.DownGradIdeal.Rows.diff_at, gain_block, shift_block, target_block]

theorem dy_eq : dy (iblk m c 2 t) (iblk m c 0 t) (iblk m c 1 t) (iblk m c 4 t) (iblk m c 5 t) (iblk m c 3 t) r j = slope m c (row t r) j := by
  rw [dy, diff_eq, slope, Cert.DownGradIdeal.Rows.dy_at]

section
variable (hpre : Cert.Pre_down_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = fun _ => 1#1)
include hpre

theorem gap_real (i : Fin 2048) (k : Fin 1024) : IsReal (gap m c i k) := by
  obtain ⟨f3, f4, f5⟩ := finite_args _ _ _ _ _ _ hpre
  rw [gap, Cert.DownGradIdeal.Rows.diff_at]
  exact (((hat_real _ k).mul (f4 _)).add (f5 _)).sub (f3 _)

theorem grad_eq_back (i : Fin 2048) : val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 i j) = back (res m c i) (fun k => slope m c i k * (m ((c : Thread nD τ).loc main_arg4)) (ix1 k)) j := by
  obtain ⟨f3, f4, f5⟩ := finite_args _ _ _ _ _ _ hpre
  have hd (k) : IsReal (slope m c i k * (m ((c : Thread nD τ).loc main_arg4)) (ix1 k)) := by
    rw [slope, Cert.DownGradIdeal.Rows.dy_at]
    exact ((gap_real m c hpre i k).mul ⟨_, rfl⟩).mul (f4 _)
  rw [Cert.DownGradIdeal.Rows.grad_at]
  exact grad_eq _ _ (fun _ => hd) j

theorem store_eq : k0_pay1 (F := Ideal) (k0_pay7 (F := Ideal) (iblk m c 2 t) (iblk m c 0 t) (iblk m c 1 t)) (k0_pay8 (F := Ideal) (iblk m c 2 t) (iblk m c 0 t) (iblk m c 1 t))
      (k0_pay15 (F := Ideal) (k0_pay9 (F := Ideal) (iblk m c 2 t) (iblk m c 0 t) (iblk m c 1 t) (iblk m c 4 t) (iblk m c 5 t)) (iblk m c 3 t) (iblk m c 4 t)) (k0_pay16 (F := Ideal) (k0_pay9 (F := Ideal) (iblk m c 2 t) (iblk m c 0 t) (iblk m c 1 t) (iblk m c 4 t) (iblk m c 5 t)) (iblk m c 3 t) (iblk m c 4 t))
      (k0_pay17 (F := Ideal) (k0_pay8 (F := Ideal) (iblk m c 2 t) (iblk m c 0 t) (iblk m c 1 t)) (k0_pay9 (F := Ideal) (iblk m c 2 t) (iblk m c 0 t) (iblk m c 1 t) (iblk m c 4 t) (iblk m c 5 t)) (iblk m c 3 t) (iblk m c 4 t)) (ix2 r j)
    = val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (row t r) j) := by
  rw [back_at, grad_eq_back m c j hpre, line_eq]
  refine congrArg (fun d => back _ d j) (funext fun k => ?_)
  rw [dy_eq, gain_block]

theorem dr_final : (dats m 0 c).arrAt 6 (cfgs 0).N = val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  have place : (win0_6.blk t).view.emb y = ix2 (row t (y 0)) (y 1) := by blk_ext [row, idx t]
  blk_simp
  rw [after0_6]
  by_cases hA : t.val % 8 = 0
  on_goal 1 => rw [outsAt0_A m c t hA]
  on_goal 2 => rw [outsAt0_B m c t hA]
  all_goals frame_out
  all_goals exact ((congrArg _ (eq_ix2 y)).trans (store_eq m c t (y 0) (y 1) hpre)).trans (congrArg _ place.symm)

theorem drb_final : (dats m 0 c).arrAt 7 (cfgs 0).N = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  have place : (win0_7.blk t).view.emb y = ix2 (row t (y 0)) (y 1) := by blk_ext [row, idx t]
  blk_simp
  rw [after0_7]
  by_cases hA : t.val % 8 = 0
  on_goal 1 => rw [outsAt0_A m c t hA]
  on_goal 2 => rw [outsAt0_B m c t hA]
  all_goals frame_out
  all_goals pointwise [k0_pay2, val_main_v81]
  all_goals exact ((congrArg _ (eq_ix2 y)).trans (store_eq m c t (y 0) (y 1) hpre)).trans (congrArg _ place.symm)

end

/-- What block `t` adds to the gradient of the gain. -/
abbrev dgPart (j : S1x1024.Idx) : EReal := ∑ r : Fin 256, slope m c (row t r) (j 1) * hat (res m c (row t r)) (j 1)

theorem dg_add (acc : Vec Ideal S1x1024 .f32) (j : S1x1024.Idx) : k0_pay13 (F := Ideal) (k0_pay8 (F := Ideal) (iblk m c 2 t) (iblk m c 0 t) (iblk m c 1 t)) (k0_pay9 (F := Ideal) (iblk m c 2 t) (iblk m c 0 t) (iblk m c 1 t) (iblk m c 4 t) (iblk m c 5 t)) (iblk m c 3 t) acc j = acc j + dgPart m c t j := by
  rw [gain_at]
  exact congrArg (_ + ·) (Finset.sum_congr rfl fun r _ => congrArg₂ (fun x y : EReal => x * y) (dy_eq m c t r (j 1)) (congrArg (hat · (j 1)) (line_eq m c t r)))

theorem dg_first (h : t.val % 8 = 0) (j : S1x1024.Idx) : (outsAt0 m c t.val t.isLt).2.2.2.1 j = 0 + dgPart m c t j := by
  rw [outsAt0_A m c t h]
  frame_open
  simp (disch := decide) only [↓ View.readCov_skip, ↓ View.readCov_cons_toLoadRect, ↓ View.readCov_fill]
  frame_out
  refine (dg_add m c t _ j).trans (congrArg (· + _) ?_)
  pointwise [k0_pay3, k0_pay4, k0_pay5]

theorem dg_next (h : ¬ t.val % 8 = 0) (j : S1x1024.Idx) :
    (outsAt0 m c t.val t.isLt).2.2.2.1 j = (outsAt0 m c (t.val - 1) (Nat.lt_of_le_of_lt (Nat.sub_le _ _) t.isLt)).2.2.2.1 j + dgPart m c t j := by
  rw [outsAt0_B m c t h]; frame_out
  exact dg_add m c t _ j

theorem dg_total (j : S1x1024.Idx) : (outsAt0 m c t0_7.val t0_7.isLt).2.2.2.1 j = ∑ p : Fin 8, dgPart m c p j :=
  (Pipeline.eq_sum_fin_of_reset_step_apply_last (fun n h => (outsAt0 m c n h).2.2.2.1) 8 (fun _ => 0) (fun p j => dgPart m c p j)
    (fun t h j => dg_first m c t h j) (fun t h j => dg_next m c t h j) (le_of_eq N_0) t0_7 rfl j).trans (zero_add _)

theorem dg_final : (dats m 0 c).arrAt 9 (cfgs 0).N = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 9 t0_7 (by decide +kernel) _ fun j => ?_
  blk_simp
  rw [after0_9]
  refine (dg_total m c j).trans ?_
  refine Eq.trans ?_ ((congrArg _ (eq_ix2 j)).trans (Cert.DownGradIdeal.Rows.gain_at ..)).symm
  exact Fin.sum_mul_add_congr (S := 8) (n := 256) (L := 2048) (F := fun p r => slope m c (row p r) (j 1) * hat (res m c (row p r)) (j 1))
    (f := fun i => hat (res m c i) (j 1) * slope m c i (j 1)) fun p r hl => mul_comm _ _

/-- What block `t` adds to the gradient of the shift. -/
abbrev dbPart (j : S1x1024.Idx) : EReal := ∑ r : Fin 256, slope m c (row t r) (j 1)

theorem db_add (acc : Vec Ideal S1x1024 .f32) (j : S1x1024.Idx) : k0_pay14 (F := Ideal) (k0_pay9 (F := Ideal) (iblk m c 2 t) (iblk m c 0 t) (iblk m c 1 t) (iblk m c 4 t) (iblk m c 5 t)) (iblk m c 3 t) acc j = acc j + dbPart m c t j := by
  rw [shift_at]
  exact congrArg (_ + ·) (Finset.sum_congr rfl fun r _ => dy_eq m c t r (j 1))

theorem db_first (h : t.val % 8 = 0) (j : S1x1024.Idx) : (outsAt0 m c t.val t.isLt).2.2.2.2 j = 0 + dbPart m c t j := by
  rw [outsAt0_A m c t h]
  frame_open
  simp (disch := decide) only [↓ View.readCov_skip, ↓ View.readCov_cons_toLoadRect, ↓ View.readCov_fill]
  frame_out
  refine (db_add m c t _ j).trans (congrArg (· + _) ?_)
  pointwise [k0_pay3, k0_pay4, k0_pay5]

theorem db_next (h : ¬ t.val % 8 = 0) (j : S1x1024.Idx) :
    (outsAt0 m c t.val t.isLt).2.2.2.2 j = (outsAt0 m c (t.val - 1) (Nat.lt_of_le_of_lt (Nat.sub_le _ _) t.isLt)).2.2.2.2 j + dbPart m c t j := by
  rw [outsAt0_B m c t h]; frame_out
  exact db_add m c t _ j

theorem db_total (j : S1x1024.Idx) : (outsAt0 m c t0_7.val t0_7.isLt).2.2.2.2 j = ∑ p : Fin 8, dbPart m c p j :=
  (Pipeline.eq_sum_fin_of_reset_step_apply_last (fun n h => (outsAt0 m c n h).2.2.2.2) 8 (fun _ => 0) (fun p j => dbPart m c p j)
    (fun t h j => db_first m c t h j) (fun t h j => db_next m c t h j) (le_of_eq N_0) t0_7 rfl j).trans (zero_add _)

theorem db_final : (dats m 0 c).arrAt 10 (cfgs 0).N = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 10 t0_7 (by decide +kernel) _ fun j => ?_
  blk_simp
  rw [after0_10]
  refine (db_total m c j).trans ?_
  refine Eq.trans ?_ ((congrArg _ (eq_ix2 j)).trans (Cert.DownGradIdeal.Rows.shift_at ..)).symm
  exact Fin.sum_mul_add_congr (S := 8) (n := 256) (L := 2048) (F := fun p r => slope m c (row p r) (j 1))
    (f := fun i => slope m c i (j 1)) fun p r hl => rfl

/-- Half the mean squares of all rows, summed, are the blocks' sums of squares by the product of the factors. -/
theorem loss_sum (f : Fin 2048 → Fin 1024 → EReal) (hf : ∀ i k, IsReal (f i k)) {F : Fin 8 → Fin 256 → Fin 1024 → EReal}
    (hF : ∀ (p : Fin 8) (r : Fin 256), F p r = f ⟨p.val * 256 + r.val, by omega⟩) {w h : EReal} (ew : w = ((1 / 2048 : ℝ) : EReal)) (eh : h = ((1 / 2 : ℝ) : EReal)) :
    ∑ p : Fin 8, (∑ r : Fin 256, ∑ k : Fin 1024, F p r k * F p r k) * w = h * ∑ i : Fin 2048, Ideal.div (∑ k : Fin 1024, f i k * f i k) width := by
  have step (p : Fin 8) : (∑ r : Fin 256, ∑ k : Fin 1024, F p r k * F p r k) * w
      = ∑ r : Fin 256, ((1 / 2048 * ∑ k : Fin 1024, (f ⟨p.val * 256 + r.val, by omega⟩ k).toReal * (f ⟨p.val * 256 + r.val, by omega⟩ k).toReal : ℝ) : EReal) := by
    rw [← coe_sum, ← Finset.mul_sum, mul_comm, EReal.coe_mul, ← ew]
    refine congrArg (w * ·) ?_
    rw [coe_sum]
    refine Finset.sum_congr rfl fun r _ => ?_
    rw [coe_sum]
    refine Finset.sum_congr rfl fun k _ => ?_
    rw [hF, EReal.coe_mul, ← (hf _ k).eq]
  have other (i : Fin 2048) : Ideal.div (∑ k : Fin 1024, f i k * f i k) width = (((∑ k : Fin 1024, (f i k).toReal * (f i k).toReal) / 1024 : ℝ) : EReal) := by
    rw [← div_eq (by norm_num), ← width_eq, coe_sum]
    refine congrArg (Ideal.div · _) (Finset.sum_congr rfl fun k _ => ?_)
    rw [EReal.coe_mul, ← (hf _ k).eq]
  simp only [step, other]
  refine (Fin.sum_mul_add_congr (S := 8) (n := 256) (L := 2048)
    (f := fun i => ((1 / 2048 * ∑ k : Fin 1024, (f i k).toReal * (f i k).toReal : ℝ) : EReal)) fun p r hl => rfl).trans ?_
  rw [eh, ← coe_sum, ← coe_sum, ← EReal.coe_mul, Finset.mul_sum]
  refine congrArg Real.toEReal (Finset.sum_congr rfl fun i _ => by ring)

/-- What block `t` adds to the loss. -/
abbrev lossPart (j : S8x128.Idx) : EReal := (∑ r : Fin 256, ∑ k : Fin 1024, gap m c (row t r) k * gap m c (row t r) k) * Ideal.ofBits .f32 0x3A000000#32

theorem loss_add (acc : Vec Ideal S8x128 .f32) (j : S8x128.Idx) : k0_pay11 (F := Ideal) (k0_pay9 (F := Ideal) (iblk m c 2 t) (iblk m c 0 t) (iblk m c 1 t) (iblk m c 4 t) (iblk m c 5 t)) (iblk m c 3 t) acc j = acc j + lossPart m c t j := by
  rw [loss_at]
  exact congrArg (_ + ·) (congrArg (· * _) (Finset.sum_congr rfl fun r _ => Finset.sum_congr rfl fun k _ => congrArg₂ (fun x y : EReal => x * y) (diff_eq m c t r k) (diff_eq m c t r k)))

theorem loss_first (h : t.val % 8 = 0) (j : S8x128.Idx) : (outsAt0 m c t.val t.isLt).2.2.1 j = 0 + lossPart m c t j := by
  rw [outsAt0_A m c t h]
  frame_open
  simp (disch := decide) only [↓ View.readCov_skip, ↓ View.readCov_cons_toLoadRect, ↓ View.readCov_fill]
  frame_out
  refine (loss_add m c t _ j).trans (congrArg (· + _) ?_)
  pointwise [k0_pay3, k0_pay4, k0_pay5]

theorem loss_next (h : ¬ t.val % 8 = 0) (j : S8x128.Idx) :
    (outsAt0 m c t.val t.isLt).2.2.1 j = (outsAt0 m c (t.val - 1) (Nat.lt_of_le_of_lt (Nat.sub_le _ _) t.isLt)).2.2.1 j + lossPart m c t j := by
  rw [outsAt0_B m c t h]; frame_out
  exact loss_add m c t _ j

theorem loss_total (j : S8x128.Idx) : (outsAt0 m c t0_7.val t0_7.isLt).2.2.1 j = ∑ p : Fin 8, lossPart m c p j :=
  (Pipeline.eq_sum_fin_of_reset_step_apply_last (fun n h => (outsAt0 m c n h).2.2.1) 8 (fun _ => 0) (fun p j => lossPart m c p j)
    (fun t h j => loss_first m c t h j) (fun t h j => loss_next m c t h j) (le_of_eq N_0) t0_7 rfl j).trans (zero_add _)

theorem loss_final (hpre : Cert.Pre_down_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = fun _ => 1#1) : (dats m 0 c).arrAt 8 (cfgs 0).N = val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 8 t0_7 (by decide +kernel) _ fun j => ?_
  blk_simp
  rw [after0_8]
  refine (loss_total m c j).trans ?_
  have e : val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ix0 := by
    pointwise [val_main_v82]
  rw [e, Cert.DownGradIdeal.Rows.loss_at]
  have ew : Ideal.ofBits .f32 0x3A000000#32 = ((1 / 2048 : ℝ) : EReal) := by
    simp [Ideal.ofBits, Ideal.ieee, -EReal.coe_mul]; norm_num
  have eh : Ideal.ofBits .f32 0x3F000000#32 = ((1 / 2 : ℝ) : EReal) := by
    simp [Ideal.ofBits, Ideal.ieee, -EReal.coe_mul]; norm_num
  exact loss_sum _ (gap_real m c hpre) (F := fun p r k => gap m c (row p r) k) (fun p r => rfl) ew eh

end Cert.DownIdeal.Value
-- ==== Proof.DownClaim.lean ====
module

public import proofs.«01_k».proof.Proof.DownFrames
public import proofs.«01_k».proof.Proof.DownFinal
public import proofs.«01_k».proof.Proof.Gen.Pre_down_finite

@[expose] public section

set_option maxRecDepth 16384

noncomputable section

open Idealize.ShloMosaic Idealize.SL.Sem

namespace Cert.Proof.Down

theorem frameIdealPre : Cert.quiescent_DownIdeal_pre_down_finite := fun m ρ _ => Cert.DownIdeal.Gen.frame m ρ

theorem frameReferencePre : Cert.quiescent_DownGradIdeal_pre_down_finite := fun m ρ _ => frameReference m ρ trivial

theorem algebraic : Cert.algebraic_DownIdeal_DownGradIdeal_pre_down_finite := by
  intro m ρ m' ρ' hpre hagree
  refine ⟨_, _, _, _, _, Cert.DownIdeal.Value.run_blocks m ρ, ?_⟩
  refine (θ_run Cert.DownGradIdeal.defs _ _).mono (fun _ h c => ?_) (Cert.DownGradIdeal.Value.run (F := Ideal) m' ρ')
  obtain ⟨a0, a1, a2, a3, a4, a5⟩ := hagree c
  obtain ⟨h0, h1, h2, h3, h4, hargs⟩ := h c
  refine ⟨h0.trans ?_, h1.trans ?_, h2.trans ?_, h3.trans ?_, h4.trans ?_, hargs⟩
  · refine (Cert.DownGradIdeal.Read.val_main_v80_eq ..).trans ?_
    simp only [a0, a1, a2, a3, a4, a5]
    exact (Cert.DownIdeal.Value.dr_final m c (hpre c)).symm
  · refine (Cert.DownGradIdeal.Read.val_main_v81_eq ..).trans ?_
    simp only [a0, a1, a2, a3, a4, a5]
    exact (Cert.DownIdeal.Value.drb_final m c (hpre c)).symm
  · refine (Cert.DownGradIdeal.Read.val_main_v82_eq ..).trans ?_
    simp only [a0, a1, a2, a3, a4, a5]
    exact (Cert.DownIdeal.Value.loss_final m c (hpre c)).symm
  · refine (Cert.DownGradIdeal.Read.val_main_v83_eq ..).trans ?_
    simp only [a0, a1, a2, a3, a4, a5]
    exact (Cert.DownIdeal.Value.dg_final m c).symm
  · refine (Cert.DownGradIdeal.Read.val_main_v84_eq ..).trans ?_
    simp only [a0, a1, a2, a3, a4, a5]
    exact (Cert.DownIdeal.Value.db_final m c).symm

end Cert.Proof.Down

end

end
-- ==== Proof.NormFrames.lean ====
module

public import proofs.«01_k».proof.Defs
public import proofs.«01_k».proof.Proof.Gen.Norm.Frame
public import proofs.«01_k».proof.Proof.Gen.NormIdeal.Frame
public import proofs.«01_k».proof.Proof.Gen.NormGradIdeal.Run
public import Idealize.ShloMosaic.Lib.Quiescent

@[expose] public section

set_option maxRecDepth 16384

noncomputable section

open Idealize.ShloMosaic Idealize.SL.Sem

namespace Cert.Proof.Norm

theorem frame : Cert.quiescent_Norm := fun m ρ _ => Cert.Norm.Gen.frame m ρ

theorem frameIdeal : Cert.quiescent_NormIdeal := fun m ρ _ => Cert.NormIdeal.Gen.frame m ρ

theorem frameReference : Cert.quiescent_NormGradIdeal := fun m ρ _ =>
  (θ_run Cert.NormGradIdeal.defs _ _).mono (fun r h => ⟨fun c => (h c).2.2.2.2, Idealize.ShloMosaic.sem_eq_zero_of_no_sems (by decide) r.2⟩) (Cert.NormGradIdeal.Value.run (F := Ideal) m ρ)

theorem preserves : Cert.preserves_Norm_NormIdeal :=
  trivial

end Cert.Proof.Norm

end

end
-- ==== Proof.NormRows.lean ====
module

public import proofs.«01_k».proof.Proof.Gen.NormIdeal.Value
public import proofs.«01_k».proof.Proof.LayerNorm
public import Idealize.ShloMosaic.Lib.Pipeline.ValueKit
public import Idealize.ShloMosaic.Lib.Pointwise
public import Idealize.ShloMosaic.Lib.Claim

/-!
What a block of the first layer norm's gradient kernel computes, one row at a time.
-/

@[expose] public section

set_option maxRecDepth 16384

noncomputable section

open Idealize.ShloMosaic Idealize.ShloMosaic.TcCoe Idealize.SL.Sem

namespace Cert.NormIdeal.Value
open Cert.NormIdeal Cert.NormIdeal.Gen Cert.LayerNorm Cert.Reals

variable (v3 : Vec Ideal S256x1024 .f32) (v6 : Vec Ideal S256x2816 .bf16) (v8 : Vec Ideal S2816x1024 .bf16) (v12 : Vec Ideal S256x2816 .bf16) (v14 : Vec Ideal S2816x1024 .bf16)
variable (x : Vec Ideal S256x1024 .f32) (s : Vec Ideal S256x1 .f32) (g : Vec Ideal S1x1024 .f32) (r : Fin 256) (j : Fin 1024)

/-- The gradient of the normalised output of row `r` of the block. -/
abbrev dh (k : Fin 1024) : EReal := Ideal.ofBits .f32 0x3F9837F0#32 * v3 (ix2 r k) + ∑ e : Fin 2816, v6 (ix2 r e) * v8 (ix2 e k) + ∑ e : Fin 2816, v12 (ix2 r e) * v14 (ix2 e k)

theorem dh_at : k0_pay5 (F := Ideal) v3 v6 v8 v12 v14 (ix2 r j) = dh v3 v6 v8 v12 v14 r j := by
  pointwise [k0_pay5, dh]

/-- The gradient of the residual that a block stores. -/
theorem back_at : k0_pay1 (F := Ideal) (k0_pay5 (F := Ideal) v3 v6 v8 v12 v14) (k0_pay6 (F := Ideal) x) s g (ix2 r j)
    = s (ix2 r 0) * ((dh v3 v6 v8 v12 v14 r j * g (ix2 0 j) - mean fun k => dh v3 v6 v8 v12 v14 r k * g (ix2 0 k))
      - x (ix2 r j) * mean fun k => dh v3 v6 v8 v12 v14 r k * g (ix2 0 k) * x (ix2 r k)) := by
  pointwise [k0_pay1, k0_pay6, mean]
  simp only [dh_at]

/-- What a block adds to the gradient of the gain. -/
theorem gain_at (acc : Vec Ideal S1x1024 .f32) (i : S1x1024.Idx) : k0_pay7 (F := Ideal) v3 v6 v8 v12 v14 x acc i
    = acc i + ∑ r : Fin 256, dh v3 v6 v8 v12 v14 r (i 1) * x (ix2 r (i 1)) := by
  idx_vars i
  pointwise [k0_pay7, k0_pay6]
  simp only [dh_at]

/-- What a block adds to the gradient of the shift. -/
theorem shift_at (acc : Vec Ideal S1x1024 .f32) (i : S1x1024.Idx) : k0_pay8 (F := Ideal) v3 v6 v8 v12 v14 acc i
    = acc i + ∑ r : Fin 256, dh v3 v6 v8 v12 v14 r (i 1) := by
  idx_vars i
  pointwise [k0_pay8]
  simp only [dh_at]

end Cert.NormIdeal.Value
-- ==== Proof.NormGrads.lean ====
module

public import proofs.«01_k».proof.Proof.Gen.NormGradIdeal.Read
public import proofs.«01_k».proof.Proof.LayerNorm
public import Idealize.ShloMosaic.Lib.Pipeline.ValueKit
public import Idealize.ShloMosaic.Lib.Pointwise
public import Idealize.ShloMosaic.Lib.Claim

/-!
What the reference of the first layer norm's gradient computes, one row at a time.
-/

@[expose] public section

set_option maxRecDepth 16384

noncomputable section

open Idealize.ShloMosaic Idealize.ShloMosaic.TcCoe Idealize.SL.Sem

namespace Cert.NormGradIdeal.Rows
open Cert.NormGradIdeal Cert.NormGradIdeal.Gen Cert.NormGradIdeal.Read Cert.LayerNorm Cert.Reals

variable (x0 : (⟨S2048x1024, .f32⟩ : BufTy).Contents (Elt Ideal)) (x1 : (⟨S1024, .f32⟩ : BufTy).Contents (Elt Ideal)) (x3 x4 : (⟨S1024x2816, .f32⟩ : BufTy).Contents (Elt Ideal)) (x5 : (⟨S2048x1024, .f32⟩ : BufTy).Contents (Elt Ideal)) (x6 x7 : (⟨S2048x2816, .f32⟩ : BufTy).Contents (Elt Ideal))
variable (i : Fin 2048) (j : Fin 1024) (z : Fin 1)

/-- Row `i` of the residual. -/
abbrev line (k : Fin 1024) : EReal := x0 (ix2 i k)

theorem mean_at : val_main_v3 (F := Ideal) x0 (ix2 i z) = mean (line x0 i) := by
  pointwise [val_main_v3, val_main_v1, val_main_v0, val_main_v2, val_main_cst, val_main_cst_0, mean]

theorem centred_at : val_main_v5 (F := Ideal) x0 (ix2 i j) = centred (line x0 i) j := by
  pointwise [val_main_v5, val_main_v4]
  exact congrArg (_ - ·) (mean_at ..)

theorem centred_at' : val_main_v14 (F := Ideal) x0 (ix2 i j) = centred (line x0 i) j := by
  pointwise [val_main_v14, val_main_v13]
  exact congrArg (_ - ·) (mean_at ..)

theorem spread_at : val_main_v16 (F := Ideal) x0 (ix2 i z) = spread (line x0 i) := by
  pointwise [val_main_v16, val_main_v12, val_main_v10, val_main_v9, val_main_v6, val_main_v11, val_main_v15, val_main_cst_2, val_main_cst_3, val_main_cst_4, spread]
  simp only [centred_at]

theorem rstd_at : val_main_v17 (F := Ideal) x0 (ix2 i z) = rstd (line x0 i) := by
  pointwise [val_main_v17]
  exact congrArg Ideal.rsqrt (spread_at ..)

theorem hat_at : val_main_v22 (F := Ideal) x0 (ix2 i j) = hat (line x0 i) j := by
  pointwise [val_main_v22, val_main_v21]
  exact congrArg₂ (fun x y : EReal => x * y) (centred_at' ..) (rstd_at ..)

/-- The gradient of the normalised output. -/
abbrev dh : EReal := val_main_v38 (F := Ideal) x3 x4 x5 x6 x7 (ix2 i j)

theorem dh_at : dh x3 x4 x5 x6 x7 i j = Ideal.ofBits .f32 0x3F9837F0#32 * x5 (ix2 i j) + ∑ e : Fin 2816, x6 (ix2 i e) * x3 (ix2 j e) + ∑ e : Fin 2816, x7 (ix2 i e) * x4 (ix2 j e) := by
  pointwise [dh, val_main_v38, val_main_v37, val_main_v36, val_main_v35, val_main_v33, val_main_v34, val_main_cst_7]
  rw [add_comm, add_comm (∑ e : Fin 2816, x7 (ix2 i e) * x4 (ix2 j e)), add_assoc]

/-- The gradient of the normalised row. -/
abbrev dxh : EReal := dh x3 x4 x5 x6 x7 i j * x1 (ix1 j)

theorem dxh_at : val_main_v46 (F := Ideal) x1 x3 x4 x5 x6 x7 (ix2 i j) = dxh x1 x3 x4 x5 x6 x7 i j := by
  pointwise [val_main_v46, val_main_v45, val_main_v23]

theorem direct_at : val_main_v52 (F := Ideal) x0 x1 x3 x4 x5 x6 x7 (ix2 i j) = dxh x1 x3 x4 x5 x6 x7 i j * rstd (line x0 i) := by
  pointwise [val_main_v52, val_main_v51]
  exact congrArg₂ (fun x y : EReal => x * y) (dxh_at ..) (rstd_at ..)

theorem slope_at : val_main_v20 (F := Ideal) x0 (ix2 i z) = Ideal.ofBits .f32 0xBF000000#32 * Ideal.div (rstd (line x0 i)) (spread (line x0 i)) := by
  pointwise [val_main_v20, val_main_v18, val_main_v19, val_main_cst_5]
  exact congrArg (_ * ·) (congrArg₂ Ideal.div (rstd_at ..) (spread_at ..))

theorem inner_at : val_main_v50 (F := Ideal) x0 x1 x3 x4 x5 x6 x7 (ix2 i z) = ∑ k, centred (line x0 i) k * dxh x1 x3 x4 x5 x6 x7 i k := by
  pointwise [val_main_v50, val_main_v49, val_main_v48, val_main_cst_12]
  refine Finset.sum_congr rfl fun k _ => congrArg₂ (fun x y : EReal => x * y) (centred_at' ..) (dxh_at ..)

theorem byVar_at : val_main_v61 (F := Ideal) x0 x1 x3 x4 x5 x6 x7 (ix2 i j) = byVar (line x0 i) (dxh x1 x3 x4 x5 x6 x7 i) j := by
  pointwise [val_main_v61, val_main_v60, val_main_v59, val_main_v58, val_main_v57, val_main_v53, val_main_v8, val_main_v7, val_main_cst_1, val_main_cst_14, val_main_cst_15]
  simp only [centred_at, inner_at, slope_at]
  exact congrArg (· * _) (Fintype.sum_subsingleton _ (0 : Fin 1))

theorem grad_at : val_main_v71 (F := Ideal) x0 x1 x3 x4 x5 x6 x7 (ix2 i j) = grad (line x0 i) (dxh x1 x3 x4 x5 x6 x7 i) j := by
  pointwise [val_main_v71, val_main_v70, val_main_v69, val_main_v68, val_main_v67, val_main_v66, val_main_v65, val_main_v56, val_main_v55, val_main_v54, val_main_v64, val_main_v63, val_main_v62, val_main_cst_13, val_main_cst_16, val_main_cst_17, val_main_cst_18]
  simp only [direct_at, byVar_at]
  exact congrArg (_ + ·) (Fintype.sum_subsingleton _ (0 : Fin 1))

theorem shift_at : val_main_v74 (F := Ideal) x3 x4 x5 x6 x7 (ix2 z j) = ∑ i : Fin 2048, dh x3 x4 x5 x6 x7 i j := by
  pointwise [val_main_v74, val_main_v41, val_main_v40, val_main_v39, val_main_cst_8, val_main_cst_9]
  exact Fintype.sum_subsingleton _ (0 : Fin 1)

theorem gain_at : val_main_v73 (F := Ideal) x0 x3 x4 x5 x6 x7 (ix2 z j) = ∑ i : Fin 2048, hat (line x0 i) j * dh x3 x4 x5 x6 x7 i j := by
  pointwise [val_main_v73, val_main_v47, val_main_v44, val_main_v43, val_main_v42, val_main_cst_10, val_main_cst_11]
  simp only [hat_at]
  exact Fintype.sum_subsingleton _ (0 : Fin 1)

end Cert.NormGradIdeal.Rows
-- ==== Proof.NormEntry.lean ====
module

public import proofs.«01_k».proof.Proof.NormRows
public import proofs.«01_k».proof.Proof.NormGrads
public import Idealize.ShloMosaic.Lib.Pipeline.ValueKit
public import Idealize.ShloMosaic.Lib.Pointwise
public import Idealize.ShloMosaic.Lib.Claim

/-!
The arrays the first layer norm's gradient kernel reads, block by block.
-/

@[expose] public section

set_option maxRecDepth 16384

noncomputable section

open Idealize.ShloMosaic Idealize.ShloMosaic.TcCoe Idealize.SL.Sem

namespace Cert.NormIdeal.Value
open Cert.NormIdeal Cert.NormIdeal.Gen Cert.LayerNorm Cert.Reals

variable (m : (ℓ : Loc nD τ sig) → Buf (Elt Ideal) ℓ)

theorem da_entry (c : Dev nD) : V m c main_v18 = (m ((c : Thread nD τ).loc main_arg6)) := by
  entry_read
  rfl

theorem du_entry (c : Dev nD) : V m c main_v19 = (m ((c : Thread nD τ).loc main_arg7)) := by
  entry_read
  rfl

theorem hat_entry (c : Dev nD) : V m c main_v17 = Cert.NormGradIdeal.Read.val_main_v22 (F := Ideal) (m ((c : Thread nD τ).loc main_arg0)) := by
  entry_read
  rfl

theorem gain_entry (c : Dev nD) : V m c main_v25 = Cert.NormGradIdeal.Read.val_main_v23 (F := Ideal) (m ((c : Thread nD τ).loc main_arg1)) := by
  entry_read
  rfl

theorem wg_entry (c : Dev nD) (e : Fin 2816) (k : Fin 1024) : V m c main_v21 (ix2 e k) = (m ((c : Thread nD τ).loc main_arg3)) (ix2 k e) := by
  have h : V m c main_v21 = transpose S2816x1024 [1, 0] (m ((c : Thread nD τ).loc main_arg3)) transposes_S1024x2816_S2816x1024_1_0 := by
    entry_read
    rfl
  rw [h]
  pointwise []

theorem wu_entry (c : Dev nD) (e : Fin 2816) (k : Fin 1024) : V m c main_v23 (ix2 e k) = (m ((c : Thread nD τ).loc main_arg4)) (ix2 k e) := by
  have h : V m c main_v23 = transpose S2816x1024 [1, 0] (m ((c : Thread nD τ).loc main_arg4)) transposes_S1024x2816_S2816x1024_1_0 := by
    entry_read
    rfl
  rw [h]
  pointwise []

theorem rstd_entry (c : Dev nD) (i : Fin 2048) (l : Fin 128) : V m c main_v24 (ix2 i l) = Cert.NormGradIdeal.Read.val_main_v17 (F := Ideal) (m ((c : Thread nD τ).loc main_arg0)) (ix2 i 0) := by
  have h : V m c main_v24 = broadcastInDim S2048x128 ![0, 1] bcast_S2048x1_S2048x128_0_1 (Cert.NormGradIdeal.Read.val_main_v17 (F := Ideal) (m ((c : Thread nD τ).loc main_arg0))) := by
    entry_read
    rfl
  rw [h]
  generalize Cert.NormGradIdeal.Read.val_main_v17 (F := Ideal) (m ((c : Thread nD τ).loc main_arg0)) = y
  pointwise []

/-- The row of the whole array at row `r` of block `t`. -/
abbrev row (t : Fin cfg0.N) (r : Fin 256) : Fin 2048 := ⟨t.val * 256 + r.val, by have := t.isLt.trans_le (le_of_eq N_0); omega⟩

theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![t.val, 0]
    ∧ win0_6.index t = ![t.val, 0] ∧ win0_7.index t = ![0, 0] ∧ win0_8.index t = ![t.val, 0] ∧ win0_9.index t = ![t.val, 0] := (by decide +kernel : ∀ t : Fin grid0.N, _)

variable (c : Dev nD) (t : Fin cfg0.N) (r : Fin 256) (j : Fin 1024)

theorem dr2_block : iblk m c 0 t (ix2 r j) = (m ((c : Thread nD τ).loc main_arg5)) (ix2 (row t r) j) := by
  blk_point [iblk, V_main_arg5, row, idx t]

theorem da_block (e : Fin 2816) : iblk m c 1 t (ix2 r e) = (m ((c : Thread nD τ).loc main_arg6)) (ix2 (row t r) e) := by
  rw [← da_entry m c]
  unfold iblk; blk_simp; generalize V m c main_v18 = y; refine congrArg y ?_; blk_ext [row, idx t]

theorem du_block (e : Fin 2816) : iblk m c 2 t (ix2 r e) = (m ((c : Thread nD τ).loc main_arg7)) (ix2 (row t r) e) := by
  rw [← du_entry m c]
  unfold iblk; blk_simp; generalize V m c main_v19 = y; refine congrArg y ?_; blk_ext [row, idx t]

theorem wg_block (e : Fin 2816) : iblk m c 3 t (ix2 e j) = (m ((c : Thread nD τ).loc main_arg3)) (ix2 j e) := by
  rw [← wg_entry m c e j]
  unfold iblk; blk_simp; generalize V m c main_v21 = y; refine congrArg y ?_; blk_ext [row, idx t]

theorem wu_block (e : Fin 2816) : iblk m c 4 t (ix2 e j) = (m ((c : Thread nD τ).loc main_arg4)) (ix2 j e) := by
  rw [← wu_entry m c e j]
  unfold iblk; blk_simp; generalize V m c main_v23 = y; refine congrArg y ?_; blk_ext [row, idx t]

theorem hat_block : iblk m c 5 t (ix2 r j) = hat (Cert.NormGradIdeal.Rows.line (m ((c : Thread nD τ).loc main_arg0)) (row t r)) j := by
  rw [← Cert.NormGradIdeal.Rows.hat_at, ← hat_entry m c]
  unfold iblk; blk_simp; generalize V m c main_v17 = y; refine congrArg y ?_; blk_ext [row, idx t]

theorem gain_row (x1 : (⟨S1024, .f32⟩ : BufTy).Contents (Elt Ideal)) : Cert.NormGradIdeal.Read.val_main_v23 (F := Ideal) x1 (ix2 0 j) = x1 (ix1 j) := by
  pointwise [Cert.NormGradIdeal.Read.val_main_v23]

theorem gain_block : iblk m c 7 t (ix2 0 j) = (m ((c : Thread nD τ).loc main_arg1)) (ix1 j) := by
  rw [← gain_row j (m ((c : Thread nD τ).loc main_arg1)), ← gain_entry m c]
  unfold iblk; blk_simp; generalize V m c main_v25 = y; refine congrArg y ?_; blk_ext [row, idx t]

theorem rstd_block (inb) (z : Fin 1) : View.ld (iblk m c 6 t) (Rect.unit (s := S256x128) ![0, 0] ![256, 1] inb) (ix2 r z) = rstd (Cert.NormGradIdeal.Rows.line (m ((c : Thread nD τ).loc main_arg0)) (row t r)) := by
  rw [← Cert.NormGradIdeal.Rows.rstd_at _ _ 0, ← rstd_entry m c (row t r) 0]
  have h : iblk m c 6 t (ix2 r 0) = V m c main_v24 (ix2 (row t r) 0) := by
    unfold iblk; blk_simp; generalize V m c main_v24 = y; refine congrArg y ?_; blk_ext [row, idx t]
  rw [← h]
  generalize iblk m c 6 t = y
  refine congrArg y ?_
  blk_ext []
  · exact (Rect.idx_unit_val ..).trans (Nat.zero_add _)
  · exact (Rect.idx_unit_val ..).trans (by show 0 + z.val = 0; omega)

end Cert.NormIdeal.Value
-- ==== Proof.NormFinite.lean ====
module

public import proofs.«01_k».proof.Proof.Reals
public import proofs.«01_k».proof.Proof.LayerNorm
public import proofs.«01_k».proof.Proof.Gen.Pre_norm_finite
public import proofs.«01_k».proof.Proof.Gen.NormIdeal.Value
public import Idealize.ShloMosaic.Lib.Pipeline.ValueKit
public import Idealize.ShloMosaic.Lib.Pointwise
public import Idealize.ShloMosaic.Lib.Claim

/-!
What the precondition of the first layer norm's claim gives.
-/

@[expose] public section

set_option maxRecDepth 16384

noncomputable section

open Idealize.ShloMosaic Idealize.ShloMosaic.TcCoe Idealize.SL.Sem

namespace Cert.NormIdeal.Value
open Cert.NormIdeal Cert.NormIdeal.Gen Cert.LayerNorm Cert.Reals

/-- Finite arguments are real numbers. -/
theorem finite_args (x0 : (⟨S2048x1024, .f32⟩ : BufTy).Contents (Elt Ideal)) (x1 x2 : (⟨S1024, .f32⟩ : BufTy).Contents (Elt Ideal)) (x3 x4 : (⟨S1024x2816, .f32⟩ : BufTy).Contents (Elt Ideal)) (x5 : (⟨S2048x1024, .f32⟩ : BufTy).Contents (Elt Ideal)) (x6 x7 : (⟨S2048x2816, .f32⟩ : BufTy).Contents (Elt Ideal))
    (h : Cert.Pre_norm_finite.fn (F := Ideal) x0 x1 x2 x3 x4 x5 x6 x7 = fun _ => 1#1) :
    (∀ i, IsReal (x1 i)) ∧ (∀ i, IsReal (x3 i)) ∧ (∀ i, IsReal (x4 i)) ∧ (∀ i, IsReal (x5 i)) ∧ (∀ i, IsReal (x6 i)) ∧ (∀ i, IsReal (x7 i)) := by
  have both (a b : BitVec 1) : IntOp.andi a b = 1#1 → a = 1#1 ∧ b = 1#1 := by revert a b; decide
  have e := congrFun h (Shape.Idx.first (by decide))
  unfold Cert.Pre_norm_finite.fn Cert.Pre_norm_finite.fn_part1 at e
  obtain ⟨e, e7⟩ := both _ _ e
  obtain ⟨e, e6⟩ := both _ _ e
  obtain ⟨e, e5⟩ := both _ _ e
  obtain ⟨e, e4⟩ := both _ _ e
  obtain ⟨e1, e3⟩ := both _ _ e
  exact ⟨of_all x1 _ _ (fun _ => rfl) _ _ _ e1, of_all x3 _ _ (fun _ => rfl) _ _ _ e3, of_all x4 _ _ (fun _ => rfl) _ _ _ e4, of_all x5 _ _ (fun _ => rfl) _ _ _ e5, of_all x6 _ _ (fun _ => rfl) _ _ _ e6, of_all x7 _ _ (fun _ => rfl) _ _ _ e7⟩

end Cert.NormIdeal.Value
-- ==== Proof.NormFinal.lean ====
module

public import proofs.«01_k».proof.Proof.NormEntry
public import proofs.«01_k».proof.Proof.NormFinite
public import Idealize.ShloMosaic.Lib.Pipeline.ReadBack
public import Idealize.ShloMosaic.Lib.Pipeline.ValueKit
public import Idealize.ShloMosaic.Lib.Pointwise
public import Idealize.ShloMosaic.Lib.Claim

/-!
The four results of the first layer norm's gradient kernel are those of its reference.
-/

@[expose] public section

set_option maxRecDepth 16384

noncomputable section

open Idealize.ShloMosaic Idealize.ShloMosaic.TcCoe Idealize.SL.Sem

namespace Cert.NormIdeal.Value
open Cert.NormGradIdeal.Read Cert.NormIdeal Cert.NormIdeal.Gen Cert.LayerNorm Cert.Reals

variable (m : (ℓ : Loc nD τ sig) → Buf (Elt Ideal) ℓ) (c : Dev nD) (t : Fin cfg0.N) (r : Fin 256) (j : Fin 1024)

/-- Row `i` of the residual. -/
abbrev res (i : Fin 2048) : Fin 1024 → EReal := Cert.NormGradIdeal.Rows.line (m ((c : Thread nD τ).loc main_arg0)) i

/-- The gradient of the normalised output. -/
abbrev slope : Fin 2048 → Fin 1024 → EReal := fun i j => Cert.NormGradIdeal.Rows.dh (m ((c : Thread nD τ).loc main_arg3)) (m ((c : Thread nD τ).loc main_arg4)) (m ((c : Thread nD τ).loc main_arg5)) (m ((c : Thread nD τ).loc main_arg6)) (m ((c : Thread nD τ).loc main_arg7)) i j

theorem dh_eq : dh (iblk m c 0 t) (iblk m c 1 t) (iblk m c 3 t) (iblk m c 2 t) (iblk m c 4 t) r j = slope m c (row t r) j := by
  refine Eq.trans ?_ (Cert.NormGradIdeal.Rows.dh_at ..).symm
  refine congrArg₂ (fun x y : EReal => x + y) (congrArg₂ (fun x y : EReal => x + y) (congrArg (_ * ·) (dr2_block m c t r j)) ?_) ?_
  · exact (Finset.sum_congr rfl fun e _ => congrArg₂ (fun x y : EReal => x * y) (da_block m c t r e) (wg_block m c t j e))
  · exact (Finset.sum_congr rfl fun e _ => congrArg₂ (fun x y : EReal => x * y) (du_block m c t r e) (wu_block m c t j e))

section
variable (hpre : Cert.Pre_norm_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = fun _ => 1#1)
include hpre

theorem grad_eq_back (i : Fin 2048) : val_main_v71 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (ix2 i j) = back (res m c i) (fun k => slope m c i k * (m ((c : Thread nD τ).loc main_arg1)) (ix1 k)) j := by
  obtain ⟨f1, f3, f4, f5, f6, f7⟩ := finite_args _ _ _ _ _ _ _ _ hpre
  have hd (k) : IsReal (slope m c i k * (m ((c : Thread nD τ).loc main_arg1)) (ix1 k)) := by
    rw [slope, Cert.NormGradIdeal.Rows.dh_at]
    exact (((IsReal.mul ⟨_, rfl⟩ (f5 _)).add (IsReal.sum fun e => (f6 _).mul (f3 _))).add (IsReal.sum fun e => (f7 _).mul (f4 _))).mul (f1 _)
  rw [Cert.NormGradIdeal.Rows.grad_at]
  exact grad_eq _ _ (fun _ => hd) j

theorem store_eq (inb) : k0_pay1 (F := Ideal) (k0_pay5 (F := Ideal) (iblk m c 0 t) (iblk m c 1 t) (iblk m c 3 t) (iblk m c 2 t) (iblk m c 4 t)) (k0_pay6 (F := Ideal) (iblk m c 5 t))
      (View.ld (iblk m c 6 t) (Rect.unit (s := S256x128) ![0, 0] ![256, 1] inb)) (iblk m c 7 t) (ix2 r j)
    = val_main_v71 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (ix2 (row t r) j) := by
  refine (back_at ..).trans (Eq.trans ?_ (grad_eq_back m c j hpre _).symm)
  refine congrArg₂ (fun x y : EReal => x * y) (rstd_block m c t r inb 0) ?_
  have e (k) : dh (iblk m c 0 t) (iblk m c 1 t) (iblk m c 3 t) (iblk m c 2 t) (iblk m c 4 t) r k * iblk m c 7 t (ix2 0 k) = slope m c (row t r) k * (m ((c : Thread nD τ).loc main_arg1)) (ix1 k) :=
    congrArg₂ (fun x y : EReal => x * y) (dh_eq m c t r k) (gain_block m c t k)
  refine congrArg₂ (fun x y : EReal => x - y) (congrArg₂ (fun x y : EReal => x - y) (e j) (congrArg mean (funext e))) ?_
  refine congrArg₂ (fun x y : EReal => x * y) (hat_block m c t r j) (congrArg mean (funext fun k => ?_))
  exact congrArg₂ (fun x y : EReal => x * y) (e k) (hat_block m c t r k)

theorem dr_final : (dats m 0 c).arrAt 8 (cfgs 0).N = val_main_v71 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  have place : (win0_8.blk t).view.emb y = ix2 (row t (y 0)) (y 1) := by blk_ext [row, idx t]
  blk_simp
  rw [after0_8]
  by_cases hA : t.val % 8 = 0
  on_goal 1 => rw [outsAt0_A m c t hA]
  on_goal 2 => rw [outsAt0_B m c t hA]
  all_goals frame_out
  all_goals exact ((congrArg _ (eq_ix2 y)).trans (store_eq m c t (y 0) (y 1) hpre _)).trans (congrArg _ place.symm)

theorem drb_final : (dats m 0 c).arrAt 9 (cfgs 0).N = val_main_v72 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t _ y => ?_
  have place : (win0_9.blk t).view.emb y = ix2 (row t (y 0)) (y 1) := by blk_ext [row, idx t]
  blk_simp
  rw [after0_9]
  by_cases hA : t.val % 8 = 0
  on_goal 1 => rw [outsAt0_A m c t hA]
  on_goal 2 => rw [outsAt0_B m c t hA]
  all_goals frame_out
  all_goals pointwise [k0_pay2, val_main_v72]
  all_goals exact ((congrArg _ (eq_ix2 y)).trans (store_eq m c t (y 0) (y 1) hpre _)).trans (congrArg _ place.symm)

end

/-- What block `t` adds to the gradient of the gain. -/
abbrev dgPart (j : S1x1024.Idx) : EReal := ∑ r : Fin 256, slope m c (row t r) (j 1) * hat (res m c (row t r)) (j 1)

theorem dg_add (acc : Vec Ideal S1x1024 .f32) (j : S1x1024.Idx) : k0_pay7 (F := Ideal) (iblk m c 0 t) (iblk m c 1 t) (iblk m c 3 t) (iblk m c 2 t) (iblk m c 4 t) (iblk m c 5 t) acc j = acc j + dgPart m c t j := by
  rw [gain_at]
  exact congrArg (_ + ·) (Finset.sum_congr rfl fun r _ => congrArg₂ (fun x y : EReal => x * y) (dh_eq m c t r (j 1)) (hat_block m c t r (j 1)))

theorem dg_first (h : t.val % 8 = 0) (j : S1x1024.Idx) : (outsAt0 m c t.val t.isLt).2.2.1 j = 0 + dgPart m c t j := by
  rw [outsAt0_A m c t h]
  frame_open
  simp (disch := decide) only [↓ View.readCov_skip, ↓ View.readCov_cons_toLoadRect, ↓ View.readCov_fill]
  frame_out
  refine (dg_add m c t _ j).trans (congrArg (· + _) ?_)
  pointwise [k0_pay3, k0_pay4]

theorem dg_next (h : ¬ t.val % 8 = 0) (j : S1x1024.Idx) :
    (outsAt0 m c t.val t.isLt).2.2.1 j = (outsAt0 m c (t.val - 1) (Nat.lt_of_le_of_lt (Nat.sub_le _ _) t.isLt)).2.2.1 j + dgPart m c t j := by
  rw [outsAt0_B m c t h]; frame_out
  exact dg_add m c t _ j

theorem dg_total (j : S1x1024.Idx) : (outsAt0 m c t0_7.val t0_7.isLt).2.2.1 j = ∑ p : Fin 8, dgPart m c p j :=
  (Pipeline.eq_sum_fin_of_reset_step_apply_last (fun n h => (outsAt0 m c n h).2.2.1) 8 (fun _ => 0) (fun p j => dgPart m c p j)
    (fun t h j => dg_first m c t h j) (fun t h j => dg_next m c t h j) (le_of_eq N_0) t0_7 rfl j).trans (zero_add _)

theorem dg_final : (dats m 0 c).arrAt 10 (cfgs 0).N = val_main_v73 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_after_last 10 t0_7 (by decide +kernel) _ fun j => ?_
  blk_simp
  rw [after0_10]
  refine (dg_total m c j).trans ?_
  refine Eq.trans ?_ ((congrArg _ (eq_ix2 j)).trans (Cert.NormGradIdeal.Rows.gain_at ..)).symm
  exact Fin.sum_mul_add_congr (S := 8) (n := 256) (L := 2048) (F := fun p r => slope m c (row p r) (j 1) * hat (res m c (row p r)) (j 1))
    (f := fun i => hat (res m c i) (j 1) * slope m c i (j 1)) fun p r hl => mul_comm _ _

/-- What block `t` adds to the gradient of the shift. -/
abbrev dbPart (j : S1x1024.Idx) : EReal := ∑ r : Fin 256, slope m c (row t r) (j 1)

theorem db_add (acc : Vec Ideal S1x1024 .f32) (j : S1x1024.Idx) : k0_pay8 (F := Ideal) (iblk m c 0 t) (iblk m c 1 t) (iblk m c 3 t) (iblk m c 2 t) (iblk m c 4 t) acc j = acc j + dbPart m c t j := by
  rw [shift_at]
  exact congrArg (_ + ·) (Finset.sum_congr rfl fun r _ => dh_eq m c t r (j 1))

theorem db_first (h : t.val % 8 = 0) (j : S1x1024.Idx) : (outsAt0 m c t.val t.isLt).2.2.2 j = 0 + dbPart m c t j := by
  rw [outsAt0_A m c t h]
  frame_open
  simp (disch := decide) only [↓ View.readCov_skip, ↓ View.readCov_cons_toLoadRect, ↓ View.readCov_fill]
  frame_out
  refine (db_add m c t _ j).trans (congrArg (· + _) ?_)
  pointwise [k0_pay3, k0_pay4]

theorem db_next (h : ¬ t.val % 8 = 0) (j : S1x1024.Idx) :
    (outsAt0 m c t.val t.isLt).2.2.2 j = (outsAt0 m c (t.val - 1) (Nat.lt_of_le_of_lt (Nat.sub_le _ _) t.isLt)).2.2.2 j + dbPart m c t j := by
  rw [outsAt0_B m c t h]; frame_out
  exact db_add m c t _ j

theorem db_total (j : S1x1024.Idx) : (outsAt0 m c t0_7.val t0_7.isLt).2.2.2 j = ∑ p : Fin 8, dbPart m c p j :=
  (Pipeline.eq_sum_fin_of_reset_step_apply_last (fun n h => (outsAt0 m c n h).2.2.2) 8 (fun _ => 0) (fun p j => dbPart m c p j)
    (fun t h j => db_first m c t h j) (fun t h j => db_next m c t h j) (le_of_eq N_0) t0_7 rfl j).trans (zero_add _)

theorem db_final : (dats m 0 c).arrAt 11 (cfgs 0).N = val_main_v74 (F := Ideal) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_after_last 11 t0_7 (by decide +kernel) _ fun j => ?_
  blk_simp
  rw [after0_11]
  refine (db_total m c j).trans ?_
  refine Eq.trans ?_ ((congrArg _ (eq_ix2 j)).trans (Cert.NormGradIdeal.Rows.shift_at ..)).symm
  exact Fin.sum_mul_add_congr (S := 8) (n := 256) (L := 2048) (F := fun p r => slope m c (row p r) (j 1))
    (f := fun i => slope m c i (j 1)) fun p r hl => rfl

end Cert.NormIdeal.Value
-- ==== Proof.NormClaim.lean ====
module

public import proofs.«01_k».proof.Proof.NormFrames
public import proofs.«01_k».proof.Proof.NormFinal
public import proofs.«01_k».proof.Proof.Gen.Pre_norm_finite

@[expose] public section

set_option maxRecDepth 16384

noncomputable section

open Idealize.ShloMosaic Idealize.SL.Sem

namespace Cert.Proof.Norm

theorem frameIdealPre : Cert.quiescent_NormIdeal_pre_norm_finite := fun m ρ _ => Cert.NormIdeal.Gen.frame m ρ

theorem frameReferencePre : Cert.quiescent_NormGradIdeal_pre_norm_finite := fun m ρ _ => frameReference m ρ trivial

theorem algebraic : Cert.algebraic_NormIdeal_NormGradIdeal_pre_norm_finite := by
  intro m ρ m' ρ' hpre hagree
  refine ⟨_, _, _, _, Cert.NormIdeal.Value.run_blocks m ρ, ?_⟩
  refine (θ_run Cert.NormGradIdeal.defs _ _).mono (fun _ h c => ?_) (Cert.NormGradIdeal.Value.run (F := Ideal) m' ρ')
  obtain ⟨a0, a1, a2, a3, a4, a5, a6, a7⟩ := hagree c
  obtain ⟨h0, h1, h2, h3, hargs⟩ := h c
  refine ⟨h0.trans ?_, h1.trans ?_, h2.trans ?_, h3.trans ?_, hargs⟩
  · refine (Cert.NormGradIdeal.Read.val_main_v71_eq ..).trans ?_
    simp only [a0, a1, a2, a3, a4, a5, a6, a7]
    exact (Cert.NormIdeal.Value.dr_final m c (hpre c)).symm
  · refine (Cert.NormGradIdeal.Read.val_main_v72_eq ..).trans ?_
    simp only [a0, a1, a2, a3, a4, a5, a6, a7]
    exact (Cert.NormIdeal.Value.drb_final m c (hpre c)).symm
  · refine (Cert.NormGradIdeal.Read.val_main_v73_eq ..).trans ?_
    simp only [a0, a1, a2, a3, a4, a5, a6, a7]
    exact (Cert.NormIdeal.Value.dg_final m c).symm
  · refine (Cert.NormGradIdeal.Read.val_main_v74_eq ..).trans ?_
    simp only [a0, a1, a2, a3, a4, a5, a6, a7]
    exact (Cert.NormIdeal.Value.db_final m c).symm

end Cert.Proof.Norm

end

end
-- ==== Proof.InpFrames.lean ====
module

public import proofs.«01_k».proof.Defs
public import proofs.«01_k».proof.Proof.Gen.Inp.Frame
public import proofs.«01_k».proof.Proof.Gen.InpIdeal.Frame
public import proofs.«01_k».proof.Proof.Gen.InpGradIdeal.Run
public import Idealize.ShloMosaic.Lib.Quiescent

@[expose] public section

set_option maxRecDepth 16384

noncomputable section

open Idealize.ShloMosaic Idealize.SL.Sem

namespace Cert.Proof.Inp

theorem frame : Cert.quiescent_Inp := fun m ρ _ => Cert.Inp.Gen.frame m ρ

theorem frameIdeal : Cert.quiescent_InpIdeal := fun m ρ _ => Cert.InpIdeal.Gen.frame m ρ

theorem frameReference : Cert.quiescent_InpGradIdeal := fun m ρ _ =>
  (θ_run Cert.InpGradIdeal.defs _ _).mono (fun r h => ⟨fun c => (h c).2.2, Idealize.ShloMosaic.sem_eq_zero_of_no_sems (by decide) r.2⟩) (Cert.InpGradIdeal.Value.run (F := Ideal) m ρ)

theorem preserves : Cert.preserves_Inp_InpIdeal :=
  trivial

end Cert.Proof.Inp

end

end
-- ==== Proof.InpSums.lean ====
module

public import proofs.«01_k».proof.Proof.Gen.InpGradIdeal.Read
public import Idealize.ShloMosaic.Lib.Routing.OpsOne
public import Idealize.ShloMosaic.Lib.Routing.OpsPair
public import Idealize.ShloMosaic.Lib.Pointwise

/-!
Three sums of the running mean's gradient: a scatter of rows that adds, a running sum from the last row up, and the
telescoping of a value minus itself some places further.
-/

@[expose] public section

open Idealize.ShloMosaic

namespace Cert.InpGradIdeal.Rows
open Cert.InpGradIdeal

theorem foldl_add {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

theorem lands (idx : IVec S2048x1 32) (n : Fin 2048) (k : Fin 128) (p : Fin 2049) (q : Fin 128) :
    scatter_S2049x128_S2048x1_S2048x128_1_0_0_1.resultIdx? (ix2 n k) idx = some (ix2 p q) ↔ (idx (ix2 n 0)).toInt = p.val ∧ k = q := by
  have h0 : scatter_S2049x128_S2048x1_S2048x128_1_0_0_1.start (ix2 n k) idx 0 = (idx (ix2 n 0)).toInt := by
    unfold ScatterDims.start
    rw [dif_pos (by decide)]
    refine congrArg (fun i => (idx i).toInt) (funext fun b => Fin.ext ?_)
    match b with
    | ⟨0, _⟩ => rfl
    | ⟨1, _⟩ => rfl
  have h1 : scatter_S2049x128_S2048x1_S2048x128_1_0_0_1.start (ix2 n k) idx 1 = 0 := rfl
  have w0 : scatter_S2049x128_S2048x1_S2048x128_1_0_0_1.window (ix2 n k) 0 = 0 := rfl
  have w1 : scatter_S2049x128_S2048x1_S2048x128_1_0_0_1.window (ix2 n k) 1 = k.val := rfl
  refine (Routing.resultIdx?_ix2 scatter_S2049x128_S2048x1_S2048x128_1_0_0_1 (ix2 n k) idx p q).trans ?_
  rw [h0, h1, w0, w1, Fin.ext_iff]
  omega

/-- A scatter of rows that adds: row `p` of the result is row `p` of the operand and every update row whose index is `p`. -/
theorem scatter_at (x : FVec Ideal S2049x128 .f32) (idx : IVec S2048x1 32) (upd : FVec Ideal S2048x128 .f32) (p : Fin 2049) (q : Fin 128) :
    Host.scatterAdd (F := Ideal) scatter_S2049x128_S2048x1_S2048x128_1_0_0_1 x idx upd (ix2 p q)
      = x (ix2 p q) + ∑ n : Fin 2048, if (idx (ix2 n 0)).toInt = p.val then upd (ix2 n q) else 0 := by
  refine congrArg (fun y : EReal => x (ix2 p q) + y) ?_
  refine (Finset.sum_filter ..).trans ((ValueIdx.sum_idx2 ..).trans (Finset.sum_congr rfl fun n _ => ?_))
  refine (Finset.sum_congr rfl fun k _ => if_congr (lands idx n k p q) rfl rfl).trans ?_
  by_cases h : (idx (ix2 n 0)).toInt = p.val
  · simp only [h, true_and, if_true]
    exact Fintype.sum_ite_eq' q fun k => upd (ix2 n k)
  · simp only [h, false_and, if_false, Finset.sum_const_zero]

/-- Entry `i` of a column, zero beyond its end. -/
noncomputable def ext {R : ℕ} (f : Fin R → EReal) (i : ℕ) : EReal := if h : i < R then f ⟨i, h⟩ else 0

open Routing in
/-- The running sum from the last row up: entry `j` is the sum of the entries from `j` on. -/
theorem later_at {R Rm1 C : ℕ} (hR : Rm1 + 1 = R) (x : (shape2 R C).Idx → EReal) (z : shape0.Idx → EReal) (hz : z = fun _ => 0)
    (h : (shape2 R C).ReduceWindows (![R, 1] : Fin 2 → ℕ) ![1, 1] ![0, 0] ![Rm1, 0] (shape2 R C)) (hu : 0 < shape0.numel) (j : Fin R) (l : Fin C) :
    Host.reduceWindowAdd (F := Ideal) (φ := .f32) ![R, 1] ![1, 1] ![0, 0] ![Rm1, 0] x z h hu (ix2 j l)
      = ∑ n : Fin R, ext (fun i => x (ix2 i l)) (j.val + n.val) := by
  subst hz
  refine (foldl_add (List.finRange (shape2 R 1).numel) _ (0 : EReal)).trans ?_
  rw [← Fin.sum_univ_def]
  refine (zero_add _).trans (Fintype.sum_equiv (finCongr (numel_col R)) _ _ fun n => ?_)
  have hn := symm_col n
  have hw0 : ((shape2 R 1).rowMajor.symm n 0).val = n.val := by rw [hn]; rfl
  have hw1 : ((shape2 R 1).rowMajor.symm n 1).val = 0 := by rw [hn]; rfl
  have hl := l.isLt
  unfold ext
  split
  · next hin =>
    have h0 := hin 0
    change 0 ≤ j.val * 1 + ((shape2 R 1).rowMajor.symm n 0).val ∧ j.val * 1 + ((shape2 R 1).rowMajor.symm n 0).val - 0 < R at h0
    rw [hw0] at h0
    rw [dif_pos (show j.val + (finCongr (numel_col R) n).val < R by show j.val + n.val < R; omega)]
    refine congrArg x (funext fun a => Fin.ext ?_)
    match a with
    | ⟨0, _⟩ =>
      show j.val * 1 + ((shape2 R 1).rowMajor.symm n 0).val - 0 = j.val + n.val
      omega
    | ⟨1, _⟩ =>
      show l.val * 1 + ((shape2 R 1).rowMajor.symm n 1).val - 0 = l.val
      omega
  · next hin =>
    rw [dif_neg fun hle => hin fun a => ?_]
    match a with
    | ⟨0, _⟩ =>
      show 0 ≤ j.val * 1 + ((shape2 R 1).rowMajor.symm n 0).val ∧ j.val * 1 + ((shape2 R 1).rowMajor.symm n 0).val - 0 < R
      have : j.val + n.val < R := hle
      omega
    | ⟨1, _⟩ =>
      show 0 ≤ l.val * 1 + ((shape2 R 1).rowMajor.symm n 1).val ∧ l.val * 1 + ((shape2 R 1).rowMajor.symm n 1).val - 0 < C
      omega

/-- A value minus itself `w` places further, added up from `j` to beyond the end, is the sum of the first `w` values from `j`. -/
theorem window_sum (f : ℕ → ℝ) (R w j : ℕ) (hf : ∀ i, R ≤ i → f i = 0) :
    ∑ n ∈ Finset.range R, (f (j + n) - f (j + n + w)) = ∑ k ∈ Finset.range w, f (j + k) := by
  have e₁ := Finset.sum_range_add (fun n => f (j + n)) R w
  have e₂ := Finset.sum_range_add (fun n => f (j + n)) w R
  have z : ∑ n ∈ Finset.range w, f (j + (R + n)) = 0 := Finset.sum_eq_zero fun n _ => hf _ (by omega)
  rw [add_comm w R] at e₂
  have s : ∑ n ∈ Finset.range R, f (j + n + w) = ∑ n ∈ Finset.range R, f (j + (w + n)) := Finset.sum_congr rfl fun n _ => congrArg f (by omega)
  rw [Finset.sum_sub_distrib, s]
  linarith

end Cert.InpGradIdeal.Rows
-- ==== Proof.InpMean.lean ====
module

public import proofs.«01_k».proof.Proof.InpSums
public import proofs.«01_k».proof.Proof.Reals

/-!
The gradient of a running mean over the last `w` rows, one column of it: every row sends its gradient, divided by the
number of rows its mean takes, to each of these rows. So row `r` receives from the rows `r` to `r + w - 1`.
-/

@[expose] public section

noncomputable section

open Idealize.ShloMosaic

namespace Cert.InpMean
open Cert.InpGradIdeal.Rows Cert.Reals

theorem ext_lt {R : ℕ} (f : Fin R → EReal) {i : ℕ} (h : i < R) : ext f i = f ⟨i, h⟩ := dif_pos h

/-- How many rows the mean at row `n` takes. -/
def cnt (w n : ℕ) : EReal := ((min (n + 1) w : ℕ) : ℝ)

/-- What row `i` sends to each of its rows. -/
def sent (w : ℕ) (y : Fin 2048 → EReal) (i : Fin 2048) : EReal := Ideal.div (y i) (cnt w i.val)

/-- The width of the mean at column `l`. -/
def width (l : ℕ) : ℕ := 2 ^ (l / 128 + 1)

/-- The gradient at row `r`: what it receives, less its own. -/
def mean (w : ℕ) (y : Fin 2048 → EReal) (r : Fin 2048) : EReal := - y r + ∑ k ∈ Finset.range w, ext (sent w y) (r.val + k)

theorem cnt_ne {w n : ℕ} (hw : 0 < w) : ((min (n + 1) w : ℕ) : ℝ) ≠ 0 := by
  have : 0 < min (n + 1) w := by omega
  exact_mod_cast this.ne'

theorem sent_real {w : ℕ} (hw : 0 < w) {y : Fin 2048 → EReal} (hy : ∀ i, IsReal (y i)) (i : Fin 2048) : IsReal (sent w y i) := by
  obtain ⟨a, ha⟩ := hy i
  exact ⟨a / _, (congrArg (fun b => Ideal.div b (cnt w i.val)) ha).trans (div_eq (cnt_ne hw))⟩

/-- The value at a row less the value `w` rows further, added up from a row to the last one. -/
theorem later_sum {w : ℕ} (f : Fin 2048 → EReal) (hf : ∀ i, IsReal (f i)) (r : Fin 2048) :
    ∑ n : Fin 2048, ext (fun i : Fin 2048 => - ext f (i.val + w) + f i) (r.val + n.val) = ∑ k ∈ Finset.range w, ext f (r.val + k) := by
  have hg (i : ℕ) : ext f i = (((ext f i).toReal : ℝ) : EReal) := by
    unfold ext
    split
    · exact (hf _).eq
    · rfl
  have h0 (i : ℕ) (h : 2048 ≤ i) : (ext f i).toReal = 0 := by
    unfold ext
    rw [dif_neg (by omega)]
    rfl
  have key := window_sum (fun i => (ext f i).toReal) 2048 w r.val h0
  have lhs (n : ℕ) : ext (fun i : Fin 2048 => - ext f (i.val + w) + f i) (r.val + n)
      = (((ext f (r.val + n)).toReal - (ext f (r.val + n + w)).toReal : ℝ) : EReal) := by
    by_cases h : r.val + n < 2048
    · rw [EReal.coe_sub, ← hg, ← hg, sub_eq_add_neg, add_comm (ext f (r.val + n)), ext_lt _ h, ext_lt _ h]
    · rw [h0 _ (by omega), h0 _ (by omega)]
      show dite _ _ _ = _
      rw [dif_neg h]
      norm_num
  have rhs : ∑ k ∈ Finset.range w, ext f (r.val + k) = ((∑ k ∈ Finset.range w, (ext f (r.val + k)).toReal : ℝ) : EReal) := by
    rw [Finset.sum_congr rfl fun k _ => hg (r.val + k)]
    exact (map_sum (⟨⟨fun x : ℝ => (x : EReal), rfl⟩, EReal.coe_add⟩ : ℝ →+ EReal) _ _).symm
  rw [rhs, ← key, Fin.sum_univ_eq_sum_range (fun n => ext (fun i : Fin 2048 => - ext f (i.val + w) + f i) (r.val + n)) 2048,
    Finset.sum_congr rfl fun n _ => lhs n]
  exact (map_sum (⟨⟨fun x : ℝ => (x : EReal), rfl⟩, EReal.coe_add⟩ : ℝ →+ EReal) _ _).symm

end Cert.InpMean
end
-- ==== Proof.InpRows.lean ====
module

public import proofs.«01_k».proof.Proof.InpMean
public import proofs.«01_k».proof.Proof.Gen.InpIdeal.Value
public import Idealize.ShloMosaic.Lib.Pointwise

/-!
One block of the running-mean gradient's kernel: what its rows send, its own rows and the next block's first sixteen.
-/

@[expose] public section

set_option maxRecDepth 16384

noncomputable section

open Idealize.ShloMosaic Idealize.ShloMosaic.WordCmp

namespace Cert.InpIdeal.Value
open Cert.InpIdeal Cert.InpIdeal.Gen Cert.InpMean Cert.Reals

theorem own_word : ∀ (g : Fin 4) (t : Fin 8) (r : Fin 256),
    IntOp.minsi (IntOp.addi (IntOp.addi (IntOp.muli (BitVec.ofNat 32 t.val) 256#32) (BitVec.ofNat 32 r.val)) 1#32) (BitVec.ofNat 32 (2 ^ (g.val + 1)))
      = BitVec.ofNat 32 (min (256 * t.val + r.val + 1) (2 ^ (g.val + 1))) := by
  decide +kernel

theorem next_word : ∀ (g : Fin 4) (t : Fin 8) (r : Fin 16),
    IntOp.minsi (IntOp.addi (IntOp.addi (IntOp.muli (IntOp.addi (BitVec.ofNat 32 t.val) 1#32) 256#32) (BitVec.ofNat 32 r.val)) 1#32) (BitVec.ofNat 32 (2 ^ (g.val + 1)))
      = BitVec.ofNat 32 (min (256 * t.val + (256 + r.val) + 1) (2 ^ (g.val + 1))) := by
  decide +kernel

theorem cnt_word (n w : ℕ) (hn : n < 4096) (b : BitVec 32) (h : b = BitVec.ofNat 32 (min (n + 1) w)) :
    (FloatOps.sitofp (F := Ideal) .f32 b : EReal) = cnt w n := by
  rw [h]
  show (((BitVec.ofNat 32 _).toInt : ℝ) : EReal) = _
  rw [toInt_ofNat_of_lt ((Nat.min_le_left _ _).trans_lt (by omega))]
  rfl

theorem own_cnt (g : Fin 4) (t : Fin 8) (r : Fin 256) {b : BitVec 32}
    (h : b = IntOp.minsi (IntOp.addi (IntOp.addi (IntOp.muli (BitVec.ofNat 32 t.val) 256#32) (BitVec.ofNat 32 r.val)) 1#32) (BitVec.ofNat 32 (2 ^ (g.val + 1)))) :
    (FloatOps.sitofp (F := Ideal) .f32 b : EReal) = cnt (2 ^ (g.val + 1)) (256 * t.val + r.val) :=
  cnt_word _ _ (by omega) _ (h.trans (own_word g t r))

theorem next_cnt (g : Fin 4) (t : Fin 8) (r : Fin 16) {b : BitVec 32}
    (h : b = IntOp.minsi (IntOp.addi (IntOp.addi (IntOp.muli (IntOp.addi (BitVec.ofNat 32 t.val) 1#32) 256#32) (BitVec.ofNat 32 r.val)) 1#32) (BitVec.ofNat 32 (2 ^ (g.val + 1)))) :
    (FloatOps.sitofp (F := Ideal) .f32 b : EReal) = cnt (2 ^ (g.val + 1)) (256 * t.val + (256 + r.val)) :=
  cnt_word _ _ (by omega) _ (h.trans (next_word g t r))

variable (i : grid0.Coords) (v0 : Vec Ideal S256x512 .f32) (v4 : Vec Ideal S16x512 .f32)

/-- The next block's rows, nothing at the last block. -/
theorem next_rows (r : Fin 16) (l : Fin 512) : k0_pay2 (F := Ideal) i v4 (ix2 r l) = if (i 0).val < 7 then v4 (ix2 r l) else 0 := by
  have hi : (i 0).val < 8 := (i 0).isLt
  show Scalar.select (IntOp.cmpi .slt (BitVec.ofNat 32 (i 0).val) (BitVec.ofNat 32 7)) v4 _ (ix2 r l) = _
  rw [cmpi_slt_ofNat (by omega) (by omega), select_decide]
  split
  · rfl
  · exact Ideal.ofBits_zero_f32

theorem own_two (r : Fin 256) (z : Fin 128) : k0_pay3 (F := Ideal) i v0 (ix2 r z) = Ideal.div (v0 (ix2 r ⟨0 + z.val, by omega⟩)) (cnt 2 (256 * (i 0).val + r.val)) := by
  pointwise [k0_pay3]
  exact congrArg₂ Ideal.div (congrArg v0 (congrArg (ix2 r) (Fin.ext (by simp)))) (own_cnt 0 ⟨(i 0).val, (i 0).isLt⟩ r rfl)

theorem next_two (r : Fin 16) (z : Fin 128) : k0_pay4 (F := Ideal) i v4 (ix2 r z) = Ideal.div (k0_pay2 (F := Ideal) i v4 (ix2 r ⟨0 + z.val, by omega⟩)) (cnt 2 (256 * (i 0).val + (256 + r.val))) := by
  unfold k0_pay4
  generalize k0_pay2 (F := Ideal) i v4 = v4
  pointwise []
  exact congrArg₂ Ideal.div (congrArg v4 (congrArg (ix2 r) (Fin.ext (by simp)))) (next_cnt 0 ⟨(i 0).val, (i 0).isLt⟩ r rfl)

theorem own_four (r : Fin 256) (z : Fin 128) : k0_pay6 (F := Ideal) (k0_pay5 v0) (Scalar.muli (BitVec.ofNat 32 (i 0).val) 256#32) (iota .tc S256x1 32 [0] iota_S256x1_d0_w32) (ix2 r z) = Ideal.div (v0 (ix2 r ⟨128 + z.val, by omega⟩)) (cnt 4 (256 * (i 0).val + r.val)) := by
  pointwise [k0_pay6, k0_pay5]
  exact congrArg₂ Ideal.div (congrArg v0 (congrArg (ix2 r) (Fin.ext (by simp)))) (own_cnt 1 ⟨(i 0).val, (i 0).isLt⟩ r rfl)

theorem next_four (r : Fin 16) (z : Fin 128) : k0_pay7 (F := Ideal) (BitVec.ofNat 32 (i 0).val) v4 (ix2 r z) = Ideal.div (v4 (ix2 r ⟨128 + z.val, by omega⟩)) (cnt 4 (256 * (i 0).val + (256 + r.val))) := by
  unfold k0_pay7
  pointwise []
  exact congrArg₂ Ideal.div (congrArg v4 (congrArg (ix2 r) (Fin.ext (by simp)))) (next_cnt 1 ⟨(i 0).val, (i 0).isLt⟩ r rfl)

theorem own_eight (r : Fin 256) (z : Fin 128) : k0_pay8 (F := Ideal) (BitVec.ofNat 32 (i 0).val) v0 (ix2 r z) = Ideal.div (v0 (ix2 r ⟨256 + z.val, by omega⟩)) (cnt 8 (256 * (i 0).val + r.val)) := by
  pointwise [k0_pay8]
  exact congrArg₂ Ideal.div (congrArg v0 (congrArg (ix2 r) (Fin.ext (by simp)))) (own_cnt 2 ⟨(i 0).val, (i 0).isLt⟩ r rfl)

theorem next_eight (r : Fin 16) (z : Fin 128) : k0_pay9 (F := Ideal) (BitVec.ofNat 32 (i 0).val) v4 (ix2 r z) = Ideal.div (v4 (ix2 r ⟨256 + z.val, by omega⟩)) (cnt 8 (256 * (i 0).val + (256 + r.val))) := by
  unfold k0_pay9
  pointwise []
  exact congrArg₂ Ideal.div (congrArg v4 (congrArg (ix2 r) (Fin.ext (by simp)))) (next_cnt 2 ⟨(i 0).val, (i 0).isLt⟩ r rfl)

theorem own_sixteen (r : Fin 256) (z : Fin 128) : k0_pay10 (F := Ideal) (BitVec.ofNat 32 (i 0).val) v0 (ix2 r z) = Ideal.div (v0 (ix2 r ⟨384 + z.val, by omega⟩)) (cnt 16 (256 * (i 0).val + r.val)) := by
  pointwise [k0_pay10]
  exact congrArg₂ Ideal.div (congrArg v0 (congrArg (ix2 r) (Fin.ext (by simp)))) (own_cnt 3 ⟨(i 0).val, (i 0).isLt⟩ r rfl)

theorem next_sixteen (r : Fin 16) (z : Fin 128) : k0_pay13 (F := Ideal) (k0_pay11 v4) (k0_pay12 (BitVec.ofNat 32 (i 0).val)) (ix2 r z) = Ideal.div (v4 (ix2 r ⟨384 + z.val, by omega⟩)) (cnt 16 (256 * (i 0).val + (256 + r.val))) := by
  unfold k0_pay13 k0_pay11 k0_pay12
  pointwise []
  exact congrArg₂ Ideal.div (congrArg v4 (congrArg (ix2 r) (Fin.ext (by simp)))) (next_cnt 3 ⟨(i 0).val, (i 0).isLt⟩ r rfl)

end Cert.InpIdeal.Value
end
-- ==== Proof.InpGrads.lean ====
module

public import proofs.«01_k».proof.Proof.InpMean

/-!
The reference's running-mean gradient: what a row sends, the scatters, the running sum, and the gradient of the
projections' results put side by side.
-/

@[expose] public section

set_option maxRecDepth 16384

noncomputable section

open Idealize.ShloMosaic Idealize.ShloMosaic.WordCmp

namespace Cert.InpGradIdeal.Rows
open Cert.InpGradIdeal Cert.InpGradIdeal.Read Cert.InpMean Cert.Reals

/-- The first row a mean takes, counted as the words do. -/
theorem first_word : ∀ (g : Fin 4) (n : Fin 2048),
    IntOp.maxsi (IntOp.subi (IntOp.addi (BitVec.ofNat 32 n.val) 1#32) (BitVec.ofNat 32 (2 ^ (g.val + 1)))) 0#32 = BitVec.ofNat 32 (n.val + 1 - 2 ^ (g.val + 1)) := by
  decide +kernel

theorem start_word (g : Fin 4) (n : Fin 2048) {s : BitVec 32}
    (h : s = IntOp.maxsi (IntOp.subi (IntOp.addi (BitVec.ofNat 32 n.val) 1#32) (BitVec.ofNat 32 (2 ^ (g.val + 1)))) 0#32) :
    Scalar.select (IntOp.cmpi .slt s 0#32) (IntOp.addi s 2049#32) s = BitVec.ofNat 32 (n.val + 1 - 2 ^ (g.val + 1)) := by
  have hn := n.isLt
  rw [h, first_word, show (0#32) = BitVec.ofNat 32 0 from rfl, cmpi_slt_ofNat ((Nat.sub_le _ _).trans_lt (by omega)) (by omega), select_decide, if_neg (Nat.not_lt_zero _)]

theorem cnt_word : ∀ (g : Fin 4) (n : Fin 2048),
    (IntOp.subi (IntOp.addi (BitVec.ofNat 32 n.val) 1#32) (BitVec.ofNat 32 (n.val + 1 - 2 ^ (g.val + 1)))) = BitVec.ofNat 32 (min (n.val + 1) (2 ^ (g.val + 1))) := by
  decide +kernel

theorem count_word (g : Fin 4) (n : Fin 2048) {s : BitVec 32}
    (h : s = IntOp.maxsi (IntOp.subi (IntOp.addi (BitVec.ofNat 32 n.val) 1#32) (BitVec.ofNat 32 (2 ^ (g.val + 1)))) 0#32) :
    (FloatOps.sitofp (F := Ideal) .f32 (IntOp.subi (IntOp.addi (BitVec.ofNat 32 n.val) 1#32) s) : EReal) = cnt (2 ^ (g.val + 1)) n.val := by
  have hn := n.isLt
  rw [h, first_word, cnt_word]
  show (((BitVec.ofNat 32 _).toInt : ℝ) : EReal) = _
  rw [toInt_ofNat_of_lt ((Nat.min_le_left _ _).trans_lt (by omega))]
  rfl

/-- Row `1 + i` of the scatter: only row `i + w` has it as its first row. -/
theorem scatter_row (w : ℕ) (x : FVec Ideal S2049x128 .f32) (hx : ∀ p, x p = (0 : EReal)) (idx : IVec S2048x1 32) (hidx : ∀ n : Fin 2048, idx (ix2 n 0) = BitVec.ofNat 32 (n.val + 1 - w))
    (upd : FVec Ideal S2048x128 .f32) (f : Fin 2048 → EReal) (z : Fin 128) (hu : ∀ n, upd (ix2 n z) = - f n) (i : Fin 2048) (p : Fin 2049) (hp : p.val = 1 + i.val) :
    Host.scatterAdd (F := Ideal) scatter_S2049x128_S2048x1_S2048x128_1_0_0_1 x idx upd (ix2 p z) = - ext f (i.val + w) := by
  have e (n : Fin 2048) : (if (idx (ix2 n 0)).toInt = p.val then (upd (ix2 n z) : EReal) else 0) = if n.val = i.val + w then - f n else 0 := by
    have hn := n.isLt
    have hi : (idx (ix2 n 0)).toInt = p.val ↔ n.val = i.val + w := by
      rw [hidx, toInt_ofNat_of_lt (by omega)]
      omega
    exact if_congr hi (hu n) rfl
  refine (scatter_at x idx upd p z).trans ?_
  rw [hx, zero_add, Finset.sum_congr rfl fun n _ => e n]
  unfold ext
  split
  · next h =>
    refine (Finset.sum_congr rfl fun n _ => if_congr (show n.val = i.val + w ↔ n = ⟨i.val + w, h⟩ from ⟨fun e => Fin.ext e, fun e => congrArg Fin.val e⟩) rfl rfl).trans ?_
    exact Fintype.sum_ite_eq' _ _
  · next h => exact (Finset.sum_eq_zero fun n _ => if_neg (by have := n.isLt; omega)).trans (neg_zero).symm

variable (x5 : (⟨S2048x512, .f32⟩ : BufTy).Contents (Elt Ideal))

/-- A column of the pooled values' gradient. -/
def column (l : Fin 512) (i : Fin 2048) : EReal := x5 (ix2 i l)

theorem start_two (n : Fin 2048) : val_main_v29 (F := Ideal) (ix2 n 0) = BitVec.ofNat 32 (n.val + 1 - 2) := by
  pointwise [val_main_v29, val_main_v28, val_main_v25, val_main_v17, val_main_v15, val_main_v13, val_main_v11, val_main_v12, val_main_c, val_main_v14, val_main_c_2, val_main_v16, val_main_c_3, val_main_v24, val_main_c_5, val_main_v27, val_main_v26, val_main_c_6]
  exact start_word 0 n rfl

theorem count_two (n : Fin 2048) (z : Fin 1) : val_main_v32 (F := Ideal) (ix2 n z) = cnt 2 n.val := by
  pointwise [val_main_v32, val_main_v21, val_main_v20, val_main_v19, val_main_v11, val_main_v18, val_main_c_4, val_main_v17, val_main_v15, val_main_v13, val_main_v12, val_main_c, val_main_v14, val_main_c_2, val_main_v16, val_main_c_3]
  exact count_word 0 n rfl

theorem sent_two (i : Fin 2048) (z : Fin 128) : val_main_v157 (F := Ideal) x5 (ix2 i z) = sent 2 (column x5 ⟨0 + z.val, by omega⟩) i := by
  have h := count_two i 0
  pointwise [val_main_v157, val_main_v115, val_main_v156]
  refine congrArg₂ Ideal.div (congrArg x5 (congrArg (ix2 i) (Fin.ext (by simp)))) h

theorem scatter_two (i : Fin 2048) (z : Fin 128) (p : Fin 2049) (hp : p.val = 1 + i.val) :
    val_main_v160 (F := Ideal) x5 (ix2 p z) = - ext (sent 2 (column x5 ⟨0 + z.val, by omega⟩)) (i.val + 2) :=
  scatter_row 2 _ (fun p => Ideal.ofBits_zero_f32) _ start_two _ _ z (fun n => congrArg (fun e : EReal => - e) (sent_two x5 n z)) i p hp

theorem start_four (n : Fin 2048) : val_main_v54 (F := Ideal) (ix2 n 0) = BitVec.ofNat 32 (n.val + 1 - 4) := by
  pointwise [val_main_v54, val_main_v53, val_main_v50, val_main_v42, val_main_v40, val_main_v38, val_main_v11, val_main_v37, val_main_c_7, val_main_v39, val_main_c_8, val_main_v41, val_main_c_9, val_main_v49, val_main_c_11, val_main_v52, val_main_v51, val_main_c_12]
  exact start_word 1 n rfl

theorem count_four (n : Fin 2048) (z : Fin 1) : val_main_v57 (F := Ideal) (ix2 n z) = cnt 4 n.val := by
  pointwise [val_main_v57, val_main_v46, val_main_v45, val_main_v44, val_main_v11, val_main_v43, val_main_c_10, val_main_v42, val_main_v40, val_main_v38, val_main_v37, val_main_c_7, val_main_v39, val_main_c_8, val_main_v41, val_main_c_9]
  exact count_word 1 n rfl

theorem sent_four (i : Fin 2048) (z : Fin 128) : val_main_v145 (F := Ideal) x5 (ix2 i z) = sent 4 (column x5 ⟨128 + z.val, by omega⟩) i := by
  have h := count_four i 0
  pointwise [val_main_v145, val_main_v116, val_main_v144]
  refine congrArg₂ Ideal.div (congrArg x5 (congrArg (ix2 i) (Fin.ext (by simp)))) h

theorem scatter_four (i : Fin 2048) (z : Fin 128) (p : Fin 2049) (hp : p.val = 1 + i.val) :
    val_main_v148 (F := Ideal) x5 (ix2 p z) = - ext (sent 4 (column x5 ⟨128 + z.val, by omega⟩)) (i.val + 4) :=
  scatter_row 4 _ (fun p => Ideal.ofBits_zero_f32) _ start_four _ _ z (fun n => congrArg (fun e : EReal => - e) (sent_four x5 n z)) i p hp

theorem start_eight (n : Fin 2048) : val_main_v79 (F := Ideal) (ix2 n 0) = BitVec.ofNat 32 (n.val + 1 - 8) := by
  pointwise [val_main_v79, val_main_v78, val_main_v75, val_main_v67, val_main_v65, val_main_v63, val_main_v11, val_main_v62, val_main_c_13, val_main_v64, val_main_c_14, val_main_v66, val_main_c_15, val_main_v74, val_main_c_17, val_main_v77, val_main_v76, val_main_c_18]
  exact start_word 2 n rfl

theorem count_eight (n : Fin 2048) (z : Fin 1) : val_main_v82 (F := Ideal) (ix2 n z) = cnt 8 n.val := by
  pointwise [val_main_v82, val_main_v71, val_main_v70, val_main_v69, val_main_v11, val_main_v68, val_main_c_16, val_main_v67, val_main_v65, val_main_v63, val_main_v62, val_main_c_13, val_main_v64, val_main_c_14, val_main_v66, val_main_c_15]
  exact count_word 2 n rfl

theorem sent_eight (i : Fin 2048) (z : Fin 128) : val_main_v133 (F := Ideal) x5 (ix2 i z) = sent 8 (column x5 ⟨256 + z.val, by omega⟩) i := by
  have h := count_eight i 0
  pointwise [val_main_v133, val_main_v117, val_main_v132]
  refine congrArg₂ Ideal.div (congrArg x5 (congrArg (ix2 i) (Fin.ext (by simp)))) h

theorem scatter_eight (i : Fin 2048) (z : Fin 128) (p : Fin 2049) (hp : p.val = 1 + i.val) :
    val_main_v136 (F := Ideal) x5 (ix2 p z) = - ext (sent 8 (column x5 ⟨256 + z.val, by omega⟩)) (i.val + 8) :=
  scatter_row 8 _ (fun p => Ideal.ofBits_zero_f32) _ start_eight _ _ z (fun n => congrArg (fun e : EReal => - e) (sent_eight x5 n z)) i p hp

theorem start_sixteen (n : Fin 2048) : val_main_v104 (F := Ideal) (ix2 n 0) = BitVec.ofNat 32 (n.val + 1 - 16) := by
  pointwise [val_main_v104, val_main_v103, val_main_v100, val_main_v92, val_main_v90, val_main_v88, val_main_v11, val_main_v87, val_main_c_19, val_main_v89, val_main_c_20, val_main_v91, val_main_c_21, val_main_v99, val_main_c_23, val_main_v102, val_main_v101, val_main_c_24]
  exact start_word 3 n rfl

theorem count_sixteen (n : Fin 2048) (z : Fin 1) : val_main_v107 (F := Ideal) (ix2 n z) = cnt 16 n.val := by
  pointwise [val_main_v107, val_main_v96, val_main_v95, val_main_v94, val_main_v11, val_main_v93, val_main_c_22, val_main_v92, val_main_v90, val_main_v88, val_main_v87, val_main_c_19, val_main_v89, val_main_c_20, val_main_v91, val_main_c_21]
  exact count_word 3 n rfl

theorem sent_sixteen (i : Fin 2048) (z : Fin 128) : val_main_v122 (F := Ideal) x5 (ix2 i z) = sent 16 (column x5 ⟨384 + z.val, by omega⟩) i := by
  have h := count_sixteen i 0
  pointwise [val_main_v122, val_main_v118, val_main_v121]
  refine congrArg₂ Ideal.div (congrArg x5 (congrArg (ix2 i) (Fin.ext (by simp)))) h

theorem scatter_sixteen (i : Fin 2048) (z : Fin 128) (p : Fin 2049) (hp : p.val = 1 + i.val) :
    val_main_v125 (F := Ideal) x5 (ix2 p z) = - ext (sent 16 (column x5 ⟨384 + z.val, by omega⟩)) (i.val + 16) :=
  scatter_row 16 _ (fun p => Ideal.ofBits_zero_f32) _ start_sixteen _ _ z (fun n => congrArg (fun e : EReal => - e) (sent_sixteen x5 n z)) i p hp

/-- What one row of the running sum's argument holds. -/
theorem change_at (i : Fin 2048) (l : Fin 512) : val_main_v166 (F := Ideal) x5 (ix2 i l)
    = - ext (sent (width l.val) (column x5 l)) (i.val + width l.val) + sent (width l.val) (column x5 l) i := by
  have hi := i.isLt
  have hl := l.isLt
  pointwise [val_main_v166, val_main_v164, val_main_v162, val_main_v152, val_main_v150, val_main_v140, val_main_v138, val_main_v128, val_main_v126, val_main_cst_28, val_main_v127, val_main_cst_29, val_main_v137, val_main_cst_32, val_main_v139, val_main_cst_33, val_main_v149, val_main_cst_36, val_main_v151, val_main_cst_37, val_main_v161, val_main_cst_40, val_main_v163, val_main_cst_41]
  have hg : l.val / 128 = 0 ∨ l.val / 128 = 1 ∨ l.val / 128 = 2 ∨ l.val / 128 = 3 := by omega
  have hc (k : ℕ) (h) (e : k = l.val) : (⟨k, h⟩ : Fin 512) = l := Fin.ext e
  rcases hg with hg | hg | hg | hg
  · simp (disch := omega) only [dif_pos, dif_neg, zero_add, add_zero, Ideal.ofBits_zero_f32]
    rw [width, hg]
    refine congrArg₂ (fun a b : EReal => a + b) ((scatter_two x5 i _ _ rfl).trans ?_) ((sent_two x5 i _).trans ?_) <;> (simp (disch := omega) only [hc]; rfl)
  · simp (disch := omega) only [dif_pos, dif_neg, zero_add, add_zero, Ideal.ofBits_zero_f32]
    rw [width, hg]
    refine congrArg₂ (fun a b : EReal => a + b) ((scatter_four x5 i _ _ rfl).trans ?_) ((sent_four x5 i _).trans ?_) <;> (simp (disch := omega) only [hc]; rfl)
  · simp (disch := omega) only [dif_pos, dif_neg, zero_add, add_zero, Ideal.ofBits_zero_f32]
    rw [width, hg]
    refine congrArg₂ (fun a b : EReal => a + b) ((scatter_eight x5 i _ _ rfl).trans ?_) ((sent_eight x5 i _).trans ?_) <;> (simp (disch := omega) only [hc]; rfl)
  · simp (disch := omega) only [dif_pos, dif_neg, zero_add, add_zero, Ideal.ofBits_zero_f32]
    rw [width, hg]
    refine congrArg₂ (fun a b : EReal => a + b) ((scatter_sixteen x5 i _ _ rfl).trans ?_) ((sent_sixteen x5 i _).trans ?_) <;> (simp (disch := omega) only [hc]; rfl)

theorem own_at (r : Fin 2048) (l : Fin 512) : val_main_v155 (F := Ideal) x5 (ix2 r l) = - column x5 l r := by
  have hl := l.isLt
  pointwise [val_main_v155, val_main_v143, val_main_v131, val_main_v120, val_main_v119, val_main_v118, val_main_cst_26, val_main_v130, val_main_v129, val_main_v117, val_main_cst_30, val_main_v142, val_main_v141, val_main_v116, val_main_cst_34, val_main_v154, val_main_v153, val_main_v115, val_main_cst_38]
  have hg : l.val / 128 = 0 ∨ l.val / 128 = 1 ∨ l.val / 128 = 2 ∨ l.val / 128 = 3 := by omega
  have hc (k : ℕ) (hk : k ≤ l.val) (h) : (⟨k + (l.val - k), h⟩ : Fin 512) = l := Fin.ext (by simp only; omega)
  rcases hg with hg | hg | hg | hg <;> simp (disch := omega) only [dif_pos, dif_neg, zero_add, add_zero, Ideal.ofBits_zero_f32, hc] <;> rfl

/-- The running means' gradient. -/
theorem mean_at (h5 : ∀ i, IsReal (x5 i)) (r : Fin 2048) (l : Fin 512) : val_main_v168 (F := Ideal) x5 (ix2 r l) = mean (width l.val) (column x5 l) r := by
  refine congrArg₂ (fun a b : EReal => a + b) (own_at x5 r l) ?_
  refine (later_at (Rm1 := 2047) rfl (val_main_v166 (F := Ideal) x5) (val_main_call1_v0 (F := Ideal)) (funext fun _ => Ideal.ofBits_zero_f32) _ _ r l).trans ?_
  rw [show (fun i => val_main_v166 (F := Ideal) x5 (ix2 i l)) = _ from funext fun i => change_at x5 i l]
  exact later_sum _ (sent_real (by unfold width; positivity) fun i => h5 _) r

variable (x1 : (⟨S1024x4096, .f32⟩ : BufTy).Contents (Elt Ideal)) (x2 x3 x4 : (⟨S2048x512, .f32⟩ : BufTy).Contents (Elt Ideal)) (x6 : (⟨S2048x2048, .f32⟩ : BufTy).Contents (Elt Ideal)) (x7 : (⟨S2048x1024, .f32⟩ : BufTy).Contents (Elt Ideal))

/-- The gradient of the projections' results side by side: queries, keys, values, pooled values, gates. -/
def side (r : Fin 2048) (j : Fin 4096) : EReal :=
  if h0 : j.val < 512 then x2 (ix2 r ⟨j.val, h0⟩)
  else if h1 : j.val < 1024 then x3 (ix2 r ⟨j.val - 512, by omega⟩)
  else if h2 : j.val < 1536 then x4 (ix2 r ⟨j.val - 1024, by omega⟩)
  else if h3 : j.val < 2048 then mean (width (j.val - 1536)) (column x5 ⟨j.val - 1536, by omega⟩) r
  else x6 (ix2 r ⟨j.val - 2048, by omega⟩)

theorem side_at (h5 : ∀ i, IsReal (x5 i)) (r : Fin 2048) (j : Fin 4096) : val_main_v176 (F := Ideal) x2 x3 x4 x5 x6 (ix2 r j) = side x5 x2 x3 x4 x6 r j := by
  have hj := j.isLt
  unfold side
  pointwise [val_main_v176, val_main_v174, val_main_v172, val_main_v170, val_main_v114, val_main_cst_25, val_main_v169, val_main_cst_42, val_main_v171, val_main_cst_43, val_main_v173, val_main_cst_44, val_main_v175, val_main_cst_45]
  have hg : j.val < 512 ∨ (512 ≤ j.val ∧ j.val < 1024) ∨ (1024 ≤ j.val ∧ j.val < 1536) ∨ (1536 ≤ j.val ∧ j.val < 2048) ∨ 2048 ≤ j.val := by omega
  rcases hg with hg | hg | hg | hg | hg <;> simp (disch := omega) only [dif_pos, dif_neg, zero_add, add_zero, Ideal.ofBits_zero_f32, mean_at x5 h5, Nat.sub_zero]

/-- The same, as the reference gives it out. -/
theorem given_at (h5 : ∀ i, IsReal (x5 i)) (r : Fin 2048) (j : Fin 4096) : val_main_v181 (F := Ideal) x2 x3 x4 x5 x6 (ix2 r j) = side x5 x2 x3 x4 x6 r j :=
  side_at x5 x2 x3 x4 x6 h5 r j

/-- The projections' part of the input's gradient, and its part through the residual. -/
theorem input_at (h5 : ∀ i, IsReal (x5 i)) (r : Fin 2048) (k : Fin 1024) : val_main_v180 (F := Ideal) x1 x2 x3 x4 x5 x6 x7 (ix2 r k)
    = (∑ j : Fin 4096, side x5 x2 x3 x4 x6 r j * x1 (ix2 k j)) + FloatOps.ofBits (F := Ideal) .f32 1066940400#32 * x7 (ix2 r k) := by
  have e (j : Fin 4096) := side_at x5 x2 x3 x4 x6 h5 r j
  pointwise [val_main_v180, val_main_v177, val_main_v179, val_main_v178, val_main_cst_46]
  simp only [e]

end Cert.InpGradIdeal.Rows
end
-- ==== Proof.InpEntry.lean ====
module

public import proofs.«01_k».proof.Proof.InpRows
public import proofs.«01_k».proof.Proof.InpGrads
public import Idealize.ShloMosaic.Lib.Pipeline.ValueKit
public import Idealize.ShloMosaic.Lib.Pointwise
public import Idealize.ShloMosaic.Lib.Claim

/-!
The arrays the running-mean gradient kernel reads, block by block.
-/

@[expose] public section

set_option maxRecDepth 16384

noncomputable section

open Idealize.ShloMosaic Idealize.ShloMosaic.TcCoe Idealize.SL.Sem

namespace Cert.InpIdeal.Value
open Cert.InpIdeal Cert.InpIdeal.Gen Cert.InpMean Cert.Reals

variable (m : (ℓ : Loc nD τ sig) → Buf (Elt Ideal) ℓ)

theorem dq_entry (c : Dev nD) : V m c main_v3 = (m ((c : Thread nD τ).loc main_arg2)) := by
  entry_read
  rfl

theorem dk_entry (c : Dev nD) : V m c main_v4 = (m ((c : Thread nD τ).loc main_arg3)) := by
  entry_read
  rfl

theorem dv_entry (c : Dev nD) : V m c main_v5 = (m ((c : Thread nD τ).loc main_arg4)) := by
  entry_read
  rfl

theorem dzg_entry (c : Dev nD) : V m c main_v6 = (m ((c : Thread nD τ).loc main_arg6)) := by
  entry_read
  rfl

theorem win_entry (c : Dev nD) (n : Fin 8) (k : Fin 1024) (d : Fin 512) : V m c main_v2 (ix3 n k d) = (m ((c : Thread nD τ).loc main_arg1)) (ix2 k ⟨512 * n.val + d.val, by omega⟩) := by
  entry_read
  generalize (m ((c : Thread nD τ).loc main_arg1)) = y
  pointwise []
  exact congrArg y (congrArg (ix2 k) (Fin.ext (show n.val * 512 + d.val = 512 * n.val + d.val by omega)))

/-- The row of the whole array at row `r` of tile `t`. -/
abbrev place (t : Fin cfg0.N) (r : Fin 256) : Fin 2048 := ⟨256 * t.val + r.val, by have := t.isLt.trans_le (le_of_eq N_0); omega⟩

theorem coord : ∀ t : Fin cfg0.N, (grid0.coords t 0).val = t.val := by decide +kernel

theorem idx : ∀ t : Fin cfg0.N, win0_0.index t = ![t.val, 0] ∧ win0_1.index t = ![t.val, 0] ∧ win0_2.index t = ![t.val, 0] ∧ win0_3.index t = ![t.val, 0] ∧ win0_4.index t = ![min ((t.val + 1) * 16) 127, 0]
    ∧ win0_5.index t = ![t.val, 0] ∧ win0_6.index t = ![t.val, 0] ∧ win0_7.index t = ![0, 0, 0] ∧ win0_8.index t = ![t.val, 0] ∧ win0_9.index t = ![t.val, 0] := by decide +kernel

variable (c : Dev nD) (t : Fin cfg0.N) (r : Fin 256)

theorem dq_block (l : Fin 512) : iblk m c 0 t (ix2 r l) = (m ((c : Thread nD τ).loc main_arg2)) (ix2 (place t r) l) := by
  rw [← dq_entry m c]
  unfold iblk; blk_simp; generalize V m c main_v3 = y; refine congrArg y ?_; blk_ext [place, idx t]

theorem dk_block (l : Fin 512) : iblk m c 1 t (ix2 r l) = (m ((c : Thread nD τ).loc main_arg3)) (ix2 (place t r) l) := by
  rw [← dk_entry m c]
  unfold iblk; blk_simp; generalize V m c main_v4 = y; refine congrArg y ?_; blk_ext [place, idx t]

theorem dv_block (l : Fin 512) : iblk m c 2 t (ix2 r l) = (m ((c : Thread nD τ).loc main_arg4)) (ix2 (place t r) l) := by
  rw [← dv_entry m c]
  unfold iblk; blk_simp; generalize V m c main_v5 = y; refine congrArg y ?_; blk_ext [place, idx t]

theorem dzg_block (l : Fin 2048) : iblk m c 5 t (ix2 r l) = (m ((c : Thread nD τ).loc main_arg6)) (ix2 (place t r) l) := by
  rw [← dzg_entry m c]
  unfold iblk; blk_simp; generalize V m c main_v6 = y; refine congrArg y ?_; blk_ext [place, idx t]

theorem ct_block (l : Fin 512) : iblk m c 3 t (ix2 r l) = (m ((c : Thread nD τ).loc main_arg5)) (ix2 (place t r) l) := by
  blk_point [iblk, V_main_arg5, place, idx t]

theorem dr_block (l : Fin 1024) : iblk m c 6 t (ix2 r l) = (m ((c : Thread nD τ).loc main_arg7)) (ix2 (place t r) l) := by
  blk_point [iblk, V_main_arg7, place, idx t]

/-- The next block's first rows, where there is a next block. -/
theorem next_block (ht : t.val < 7) (q : Fin 16) (l : Fin 512) : iblk m c 4 t (ix2 q l) = (m ((c : Thread nD τ).loc main_arg5)) (ix2 ⟨256 * t.val + (256 + q.val), by omega⟩ l) := by
  have h := (idx t).2.2.2.2.1
  rw [Nat.min_eq_left (by omega)] at h
  blk_point [iblk, V_main_arg5, place, h]

theorem win_block (n : Fin 8) (k : Fin 1024) (d : Fin 512) : iblk m c 7 t (ix3 n k d) = (m ((c : Thread nD τ).loc main_arg1)) (ix2 k ⟨512 * n.val + d.val, by omega⟩) := by
  rw [← win_entry m c n k d]
  unfold iblk; blk_simp; generalize V m c main_v2 = y; refine congrArg y ?_; blk_ext [place, idx t]

end Cert.InpIdeal.Value
end
-- ==== Proof.InpPool.lean ====
module

public import proofs.«01_k».proof.Proof.InpRows
public import Idealize.ShloMosaic.Lib.Pipeline.ValueKit
public import Idealize.ShloMosaic.Lib.Pointwise
public import Idealize.ShloMosaic.Lib.Claim

/-!
One block of the running-mean gradient's kernel: the sums over a mean's rows, and the products with the projections.
-/

@[expose] public section

set_option maxRecDepth 16384

noncomputable section

open Idealize.ShloMosaic Idealize.ShloMosaic.TcCoe Idealize.SL.Sem

namespace Cert.InpIdeal.Value
open Cert.InpIdeal Cert.InpIdeal.Gen Cert.InpMean Cert.Reals

variable (v0 : Vec Ideal S256x512 .f32) (y : EReal) (f : ℕ → EReal) (r : Fin 256) (z : Fin 128)

theorem pool_two {l0 l1 : Vec Ideal S256x128 .f32} (hy : v0 (ix2 r ⟨0 + z.val, by omega⟩) = y) (h0 : l0 (ix2 r z) = f 0) (h1 : l1 (ix2 r z) = f 1) :
    k0_pay14 (F := Ideal) v0 l0 l1 (ix2 r z) = - y + ∑ k ∈ Finset.range 2, f k := by
  have hc : v0 (ix2 r ⟨z.val, by omega⟩) = y := (congrArg v0 (congrArg (ix2 r) (Fin.ext (by simp)))).trans hy
  pointwise [k0_pay14]
  rw [h0, h1]
  simp only [Finset.sum_range_succ, Finset.sum_range_zero, zero_add, sub_eq_add_neg]
  refine (congrArg (fun e : EReal => (f 0 + -e) + f 1) hc).trans ?_
  ac_rfl

theorem pool_four {l0 l1 l2 l3 : Vec Ideal S256x128 .f32} (hy : v0 (ix2 r ⟨128 + z.val, by omega⟩) = y) (h0 : l0 (ix2 r z) = f 0) (h1 : l1 (ix2 r z) = f 1) (h2 : l2 (ix2 r z) = f 2) (h3 : l3 (ix2 r z) = f 3) :
    k0_pay15 (F := Ideal) v0 l0 l1 l2 l3 (ix2 r z) = - y + ∑ k ∈ Finset.range 4, f k := by
  have hc : v0 (ix2 r ⟨128 + z.val, by omega⟩) = y := (congrArg v0 (congrArg (ix2 r) (Fin.ext (by simp)))).trans hy
  pointwise [k0_pay15]
  rw [h0, h1, h2, h3]
  simp only [Finset.sum_range_succ, Finset.sum_range_zero, zero_add, sub_eq_add_neg]
  refine (congrArg (fun e : EReal => (((f 0 + -e) + f 1) + f 2) + f 3) hc).trans ?_
  ac_rfl

theorem pool_eight {l0 l1 l2 l3 l4 l5 l6 l7 : Vec Ideal S256x128 .f32} (hy : v0 (ix2 r ⟨256 + z.val, by omega⟩) = y) (h0 : l0 (ix2 r z) = f 0) (h1 : l1 (ix2 r z) = f 1) (h2 : l2 (ix2 r z) = f 2) (h3 : l3 (ix2 r z) = f 3) (h4 : l4 (ix2 r z) = f 4) (h5 : l5 (ix2 r z) = f 5) (h6 : l6 (ix2 r z) = f 6) (h7 : l7 (ix2 r z) = f 7) :
    k0_pay17 (F := Ideal) (k0_pay16 v0 l0 l1 l2) l3 l4 l5 l6 l7 (ix2 r z) = - y + ∑ k ∈ Finset.range 8, f k := by
  have hc : v0 (ix2 r ⟨256 + z.val, by omega⟩) = y := (congrArg v0 (congrArg (ix2 r) (Fin.ext (by simp)))).trans hy
  pointwise [k0_pay17, k0_pay16]
  rw [h0, h1, h2, h3, h4, h5, h6, h7]
  simp only [Finset.sum_range_succ, Finset.sum_range_zero, zero_add, sub_eq_add_neg]
  refine (congrArg (fun e : EReal => (((((((f 0 + -e) + f 1) + f 2) + f 3) + f 4) + f 5) + f 6) + f 7) hc).trans ?_
  ac_rfl

theorem pool_sixteen {l0 l1 l2 l3 l4 l5 l6 l7 l8 l9 l10 l11 l12 l13 l14 l15 : Vec Ideal S256x128 .f32} (hy : v0 (ix2 r ⟨384 + z.val, by omega⟩) = y) (h0 : l0 (ix2 r z) = f 0) (h1 : l1 (ix2 r z) = f 1) (h2 : l2 (ix2 r z) = f 2) (h3 : l3 (ix2 r z) = f 3) (h4 : l4 (ix2 r z) = f 4) (h5 : l5 (ix2 r z) = f 5) (h6 : l6 (ix2 r z) = f 6) (h7 : l7 (ix2 r z) = f 7) (h8 : l8 (ix2 r z) = f 8) (h9 : l9 (ix2 r z) = f 9) (h10 : l10 (ix2 r z) = f 10) (h11 : l11 (ix2 r z) = f 11) (h12 : l12 (ix2 r z) = f 12) (h13 : l13 (ix2 r z) = f 13) (h14 : l14 (ix2 r z) = f 14) (h15 : l15 (ix2 r z) = f 15) :
    k0_pay19 (F := Ideal) (k0_pay18 v0 l0 l1 l2 l3 l4 l5 l6 l7 l8) l9 l10 l11 l12 l13 l14 l15 (ix2 r z) = - y + ∑ k ∈ Finset.range 16, f k := by
  have hc : v0 (ix2 r ⟨384 + z.val, by omega⟩) = y := (congrArg v0 (congrArg (ix2 r) (Fin.ext (by simp)))).trans hy
  pointwise [k0_pay19, k0_pay18]
  rw [h0, h1, h2, h3, h4, h5, h6, h7, h8, h9, h10, h11, h12, h13, h14, h15]
  simp only [Finset.sum_range_succ, Finset.sum_range_zero, zero_add, sub_eq_add_neg]
  refine (congrArg (fun e : EReal => (((((((((((((((f 0 + -e) + f 1) + f 2) + f 3) + f 4) + f 5) + f 6) + f 7) + f 8) + f 9) + f 10) + f 11) + f 12) + f 13) + f 14) + f 15) hc).trans ?_
  ac_rfl

/-- Of the product's row `r` and column `k`, the arrays `d` and `w` hold the factors of part `n`. -/
def Part (D E : Fin 4096 → EReal) (r : Fin 256) (k : Fin 1024) (n : Fin 8) (d : Vec Ideal S256x512 .bf16) (w : Vec Ideal S1x1024x512 .bf16) : Prop :=
  ∀ x : Fin 512, d (ix2 r x) = D ⟨n.val * 512 + x.val, by omega⟩ ∧ w (ix3 0 k x) = E ⟨n.val * 512 + x.val, by omega⟩

theorem Part.sum {D E : Fin 4096 → EReal} {r : Fin 256} {k : Fin 1024} {n : Fin 8} {d : Vec Ideal S256x512 .bf16} {w : Vec Ideal S1x1024x512 .bf16} (h : Part D E r k n d w) :
    (∑ x : Fin 512, d (ix2 r x) * w (ix3 0 k x) : EReal) = ∑ x : Fin 512, D ⟨n.val * 512 + x.val, by omega⟩ * E ⟨n.val * 512 + x.val, by omega⟩ :=
  Finset.sum_congr rfl fun x _ => congrArg₂ (fun a b : EReal => a * b) (h x).1 (h x).2

/-- The product with all the projections at once, from the products with each. -/
theorem project (v6 : Vec Ideal S256x1024 .f32) {d0 d1 d2 d3 d4 d5 d6 d7 : Vec Ideal S256x512 .bf16} {w0 w1 w2 w3 w4 w5 w6 w7 : Vec Ideal S1x1024x512 .bf16} (D E : Fin 4096 → EReal) (r : Fin 256) (k : Fin 1024)
    (h0 : Part D E r k 0 d0 w0) (h1 : Part D E r k 1 d1 w1) (h2 : Part D E r k 2 d2 w2) (h3 : Part D E r k 3 d3 w3) (h4 : Part D E r k 4 d4 w4) (h5 : Part D E r k 5 d5 w5) (h6 : Part D E r k 6 d6 w6) (h7 : Part D E r k 7 d7 w7) :
    k0_pay1 (F := Ideal) (k0_pay24 v6 d0 w0 d1 w1 d2 w2 d3 w3) d4 w4 d5 w5 d6 w6 d7 w7 (ix2 r k)
      = (∑ j : Fin 4096, D j * E j) + FloatOps.ofBits (F := Ideal) .f32 1066940400#32 * v6 (ix2 r k) := by
  have s : (∑ j : Fin 4096, D j * E j) = ∑ n : Fin 8, ∑ x : Fin 512, D ⟨n.val * 512 + x.val, by omega⟩ * E ⟨n.val * 512 + x.val, by omega⟩ :=
    (Fin.sum_mul_add_congr (S := 8) (n := 512) (L := 4096) (f := fun j => D j * E j) fun n x hl => rfl).symm
  rw [s, Fin.sum_univ_eight]
  pointwise [k0_pay1, k0_pay24]
  rw [h0.sum, h1.sum, h2.sum, h3.sum, h4.sum, h5.sum, h6.sum, h7.sum]
  ac_rfl

end Cert.InpIdeal.Value
end
-- ==== Proof.InpFinite.lean ====
module

public import proofs.«01_k».proof.Proof.Reals
public import proofs.«01_k».proof.Proof.InpMean
public import proofs.«01_k».proof.Proof.Gen.Pre_inp_finite
public import proofs.«01_k».proof.Proof.Gen.InpIdeal.Value
public import Idealize.ShloMosaic.Lib.Pipeline.ValueKit
public import Idealize.ShloMosaic.Lib.Pointwise
public import Idealize.ShloMosaic.Lib.Claim

/-!
What the precondition of the running-mean gradient's claim gives.
-/

@[expose] public section

set_option maxRecDepth 16384

noncomputable section

open Idealize.ShloMosaic Idealize.ShloMosaic.TcCoe Idealize.SL.Sem

namespace Cert.InpIdeal.Value
open Cert.InpIdeal Cert.InpIdeal.Gen Cert.InpMean Cert.Reals

/-- A finite pooled gradient is made of real numbers. -/
theorem finite_args (x0 : (⟨S2048x1024, .f32⟩ : BufTy).Contents (Elt Ideal)) (x1 : (⟨S1024x4096, .f32⟩ : BufTy).Contents (Elt Ideal)) (x2 : (⟨S2048x512, .f32⟩ : BufTy).Contents (Elt Ideal)) (x3 : (⟨S2048x512, .f32⟩ : BufTy).Contents (Elt Ideal)) (x4 : (⟨S2048x512, .f32⟩ : BufTy).Contents (Elt Ideal)) (x5 : (⟨S2048x512, .f32⟩ : BufTy).Contents (Elt Ideal)) (x6 : (⟨S2048x2048, .f32⟩ : BufTy).Contents (Elt Ideal)) (x7 : (⟨S2048x1024, .f32⟩ : BufTy).Contents (Elt Ideal))
    (h : Cert.Pre_inp_finite.fn (F := Ideal) x0 x1 x2 x3 x4 x5 x6 x7 = fun _ => 1#1) : ∀ i, IsReal (x5 i) := by
  have e := congrFun h (Shape.Idx.first (by decide))
  unfold Cert.Pre_inp_finite.fn at e
  exact of_all x5 _ _ (fun _ => rfl) _ _ _ e

end Cert.InpIdeal.Value
end
-- ==== Proof.AttnStores.lean ====
module

public import Idealize.ShloMosaic.Lib.Pipeline.ValueKit
public import Idealize.ShloMosaic.Lib.Pipeline.ReadBack
public import Idealize.ShloMosaic.Lib.Pointwise
public import Idealize.ShloMosaic.Lib.MatmulPlain
/-!
Contents of a two-dimensional scratch buffer after a list of rectangular stores, at a row and a column:
what the last store covering that place wrote, and what a later load of a rectangle reads there.
-/
@[expose] public section

noncomputable section
open Idealize.ShloMosaic
namespace Cert.AttnIdeal.Stores

variable {N C : ℕ} {e : EltTy} {Val : EltTy → Type} [∀ e, Nonempty (Val e)]

/-- A place lies in a rectangle when both its coordinates do. -/
theorem emb_eq (a b n w : ℕ) (inb : ∀ i, (![a, b] : Fin 2 → ℕ) i + (![n, w] : Fin 2 → ℕ) i ≤ (⟨2, ![N, C]⟩ : Shape).size i)
    (y : Fin n) (x : Fin w) (k : Fin N) (r : Fin C) (hk : k.val = a + y.val) (hr : r.val = b + x.val) :
    (Rect.unit (s := ⟨2, ![N, C]⟩) ![a, b] ![n, w] inb).emb (ix2 y x) = ix2 k r := by
  funext i
  apply Fin.ext
  match i with
  | ⟨0, _⟩ => simpa [Rect.emb, Rect.unit, ix2] using hk.symm
  | ⟨1, _⟩ => simpa [Rect.emb, Rect.unit, ix2] using hr.symm

/-- The last store covers the place: its value is there. -/
theorem canon_hit (a b n w : ℕ) (inb : ∀ i, (![a, b] : Fin 2 → ℕ) i + (![n, w] : Fin 2 → ℕ) i ≤ (⟨2, ![N, C]⟩ : Shape).size i)
    (v : (Rect.unit (s := ⟨2, ![N, C]⟩) ![a, b] ![n, w] inb).shape.Idx → Val e)
    (L : List (View.Piece Val ⟨2, ![N, C]⟩ e)) (y : Fin n) (x : Fin w) (k : Fin N) (r : Fin C)
    (hk : k.val = a + y.val) (hr : r.val = b + x.val) :
    View.canon (⟨Rect.unit (s := ⟨2, ![N, C]⟩) ![a, b] ![n, w] inb, v⟩ :: L) (ix2 k r) = v (ix2 y x) := by
  rw [← emb_eq a b n w inb y x k r hk hr]
  exact View.canon_cons_emb _ _ _ _

/-- The last store misses the place: what was there before is there. -/
theorem canon_skip (a b n w : ℕ) (inb : ∀ i, (![a, b] : Fin 2 → ℕ) i + (![n, w] : Fin 2 → ℕ) i ≤ (⟨2, ![N, C]⟩ : Shape).size i)
    (v : (Rect.unit (s := ⟨2, ![N, C]⟩) ![a, b] ![n, w] inb).shape.Idx → Val e)
    (L : List (View.Piece Val ⟨2, ![N, C]⟩ e)) (k : Fin N) (r : Fin C)
    (h : ¬ ((a ≤ k.val ∧ k.val < a + n) ∧ (b ≤ r.val ∧ r.val < b + w))) :
    View.canon (⟨Rect.unit (s := ⟨2, ![N, C]⟩) ![a, b] ![n, w] inb, v⟩ :: L) (ix2 k r) = View.canon L (ix2 k r) := by
  refine View.canon_cons_of_not_mem _ _ fun hm => h ?_
  have hm := (Rect.mem_set_unit (s := ⟨2, ![N, C]⟩) (off := ![a, b]) (size := ![n, w]) (inb := inb) (i := ix2 k r)).mp hm
  exact ⟨hm 0, hm 1⟩

/-- The places where `P` holds contain `G`. -/
def Has (L : List (View.Piece Val ⟨2, ![N, C]⟩ e)) (G : Fin N → Fin C → Val e) (P : ℕ → ℕ → Prop) : Prop :=
  ∀ (k : Fin N) (r : Fin C), P k.val r.val → View.canon L (ix2 k r) = G k r

/-- One store more: it writes `G` where it goes, and `G` was already elsewhere. -/
theorem Has.cons {G : Fin N → Fin C → Val e} {P : ℕ → ℕ → Prop} {a b n w : ℕ}
    {inb : ∀ i, (![a, b] : Fin 2 → ℕ) i + (![n, w] : Fin 2 → ℕ) i ≤ (⟨2, ![N, C]⟩ : Shape).size i}
    {v : (Rect.unit (s := ⟨2, ![N, C]⟩) ![a, b] ![n, w] inb).shape.Idx → Val e}
    {L : List (View.Piece Val ⟨2, ![N, C]⟩ e)}
    (hv : ∀ (y : Fin n) (x : Fin w) (k : Fin N) (r : Fin C), k.val = a + y.val → r.val = b + x.val → P k.val r.val → v (ix2 y x) = G k r)
    (hL : Has L G fun k r => P k r ∧ ¬ ((a ≤ k ∧ k < a + n) ∧ (b ≤ r ∧ r < b + w))) :
    Has (⟨Rect.unit (s := ⟨2, ![N, C]⟩) ![a, b] ![n, w] inb, v⟩ :: L) G P := by
  intro k r hp
  by_cases h : (a ≤ k.val ∧ k.val < a + n) ∧ (b ≤ r.val ∧ r.val < b + w)
  · have hk : k.val = a + (⟨k.val - a, by omega⟩ : Fin n).val := by simp; omega
    have hr : r.val = b + (⟨r.val - b, by omega⟩ : Fin w).val := by simp; omega
    exact (canon_hit a b n w inb v L _ _ k r hk hr).trans (hv _ _ k r hk hr hp)
  · exact (canon_skip a b n w inb v L k r h).trans (hL k r ⟨hp, h⟩)

/-- Nothing is asked. -/
theorem Has.none {L : List (View.Piece Val ⟨2, ![N, C]⟩ e)} {G : Fin N → Fin C → Val e} {P : ℕ → ℕ → Prop}
    (h : ∀ k r, k < N → r < C → ¬ P k r) : Has L G P :=
  fun k r hp => absurd hp (h _ _ k.isLt r.isLt)

/-- A load of a rectangle. -/
theorem Has.load {sig : RefSig} {κ : Kind} {sp : Space} {L : List (View.Piece Val ⟨2, ![N, C]⟩ e)} {G : Fin N → Fin C → Val e} {P : ℕ → ℕ → Prop}
    (h : Has L G P) (v : View sig κ sp ⟨2, ![N, C]⟩ e) {a b n w : ℕ}
    {inb : ∀ i, (![a, b] : Fin 2 → ℕ) i + (![n, w] : Fin 2 → ℕ) i ≤ (⟨2, ![N, C]⟩ : Shape).size i}
    (y : Fin n) (x : Fin w) (k : Fin N) (r : Fin C) (hk : k.val = a + y.val) (hr : r.val = b + x.val) (hp : P k.val r.val) :
    v.readCov L (Rect.unit (s := ⟨2, ![N, C]⟩) ![a, b] ![n, w] inb).toLoadRect (ix2 y x) = G k r := by
  rw [View.readCov_eq_canon']
  refine Eq.trans ?_ (h k r hp)
  exact congrArg _ (emb_eq a b n w inb y x k r hk hr)

end Cert.AttnIdeal.Stores
end
-- ==== Proof.InpStores.lean ====
module

public import proofs.«01_k».proof.Proof.InpEntry
public import proofs.«01_k».proof.Proof.InpPool
public import proofs.«01_k».proof.Proof.InpFinite
public import proofs.«01_k».proof.Proof.AttnStores
public import Idealize.ShloMosaic.Lib.Pipeline.ValueKit
public import Idealize.ShloMosaic.Lib.Pointwise
public import Idealize.ShloMosaic.Lib.Claim

/-!
What the running-mean gradient's kernel keeps and gives out, block by block.
-/

@[expose] public section

set_option maxRecDepth 16384

noncomputable section

open Idealize.ShloMosaic Idealize.ShloMosaic.TcCoe Idealize.SL.Sem

namespace Cert.InpIdeal.Value
open Cert.InpIdeal Cert.InpIdeal.Gen Cert.InpMean Cert.Reals
open Cert.InpGradIdeal.Rows (column side ext given_at input_at)
open Cert.AttnIdeal.Stores

variable (m : (ℓ : Loc nD τ sig) → Buf (Elt Ideal) ℓ) (c : Dev nD) (t : Fin cfg0.N)

/-- What the rows of one column send, from a block's first row on. -/
abbrev sends (l : Fin 512) (i : ℕ) : EReal := ext (sent (width l.val) (column (m ((c : Thread nD τ).loc main_arg5)) l)) (256 * t.val + i)

/-- What a block keeps: what its rows send, and what the next block's first rows do. -/
def kept : List (View.Piece (Elt Ideal) S272x512 .f32) :=
  [⟨Rect.unit ![256, 384] ![16, 128] inb_S272x512_S16x128_256_384, k0_pay13 (F := Ideal) (k0_pay11 (F := Ideal) (k0_pay2 (F := Ideal) (grid0.coords t) (iblk m c 4 t))) (k0_pay12 (F := Ideal) (BitVec.ofNat 32 ↑(grid0.coords t 0)))⟩,
    ⟨Rect.unit ![0, 384] ![256, 128] inb_S272x512_S256x128_0_384, k0_pay10 (F := Ideal) (BitVec.ofNat 32 ↑(grid0.coords t 0)) (iblk m c 3 t)⟩,
    ⟨Rect.unit ![256, 256] ![16, 128] inb_S272x512_S16x128_256_256, k0_pay9 (F := Ideal) (BitVec.ofNat 32 ↑(grid0.coords t 0)) (k0_pay2 (F := Ideal) (grid0.coords t) (iblk m c 4 t))⟩,
    ⟨Rect.unit ![0, 256] ![256, 128] inb_S272x512_S256x128_0_256, k0_pay8 (F := Ideal) (BitVec.ofNat 32 ↑(grid0.coords t 0)) (iblk m c 3 t)⟩,
    ⟨Rect.unit ![256, 128] ![16, 128] inb_S272x512_S16x128_256_128, k0_pay7 (F := Ideal) (BitVec.ofNat 32 ↑(grid0.coords t 0)) (k0_pay2 (F := Ideal) (grid0.coords t) (iblk m c 4 t))⟩,
    ⟨Rect.unit ![0, 128] ![256, 128] inb_S272x512_S256x128_0_128, k0_pay6 (F := Ideal) (k0_pay5 (F := Ideal) (iblk m c 3 t)) (Scalar.muli (BitVec.ofNat 32 ↑(grid0.coords t 0)) 256#32) (iota Kind.tc S256x1 32 [0] iota_S256x1_d0_w32)⟩,
    ⟨Rect.unit ![256, 0] ![16, 128] inb_S272x512_S16x128_256_0, k0_pay4 (F := Ideal) (grid0.coords t) (iblk m c 4 t)⟩,
    ⟨Rect.unit ![0, 0] ![256, 128] inb_S272x512_S256x128_0_0, k0_pay3 (F := Ideal) (grid0.coords t) (iblk m c 3 t)⟩]

theorem own_piece (w lo : ℕ) (hlo : lo + 128 ≤ 512) (hw : ∀ z, z < 128 → width (lo + z) = w) (v : FVec Ideal S256x128 .f32)
    (hv : ∀ (r : Fin 256) (z : Fin 128), v (ix2 r z) = Ideal.div (iblk m c 3 t (ix2 r ⟨lo + z.val, by omega⟩)) (cnt w (256 * (grid0.coords t 0).val + r.val)))
    (y : Fin 256) (x : Fin 128) (k : Fin 272) (l : Fin 512) (hk : k.val = 0 + y.val) (hl : l.val = lo + x.val) : v (ix2 y x) = sends m c t l k.val := by
  have ht := t.isLt.trans_le (le_of_eq N_0)
  have hx : lo + x.val < 512 := by omega
  obtain rfl : l = ⟨lo + x.val, hx⟩ := Fin.ext hl
  rw [hv, ct_block, coord, sends, ext_lt _ (show 256 * t.val + k.val < 2048 by omega), sent, hw _ x.isLt]
  simp only [hk, zero_add]
  rfl

theorem next_piece (w lo : ℕ) (h0 : 0 < w) (hlo : lo + 128 ≤ 512) (hw : ∀ z, z < 128 → width (lo + z) = w) (v : FVec Ideal S16x128 .f32)
    (hv : ∀ (r : Fin 16) (z : Fin 128), v (ix2 r z) = Ideal.div (k0_pay2 (F := Ideal) (grid0.coords t) (iblk m c 4 t) (ix2 r ⟨lo + z.val, by omega⟩)) (cnt w (256 * (grid0.coords t 0).val + (256 + r.val))))
    (y : Fin 16) (x : Fin 128) (k : Fin 272) (l : Fin 512) (hk : k.val = 256 + y.val) (hl : l.val = lo + x.val) : v (ix2 y x) = sends m c t l k.val := by
  have ht := t.isLt.trans_le (le_of_eq N_0)
  have hx : lo + x.val < 512 := by omega
  obtain rfl : l = ⟨lo + x.val, hx⟩ := Fin.ext hl
  rw [hv, next_rows, coord, sends]
  by_cases h : t.val < 7
  · rw [if_pos h, next_block m c t h, ext_lt _ (show 256 * t.val + k.val < 2048 by omega), sent, hw _ x.isLt]
    simp only [hk]
    rfl
  · rw [if_neg h, ext, dif_neg (by omega)]
    unfold cnt
    rw [show (0 : EReal) = ((0 : ℝ) : EReal) from rfl, div_eq (cnt_ne h0), zero_div]

theorem kept_has : Has (kept m c t) (fun k l => sends m c t l k.val) fun _ _ => True := by
  have wd (g : ℕ) (z : ℕ) (h : z < 128) : width (128 * g + z) = 2 ^ (g + 1) := by
    unfold width
    rw [show (128 * g + z) / 128 = g by omega]
  unfold kept
  refine Has.cons (fun y x k r hk hr _ => next_piece m c t 16 384 (by decide) (by decide) (wd 3) _ (next_sixteen (grid0.coords t) _) y x k r hk hr) ?_
  refine Has.cons (fun y x k r hk hr _ => own_piece m c t 16 384 (by decide) (wd 3) _ (own_sixteen (grid0.coords t) _) y x k r hk hr) ?_
  refine Has.cons (fun y x k r hk hr _ => next_piece m c t 8 256 (by decide) (by decide) (wd 2) _ (next_eight (grid0.coords t) _) y x k r hk hr) ?_
  refine Has.cons (fun y x k r hk hr _ => own_piece m c t 8 256 (by decide) (wd 2) _ (own_eight (grid0.coords t) _) y x k r hk hr) ?_
  refine Has.cons (fun y x k r hk hr _ => next_piece m c t 4 128 (by decide) (by decide) (wd 1) _ (next_four (grid0.coords t) _) y x k r hk hr) ?_
  refine Has.cons (fun y x k r hk hr _ => own_piece m c t 4 128 (by decide) (wd 1) _ (own_four (grid0.coords t) _) y x k r hk hr) ?_
  refine Has.cons (fun y x k r hk hr _ => next_piece m c t 2 0 (by decide) (by decide) (wd 0) _ (next_two (grid0.coords t) _) y x k r hk hr) ?_
  refine Has.cons (fun y x k r hk hr _ => own_piece m c t 2 0 (by decide) (wd 0) _ (own_two (grid0.coords t) _) y x k r hk hr) ?_
  exact Has.none fun k r hk hr h => by (try dsimp only at h); omega

/-- A load of what is kept. -/
def part (k lo : ℕ) (inb : ∀ i, (![k, lo] : Fin 2 → ℕ) i + (![256, 128] : Fin 2 → ℕ) i ≤ S272x512.size i) : Vec Ideal S256x128 .f32 :=
  (View.whole cc0_scratch0).readCov (kept m c t) (Rect.unit (s := S272x512) ![k, lo] ![256, 128] inb).toLoadRect

theorem part_at (k lo : ℕ) (inb) (hk : k ≤ 16) (hlo : lo + 128 ≤ 512) (r : Fin 256) (z : Fin 128) :
    part m c t k lo inb (ix2 r z) = sends m c t ⟨lo + z.val, by omega⟩ (r.val + k) :=
  ((kept_has m c t).load _ r z ⟨k + r.val, by omega⟩ ⟨lo + z.val, by omega⟩ rfl rfl trivial).trans (congrArg (sends m c t _) (Nat.add_comm ..))

/-- What a block gives out beside the input's gradient. -/
def given : List (View.Piece (Elt Ideal) S256x4096 .bf16) :=
  [⟨Rect.unit ![0, 2048] ![256, 2048] inb_S256x4096_S256x2048_0_2048, k0_pay23 (F := Ideal) (iblk m c 5 t)⟩,
    ⟨Rect.unit ![0, 1024] ![256, 512] inb_S256x4096_S256x512_0_1024, k0_pay22 (F := Ideal) (iblk m c 2 t)⟩,
    ⟨Rect.unit ![0, 512] ![256, 512] inb_S256x4096_S256x512_0_512, k0_pay21 (F := Ideal) (iblk m c 1 t)⟩,
    ⟨Rect.unit ![0, 0] ![256, 512] inb_S256x4096_S256x512_0_0, k0_pay20 (F := Ideal) (iblk m c 0 t)⟩,
    ⟨Rect.unit ![0, 1920] ![256, 128] inb_S256x4096_S256x128_0_1920, k0_pay19 (F := Ideal) (k0_pay18 (iblk m c 3 t) (part m c t 0 384 inb_S272x512_S256x128_0_384) (part m c t 1 384 inb_S272x512_S256x128_1_384) (part m c t 2 384 inb_S272x512_S256x128_2_384) (part m c t 3 384 inb_S272x512_S256x128_3_384) (part m c t 4 384 inb_S272x512_S256x128_4_384) (part m c t 5 384 inb_S272x512_S256x128_5_384) (part m c t 6 384 inb_S272x512_S256x128_6_384) (part m c t 7 384 inb_S272x512_S256x128_7_384) (part m c t 8 384 inb_S272x512_S256x128_8_384)) (part m c t 9 384 inb_S272x512_S256x128_9_384) (part m c t 10 384 inb_S272x512_S256x128_10_384) (part m c t 11 384 inb_S272x512_S256x128_11_384) (part m c t 12 384 inb_S272x512_S256x128_12_384) (part m c t 13 384 inb_S272x512_S256x128_13_384) (part m c t 14 384 inb_S272x512_S256x128_14_384) (part m c t 15 384 inb_S272x512_S256x128_15_384)⟩,
    ⟨Rect.unit ![0, 1792] ![256, 128] inb_S256x4096_S256x128_0_1792, k0_pay17 (F := Ideal) (k0_pay16 (iblk m c 3 t) (part m c t 0 256 inb_S272x512_S256x128_0_256) (part m c t 1 256 inb_S272x512_S256x128_1_256) (part m c t 2 256 inb_S272x512_S256x128_2_256)) (part m c t 3 256 inb_S272x512_S256x128_3_256) (part m c t 4 256 inb_S272x512_S256x128_4_256) (part m c t 5 256 inb_S272x512_S256x128_5_256) (part m c t 6 256 inb_S272x512_S256x128_6_256) (part m c t 7 256 inb_S272x512_S256x128_7_256)⟩,
    ⟨Rect.unit ![0, 1664] ![256, 128] inb_S256x4096_S256x128_0_1664, k0_pay15 (F := Ideal) (iblk m c 3 t) (part m c t 0 128 inb_S272x512_S256x128_0_128) (part m c t 1 128 inb_S272x512_S256x128_1_128) (part m c t 2 128 inb_S272x512_S256x128_2_128) (part m c t 3 128 inb_S272x512_S256x128_3_128)⟩,
    ⟨Rect.unit ![0, 1536] ![256, 128] inb_S256x4096_S256x128_0_1536, k0_pay14 (F := Ideal) (iblk m c 3 t) (part m c t 0 0 inb_S272x512_S256x128_0_0) (part m c t 1 0 inb_S272x512_S256x128_1_0)⟩]

/-- The gradients of the projections' results, at a place of a block. -/
abbrev sideAt (k : Fin 256) (l : Fin 4096) : EReal := side (m ((c : Thread nD τ).loc main_arg5)) (m ((c : Thread nD τ).loc main_arg2)) (m ((c : Thread nD τ).loc main_arg3)) (m ((c : Thread nD τ).loc main_arg4)) (m ((c : Thread nD τ).loc main_arg6)) (place t k) l

theorem mean_piece (lo : ℕ) (hlo : lo + 128 ≤ 512) (w : ℕ) (hw : ∀ z, z < 128 → width (lo + z) = w) (v : FVec Ideal S256x128 .f32)
    (hv : ∀ (r : Fin 256) (z : Fin 128), v (ix2 r z) = - column (m ((c : Thread nD τ).loc main_arg5)) ⟨lo + z.val, by omega⟩ (place t r) + ∑ k ∈ Finset.range w, sends m c t ⟨lo + z.val, by omega⟩ (r.val + k))
    (y : Fin 256) (x : Fin 128) (k : Fin 256) (l : Fin 4096) (hk : k.val = 0 + y.val) (hl : l.val = 1536 + lo + x.val) : v (ix2 y x) = sideAt m c t k l := by
  have hx : l.val - 1536 = lo + x.val := by omega
  obtain rfl : k = y := Fin.ext (hk.trans (Nat.zero_add _))
  rw [hv, sideAt, side, dif_neg (by omega), dif_neg (by omega), dif_neg (by omega), dif_pos (by omega), mean]
  simp only [hx, hw _ x.isLt, sends, Nat.add_assoc]

theorem given_has : Has (given m c t) (sideAt m c t) fun _ _ => True := by
  have wd (g : ℕ) (z : ℕ) (h : z < 128) : width (128 * g + z) = 2 ^ (g + 1) := by
    unfold width
    rw [show (128 * g + z) / 128 = g by omega]
  unfold given
  refine Has.cons (fun y x k r hk hr _ => ?_) ?_
  · have hx : r.val - 2048 = x.val := by omega
    obtain rfl : k = y := Fin.ext (hk.trans (Nat.zero_add _))
    rw [sideAt, side, dif_neg (by omega), dif_neg (by omega), dif_neg (by omega), dif_neg (by omega)]
    refine Eq.trans ?_ ((dzg_block m c t k x).trans (congrArg _ (congrArg (ix2 _) (Fin.ext (by simp only; omega)))))
    pointwise [k0_pay23]
  refine Has.cons (fun y x k r hk hr _ => ?_) ?_
  · have hx : r.val - 1024 = x.val := by omega
    obtain rfl : k = y := Fin.ext (hk.trans (Nat.zero_add _))
    rw [sideAt, side, dif_neg (by omega), dif_neg (by omega), dif_pos (by omega)]
    refine Eq.trans ?_ ((dv_block m c t k x).trans (congrArg _ (congrArg (ix2 _) (Fin.ext (by simp only; omega)))))
    pointwise [k0_pay22]
  refine Has.cons (fun y x k r hk hr _ => ?_) ?_
  · have hx : r.val - 512 = x.val := by omega
    obtain rfl : k = y := Fin.ext (hk.trans (Nat.zero_add _))
    rw [sideAt, side, dif_neg (by omega), dif_pos (by omega)]
    refine Eq.trans ?_ ((dk_block m c t k x).trans (congrArg _ (congrArg (ix2 _) (Fin.ext (by simp only; omega)))))
    pointwise [k0_pay21]
  refine Has.cons (fun y x k r hk hr _ => ?_) ?_
  · have hx : r.val - 0 = x.val := by omega
    obtain rfl : k = y := Fin.ext (hk.trans (Nat.zero_add _))
    rw [sideAt, side, dif_pos (by omega)]
    refine Eq.trans ?_ ((dq_block m c t k x).trans (congrArg _ (congrArg (ix2 _) (Fin.ext (by simp only; omega)))))
    pointwise [k0_pay20]
  refine Has.cons (fun y x k r hk hr _ => mean_piece m c t 384 (by decide) 16 (wd 3) _ (fun r z => ?_) y x k r hk hr) ?_
  · have hp (k : ℕ) (inb) (hk : k ≤ 16) := part_at m c t k 384 inb hk (by decide) r z
    exact pool_sixteen _ _ (fun k => sends m c t ⟨384 + z.val, by omega⟩ (r.val + k)) r z (ct_block m c t r _) (hp 0 _ (by decide)) (hp 1 _ (by decide)) (hp 2 _ (by decide)) (hp 3 _ (by decide)) (hp 4 _ (by decide)) (hp 5 _ (by decide)) (hp 6 _ (by decide)) (hp 7 _ (by decide)) (hp 8 _ (by decide)) (hp 9 _ (by decide)) (hp 10 _ (by decide)) (hp 11 _ (by decide)) (hp 12 _ (by decide)) (hp 13 _ (by decide)) (hp 14 _ (by decide)) (hp 15 _ (by decide))
  refine Has.cons (fun y x k r hk hr _ => mean_piece m c t 256 (by decide) 8 (wd 2) _ (fun r z => ?_) y x k r hk hr) ?_
  · have hp (k : ℕ) (inb) (hk : k ≤ 16) := part_at m c t k 256 inb hk (by decide) r z
    exact pool_eight _ _ (fun k => sends m c t ⟨256 + z.val, by omega⟩ (r.val + k)) r z (ct_block m c t r _) (hp 0 _ (by decide)) (hp 1 _ (by decide)) (hp 2 _ (by decide)) (hp 3 _ (by decide)) (hp 4 _ (by decide)) (hp 5 _ (by decide)) (hp 6 _ (by decide)) (hp 7 _ (by decide))
  refine Has.cons (fun y x k r hk hr _ => mean_piece m c t 128 (by decide) 4 (wd 1) _ (fun r z => ?_) y x k r hk hr) ?_
  · have hp (k : ℕ) (inb) (hk : k ≤ 16) := part_at m c t k 128 inb hk (by decide) r z
    exact pool_four _ _ (fun k => sends m c t ⟨128 + z.val, by omega⟩ (r.val + k)) r z (ct_block m c t r _) (hp 0 _ (by decide)) (hp 1 _ (by decide)) (hp 2 _ (by decide)) (hp 3 _ (by decide))
  refine Has.cons (fun y x k r hk hr _ => mean_piece m c t 0 (by decide) 2 (wd 0) _ (fun r z => ?_) y x k r hk hr) ?_
  · have hp (k : ℕ) (inb) (hk : k ≤ 16) := part_at m c t k 0 inb hk (by decide) r z
    exact pool_two _ _ (fun k => sends m c t ⟨0 + z.val, by omega⟩ (r.val + k)) r z (ct_block m c t r _) (hp 0 _ (by decide)) (hp 1 _ (by decide))
  exact Has.none fun k r hk hr h => by (try dsimp only at h); omega

end Cert.InpIdeal.Value
end
-- ==== Proof.InpFinal.lean ====
module

public import proofs.«01_k».proof.Proof.InpStores
public import Idealize.ShloMosaic.Lib.Pipeline.ValueKit
public import Idealize.ShloMosaic.Lib.Pointwise
public import Idealize.ShloMosaic.Lib.Claim

/-!
The running-mean gradient's kernel against the reference.
-/

@[expose] public section

set_option maxRecDepth 16384

noncomputable section

open Idealize.ShloMosaic Idealize.ShloMosaic.TcCoe Idealize.SL.Sem

namespace Cert.InpIdeal.Value
open Cert.InpIdeal Cert.InpIdeal.Gen Cert.InpMean Cert.Reals
open Cert.InpGradIdeal.Rows (column side ext given_at input_at)
open Cert.InpGradIdeal.Read
open Cert.AttnIdeal.Stores

variable (m : (ℓ : Loc nD τ sig) → Buf (Elt Ideal) ℓ) (c : Dev nD)

/-- One of the eight products' factors: a load of what the block gives out, and one projection. -/
theorem part_of (t : Fin cfg0.N) (n : Fin 8) (o : ℕ) (ho : o = n.val * 512) (mr : View sig .tc .vmem S256x4096 .bf16) (inb inb') (r : Fin 256) (k : Fin 1024) :
    Part (sideAt m c t r) (fun j => (m ((c : Thread nD τ).loc main_arg1)) (ix2 k j)) r k n (mr.readCov (given m c t) (Rect.unit (s := S256x4096) ![0, o] ![256, 512] inb).toLoadRect)
      (View.ld (iblk m c 7 t) (Rect.unit (s := S8x1024x512) ![n.val, 0, 0] ![1, 1024, 512] inb')) := by
  subst ho
  intro x
  refine ⟨(given_has m c t).load mr r x r ⟨n.val * 512 + x.val, by omega⟩ (Nat.zero_add _).symm rfl trivial, ?_⟩
  have h := win_block m c t n k x
  refine Eq.trans ?_ (h.trans (congrArg _ (congrArg (ix2 k) (Fin.ext (by simp only; omega)))))
  generalize iblk m c 7 t = y
  refine congrArg y ?_
  blk_ext []
  · exact (Rect.idx_unit_val ..).trans (Nat.add_zero _)
  · exact (Rect.idx_unit_val ..).trans (Nat.zero_add _)
  · exact (Rect.idx_unit_val ..).trans (Nat.zero_add _)

variable (hpre : Cert.Pre_inp_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = fun _ => 1#1)
include hpre

theorem dz_final : (dats m 0 c).arrAt 9 (cfgs 0).N = val_main_v181 (F := Ideal) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  have at_place : (win0_9.blk t).view.emb y = ix2 (place t (y 0)) (y 1) := by blk_ext [place, idx t]
  blk_simp
  rw [after0_9]
  unfold outsAt0
  frame_out
  exact (((congrArg _ (eq_ix2 y)).trans (given_has m c t (y 0) (y 1) trivial)).trans (given_at _ _ _ _ _ (finite_args _ _ _ _ _ _ _ _ hpre) (place t (y 0)) (y 1)).symm).trans (congrArg _ at_place.symm)

theorem dx_final : (dats m 0 c).arrAt 8 (cfgs 0).N = val_main_v180 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  have at_place : (win0_8.blk t).view.emb y = ix2 (place t (y 0)) (y 1) := by blk_ext [place, idx t]
  blk_simp
  rw [after0_8]
  unfold outsAt0
  frame_out
  have row := project (iblk m c 6 t) (sideAt m c t (y 0)) (fun j => (m ((c : Thread nD τ).loc main_arg1)) (ix2 (y 1) j)) (y 0) (y 1) (part_of m c t 0 0 rfl (ms0_9 t).view inb_S256x4096_S256x512_0_0 inb_S8x1024x512_S1x1024x512_0_0_0 (y 0) (y 1)) (part_of m c t 1 512 rfl (ms0_9 t).view inb_S256x4096_S256x512_0_512 inb_S8x1024x512_S1x1024x512_1_0_0 (y 0) (y 1)) (part_of m c t 2 1024 rfl (ms0_9 t).view inb_S256x4096_S256x512_0_1024 inb_S8x1024x512_S1x1024x512_2_0_0 (y 0) (y 1)) (part_of m c t 3 1536 rfl (ms0_9 t).view inb_S256x4096_S256x512_0_1536 inb_S8x1024x512_S1x1024x512_3_0_0 (y 0) (y 1)) (part_of m c t 4 2048 rfl (ms0_9 t).view inb_S256x4096_S256x512_0_2048 inb_S8x1024x512_S1x1024x512_4_0_0 (y 0) (y 1)) (part_of m c t 5 2560 rfl (ms0_9 t).view inb_S256x4096_S256x512_0_2560 inb_S8x1024x512_S1x1024x512_5_0_0 (y 0) (y 1)) (part_of m c t 6 3072 rfl (ms0_9 t).view inb_S256x4096_S256x512_0_3072 inb_S8x1024x512_S1x1024x512_6_0_0 (y 0) (y 1)) (part_of m c t 7 3584 rfl (ms0_9 t).view inb_S256x4096_S256x512_0_3584 inb_S8x1024x512_S1x1024x512_7_0_0 (y 0) (y 1))
  refine ((congrArg _ (eq_ix2 y)).trans (row.trans ?_)).trans (congrArg _ at_place.symm)
  refine Eq.trans ?_ (input_at _ _ _ _ _ _ _ (finite_args _ _ _ _ _ _ _ _ hpre) (place t (y 0)) (y 1)).symm
  exact congrArg (fun e : EReal => (∑ j, sideAt m c t (y 0) j * (m ((c : Thread nD τ).loc main_arg1)) (ix2 (y 1) j)) + FloatOps.ofBits (F := Ideal) .f32 1066940400#32 * e) (dr_block m c t (y 0) (y 1))

end Cert.InpIdeal.Value
end
-- ==== Proof.InpClaim.lean ====
module

public import proofs.«01_k».proof.Proof.InpFrames
public import proofs.«01_k».proof.Proof.InpFinal
public import proofs.«01_k».proof.Proof.Gen.Pre_inp_finite

@[expose] public section

set_option maxRecDepth 16384

noncomputable section

open Idealize.ShloMosaic Idealize.SL.Sem

namespace Cert.Proof.Inp

theorem frameIdealPre : Cert.quiescent_InpIdeal_pre_inp_finite := fun m ρ _ => Cert.InpIdeal.Gen.frame m ρ

theorem frameReferencePre : Cert.quiescent_InpGradIdeal_pre_inp_finite := fun m ρ _ => frameReference m ρ trivial

theorem algebraic : Cert.algebraic_InpIdeal_InpGradIdeal_pre_inp_finite := by
  intro m ρ m' ρ' hpre hagree
  refine ⟨_, _, Cert.InpIdeal.Value.run_blocks m ρ, ?_⟩
  refine (θ_run Cert.InpGradIdeal.defs _ _).mono (fun _ h c => ?_) (Cert.InpGradIdeal.Value.run (F := Ideal) m' ρ')
  obtain ⟨a0, a1, a2, a3, a4, a5, a6, a7⟩ := hagree c
  obtain ⟨h0, h1, hargs⟩ := h c
  refine ⟨h0.trans ?_, h1.trans ?_, hargs⟩
  · refine (Cert.InpGradIdeal.Read.val_main_v180_eq ..).trans ?_
    simp only [a0, a1, a2, a3, a4, a5, a6, a7]
    exact (Cert.InpIdeal.Value.dx_final m c (hpre c)).symm
  · refine (Cert.InpGradIdeal.Read.val_main_v181_eq ..).trans ?_
    simp only [a0, a1, a2, a3, a4, a5, a6, a7]
    exact (Cert.InpIdeal.Value.dz_final m c (hpre c)).symm

end Cert.Proof.Inp

end

end
-- ==== Proof.FfnBwdFrames.lean ====
module

public import proofs.«01_k».proof.Defs
public import proofs.«01_k».proof.Proof.Gen.FfnBwd.Frame
public import proofs.«01_k».proof.Proof.Gen.FfnBwdIdeal.Frame
public import proofs.«01_k».proof.Proof.Gen.FfnGradIdeal.Run
public import Idealize.ShloMosaic.Lib.Quiescent

@[expose] public section

set_option maxRecDepth 16384

noncomputable section

open Idealize.ShloMosaic Idealize.SL.Sem

namespace Cert.Proof.FfnBwd

theorem frame : Cert.quiescent_FfnBwd := fun m ρ _ => Cert.FfnBwd.Gen.frame m ρ

theorem frameIdeal : Cert.quiescent_FfnBwdIdeal := fun m ρ _ => Cert.FfnBwdIdeal.Gen.frame m ρ

theorem frameReference : Cert.quiescent_FfnGradIdeal := fun m ρ _ =>
  (θ_run Cert.FfnGradIdeal.defs _ _).mono (fun r h => ⟨fun c => (h c).2.2.2.2.2.2, Idealize.ShloMosaic.sem_eq_zero_of_no_sems (by decide) r.2⟩) (Cert.FfnGradIdeal.Value.run (F := Ideal) m ρ)

theorem preserves : Cert.preserves_FfnBwd_FfnBwdIdeal :=
  ⟨IdealRules.named_const.statement Cert.FfnBwdIdeal.κ "root_half" .f32 0x3F3504F3#32 (((Real.sqrt 2)⁻¹ : ℝ) : EReal) rfl,
    IdealRules.named_const.statement Cert.FfnBwdIdeal.κ "gauss" .f32 0x3ECC422A#32 (((9465531 / 8388608) * (2 * (Real.sqrt 2))⁻¹ : ℝ) : EReal) rfl⟩

end Cert.Proof.FfnBwd

end

end
-- ==== Proof.Gelu.lean ====
module

public import proofs.«01_k».proof.Proof.Reals

/-!
The gelu and its slope, as the kernel and as the reference compute them: the kernel through the normal distribution
function, the reference through the complementary error function. The two agree at infinite arguments too, so only the
factor in front of the slope has to be a real number. Then a column read some rows earlier or later.
-/

@[expose] public section

noncomputable section

open Idealize.ShloMosaic Cert.Reals

namespace Cert.Gelu

/-- The words 1/2, −1/2, 1 and the slope of the complementary error function at zero. -/
abbrev half : EReal := Ideal.ofBits .f32 0x3F000000#32
abbrev minusHalf : EReal := Ideal.ofBits .f32 0xBF000000#32
abbrev one : EReal := Ideal.ofBits .f32 0x3F800000#32
abbrev erfcSlope : EReal := Ideal.ofBits .f32 0xBF906EBB#32

/-- One over the root of two. -/
abbrev root : EReal := (((Real.sqrt 2)⁻¹ : ℝ) : EReal)

/-- The normal density at zero, to the precision of the reference's constant. -/
abbrev gauss : EReal := (((9465531 / 8388608) * (2 * (Real.sqrt 2))⁻¹ : ℝ) : EReal)

theorem half_eq : half = ((1 / 2 : ℝ) : EReal) := by
  simp [half, Ideal.ofBits, Ideal.ieee, -EReal.coe_mul]; norm_num

theorem minusHalf_eq : minusHalf = ((-1 / 2 : ℝ) : EReal) := by
  simp [minusHalf, Ideal.ofBits, Ideal.ieee, -EReal.coe_mul]; norm_num

theorem one_eq : one = 1 := Ideal.ofBits_one_f32

theorem erfcSlope_eq : erfcSlope = ((-(9465531 / 8388608) : ℝ) : EReal) := by
  simp [erfcSlope, Ideal.ofBits, Ideal.ieee, -EReal.coe_mul]; norm_num

theorem root_eq : Ideal.sqrt half = root := by
  rw [half_eq, Ideal.sqrt_coe, if_neg (by norm_num), one_div, Real.sqrt_inv]

/-- The normal distribution function. -/
abbrev cdf (s : EReal) : EReal := half * (one + Ideal.erf (s * root))

/-- The slope of the gelu, by the normal distribution function. -/
abbrev slope (s : EReal) : EReal := cdf s + s * (Ideal.exp (minusHalf * s * s) * gauss)

/-- The gelu, by the complementary error function. -/
abbrev gelu (s : EReal) : EReal := half * s * Ideal.erfc (-s * Ideal.sqrt half)

/-- The gelu's derivative times `w`, by the complementary error function. -/
abbrev pull (s w : EReal) : EReal := -(erfcSlope * (half * s * w) * Ideal.exp (-(-s * Ideal.sqrt half * (-s * Ideal.sqrt half))) * Ideal.sqrt half)
  + half * (w * Ideal.erfc (-s * Ideal.sqrt half))

theorem erfc_eq (s : EReal) : Ideal.erfc (-s * Ideal.sqrt half) = one + Ideal.erf (s * root) := by
  rw [root_eq, EReal.neg_mul, Ideal.erfc_neg, one_eq]

theorem gelu_eq (s : EReal) : s * cdf s = gelu s := by
  rw [gelu, erfc_eq, cdf, ← mul_assoc, mul_comm s]

theorem pull_eq (s : EReal) {w : EReal} (hw : IsReal w) : w * slope s = pull s w := by
  obtain ⟨w, rfl⟩ := hw
  rw [slope, pull, erfc_eq, cdf]
  have hr : (0 : ℝ) < (Real.sqrt 2)⁻¹ := by positivity
  have hm : (minusHalf < 0) := by rw [minusHalf_eq]; exact_mod_cast (by norm_num : (-1 / 2 : ℝ) < 0)
  have hh : (0 < half) := by rw [half_eq]; exact_mod_cast (by norm_num : (0 : ℝ) < 1 / 2)
  have hroot : (0 < root) := EReal.coe_pos.mpr hr
  have one_one : half * (one + 1) = 1 := by
    rw [half_eq, one_eq, one_add_one_eq_two, show (2 : EReal) = ((2 : ℝ) : EReal) from rfl, ← EReal.coe_mul]; norm_num
  have one_two : one + -1 = 0 := by
    rw [one_eq]
    show ((1 : ℝ) : EReal) + -((1 : ℝ) : EReal) = 0
    rw [← EReal.coe_neg, ← EReal.coe_add]; simp
  induction s using EReal.rec with
  | bot =>
    rw [root_eq, EReal.bot_mul_of_pos hroot, Ideal.erf_bot, EReal.neg_bot, EReal.top_mul_of_pos hroot, EReal.mul_bot_of_neg hm,
      EReal.top_mul_bot, EReal.top_mul_top, EReal.neg_top, Ideal.exp_bot, one_two]
    simp
  | top =>
    rw [root_eq, EReal.top_mul_of_pos hroot, Ideal.erf_top, EReal.neg_top, EReal.bot_mul_of_pos hroot, EReal.mul_top_of_neg hm,
      EReal.bot_mul_top, EReal.bot_mul_bot, EReal.neg_top, Ideal.exp_bot, one_one]
    have e : half * ((w : EReal) * (one + 1)) = w := by rw [mul_left_comm, one_one, mul_one]
    rw [e]
    simp
  | coe s =>
    have hk : (Real.sqrt 2)⁻¹ * (Real.sqrt 2)⁻¹ = 1 / 2 := by
      rw [← mul_inv, Real.mul_self_sqrt (by norm_num)]; norm_num
    rw [root_eq, half_eq, minusHalf_eq, one_eq, erfcSlope_eq, ← EReal.coe_mul, Ideal.erf_coe]
    generalize (2 / Real.sqrt Real.pi * ∫ t in (0 : ℝ)..(s * (Real.sqrt 2)⁻¹), Real.exp (-(t ^ 2))) = e
    simp only [← EReal.coe_neg, ← EReal.coe_mul, ← EReal.coe_one, ← EReal.coe_add, Ideal.exp_coe]
    refine congrArg _ ?_
    have h1 : -(-s * (Real.sqrt 2)⁻¹ * (-s * (Real.sqrt 2)⁻¹)) = -1 / 2 * s * s := by
      linear_combination (-(s * s)) * hk
    rw [h1, mul_inv]
    ring

/-- A column read `k` rows earlier, zero before its first row. -/
def late (k : ℕ) (y : Fin 2048 → EReal) (i : Fin 2048) : EReal := if h : k ≤ i.val then y ⟨i.val - k, by omega⟩ else 0

/-- A column read `k` rows later, zero after its last row. -/
def early (k : ℕ) (y : Fin 2048 → EReal) (i : Fin 2048) : EReal := if h : i.val + k < 2048 then y ⟨i.val + k, h⟩ else 0

end Cert.Gelu
-- ==== Proof.FfnRows.lean ====
module

public import proofs.«01_k».proof.Proof.Gen.FfnBwdIdeal.Value
public import proofs.«01_k».proof.Proof.Gelu
public import Idealize.ShloMosaic.Lib.KernelVsHost
public import Idealize.ShloMosaic.Lib.WordCmp
public import Idealize.ShloMosaic.Lib.Pipeline.ValueKit
public import Idealize.ShloMosaic.Lib.Pointwise
public import Idealize.ShloMosaic.Lib.Claim

/-!
What a block of the feed-forward gradient kernel computes, one entry at a time.
-/

@[expose] public section

set_option maxRecDepth 16384

noncomputable section

open Idealize.ShloMosaic Idealize.ShloMosaic.TcCoe Idealize.SL.Sem

namespace Cert.FfnBwdIdeal.Value
open Cert.FfnBwdIdeal Cert.FfnBwdIdeal.Gen Cert.Gelu Cert.Reals

/-- A product with a column rotated down by `k` rows, with its first `k` rows masked. -/
theorem late_at (k : ℕ) (w : BitVec 32) (hw : w = BitVec.ofNat 32 k) (hk : k < 2048) (y : Fin 2048 → EReal) (x : EReal) (r : Fin 2048) (hl : (r.val + 2048 - k) % 2048 < 2048) :
    Scalar.select (IntOp.cmpi .sge (BitVec.ofNat 32 r.val) w) (x * y ⟨(r.val + 2048 - k) % 2048, hl⟩) 0 = x * late k y r := by
  subst hw
  have hr := r.isLt
  rw [WordCmp.cmpi_sge_ofNat (by omega) (by omega), late]
  by_cases h : k ≤ r.val
  · rw [dif_pos h, decide_eq_true h]
    exact congrArg (x * y ·) (Fin.ext (by show (r.val + 2048 - k) % 2048 = r.val - k; omega))
  · rw [dif_neg h, decide_eq_false h, mul_zero]
    rfl

/-- A product with a column rotated up by `k` rows, with its last `k` rows masked. -/
theorem early_at (k n : ℕ) (w : BitVec 32) (hn : n = 2048 - k) (hw : w = BitVec.ofNat 32 n) (h0 : 0 < k) (hk : k < 2048) (y : Fin 2048 → EReal) (x : EReal) (r : Fin 2048) (hl : (r.val + 2048 - n) % 2048 < 2048) :
    Scalar.select (IntOp.cmpi .slt (BitVec.ofNat 32 r.val) w) (x * y ⟨(r.val + 2048 - n) % 2048, hl⟩) 0 = x * early k y r := by
  subst hw
  have hr := r.isLt
  rw [WordCmp.cmpi_slt_ofNat (by omega) (by omega), early]
  by_cases h : r.val + k < 2048
  · rw [dif_pos h, decide_eq_true (by omega)]
    exact congrArg (x * y ·) (Fin.ext (by show (r.val + 2048 - n) % 2048 = r.val + k; omega))
  · rw [dif_neg h, decide_eq_false (by omega), mul_zero]
    rfl

variable (dr h : Vec Ideal S2048x1024 .bf16) (a u : Vec Ideal S2048x256 .f32) (wd : Vec Ideal S256x1024 .bf16) (cw : Vec Ideal S3x256 .f32) (cb : Vec Ideal S1x256 .f32)
variable (r : Fin 2048) (j : Fin 256)

/-- The gradient of the gated product. -/
abbrev dact : EReal := ∑ k : Fin 1024, dr (ix2 r k) * wd (ix2 j k)

/-- The convolution of a column with its three weights. -/
abbrev conv : EReal := cw (ix2 2 j) * a (ix2 r j) + cw (ix2 1 j) * late 1 (fun i => a (ix2 i j)) r + cw (ix2 0 j) * late 2 (fun i => a (ix2 i j)) r + cb (ix2 0 j)

/-- The gradient of the convolution's output. -/
abbrev dconv : EReal := dact dr wd r j * u (ix2 r j) * slope (conv a cw cb r j)

/-- The gradient of the convolution's input. -/
abbrev dinput : EReal := cw (ix2 2 j) * dconv dr a u wd cw cb r j + cw (ix2 1 j) * early 1 (fun i => dconv dr a u wd cw cb i j) r + cw (ix2 0 j) * early 2 (fun i => dconv dr a u wd cw cb i j) r

theorem dact_at : k0_pay8 (F := Ideal) dr wd (ix2 r j) = dact dr wd r j := by
  pointwise [k0_pay8, k0_pay4]

theorem conv_at : k0_pay11 (F := Ideal) (k0_pay9 a cw) (k0_pay10 cb) (ix2 r j) = conv a cw cb r j := by
  pointwise [k0_pay11, k0_pay9, k0_pay6, k0_pay10]
  exact congrArg (· + cb (ix2 0 j)) (congrArg₂ (fun x y : EReal => x + y) (congrArg (_ + ·) (late_at 1 1#32 rfl (by omega) (fun i => a (ix2 i j)) _ r _))
    (late_at 2 2#32 rfl (by omega) (fun i => a (ix2 i j)) _ r _))

theorem cdf_at : k0_pay12 (F := Ideal) (k0_pay9 a cw) (k0_pay10 cb) (ix2 r j) = cdf (conv a cw cb r j) := by
  pointwise [k0_pay12]
  simp only [conv_at, cdf, one_eq]
  rfl

theorem gelu_at : k0_pay13 (F := Ideal) (k0_pay9 a cw) (k0_pay10 cb) (ix2 r j) = gelu (conv a cw cb r j) := by
  pointwise [k0_pay13]
  simp only [conv_at, cdf_at]
  exact gelu_eq _

theorem dconv_at : k0_pay16 (F := Ideal) (k0_pay7 u) (k0_pay8 dr wd) (k0_pay9 a cw) (k0_pay10 cb) (ix2 r j) = dconv dr a u wd cw cb r j := by
  pointwise [k0_pay16, k0_pay7]
  simp only [conv_at, cdf_at, dact_at]
  rfl

theorem du_at : k0_pay15 (F := Ideal) (k0_pay8 dr wd) (k0_pay9 a cw) (k0_pay10 cb) (ix2 r j) = dact dr wd r j * gelu (conv a cw cb r j) := by
  pointwise [k0_pay15]
  exact congrArg₂ (fun x y : EReal => x * y) (dact_at ..) (gelu_at ..)

theorem da_at : k0_pay22 (F := Ideal) (k0_pay17 (k0_pay7 u) cw (k0_pay8 dr wd) (k0_pay9 a cw) (k0_pay10 cb)) (k0_pay18 cw) k0_pay19
    (k0_pay20 (k0_pay7 u) (k0_pay8 dr wd) (k0_pay9 a cw) (k0_pay10 cb)) k0_pay21 (ix2 r j) = dinput dr a u wd cw cb r j := by
  pointwise [k0_pay22, k0_pay17, k0_pay19, k0_pay20, k0_pay21, k0_pay18]
  simp only [dconv_at]
  exact congrArg₂ (fun x y : EReal => x + y) (congrArg (_ + ·) (early_at 1 2047 2047#32 rfl rfl (by omega) (by omega) (fun i => dconv dr a u wd cw cb i j) _ r _))
    (early_at 2 2046 2046#32 rfl rfl (by omega) (by omega) (fun i => dconv dr a u wd cw cb i j) _ r _)

theorem dwd_at (j : Fin 256) (k : Fin 1024) : k0_pay14 (F := Ideal) (k0_pay4 dr) (k0_pay7 u) (k0_pay9 a cw) (k0_pay10 cb) (ix2 j k)
    = ∑ r : Fin 2048, gelu (conv a cw cb r j) * u (ix2 r j) * dr (ix2 r k) := by
  pointwise [k0_pay14, k0_pay4, k0_pay7]
  simp only [gelu_at]

theorem dwg_at (y : FVec Ideal S2048x256 .f32) (z : FVec Ideal S1x256 .f32) (p : IVec S2048x256 1) (v w : FVec Ideal S2048x256 .f32) (j : Fin 256) (k : Fin 1024) :
    k0_pay23 (F := Ideal) (k0_pay5 h) y z p v w (ix2 j k) = ∑ r : Fin 2048, k0_pay22 (F := Ideal) y z p v w (ix2 r j) * h (ix2 r k) := by
  pointwise [k0_pay23, k0_pay5]

theorem dwu_at (y : FVec Ideal S2048x256 .bf16) (j : Fin 256) (k : Fin 1024) :
    k0_pay24 (F := Ideal) (k0_pay5 h) y (ix2 j k) = ∑ r : Fin 2048, y (ix2 r j) * h (ix2 r k) := by
  pointwise [k0_pay24, k0_pay5]

/-- The gradient of the convolution's weights and of its shift. -/
theorem dc_first (y : FVec Ideal S2048x256 .f32) (z : Fin 1) : k0_pay25 (F := Ideal) (k0_pay6 a) y (ix2 z j) = ∑ r : Fin 2048, y (ix2 r j) * late 2 (fun i => a (ix2 i j)) r := by
  pointwise [k0_pay25, k0_pay6]
  exact Finset.sum_congr rfl fun r _ => late_at 2 2#32 rfl (by omega) (fun i => a (ix2 i j)) _ r _

theorem dc_second (y : FVec Ideal S2048x256 .f32) (z : Fin 1) : k0_pay26 (F := Ideal) (k0_pay6 a) y (ix2 z j) = ∑ r : Fin 2048, y (ix2 r j) * late 1 (fun i => a (ix2 i j)) r := by
  pointwise [k0_pay26, k0_pay6]
  exact Finset.sum_congr rfl fun r _ => late_at 1 1#32 rfl (by omega) (fun i => a (ix2 i j)) _ r _

theorem dc_third (y : FVec Ideal S2048x256 .f32) (z : Fin 1) : k0_pay1 (F := Ideal) (k0_pay6 a) y (ix2 z j) = ∑ r : Fin 2048, y (ix2 r j) * a (ix2 r j) := by
  pointwise [k0_pay1, k0_pay6]

theorem dc_fourth (y : FVec Ideal S2048x256 .f32) (z : Fin 1) : k0_pay2 (F := Ideal) y (ix2 z j) = ∑ r : Fin 2048, y (ix2 r j) := by
  pointwise [k0_pay2]

end Cert.FfnBwdIdeal.Value
-- ==== Proof.FfnGrads.lean ====
module

public import proofs.«01_k».proof.Proof.Gen.FfnGradIdeal.Read
public import proofs.«01_k».proof.Proof.Gelu
public import Idealize.ShloMosaic.Lib.KernelVsHost
public import Idealize.ShloMosaic.Lib.Pipeline.ValueKit
public import Idealize.ShloMosaic.Lib.Pointwise
public import Idealize.ShloMosaic.Lib.Claim

/-!
What the reference of the feed-forward gradient computes, one entry at a time.
-/

@[expose] public section

set_option maxRecDepth 16384

noncomputable section

open Idealize.ShloMosaic Idealize.ShloMosaic.TcCoe Idealize.SL.Sem

namespace Cert.FfnGradIdeal.Rows
open Cert.FfnGradIdeal Cert.FfnGradIdeal.Gen Cert.FfnGradIdeal.Read Cert.Gelu Cert.Reals

variable (x0 x6 : (⟨S2048x1024, .f32⟩ : BufTy).Contents (Elt Ideal)) (x1 x2 : (⟨S1024x2816, .f32⟩ : BufTy).Contents (Elt Ideal)) (x3 : (⟨S3x2816, .f32⟩ : BufTy).Contents (Elt Ideal)) (x4 : (⟨S2816, .f32⟩ : BufTy).Contents (Elt Ideal)) (x5 : (⟨S2816x1024, .f32⟩ : BufTy).Contents (Elt Ideal))
variable (i : Fin 2048) (j : Fin 2816)

/-- Column `j` of the gate's input. -/
abbrev col (i : Fin 2048) : EReal := val_main_v0 (F := Ideal) x0 x1 (ix2 i j)

/-- The column under two rows of zeros. -/
theorem under_at (p : Fin 2050) : val_main_v3 (F := Ideal) x0 x1 (ix2 p j) = if h : 2 ≤ p.val then col x0 x1 j ⟨p.val - 2, by omega⟩ else 0 := by
  unfold val_main_v3 col
  generalize val_main_v0 (F := Ideal) x0 x1 = y
  by_cases h : 2 ≤ p.val
  · rw [dif_pos h]
    exact concatenate_pair_apply_right (t := S2050x2816) (s₁ := S2x2816) (s₂ := S2048x2816) 0 _ y _ (ix2 p j) rfl rfl (ix2 ⟨p.val - 2, by omega⟩ j)
      (fun b hb => by match b with | ⟨0, _⟩ => exact absurd rfl hb | ⟨1, _⟩ => rfl) (by show p.val - 2 + 2 = p.val; omega)
  · rw [dif_neg h]
    refine (concatenate_pair_apply_left (t := S2050x2816) (s₁ := S2x2816) (s₂ := S2048x2816) 0 _ y _ (ix2 p j) rfl (ix2 ⟨p.val, by omega⟩ j)
      (fun b => by match b with | ⟨0, _⟩ => rfl | ⟨1, _⟩ => rfl)).trans ?_
    pointwise [val_main_v2, val_main_cst]

theorem late_two_at : val_main_v5 (F := Ideal) x0 x1 (ix2 i j) = late 2 (col x0 x1 j) i := by
  pointwise [val_main_v5]
  refine (under_at ..).trans ?_
  rfl

theorem late_one_at : val_main_v13 (F := Ideal) x0 x1 (ix2 i j) = late 1 (col x0 x1 j) i := by
  pointwise [val_main_v13]
  refine (under_at ..).trans ?_
  rw [late]
  by_cases h : 1 ≤ i.val
  · rw [dif_pos h, dif_pos (by show 2 ≤ 1 + i.val; omega)]
    exact congrArg (col x0 x1 j) (Fin.ext (by show 1 + i.val - 2 = i.val - 1; omega))
  · rw [dif_neg h, dif_neg (by show ¬ 2 ≤ 1 + i.val; omega)]

theorem late_zero_at : val_main_v20 (F := Ideal) x0 x1 (ix2 i j) = col x0 x1 j i := by
  pointwise [val_main_v20]
  refine (under_at ..).trans ?_
  rw [dif_pos (by show 2 ≤ 2 + i.val; omega)]
  exact congrArg (col x0 x1 j) (Fin.ext (by show 2 + i.val - 2 = i.val; omega))

/-- The convolution of a column with its three weights. -/
abbrev conv : EReal := late 2 (col x0 x1 j) i * x3 (ix2 0 j) + late 1 (col x0 x1 j) i * x3 (ix2 1 j) + col x0 x1 j i * x3 (ix2 2 j) + x4 (ix1 j)

theorem conv_at : val_main_v29 (F := Ideal) x0 x1 x3 x4 (ix2 i j) = conv x0 x1 x3 x4 i j := by
  pointwise [val_main_v29, val_main_v28, val_main_v27, val_main_v26, val_main_v25, val_main_v24, val_main_v23, val_main_v22, val_main_v21, val_main_v19, val_main_v18, val_main_v17, val_main_v16, val_main_v15, val_main_v14, val_main_v12, val_main_v11, val_main_v10, val_main_v9, val_main_v8, val_main_v7, val_main_v6, val_main_cst_1]
  simp only [late_two_at, late_one_at, late_zero_at]

theorem gelu_at : val_main_v41 (F := Ideal) x0 x1 x3 x4 (ix2 i j) = gelu (conv x0 x1 x3 x4 i j) := by
  pointwise [val_main_v41, val_main_v31, val_main_v30, val_main_v37, val_main_v36, val_main_v35, val_main_v34, val_main_v33, val_main_v32, val_main_cst_2, val_main_cst_3]
  simp only [conv_at]
  rfl

/-- The gradient of the gated product. -/
abbrev dact : EReal := ∑ k : Fin 1024, x6 (ix2 i k) * x5 (ix2 j k)

theorem dact_at : val_main_v46 (F := Ideal) x5 x6 (ix2 i j) = dact x6 x5 i j := by
  pointwise [val_main_v46]

theorem up_at : val_main_v1 (F := Ideal) x0 x2 (ix2 i j) = ∑ k : Fin 1024, x0 (ix2 i k) * x2 (ix2 k j) := by
  pointwise [val_main_v1]

/-- What multiplies the gelu's slope. -/
abbrev factor : EReal := dact x6 x5 i j * val_main_v1 (F := Ideal) x0 x2 (ix2 i j)

/-- The gradient of the convolution's output. -/
abbrev dconv : EReal := pull (conv x0 x1 x3 x4 i j) (factor x0 x6 x2 x5 i j)

theorem dconv_at : val_main_v59 (F := Ideal) x0 x1 x2 x3 x4 x5 x6 (ix2 i j) = dconv x0 x6 x1 x2 x3 x4 x5 i j := by
  pointwise [val_main_v59, val_main_v58, val_main_v57, val_main_v56, val_main_v55, val_main_v54, val_main_v53, val_main_v52, val_main_v51, val_main_v50, val_main_v49, val_main_v48, val_main_v40, val_main_v39, val_main_v38, val_main_v31, val_main_v30, val_main_v37, val_main_v36, val_main_v35, val_main_v34, val_main_v33, val_main_v32, val_main_cst_2, val_main_cst_3, val_main_cst_4, val_main_cst_5]
  simp only [conv_at, dact_at]
  rfl

theorem du_at : val_main_v107 (F := Ideal) x0 x1 x3 x4 x5 x6 (ix2 i j) = gelu (conv x0 x1 x3 x4 i j) * dact x6 x5 i j := by
  pointwise [val_main_v107, val_main_v47]
  exact congrArg₂ (fun x y : EReal => x * y) (gelu_at ..) (dact_at ..)

theorem da_at : val_main_v106 (F := Ideal) x0 x1 x2 x3 x4 x5 x6 (ix2 i j) = dconv x0 x6 x1 x2 x3 x4 x5 i j * x3 (ix2 2 j)
    + early 1 (fun i => dconv x0 x6 x1 x2 x3 x4 x5 i j) i * x3 (ix2 1 j) + early 2 (fun i => dconv x0 x6 x1 x2 x3 x4 x5 i j) i * x3 (ix2 0 j) := by
  pointwise [val_main_v106, val_main_v95, val_main_v93, val_main_v92, val_main_v87, val_main_v86, val_main_v82, val_main_v81, val_main_v76, val_main_v75, val_main_v71, val_main_v67, val_main_v66, val_main_cst_11, val_main_cst_15, val_main_cst_19]
  refine congrArg₂ (fun x y : EReal => x + y) (congrArg₂ (fun x y : EReal => x + y) (congrArg₂ (fun x y : EReal => x * y) (dconv_at ..) ?_) ?_) ?_
  · pointwise [val_main_v23, val_main_v22, val_main_v21]
  · rw [early]
    by_cases h : i.val + 1 < 2048
    · rw [dif_pos h, dif_pos ⟨by omega, by omega⟩]
      refine congrArg₂ (fun x y : EReal => x * y) ((dconv_at ..).trans ?_) ?_
      · exact congrArg (dconv x0 x6 x1 x2 x3 x4 x5 · j) (Fin.ext (by show 2 + i.val - 1 = i.val + 1; omega))
      · pointwise [val_main_v16, val_main_v15, val_main_v14]
    · rw [dif_neg h, dif_neg (by omega), zero_mul]
  · rw [early]
    by_cases h : i.val + 2 < 2048
    · rw [dif_pos h, dif_pos (by omega)]
      refine congrArg₂ (fun x y : EReal => x * y) ((dconv_at ..).trans ?_) ?_
      · exact congrArg (dconv x0 x6 x1 x2 x3 x4 x5 · j) (Fin.ext (by show 2 + i.val = i.val + 2; omega))
      · pointwise [val_main_v8, val_main_v7, val_main_v6]
    · rw [dif_neg h, dif_neg (by omega), zero_mul]

theorem dwd_at (j : Fin 2816) (k : Fin 1024) : val_main_v108 (F := Ideal) x0 x1 x2 x3 x4 x6 (ix2 j k)
    = ∑ i : Fin 2048, x6 (ix2 i k) * (gelu (conv x0 x1 x3 x4 i j) * val_main_v1 (F := Ideal) x0 x2 (ix2 i j)) := by
  pointwise [val_main_v108, val_main_v45, val_main_v44, val_main_v42]
  simp only [gelu_at]

theorem dwg_at (j : Fin 2816) (k : Fin 1024) : val_main_v110 (F := Ideal) x0 x1 x2 x3 x4 x5 x6 (ix2 j k)
    = ∑ i : Fin 2048, val_main_v106 (F := Ideal) x0 x1 x2 x3 x4 x5 x6 (ix2 i j) * x0 (ix2 i k) := by
  pointwise [val_main_v110, val_main_v109, val_main_v100, val_main_v99, val_main_v106]

theorem dwu_at (j : Fin 2816) (k : Fin 1024) : val_main_v112 (F := Ideal) x0 x1 x3 x4 x5 x6 (ix2 j k)
    = ∑ i : Fin 2048, val_main_v107 (F := Ideal) x0 x1 x3 x4 x5 x6 (ix2 i j) * x0 (ix2 i k) := by
  pointwise [val_main_v112, val_main_v111, val_main_v97, val_main_v96, val_main_v107]

theorem first_at : val_main_v88 (F := Ideal) x0 x1 x2 x3 x4 x5 x6 (ix1 j) = ∑ i : Fin 2048, late 2 (col x0 x1 j) i * dconv x0 x6 x1 x2 x3 x4 x5 i j := by
  pointwise [val_main_v88, val_main_v85, val_main_v84, val_main_v83, val_main_cst_16, val_main_cst_17]
  refine (Fintype.sum_subsingleton _ (0 : Fin 1)).trans (Finset.sum_congr rfl fun i _ => ?_)
  exact congrArg₂ (fun x y : EReal => x * y) (late_two_at ..) (dconv_at ..)

theorem second_at : val_main_v77 (F := Ideal) x0 x1 x2 x3 x4 x5 x6 (ix1 j) = ∑ i : Fin 2048, late 1 (col x0 x1 j) i * dconv x0 x6 x1 x2 x3 x4 x5 i j := by
  pointwise [val_main_v77, val_main_v74, val_main_v73, val_main_v72, val_main_cst_12, val_main_cst_13]
  refine (Fintype.sum_subsingleton _ (0 : Fin 1)).trans (Finset.sum_congr rfl fun i _ => ?_)
  exact congrArg₂ (fun x y : EReal => x * y) (late_one_at ..) (dconv_at ..)

theorem third_at : val_main_v68 (F := Ideal) x0 x1 x2 x3 x4 x5 x6 (ix1 j) = ∑ i : Fin 2048, col x0 x1 j i * dconv x0 x6 x1 x2 x3 x4 x5 i j := by
  pointwise [val_main_v68, val_main_v65, val_main_v64, val_main_v63, val_main_cst_8, val_main_cst_9]
  refine (Fintype.sum_subsingleton _ (0 : Fin 1)).trans (Finset.sum_congr rfl fun i _ => ?_)
  exact congrArg₂ (fun x y : EReal => x * y) (late_zero_at ..) (dconv_at ..)

theorem fourth_at : val_main_v62 (F := Ideal) x0 x1 x2 x3 x4 x5 x6 (ix1 j) = ∑ i : Fin 2048, dconv x0 x6 x1 x2 x3 x4 x5 i j := by
  pointwise [val_main_v62, val_main_v61, val_main_v60, val_main_cst_6, val_main_cst_7]
  refine (Fintype.sum_subsingleton _ (0 : Fin 1)).trans (Finset.sum_congr rfl fun i _ => ?_)
  exact dconv_at ..

/-- The gradients of the convolution's three weights and of its shift, and four rows of zeros. -/
theorem dc_at (q : Fin 8) : val_main_v105 (F := Ideal) x0 x1 x2 x3 x4 x5 x6 (ix2 q j)
    = if q.val = 0 then ∑ i : Fin 2048, late 2 (col x0 x1 j) i * dconv x0 x6 x1 x2 x3 x4 x5 i j
      else if q.val = 1 then ∑ i : Fin 2048, late 1 (col x0 x1 j) i * dconv x0 x6 x1 x2 x3 x4 x5 i j
      else if q.val = 2 then ∑ i : Fin 2048, col x0 x1 j i * dconv x0 x6 x1 x2 x3 x4 x5 i j
      else if q.val = 3 then ∑ i : Fin 2048, dconv x0 x6 x1 x2 x3 x4 x5 i j else 0 := by
  pointwise [val_main_v105, val_main_v104, val_main_v103, val_main_v91, val_main_v90, val_main_v89, val_main_v80, val_main_v79, val_main_v78, val_main_v70, val_main_v69, val_main_cst_20, val_main_cst_10, val_main_cst_14, val_main_cst_18]
  simp only [first_at, second_at, third_at, fourth_at]
  match q with
  | ⟨0, _⟩ => simp
  | ⟨1, _⟩ => simp
  | ⟨2, _⟩ => simp
  | ⟨3, _⟩ => simp
  | ⟨4, _⟩ => simp
  | ⟨5, _⟩ => simp
  | ⟨6, _⟩ => simp
  | ⟨7, _⟩ => simp

end Cert.FfnGradIdeal.Rows
-- ==== Proof.FfnEntry.lean ====
module

public import proofs.«01_k».proof.Proof.FfnRows
public import proofs.«01_k».proof.Proof.FfnGrads
public import Idealize.ShloMosaic.Lib.Pipeline.ValueKit
public import Idealize.ShloMosaic.Lib.Pointwise
public import Idealize.ShloMosaic.Lib.Claim

/-!
The arrays the feed-forward gradient kernel reads, block by block.
-/

@[expose] public section

set_option maxRecDepth 16384

noncomputable section

open Idealize.ShloMosaic Idealize.ShloMosaic.TcCoe Idealize.SL.Sem

namespace Cert.FfnBwdIdeal.Value
open Cert.FfnBwdIdeal Cert.FfnBwdIdeal.Gen Cert.Gelu Cert.Reals

variable (m : (ℓ : Loc nD τ sig) → Buf (Elt Ideal) ℓ)

theorem dr_entry (c : Dev nD) : V m c main_v2 = (m ((c : Thread nD τ).loc main_arg6)) := by
  entry_read
  rfl

theorem h_entry (c : Dev nD) : V m c main_v3 = (m ((c : Thread nD τ).loc main_arg0)) := by
  entry_read
  rfl

theorem a_entry (c : Dev nD) : V m c main_v0 = Cert.FfnGradIdeal.Read.val_main_v0 (F := Ideal) (m ((c : Thread nD τ).loc main_arg0)) (m ((c : Thread nD τ).loc main_arg1)) := by
  entry_read
  rfl

theorem u_entry (c : Dev nD) : V m c main_v1 = Cert.FfnGradIdeal.Read.val_main_v1 (F := Ideal) (m ((c : Thread nD τ).loc main_arg0)) (m ((c : Thread nD τ).loc main_arg2)) := by
  entry_read
  rfl

theorem wd_entry (c : Dev nD) : V m c main_v4 = (m ((c : Thread nD τ).loc main_arg5)) := by
  entry_read
  rfl

theorem shift_entry (c : Dev nD) : V m c main_v5 = Cert.FfnGradIdeal.Read.val_main_v27 (F := Ideal) (m ((c : Thread nD τ).loc main_arg4)) := by
  entry_read
  rfl

/-- The column of the whole array at column `j` of tile `t`. -/
abbrev place (t : Fin cfg0.N) (j : Fin 256) : Fin 2816 := ⟨t.val * 256 + j.val, by have := t.isLt.trans_le (le_of_eq N_0); omega⟩

theorem idx : ∀ t : Fin cfg0.N, win0_0.index t = ![0, 0] ∧ win0_1.index t = ![0, 0] ∧ win0_2.index t = ![0, t.val] ∧ win0_3.index t = ![0, t.val] ∧ win0_4.index t = ![t.val, 0] ∧ win0_5.index t = ![0, t.val]
    ∧ win0_6.index t = ![0, t.val] ∧ win0_7.index t = ![0, t.val] ∧ win0_8.index t = ![0, t.val] ∧ win0_9.index t = ![t.val, 0] ∧ win0_10.index t = ![t.val, 0] ∧ win0_11.index t = ![t.val, 0] ∧ win0_12.index t = ![0, t.val] := (by decide +kernel : ∀ t : Fin grid0.N, _)

variable (c : Dev nD) (t : Fin cfg0.N) (r : Fin 2048) (j : Fin 256) (k : Fin 1024)

theorem dr_block : iblk m c 0 t (ix2 r k) = (m ((c : Thread nD τ).loc main_arg6)) (ix2 r k) := by
  rw [← dr_entry m c]
  unfold iblk; blk_simp; generalize V m c main_v2 = y; refine congrArg y ?_; blk_ext [place, idx t]

theorem h_block : iblk m c 1 t (ix2 r k) = (m ((c : Thread nD τ).loc main_arg0)) (ix2 r k) := by
  rw [← h_entry m c]
  unfold iblk; blk_simp; generalize V m c main_v3 = y; refine congrArg y ?_; blk_ext [place, idx t]

theorem a_block : iblk m c 2 t (ix2 r j) = Cert.FfnGradIdeal.Read.val_main_v0 (F := Ideal) (m ((c : Thread nD τ).loc main_arg0)) (m ((c : Thread nD τ).loc main_arg1)) (ix2 r (place t j)) := by
  rw [← a_entry m c]
  unfold iblk; blk_simp; generalize V m c main_v0 = y; refine congrArg y ?_; blk_ext [place, idx t]

theorem u_block : iblk m c 3 t (ix2 r j) = Cert.FfnGradIdeal.Read.val_main_v1 (F := Ideal) (m ((c : Thread nD τ).loc main_arg0)) (m ((c : Thread nD τ).loc main_arg2)) (ix2 r (place t j)) := by
  rw [← u_entry m c]
  unfold iblk; blk_simp; generalize V m c main_v1 = y; refine congrArg y ?_; blk_ext [place, idx t]

theorem wd_block : iblk m c 4 t (ix2 j k) = (m ((c : Thread nD τ).loc main_arg5)) (ix2 (place t j) k) := by
  rw [← wd_entry m c]
  unfold iblk; blk_simp; generalize V m c main_v4 = y; refine congrArg y ?_; blk_ext [place, idx t]

theorem cw_block (q : Fin 3) : iblk m c 5 t (ix2 q j) = (m ((c : Thread nD τ).loc main_arg3)) (ix2 q (place t j)) := by
  blk_point [iblk, V_main_arg3, place, idx t]

theorem shift_row (x4 : (⟨S2816, .f32⟩ : BufTy).Contents (Elt Ideal)) (j : Fin 2816) : Cert.FfnGradIdeal.Read.val_main_v27 (F := Ideal) x4 (ix2 0 j) = x4 (ix1 j) := by
  pointwise [Cert.FfnGradIdeal.Read.val_main_v27]

theorem cb_block : iblk m c 6 t (ix2 0 j) = (m ((c : Thread nD τ).loc main_arg4)) (ix1 (place t j)) := by
  rw [← shift_row (m ((c : Thread nD τ).loc main_arg4)), ← shift_entry m c]
  unfold iblk; blk_simp; generalize V m c main_v5 = y; refine congrArg y ?_; blk_ext [place, idx t]

end Cert.FfnBwdIdeal.Value
-- ==== Proof.FfnFinite.lean ====
module

public import proofs.«01_k».proof.Proof.Reals
public import proofs.«01_k».proof.Proof.Gelu
public import proofs.«01_k».proof.Proof.Gen.Pre_ffn_finite
public import proofs.«01_k».proof.Proof.Gen.FfnBwdIdeal.Value
public import Idealize.ShloMosaic.Lib.Pipeline.ValueKit
public import Idealize.ShloMosaic.Lib.Pointwise
public import Idealize.ShloMosaic.Lib.Claim

/-!
What the precondition of the feed-forward gradient's claim gives.
-/

@[expose] public section

set_option maxRecDepth 16384

noncomputable section

open Idealize.ShloMosaic Idealize.ShloMosaic.TcCoe Idealize.SL.Sem

namespace Cert.FfnBwdIdeal.Value
open Cert.FfnBwdIdeal Cert.FfnBwdIdeal.Gen Cert.Gelu Cert.Reals

/-- Finite arguments are real numbers. -/
theorem finite_args (x0 x6 : (⟨S2048x1024, .f32⟩ : BufTy).Contents (Elt Ideal)) (x1 x2 : (⟨S1024x2816, .f32⟩ : BufTy).Contents (Elt Ideal)) (x3 : (⟨S3x2816, .f32⟩ : BufTy).Contents (Elt Ideal)) (x4 : (⟨S2816, .f32⟩ : BufTy).Contents (Elt Ideal)) (x5 : (⟨S2816x1024, .f32⟩ : BufTy).Contents (Elt Ideal))
    (h : Cert.Pre_ffn_finite.fn (F := Ideal) x0 x1 x2 x3 x4 x5 x6 = fun _ => 1#1) :
    (∀ i, IsReal (x0 i)) ∧ (∀ i, IsReal (x2 i)) ∧ (∀ i, IsReal (x5 i)) ∧ (∀ i, IsReal (x6 i)) := by
  have both (a b : BitVec 1) : IntOp.andi a b = 1#1 → a = 1#1 ∧ b = 1#1 := by revert a b; decide
  have e := congrFun h (Shape.Idx.first (by decide))
  unfold Cert.Pre_ffn_finite.fn Cert.Pre_ffn_finite.fn_part1 at e
  obtain ⟨e, e6⟩ := both _ _ e
  obtain ⟨e, e5⟩ := both _ _ e
  obtain ⟨e0, e2⟩ := both _ _ e
  exact ⟨of_all x0 _ _ (fun _ => rfl) _ _ _ e0, of_all x2 _ _ (fun _ => rfl) _ _ _ e2, of_all x5 _ _ (fun _ => rfl) _ _ _ e5, of_all x6 _ _ (fun _ => rfl) _ _ _ e6⟩

end Cert.FfnBwdIdeal.Value
-- ==== Proof.FfnFinal.lean ====
module

public import proofs.«01_k».proof.Proof.FfnEntry
public import proofs.«01_k».proof.Proof.FfnFinite
public import Idealize.ShloMosaic.Lib.Pipeline.ValueKit
public import Idealize.ShloMosaic.Lib.Pointwise
public import Idealize.ShloMosaic.Lib.Claim

/-!
The six results of the feed-forward gradient kernel are those of its reference.
-/

@[expose] public section

set_option maxRecDepth 16384

noncomputable section

open Idealize.ShloMosaic Idealize.ShloMosaic.TcCoe Idealize.SL.Sem

namespace Cert.FfnBwdIdeal.Value
open Cert.FfnGradIdeal.Read Cert.FfnBwdIdeal Cert.FfnBwdIdeal.Gen Cert.Gelu Cert.Reals

variable (m : (ℓ : Loc nD τ sig) → Buf (Elt Ideal) ℓ) (c : Dev nD) (t : Fin cfg0.N) (r : Fin 2048) (j : Fin 256)

/-- The reference's gradient of the gated product, its convolution, the gradient of its output and its input, by column. -/
abbrev actAt (r : Fin 2048) (l : Fin 2816) : EReal := Cert.FfnGradIdeal.Rows.dact (m ((c : Thread nD τ).loc main_arg6)) (m ((c : Thread nD τ).loc main_arg5)) r l
abbrev convAt (r : Fin 2048) (l : Fin 2816) : EReal := Cert.FfnGradIdeal.Rows.conv (m ((c : Thread nD τ).loc main_arg0)) (m ((c : Thread nD τ).loc main_arg1)) (m ((c : Thread nD τ).loc main_arg3)) (m ((c : Thread nD τ).loc main_arg4)) r l
abbrev slopeAt (r : Fin 2048) (l : Fin 2816) : EReal := Cert.FfnGradIdeal.Rows.dconv (m ((c : Thread nD τ).loc main_arg0)) (m ((c : Thread nD τ).loc main_arg6)) (m ((c : Thread nD τ).loc main_arg1)) (m ((c : Thread nD τ).loc main_arg2)) (m ((c : Thread nD τ).loc main_arg3)) (m ((c : Thread nD τ).loc main_arg4)) (m ((c : Thread nD τ).loc main_arg5)) r l
abbrev inputAt (l : Fin 2816) : Fin 2048 → EReal := Cert.FfnGradIdeal.Rows.col (m ((c : Thread nD τ).loc main_arg0)) (m ((c : Thread nD τ).loc main_arg1)) l

/-- Weight `q` of the convolution at column `l`. -/
abbrev weightAt (q : Fin 3) (l : Fin 2816) : EReal := (m ((c : Thread nD τ).loc main_arg3)) (ix2 q l)

theorem act_eq : dact (iblk m c 0 t) (iblk m c 4 t) r j = actAt m c r (place t j) :=
  Finset.sum_congr rfl fun k _ => congrArg₂ (fun x y : EReal => x * y) (dr_block m c t r k) (wd_block m c t j k)

theorem col_eq : (fun i => iblk m c 2 t (ix2 i j)) = inputAt m c (place t j) := funext fun i => a_block m c t i j

theorem conv_eq : conv (iblk m c 2 t) (iblk m c 5 t) (iblk m c 6 t) r j = convAt m c r (place t j) := by
  have e : conv (iblk m c 2 t) (iblk m c 5 t) (iblk m c 6 t) r j = weightAt m c 2 (place t j) * inputAt m c (place t j) r + weightAt m c 1 (place t j) * late 1 (inputAt m c (place t j)) r
      + weightAt m c 0 (place t j) * late 2 (inputAt m c (place t j)) r + (m ((c : Thread nD τ).loc main_arg4)) (ix1 (place t j)) := by
    rw [← col_eq]
    exact congrArg₂ (fun x y : EReal => x + y) (congrArg₂ (fun x y : EReal => x + y) (congrArg₂ (fun x y : EReal => x + y) (congrArg (fun x : EReal => x * _) (cw_block m c t j 2)) (congrArg (fun x : EReal => x * _) (cw_block m c t j 1))) (congrArg (fun x : EReal => x * _) (cw_block m c t j 0))) (cb_block m c t j)
  have f : convAt m c r (place t j) = late 2 (inputAt m c (place t j)) r * weightAt m c 0 (place t j) + late 1 (inputAt m c (place t j)) r * weightAt m c 1 (place t j)
      + inputAt m c (place t j) r * weightAt m c 2 (place t j) + (m ((c : Thread nD τ).loc main_arg4)) (ix1 (place t j)) := rfl
  rw [e, f]
  refine congrArg (· + _) ?_
  rw [mul_comm (weightAt m c 2 _), mul_comm (weightAt m c 1 _), mul_comm (weightAt m c 0 _), add_comm (inputAt m c _ r * _), add_right_comm, add_comm (late 1 _ _ * _), ]

theorem du_eq : k0_pay15 (F := Ideal) (k0_pay8 (iblk m c 0 t) (iblk m c 4 t)) (k0_pay9 (iblk m c 2 t) (iblk m c 5 t)) (k0_pay10 (iblk m c 6 t)) (ix2 r j) = val_main_v107 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (ix2 r (place t j)) := by
  refine (du_at ..).trans (Eq.trans ?_ (Cert.FfnGradIdeal.Rows.du_at ..).symm)
  refine (mul_comm _ _).trans (congrArg₂ (fun x y : EReal => x * y) (congrArg gelu (conv_eq m c t r j)) (act_eq m c t r j))

theorem dwd_eq (k : Fin 1024) : k0_pay14 (F := Ideal) (k0_pay4 (iblk m c 0 t)) (k0_pay7 (iblk m c 3 t)) (k0_pay9 (iblk m c 2 t) (iblk m c 5 t)) (k0_pay10 (iblk m c 6 t)) (ix2 j k)
    = val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (ix2 (place t j) k) := by
  refine (dwd_at ..).trans (Eq.trans ?_ (Cert.FfnGradIdeal.Rows.dwd_at ..).symm)
  refine Finset.sum_congr rfl fun r _ => (mul_comm _ _).trans (congrArg₂ (fun x y : EReal => x * y) (dr_block m c t r k) (congrArg₂ (fun x y : EReal => x * y) (congrArg gelu (conv_eq m c t r j)) (u_block m c t r j)))

theorem dwu_eq (k : Fin 1024) : k0_pay24 (F := Ideal) (k0_pay5 (iblk m c 1 t)) (k0_pay15 (k0_pay8 (iblk m c 0 t) (iblk m c 4 t)) (k0_pay9 (iblk m c 2 t) (iblk m c 5 t)) (k0_pay10 (iblk m c 6 t))) (ix2 j k)
    = val_main_v112 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (ix2 (place t j) k) := by
  refine (dwu_at ..).trans (Eq.trans ?_ (Cert.FfnGradIdeal.Rows.dwu_at ..).symm)
  exact Finset.sum_congr rfl fun r _ => congrArg₂ (fun x y : EReal => x * y) (du_eq m c t r j) (h_block m c t r k)

section
variable (hpre : Cert.Pre_ffn_finite.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = fun _ => 1#1)
include hpre

theorem slope_eq : dconv (iblk m c 0 t) (iblk m c 2 t) (iblk m c 3 t) (iblk m c 4 t) (iblk m c 5 t) (iblk m c 6 t) r j = slopeAt m c r (place t j) := by
  obtain ⟨f0, f2, f5, f6⟩ := finite_args _ _ _ _ _ _ _ hpre
  have hf : IsReal (Cert.FfnGradIdeal.Rows.factor (m ((c : Thread nD τ).loc main_arg0)) (m ((c : Thread nD τ).loc main_arg6)) (m ((c : Thread nD τ).loc main_arg2)) (m ((c : Thread nD τ).loc main_arg5)) r (place t j)) := by
    refine (IsReal.sum fun k => (f6 _).mul (f5 _)).mul ?_
    rw [Cert.FfnGradIdeal.Rows.up_at]
    exact IsReal.sum fun k => (f0 _).mul (f2 _)
  refine Eq.trans ?_ (pull_eq _ hf)
  exact congrArg₂ (fun x y : EReal => x * y) (congrArg₂ (fun x y : EReal => x * y) (act_eq m c t r j) (u_block m c t r j)) (congrArg Gelu.slope (conv_eq m c t r j))

theorem slope_col : (fun i => dconv (iblk m c 0 t) (iblk m c 2 t) (iblk m c 3 t) (iblk m c 4 t) (iblk m c 5 t) (iblk m c 6 t) i j) = fun i => slopeAt m c i (place t j) := funext fun i => slope_eq m c t i j hpre

/-- The gradient of the convolution's input, as the block stores it. -/
abbrev stored : FVec Ideal S2048x256 .bf16 := k0_pay22 (F := Ideal) (k0_pay17 (k0_pay7 (iblk m c 3 t)) (iblk m c 5 t) (k0_pay8 (iblk m c 0 t) (iblk m c 4 t)) (k0_pay9 (iblk m c 2 t) (iblk m c 5 t)) (k0_pay10 (iblk m c 6 t))) (k0_pay18 (iblk m c 5 t)) k0_pay19 (k0_pay20 (k0_pay7 (iblk m c 3 t)) (k0_pay8 (iblk m c 0 t) (iblk m c 4 t)) (k0_pay9 (iblk m c 2 t) (iblk m c 5 t)) (k0_pay10 (iblk m c 6 t))) k0_pay21

theorem da_eq : stored m c t (ix2 r j) = val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 r (place t j)) := by
  refine (da_at ..).trans (Eq.trans ?_ (Cert.FfnGradIdeal.Rows.da_at ..).symm)
  rw [dinput, slope_eq m c t r j hpre, slope_col m c t j hpre]
  refine congrArg₂ (fun x y : EReal => x + y) (congrArg₂ (fun x y : EReal => x + y) ?_ ?_) ?_
  · exact (congrArg (fun x : EReal => x * _) (cw_block m c t j 2)).trans (mul_comm _ _)
  · exact (congrArg (fun x : EReal => x * _) (cw_block m c t j 1)).trans (mul_comm _ _)
  · exact (congrArg (fun x : EReal => x * _) (cw_block m c t j 0)).trans (mul_comm _ _)

theorem dwg_eq (k : Fin 1024) : k0_pay23 (F := Ideal) (k0_pay5 (iblk m c 1 t)) (k0_pay17 (k0_pay7 (iblk m c 3 t)) (iblk m c 5 t) (k0_pay8 (iblk m c 0 t) (iblk m c 4 t)) (k0_pay9 (iblk m c 2 t) (iblk m c 5 t)) (k0_pay10 (iblk m c 6 t))) (k0_pay18 (iblk m c 5 t)) k0_pay19 (k0_pay20 (k0_pay7 (iblk m c 3 t)) (k0_pay8 (iblk m c 0 t) (iblk m c 4 t)) (k0_pay9 (iblk m c 2 t) (iblk m c 5 t)) (k0_pay10 (iblk m c 6 t))) k0_pay21 (ix2 j k)
    = val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (place t j) k) := by
  refine (dwg_at ..).trans (Eq.trans ?_ (Cert.FfnGradIdeal.Rows.dwg_at ..).symm)
  exact Finset.sum_congr rfl fun r _ => congrArg₂ (fun x y : EReal => x * y) (da_eq m c t r j hpre) (h_block m c t r k)

/-- A sum of the convolution's gradient over the rows, times a column. -/
theorem dc_eq (y : Fin 2048 → EReal) : (∑ r : Fin 2048, k0_pay16 (F := Ideal) (k0_pay7 (iblk m c 3 t)) (k0_pay8 (iblk m c 0 t) (iblk m c 4 t)) (k0_pay9 (iblk m c 2 t) (iblk m c 5 t)) (k0_pay10 (iblk m c 6 t)) (ix2 r j) * y r) = ∑ r : Fin 2048, y r * slopeAt m c r (place t j) :=
  Finset.sum_congr rfl fun r _ => (mul_comm _ _).trans (congrArg (_ * ·) ((dconv_at ..).trans (slope_eq m c t r j hpre)))

theorem da_final : (dats m 0 c).arrAt 7 (cfgs 0).N = val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  have at_place : (win0_7.blk t).view.emb y = ix2 (y 0) (place t (y 1)) := by blk_ext [place, idx t]
  blk_simp
  rw [after0_7]
  unfold outsAt0
  frame_out
  exact ((congrArg _ (eq_ix2 y)).trans (da_eq m c t (y 0) (y 1) hpre)).trans (congrArg _ at_place.symm)

omit hpre in
theorem du_final : (dats m 0 c).arrAt 8 (cfgs 0).N = val_main_v107 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  have at_place : (win0_8.blk t).view.emb y = ix2 (y 0) (place t (y 1)) := by blk_ext [place, idx t]
  blk_simp
  rw [after0_8]
  unfold outsAt0
  frame_out
  exact ((congrArg _ (eq_ix2 y)).trans (du_eq m c t (y 0) (y 1) )).trans (congrArg _ at_place.symm)

omit hpre in
theorem dwd_final : (dats m 0 c).arrAt 9 (cfgs 0).N = val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_covers 9 _ (by decide +kernel) fun t _ y => ?_
  have at_place : (win0_9.blk t).view.emb y = ix2 (place t (y 0)) (y 1) := by blk_ext [place, idx t]
  blk_simp
  rw [after0_9]
  unfold outsAt0
  frame_out
  exact ((congrArg _ (eq_ix2 y)).trans (dwd_eq m c t (y 0) (y 1) )).trans (congrArg _ at_place.symm)

theorem dwg_final : (dats m 0 c).arrAt 10 (cfgs 0).N = val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t _ y => ?_
  have at_place : (win0_10.blk t).view.emb y = ix2 (place t (y 0)) (y 1) := by blk_ext [place, idx t]
  blk_simp
  rw [after0_10]
  unfold outsAt0
  frame_out
  exact ((congrArg _ (eq_ix2 y)).trans (dwg_eq m c t (y 0) hpre (y 1))).trans (congrArg _ at_place.symm)

omit hpre in
theorem dwu_final : (dats m 0 c).arrAt 11 (cfgs 0).N = val_main_v112 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (dats m 0 c).arrAt_eq_of_covers 11 _ (by decide +kernel) fun t _ y => ?_
  have at_place : (win0_11.blk t).view.emb y = ix2 (place t (y 0)) (y 1) := by blk_ext [place, idx t]
  blk_simp
  rw [after0_11]
  unfold outsAt0
  frame_out
  exact ((congrArg _ (eq_ix2 y)).trans (dwu_eq m c t (y 0) (y 1) )).trans (congrArg _ at_place.symm)

theorem dc_final : (dats m 0 c).arrAt 12 (cfgs 0).N = val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 12 _ (by decide +kernel) fun t _ y => ?_
  have at_place : (win0_12.blk t).view.emb y = ix2 (y 0) (place t (y 1)) := by blk_ext [place, idx t]
  blk_simp
  rw [after0_12]
  unfold outsAt0
  frame_out
  refine Eq.trans ?_ (congrArg _ at_place.symm)
  canon_tiles x h using (View.cover_of_tiledBy _ ![1, 256] (by sl_kernel_rfl) y)
  all_goals refine (congrArg _ (eq_ix2 x)).trans (Eq.trans ?_ (Cert.FfnGradIdeal.Rows.dc_at ..).symm)
  all_goals rw [show place t (y 1) = place t (x 1) from congrArg (place t) (Fin.ext h1)]
  · rw [if_neg (by omega), if_neg (by omega), if_neg (by omega), if_neg (by omega)]
    pointwise [k0_pay3]
  · rw [if_neg (by omega), if_neg (by omega), if_neg (by omega), if_pos (by omega)]
    refine (dc_fourth ..).trans (Finset.sum_congr rfl fun r _ => (dconv_at ..).trans (slope_eq m c t r (x 1) hpre))
  · rw [if_neg (by omega), if_neg (by omega), if_pos (by omega)]
    refine (dc_third ..).trans ((dc_eq m c t (x 1) hpre fun r => iblk m c 2 t (ix2 r (x 1))).trans (congrArg (fun f : Fin 2048 → EReal => ∑ r : Fin 2048, f r * slopeAt m c r (place t (x 1))) (col_eq m c t (x 1))))
  · rw [if_neg (by omega), if_pos (by omega)]
    refine (dc_second ..).trans ((dc_eq m c t (x 1) hpre (late 1 fun i => iblk m c 2 t (ix2 i (x 1)))).trans (congrArg (fun f : Fin 2048 → EReal => ∑ r : Fin 2048, late 1 f r * slopeAt m c r (place t (x 1))) (col_eq m c t (x 1))))
  · rw [if_pos (by omega)]
    refine (dc_first ..).trans ((dc_eq m c t (x 1) hpre (late 2 fun i => iblk m c 2 t (ix2 i (x 1)))).trans (congrArg (fun f : Fin 2048 → EReal => ∑ r : Fin 2048, late 2 f r * slopeAt m c r (place t (x 1))) (col_eq m c t (x 1))))

end

end Cert.FfnBwdIdeal.Value
-- ==== Proof.FfnBwdClaim.lean ====
module

public import proofs.«01_k».proof.Proof.FfnBwdFrames
public import proofs.«01_k».proof.Proof.FfnFinal
public import proofs.«01_k».proof.Proof.Gen.Pre_ffn_finite

@[expose] public section

set_option maxRecDepth 16384

noncomputable section

open Idealize.ShloMosaic Idealize.SL.Sem

namespace Cert.Proof.FfnBwd

theorem frameIdealPre : Cert.quiescent_FfnBwdIdeal_pre_ffn_finite := fun m ρ _ => Cert.FfnBwdIdeal.Gen.frame m ρ

theorem frameReferencePre : Cert.quiescent_FfnGradIdeal_pre_ffn_finite := fun m ρ _ => frameReference m ρ trivial

theorem algebraic : Cert.algebraic_FfnBwdIdeal_FfnGradIdeal_pre_ffn_finite := by
  intro m ρ m' ρ' hpre hagree
  refine ⟨_, _, _, _, _, _, Cert.FfnBwdIdeal.Value.run_blocks m ρ, ?_⟩
  refine (θ_run Cert.FfnGradIdeal.defs _ _).mono (fun _ h c => ?_) (Cert.FfnGradIdeal.Value.run (F := Ideal) m' ρ')
  obtain ⟨a0, a1, a2, a3, a4, a5, a6⟩ := hagree c
  obtain ⟨h0, h1, h2, h3, h4, h5, hargs⟩ := h c
  refine ⟨h0.trans ?_, h1.trans ?_, h2.trans ?_, h3.trans ?_, h4.trans ?_, h5.trans ?_, hargs⟩
  · refine (Cert.FfnGradIdeal.Read.val_main_v106_eq ..).trans ?_
    simp only [a0, a1, a2, a3, a4, a5, a6]
    exact (Cert.FfnBwdIdeal.Value.da_final m c (hpre c)).symm
  · refine (Cert.FfnGradIdeal.Read.val_main_v107_eq ..).trans ?_
    simp only [a0, a1, a2, a3, a4, a5, a6]
    exact (Cert.FfnBwdIdeal.Value.du_final m c).symm
  · refine (Cert.FfnGradIdeal.Read.val_main_v108_eq ..).trans ?_
    simp only [a0, a1, a2, a3, a4, a5, a6]
    exact (Cert.FfnBwdIdeal.Value.dwd_final m c).symm
  · refine (Cert.FfnGradIdeal.Read.val_main_v110_eq ..).trans ?_
    simp only [a0, a1, a2, a3, a4, a5, a6]
    exact (Cert.FfnBwdIdeal.Value.dwg_final m c (hpre c)).symm
  · refine (Cert.FfnGradIdeal.Read.val_main_v112_eq ..).trans ?_
    simp only [a0, a1, a2, a3, a4, a5, a6]
    exact (Cert.FfnBwdIdeal.Value.dwu_final m c).symm
  · refine (Cert.FfnGradIdeal.Read.val_main_v105_eq ..).trans ?_
    simp only [a0, a1, a2, a3, a4, a5, a6]
    exact (Cert.FfnBwdIdeal.Value.dc_final m c (hpre c)).symm

end Cert.Proof.FfnBwd

end

end
-- ==== Proof.AttnFrames.lean ====
module

public import proofs.«01_k».proof.Defs
public import proofs.«01_k».proof.Proof.Gen.Attn.Frame
public import proofs.«01_k».proof.Proof.Gen.AttnIdeal.Frame
public import proofs.«01_k».proof.Proof.Gen.AttnGradIdeal.Run
public import Idealize.ShloMosaic.Lib.Quiescent

@[expose] public section

set_option maxRecDepth 16384

noncomputable section

open Idealize.ShloMosaic Idealize.SL.Sem

namespace Cert.Proof.Attn

theorem frame : Cert.quiescent_Attn := fun m ρ _ => Cert.Attn.Gen.frame m ρ

theorem frameIdeal : Cert.quiescent_AttnIdeal := fun m ρ _ => Cert.AttnIdeal.Gen.frame m ρ

theorem frameReference : Cert.quiescent_AttnGradIdeal := fun m ρ _ =>
  (θ_run Cert.AttnGradIdeal.defs _ _).mono (fun r h => ⟨fun c => (h c).2.2.2, Idealize.ShloMosaic.sem_eq_zero_of_no_sems (by decide) r.2⟩) (Cert.AttnGradIdeal.Value.run (F := Ideal) m ρ)

theorem preserves : Cert.preserves_Attn_AttnIdeal :=
  IdealRules.named_const.statement Cert.AttnIdeal.κ "mask" .f32 0xF149F2CA#32 ⊥ rfl

end Cert.Proof.Attn

end

end
-- ==== Proof.AttnMask.lean ====
module

public import proofs.«01_k».proof.Proof.Gen.AttnGradIdeal.Read
public import Idealize.ShloMosaic.Lib.Pipeline.ValueKit
public import Idealize.ShloMosaic.Lib.Pointwise
public import Idealize.ShloMosaic.Lib.WordCmp

/-!
Which key a query sees, read from the reference's mask words: the keys of the chosen earlier blocks, and those of its
own block up to itself.
-/

@[expose] public section

set_option maxRecDepth 20000

noncomputable section

open Idealize.ShloMosaic Idealize.ShloMosaic.TcCoe Idealize.SL.Sem

namespace Cert.AttnIdeal.Value
open Cert.AttnGradIdeal Cert.AttnGradIdeal.Gen
open Cert.AttnGradIdeal.Read
open Idealize.ShloMosaic.WordCmp

/-- The floor of a word divided by 256, as the reference computes it. -/
def floorWord (w : BitVec 32) : BitVec 32 :=
  let s (w : BitVec 32) : BitVec 32 := if w = 0 then 0 else if w.msb then -1 else 1
  Scalar.select (IntOp.andi (IntOp.cmpi .ne (s w) (s 256#32)) (IntOp.cmpi .ne (IntOp.remsi .host w 256#32) 0#32))
    (IntOp.subi (IntOp.divsi .host w 256#32) 1#32) (IntOp.divsi .host w 256#32)

theorem floorWord_eq : ∀ n : Fin 2048, floorWord (BitVec.ofNat 32 n.val) = BitVec.ofNat 32 (n.val / 256) := by decide +kernel

theorem block_eq (n : Fin 2048) : val_main_v60 (F := Ideal) (ix1 n) = BitVec.ofNat 32 (n.val / 256) :=
  Eq.trans rfl (floorWord_eq n)

theorem row_block_eq (n : Fin 2048) : val_main_v82 (F := Ideal) (ix2 n 0) = BitVec.ofNat 32 (n.val / 256) := by
  refine Eq.trans ?_ (floorWord_eq n)
  rw [← show val_main_v81 (F := Ideal) (ix2 n 0) = BitVec.ofNat 32 n.val from (val_main_v81_apply _).trans rfl]
  rfl

theorem col_block_eq (n : Fin 2048) : val_main_v84 (F := Ideal) (ix2 0 n) = BitVec.ofNat 32 (n.val / 256) := by
  refine Eq.trans ?_ (floorWord_eq n)
  rw [← show val_main_v83 (F := Ideal) (ix2 0 n) = BitVec.ofNat 32 n.val from (val_main_v83_apply _).trans rfl]
  rfl

theorem cmp_lt {a b : ℕ} (ha : a < 2048) (hb : b < 2048) : IntOp.cmpi .slt (BitVec.ofNat 32 a) (BitVec.ofNat 32 b) = 1#1 ↔ a < b := by
  rw [cmpi_slt_eq, toInt_ofNat_of_lt (by omega), toInt_ofNat_of_lt (by omega), ofBool_decide_eq_one_iff]
  omega

theorem cmp_le {a b : ℕ} (ha : a < 2048) (hb : b < 2048) : IntOp.cmpi .sle (BitVec.ofNat 32 a) (BitVec.ofNat 32 b) = 1#1 ↔ a ≤ b := by
  rw [cmpi_sle_eq, toInt_ofNat_of_lt (by omega), toInt_ofNat_of_lt (by omega), ofBool_decide_eq_one_iff]
  omega

theorem cmp_eq {a b : ℕ} (ha : a < 2048) (hb : b < 2048) : IntOp.cmpi .eq (BitVec.ofNat 32 a) (BitVec.ofNat 32 b) = 1#1 ↔ a = b := by
  rw [cmpi_eq_eq, ofBool_decide_eq_one_iff, ofNat_eq_ofNat_iff (by omega) (by omega)]

/-- A key block is earlier than the query's. -/
theorem past_iff (h : Fin 8) (n : Fin 2048) (e : Fin 8) : val_main_v78 (F := Ideal) (ix3 h n e) = 1#1 ↔ e.val < n.val / 256 := by
  have : val_main_v78 (F := Ideal) (ix3 h n e) = IntOp.cmpi .slt (BitVec.ofNat 32 e.val) (BitVec.ofNat 32 (n.val / 256)) := by
    rw [val_main_v78_apply, val_main_v77_apply, val_main_v67_apply, val_main_v65_apply, val_main_v66_apply, val_main_v64_apply, val_main_v63_apply, ← block_eq]
    refine congrArg₂ _ rfl (congrArg _ (funext fun a => ?_))
    match a with
    | ⟨0, _⟩ => rfl
  rw [this]
  exact cmp_lt (by omega) (by omega)

/-- A key of the query's own block, not after it. -/
theorem own_iff (h : Fin 8) (n j : Fin 2048) : val_main_v97 (F := Ideal) (ix3 h n j) = 1#1 ↔ n.val / 256 = j.val / 256 ∧ j.val ≤ n.val := by
  have : val_main_v97 (F := Ideal) (ix3 h n j) = IntOp.andi (IntOp.cmpi .eq (BitVec.ofNat 32 (n.val / 256)) (BitVec.ofNat 32 (j.val / 256)))
      (IntOp.cmpi .sle (BitVec.ofNat 32 j.val) (BitVec.ofNat 32 n.val)) := by
    rw [val_main_v97_apply, val_main_v96_apply, val_main_v93_apply, val_main_v87_apply, val_main_v92_apply, val_main_v85_apply, val_main_v86_apply, val_main_v90_apply, val_main_v91_apply, val_main_v88_apply, val_main_v89_apply, ← row_block_eq, ← col_block_eq]
    refine congrArg₂ _ (congrArg₂ _ (congrArg _ (funext fun a => ?_)) (congrArg _ (funext fun a => ?_))) rfl
    · match a with
      | ⟨0, _⟩ => rfl
      | ⟨1, _⟩ => rfl
    · match a with
      | ⟨0, _⟩ => rfl
      | ⟨1, _⟩ => rfl
  have and_one (a b : BitVec 1) : IntOp.andi a b = 1#1 ↔ a = 1#1 ∧ b = 1#1 := by
    revert a b; decide
  rw [this, and_one, cmp_eq (by omega) (by omega), cmp_le j.isLt n.isLt]

variable (x0 x1 : (⟨S2048x512, .f32⟩ : BufTy).Contents (Elt Ideal))

/-- The chosen blocks at a key. -/
theorem chosen_eq (h : Fin 8) (n j : Fin 2048) :
    val_main_v95 (F := Ideal) x0 x1 (ix3 h n j) = val_main_v79 (F := Ideal) x0 x1 (ix3 h n ⟨j.val / 256, by omega⟩) := by
  rw [val_main_v95_apply, val_main_v94_apply]
  refine congrArg _ (funext fun a => Fin.ext ?_)
  match a with
  | ⟨0, _⟩ => show ((h.val * 2048 + n.val) * 2048 + j.val) / 4194304 = h.val; omega
  | ⟨1, _⟩ => show ((h.val * 2048 + n.val) * 2048 + j.val) / 2048 % 2048 = n.val; omega
  | ⟨2, _⟩ => show ((h.val * 2048 + n.val) * 2048 + j.val) / 256 % 8 = j.val / 256; omega

/-- A block's keys are hidden from a query: an earlier block that was not chosen. -/
def Hidden (h : Fin 8) (n : Fin 2048) (e : ℕ) : Prop :=
  ∃ he : e < 8, e < n.val / 256 ∧ val_main_v79 (F := Ideal) x0 x1 (ix3 h n ⟨e, he⟩) = 0#1

/-- The keys a query sees. -/
def Seen (h : Fin 8) (n j : Fin 2048) : Prop := val_main_v98 (F := Ideal) x0 x1 (ix3 h n j) = 1#1

theorem chosen_past {h : Fin 8} {n : Fin 2048} {e : Fin 8} (c : val_main_v79 (F := Ideal) x0 x1 (ix3 h n e) = 1#1) : e.val < n.val / 256 := by
  have and_right (a b : BitVec 1) : IntOp.andi a b = 1#1 → b = 1#1 := by revert a b; decide
  exact (past_iff h n e).1 (and_right _ _ ((val_main_v79_apply x0 x1 _).symm.trans c))

theorem seen_iff (h : Fin 8) (n j : Fin 2048) : Seen x0 x1 h n j ↔ j.val ≤ n.val ∧ ¬ Hidden x0 x1 h n (j.val / 256) := by
  have or_one (a b : BitVec 1) : IntOp.ori a b = 1#1 ↔ a = 1#1 ∨ b = 1#1 := by revert a b; decide
  have bit (a : BitVec 1) : a = 0#1 ∨ a = 1#1 := by revert a; decide
  unfold Seen
  rw [val_main_v98_apply, or_one, chosen_eq, own_iff]
  constructor
  · rintro (c | ⟨e, l⟩)
    · have p := chosen_past x0 x1 c
      have p : j.val / 256 < n.val / 256 := p
      refine ⟨by omega, fun ⟨_, _, z⟩ => ?_⟩
      rw [z] at c
      exact absurd c (by decide)
    · exact ⟨l, fun ⟨_, p, _⟩ => by omega⟩
  · rintro ⟨l, nh⟩
    by_cases p : j.val / 256 < n.val / 256
    · exact Or.inl ((bit _).resolve_left fun z => nh ⟨_, p, z⟩)
    · exact Or.inr ⟨by omega, l⟩

theorem seen_own (h : Fin 8) (n : Fin 2048) : Seen x0 x1 h n n :=
  (seen_iff x0 x1 h n n).2 ⟨le_rfl, fun ⟨_, p, _⟩ => by omega⟩

end Cert.AttnIdeal.Value
-- ==== Proof.AttnTables.lean ====
module

public import proofs.«01_k».proof.Proof.Gen.AttnIdeal.Frame
public import proofs.«01_k».proof.Proof.AttnStores

/-!
The lists of stores the body leaves in each scratch buffer after query block `i` of head `hh` of a pair of heads,
and what those buffers hold, as functions of the block's input arrays.
-/

@[expose] public section

set_option maxRecDepth 16384

noncomputable section

open Idealize.ShloMosaic Idealize.ShloMosaic.TcCoe Idealize.SL.Sem

namespace Cert.AttnIdeal
open Cert.AttnIdeal.Gen Cert.AttnIdeal.Gen.kernelRun0_A

/-- One grid point: the buffers the body gets and the arrays its input windows hold. -/
structure Point where
  c : Dev nD
  arg1 : Memref sig .tc .vmem S2048x128 .f32
  harg1 : arg1.IsWhole
  arg2 : Memref sig .tc .vmem S2048x128 .f32
  harg2 : arg2.IsWhole
  arg3 : Memref sig .tc .vmem S2048x128 .bf16
  harg3 : arg3.IsWhole
  arg4 : Memref sig .tc .vmem S2048x128 .bf16
  harg4 : arg4.IsWhole
  arg5 : Memref sig .tc .vmem S2048x128 .f32
  harg5 : arg5.IsWhole
  arg6 : Memref sig .tc .vmem S1x8x2048 .f32
  harg6 : arg6.IsWhole
  arg7 : Memref sig .tc .vmem S2048x128 .f32
  harg7 : arg7.IsWhole
  arg16 : Memref sig .tc .vmem S2048x64 .f32
  arg17 : Memref sig .tc .vmem S2048x64 .f32
  arg18 : Memref sig .tc .vmem S2048x128 .bf16
  arg19 : Memref sig .tc .vmem S256x128 .bf16
  arg20 : Memref sig .tc .vmem S2048x256 .f32
  arg21 : Memref sig .tc .vmem S2048x256 .f32
  arg22 : Memref sig .tc .vmem S2048x256 .bf16
  arg23 : Memref sig .tc .vmem S2048x256 .bf16
  x0 : Vec Ideal S2048x128 .f32
  x1 : Vec Ideal S2048x128 .f32
  x2 : Vec Ideal S2048x128 .bf16
  x3 : Vec Ideal S2048x128 .bf16
  x4 : Vec Ideal S2048x128 .f32
  x5 : Vec Ideal S1x8x2048 .f32
  x6 : Vec Ideal S2048x128 .f32

namespace Point
variable (B : Point)

/-- Keys beside their block markers. -/
def kaT : Fin 2 → List (View.Piece (Elt Ideal) S2048x128 .bf16)
  | ⟨0, _⟩ => sl.HS5_2 B.c B.arg2 B.harg2 B.x1
  | ⟨1, _⟩ => sl.HS5_4 B.c B.arg2 B.harg2 B.x1

/-- Scaled queries beside their block bias. -/
def qaT : Fin 2 → Fin 8 → List (View.Piece (Elt Ideal) S256x128 .bf16)
  | ⟨0, _⟩, ⟨0, _⟩ => sl.HS6_2 B.c B.arg1 B.harg1 B.arg4 B.harg4 B.x0 B.x3
  | ⟨0, _⟩, ⟨1, _⟩ => sl.HS6_4 B.c B.arg1 B.harg1 B.arg4 B.harg4 B.x0 B.x3
  | ⟨0, _⟩, ⟨2, _⟩ => sl.HS6_6 B.c B.arg1 B.harg1 B.arg4 B.harg4 B.x0 B.x3
  | ⟨0, _⟩, ⟨3, _⟩ => sl.HS6_8 B.c B.arg1 B.harg1 B.arg4 B.harg4 B.x0 B.x3
  | ⟨0, _⟩, ⟨4, _⟩ => sl.HS6_10 B.c B.arg1 B.harg1 B.arg4 B.harg4 B.x0 B.x3
  | ⟨0, _⟩, ⟨5, _⟩ => sl.HS6_12 B.c B.arg1 B.harg1 B.arg4 B.harg4 B.x0 B.x3
  | ⟨0, _⟩, ⟨6, _⟩ => sl.HS6_14 B.c B.arg1 B.harg1 B.arg4 B.harg4 B.x0 B.x3
  | ⟨0, _⟩, ⟨7, _⟩ => sl.HS6_16 B.c B.arg1 B.harg1 B.arg4 B.harg4 B.x0 B.x3
  | ⟨1, _⟩, ⟨0, _⟩ => sl.HS6_18 B.c B.arg1 B.harg1 B.arg4 B.harg4 B.x0 B.x3
  | ⟨1, _⟩, ⟨1, _⟩ => sl.HS6_20 B.c B.arg1 B.harg1 B.arg4 B.harg4 B.x0 B.x3
  | ⟨1, _⟩, ⟨2, _⟩ => sl.HS6_22 B.c B.arg1 B.harg1 B.arg4 B.harg4 B.x0 B.x3
  | ⟨1, _⟩, ⟨3, _⟩ => sl.HS6_24 B.c B.arg1 B.harg1 B.arg4 B.harg4 B.x0 B.x3
  | ⟨1, _⟩, ⟨4, _⟩ => sl.HS6_26 B.c B.arg1 B.harg1 B.arg4 B.harg4 B.x0 B.x3
  | ⟨1, _⟩, ⟨5, _⟩ => sl.HS6_28 B.c B.arg1 B.harg1 B.arg4 B.harg4 B.x0 B.x3
  | ⟨1, _⟩, ⟨6, _⟩ => sl.HS6_30 B.c B.arg1 B.harg1 B.arg4 B.harg4 B.x0 B.x3
  | ⟨1, _⟩, ⟨7, _⟩ => sl.HS6_32 B.c B.arg1 B.harg1 B.arg4 B.harg4 B.x0 B.x3

/-- Masked scores. -/
def sT : Fin 2 → Fin 8 → List (View.Piece (Elt Ideal) S2048x256 .f32)
  | ⟨0, _⟩, ⟨0, _⟩ => sl.HS7_2 B.c B.arg1 B.harg1 B.arg2 B.harg2 B.arg4 B.harg4 B.arg18 B.arg19 B.arg20 B.x0 B.x1 B.x3
  | ⟨0, _⟩, ⟨1, _⟩ => sl.HS7_4 B.c B.arg1 B.harg1 B.arg2 B.harg2 B.arg4 B.harg4 B.arg18 B.arg19 B.arg20 B.x0 B.x1 B.x3
  | ⟨0, _⟩, ⟨2, _⟩ => sl.HS7_6 B.c B.arg1 B.harg1 B.arg2 B.harg2 B.arg4 B.harg4 B.arg18 B.arg19 B.arg20 B.x0 B.x1 B.x3
  | ⟨0, _⟩, ⟨3, _⟩ => sl.HS7_8 B.c B.arg1 B.harg1 B.arg2 B.harg2 B.arg4 B.harg4 B.arg18 B.arg19 B.arg20 B.x0 B.x1 B.x3
  | ⟨0, _⟩, ⟨4, _⟩ => sl.HS7_10 B.c B.arg1 B.harg1 B.arg2 B.harg2 B.arg4 B.harg4 B.arg18 B.arg19 B.arg20 B.x0 B.x1 B.x3
  | ⟨0, _⟩, ⟨5, _⟩ => sl.HS7_12 B.c B.arg1 B.harg1 B.arg2 B.harg2 B.arg4 B.harg4 B.arg18 B.arg19 B.arg20 B.x0 B.x1 B.x3
  | ⟨0, _⟩, ⟨6, _⟩ => sl.HS7_14 B.c B.arg1 B.harg1 B.arg2 B.harg2 B.arg4 B.harg4 B.arg18 B.arg19 B.arg20 B.x0 B.x1 B.x3
  | ⟨0, _⟩, ⟨7, _⟩ => sl.HS7_16 B.c B.arg1 B.harg1 B.arg2 B.harg2 B.arg4 B.harg4 B.arg18 B.arg19 B.arg20 B.x0 B.x1 B.x3
  | ⟨1, _⟩, ⟨0, _⟩ => sl.HS7_18 B.c B.arg1 B.harg1 B.arg2 B.harg2 B.arg4 B.harg4 B.arg18 B.arg19 B.arg20 B.x0 B.x1 B.x3
  | ⟨1, _⟩, ⟨1, _⟩ => sl.HS7_20 B.c B.arg1 B.harg1 B.arg2 B.harg2 B.arg4 B.harg4 B.arg18 B.arg19 B.arg20 B.x0 B.x1 B.x3
  | ⟨1, _⟩, ⟨2, _⟩ => sl.HS7_22 B.c B.arg1 B.harg1 B.arg2 B.harg2 B.arg4 B.harg4 B.arg18 B.arg19 B.arg20 B.x0 B.x1 B.x3
  | ⟨1, _⟩, ⟨3, _⟩ => sl.HS7_24 B.c B.arg1 B.harg1 B.arg2 B.harg2 B.arg4 B.harg4 B.arg18 B.arg19 B.arg20 B.x0 B.x1 B.x3
  | ⟨1, _⟩, ⟨4, _⟩ => sl.HS7_26 B.c B.arg1 B.harg1 B.arg2 B.harg2 B.arg4 B.harg4 B.arg18 B.arg19 B.arg20 B.x0 B.x1 B.x3
  | ⟨1, _⟩, ⟨5, _⟩ => sl.HS7_28 B.c B.arg1 B.harg1 B.arg2 B.harg2 B.arg4 B.harg4 B.arg18 B.arg19 B.arg20 B.x0 B.x1 B.x3
  | ⟨1, _⟩, ⟨6, _⟩ => sl.HS7_30 B.c B.arg1 B.harg1 B.arg2 B.harg2 B.arg4 B.harg4 B.arg18 B.arg19 B.arg20 B.x0 B.x1 B.x3
  | ⟨1, _⟩, ⟨7, _⟩ => sl.HS7_32 B.c B.arg1 B.harg1 B.arg2 B.harg2 B.arg4 B.harg4 B.arg18 B.arg19 B.arg20 B.x0 B.x1 B.x3

/-- Products of values and the incoming gradient. -/
def dpT : Fin 2 → Fin 8 → List (View.Piece (Elt Ideal) S2048x256 .f32)
  | ⟨0, _⟩, ⟨0, _⟩ => sl.HS8_1 B.c B.arg3 B.harg3 B.arg7 B.harg7 B.x2 B.x6
  | ⟨0, _⟩, ⟨1, _⟩ => sl.HS8_2 B.c B.arg3 B.harg3 B.arg7 B.harg7 B.x2 B.x6
  | ⟨0, _⟩, ⟨2, _⟩ => sl.HS8_3 B.c B.arg3 B.harg3 B.arg7 B.harg7 B.x2 B.x6
  | ⟨0, _⟩, ⟨3, _⟩ => sl.HS8_4 B.c B.arg3 B.harg3 B.arg7 B.harg7 B.x2 B.x6
  | ⟨0, _⟩, ⟨4, _⟩ => sl.HS8_5 B.c B.arg3 B.harg3 B.arg7 B.harg7 B.x2 B.x6
  | ⟨0, _⟩, ⟨5, _⟩ => sl.HS8_6 B.c B.arg3 B.harg3 B.arg7 B.harg7 B.x2 B.x6
  | ⟨0, _⟩, ⟨6, _⟩ => sl.HS8_7 B.c B.arg3 B.harg3 B.arg7 B.harg7 B.x2 B.x6
  | ⟨0, _⟩, ⟨7, _⟩ => sl.HS8_8 B.c B.arg3 B.harg3 B.arg7 B.harg7 B.x2 B.x6
  | ⟨1, _⟩, ⟨0, _⟩ => sl.HS8_9 B.c B.arg3 B.harg3 B.arg7 B.harg7 B.x2 B.x6
  | ⟨1, _⟩, ⟨1, _⟩ => sl.HS8_10 B.c B.arg3 B.harg3 B.arg7 B.harg7 B.x2 B.x6
  | ⟨1, _⟩, ⟨2, _⟩ => sl.HS8_11 B.c B.arg3 B.harg3 B.arg7 B.harg7 B.x2 B.x6
  | ⟨1, _⟩, ⟨3, _⟩ => sl.HS8_12 B.c B.arg3 B.harg3 B.arg7 B.harg7 B.x2 B.x6
  | ⟨1, _⟩, ⟨4, _⟩ => sl.HS8_13 B.c B.arg3 B.harg3 B.arg7 B.harg7 B.x2 B.x6
  | ⟨1, _⟩, ⟨5, _⟩ => sl.HS8_14 B.c B.arg3 B.harg3 B.arg7 B.harg7 B.x2 B.x6
  | ⟨1, _⟩, ⟨6, _⟩ => sl.HS8_15 B.c B.arg3 B.harg3 B.arg7 B.harg7 B.x2 B.x6
  | ⟨1, _⟩, ⟨7, _⟩ => sl.HS8_16 B.c B.arg3 B.harg3 B.arg7 B.harg7 B.x2 B.x6

/-- Probabilities. -/
def pT : Fin 2 → Fin 8 → List (View.Piece (Elt Ideal) S2048x256 .bf16)
  | ⟨0, _⟩, ⟨0, _⟩ => sl.HS9_2 B.c B.arg1 B.harg1 B.arg2 B.harg2 B.arg4 B.harg4 B.arg6 B.harg6 B.arg18 B.arg19 B.arg20 B.x0 B.x1 B.x3 B.x5
  | ⟨0, _⟩, ⟨1, _⟩ => sl.HS9_6 B.c B.arg1 B.harg1 B.arg2 B.harg2 B.arg4 B.harg4 B.arg6 B.harg6 B.arg18 B.arg19 B.arg20 B.x0 B.x1 B.x3 B.x5
  | ⟨0, _⟩, ⟨2, _⟩ => sl.HS9_12 B.c B.arg1 B.harg1 B.arg2 B.harg2 B.arg4 B.harg4 B.arg6 B.harg6 B.arg18 B.arg19 B.arg20 B.x0 B.x1 B.x3 B.x5
  | ⟨0, _⟩, ⟨3, _⟩ => sl.HS9_20 B.c B.arg1 B.harg1 B.arg2 B.harg2 B.arg4 B.harg4 B.arg6 B.harg6 B.arg18 B.arg19 B.arg20 B.x0 B.x1 B.x3 B.x5
  | ⟨0, _⟩, ⟨4, _⟩ => sl.HS9_30 B.c B.arg1 B.harg1 B.arg2 B.harg2 B.arg4 B.harg4 B.arg6 B.harg6 B.arg18 B.arg19 B.arg20 B.x0 B.x1 B.x3 B.x5
  | ⟨0, _⟩, ⟨5, _⟩ => sl.HS9_42 B.c B.arg1 B.harg1 B.arg2 B.harg2 B.arg4 B.harg4 B.arg6 B.harg6 B.arg18 B.arg19 B.arg20 B.x0 B.x1 B.x3 B.x5
  | ⟨0, _⟩, ⟨6, _⟩ => sl.HS9_56 B.c B.arg1 B.harg1 B.arg2 B.harg2 B.arg4 B.harg4 B.arg6 B.harg6 B.arg18 B.arg19 B.arg20 B.x0 B.x1 B.x3 B.x5
  | ⟨0, _⟩, ⟨7, _⟩ => sl.HS9_72 B.c B.arg1 B.harg1 B.arg2 B.harg2 B.arg4 B.harg4 B.arg6 B.harg6 B.arg18 B.arg19 B.arg20 B.x0 B.x1 B.x3 B.x5
  | ⟨1, _⟩, ⟨0, _⟩ => sl.HS9_74 B.c B.arg1 B.harg1 B.arg2 B.harg2 B.arg4 B.harg4 B.arg6 B.harg6 B.arg18 B.arg19 B.arg20 B.x0 B.x1 B.x3 B.x5
  | ⟨1, _⟩, ⟨1, _⟩ => sl.HS9_78 B.c B.arg1 B.harg1 B.arg2 B.harg2 B.arg4 B.harg4 B.arg6 B.harg6 B.arg18 B.arg19 B.arg20 B.x0 B.x1 B.x3 B.x5
  | ⟨1, _⟩, ⟨2, _⟩ => sl.HS9_84 B.c B.arg1 B.harg1 B.arg2 B.harg2 B.arg4 B.harg4 B.arg6 B.harg6 B.arg18 B.arg19 B.arg20 B.x0 B.x1 B.x3 B.x5
  | ⟨1, _⟩, ⟨3, _⟩ => sl.HS9_92 B.c B.arg1 B.harg1 B.arg2 B.harg2 B.arg4 B.harg4 B.arg6 B.harg6 B.arg18 B.arg19 B.arg20 B.x0 B.x1 B.x3 B.x5
  | ⟨1, _⟩, ⟨4, _⟩ => sl.HS9_102 B.c B.arg1 B.harg1 B.arg2 B.harg2 B.arg4 B.harg4 B.arg6 B.harg6 B.arg18 B.arg19 B.arg20 B.x0 B.x1 B.x3 B.x5
  | ⟨1, _⟩, ⟨5, _⟩ => sl.HS9_114 B.c B.arg1 B.harg1 B.arg2 B.harg2 B.arg4 B.harg4 B.arg6 B.harg6 B.arg18 B.arg19 B.arg20 B.x0 B.x1 B.x3 B.x5
  | ⟨1, _⟩, ⟨6, _⟩ => sl.HS9_128 B.c B.arg1 B.harg1 B.arg2 B.harg2 B.arg4 B.harg4 B.arg6 B.harg6 B.arg18 B.arg19 B.arg20 B.x0 B.x1 B.x3 B.x5
  | ⟨1, _⟩, ⟨7, _⟩ => sl.HS9_144 B.c B.arg1 B.harg1 B.arg2 B.harg2 B.arg4 B.harg4 B.arg6 B.harg6 B.arg18 B.arg19 B.arg20 B.x0 B.x1 B.x3 B.x5

/-- Gradients of the scores. -/
def dsT : Fin 2 → Fin 8 → List (View.Piece (Elt Ideal) S2048x256 .bf16)
  | ⟨0, _⟩, ⟨0, _⟩ => sl.HS10_2 B.c B.arg1 B.harg1 B.arg2 B.harg2 B.arg3 B.harg3 B.arg4 B.harg4 B.arg5 B.harg5 B.arg6 B.harg6 B.arg7 B.harg7 B.arg18 B.arg19 B.arg20 B.arg21 B.x0 B.x1 B.x2 B.x3 B.x4 B.x5 B.x6
  | ⟨0, _⟩, ⟨1, _⟩ => sl.HS10_6 B.c B.arg1 B.harg1 B.arg2 B.harg2 B.arg3 B.harg3 B.arg4 B.harg4 B.arg5 B.harg5 B.arg6 B.harg6 B.arg7 B.harg7 B.arg18 B.arg19 B.arg20 B.arg21 B.x0 B.x1 B.x2 B.x3 B.x4 B.x5 B.x6
  | ⟨0, _⟩, ⟨2, _⟩ => sl.HS10_12 B.c B.arg1 B.harg1 B.arg2 B.harg2 B.arg3 B.harg3 B.arg4 B.harg4 B.arg5 B.harg5 B.arg6 B.harg6 B.arg7 B.harg7 B.arg18 B.arg19 B.arg20 B.arg21 B.x0 B.x1 B.x2 B.x3 B.x4 B.x5 B.x6
  | ⟨0, _⟩, ⟨3, _⟩ => sl.HS10_20 B.c B.arg1 B.harg1 B.arg2 B.harg2 B.arg3 B.harg3 B.arg4 B.harg4 B.arg5 B.harg5 B.arg6 B.harg6 B.arg7 B.harg7 B.arg18 B.arg19 B.arg20 B.arg21 B.x0 B.x1 B.x2 B.x3 B.x4 B.x5 B.x6
  | ⟨0, _⟩, ⟨4, _⟩ => sl.HS10_30 B.c B.arg1 B.harg1 B.arg2 B.harg2 B.arg3 B.harg3 B.arg4 B.harg4 B.arg5 B.harg5 B.arg6 B.harg6 B.arg7 B.harg7 B.arg18 B.arg19 B.arg20 B.arg21 B.x0 B.x1 B.x2 B.x3 B.x4 B.x5 B.x6
  | ⟨0, _⟩, ⟨5, _⟩ => sl.HS10_42 B.c B.arg1 B.harg1 B.arg2 B.harg2 B.arg3 B.harg3 B.arg4 B.harg4 B.arg5 B.harg5 B.arg6 B.harg6 B.arg7 B.harg7 B.arg18 B.arg19 B.arg20 B.arg21 B.x0 B.x1 B.x2 B.x3 B.x4 B.x5 B.x6
  | ⟨0, _⟩, ⟨6, _⟩ => sl.HS10_56 B.c B.arg1 B.harg1 B.arg2 B.harg2 B.arg3 B.harg3 B.arg4 B.harg4 B.arg5 B.harg5 B.arg6 B.harg6 B.arg7 B.harg7 B.arg18 B.arg19 B.arg20 B.arg21 B.x0 B.x1 B.x2 B.x3 B.x4 B.x5 B.x6
  | ⟨0, _⟩, ⟨7, _⟩ => sl.HS10_72 B.c B.arg1 B.harg1 B.arg2 B.harg2 B.arg3 B.harg3 B.arg4 B.harg4 B.arg5 B.harg5 B.arg6 B.harg6 B.arg7 B.harg7 B.arg18 B.arg19 B.arg20 B.arg21 B.x0 B.x1 B.x2 B.x3 B.x4 B.x5 B.x6
  | ⟨1, _⟩, ⟨0, _⟩ => sl.HS10_74 B.c B.arg1 B.harg1 B.arg2 B.harg2 B.arg3 B.harg3 B.arg4 B.harg4 B.arg5 B.harg5 B.arg6 B.harg6 B.arg7 B.harg7 B.arg18 B.arg19 B.arg20 B.arg21 B.x0 B.x1 B.x2 B.x3 B.x4 B.x5 B.x6
  | ⟨1, _⟩, ⟨1, _⟩ => sl.HS10_78 B.c B.arg1 B.harg1 B.arg2 B.harg2 B.arg3 B.harg3 B.arg4 B.harg4 B.arg5 B.harg5 B.arg6 B.harg6 B.arg7 B.harg7 B.arg18 B.arg19 B.arg20 B.arg21 B.x0 B.x1 B.x2 B.x3 B.x4 B.x5 B.x6
  | ⟨1, _⟩, ⟨2, _⟩ => sl.HS10_84 B.c B.arg1 B.harg1 B.arg2 B.harg2 B.arg3 B.harg3 B.arg4 B.harg4 B.arg5 B.harg5 B.arg6 B.harg6 B.arg7 B.harg7 B.arg18 B.arg19 B.arg20 B.arg21 B.x0 B.x1 B.x2 B.x3 B.x4 B.x5 B.x6
  | ⟨1, _⟩, ⟨3, _⟩ => sl.HS10_92 B.c B.arg1 B.harg1 B.arg2 B.harg2 B.arg3 B.harg3 B.arg4 B.harg4 B.arg5 B.harg5 B.arg6 B.harg6 B.arg7 B.harg7 B.arg18 B.arg19 B.arg20 B.arg21 B.x0 B.x1 B.x2 B.x3 B.x4 B.x5 B.x6
  | ⟨1, _⟩, ⟨4, _⟩ => sl.HS10_102 B.c B.arg1 B.harg1 B.arg2 B.harg2 B.arg3 B.harg3 B.arg4 B.harg4 B.arg5 B.harg5 B.arg6 B.harg6 B.arg7 B.harg7 B.arg18 B.arg19 B.arg20 B.arg21 B.x0 B.x1 B.x2 B.x3 B.x4 B.x5 B.x6
  | ⟨1, _⟩, ⟨5, _⟩ => sl.HS10_114 B.c B.arg1 B.harg1 B.arg2 B.harg2 B.arg3 B.harg3 B.arg4 B.harg4 B.arg5 B.harg5 B.arg6 B.harg6 B.arg7 B.harg7 B.arg18 B.arg19 B.arg20 B.arg21 B.x0 B.x1 B.x2 B.x3 B.x4 B.x5 B.x6
  | ⟨1, _⟩, ⟨6, _⟩ => sl.HS10_128 B.c B.arg1 B.harg1 B.arg2 B.harg2 B.arg3 B.harg3 B.arg4 B.harg4 B.arg5 B.harg5 B.arg6 B.harg6 B.arg7 B.harg7 B.arg18 B.arg19 B.arg20 B.arg21 B.x0 B.x1 B.x2 B.x3 B.x4 B.x5 B.x6
  | ⟨1, _⟩, ⟨7, _⟩ => sl.HS10_144 B.c B.arg1 B.harg1 B.arg2 B.harg2 B.arg3 B.harg3 B.arg4 B.harg4 B.arg5 B.harg5 B.arg6 B.harg6 B.arg7 B.harg7 B.arg18 B.arg19 B.arg20 B.arg21 B.x0 B.x1 B.x2 B.x3 B.x4 B.x5 B.x6

/-- Value gradients of one head. -/
def dvT : Fin 2 → Fin 8 → List (View.Piece (Elt Ideal) S2048x64 .f32)
  | ⟨0, _⟩, ⟨0, _⟩ => sl.HS4_2 B.c B.arg1 B.harg1 B.arg2 B.harg2 B.arg4 B.harg4 B.arg6 B.harg6 B.arg7 B.harg7 B.arg17 B.arg18 B.arg19 B.arg20 B.arg22 B.x0 B.x1 B.x3 B.x5 B.x6
  | ⟨0, _⟩, ⟨1, _⟩ => sl.HS4_3 B.c B.arg1 B.harg1 B.arg2 B.harg2 B.arg4 B.harg4 B.arg6 B.harg6 B.arg7 B.harg7 B.arg17 B.arg18 B.arg19 B.arg20 B.arg22 B.x0 B.x1 B.x3 B.x5 B.x6
  | ⟨0, _⟩, ⟨2, _⟩ => sl.HS4_4 B.c B.arg1 B.harg1 B.arg2 B.harg2 B.arg4 B.harg4 B.arg6 B.harg6 B.arg7 B.harg7 B.arg17 B.arg18 B.arg19 B.arg20 B.arg22 B.x0 B.x1 B.x3 B.x5 B.x6
  | ⟨0, _⟩, ⟨3, _⟩ => sl.HS4_5 B.c B.arg1 B.harg1 B.arg2 B.harg2 B.arg4 B.harg4 B.arg6 B.harg6 B.arg7 B.harg7 B.arg17 B.arg18 B.arg19 B.arg20 B.arg22 B.x0 B.x1 B.x3 B.x5 B.x6
  | ⟨0, _⟩, ⟨4, _⟩ => sl.HS4_6 B.c B.arg1 B.harg1 B.arg2 B.harg2 B.arg4 B.harg4 B.arg6 B.harg6 B.arg7 B.harg7 B.arg17 B.arg18 B.arg19 B.arg20 B.arg22 B.x0 B.x1 B.x3 B.x5 B.x6
  | ⟨0, _⟩, ⟨5, _⟩ => sl.HS4_7 B.c B.arg1 B.harg1 B.arg2 B.harg2 B.arg4 B.harg4 B.arg6 B.harg6 B.arg7 B.harg7 B.arg17 B.arg18 B.arg19 B.arg20 B.arg22 B.x0 B.x1 B.x3 B.x5 B.x6
  | ⟨0, _⟩, ⟨6, _⟩ => sl.HS4_8 B.c B.arg1 B.harg1 B.arg2 B.harg2 B.arg4 B.harg4 B.arg6 B.harg6 B.arg7 B.harg7 B.arg17 B.arg18 B.arg19 B.arg20 B.arg22 B.x0 B.x1 B.x3 B.x5 B.x6
  | ⟨0, _⟩, ⟨7, _⟩ => sl.HS4_9 B.c B.arg1 B.harg1 B.arg2 B.harg2 B.arg4 B.harg4 B.arg6 B.harg6 B.arg7 B.harg7 B.arg17 B.arg18 B.arg19 B.arg20 B.arg22 B.x0 B.x1 B.x3 B.x5 B.x6
  | ⟨1, _⟩, ⟨0, _⟩ => sl.HS4_11 B.c B.arg1 B.harg1 B.arg2 B.harg2 B.arg4 B.harg4 B.arg6 B.harg6 B.arg7 B.harg7 B.arg17 B.arg18 B.arg19 B.arg20 B.arg22 B.x0 B.x1 B.x3 B.x5 B.x6
  | ⟨1, _⟩, ⟨1, _⟩ => sl.HS4_12 B.c B.arg1 B.harg1 B.arg2 B.harg2 B.arg4 B.harg4 B.arg6 B.harg6 B.arg7 B.harg7 B.arg17 B.arg18 B.arg19 B.arg20 B.arg22 B.x0 B.x1 B.x3 B.x5 B.x6
  | ⟨1, _⟩, ⟨2, _⟩ => sl.HS4_13 B.c B.arg1 B.harg1 B.arg2 B.harg2 B.arg4 B.harg4 B.arg6 B.harg6 B.arg7 B.harg7 B.arg17 B.arg18 B.arg19 B.arg20 B.arg22 B.x0 B.x1 B.x3 B.x5 B.x6
  | ⟨1, _⟩, ⟨3, _⟩ => sl.HS4_14 B.c B.arg1 B.harg1 B.arg2 B.harg2 B.arg4 B.harg4 B.arg6 B.harg6 B.arg7 B.harg7 B.arg17 B.arg18 B.arg19 B.arg20 B.arg22 B.x0 B.x1 B.x3 B.x5 B.x6
  | ⟨1, _⟩, ⟨4, _⟩ => sl.HS4_15 B.c B.arg1 B.harg1 B.arg2 B.harg2 B.arg4 B.harg4 B.arg6 B.harg6 B.arg7 B.harg7 B.arg17 B.arg18 B.arg19 B.arg20 B.arg22 B.x0 B.x1 B.x3 B.x5 B.x6
  | ⟨1, _⟩, ⟨5, _⟩ => sl.HS4_16 B.c B.arg1 B.harg1 B.arg2 B.harg2 B.arg4 B.harg4 B.arg6 B.harg6 B.arg7 B.harg7 B.arg17 B.arg18 B.arg19 B.arg20 B.arg22 B.x0 B.x1 B.x3 B.x5 B.x6
  | ⟨1, _⟩, ⟨6, _⟩ => sl.HS4_17 B.c B.arg1 B.harg1 B.arg2 B.harg2 B.arg4 B.harg4 B.arg6 B.harg6 B.arg7 B.harg7 B.arg17 B.arg18 B.arg19 B.arg20 B.arg22 B.x0 B.x1 B.x3 B.x5 B.x6
  | ⟨1, _⟩, ⟨7, _⟩ => sl.HS4_18 B.c B.arg1 B.harg1 B.arg2 B.harg2 B.arg4 B.harg4 B.arg6 B.harg6 B.arg7 B.harg7 B.arg17 B.arg18 B.arg19 B.arg20 B.arg22 B.x0 B.x1 B.x3 B.x5 B.x6

/-- Key gradients of one head. -/
def dkT : Fin 2 → Fin 8 → List (View.Piece (Elt Ideal) S2048x64 .f32)
  | ⟨0, _⟩, ⟨0, _⟩ => sl.HS3_2 B.c B.arg1 B.harg1 B.arg2 B.harg2 B.arg3 B.harg3 B.arg4 B.harg4 B.arg5 B.harg5 B.arg6 B.harg6 B.arg7 B.harg7 B.arg16 B.arg18 B.arg19 B.arg20 B.arg21 B.arg23 B.x0 B.x1 B.x2 B.x3 B.x4 B.x5 B.x6
  | ⟨0, _⟩, ⟨1, _⟩ => sl.HS3_3 B.c B.arg1 B.harg1 B.arg2 B.harg2 B.arg3 B.harg3 B.arg4 B.harg4 B.arg5 B.harg5 B.arg6 B.harg6 B.arg7 B.harg7 B.arg16 B.arg18 B.arg19 B.arg20 B.arg21 B.arg23 B.x0 B.x1 B.x2 B.x3 B.x4 B.x5 B.x6
  | ⟨0, _⟩, ⟨2, _⟩ => sl.HS3_4 B.c B.arg1 B.harg1 B.arg2 B.harg2 B.arg3 B.harg3 B.arg4 B.harg4 B.arg5 B.harg5 B.arg6 B.harg6 B.arg7 B.harg7 B.arg16 B.arg18 B.arg19 B.arg20 B.arg21 B.arg23 B.x0 B.x1 B.x2 B.x3 B.x4 B.x5 B.x6
  | ⟨0, _⟩, ⟨3, _⟩ => sl.HS3_5 B.c B.arg1 B.harg1 B.arg2 B.harg2 B.arg3 B.harg3 B.arg4 B.harg4 B.arg5 B.harg5 B.arg6 B.harg6 B.arg7 B.harg7 B.arg16 B.arg18 B.arg19 B.arg20 B.arg21 B.arg23 B.x0 B.x1 B.x2 B.x3 B.x4 B.x5 B.x6
  | ⟨0, _⟩, ⟨4, _⟩ => sl.HS3_6 B.c B.arg1 B.harg1 B.arg2 B.harg2 B.arg3 B.harg3 B.arg4 B.harg4 B.arg5 B.harg5 B.arg6 B.harg6 B.arg7 B.harg7 B.arg16 B.arg18 B.arg19 B.arg20 B.arg21 B.arg23 B.x0 B.x1 B.x2 B.x3 B.x4 B.x5 B.x6
  | ⟨0, _⟩, ⟨5, _⟩ => sl.HS3_7 B.c B.arg1 B.harg1 B.arg2 B.harg2 B.arg3 B.harg3 B.arg4 B.harg4 B.arg5 B.harg5 B.arg6 B.harg6 B.arg7 B.harg7 B.arg16 B.arg18 B.arg19 B.arg20 B.arg21 B.arg23 B.x0 B.x1 B.x2 B.x3 B.x4 B.x5 B.x6
  | ⟨0, _⟩, ⟨6, _⟩ => sl.HS3_8 B.c B.arg1 B.harg1 B.arg2 B.harg2 B.arg3 B.harg3 B.arg4 B.harg4 B.arg5 B.harg5 B.arg6 B.harg6 B.arg7 B.harg7 B.arg16 B.arg18 B.arg19 B.arg20 B.arg21 B.arg23 B.x0 B.x1 B.x2 B.x3 B.x4 B.x5 B.x6
  | ⟨0, _⟩, ⟨7, _⟩ => sl.HS3_9 B.c B.arg1 B.harg1 B.arg2 B.harg2 B.arg3 B.harg3 B.arg4 B.harg4 B.arg5 B.harg5 B.arg6 B.harg6 B.arg7 B.harg7 B.arg16 B.arg18 B.arg19 B.arg20 B.arg21 B.arg23 B.x0 B.x1 B.x2 B.x3 B.x4 B.x5 B.x6
  | ⟨1, _⟩, ⟨0, _⟩ => sl.HS3_11 B.c B.arg1 B.harg1 B.arg2 B.harg2 B.arg3 B.harg3 B.arg4 B.harg4 B.arg5 B.harg5 B.arg6 B.harg6 B.arg7 B.harg7 B.arg16 B.arg18 B.arg19 B.arg20 B.arg21 B.arg23 B.x0 B.x1 B.x2 B.x3 B.x4 B.x5 B.x6
  | ⟨1, _⟩, ⟨1, _⟩ => sl.HS3_12 B.c B.arg1 B.harg1 B.arg2 B.harg2 B.arg3 B.harg3 B.arg4 B.harg4 B.arg5 B.harg5 B.arg6 B.harg6 B.arg7 B.harg7 B.arg16 B.arg18 B.arg19 B.arg20 B.arg21 B.arg23 B.x0 B.x1 B.x2 B.x3 B.x4 B.x5 B.x6
  | ⟨1, _⟩, ⟨2, _⟩ => sl.HS3_13 B.c B.arg1 B.harg1 B.arg2 B.harg2 B.arg3 B.harg3 B.arg4 B.harg4 B.arg5 B.harg5 B.arg6 B.harg6 B.arg7 B.harg7 B.arg16 B.arg18 B.arg19 B.arg20 B.arg21 B.arg23 B.x0 B.x1 B.x2 B.x3 B.x4 B.x5 B.x6
  | ⟨1, _⟩, ⟨3, _⟩ => sl.HS3_14 B.c B.arg1 B.harg1 B.arg2 B.harg2 B.arg3 B.harg3 B.arg4 B.harg4 B.arg5 B.harg5 B.arg6 B.harg6 B.arg7 B.harg7 B.arg16 B.arg18 B.arg19 B.arg20 B.arg21 B.arg23 B.x0 B.x1 B.x2 B.x3 B.x4 B.x5 B.x6
  | ⟨1, _⟩, ⟨4, _⟩ => sl.HS3_15 B.c B.arg1 B.harg1 B.arg2 B.harg2 B.arg3 B.harg3 B.arg4 B.harg4 B.arg5 B.harg5 B.arg6 B.harg6 B.arg7 B.harg7 B.arg16 B.arg18 B.arg19 B.arg20 B.arg21 B.arg23 B.x0 B.x1 B.x2 B.x3 B.x4 B.x5 B.x6
  | ⟨1, _⟩, ⟨5, _⟩ => sl.HS3_16 B.c B.arg1 B.harg1 B.arg2 B.harg2 B.arg3 B.harg3 B.arg4 B.harg4 B.arg5 B.harg5 B.arg6 B.harg6 B.arg7 B.harg7 B.arg16 B.arg18 B.arg19 B.arg20 B.arg21 B.arg23 B.x0 B.x1 B.x2 B.x3 B.x4 B.x5 B.x6
  | ⟨1, _⟩, ⟨6, _⟩ => sl.HS3_17 B.c B.arg1 B.harg1 B.arg2 B.harg2 B.arg3 B.harg3 B.arg4 B.harg4 B.arg5 B.harg5 B.arg6 B.harg6 B.arg7 B.harg7 B.arg16 B.arg18 B.arg19 B.arg20 B.arg21 B.arg23 B.x0 B.x1 B.x2 B.x3 B.x4 B.x5 B.x6
  | ⟨1, _⟩, ⟨7, _⟩ => sl.HS3_18 B.c B.arg1 B.harg1 B.arg2 B.harg2 B.arg3 B.harg3 B.arg4 B.harg4 B.arg5 B.harg5 B.arg6 B.harg6 B.arg7 B.harg7 B.arg16 B.arg18 B.arg19 B.arg20 B.arg21 B.arg23 B.x0 B.x1 B.x2 B.x3 B.x4 B.x5 B.x6

/-! ## The values -/

/-- Row `r` of block `i`. -/
def row (i : Fin 8) (r : Fin 256) : Fin 2048 := ⟨256 * i.val + r.val, by omega⟩
/-- Lane `d` of head `hh` of the pair. -/
def lane (hh : Fin 2) (d : Fin 64) : Fin 128 := ⟨64 * hh.val + d.val, by omega⟩
/-- The head of the pair, as a row of the array of log-sum-exps. -/
def hrow (hh : Fin 2) : Fin 8 := ⟨hh.val, by omega⟩

/-- Keys in the first 64 lanes, then a marker of the key's block. -/
def KA (hh : Fin 2) (k : Fin 2048) (d : Fin 128) : EReal :=
  if h : d.val < 64 then B.x1 (ix2 k (lane hh ⟨d.val, h⟩)) else if d.val - 64 = k.val / 256 then 1 else 0
/-- Scaled queries in the first 64 lanes, then the bias of each key block. -/
def QA (hh : Fin 2) (i : Fin 8) (r : Fin 256) (d : Fin 128) : EReal :=
  if h : d.val < 64 then B.x0 (ix2 (row i r) (lane hh ⟨d.val, h⟩)) * Ideal.ofBits .f32 0x3E000000#32
  else B.x3 (ix2 (row i r) (lane hh ⟨d.val - 64, by omega⟩))
/-- Scores with their bias. -/
def SC (hh : Fin 2) (i : Fin 8) (k : Fin 2048) (r : Fin 256) : EReal := ∑ d : Fin 128, B.KA hh k d * B.QA hh i r d
/-- Scores, keys after the query left out. -/
def SM (hh : Fin 2) (i : Fin 8) (k : Fin 2048) (r : Fin 256) : EReal := if k.val ≤ 256 * i.val + r.val then B.SC hh i k r else ⊥
/-- Values times the incoming gradient. -/
def DP (hh : Fin 2) (i : Fin 8) (k : Fin 2048) (r : Fin 256) : EReal :=
  ∑ d : Fin 64, B.x2 (ix2 k (lane hh d)) * B.x6 (ix2 (row i r) (lane hh d))
/-- Output times the incoming gradient. -/
def DE (hh : Fin 2) (i : Fin 8) (r : Fin 256) : EReal :=
  ∑ d : Fin 64, B.x6 (ix2 (row i r) (lane hh d)) * B.x4 (ix2 (row i r) (lane hh d))
/-- Probabilities. -/
def PR (hh : Fin 2) (i : Fin 8) (k : Fin 2048) (r : Fin 256) : EReal :=
  Ideal.exp (B.SM hh i k r - B.x5 (ix3 0 (hrow hh) (row i r)))
/-- Gradients of the scores. -/
def DS (hh : Fin 2) (i : Fin 8) (k : Fin 2048) (r : Fin 256) : EReal := B.PR hh i k r * (B.DP hh i k r - B.DE hh i r)

end Point
end Cert.AttnIdeal
-- ==== Proof.AttnKeys.lean ====
module

public import proofs.«01_k».proof.Proof.AttnTables

public import Idealize.ShloMosaic.Lib.WholeRead
public import Idealize.ShloMosaic.Lib.WordCmp
public import Idealize.ShloMosaic.Lib.Tactic.WordOmega

/-!
What the buffers of keys and of queries hold when the scores of a block are taken.
-/

@[expose] public section

set_option maxRecDepth 16384

noncomputable section

open Idealize.ShloMosaic Idealize.ShloMosaic.TcCoe Idealize.SL.Sem

namespace Cert.AttnIdeal.Point
open Cert.AttnIdeal Cert.AttnIdeal.Gen Cert.AttnIdeal.Gen.kernelRun0_A Cert.AttnIdeal.Stores

variable (B : Point)

/-- A load of a rectangle of an input array. -/
theorem input {N C : ℕ} {e : EltTy} {sp : Space} {mr : Memref sig .tc sp ⟨2, ![N, C]⟩ e} (h : mr.IsWhole) (X : Vec Ideal ⟨2, ![N, C]⟩ e) {a b n w : ℕ}
    {inb : ∀ i, (![a, b] : Fin 2 → ℕ) i + (![n, w] : Fin 2 → ℕ) i ≤ (⟨2, ![N, C]⟩ : Shape).size i}
    (y : Fin n) (x : Fin w) (k : Fin N) (r : Fin C) (hk : k.val = a + y.val) (hr : r.val = b + x.val) :
    View.readAt (Elt Ideal) mr.view (Rect.unit (s := ⟨2, ![N, C]⟩) ![a, b] ![n, w] inb).toLoadRect (h.unread X) (ix2 y x) = X (ix2 k r) :=
  (Memref.IsWhole.readAt_unread h X _ _).trans (congrArg X (emb_eq a b n w inb y x k r hk hr))

/-- A reshape to the same shape. -/
theorem same {s : Shape} {α : Type} (x : s.Idx → α) (h : s.ShapeCasts s) (j : s.Idx) : shapeCast s x h j = x j :=
  congrFun (shapeCast_id x h) j

/-- Keys of one head, as stored. -/
theorem key_piece (hh : Fin 2) {b : ℕ} (hb : b = 64 * hh.val) {inb : ∀ i, (![0, b] : Fin 2 → ℕ) i + S2048x64.size i ≤ S2048x128.size i} {p1 p3} {p2 : FTy.bf16.bits < FTy.f32.bits}
    (y : Fin 2048) (x : Fin 64) (k : Fin 2048) (r : Fin 128) (hk : k.val = 0 + y.val) (hr : r.val = 0 + x.val) :
    shapeCast S2048x64 (truncf (F := Ideal) .bf16 (shapeCast S2048x64 (View.readAt (Elt Ideal) B.arg2.view
      (Rect.unit (s := S2048x128) ![0, b] S2048x64.size inb).toLoadRect (B.harg2.unread B.x1)) p1) p2) p3 (ix2 y x) = B.KA hh k r := by
  have hx : r.val < 64 := by omega
  refine (same (s := S2048x64) _ _ _).trans ((same (s := S2048x64) _ _ _).trans ((input B.harg2 B.x1 y x k (lane hh ⟨r.val, hx⟩) hk ?_).trans ?_))
  · simp only [lane]; omega
  · rw [KA, dif_pos hx]

/-- The word that says whether key `k` lies in block `x`. -/
theorem mark_word {x k : ℕ} (hx : x < 64) (hk : k < 2048) :
    IntOp.andi (IntOp.cmpi .sle (IntOp.muli (BitVec.ofNat 32 x) 256#32) (BitVec.ofNat 32 k))
      (IntOp.cmpi .slt (BitVec.ofNat 32 k) (IntOp.muli (IntOp.addi (BitVec.ofNat 32 x) 1#32) 256#32)) = if x = k / 256 then 1#1 else 0#1 := by
  have e1 : IntOp.muli (BitVec.ofNat 32 x) 256#32 = BitVec.ofNat 32 (x * 256) := by
    apply BitVec.eq_of_toNat_eq; simp [IntOp.muli, BitVec.toNat_mul]
  have e2 : IntOp.muli (IntOp.addi (BitVec.ofNat 32 x) 1#32) 256#32 = BitVec.ofNat 32 ((x + 1) * 256) := by
    apply BitVec.eq_of_toNat_eq; simp [IntOp.muli, IntOp.addi, BitVec.toNat_mul, BitVec.toNat_add]
  rw [e1, e2, WordCmp.cmpi_sle_ofNat (by omega) (by omega), WordCmp.cmpi_slt_ofNat (by omega) (by omega)]
  by_cases h : x = k / 256
  · rw [if_pos h, decide_eq_true (by omega), decide_eq_true (by omega)]; rfl
  · rw [if_neg h]
    by_cases h1 : x * 256 ≤ k
    · rw [decide_eq_true h1, decide_eq_false (by omega)]; rfl
    · rw [decide_eq_false h1, decide_eq_true (by omega)]; rfl

/-- The marker of a key's block, as stored. -/
theorem mark_piece (hh : Fin 2) (y : Fin 2048) (x : Fin 64) (k : Fin 2048) (r : Fin 128) (hk : k.val = 0 + y.val) (hr : r.val = 64 + x.val) :
    sl.v23 (F := Ideal) (ix2 y x) = B.KA hh k r := by
  have hx : ¬ r.val < 64 := by omega
  rw [KA, dif_neg hx]
  refine (same (s := S2048x64) _ _ _).trans ?_
  have e0 : iota .tc S2048x64 32 [0] iota_S2048x64_d0_w32 (ix2 y x) = BitVec.ofNat 32 y.val := iota_single_apply _ _ _ _ _ _
  have e1 : iota .tc S2048x64 32 [1] iota_S2048x64_d1_w32 (ix2 y x) = BitVec.ofNat 32 x.val := iota_single_apply _ _ _ _ _ _
  refine Eq.trans (b := Scalar.select (IntOp.andi (IntOp.cmpi .sle (IntOp.muli (iota .tc S2048x64 32 [1] iota_S2048x64_d1_w32 (ix2 y x)) 256#32) (iota .tc S2048x64 32 [0] iota_S2048x64_d0_w32 (ix2 y x)))
    (IntOp.cmpi .slt (iota .tc S2048x64 32 [0] iota_S2048x64_d0_w32 (ix2 y x)) (IntOp.muli (IntOp.addi (iota .tc S2048x64 32 [1] iota_S2048x64_d1_w32 (ix2 y x)) 1#32) 256#32)))
    (Ideal.ofBits .f32 0x3F800000#32) (Ideal.ofBits .f32 0x00000000#32)) rfl ?_
  rw [e0, e1, mark_word x.isLt y.isLt, Ideal.ofBits_zero_f32, Ideal.ofBits_one_f32]
  have e : r.val - 64 = k.val / 256 ↔ x.val = y.val / 256 := by omega
  by_cases h : x.val = y.val / 256
  · rw [if_pos h, if_pos (e.mpr h)]; rfl
  · rw [if_neg h, if_neg fun h' => h (e.mp h')]; rfl

theorem ka (hh : Fin 2) : Has (B.kaT hh) (B.KA hh) fun _ _ => True := by
  fin_cases hh
  all_goals
    exact Has.cons (fun y x k r hk hr _ => B.mark_piece _ y x k r hk hr)
      (Has.cons (fun y x k r hk hr _ => B.key_piece _ (by rfl) y x k r hk hr) (Has.none fun k r hk hr h => by omega))

/-- Scaled queries of one head, as stored. -/
theorem query_piece (hh : Fin 2) (i : Fin 8) {a b : ℕ} (ha : a = 256 * i.val) (hb : b = 64 * hh.val)
    {inb : ∀ i, (![a, b] : Fin 2 → ℕ) i + S256x64.size i ≤ S2048x128.size i} {p1 p3} {p2 : FTy.bf16.bits < FTy.f32.bits} (y : Fin 256) (x : Fin 64)
    (k : Fin 256) (r : Fin 128) (hk : k.val = 0 + y.val) (hr : r.val = 0 + x.val) :
    shapeCast S256x64 (truncf (F := Ideal) .bf16 (mulf (shapeCast S256x64 (View.readAt (Elt Ideal) B.arg1.view
      (Rect.unit (s := S2048x128) ![a, b] S256x64.size inb).toLoadRect (B.harg1.unread B.x0)) p1) (broadcast S256x64 (Scalar.ofBits .f32 0x3E000000#32))) p2) p3 (ix2 y x)
      = B.QA hh i k r := by
  have hx : r.val < 64 := by omega
  rw [QA, dif_pos hx]
  refine (same (s := S256x64) _ _ _).trans (congrArg (· * _) ((same (s := S256x64) _ _ _).trans (input B.harg1 B.x0 y x (row i k) (lane hh ⟨r.val, hx⟩) ?_ ?_)))
  · simp only [row]; omega
  · simp only [lane]; omega

/-- The bias of one head, as stored. -/
theorem bias_piece (hh : Fin 2) (i : Fin 8) {a b : ℕ} (ha : a = 256 * i.val) (hb : b = 64 * hh.val)
    {inb : ∀ i, (![a, b] : Fin 2 → ℕ) i + S256x64.size i ≤ S2048x128.size i} {p1 p3} (y : Fin 256) (x : Fin 64)
    (k : Fin 256) (r : Fin 128) (hk : k.val = 0 + y.val) (hr : r.val = 64 + x.val) :
    shapeCast S256x64 (shapeCast S256x64 (View.readAt (Elt Ideal) B.arg4.view
      (Rect.unit (s := S2048x128) ![a, b] S256x64.size inb).toLoadRect (B.harg4.unread B.x3)) p1) p3 (ix2 y x)
      = B.QA hh i k r := by
  have hx : ¬ r.val < 64 := by omega
  rw [QA, dif_neg hx]
  refine (same (s := S256x64) _ _ _).trans ((same (s := S256x64) _ _ _).trans (input B.harg4 B.x3 y x (row i k) (lane hh ⟨r.val - 64, by omega⟩) ?_ ?_))
  · simp only [row]; omega
  · simp only [lane]; omega

theorem qa (hh : Fin 2) (i : Fin 8) : Has (B.qaT hh i) (B.QA hh i) fun _ _ => True := by
  fin_cases hh <;> fin_cases i
  all_goals
    exact Has.cons (fun y x k r hk hr _ => B.bias_piece _ _ (by rfl) (by rfl) y x k r hk hr)
      (Has.cons (fun y x k r hk hr _ => B.query_piece _ _ (by rfl) (by rfl) y x k r hk hr) (Has.none fun k r hk hr h => by omega))

end Cert.AttnIdeal.Point
-- ==== Proof.AttnScores.lean ====
module

public import proofs.«01_k».proof.Proof.AttnKeys

/-!
The masked scores of a block of queries, and the products of the values with the incoming gradient.
-/

@[expose] public section

set_option maxRecDepth 16384

noncomputable section

open Idealize.ShloMosaic Idealize.ShloMosaic.TcCoe Idealize.SL.Sem

namespace Cert.AttnIdeal.Point
open Cert.AttnIdeal Cert.AttnIdeal.Gen Cert.AttnIdeal.Gen.kernelRun0_A Cert.AttnIdeal.Stores

variable (B : Point)

/-- Scores, as stored. -/
theorem score_piece (hh : Fin 2) (i : Fin 8) {L5 : List (View.Piece (Elt Ideal) S2048x128 .bf16)} (e5 : L5 = B.kaT hh)
    {L6 : List (View.Piece (Elt Ideal) S256x128 .bf16)} (e6 : L6 = B.qaT hh i) {w : ℕ}
    {inb5 : ∀ i, (![0, 0] : Fin 2 → ℕ) i + (![w, 128] : Fin 2 → ℕ) i ≤ S2048x128.size i}
    {inb6 : ∀ i, (![0, 0] : Fin 2 → ℕ) i + S256x128.size i ≤ S256x128.size i} {p}
    (y : Fin w) (x : Fin 256) (k : Fin 2048) (r : Fin 256) (hk : k.val = 0 + y.val) (hr : r.val = 0 + x.val) :
    shapeCast ⟨2, ![w, 256]⟩ (FloatOps.matmul (F := Ideal) (φ₁ := .bf16) (φ₂ := .bf16) (DotDims.transposedRhs w 128 256) none
      (B.arg18.view.readCov L5 (Rect.unit (s := S2048x128) ![0, 0] ![w, 128] inb5).toLoadRect)
      (B.arg19.view.readCov L6 (Rect.unit (s := S256x128) ![0, 0] S256x128.size inb6).toLoadRect) (constant ⟨2, ![w, 256]⟩ .f32 0x00000000#32)) p (ix2 y x)
      = B.SC hh i k r := by
  have h5 := e5 ▸ B.ka hh
  have h6 := e6 ▸ B.qa hh i
  refine (same (s := ⟨2, ![w, 256]⟩) _ _ _).trans ((Ideal.matmul_transposedRhs_apply none _ _ _ y x).trans ?_)
  refine (congrArg (· + _) Ideal.ofBits_zero_f32).trans ((zero_add _).trans ?_)
  exact Finset.sum_congr rfl fun d _ => Ideal.mul_congr (h5.load _ y d k d hk (by omega) trivial) (h6.load _ x d r d hr (by omega) trivial)

/-- The mask as it is named. -/
theorem mask_named : Named.named (F := Ideal) (φ := .f32) κ "mask" 0xF149F2CA#32 = (⊥ : EReal) := by
  simp [Named.named, κ]

/-- The masked square on the diagonal, as stored. -/
theorem mask_piece (hh : Fin 2) (i : Fin 8) {L : List (View.Piece (Elt Ideal) S2048x256 .f32)} (h : Has L (B.SC hh i) fun k _ => k < 256 * (i.val + 1))
    {a : ℕ} (ha : a = 256 * i.val) {inb : ∀ i, (![a, 0] : Fin 2 → ℕ) i + S256x256.size i ≤ S2048x256.size i} {p}
    (y : Fin 256) (x : Fin 256) (k : Fin 2048) (r : Fin 256) (hk : k.val = a + y.val) (hr : r.val = 0 + x.val) :
    shapeCast S256x256 (select (cmpi .sle (iota .tc S256x256 32 [0] iota_S256x256_d0_w32) (iota .tc S256x256 32 [1] iota_S256x256_d1_w32))
      (B.arg20.view.readCov L (Rect.unit (s := S2048x256) ![a, 0] S256x256.size inb).toLoadRect)
      (broadcast S256x256 (Named.named (F := Ideal) (φ := .f32) κ "mask" 0xF149F2CA#32))) p (ix2 y x) = B.SM hh i k r := by
  refine (same (s := S256x256) _ _ _).trans ?_
  have e0 : iota .tc S256x256 32 [0] iota_S256x256_d0_w32 (ix2 y x) = BitVec.ofNat 32 y.val := iota_single_apply _ _ _ _ _ _
  have e1 : iota .tc S256x256 32 [1] iota_S256x256_d1_w32 (ix2 y x) = BitVec.ofNat 32 x.val := iota_single_apply _ _ _ _ _ _
  refine Eq.trans (b := Scalar.select (IntOp.cmpi .sle (iota .tc S256x256 32 [0] iota_S256x256_d0_w32 (ix2 y x)) (iota .tc S256x256 32 [1] iota_S256x256_d1_w32 (ix2 y x)))
    (B.arg20.view.readCov L (Rect.unit (s := S2048x256) ![a, 0] S256x256.size inb).toLoadRect (ix2 y x)) (Named.named (F := Ideal) (φ := .f32) κ "mask" 0xF149F2CA#32)) rfl ?_
  rw [e0, e1, WordCmp.cmpi_sle_ofNat (by omega) (by omega), mask_named, SM]
  by_cases hyx : y.val ≤ x.val
  · rw [if_pos (by omega), decide_eq_true hyx]
    exact h.load _ y x k r hk hr (by omega)
  · rw [if_neg (by omega), decide_eq_false hyx]; rfl

theorem SM_of_le (hh : Fin 2) (i : Fin 8) (k : Fin 2048) (r : Fin 256) (h : k.val ≤ 256 * i.val) : B.SM hh i k r = B.SC hh i k r := if_pos (by omega)

set_option maxHeartbeats 800000 in
/-- The scores a block's softmax reads. -/
theorem s (hh : Fin 2) (i : Fin 8) : Has (B.sT hh i) (B.SM hh i) fun k _ => k < 256 * (i.val + 1) := by
  fin_cases hh <;> fin_cases i
  all_goals
    refine Has.cons (fun y x k r hk hr _ => B.mask_piece _ _ (Has.cons (fun y x k r hk hr hp => B.score_piece _ _ (by rfl) (by rfl) y x k r hk hr) (Has.none fun k r hk hr h => ?_)) (by rfl) y x k r hk hr)
      (Has.cons (fun y x k r hk hr hp => (B.score_piece _ _ (by rfl) (by rfl) y x k r hk hr).trans (B.SM_of_le _ _ k r ?_).symm) (Has.none fun k r hk hr h => ?_))
  all_goals try dsimp only at h
  all_goals try dsimp only at hp
  all_goals try dsimp only
  all_goals omega

end Cert.AttnIdeal.Point
-- ==== Proof.AttnChunks.lean ====
module

public import proofs.«01_k».proof.Proof.AttnScores

/-!
The probabilities of a block of queries and the gradients of its scores, 128 keys at a time.
-/

@[expose] public section

set_option maxRecDepth 16384

noncomputable section

open Idealize.ShloMosaic Idealize.ShloMosaic.TcCoe Idealize.SL.Sem

namespace Cert.AttnIdeal.Point
open Cert.AttnIdeal Cert.AttnIdeal.Gen Cert.AttnIdeal.Gen.kernelRun0_A Cert.AttnIdeal.Stores

variable (B : Point)

/-- The first rows of an array. -/
theorem slice_apply {w : ℕ} (X : Vec Ideal S2048x64 .bf16) (q : S2048x64.Slices ![0, 0] ⟨2, ![w, 64]⟩) (y : Fin w) (d : Fin 64) (k : Fin 2048) (hk : k.val = 0 + y.val) :
    extractStridedSlice ⟨2, ![w, 64]⟩ ![0, 0] X q (ix2 y d) = X (ix2 k d) := by
  refine congrArg X (funext fun ax => Fin.ext ?_)
  match ax with
  | ⟨0, _⟩ => exact hk.symm
  | ⟨1, _⟩ => exact Nat.zero_add _

/-- Values times the incoming gradient, as stored. -/
theorem dp_piece (hh : Fin 2) (i : Fin 8) {a b b' w : ℕ} (ha : a = 256 * i.val) (hb : b = 64 * hh.val) (hb' : b' = 64 * hh.val)
    {inb3 : ∀ i, (![0, b'] : Fin 2 → ℕ) i + S2048x64.size i ≤ S2048x128.size i} {inb7 : ∀ i, (![a, b] : Fin 2 → ℕ) i + S256x64.size i ≤ S2048x128.size i}
    {p p1 q} {p2 : FTy.bf16.bits < FTy.f32.bits}
    (y : Fin w) (x : Fin 256) (k : Fin 2048) (r : Fin 256) (hk : k.val = 0 + y.val) (hr : r.val = 0 + x.val) :
    shapeCast ⟨2, ![w, 256]⟩ (FloatOps.matmul (F := Ideal) (φ₁ := .bf16) (φ₂ := .bf16) (DotDims.transposedRhs w 64 256) none
      (extractStridedSlice ⟨2, ![w, 64]⟩ ![0, 0] (shapeCast S2048x64 (View.readAt (Elt Ideal) B.arg3.view
        (Rect.unit (s := S2048x128) ![0, b'] S2048x64.size inb3).toLoadRect (B.harg3.unread B.x2)) p1) q)
      (truncf (F := Ideal) .bf16 (View.readAt (Elt Ideal) B.arg7.view (Rect.unit (s := S2048x128) ![a, b] S256x64.size inb7).toLoadRect (B.harg7.unread B.x6)) p2)
      (constant ⟨2, ![w, 256]⟩ .f32 0x00000000#32)) p (ix2 y x)
      = B.DP hh i k r := by
  refine (same (s := ⟨2, ![w, 256]⟩) _ _ _).trans ((Ideal.matmul_transposedRhs_apply none _ _ _ y x).trans ?_)
  refine (congrArg (· + _) Ideal.ofBits_zero_f32).trans ((zero_add _).trans ?_)
  refine Finset.sum_congr rfl fun d _ => Ideal.mul_congr ((slice_apply _ q y d k hk).trans ((same (s := S2048x64) (View.readAt (Elt Ideal) B.arg3.view
        (Rect.unit (s := S2048x128) ![0, b'] S2048x64.size inb3).toLoadRect (B.harg3.unread B.x2)) p1 (ix2 k d)).trans (input B.harg3 B.x2 k d k (lane hh d) ?_ ?_)))
    (input B.harg7 B.x6 x d (row i r) (lane hh d) ?_ ?_)
  · omega
  · simp only [lane]; omega
  · simp only [row]; omega
  · simp only [lane]; omega

/-- The same at the last block, which takes all the keys. -/
theorem dp_whole_piece (hh : Fin 2) (i : Fin 8) {a b b' : ℕ} (ha : a = 256 * i.val) (hb : b = 64 * hh.val) (hb' : b' = 64 * hh.val)
    {inb3 : ∀ i, (![0, b'] : Fin 2 → ℕ) i + S2048x64.size i ≤ S2048x128.size i} {inb7 : ∀ i, (![a, b] : Fin 2 → ℕ) i + S256x64.size i ≤ S2048x128.size i}
    {p p1} {p2 : FTy.bf16.bits < FTy.f32.bits}
    (y : Fin 2048) (x : Fin 256) (k : Fin 2048) (r : Fin 256) (hk : k.val = 0 + y.val) (hr : r.val = 0 + x.val) :
    shapeCast S2048x256 (FloatOps.matmul (F := Ideal) (φ₁ := .bf16) (φ₂ := .bf16) (DotDims.transposedRhs 2048 64 256) none
      (shapeCast S2048x64 (View.readAt (Elt Ideal) B.arg3.view
        (Rect.unit (s := S2048x128) ![0, b'] S2048x64.size inb3).toLoadRect (B.harg3.unread B.x2)) p1)
      (truncf (F := Ideal) .bf16 (View.readAt (Elt Ideal) B.arg7.view (Rect.unit (s := S2048x128) ![a, b] S256x64.size inb7).toLoadRect (B.harg7.unread B.x6)) p2)
      (constant S2048x256 .f32 0x00000000#32)) p (ix2 y x)
      = B.DP hh i k r := by
  refine (same (s := S2048x256) _ _ _).trans ((Ideal.matmul_transposedRhs_apply none _ _ _ y x).trans ?_)
  refine (congrArg (· + _) Ideal.ofBits_zero_f32).trans ((zero_add _).trans ?_)
  exact Finset.sum_congr rfl fun d _ => Ideal.mul_congr ((same (s := S2048x64) (View.readAt (Elt Ideal) B.arg3.view
        (Rect.unit (s := S2048x128) ![0, b'] S2048x64.size inb3).toLoadRect (B.harg3.unread B.x2)) p1 (ix2 y d)).trans
        (input B.harg3 B.x2 y d k (lane hh d) (by omega) (by simp only [lane]; omega)))
    (input B.harg7 B.x6 x d (row i r) (lane hh d) (by simp only [row]; omega) (by simp only [lane]; omega))

set_option maxHeartbeats 800000 in
/-- The products of the values with the incoming gradient. -/
theorem dp (hh : Fin 2) (i : Fin 8) : Has (B.dpT hh i) (B.DP hh i) fun k _ => k < 256 * (i.val + 1) := by
  fin_cases hh <;> fin_cases i
  on_goal 16 => exact Has.cons (fun y x k r hk hr _ => B.dp_whole_piece _ _ (by rfl) (by rfl) (by rfl) y x k r hk hr) (Has.none fun k r hk hr h => by (try dsimp only at h); omega)
  on_goal 8 => exact Has.cons (fun y x k r hk hr _ => B.dp_whole_piece _ _ (by rfl) (by rfl) (by rfl) y x k r hk hr) (Has.none fun k r hk hr h => by (try dsimp only at h); omega)
  all_goals
    exact Has.cons (fun y x k r hk hr _ => B.dp_piece _ _ (by rfl) (by rfl) (by rfl) y x k r hk hr) (Has.none fun k r hk hr h => by (try dsimp only at h); omega)

/-- The log-sum-exps of a block of queries. -/
theorem lse_row (hh : Fin 2) (i : Fin 8) {a b : ℕ} (ha : a = 256 * i.val) (hb : b = hh.val)
    {inb : ∀ i, (![0, b, a] : Fin 3 → ℕ) i + S1x1x256.size i ≤ S1x8x2048.size i} {p}
    (x : Fin 256) (r : Fin 256) (hr : r.val = 0 + x.val) :
    shapeCast S1x256 (View.readAt (Elt Ideal) B.arg6.view
        (Rect.unit (s := S1x8x2048) ![0, b, a] S1x1x256.size inb).toLoadRect (B.harg6.unread B.x5)) p (ix2 0 x) = B.x5 (ix3 0 (hrow hh) (row i r)) := by
  pointwise []
  refine (Memref.IsWhole.readAt_unread B.harg6 B.x5 _ _).trans (congrArg B.x5 (funext fun ax => Fin.ext ?_))
  match ax with
  | ⟨0, _⟩ => rfl
  | ⟨1, _⟩ => exact (Nat.add_zero _).trans hb
  | ⟨2, _⟩ => simp [Rect.emb, Rect.unit, ix3, row, LoadRect.idx]; omega

/-- The products of output and incoming gradient, summed along the lanes. -/
theorem delta_row (hh : Fin 2) (i : Fin 8) {a b : ℕ} (ha : a = 256 * i.val) (hb : b = 64 * hh.val)
    {inb7 inb5 : ∀ i, (![a, b] : Fin 2 → ℕ) i + S256x64.size i ≤ S2048x128.size i} {p1 p2 p3 p4 p5 p6 p7 p8 p9}
    (x : Fin 256) (r : Fin 256) (hr : r.val = 0 + x.val) :
    extractStridedSlice S1x256 ![0, 0] (transpose S128x256 [1, 0] (broadcastTo S256x128 (shapeCast S256x1 (shapeCast S256x1
      (multiReduction (F := Ideal) (φ := .f32) .add [1] S256 (mulf
        (View.readAt (Elt Ideal) B.arg7.view (Rect.unit (s := S2048x128) ![a, b] S256x64.size inb7).toLoadRect (B.harg7.unread B.x6))
        (shapeCast S256x64 (View.readAt (Elt Ideal) B.arg5.view (Rect.unit (s := S2048x128) ![a, b] S256x64.size inb5).toLoadRect (B.harg5.unread B.x4)) p1))
        0x00000000#32 p2 p3 p4) p5) p6) p7) p8) p9 (ix2 0 x) = B.DE hh i r := by
  pointwise []
  exact Finset.sum_congr rfl fun d _ => Ideal.mul_congr
    (input B.harg7 B.x6 x d (row i r) (lane hh d) (by simp only [row]; omega) (by simp only [lane]; omega))
    (input B.harg5 B.x4 x d (row i r) (lane hh d) (by simp only [row]; omega) (by simp only [lane]; omega))

/-- Probabilities of 128 keys, before they are stored. -/
theorem exp_chunk (hh : Fin 2) (i : Fin 8) {L7 : List (View.Piece (Elt Ideal) S2048x256 .f32)} (e7 : L7 = B.sT hh i) {a b c : ℕ} (ha : a = 256 * i.val) (hb : b = hh.val)
    {inb7 : ∀ i, (![c, 0] : Fin 2 → ℕ) i + S128x256.size i ≤ S2048x256.size i} {inb6 : ∀ i, (![0, b, a] : Fin 3 → ℕ) i + S1x1x256.size i ≤ S1x8x2048.size i} {p1 p2}
    (y : Fin 128) (x : Fin 256) (k : Fin 2048) (r : Fin 256) (hk : k.val = c + y.val) (hr : r.val = 0 + x.val) (hp : k.val < 256 * (i.val + 1)) :
    exp (F := Ideal) (φ := .f32) (subf (B.arg20.view.readCov L7 (Rect.unit (s := S2048x256) ![c, 0] S128x256.size inb7).toLoadRect)
      (broadcastTo S128x256 (shapeCast S1x256 (View.readAt (Elt Ideal) B.arg6.view
        (Rect.unit (s := S1x8x2048) ![0, b, a] S1x1x256.size inb6).toLoadRect (B.harg6.unread B.x5)) p1) p2)) (ix2 y x) = B.PR hh i k r := by
  have h7 := (e7 ▸ B.s hh i).load B.arg20.view (inb := inb7) y x k r hk hr hp
  have hl := B.lse_row hh i ha hb (inb := inb6) (p := p1) x r hr
  exact congrArg Ideal.exp (congrArg₂ (fun u v : EReal => u - v) h7 hl)

/-- Probabilities of 128 keys, as stored. -/
theorem p_piece (hh : Fin 2) (i : Fin 8) {L7 : List (View.Piece (Elt Ideal) S2048x256 .f32)} (e7 : L7 = B.sT hh i) {a b c : ℕ} (ha : a = 256 * i.val) (hb : b = hh.val)
    {inb7 : ∀ i, (![c, 0] : Fin 2 → ℕ) i + S128x256.size i ≤ S2048x256.size i} {inb6 : ∀ i, (![0, b, a] : Fin 3 → ℕ) i + S1x1x256.size i ≤ S1x8x2048.size i} {p1 p2 p4}
    {p3 : FTy.bf16.bits < FTy.f32.bits}
    (y : Fin 128) (x : Fin 256) (k : Fin 2048) (r : Fin 256) (hk : k.val = c + y.val) (hr : r.val = 0 + x.val) (hp : k.val < 256 * (i.val + 1)) :
    shapeCast S128x256 (truncf .bf16 (exp (F := Ideal) (φ := .f32) (subf (B.arg20.view.readCov L7 (Rect.unit (s := S2048x256) ![c, 0] S128x256.size inb7).toLoadRect)
      (broadcastTo S128x256 (shapeCast S1x256 (View.readAt (Elt Ideal) B.arg6.view
        (Rect.unit (s := S1x8x2048) ![0, b, a] S1x1x256.size inb6).toLoadRect (B.harg6.unread B.x5)) p1) p2))) p3) p4 (ix2 y x) = B.PR hh i k r :=
  (same (s := S128x256) _ _ _).trans (B.exp_chunk hh i e7 ha hb y x k r hk hr hp)

/-- Gradients of the scores of 128 keys, as stored. -/
theorem ds_piece (hh : Fin 2) (i : Fin 8) {L7 : List (View.Piece (Elt Ideal) S2048x256 .f32)} (e7 : L7 = B.sT hh i)
    {L8 : List (View.Piece (Elt Ideal) S2048x256 .f32)} (e8 : L8 = B.dpT hh i) {a b b' c : ℕ} (ha : a = 256 * i.val) (hb : b = hh.val) (hb' : b' = 64 * hh.val)
    {inb7 inb8 : ∀ i, (![c, 0] : Fin 2 → ℕ) i + S128x256.size i ≤ S2048x256.size i} {inb6 : ∀ i, (![0, b, a] : Fin 3 → ℕ) i + S1x1x256.size i ≤ S1x8x2048.size i}
    {inb5 inb9 : ∀ i, (![a, b'] : Fin 2 → ℕ) i + S256x64.size i ≤ S2048x128.size i} {p1 p2 p4 q1 q2 q3 q4 q5 q6 q7 q8 q9 q10} {p3 : FTy.bf16.bits < FTy.f32.bits}
    (y : Fin 128) (x : Fin 256) (k : Fin 2048) (r : Fin 256) (hk : k.val = c + y.val) (hr : r.val = 0 + x.val) (hp : k.val < 256 * (i.val + 1)) :
    shapeCast S128x256 (truncf .bf16 (mulf (exp (F := Ideal) (φ := .f32) (subf (B.arg20.view.readCov L7 (Rect.unit (s := S2048x256) ![c, 0] S128x256.size inb7).toLoadRect)
      (broadcastTo S128x256 (shapeCast S1x256 (View.readAt (Elt Ideal) B.arg6.view
        (Rect.unit (s := S1x8x2048) ![0, b, a] S1x1x256.size inb6).toLoadRect (B.harg6.unread B.x5)) p1) p2)))
      (subf (B.arg21.view.readCov L8 (Rect.unit (s := S2048x256) ![c, 0] S128x256.size inb8).toLoadRect) (broadcastTo S128x256
        (extractStridedSlice S1x256 ![0, 0] (transpose S128x256 [1, 0] (broadcastTo S256x128 (shapeCast S256x1 (shapeCast S256x1
          (multiReduction (F := Ideal) (φ := .f32) .add [1] S256 (mulf
            (View.readAt (Elt Ideal) B.arg7.view (Rect.unit (s := S2048x128) ![a, b'] S256x64.size inb9).toLoadRect (B.harg7.unread B.x6))
            (shapeCast S256x64 (View.readAt (Elt Ideal) B.arg5.view (Rect.unit (s := S2048x128) ![a, b'] S256x64.size inb5).toLoadRect (B.harg5.unread B.x4)) q1))
          0x00000000#32 q2 q3 q4) q5) q6) q7) q8) q9) q10))) p3) p4 (ix2 y x) = B.DS hh i k r := by
  have h8 := (e8 ▸ B.dp hh i).load B.arg21.view (inb := inb8) y x k r hk hr hp
  have hd := B.delta_row hh i ha hb' (inb7 := inb9) (inb5 := inb5) (p1 := q1) (p2 := q2) (p3 := q3) (p4 := q4) (p5 := q5) (p6 := q6) (p7 := q7) (p8 := q8) (p9 := q9) x r hr
  exact (same (s := S128x256) _ _ _).trans (Ideal.mul_congr (B.exp_chunk hh i e7 ha hb y x k r hk hr hp) (congrArg₂ (fun u v : EReal => u - v) h8 hd))

set_option maxHeartbeats 4000000 in
/-- The probabilities of a block. -/
theorem p (hh : Fin 2) (i : Fin 8) : Has (B.pT hh i) (B.PR hh i) fun k _ => k < 256 * (i.val + 1) := by
  fin_cases hh <;> fin_cases i
  all_goals
    repeat first
      | exact Has.none fun k r hk hr h => by (try dsimp only at h); omega
      | refine Has.cons (fun y x k r hk hr hp => B.p_piece _ _ (p1 := shapeCasts_S1x1x256_S1x256) (p2 := broadcasts_S1x256_S128x256) (p4 := shapeCasts_S128x256_S128x256) (p3 := bitsLt_bf16_f32) (by rfl) (by rfl) (by rfl) y x k r hk hr (by (try dsimp only at hp ⊢); omega)) ?_

set_option maxHeartbeats 4000000 in
/-- The gradients of the scores of a block. -/
theorem ds (hh : Fin 2) (i : Fin 8) : Has (B.dsT hh i) (B.DS hh i) fun k _ => k < 256 * (i.val + 1) := by
  fin_cases hh <;> fin_cases i
  all_goals
    repeat first
      | exact Has.none fun k r hk hr h => by (try dsimp only at h); omega
      | refine Has.cons (fun y x k r hk hr hp => B.ds_piece _ _ (p1 := shapeCasts_S1x1x256_S1x256) (p2 := broadcasts_S1x256_S128x256) (p4 := shapeCasts_S128x256_S128x256) (p3 := bitsLt_bf16_f32)
        (q1 := shapeCasts_S256x64_S256x64) (q2 := reduces_S256x64_S256) (q3 := .inl rfl) (q4 := rfl) (q5 := shapeCasts_S256_S256x1) (q6 := shapeCasts_S256x1_S256x1) (q7 := broadcasts_S256x1_S256x128) (q8 := transposes_S256x128_p1_0_S128x256) (q9 := slices_S128x256_o0_0_S1x256) (q10 := broadcasts_S1x256_S128x256) (by rfl) (by rfl) (by rfl) (by rfl) (by rfl) y x k r hk hr (by (try dsimp only at hp ⊢); omega)) ?_

end Cert.AttnIdeal.Point
-- ==== Proof.AttnSums.lean ====
module

public import proofs.«01_k».proof.Proof.AttnChunks

/-!
The gradients of values and keys, summed over the blocks of queries, and the gradients of the queries.
-/

@[expose] public section

set_option maxRecDepth 16384

noncomputable section

open Idealize.ShloMosaic Idealize.ShloMosaic.TcCoe Idealize.SL.Sem

namespace Cert.AttnIdeal.Point
open Cert.AttnIdeal Cert.AttnIdeal.Gen Cert.AttnIdeal.Gen.kernelRun0_A Cert.AttnIdeal.Stores

variable (B : Point)

/-- Products of a block's array with rows of another, summed over the blocks before block `n`: key `k` is seen by blocks that do not end before it. -/
def acc (M : Fin 8 → Fin 2048 → Fin 256 → EReal) (N : Fin 8 → Fin 256 → Fin 64 → EReal) : ℕ → Fin 2048 → Fin 64 → EReal
  | 0, _, _ => 0
  | n + 1, k, d => acc M N n k d + if h : n < 8 ∧ k.val < 256 * (n + 1) then ∑ r, M ⟨n, h.1⟩ k r * N ⟨n, h.1⟩ r d else 0

/-- One block's sum, as stored. -/
theorem acc_piece {M : Fin 8 → Fin 2048 → Fin 256 → EReal} {N : Fin 8 → Fin 256 → Fin 64 → EReal} (i : Fin 8)
    {L : List (View.Piece (Elt Ideal) S2048x64 .f32)} (h : Has L (acc M N i.val) fun _ _ => True)
    {L9 : List (View.Piece (Elt Ideal) S2048x256 .bf16)} (h9 : Has L9 (M i) fun k _ => k < 256 * (i.val + 1))
    {X : FVec Ideal S256x64 .bf16} (hX : ∀ (r : Fin 256) (d : Fin 64), X (ix2 r d) = N i r d)
    {v : View sig .tc .vmem S2048x64 .f32} {v9 : View sig .tc .vmem S2048x256 .bf16} {w : ℕ} (hw : w = 256 * (i.val + 1))
    {inb : ∀ i, (![0, 0] : Fin 2 → ℕ) i + (![w, 64] : Fin 2 → ℕ) i ≤ S2048x64.size i}
    {inb9 : ∀ i, (![0, 0] : Fin 2 → ℕ) i + (![w, 256] : Fin 2 → ℕ) i ≤ S2048x256.size i} {p}
    (y : Fin w) (x : Fin 64) (k : Fin 2048) (r : Fin 64) (hk : k.val = 0 + y.val) (hr : r.val = 0 + x.val) :
    shapeCast ⟨2, ![w, 64]⟩ (addf (F := Ideal) (φ := .f32) (v.readCov L (Rect.unit (s := S2048x64) ![0, 0] ![w, 64] inb).toLoadRect)
      (FloatOps.matmul (F := Ideal) (φ₁ := .bf16) (φ₂ := .bf16) (DotDims.plain w 256 64) none
        (v9.readCov L9 (Rect.unit (s := S2048x256) ![0, 0] ![w, 256] inb9).toLoadRect) X (constant ⟨2, ![w, 64]⟩ .f32 0x00000000#32))) p (ix2 y x)
      = acc M N (i.val + 1) k r := by
  have e : r = x := Fin.ext (by omega)
  have hn : i.val < 8 ∧ k.val < 256 * (i.val + 1) := ⟨i.isLt, by omega⟩
  refine (same (s := ⟨2, ![w, 64]⟩) _ _ _).trans ?_
  refine (congrArg₂ (fun u v : EReal => u + v) (h.load v y x k r hk hr trivial) ((Ideal.matmul_plain_apply none _ _ _ y x).trans
    ((congrArg (· + _) Ideal.ofBits_zero_f32).trans ((zero_add _).trans (Finset.sum_congr rfl fun s _ => Ideal.mul_congr (h9.load v9 y s k s hk (by omega) hn.2) (hX s x)))))).trans ?_
  rw [acc, dif_pos hn, e]

/-- Sums of blocks that end before the key are not there. -/
theorem acc_succ_of_le {M : Fin 8 → Fin 2048 → Fin 256 → EReal} {N : Fin 8 → Fin 256 → Fin 64 → EReal} (n : ℕ) (k : Fin 2048) (d : Fin 64) (h : 256 * (n + 1) ≤ k.val) :
    acc M N (n + 1) k d = acc M N n k d := by
  rw [acc, dif_neg (by omega), add_zero]

/-- A list that holds one function holds another where they agree. -/
theorem Has.congr {N C : ℕ} {e : EltTy} {L : List (View.Piece (Elt Ideal) ⟨2, ![N, C]⟩ e)} {G G' : Fin N → Fin C → Elt Ideal e} {P P' : ℕ → ℕ → Prop}
    (h : Has L G P) (hP : ∀ k r, P' k r → P k r) (hG : ∀ (k : Fin N) (r : Fin C), P' k.val r.val → G k r = G' k r) : Has L G' P' :=
  fun k r hp => (h k r (hP _ _ hp)).trans (hG k r hp)

/-- The incoming gradient of one head, a row of a block. -/
def DO (hh : Fin 2) (i : Fin 8) (r : Fin 256) (d : Fin 64) : EReal := B.x6 (ix2 (row i r) (lane hh d))
/-- The scaled queries of one head, a row of a block. -/
def QS (hh : Fin 2) (i : Fin 8) (r : Fin 256) (d : Fin 64) : EReal := B.x0 (ix2 (row i r) (lane hh d)) * Ideal.ofBits .f32 0x3E000000#32

/-- Gradients of the values after block `i`. -/
def DV (hh : Fin 2) (i : Fin 8) : Fin 2048 → Fin 64 → EReal := acc (B.PR hh) (B.DO hh) (i.val + 1)
/-- Gradients of the keys after block `i`. -/
def DK (hh : Fin 2) (i : Fin 8) : Fin 2048 → Fin 64 → EReal := acc (B.DS hh) (B.QS hh) (i.val + 1)

theorem dv_piece (hh : Fin 2) (i : Fin 8)
    {L : List (View.Piece (Elt Ideal) S2048x64 .f32)} (h : Has L (acc (B.PR hh) (B.DO hh) i.val) fun _ _ => True)
    {L9 : List (View.Piece (Elt Ideal) S2048x256 .bf16)} (e9 : L9 = B.pT hh i) {w a b : ℕ} (hw : w = 256 * (i.val + 1)) (ha : a = 256 * i.val) (hb : b = 64 * hh.val)
    {inb : ∀ i, (![0, 0] : Fin 2 → ℕ) i + (![w, 64] : Fin 2 → ℕ) i ≤ S2048x64.size i}
    {inb9 : ∀ i, (![0, 0] : Fin 2 → ℕ) i + (![w, 256] : Fin 2 → ℕ) i ≤ S2048x256.size i}
    {inb7 : ∀ i, (![a, b] : Fin 2 → ℕ) i + S256x64.size i ≤ S2048x128.size i} {p} {p2 : FTy.bf16.bits < FTy.f32.bits}
    (y : Fin w) (x : Fin 64) (k : Fin 2048) (r : Fin 64) (hk : k.val = 0 + y.val) (hr : r.val = 0 + x.val) :
    shapeCast ⟨2, ![w, 64]⟩ (addf (F := Ideal) (φ := .f32) (B.arg17.view.readCov L (Rect.unit (s := S2048x64) ![0, 0] ![w, 64] inb).toLoadRect)
      (FloatOps.matmul (F := Ideal) (φ₁ := .bf16) (φ₂ := .bf16) (DotDims.plain w 256 64) none
        (B.arg22.view.readCov L9 (Rect.unit (s := S2048x256) ![0, 0] ![w, 256] inb9).toLoadRect)
        (truncf (F := Ideal) .bf16 (View.readAt (Elt Ideal) B.arg7.view (Rect.unit (s := S2048x128) ![a, b] S256x64.size inb7).toLoadRect (B.harg7.unread B.x6)) p2)
        (constant ⟨2, ![w, 64]⟩ .f32 0x00000000#32))) p (ix2 y x)
      = B.DV hh i k r :=
  acc_piece i h (e9 ▸ B.p hh i) (fun r d => input B.harg7 B.x6 r d (row i r) (lane hh d) (by simp only [row]; omega) (by simp only [lane]; omega)) hw y x k r hk hr

theorem dk_piece (hh : Fin 2) (i : Fin 8)
    {L : List (View.Piece (Elt Ideal) S2048x64 .f32)} (h : Has L (acc (B.DS hh) (B.QS hh) i.val) fun _ _ => True)
    {L9 : List (View.Piece (Elt Ideal) S2048x256 .bf16)} (e9 : L9 = B.dsT hh i)
    {L6 : List (View.Piece (Elt Ideal) S256x128 .bf16)} (e6 : L6 = B.qaT hh i) {w : ℕ} (hw : w = 256 * (i.val + 1))
    {inb : ∀ i, (![0, 0] : Fin 2 → ℕ) i + (![w, 64] : Fin 2 → ℕ) i ≤ S2048x64.size i}
    {inb9 : ∀ i, (![0, 0] : Fin 2 → ℕ) i + (![w, 256] : Fin 2 → ℕ) i ≤ S2048x256.size i}
    {inb6 : ∀ i, (![0, 0] : Fin 2 → ℕ) i + S256x64.size i ≤ S256x128.size i} {p}
    (y : Fin w) (x : Fin 64) (k : Fin 2048) (r : Fin 64) (hk : k.val = 0 + y.val) (hr : r.val = 0 + x.val) :
    shapeCast ⟨2, ![w, 64]⟩ (addf (F := Ideal) (φ := .f32) (B.arg16.view.readCov L (Rect.unit (s := S2048x64) ![0, 0] ![w, 64] inb).toLoadRect)
      (FloatOps.matmul (F := Ideal) (φ₁ := .bf16) (φ₂ := .bf16) (DotDims.plain w 256 64) none
        (B.arg23.view.readCov L9 (Rect.unit (s := S2048x256) ![0, 0] ![w, 256] inb9).toLoadRect)
        (B.arg19.view.readCov L6 (Rect.unit (s := S256x128) ![0, 0] S256x64.size inb6).toLoadRect)
        (constant ⟨2, ![w, 64]⟩ .f32 0x00000000#32))) p (ix2 y x)
      = B.DK hh i k r := by
  refine acc_piece i h (e9 ▸ B.ds hh i) (fun r d => ((e6 ▸ B.qa hh i).load B.arg19.view r d r ⟨d.val, by omega⟩ (by omega) (by simp) trivial).trans ?_) hw y x k r hk hr
  rw [QA, dif_pos d.isLt]; rfl

/-- A buffer filled with zeros. -/
theorem zero_piece {p : S2048x64.ShapeCasts S2048x64} (j : S2048x64.Idx) :
    shapeCast S2048x64 (broadcast S2048x64 (Scalar.ofBits (F := Ideal) .f32 0x00000000#32)) p j = (0 : EReal) :=
  (same (s := S2048x64) _ _ _).trans Ideal.ofBits_zero_f32

set_option maxHeartbeats 800000 in
theorem dv_first (hh : Fin 2) : Has (B.dvT hh 0) (B.DV hh 0) fun _ _ => True := by
  fin_cases hh
  all_goals
    exact Has.cons (fun y x k r hk hr _ => B.dv_piece _ _ (Has.cons (fun y x k r hk hr _ => zero_piece _) (Has.none fun k r hk hr h => by omega))
        (by rfl) (by rfl) (by rfl) (by rfl) y x k r hk hr)
      (Has.cons (fun y x k r hk hr hp => (zero_piece _).trans (acc_succ_of_le 0 k r (by omega)).symm) (Has.none fun k r hk hr h => by omega))

set_option maxHeartbeats 4000000 in
theorem dv_next (hh : Fin 2) (i : Fin 7) (h : Has (B.dvT hh i.castSucc) (B.DV hh i.castSucc) fun _ _ => True) :
    Has (B.dvT hh i.succ) (B.DV hh i.succ) fun _ _ => True := by
  fin_cases hh <;> fin_cases i
  all_goals
    exact Has.cons (fun y x k r hk hr _ => B.dv_piece _ _ (by exact h) (by rfl) (by rfl) (by rfl) (by rfl) y x k r hk hr)
      (Has.congr h (fun _ _ _ => trivial) fun k r hp => (acc_succ_of_le _ k r (by dsimp; omega)).symm)

theorem dv (hh : Fin 2) (i : Fin 8) : Has (B.dvT hh i) (B.DV hh i) fun _ _ => True :=
  Fin.induction (B.dv_first hh) (fun i h => B.dv_next hh i h) i

set_option maxHeartbeats 800000 in
theorem dk_first (hh : Fin 2) : Has (B.dkT hh 0) (B.DK hh 0) fun _ _ => True := by
  fin_cases hh
  all_goals
    exact Has.cons (fun y x k r hk hr _ => B.dk_piece _ _ (Has.cons (fun y x k r hk hr _ => zero_piece _) (Has.none fun k r hk hr h => by omega))
        (by rfl) (by rfl) (by rfl) y x k r hk hr)
      (Has.cons (fun y x k r hk hr hp => (zero_piece _).trans (acc_succ_of_le 0 k r (by omega)).symm) (Has.none fun k r hk hr h => by omega))

set_option maxHeartbeats 4000000 in
theorem dk_next (hh : Fin 2) (i : Fin 7) (h : Has (B.dkT hh i.castSucc) (B.DK hh i.castSucc) fun _ _ => True) :
    Has (B.dkT hh i.succ) (B.DK hh i.succ) fun _ _ => True := by
  fin_cases hh <;> fin_cases i
  all_goals
    exact Has.cons (fun y x k r hk hr _ => B.dk_piece _ _ (by exact h) (by rfl) (by rfl) (by rfl) y x k r hk hr)
      (Has.congr h (fun _ _ _ => trivial) fun k r hp => (acc_succ_of_le _ k r (by dsimp; omega)).symm)

theorem dk (hh : Fin 2) (i : Fin 8) : Has (B.dkT hh i) (B.DK hh i) fun _ _ => True :=
  Fin.induction (B.dk_first hh) (fun i h => B.dk_next hh i h) i

end Cert.AttnIdeal.Point
-- ==== Proof.AttnQueries.lean ====
module

public import proofs.«01_k».proof.Proof.AttnSums

/-!
The gradients of the scaled queries, a block of rows of one head at a time.
-/

@[expose] public section

set_option maxRecDepth 16384

noncomputable section

open Idealize.ShloMosaic Idealize.ShloMosaic.TcCoe Idealize.SL.Sem

namespace Cert.AttnIdeal.Point
open Cert.AttnIdeal Cert.AttnIdeal.Gen Cert.AttnIdeal.Gen.kernelRun0_A Cert.AttnIdeal.Stores

variable (B : Point)

/-- `M×K` by `M×N`, contracting the rows of both. -/
def columns (M K N : ℕ) : DotDims ⟨2, ![M, K]⟩ ⟨2, ![M, N]⟩ ⟨2, ![K, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [], by simpa [List.finRange] using List.Perm.swap 0 1 [],
    rfl, Nat.two_pos, fun b => by fin_cases b <;> rfl⟩

/-- Such a product at a row and a column. -/
theorem columns_apply {M K N : ℕ} (lhs : FVec Ideal ⟨2, ![M, K]⟩ .bf16) (rhs : FVec Ideal ⟨2, ![M, N]⟩ .bf16) (a : FVec Ideal ⟨2, ![K, N]⟩ .f32) (r : Fin K) (c : Fin N) :
    FloatOps.matmul (columns M K N) none lhs rhs a (ix2 r c) = a (ix2 r c) + ∑ k : Fin M, lhs (ix2 k r) * rhs (ix2 k c) := by
  refine Ideal.matmul_apply₁_of (columns M K N) (a := 0) rfl rfl lhs rhs a (ix2 r c) (fun k => ix2 k r) (fun k => ix2 k c) (fun k => ?_) (fun k => ?_)
  all_goals
    funext ax; apply Fin.ext
    match ax with
    | ⟨0, _⟩ => rfl
    | ⟨1, _⟩ => rfl

/-- A sum over the first indices. -/
theorem sum_first {w : ℕ} (hw : w ≤ 2048) (f : Fin 2048 → EReal) : ∑ k : Fin w, f (k.castLE hw) = ∑ k : Fin 2048, if k.val < w then f k else 0 := by
  rw [← Finset.sum_filter]
  refine Finset.sum_nbij (Fin.castLE hw) (fun k _ => by simp) (fun a _ b _ h => Fin.castLE_injective hw h) (fun k hk => ?_) fun _ _ => rfl
  simp only [Finset.coe_filter, Finset.mem_univ, true_and, Set.mem_setOf_eq] at hk
  exact ⟨⟨k.val, hk⟩, by simp, rfl⟩

/-- Gradients of the scaled queries of one head, a row of a block. -/
def DQ (hh : Fin 2) (i : Fin 8) (r : Fin 256) (d : Fin 64) : EReal :=
  (∑ k : Fin 2048, if k.val < 256 * (i.val + 1) then B.DS hh i k r * B.x1 (ix2 k (lane hh d)) else 0) * Ideal.ofBits .f32 0x3E000000#32

/-- The same at a row and a lane. -/
def DQA (n : Fin 2048) (c : Fin 128) : EReal :=
  B.DQ ⟨c.val / 64, by omega⟩ ⟨n.val / 256, by omega⟩ ⟨n.val % 256, by omega⟩ ⟨c.val % 64, by omega⟩

theorem dq_piece {a b : ℕ} (hi : a / 256 < 8) (hb : b / 64 < 2) (ea : a = 256 * (a / 256)) (eb : b = 64 * (b / 64))
    {L10 : List (View.Piece (Elt Ideal) S2048x256 .bf16)} (e10 : L10 = B.dsT ⟨b / 64, hb⟩ ⟨a / 256, hi⟩)
    {L5 : List (View.Piece (Elt Ideal) S2048x128 .bf16)} (e5 : L5 = B.kaT ⟨b / 64, hb⟩) {w : ℕ} (hw : w = 256 * (a / 256 + 1))
    {inb10 : ∀ i, (![0, 0] : Fin 2 → ℕ) i + (![w, 256] : Fin 2 → ℕ) i ≤ S2048x256.size i}
    {inb5 : ∀ i, (![0, 0] : Fin 2 → ℕ) i + (![w, 64] : Fin 2 → ℕ) i ≤ S2048x128.size i} {p}
    (y : Fin 256) (x : Fin 64) (k : Fin 2048) (r : Fin 128) (hk : k.val = a + y.val) (hr : r.val = b + x.val) :
    shapeCast S256x64 (mulf (F := Ideal) (φ := .f32) (FloatOps.matmul (F := Ideal) (φ₁ := .bf16) (φ₂ := .bf16) (columns w 256 64) none
        (B.arg23.view.readCov L10 (Rect.unit (s := S2048x256) ![0, 0] ![w, 256] inb10).toLoadRect)
        (B.arg18.view.readCov L5 (Rect.unit (s := S2048x128) ![0, 0] ![w, 64] inb5).toLoadRect)
        (constant S256x64 .f32 0x00000000#32)) (broadcast S256x64 (Scalar.ofBits .f32 0x3E000000#32))) p (ix2 y x)
      = B.DQA k r := by
  have h10 := e10 ▸ B.ds ⟨b / 64, hb⟩ ⟨a / 256, hi⟩
  have h5 := e5 ▸ B.ka ⟨b / 64, hb⟩
  have hs : ∀ s : Fin w, _ := fun s => Ideal.mul_congr (h10.load B.arg23.view s y (s.castLE (by omega)) y (inb := inb10) (by simp) (by omega) (by simp; omega))
    (h5.load B.arg18.view s x (s.castLE (by omega)) ⟨x.val, by omega⟩ (inb := inb5) (by simp) (by simp) trivial)
  have ht := (Finset.sum_congr rfl fun s _ => hs s).trans (sum_first (by omega) fun s => B.DS ⟨b / 64, hb⟩ ⟨a / 256, hi⟩ s y * B.KA ⟨b / 64, hb⟩ s ⟨x.val, by omega⟩)
  refine (same (s := S256x64) _ _ _).trans ((congrArg (· * Ideal.ofBits .f32 0x3E000000#32) ((columns_apply _ _ _ y x).trans
    ((congrArg (· + _) Ideal.ofBits_zero_f32).trans ((zero_add _).trans ht)))).trans ?_)
  have e1 : (⟨r.val / 64, by omega⟩ : Fin 2) = ⟨b / 64, hb⟩ := Fin.ext (by simp only; omega)
  have e2 : (⟨k.val / 256, by omega⟩ : Fin 8) = ⟨a / 256, hi⟩ := Fin.ext (by simp only; omega)
  have e3 : (⟨k.val % 256, by omega⟩ : Fin 256) = y := Fin.ext (by simp only; omega)
  have e4 : (⟨r.val % 64, by omega⟩ : Fin 64) = x := Fin.ext (by simp only; omega)
  rw [DQA, e1, e2, e3, e4, DQ, hw]
  refine congrArg (· * _) (Finset.sum_congr rfl fun s _ => ?_)
  rw [KA, dif_pos x.isLt]

set_option maxHeartbeats 4000000 in
/-- What the buffer of query gradients holds at the end. -/
theorem dq : Has (sl.HS0_16 B.c B.arg1 B.harg1 B.arg2 B.harg2 B.arg3 B.harg3 B.arg4 B.harg4 B.arg5 B.harg5 B.arg6 B.harg6 B.arg7 B.harg7 B.arg18 B.arg19 B.arg20 B.arg21 B.arg23 B.x0 B.x1 B.x2 B.x3 B.x4 B.x5 B.x6) B.DQA fun _ _ => True := by
  unfold sl.HS0_16
  repeat first
    | exact Has.none fun k r hk hr h => by omega
    | refine Has.cons (fun y x k r hk hr hp => B.dq_piece (by decide) (by decide) (by decide) (by decide) (by rfl) (by rfl) (by decide) y x k r hk hr) ?_

end Cert.AttnIdeal.Point
-- ==== Proof.AttnMath.lean ====
module

public import proofs.«01_k».proof.Proof.AttnQueries
public import proofs.«01_k».proof.Proof.Reals

/-!
One head's attention gradients in real arithmetic: what the kernel's model of a grid point comes to when its arrays
hold real numbers, the saved output and log-sum-exp are those of the same head, and the bias hides key blocks by −∞.
-/

@[expose] public section

set_option maxRecDepth 16384

noncomputable section

open Idealize.ShloMosaic Idealize.ShloMosaic.TcCoe Idealize.SL.Sem

namespace Cert.AttnIdeal

open Cert.Reals (coe_sum)

/-- One head: queries, keys, values, the gradient of its output, the scale, a shift of each query's scores, and which
key each query sees. -/
structure Head where
  q : Fin 2048 → Fin 64 → ℝ
  k : Fin 2048 → Fin 64 → ℝ
  v : Fin 2048 → Fin 64 → ℝ
  g : Fin 2048 → Fin 64 → ℝ
  scale : ℝ
  top : Fin 2048 → ℝ
  seen : Fin 2048 → Fin 2048 → Prop
  own : ∀ n, seen n n

namespace Head
variable (H : Head)
open Classical in
/-- Weights before they are divided by their sum. -/
def weight (n j : Fin 2048) : ℝ := if H.seen n j then Real.exp ((∑ d, H.q n d * H.scale * H.k j d) - H.top n) else 0
def total (n : Fin 2048) : ℝ := ∑ j, H.weight n j
def prob (n j : Fin 2048) : ℝ := H.weight n j / H.total n
def out (n : Fin 2048) (d : Fin 64) : ℝ := ∑ j, H.prob n j * H.v j d
def dprob (n j : Fin 2048) : ℝ := ∑ d, H.g n d * H.v j d
def dscore (n j : Fin 2048) : ℝ := H.prob n j * (H.dprob n j - ∑ i, H.prob n i * H.dprob n i)
def dvalue (j : Fin 2048) (d : Fin 64) : ℝ := ∑ n, H.prob n j * H.g n d
def dkey (j : Fin 2048) (d : Fin 64) : ℝ := ∑ n, H.dscore n j * (H.q n d * H.scale)
def dquery (n : Fin 2048) (d : Fin 64) : ℝ := (∑ j, H.dscore n j * H.k j d) * H.scale

theorem weight_nonneg (n j : Fin 2048) : 0 ≤ H.weight n j := by
  unfold weight; split_ifs
  · exact (Real.exp_pos _).le
  · exact le_rfl

theorem total_pos (n : Fin 2048) : 0 < H.total n :=
  Finset.sum_pos' (fun j _ => H.weight_nonneg n j) ⟨n, Finset.mem_univ _, by unfold weight; rw [if_pos (H.own n)]; exact Real.exp_pos _⟩

theorem prob_unseen {n j : Fin 2048} (h : ¬ H.seen n j) : H.prob n j = 0 := by
  unfold prob weight; rw [if_neg h, zero_div]

theorem delta_eq (n : Fin 2048) : (∑ d, H.g n d * H.out n d) = ∑ j, H.prob n j * H.dprob n j := by
  simp only [out, dprob, Finset.mul_sum]
  rw [Finset.sum_comm]
  exact Finset.sum_congr rfl fun j _ => Finset.sum_congr rfl fun d _ => by ring

/-- The arrays of a grid point hold this head. -/
structure Fits (B : Point) (hh : Fin 2) (hidden : Fin 2048 → ℕ → Prop) : Prop where
  q : ∀ n d, B.x0 (ix2 n (Point.lane hh d)) = (H.q n d : EReal)
  k : ∀ n d, B.x1 (ix2 n (Point.lane hh d)) = (H.k n d : EReal)
  v : ∀ n d, B.x2 (ix2 n (Point.lane hh d)) = (H.v n d : EReal)
  g : ∀ n d, B.x6 (ix2 n (Point.lane hh d)) = (H.g n d : EReal)
  scale : Ideal.ofBits .f32 0x3E000000#32 = (H.scale : EReal)
  hides : ∀ n (d : Fin 64), hidden n d.val → B.x3 (ix2 n (Point.lane hh d)) = ⊥
  shows : ∀ n (d : Fin 64), ¬ hidden n d.val → B.x3 (ix2 n (Point.lane hh d)) = 0
  seen : ∀ n j : Fin 2048, H.seen n j ↔ j.val ≤ n.val ∧ ¬ hidden n (j.val / 256)
  out : ∀ n d, B.x4 (ix2 n (Point.lane hh d)) = (H.out n d : EReal)
  log : ∀ n, B.x5 (ix3 0 (Point.hrow hh) n) = ((H.top n + Real.log (H.total n) : ℝ) : EReal)

variable {H} {B : Point} {hh : Fin 2} {hidden : Fin 2048 → ℕ → Prop} (h : H.Fits B hh hidden)
include h

theorem Fits.keys (j : Fin 2048) (d : Fin 64) : B.KA hh j (Fin.castAdd 64 d) = (H.k j d : EReal) := by
  unfold Point.KA; exact (dif_pos d.isLt).trans (h.k j d)

theorem Fits.queries (i : Fin 8) (r : Fin 256) (d : Fin 64) :
    B.QA hh i r (Fin.castAdd 64 d) = (H.q (Point.row i r) d * H.scale : ℝ) := by
  unfold Point.QA
  refine (dif_pos d.isLt).trans ?_
  rw [EReal.coe_mul, ← h.scale]
  exact congrArg (· * _) (h.q _ d)

theorem Fits.scores (i : Fin 8) (k : Fin 2048) (r : Fin 256) :
    B.SC hh i k r = ((∑ d, H.q (Point.row i r) d * H.scale * H.k k d : ℝ) : EReal) + B.x3 (ix2 (Point.row i r) (Point.lane hh ⟨k.val / 256, by omega⟩)) := by
  unfold Point.SC
  refine (Fin.sum_univ_add (a := 64) (b := 64) fun d => B.KA hh k d * B.QA hh i r d).trans ?_
  refine congrArg₂ (· + ·) ?_ ?_
  · rw [coe_sum]
    refine Finset.sum_congr rfl fun d _ => ?_
    rw [h.keys, h.queries, ← EReal.coe_mul, mul_comm]
  · refine (Finset.sum_eq_single (⟨k.val / 256, by omega⟩ : Fin 64) (fun d _ hd => ?_) fun hn => (hn (Finset.mem_univ _)).elim).trans ?_
    · have e : B.KA hh k (Fin.natAdd 64 d) = 0 := by
        unfold Point.KA
        refine (dif_neg (by simp)).trans (if_neg fun e => hd (Fin.ext ?_))
        simpa using e
      rw [e, zero_mul]
    · have e : B.KA hh k (Fin.natAdd 64 (⟨k.val / 256, by omega⟩ : Fin 64)) = 1 := by
        unfold Point.KA
        exact (dif_neg (by simp)).trans (if_pos (by simp))
      rw [e, one_mul]
      unfold Point.QA
      refine (dif_neg (by simp)).trans ?_
      exact congrArg (fun x => B.x3 (ix2 (Point.row i r) (Point.lane hh x))) (Fin.ext (by simp))

theorem Fits.probs (i : Fin 8) (k : Fin 2048) (r : Fin 256) : B.PR hh i k r = (H.prob (Point.row i r) k : EReal) := by
  unfold Point.PR Point.SM
  rw [h.log]
  by_cases hk : k.val ≤ 256 * i.val + r.val
  · rw [if_pos hk, h.scores]
    by_cases hb : hidden (Point.row i r) (k.val / 256)
    · rw [h.hides _ ⟨k.val / 256, by omega⟩ hb, EReal.add_bot, EReal.bot_sub, Ideal.exp_bot, prob_unseen H (fun e => ((h.seen _ _).1 e).2 hb), EReal.coe_zero]
    · rw [h.shows _ ⟨k.val / 256, by omega⟩ hb, add_zero, ← EReal.coe_sub, Ideal.exp_coe]
      refine congrArg _ ?_
      unfold prob weight
      rw [if_pos ((h.seen _ _).2 ⟨hk, hb⟩), ← sub_sub, Real.exp_sub, Real.exp_log (H.total_pos _)]
  · rw [if_neg hk, EReal.bot_sub, Ideal.exp_bot, prob_unseen H (fun e => hk ((h.seen _ _).1 e).1), EReal.coe_zero]

theorem Fits.dscores (i : Fin 8) (k : Fin 2048) (r : Fin 256) : B.DS hh i k r = (H.dscore (Point.row i r) k : EReal) := by
  unfold Point.DS
  have e1 : B.DP hh i k r = (H.dprob (Point.row i r) k : EReal) := by
    unfold Point.DP dprob
    rw [coe_sum]
    exact Finset.sum_congr rfl fun d _ => by rw [h.v, h.g, ← EReal.coe_mul, mul_comm]
  have e2 : B.DE hh i r = ((∑ j, H.prob (Point.row i r) j * H.dprob (Point.row i r) j : ℝ) : EReal) := by
    unfold Point.DE
    rw [← delta_eq, coe_sum]
    exact Finset.sum_congr rfl fun d _ => by rw [h.out, h.g, ← EReal.coe_mul]
  rw [h.probs, e1, e2, ← EReal.coe_sub, ← EReal.coe_mul]; rfl

theorem Fits.prob_after {n j : Fin 2048} (e : ¬ j.val ≤ n.val) : H.prob n j = 0 := prob_unseen H fun s => e ((h.seen n j).1 s).1

omit h in
/-- Eight blocks of rows, keys after a row counting nothing. -/
theorem acc_all {M : Fin 8 → Fin 2048 → Fin 256 → EReal} {N : Fin 8 → Fin 256 → Fin 64 → EReal} {a : Fin 2048 → Fin 2048 → ℝ} {b : Fin 2048 → Fin 64 → ℝ}
    (hM : ∀ i k r, M i k r = (a (Point.row i r) k : EReal)) (hN : ∀ i r d, N i r d = (b (Point.row i r) d : EReal))
    (h0 : ∀ n k : Fin 2048, ¬ k.val ≤ n.val → a n k = 0) (k : Fin 2048) (d : Fin 64) :
    Point.acc M N 8 k d = ((∑ n, a n k * b n d : ℝ) : EReal) := by
  have step (i : Fin 8) : Point.acc M N (i.val + 1) k d = Point.acc M N i.val k d + ((∑ r, a (Point.row i r) k * b (Point.row i r) d : ℝ) : EReal) := by
    refine congrArg (Point.acc M N i.val k d + ·) ?_
    by_cases hk : k.val < 256 * (i.val + 1)
    · refine (dif_pos ⟨i.isLt, hk⟩).trans ?_
      rw [coe_sum]
      exact Finset.sum_congr rfl fun r _ => by rw [hM, hN, EReal.coe_mul]
    · refine (dif_neg fun e => hk e.2).trans ?_
      rw [Finset.sum_eq_zero fun r _ => by rw [h0 _ _ (by show ¬ k.val ≤ 256 * i.val + r.val; omega), zero_mul], EReal.coe_zero]
  have all : Point.acc M N 8 k d = ∑ i : Fin 8, ((∑ r, a (Point.row i r) k * b (Point.row i r) d : ℝ) : EReal) := by
    rw [Fin.sum_univ_eight]
    refine (step 7).trans (congrArg (· + _) ?_)
    refine (step 6).trans (congrArg (· + _) ?_)
    refine (step 5).trans (congrArg (· + _) ?_)
    refine (step 4).trans (congrArg (· + _) ?_)
    refine (step 3).trans (congrArg (· + _) ?_)
    refine (step 2).trans (congrArg (· + _) ?_)
    refine (step 1).trans (congrArg (· + _) ?_)
    exact (step 0).trans (zero_add _)
  rw [all, ← coe_sum]
  refine congrArg _ ?_
  exact Fin.sum_mul_add_congr (S := 8) (n := 256) (L := 2048) (F := fun i r => a (Point.row i r) k * b (Point.row i r) d) (f := fun n => a n k * b n d)
    fun i r hl => congrArg (fun n => a n k * b n d) (Fin.ext (by show 256 * i.val + r.val = i.val * 256 + r.val; omega))

theorem Fits.dvalues (k : Fin 2048) (d : Fin 64) : B.DV hh 7 k d = (H.dvalue k d : EReal) :=
  acc_all (fun i k r => h.probs i k r) (fun i r d => h.g _ d) (fun n k e => h.prob_after e) k d

theorem Fits.dkeys (k : Fin 2048) (d : Fin 64) : B.DK hh 7 k d = (H.dkey k d : EReal) :=
  acc_all (fun i k r => h.dscores i k r) (b := fun n d => H.q n d * H.scale)
    (fun i r d => by unfold Point.QS; rw [h.q, h.scale, EReal.coe_mul]) (fun n k e => by unfold dscore; rw [h.prob_after e, zero_mul]) k d

theorem Fits.dqueries (i : Fin 8) (r : Fin 256) (d : Fin 64) : B.DQ hh i r d = (H.dquery (Point.row i r) d : EReal) := by
  unfold Point.DQ dquery
  rw [h.scale, EReal.coe_mul, coe_sum]
  refine congrArg (· * _) (Finset.sum_congr rfl fun k _ => ?_)
  split_ifs with hk
  · rw [h.dscores, h.k, EReal.coe_mul]
  · unfold dscore
    rw [h.prob_after (by show ¬ k.val ≤ 256 * i.val + r.val; omega), zero_mul, zero_mul, EReal.coe_zero]

end Head
end Cert.AttnIdeal
-- ==== Proof.AttnHeads.lean ====
module

public import proofs.«01_k».proof.Proof.AttnMask
public import proofs.«01_k».proof.Proof.AttnMath
public import proofs.«01_k».proof.Proof.Reals

/-!
The reference's heads: with finite arguments its rotated queries and keys, its values and the incoming gradient are
real numbers, and so is the largest score of a query, who sees at least its own key.
-/

@[expose] public section

set_option maxRecDepth 20000

noncomputable section

open Idealize.ShloMosaic Idealize.ShloMosaic.TcCoe Idealize.SL.Sem

namespace Cert.AttnIdeal.Value
open Cert.AttnGradIdeal Cert.AttnGradIdeal.Gen
open Cert.AttnGradIdeal.Read
open Cert.Reals

variable (x0 x1 x2 x3 : (⟨S2048x512, .f32⟩ : BufTy).Contents (Elt Ideal))

theorem word_32 : Ideal.ofBits .f32 0x42000000#32 = ((32 : ℝ) : EReal) := by simp [Ideal.ofBits, Ideal.ieee, -EReal.coe_mul]; norm_num
theorem word_10000 : Ideal.ofBits .f32 0x461C4000#32 = ((10000 : ℝ) : EReal) := by simp [Ideal.ofBits, Ideal.ieee, -EReal.coe_mul]; norm_num
theorem word_1 : Ideal.ofBits .f32 0x3F800000#32 = ((1 : ℝ) : EReal) := by rw [Ideal.ofBits_one_f32, EReal.coe_one]
theorem word_eighth : Ideal.ofBits .f32 0x3E000000#32 = ((1 / 8 : ℝ) : EReal) := by simp [Ideal.ofBits, Ideal.ieee, -EReal.coe_mul]; norm_num
theorem word_bot : Ideal.ofBits .f32 0xFF800000#32 = ⊥ := by simp [Ideal.ofBits, Ideal.ieee]

/-- The power of ten thousand a pair of lanes turns by. -/
theorem frequency_real (i : S32.Idx) : IsReal (val_main_v6 (F := Ideal) i) := by
  rw [val_main_v6_apply, val_main_v4_apply, val_main_v2_apply, val_main_v5_apply, val_main_v3_apply, val_main_v1_apply]
  show IsReal (Ideal.div (Ideal.ofBits .f32 0x3F800000#32) (Ideal.pow (Ideal.ofBits .f32 0x461C4000#32) (Ideal.div ((((BitVec.ofNat 32 (i 0).val).toInt : ℝ)) : EReal) (Ideal.ofBits .f32 0x42000000#32))))
  rw [word_1, word_10000, word_32, div_eq (by norm_num), Ideal.pow_coe_coe]
  refine (coe _).div (coe _) ?_
  have : (0 : ℝ) < Real.rpow 10000 (((BitVec.ofNat 32 (i 0).val).toInt : ℝ) / 32) := Real.rpow_pos_of_pos (by norm_num) _
  rw [← EReal.coe_zero]
  exact fun e => this.ne' (EReal.coe_eq_coe_iff.1 e)

theorem angle_real (i : S2048x32.Idx) : IsReal (val_main_v12 (F := Ideal) i) := by
  rw [val_main_v12_apply, val_main_v10_apply, val_main_v11_apply, val_main_v8_apply, val_main_v9_apply]
  exact IsReal.mul (coe _) (frequency_real _)

theorem cos_real (i : S2048x32.Idx) : IsReal (val_main_v13 (F := Ideal) i) := (angle_real i).cos
theorem sin_real (i : S2048x32.Idx) : IsReal (val_main_v14 (F := Ideal) i) := (angle_real i).sin

/-- Two halves of a head side by side. -/
theorem halves_apply (x y : S8x2048x32.Idx → Ideal .f32) (p) (a : Fin 8) (n : Fin 2048) (d : Fin 64) :
    concatenate S8x2048x64 2 [⟨S8x2048x32, x⟩, ⟨S8x2048x32, y⟩] p (ix3 a n d)
      = if hd : d.val < 32 then x (ix3 a n ⟨d.val, hd⟩) else y (ix3 a n ⟨d.val - 32, by omega⟩) := by
  split_ifs with hd
  · exact concatenate_pair_apply_left (t := S8x2048x64) (s₁ := S8x2048x32) (s₂ := S8x2048x32) 2 x y p _ rfl (ix3 a n ⟨d.val, hd⟩)
      (fun b => by match b with | ⟨0, _⟩ => rfl | ⟨1, _⟩ => rfl | ⟨2, _⟩ => rfl)
  · refine concatenate_pair_apply_right (t := S8x2048x64) (s₁ := S8x2048x32) (s₂ := S8x2048x32) 2 x y p _ rfl rfl (ix3 a n ⟨d.val - 32, by omega⟩) (fun b hb => ?_) ?_
    · match b, hb with
      | ⟨0, _⟩, _ => rfl
      | ⟨1, _⟩, _ => rfl
      | ⟨2, _⟩, hb => exact absurd rfl hb
    · show d.val - 32 + 32 = d.val
      omega

section Rotated
variable {x0}

/-- The rotated queries are real. -/
theorem query_real (h : ∀ i, IsReal (x0 i)) (a : Fin 8) (n : Fin 2048) (d : Fin 64) : IsReal (val_main_v33 (F := Ideal) x0 (ix3 a n d)) := by
  have left (i) : IsReal (val_main_v25 (F := Ideal) x0 i) := by
    rw [val_main_v25_apply, val_main_v21_apply, val_main_v24_apply, val_main_v17_apply, val_main_v18_apply, val_main_v16_apply, val_main_v16_apply, val_main_v15_apply, val_main_v15_apply,
      val_main_v20_apply, val_main_v19_apply, val_main_v23_apply, val_main_v22_apply]
    exact ((h _).mul (cos_real _)).sub ((h _).mul (sin_real _))
  have right (i) : IsReal (val_main_v32 (F := Ideal) x0 i) := by
    rw [val_main_v32_apply, val_main_v28_apply, val_main_v31_apply, val_main_v17_apply, val_main_v18_apply, val_main_v16_apply, val_main_v16_apply, val_main_v15_apply, val_main_v15_apply,
      val_main_v27_apply, val_main_v26_apply, val_main_v30_apply, val_main_v29_apply]
    exact ((h _).mul (cos_real _)).add ((h _).mul (sin_real _))
  unfold val_main_v33
  rw [halves_apply]
  split_ifs
  · exact left _
  · exact right _

end Rotated

section Rotated
variable {x1}

/-- The rotated keys are real. -/
theorem key_real (h : ∀ i, IsReal (x1 i)) (a : Fin 8) (n : Fin 2048) (d : Fin 64) : IsReal (val_main_v52 (F := Ideal) x1 (ix3 a n d)) := by
  have left (i) : IsReal (val_main_v44 (F := Ideal) x1 i) := by
    rw [val_main_v44_apply, val_main_v40_apply, val_main_v43_apply, val_main_v36_apply, val_main_v37_apply, val_main_v35_apply, val_main_v35_apply, val_main_v34_apply, val_main_v34_apply,
      val_main_v39_apply, val_main_v38_apply, val_main_v42_apply, val_main_v41_apply]
    exact ((h _).mul (cos_real _)).sub ((h _).mul (sin_real _))
  have right (i) : IsReal (val_main_v51 (F := Ideal) x1 i) := by
    rw [val_main_v51_apply, val_main_v47_apply, val_main_v50_apply, val_main_v36_apply, val_main_v37_apply, val_main_v35_apply, val_main_v35_apply, val_main_v34_apply, val_main_v34_apply,
      val_main_v46_apply, val_main_v45_apply, val_main_v49_apply, val_main_v48_apply]
    exact ((h _).mul (cos_real _)).add ((h _).mul (sin_real _))
  unfold val_main_v52
  rw [halves_apply]
  split_ifs
  · exact left _
  · exact right _

end Rotated

/-- Head `a` of the reference. -/
def head (a : Fin 8) : Head where
  q n d := EReal.toReal (val_main_v33 (F := Ideal) x0 (ix3 a n d))
  k n d := EReal.toReal (val_main_v52 (F := Ideal) x1 (ix3 a n d))
  v n d := EReal.toReal (val_main_v54 (F := Ideal) x2 (ix3 a n d))
  g n d := EReal.toReal (val_main_v135 (F := Ideal) x3 (ix3 a n d))
  scale := 1 / 8
  top n := EReal.toReal (val_main_v103 (F := Ideal) x0 x1 (ix2 a n))
  seen := Seen x0 x1 a
  own := seen_own x0 x1 a

variable (h0 : ∀ i, IsReal (x0 i)) (h1 : ∀ i, IsReal (x1 i)) (h2 : ∀ i, IsReal (x2 i)) (h3 : ∀ i, IsReal (x3 i))

include h0 in
theorem q_eq (a : Fin 8) (n d) : val_main_v33 (F := Ideal) x0 (ix3 a n d) = ((head x0 x1 x2 x3 a).q n d : EReal) := (query_real h0 a n d).eq
include h1 in
theorem k_eq (a : Fin 8) (n d) : val_main_v52 (F := Ideal) x1 (ix3 a n d) = ((head x0 x1 x2 x3 a).k n d : EReal) := (key_real h1 a n d).eq
include h2 in
theorem v_eq (a : Fin 8) (n d) : val_main_v54 (F := Ideal) x2 (ix3 a n d) = ((head x0 x1 x2 x3 a).v n d : EReal) :=
  IsReal.eq (by rw [val_main_v54_apply, val_main_v53_apply]; exact h2 _)
include h3 in
theorem g_eq (a : Fin 8) (n d) : val_main_v135 (F := Ideal) x3 (ix3 a n d) = ((head x0 x1 x2 x3 a).g n d : EReal) :=
  IsReal.eq (by rw [val_main_v135_apply, val_main_v134_apply]; exact h3 _)

include h0 in
/-- The scaled queries. -/
theorem qs_eq (a : Fin 8) (n d) : val_main_v100 (F := Ideal) x0 (ix3 a n d) = (((head x0 x1 x2 x3 a).q n d * (head x0 x1 x2 x3 a).scale : ℝ) : EReal) := by
  rw [val_main_v100_apply, val_main_v99_apply, EReal.coe_mul, ← q_eq x0 x1 x2 x3 h0]
  exact congrArg (val_main_v33 (F := Ideal) x0 (ix3 a n d) * ·) word_eighth

include h0 h1 in
/-- The scores. -/
theorem score_eq (a : Fin 8) (n j : Fin 2048) : val_main_v101 (F := Ideal) x0 x1 (ix3 a n j)
    = ((∑ d, (head x0 x1 x2 x3 a).q n d * (head x0 x1 x2 x3 a).scale * (head x0 x1 x2 x3 a).k j d : ℝ) : EReal) := by
  rw [val_main_v101_apply, coe_sum]
  refine Finset.sum_congr rfl fun d _ => ?_
  rw [EReal.coe_mul, ← qs_eq x0 x1 x2 x3 h0, ← k_eq x0 x1 x2 x3 h1]
  exact congrArg₂ (· * ·) (congrArg _ (eq_ix3 _)) (congrArg _ (eq_ix3 _))

theorem masked_seen {a : Fin 8} {n j : Fin 2048} (s : Seen x0 x1 a n j) : val_main_v102_0 (F := Ideal) x0 x1 (ix3 a n j) = val_main_v101 (F := Ideal) x0 x1 (ix3 a n j) := by
  rw [val_main_v102_0_apply]; exact if_pos s

theorem masked_unseen {a : Fin 8} {n j : Fin 2048} (s : ¬ Seen x0 x1 a n j) : val_main_v102_0 (F := Ideal) x0 x1 (ix3 a n j) = ⊥ := by
  rw [val_main_v102_0_apply, val_main_call4_v1_apply]; exact (if_neg s).trans word_bot

include h0 h1 in
/-- The largest score of a query is a real number. -/
theorem top_eq (a : Fin 8) (n : Fin 2048) : val_main_v103 (F := Ideal) x0 x1 (ix2 a n) = ((head x0 x1 x2 x3 a).top n : EReal) := by
  have below (i : S8x2048x2048.Idx) : val_main_v102_0 (F := Ideal) x0 x1 i < (⊤ : EReal) := by
    rw [eq_ix3 i]
    by_cases s : Seen x0 x1 (i 0) (i 1) (i 2)
    · refine lt_of_eq_of_lt ((masked_seen x0 x1 s).trans (score_eq x0 x1 x2 x3 h0 h1 _ _ _)) (EReal.coe_lt_top _)
    · exact lt_of_eq_of_lt (masked_unseen x0 x1 s) bot_lt_top
  have fold : val_main_v103 (F := Ideal) x0 x1 (ix2 a n) = (Finset.univ.filter fun i => reducesTo_S8x2048x2048_S8x2048_d2.drop i = ix2 a n).fold max (⊥ : EReal) (val_main_v102_0 (F := Ideal) x0 x1) := by
    unfold val_main_v103
    generalize val_main_v102_0 (F := Ideal) x0 x1 = y
    refine (Host.reduce_eq_fold (max : EReal → EReal → EReal) y _ reducesTo_S8x2048x2048_S8x2048_d2 h_S_ (ix2 a n)).trans ?_
    exact congrArg (fun b => Finset.fold max b y _) word_bot
  have lo : (⊥ : EReal) < val_main_v103 (F := Ideal) x0 x1 (ix2 a n) := by
    rw [fold]
    refine lt_of_lt_of_le ?_ (Finset.le_fold_max _ |>.2 (Or.inr ⟨ix3 a n n, ?_, le_rfl⟩))
    · exact lt_of_lt_of_eq (EReal.bot_lt_coe _) ((masked_seen x0 x1 (seen_own x0 x1 a n)).trans (score_eq x0 x1 x2 x3 h0 h1 _ _ _)).symm
    · rw [Finset.mem_filter]
      refine ⟨Finset.mem_univ _, ?_⟩
      funext b
      match b with
      | ⟨0, _⟩ => rfl
      | ⟨1, _⟩ => rfl
  have hi : val_main_v103 (F := Ideal) x0 x1 (ix2 a n) < (⊤ : EReal) := by
    rw [fold]
    exact (Finset.fold_max_lt _).2 ⟨bot_lt_top, fun i _ => below i⟩
  unfold head
  dsimp only
  generalize val_main_v103 (F := Ideal) x0 x1 (ix2 a n) = y at lo hi ⊢
  exact (EReal.coe_toReal hi.ne lo.ne').symm

theorem shift_eq (a : Fin 8) (n : Fin 2048) : val_main_v110 (F := Ideal) x0 x1 (ix2 a n) = val_main_v103 (F := Ideal) x0 x1 (ix2 a n) := by
  rw [val_main_v110_apply, val_main_v109_apply]
  show max (Ideal.ofBits .f32 0xFF800000#32) (val_main_v103 (F := Ideal) x0 x1 (ix2 a n) : EReal) = _
  rw [word_bot]
  exact max_eq_right bot_le

include h0 h1 in
/-- The weights of the keys. -/
theorem weight_eq (a : Fin 8) (n j : Fin 2048) : val_main_v123 (F := Ideal) x0 x1 (ix3 a n j) = ((head x0 x1 x2 x3 a).weight n j : EReal) := by
  rw [val_main_v123_apply, val_main_v122_apply, val_main_v121_apply, val_main_v120_apply]
  have e : val_main_v110 (F := Ideal) x0 x1 (idx_main_v120 (idx_main_v121 (ix3 a n j))) = ((head x0 x1 x2 x3 a).top n : EReal) := by
    rw [eq_ix2 (idx_main_v120 _)]
    exact (shift_eq x0 x1 _ _).trans (top_eq x0 x1 x2 x3 h0 h1 _ _)
  rw [e]
  show Ideal.exp (_ - _) = _
  unfold Head.weight
  by_cases s : Seen x0 x1 a n j
  · rw [masked_seen x0 x1 s, score_eq x0 x1 x2 x3 h0 h1, ← EReal.coe_sub, Ideal.exp_coe, if_pos (show (head x0 x1 x2 x3 a).seen n j from s)]
  · rw [masked_unseen x0 x1 s, EReal.bot_sub, Ideal.exp_bot, if_neg (show ¬ (head x0 x1 x2 x3 a).seen n j from s), EReal.coe_zero]

include h0 h1 in
theorem total_eq (a : Fin 8) (n : Fin 2048) : val_main_v124 (F := Ideal) x0 x1 (ix2 a n) = ((head x0 x1 x2 x3 a).total n : EReal) := by
  rw [val_main_v124_apply]
  refine (congrArg (· + _) Ideal.ofBits_zero_f32).trans ((zero_add _).trans ?_)
  unfold Head.total
  rw [coe_sum]
  exact Finset.sum_congr rfl fun j _ => (congrArg _ (eq_ix3 _)).trans (weight_eq x0 x1 x2 x3 h0 h1 a n j)

end Cert.AttnIdeal.Value
-- ==== Proof.AttnGrads.lean ====
module

public import proofs.«01_k».proof.Proof.AttnHeads

/-!
The reference's gradients, head by head, as real numbers: of the values, of the rotated keys and of the rotated queries.
-/

@[expose] public section

set_option maxRecDepth 20000

noncomputable section

open Idealize.ShloMosaic Idealize.ShloMosaic.TcCoe Idealize.SL.Sem

namespace Cert.AttnIdeal.Value
open Cert.AttnGradIdeal Cert.AttnGradIdeal.Gen
open Cert.AttnGradIdeal.Read
open Cert.Reals

variable (x0 x1 x2 x3 : (⟨S2048x512, .f32⟩ : BufTy).Contents (Elt Ideal))
variable (h0 : ∀ i, IsReal (x0 i)) (h1 : ∀ i, IsReal (x1 i)) (h2 : ∀ i, IsReal (x2 i)) (h3 : ∀ i, IsReal (x3 i))

theorem total_ne (a : Fin 8) (n : Fin 2048) : (head x0 x1 x2 x3 a).total n ≠ 0 := ((head x0 x1 x2 x3 a).total_pos n).ne'

include h0 h1 in
theorem column_eq (a : Fin 8) (n : Fin 2048) : val_main_v125 (F := Ideal) x0 x1 (ix3 a n 0) = ((head x0 x1 x2 x3 a).total n : EReal) := by
  rw [val_main_v125_apply]
  exact (congrArg _ (eq_ix2 _)).trans (total_eq x0 x1 x2 x3 h0 h1 a n)

include h0 h1 in
/-- The probabilities. -/
theorem prob_eq (a : Fin 8) (n j : Fin 2048) : val_main_v127 (F := Ideal) x0 x1 (ix3 a n j) = ((head x0 x1 x2 x3 a).prob n j : EReal) := by
  rw [val_main_v127_apply, val_main_v126_apply, weight_eq x0 x1 x2 x3 h0 h1]
  have e : val_main_v125 (F := Ideal) x0 x1 (idx_main_v126 (ix3 a n j)) = ((head x0 x1 x2 x3 a).total n : EReal) :=
    (congrArg _ (eq_ix3 _)).trans (column_eq x0 x1 x2 x3 h0 h1 a n)
  rw [e]
  exact div_eq (total_ne x0 x1 x2 x3 a n)

include h0 h1 h3 in
/-- Gradients of the values. -/
theorem dvalue_eq (a : Fin 8) (j : Fin 2048) (d : Fin 64) : val_main_v137 (F := Ideal) x0 x1 x3 (ix3 a j d) = ((head x0 x1 x2 x3 a).dvalue j d : EReal) := by
  rw [val_main_v137_apply, val_main_v136_apply]
  unfold Head.dvalue
  rw [coe_sum]
  refine Finset.sum_congr rfl fun n _ => ?_
  rw [EReal.coe_mul, ← prob_eq x0 x1 x2 x3 h0 h1, ← g_eq x0 x1 x2 x3 h3, mul_comm]
  exact congrArg₂ (fun x y : EReal => x * y) (congrArg _ (eq_ix3 _)) (congrArg _ (eq_ix3 _))

include h2 h3 in
/-- Gradients of the probabilities. -/
theorem dprob_eq (a : Fin 8) (n j : Fin 2048) : val_main_v138 (F := Ideal) x2 x3 (ix3 a n j) = ((head x0 x1 x2 x3 a).dprob n j : EReal) := by
  rw [val_main_v138_apply]
  unfold Head.dprob
  rw [coe_sum]
  refine Finset.sum_congr rfl fun d _ => ?_
  rw [EReal.coe_mul, ← v_eq x0 x1 x2 x3 h2, ← g_eq x0 x1 x2 x3 h3]
  exact congrArg₂ (fun x y : EReal => x * y) (congrArg _ (eq_ix3 _)) (congrArg _ (eq_ix3 _))

include h0 h1 h2 h3 in
/-- What a query's probabilities' gradients weigh together, with its sign. -/
theorem delta_eq (a : Fin 8) (n : Fin 2048) : val_main_v147 (F := Ideal) x0 x1 x2 x3 (ix2 a n)
    = ((-(∑ j, (head x0 x1 x2 x3 a).dprob n j * (1 / ((head x0 x1 x2 x3 a).total n * (head x0 x1 x2 x3 a).total n)) * (head x0 x1 x2 x3 a).weight n j) : ℝ) : EReal) := by
  rw [val_main_v147_apply]
  refine (congrArg (· + _) Ideal.ofBits_zero_f32).trans ((zero_add _).trans ?_)
  refine (Fintype.sum_subsingleton _ (0 : Fin 1)).trans ?_
  rw [val_main_v144_apply, val_main_v143_apply, EReal.coe_neg]
  refine congrArg (fun x : EReal => -x) ?_
  have e : idx_main_v143 (idx_main_v147 (ix2 a n) 0) = ix2 a n := by
    rw [eq_ix2 (idx_main_v143 _)]
    refine congrArg₂ _ (Fin.ext ?_) (Fin.ext ?_)
    · show ((a.val * 2048 + n.val) * 1 + 0) / 2048 = a.val
      omega
    · show ((a.val * 2048 + n.val) * 1 + 0) % 2048 = n.val
      omega
  rw [e, val_main_v142_apply, coe_sum]
  refine (congrArg (· + _) Ideal.ofBits_zero_f32).trans ((zero_add _).trans ?_)
  refine Finset.sum_congr rfl fun j _ => ?_
  rw [eq_ix3 (idx_main_v142 (ix2 a n) j)]
  show val_main_v141 (F := Ideal) x0 x1 x2 x3 (ix3 a n j) = _
  rw [val_main_v141_apply, val_main_v140_apply, val_main_v139_apply, weight_eq x0 x1 x2 x3 h0 h1, dprob_eq x0 x1 x2 x3 h2 h3]
  have r : val_main_v130 (F := Ideal) x0 x1 (idx_main_v139 (ix3 a n j)) = ((1 / ((head x0 x1 x2 x3 a).total n * (head x0 x1 x2 x3 a).total n) : ℝ) : EReal) := by
    rw [eq_ix3 (idx_main_v139 (ix3 a n j))]
    show val_main_v130 (F := Ideal) x0 x1 (ix3 a n 0) = _
    rw [val_main_v130_apply, val_main_v129_apply, val_main_v128_apply, column_eq x0 x1 x2 x3 h0 h1]
    refine (congrArg₂ Ideal.div word_1 (EReal.coe_mul _ _).symm).trans (div_eq (mul_ne_zero (total_ne x0 x1 x2 x3 a n) (total_ne x0 x1 x2 x3 a n)))
  rw [r, EReal.coe_mul, EReal.coe_mul]
  rfl

include h0 h1 h2 h3 in
/-- Gradients of the scores. -/
theorem dscore_eq (a : Fin 8) (n j : Fin 2048) : val_main_v151 (F := Ideal) x0 x1 x2 x3 (ix3 a n j) = ((head x0 x1 x2 x3 a).dscore n j : EReal) := by
  rw [val_main_v151_apply]
  by_cases s : Seen x0 x1 a n j
  · refine (if_pos s).trans ?_
    rw [val_main_v150_apply, val_main_v149_apply, val_main_v146_apply, val_main_v145_apply, val_main_v148_apply, weight_eq x0 x1 x2 x3 h0 h1, dprob_eq x0 x1 x2 x3 h2 h3]
    have e1 : val_main_v125 (F := Ideal) x0 x1 (idx_main_v145 (ix3 a n j)) = ((head x0 x1 x2 x3 a).total n : EReal) :=
      (congrArg _ (eq_ix3 _)).trans (column_eq x0 x1 x2 x3 h0 h1 a n)
    have e2 := (congrArg (val_main_v147 (F := Ideal) x0 x1 x2 x3) (eq_ix2 (idx_main_v148 (ix3 a n j)))).trans (delta_eq x0 x1 x2 x3 h0 h1 h2 h3 a n)
    rw [e1, e2]
    refine (congrArg (fun x : EReal => (x + _) * _) (div_eq (total_ne x0 x1 x2 x3 a n))).trans ?_
    rw [← EReal.coe_add, ← EReal.coe_mul]
    refine congrArg _ ?_
    have t := total_ne x0 x1 x2 x3 a n
    have sums : (∑ j, (head x0 x1 x2 x3 a).dprob n j * (1 / ((head x0 x1 x2 x3 a).total n * (head x0 x1 x2 x3 a).total n)) * (head x0 x1 x2 x3 a).weight n j)
        = (∑ i, (head x0 x1 x2 x3 a).prob n i * (head x0 x1 x2 x3 a).dprob n i) / (head x0 x1 x2 x3 a).total n := by
      rw [Finset.sum_div]
      refine Finset.sum_congr rfl fun i _ => ?_
      unfold Head.prob
      field_simp
    unfold Head.dscore
    rw [sums]
    generalize (∑ i, (head x0 x1 x2 x3 a).prob n i * (head x0 x1 x2 x3 a).dprob n i) = y
    unfold Head.prob
    field_simp
    ring
  · refine (if_neg s).trans ?_
    unfold Head.dscore
    rw [Head.prob_unseen _ (show ¬ (head x0 x1 x2 x3 a).seen n j from s), zero_mul, EReal.coe_zero, val_main_call5_v0_apply]
    exact Ideal.ofBits_zero_f32

include h0 h1 h2 h3 in
/-- Gradients of the rotated keys. -/
theorem dkey_eq (a : Fin 8) (j : Fin 2048) (d : Fin 64) : val_main_v152 (F := Ideal) x0 x1 x2 x3 (ix3 a j d) = ((head x0 x1 x2 x3 a).dkey j d : EReal) := by
  rw [val_main_v152_apply]
  unfold Head.dkey
  rw [coe_sum]
  refine Finset.sum_congr rfl fun n _ => ?_
  rw [EReal.coe_mul, ← dscore_eq x0 x1 x2 x3 h0 h1 h2 h3, ← qs_eq x0 x1 x2 x3 h0]
  exact congrArg₂ (fun x y : EReal => x * y) (congrArg _ (eq_ix3 _)) (congrArg _ (eq_ix3 _))

include h0 h1 h2 h3 in
/-- Gradients of the rotated queries. -/
theorem dquery_eq (a : Fin 8) (n : Fin 2048) (d : Fin 64) : val_main_v155 (F := Ideal) x0 x1 x2 x3 (ix3 a n d) = ((head x0 x1 x2 x3 a).dquery n d : EReal) := by
  rw [val_main_v155_apply, val_main_v154_apply, val_main_v153_apply]
  unfold Head.dquery
  rw [EReal.coe_mul, coe_sum]
  refine congrArg₂ (fun x y : EReal => x * y) (Finset.sum_congr rfl fun j _ => ?_) word_eighth
  rw [EReal.coe_mul, ← dscore_eq x0 x1 x2 x3 h0 h1 h2 h3, ← k_eq x0 x1 x2 x3 h1]
  exact congrArg₂ (fun x y : EReal => x * y) (congrArg _ (eq_ix3 _)) (congrArg _ (eq_ix3 _))

end Cert.AttnIdeal.Value
-- ==== Proof.AttnTurns.lean ====
module

public import proofs.«01_k».proof.Proof.AttnGrads
public import Idealize.ShloMosaic.Lib.KernelVsHost

/-!
The reference's gradients of the queries and of the keys, turned back by the rotary angles, at an index.
-/

@[expose] public section

set_option maxRecDepth 20000

noncomputable section

open Idealize.ShloMosaic Idealize.ShloMosaic.TcCoe Idealize.SL.Sem

namespace Cert.AttnIdeal.Value
open Cert.AttnGradIdeal Cert.AttnGradIdeal.Gen
open Cert.AttnGradIdeal.Read

variable (x0 x1 x2 x3 : (⟨S2048x512, .f32⟩ : BufTy).Contents (Elt Ideal))

/-- Two arrays padded to the two halves of a head and added. -/
theorem pads_apply (x y : S8x2048x32.Idx → EReal) (z w : S_.Idx → EReal) (hz : z (Shape.Idx.first h_S_) = 0) (hw : w (Shape.Idx.first h_S_) = 0) (p q)
    (a : Fin 8) (n : Fin 2048) (d : Fin 64) :
    pad S8x2048x64 ![0, 0, 32] ![0, 0, 0] ![0, 0, 0] x z p h_S_ (ix3 a n d) + pad S8x2048x64 ![0, 0, 0] ![0, 0, 32] ![0, 0, 0] y w q h_S_ (ix3 a n d)
      = if hd : d.val < 32 then y (ix3 a n ⟨d.val, hd⟩) else x (ix3 a n ⟨d.val - 32, by omega⟩) := by
  split_ifs with hd
  · rw [pad_apply_of_not_inside (t := S8x2048x64) (s := S8x2048x32) ![0, 0, 32] ![0, 0, 0] ![0, 0, 0] x z p h_S_ (ix3 a n d) 2
        (fun h => absurd h.1 (by show ¬ 32 ≤ d.val; omega)),
      pad_apply_of_inside (t := S8x2048x64) (s := S8x2048x32) ![0, 0, 0] ![0, 0, 32] ![0, 0, 0] y w q h_S_ (ix3 a n d) (ix3 a n ⟨d.val, hd⟩)
        (fun b => by match b with
          | ⟨0, _⟩ => show a.val = 0 + a.val * 1; omega
          | ⟨1, _⟩ => show n.val = 0 + n.val * 1; omega
          | ⟨2, _⟩ => show d.val = 0 + d.val * 1; omega), hz, zero_add]
  · rw [pad_apply_of_inside (t := S8x2048x64) (s := S8x2048x32) ![0, 0, 32] ![0, 0, 0] ![0, 0, 0] x z p h_S_ (ix3 a n d) (ix3 a n ⟨d.val - 32, by omega⟩)
        (fun b => by match b with
          | ⟨0, _⟩ => show a.val = 0 + a.val * 1; omega
          | ⟨1, _⟩ => show n.val = 0 + n.val * 1; omega
          | ⟨2, _⟩ => show d.val = 32 + (d.val - 32) * 1; omega),
      pad_apply_of_not_inside (t := S8x2048x64) (s := S8x2048x32) ![0, 0, 0] ![0, 0, 32] ![0, 0, 0] y w q h_S_ (ix3 a n d) 2
        (fun h => absurd h.2.2 (by show ¬ (d.val - 0) / 1 < 32; omega)), hw, add_zero]

/-- A head's entries turned back. -/
def back (y : Fin 8 → Fin 2048 → Fin 64 → EReal) (a : Fin 8) (n : Fin 2048) (d : Fin 64) : EReal :=
  if hd : d.val < 32 then
    y a n ⟨32 + d.val, by omega⟩ * val_main_v14 (F := Ideal) (ix2 n ⟨d.val, hd⟩) + y a n d * val_main_v13 (F := Ideal) (ix2 n ⟨d.val, hd⟩)
  else
    y a n d * val_main_v13 (F := Ideal) (ix2 n ⟨d.val - 32, by omega⟩) + -(y a n ⟨d.val - 32, by omega⟩) * val_main_v14 (F := Ideal) (ix2 n ⟨d.val - 32, by omega⟩)

/-- The head and the lane a column of the array names. -/
theorem heads_index (n : Fin 2048) (e : Fin 512) : idx_main_v156 (idx_main_v157 (ix2 n e)) = ix3 ⟨e.val / 64, by omega⟩ n ⟨e.val % 64, by omega⟩ := by
  rw [eq_ix3 (idx_main_v156 _)]
  have h : ∀ k : Fin 3, ((ix3 (idx_main_v156 (idx_main_v157 (ix2 n e)) 0) (idx_main_v156 (idx_main_v157 (ix2 n e)) 1) (idx_main_v156 (idx_main_v157 (ix2 n e)) 2) : S8x2048x64.Idx) k).val
      = ((ix3 ⟨e.val / 64, by omega⟩ n ⟨e.val % 64, by omega⟩ : S8x2048x64.Idx) k).val := fun k => by
    have := n.isLt
    have := e.isLt
    match k with
    | ⟨0, _⟩ => show (n.val * 512 + e.val) / 64 % 8 = e.val / 64; omega
    | ⟨1, _⟩ => show (n.val * 512 + e.val) / 512 = n.val; omega
    | ⟨2, _⟩ => show (n.val * 512 + e.val) % 64 = e.val % 64; omega
  exact funext fun k => Fin.ext (h k)

/-- The values' gradients in their columns. -/
theorem dv_at (n : Fin 2048) (e : Fin 512) :
    val_main_v196 (F := Ideal) x0 x1 x3 (ix2 n e) = val_main_v137 (F := Ideal) x0 x1 x3 (ix3 ⟨e.val / 64, by omega⟩ n ⟨e.val % 64, by omega⟩) := by
  unfold val_main_v196
  show val_main_v157 (F := Ideal) x0 x1 x3 (ix2 n e) = _
  rw [val_main_v157_apply, val_main_v156_apply]
  exact congrArg _ (heads_index n e)

/-- The rotated keys' gradients turned back. -/
theorem dk_turn (a : Fin 8) (n : Fin 2048) (d : Fin 64) :
    val_main_v173 (F := Ideal) x0 x1 x2 x3 (ix3 a n d) = back (fun a n d => val_main_v152 (F := Ideal) x0 x1 x2 x3 (ix3 a n d)) a n d := by
  rw [val_main_v173_apply]
  unfold val_main_v171 val_main_v172
  refine (pads_apply _ _ _ _ Ideal.ofBits_zero_f32 Ideal.ofBits_zero_f32 _ _ a n d).trans ?_
  unfold back
  split_ifs with hd
  · rw [val_main_v170_apply, val_main_v161_apply, val_main_v169_apply, val_main_v159_apply, val_main_v158_apply, val_main_v160_apply, val_main_v168_apply, val_main_v48_apply, val_main_v38_apply]
    refine congrArg₂ (fun x y : EReal => x + y) (congrArg₂ (fun x y : EReal => x * y) (congrArg _ (eq_ix3 _)) (congrArg _ (eq_ix2 _))) (congrArg₂ (fun x y : EReal => x * y) ((congrArg _ (eq_ix3 _)).trans ?_) (congrArg _ (eq_ix2 _)))
    rfl
  · rw [val_main_v167_apply, val_main_v163_apply, val_main_v166_apply, val_main_v164_apply, val_main_v159_apply, val_main_v158_apply, val_main_v162_apply, val_main_v165_apply, val_main_v45_apply, val_main_v41_apply]
    refine congrArg₂ (fun x y : EReal => x + y) (congrArg₂ (fun x y : EReal => x * y) ((congrArg _ (eq_ix3 _)).trans ?_) (congrArg _ (eq_ix2 _))) (congrArg₂ (fun x y : EReal => -x * y) (congrArg _ (eq_ix3 _)) (congrArg _ (eq_ix2 _)))
    exact congrArg _ (congrArg (fun e => ix3 a n e) (Fin.ext (by show 32 + (d.val - 32) = d.val; omega)))

theorem dk_at (n : Fin 2048) (e : Fin 512) :
    val_main_v195 (F := Ideal) x0 x1 x2 x3 (ix2 n e) = back (fun a n d => val_main_v152 (F := Ideal) x0 x1 x2 x3 (ix3 a n d)) ⟨e.val / 64, by omega⟩ n ⟨e.val % 64, by omega⟩ := by
  refine Eq.trans ?_ (dk_turn x0 x1 x2 x3 _ n _)
  unfold val_main_v195
  show val_main_v175 (F := Ideal) x0 x1 x2 x3 (ix2 n e) = _
  rw [val_main_v175_apply, val_main_v174_apply]
  exact congrArg _ (heads_index n e)

/-- The rotated queries' gradients turned back. -/
theorem dq_turn (a : Fin 8) (n : Fin 2048) (d : Fin 64) :
    val_main_v191 (F := Ideal) x0 x1 x2 x3 (ix3 a n d) = back (fun a n d => val_main_v155 (F := Ideal) x0 x1 x2 x3 (ix3 a n d)) a n d := by
  rw [val_main_v191_apply]
  unfold val_main_v189 val_main_v190
  refine (pads_apply _ _ _ _ Ideal.ofBits_zero_f32 Ideal.ofBits_zero_f32 _ _ a n d).trans ?_
  unfold back
  split_ifs with hd
  · rw [val_main_v188_apply, val_main_v179_apply, val_main_v187_apply, val_main_v177_apply, val_main_v176_apply, val_main_v178_apply, val_main_v186_apply, val_main_v29_apply, val_main_v19_apply]
    refine congrArg₂ (fun x y : EReal => x + y) (congrArg₂ (fun x y : EReal => x * y) (congrArg _ (eq_ix3 _)) (congrArg _ (eq_ix2 _))) (congrArg₂ (fun x y : EReal => x * y) ((congrArg _ (eq_ix3 _)).trans ?_) (congrArg _ (eq_ix2 _)))
    rfl
  · rw [val_main_v185_apply, val_main_v181_apply, val_main_v184_apply, val_main_v182_apply, val_main_v177_apply, val_main_v176_apply, val_main_v180_apply, val_main_v183_apply, val_main_v26_apply, val_main_v22_apply]
    refine congrArg₂ (fun x y : EReal => x + y) (congrArg₂ (fun x y : EReal => x * y) ((congrArg _ (eq_ix3 _)).trans ?_) (congrArg _ (eq_ix2 _))) (congrArg₂ (fun x y : EReal => -x * y) (congrArg _ (eq_ix3 _)) (congrArg _ (eq_ix2 _)))
    exact congrArg _ (congrArg (fun e => ix3 a n e) (Fin.ext (by show 32 + (d.val - 32) = d.val; omega)))

theorem dq_at (n : Fin 2048) (e : Fin 512) :
    val_main_v194 (F := Ideal) x0 x1 x2 x3 (ix2 n e) = back (fun a n d => val_main_v155 (F := Ideal) x0 x1 x2 x3 (ix3 a n d)) ⟨e.val / 64, by omega⟩ n ⟨e.val % 64, by omega⟩ := by
  refine Eq.trans ?_ (dq_turn x0 x1 x2 x3 _ n _)
  unfold val_main_v194
  show val_main_v193 (F := Ideal) x0 x1 x2 x3 (ix2 n e) = _
  rw [val_main_v193_apply, val_main_v192_apply]
  exact congrArg _ (heads_index n e)

end Cert.AttnIdeal.Value
-- ==== Proof.AttnEntry.lean ====
module

public import proofs.«01_k».proof.Proof.Gen.AttnIdeal.Value
public import proofs.«01_k».proof.Proof.Gen.AttnGradIdeal.Read
public import Idealize.ShloMosaic.Lib.Pipeline.ValueKit
public import Idealize.ShloMosaic.Lib.Pointwise
public import Idealize.ShloMosaic.Lib.Claim
public import Idealize.ShloMosaic.Lib.StableHlo.RunRead
public import Idealize.ShloMosaic.Lib.StableHlo.RunLoop

@[expose] public section

set_option maxRecDepth 20000

noncomputable section

open Idealize.ShloMosaic Idealize.ShloMosaic.TcCoe Idealize.SL.Sem

namespace Cert.AttnIdeal.Value
open Cert.AttnIdeal Cert.AttnIdeal.Gen
open Cert.AttnGradIdeal.Read

/-! # The attention kernel's operands

What the kernel's host lines leave in the arrays the launch reads, in terms of the reference's values: the host lines
are read stretch by stretch, and after each stretch the arrays still needed are stated. -/

open StableHlo

variable (m : (ℓ : Loc nD τ sig) → Buf (Elt Ideal) ℓ) (c : Dev nD)

/-- Argument 0 as the launch finds it. -/
abbrev a0 := m ((c : Thread nD τ).loc main_arg0)
/-- Argument 1 as the launch finds it. -/
abbrev a1 := m ((c : Thread nD τ).loc main_arg1)
/-- Argument 2 as the launch finds it. -/
abbrev a2 := m ((c : Thread nD τ).loc main_arg2)
/-- Argument 3 as the launch finds it. -/
abbrev a3 := m ((c : Thread nD τ).loc main_arg3)

/-- The selection bias a query adds to a block: −∞ on a past block that is not selected, 0 elsewhere. -/
def bias : (⟨S8x2048x8, .f32⟩ : BufTy).Contents (Elt Ideal) :=
  select (andi (val_main_v78 (F := Ideal)) (noti (val_main_v79 (F := Ideal) (a0 m c) (a1 m c))))
    (broadcastInDim S8x2048x8 ![] bcast_S_S8x2048x8 (val_main_cst_9 (F := Ideal)))
    (broadcastInDim S8x2048x8 ![] bcast_S_S8x2048x8 (val_main_cst_2 (F := Ideal)))

/-- Eight columns widened to sixty-four by zeros. -/
def widened (x : (⟨S8x2048x8, .f32⟩ : BufTy).Contents (Elt Ideal)) : (⟨S8x2048x64, .f32⟩ : BufTy).Contents (Elt Ideal) :=
  concatenate S8x2048x64 2 [⟨S8x2048x8, x⟩, ⟨S8x2048x56, broadcastInDim S8x2048x56 ![] bcast_S_S8x2048x56 (val_main_cst_2 (F := Ideal))⟩] concatenates_S8x2048x8_S8x2048x56_S8x2048x64_d2

/-- The heads of an array side by side in its columns. -/
def unheads (x : (⟨S8x2048x64, .f32⟩ : BufTy).Contents (Elt Ideal)) : (⟨S2048x512, .f32⟩ : BufTy).Contents (Elt Ideal) :=
  shapeCast S2048x512 (transpose S2048x8x64 [1, 0, 2] x transposes_S8x2048x64_S2048x8x64_1_0_2) shapeCasts_S2048x8x64_S2048x512

/-- The greatest score of every query. -/
def tops : (⟨S8x2048x1, .f32⟩ : BufTy).Contents (Elt Ideal) :=
  broadcastInDim S8x2048x1 ![0, 1] bcast_S8x2048_S8x2048x1_0_1 (val_main_v103 (F := Ideal) (a0 m c) (a1 m c))

/-- The exponentials of the scores less the greatest. -/
def exps : (⟨S8x2048x2048, .f32⟩ : BufTy).Contents (Elt Ideal) :=
  Host.exp (F := Ideal) (φ := .f32) (subf (F := Ideal) (φ := .f32) (val_main_v102_0 (F := Ideal) (a0 m c) (a1 m c)) (broadcastInDim S8x2048x2048 ![0, 1, 2] bcast_S8x2048x1_S8x2048x2048_0_1_2 (tops m c)))

/-- Their sums over the keys. -/
def sums : (⟨S8x2048x1, .f32⟩ : BufTy).Contents (Elt Ideal) :=
  broadcastInDim S8x2048x1 ![0, 1] bcast_S8x2048_S8x2048x1_0_1 (Host.reduceAdd (F := Ideal) (φ := .f32) (exps m c) (val_main_cst_2 (F := Ideal)) reducesTo_S8x2048x2048_S8x2048_d2 h_S_)

/-- The attention's result, head by head. -/
def outs : (⟨S8x2048x64, .f32⟩ : BufTy).Contents (Elt Ideal) :=
  Host.divf (F := Ideal) (φ := .f32) (Host.dotGeneral (F := Ideal) (φ₁ := .f32) (φ₂ := .f32) dot_S8x2048x2048_S8x2048x64_S8x2048x64_2_1_1_2_0_0 none (exps m c) (val_main_v54 (F := Ideal) (a2 m c)))
    (broadcastInDim S8x2048x64 ![0, 1, 2] bcast_S8x2048x1_S8x2048x64_0_1_2 (sums m c))

/-- The logarithms of the scores' exponential sums, two heads to a block, each block padded by six rows of zeros. -/
def logs : (⟨S4x8x2048, .f32⟩ : BufTy).Contents (Elt Ideal) :=
  concatenate S4x8x2048 1 [⟨S4x2x2048, shapeCast S4x2x2048 (shapeCast S8x2048 (addf (F := Ideal) (φ := .f32) (tops m c) (Host.log (F := Ideal) (φ := .f32) (sums m c))) shapeCasts_S8x2048x1_S8x2048) shapeCasts_S8x2048_S4x2x2048⟩, ⟨S4x6x2048, broadcastInDim S4x6x2048 ![] bcast_S_S4x6x2048 (val_main_cst_2 (F := Ideal))⟩] concatenates_S4x2x2048_S4x6x2048_S4x8x2048_d1

/-- The cosines, four times side by side. -/
def cosines : (⟨S2048x128, .f32⟩ : BufTy).Contents (Elt Ideal) :=
  shapeCast S2048x128 (broadcastInDim S1x2048x4x32 ![0, 1, 2, 3] bcast_S1x2048x1x32_S1x2048x4x32_0_1_2_3 (shapeCast S1x2048x1x32 (val_main_v13 (F := Ideal)) shapeCasts_S2048x32_S1x2048x1x32)) shapeCasts_S1x2048x4x32_S2048x128

/-- The negated sines and the sines, twice side by side. -/
def sines : (⟨S2048x128, .f32⟩ : BufTy).Contents (Elt Ideal) :=
  shapeCast S2048x128 (broadcastInDim S1x2048x2x64 ![0, 1, 2, 3] bcast_S1x2048x1x64_S1x2048x2x64_0_1_2_3 (shapeCast S1x2048x1x64 (concatenate S2048x64 1 [⟨S2048x32, Host.negf (F := Ideal) (φ := .f32) (val_main_v14 (F := Ideal))⟩, ⟨S2048x32, val_main_v14 (F := Ideal)⟩] concatenates_S2048x32_S2048x32_S2048x64_d1) shapeCasts_S2048x64_S1x2048x1x64)) shapeCasts_S1x2048x2x64_S2048x128

/-- The arrays after stretch 0 of the host lines. -/
def at0 : Valuation τ sig (Elt Ideal) := after hostOps0 (fun b => m (c, b))

theorem live0 :
    at0 m c (Proc.devRef .tc main_v33) = val_main_v33 (F := Ideal) (a0 m c) ∧
    at0 m c (Proc.devRef .tc main_v52) = val_main_v52 (F := Ideal) (a1 m c) ∧
    at0 m c (Proc.devRef .tc main_v54) = val_main_v54 (F := Ideal) (a2 m c) ∧
    at0 m c (Proc.devRef .tc main_v58) = val_main_v58 (F := Ideal) (a1 m c) ∧
    at0 m c (Proc.devRef .tc main_v59) = val_main_v59 (F := Ideal) ∧
    at0 m c (Proc.devRef .tc main_c) = val_main_c (F := Ideal) ∧
    at0 m c (Proc.devRef .tc main_arg2) = a2 m c ∧
    at0 m c (Proc.devRef .tc main_arg3) = a3 m c := by
  unfold at0
  refine ⟨?_, ?_, ?_, ?_, ?_, ?_, ?_, ?_⟩
  all_goals
    after_reads_simp
    try rfl

/-- The arrays after stretch 1 of the host lines. -/
def at1 : Valuation τ sig (Elt Ideal) := after hostOps0_1 (at0 m c)

theorem live1 :
    at1 m c (Proc.devRef .tc main_v33) = val_main_v33 (F := Ideal) (a0 m c) ∧
    at1 m c (Proc.devRef .tc main_v52) = val_main_v52 (F := Ideal) (a1 m c) ∧
    at1 m c (Proc.devRef .tc main_v54) = val_main_v54 (F := Ideal) (a2 m c) ∧
    at1 m c (Proc.devRef .tc main_v58) = val_main_v58 (F := Ideal) (a1 m c) ∧
    at1 m c (Proc.devRef .tc main_v60) = val_main_v60 (F := Ideal) ∧
    at1 m c (Proc.devRef .tc main_arg2) = a2 m c ∧
    at1 m c (Proc.devRef .tc main_arg3) = a3 m c := by
  obtain ⟨h0, h1, h2, h3, h4, h5, h6, h7⟩ := live0 m c
  unfold at1
  refine ⟨?_, ?_, ?_, ?_, ?_, ?_, ?_⟩
  all_goals
    after_reads_simp
    try simp only [h0, h1, h2, h3, h4, h5, h6, h7]
    try rfl

/-- The arrays after stretch 2 of the host lines. -/
def at2 : Valuation τ sig (Elt Ideal) := after hostOps0_2 (at1 m c)

theorem live2 :
    at2 m c (Proc.devRef .tc main_v33) = val_main_v33 (F := Ideal) (a0 m c) ∧
    at2 m c (Proc.devRef .tc main_v52) = val_main_v52 (F := Ideal) (a1 m c) ∧
    at2 m c (Proc.devRef .tc main_v54) = val_main_v54 (F := Ideal) (a2 m c) ∧
    at2 m c (Proc.devRef .tc main_v61) = val_main_v61 (F := Ideal) (a0 m c) (a1 m c) ∧
    at2 m c (Proc.devRef .tc main_v67) = val_main_v67 (F := Ideal) ∧
    at2 m c (Proc.devRef .tc main_cst_4) = val_main_cst_4 (F := Ideal) ∧
    at2 m c (Proc.devRef .tc main_arg2) = a2 m c ∧
    at2 m c (Proc.devRef .tc main_arg3) = a3 m c := by
  obtain ⟨h0, h1, h2, h3, h4, h5, h6⟩ := live1 m c
  unfold at2
  refine ⟨?_, ?_, ?_, ?_, ?_, ?_, ?_, ?_⟩
  all_goals
    after_reads_simp
    try simp only [h0, h1, h2, h3, h4, h5, h6]
    try rfl

/-- The arrays after stretch 3 of the host lines. -/
def at3 : Valuation τ sig (Elt Ideal) := after hostOps0_3 (at2 m c)

theorem live3 :
    at3 m c (Proc.devRef .tc main_v33) = val_main_v33 (F := Ideal) (a0 m c) ∧
    at3 m c (Proc.devRef .tc main_v52) = val_main_v52 (F := Ideal) (a1 m c) ∧
    at3 m c (Proc.devRef .tc main_v54) = val_main_v54 (F := Ideal) (a2 m c) ∧
    at3 m c (Proc.devRef .tc main_v67) = val_main_v67 (F := Ideal) ∧
    at3 m c (Proc.devRef .tc main_v68) = val_main_v68_0 (F := Ideal) (a0 m c) (a1 m c) ∧
    at3 m c (Proc.devRef .tc main_arg2) = a2 m c ∧
    at3 m c (Proc.devRef .tc main_arg3) = a3 m c := by
  obtain ⟨h0, h1, h2, h3, h4, h5, h6, h7⟩ := live2 m c
  unfold at3
  refine ⟨?_, ?_, ?_, ?_, ?_, ?_, ?_⟩
  all_goals
    after_reads_simp
    try simp only [h0, h1, h2, h3, h4, h5, h6, h7]
    try rfl

/-- The arrays after stretch 4 of the host lines. -/
def at4 : Valuation τ sig (Elt Ideal) := after hostOps0_4 (at3 m c)

theorem live4 :
    at4 m c (Proc.devRef .tc main_v33) = val_main_v33 (F := Ideal) (a0 m c) ∧
    at4 m c (Proc.devRef .tc main_v52) = val_main_v52 (F := Ideal) (a1 m c) ∧
    at4 m c (Proc.devRef .tc main_v54) = val_main_v54 (F := Ideal) (a2 m c) ∧
    at4 m c (Proc.devRef .tc main_v78) = val_main_v79 (F := Ideal) (a0 m c) (a1 m c) ∧
    at4 m c (Proc.devRef .tc main_v80) = val_main_v63 (F := Ideal) ∧
    at4 m c (Proc.devRef .tc main_v81) = val_main_v59 (F := Ideal) ∧
    at4 m c (Proc.devRef .tc main_c_6) = val_main_c (F := Ideal) ∧
    at4 m c (Proc.devRef .tc main_arg2) = a2 m c ∧
    at4 m c (Proc.devRef .tc main_arg3) = a3 m c := by
  obtain ⟨h0, h1, h2, h3, h4, h5, h6⟩ := live3 m c
  unfold at4
  refine ⟨?_, ?_, ?_, ?_, ?_, ?_, ?_, ?_, ?_⟩
  all_goals
    after_reads_simp
    try simp only [h0, h1, h2, h3, h4, h5, h6]
    try rfl

/-- The arrays after stretch 5 of the host lines. -/
def at5 : Valuation τ sig (Elt Ideal) := after hostOps0_5 (at4 m c)

theorem live5 :
    at5 m c (Proc.devRef .tc main_v33) = val_main_v33 (F := Ideal) (a0 m c) ∧
    at5 m c (Proc.devRef .tc main_v52) = val_main_v52 (F := Ideal) (a1 m c) ∧
    at5 m c (Proc.devRef .tc main_v54) = val_main_v54 (F := Ideal) (a2 m c) ∧
    at5 m c (Proc.devRef .tc main_v78) = val_main_v79 (F := Ideal) (a0 m c) (a1 m c) ∧
    at5 m c (Proc.devRef .tc main_v80) = val_main_v63 (F := Ideal) ∧
    at5 m c (Proc.devRef .tc main_v82) = val_main_v60 (F := Ideal) ∧
    at5 m c (Proc.devRef .tc main_arg2) = a2 m c ∧
    at5 m c (Proc.devRef .tc main_arg3) = a3 m c := by
  obtain ⟨h0, h1, h2, h3, h4, h5, h6, h7, h8⟩ := live4 m c
  unfold at5
  refine ⟨?_, ?_, ?_, ?_, ?_, ?_, ?_, ?_⟩
  all_goals
    after_reads_simp
    try simp only [h0, h1, h2, h3, h4, h5, h6, h7, h8]
    try rfl

/-- The arrays after stretch 6 of the host lines. -/
def at6 : Valuation τ sig (Elt Ideal) := after hostOps0_6 (at5 m c)

theorem live6 :
    at6 m c (Proc.devRef .tc main_v33) = val_main_v33 (F := Ideal) (a0 m c) ∧
    at6 m c (Proc.devRef .tc main_v52) = val_main_v52 (F := Ideal) (a1 m c) ∧
    at6 m c (Proc.devRef .tc main_v54) = val_main_v54 (F := Ideal) (a2 m c) ∧
    at6 m c (Proc.devRef .tc main_v90) = andi (val_main_v78 (F := Ideal)) (noti (val_main_v79 (F := Ideal) (a0 m c) (a1 m c))) ∧
    at6 m c (Proc.devRef .tc main_cst_7) = val_main_cst_9 (F := Ideal) ∧
    at6 m c (Proc.devRef .tc main_cst_8) = val_main_cst_2 (F := Ideal) ∧
    at6 m c (Proc.devRef .tc main_arg2) = a2 m c ∧
    at6 m c (Proc.devRef .tc main_arg3) = a3 m c := by
  obtain ⟨h0, h1, h2, h3, h4, h5, h6, h7⟩ := live5 m c
  unfold at6
  refine ⟨?_, ?_, ?_, ?_, ?_, ?_, ?_, ?_⟩
  all_goals
    after_reads_simp
    try simp only [h0, h1, h2, h3, h4, h5, h6, h7]
    try rfl

/-- The arrays after stretch 7 of the host lines. -/
def at7 : Valuation τ sig (Elt Ideal) := after hostOps0_7 (at6 m c)

theorem live7 :
    at7 m c (Proc.devRef .tc main_v33) = val_main_v33 (F := Ideal) (a0 m c) ∧
    at7 m c (Proc.devRef .tc main_v52) = val_main_v52 (F := Ideal) (a1 m c) ∧
    at7 m c (Proc.devRef .tc main_v54) = val_main_v54 (F := Ideal) (a2 m c) ∧
    at7 m c (Proc.devRef .tc main_v91) = bias m c ∧
    at7 m c (Proc.devRef .tc main_arg2) = a2 m c ∧
    at7 m c (Proc.devRef .tc main_arg3) = a3 m c := by
  obtain ⟨h0, h1, h2, h3, h4, h5, h6, h7⟩ := live6 m c
  unfold at7
  refine ⟨?_, ?_, ?_, ?_, ?_, ?_⟩
  all_goals
    after_reads_simp
    try simp only [h0, h1, h2, h3, h4, h5, h6, h7]
    try rfl

/-- The arrays after stretch 8 of the host lines. -/
def at8 : Valuation τ sig (Elt Ideal) := after hostOps0_8 (at7 m c)

theorem live8 :
    at8 m c (Proc.devRef .tc main_v33) = val_main_v33 (F := Ideal) (a0 m c) ∧
    at8 m c (Proc.devRef .tc main_v52) = val_main_v52 (F := Ideal) (a1 m c) ∧
    at8 m c (Proc.devRef .tc main_v54) = val_main_v54 (F := Ideal) (a2 m c) ∧
    at8 m c (Proc.devRef .tc main_v94) = widened (bias m c) ∧
    at8 m c (Proc.devRef .tc main_v98) = val_main_v58 (F := Ideal) (a1 m c) ∧
    at8 m c (Proc.devRef .tc main_v99) = val_main_v59 (F := Ideal) ∧
    at8 m c (Proc.devRef .tc main_c_12) = val_main_c (F := Ideal) ∧
    at8 m c (Proc.devRef .tc main_arg2) = a2 m c ∧
    at8 m c (Proc.devRef .tc main_arg3) = a3 m c := by
  obtain ⟨h0, h1, h2, h3, h4, h5⟩ := live7 m c
  unfold at8
  unfold hostOps0_8
  generalize hf : (fun (a : (⟨S8x2048x8, .f32⟩ : BufTy).Contents (Elt Ideal)) (b : (⟨S8x2048x56, .f32⟩ : BufTy).Contents (Elt Ideal)) => concatenate S8x2048x64 2 [⟨S8x2048x8, a⟩, ⟨S8x2048x56, b⟩] concatenates_S8x2048x8_S8x2048x56_S8x2048x64_d2) = f
  refine ⟨?_, ?_, ?_, ?_, ?_, ?_, ?_, ?_, ?_⟩
  all_goals
    after_reads_simp
    try simp only [h0, h1, h2, h3, h4, h5]
    try subst hf
    try rfl

/-- The arrays after stretch 9 of the host lines. -/
def at9 : Valuation τ sig (Elt Ideal) := after hostOps0_9 (at8 m c)

theorem live9 :
    at9 m c (Proc.devRef .tc main_v33) = val_main_v33 (F := Ideal) (a0 m c) ∧
    at9 m c (Proc.devRef .tc main_v52) = val_main_v52 (F := Ideal) (a1 m c) ∧
    at9 m c (Proc.devRef .tc main_v54) = val_main_v54 (F := Ideal) (a2 m c) ∧
    at9 m c (Proc.devRef .tc main_v94) = widened (bias m c) ∧
    at9 m c (Proc.devRef .tc main_v98) = val_main_v58 (F := Ideal) (a1 m c) ∧
    at9 m c (Proc.devRef .tc main_v100) = val_main_v60 (F := Ideal) ∧
    at9 m c (Proc.devRef .tc main_arg2) = a2 m c ∧
    at9 m c (Proc.devRef .tc main_arg3) = a3 m c := by
  obtain ⟨h0, h1, h2, h3, h4, h5, h6, h7, h8⟩ := live8 m c
  unfold at9
  refine ⟨?_, ?_, ?_, ?_, ?_, ?_, ?_, ?_⟩
  all_goals
    after_reads_simp
    try simp only [h0, h1, h2, h3, h4, h5, h6, h7, h8]
    try rfl

/-- The arrays after stretch 10 of the host lines. -/
def at10 : Valuation τ sig (Elt Ideal) := after hostOps0_10 (at9 m c)

theorem live10 :
    at10 m c (Proc.devRef .tc main_v33) = val_main_v33 (F := Ideal) (a0 m c) ∧
    at10 m c (Proc.devRef .tc main_v52) = val_main_v52 (F := Ideal) (a1 m c) ∧
    at10 m c (Proc.devRef .tc main_v54) = val_main_v54 (F := Ideal) (a2 m c) ∧
    at10 m c (Proc.devRef .tc main_v94) = widened (bias m c) ∧
    at10 m c (Proc.devRef .tc main_v101) = val_main_v61 (F := Ideal) (a0 m c) (a1 m c) ∧
    at10 m c (Proc.devRef .tc main_v107) = val_main_v67 (F := Ideal) ∧
    at10 m c (Proc.devRef .tc main_cst_13) = val_main_cst_4 (F := Ideal) ∧
    at10 m c (Proc.devRef .tc main_arg2) = a2 m c ∧
    at10 m c (Proc.devRef .tc main_arg3) = a3 m c := by
  obtain ⟨h0, h1, h2, h3, h4, h5, h6, h7⟩ := live9 m c
  unfold at10
  refine ⟨?_, ?_, ?_, ?_, ?_, ?_, ?_, ?_, ?_⟩
  all_goals
    after_reads_simp
    try simp only [h0, h1, h2, h3, h4, h5, h6, h7]
    try rfl

/-- The arrays after stretch 11 of the host lines. -/
def at11 : Valuation τ sig (Elt Ideal) := after hostOps0_11 (at10 m c)

theorem live11 :
    at11 m c (Proc.devRef .tc main_v33) = val_main_v33 (F := Ideal) (a0 m c) ∧
    at11 m c (Proc.devRef .tc main_v52) = val_main_v52 (F := Ideal) (a1 m c) ∧
    at11 m c (Proc.devRef .tc main_v54) = val_main_v54 (F := Ideal) (a2 m c) ∧
    at11 m c (Proc.devRef .tc main_v94) = widened (bias m c) ∧
    at11 m c (Proc.devRef .tc main_v107) = val_main_v67 (F := Ideal) ∧
    at11 m c (Proc.devRef .tc main_v108) = val_main_v68_0 (F := Ideal) (a0 m c) (a1 m c) ∧
    at11 m c (Proc.devRef .tc main_arg2) = a2 m c ∧
    at11 m c (Proc.devRef .tc main_arg3) = a3 m c := by
  obtain ⟨h0, h1, h2, h3, h4, h5, h6, h7, h8⟩ := live10 m c
  unfold at11
  refine ⟨?_, ?_, ?_, ?_, ?_, ?_, ?_, ?_⟩
  all_goals
    after_reads_simp
    try simp only [h0, h1, h2, h3, h4, h5, h6, h7, h8]
    try rfl

/-- The arrays after stretch 12 of the host lines. -/
def at12 : Valuation τ sig (Elt Ideal) := after hostOps0_12 (at11 m c)

theorem live12 :
    at12 m c (Proc.devRef .tc main_v33) = val_main_v33 (F := Ideal) (a0 m c) ∧
    at12 m c (Proc.devRef .tc main_v52) = val_main_v52 (F := Ideal) (a1 m c) ∧
    at12 m c (Proc.devRef .tc main_v54) = val_main_v54 (F := Ideal) (a2 m c) ∧
    at12 m c (Proc.devRef .tc main_v94) = widened (bias m c) ∧
    at12 m c (Proc.devRef .tc main_v118) = val_main_v79 (F := Ideal) (a0 m c) (a1 m c) ∧
    at12 m c (Proc.devRef .tc main_v119) = val_main_v59 (F := Ideal) ∧
    at12 m c (Proc.devRef .tc main_v120) = val_main_v81 (F := Ideal) ∧
    at12 m c (Proc.devRef .tc main_c_17) = val_main_c (F := Ideal) ∧
    at12 m c (Proc.devRef .tc main_arg2) = a2 m c ∧
    at12 m c (Proc.devRef .tc main_arg3) = a3 m c := by
  obtain ⟨h0, h1, h2, h3, h4, h5, h6, h7⟩ := live11 m c
  unfold at12
  refine ⟨?_, ?_, ?_, ?_, ?_, ?_, ?_, ?_, ?_, ?_⟩
  all_goals
    after_reads_simp
    try simp only [h0, h1, h2, h3, h4, h5, h6, h7]
    try rfl

/-- The arrays after stretch 13 of the host lines. -/
def at13 : Valuation τ sig (Elt Ideal) := after hostOps0_13 (at12 m c)

theorem live13 :
    at13 m c (Proc.devRef .tc main_v33) = val_main_v33 (F := Ideal) (a0 m c) ∧
    at13 m c (Proc.devRef .tc main_v52) = val_main_v52 (F := Ideal) (a1 m c) ∧
    at13 m c (Proc.devRef .tc main_v54) = val_main_v54 (F := Ideal) (a2 m c) ∧
    at13 m c (Proc.devRef .tc main_v94) = widened (bias m c) ∧
    at13 m c (Proc.devRef .tc main_v118) = val_main_v79 (F := Ideal) (a0 m c) (a1 m c) ∧
    at13 m c (Proc.devRef .tc main_v119) = val_main_v59 (F := Ideal) ∧
    at13 m c (Proc.devRef .tc main_v121) = val_main_v82 (F := Ideal) ∧
    at13 m c (Proc.devRef .tc main_arg2) = a2 m c ∧
    at13 m c (Proc.devRef .tc main_arg3) = a3 m c := by
  obtain ⟨h0, h1, h2, h3, h4, h5, h6, h7, h8, h9⟩ := live12 m c
  unfold at13
  refine ⟨?_, ?_, ?_, ?_, ?_, ?_, ?_, ?_, ?_⟩
  all_goals
    after_reads_simp
    try simp only [h0, h1, h2, h3, h4, h5, h6, h7, h8, h9]
    try rfl

/-- The arrays after stretch 14 of the host lines. -/
def at14 : Valuation τ sig (Elt Ideal) := after hostOps0_14 (at13 m c)

theorem live14 :
    at14 m c (Proc.devRef .tc main_v33) = val_main_v33 (F := Ideal) (a0 m c) ∧
    at14 m c (Proc.devRef .tc main_v52) = val_main_v52 (F := Ideal) (a1 m c) ∧
    at14 m c (Proc.devRef .tc main_v54) = val_main_v54 (F := Ideal) (a2 m c) ∧
    at14 m c (Proc.devRef .tc main_v94) = widened (bias m c) ∧
    at14 m c (Proc.devRef .tc main_v118) = val_main_v79 (F := Ideal) (a0 m c) (a1 m c) ∧
    at14 m c (Proc.devRef .tc main_v119) = val_main_v59 (F := Ideal) ∧
    at14 m c (Proc.devRef .tc main_v121) = val_main_v82 (F := Ideal) ∧
    at14 m c (Proc.devRef .tc main_v122) = val_main_v83 (F := Ideal) ∧
    at14 m c (Proc.devRef .tc main_c_18) = val_main_c (F := Ideal) ∧
    at14 m c (Proc.devRef .tc main_arg2) = a2 m c ∧
    at14 m c (Proc.devRef .tc main_arg3) = a3 m c := by
  obtain ⟨h0, h1, h2, h3, h4, h5, h6, h7, h8⟩ := live13 m c
  unfold at14
  refine ⟨?_, ?_, ?_, ?_, ?_, ?_, ?_, ?_, ?_, ?_, ?_⟩
  all_goals
    after_reads_simp
    try simp only [h0, h1, h2, h3, h4, h5, h6, h7, h8]
    try rfl

/-- The arrays after stretch 15 of the host lines. -/
def at15 : Valuation τ sig (Elt Ideal) := after hostOps0_15 (at14 m c)

theorem live15 :
    at15 m c (Proc.devRef .tc main_v33) = val_main_v33 (F := Ideal) (a0 m c) ∧
    at15 m c (Proc.devRef .tc main_v52) = val_main_v52 (F := Ideal) (a1 m c) ∧
    at15 m c (Proc.devRef .tc main_v54) = val_main_v54 (F := Ideal) (a2 m c) ∧
    at15 m c (Proc.devRef .tc main_v94) = widened (bias m c) ∧
    at15 m c (Proc.devRef .tc main_v118) = val_main_v79 (F := Ideal) (a0 m c) (a1 m c) ∧
    at15 m c (Proc.devRef .tc main_v119) = val_main_v59 (F := Ideal) ∧
    at15 m c (Proc.devRef .tc main_v121) = val_main_v82 (F := Ideal) ∧
    at15 m c (Proc.devRef .tc main_v123) = val_main_v84 (F := Ideal) ∧
    at15 m c (Proc.devRef .tc main_arg2) = a2 m c ∧
    at15 m c (Proc.devRef .tc main_arg3) = a3 m c := by
  obtain ⟨h0, h1, h2, h3, h4, h5, h6, h7, h8, h9, h10⟩ := live14 m c
  unfold at15
  refine ⟨?_, ?_, ?_, ?_, ?_, ?_, ?_, ?_, ?_, ?_⟩
  all_goals
    after_reads_simp
    try simp only [h0, h1, h2, h3, h4, h5, h6, h7, h8, h9, h10]
    try rfl

/-- The arrays after stretch 16 of the host lines. -/
def at16 : Valuation τ sig (Elt Ideal) := after hostOps0_16 (at15 m c)

theorem live16 :
    at16 m c (Proc.devRef .tc main_v33) = val_main_v33 (F := Ideal) (a0 m c) ∧
    at16 m c (Proc.devRef .tc main_v52) = val_main_v52 (F := Ideal) (a1 m c) ∧
    at16 m c (Proc.devRef .tc main_v54) = val_main_v54 (F := Ideal) (a2 m c) ∧
    at16 m c (Proc.devRef .tc main_v94) = widened (bias m c) ∧
    at16 m c (Proc.devRef .tc main_v137) = val_main_v98 (F := Ideal) (a0 m c) (a1 m c) ∧
    at16 m c (Proc.devRef .tc main_v140) = val_main_v101 (F := Ideal) (a0 m c) (a1 m c) ∧
    at16 m c (Proc.devRef .tc main_cst_20) = val_main_cst_9 (F := Ideal) ∧
    at16 m c (Proc.devRef .tc main_arg2) = a2 m c ∧
    at16 m c (Proc.devRef .tc main_arg3) = a3 m c := by
  obtain ⟨h0, h1, h2, h3, h4, h5, h6, h7, h8, h9⟩ := live15 m c
  unfold at16
  refine ⟨?_, ?_, ?_, ?_, ?_, ?_, ?_, ?_, ?_⟩
  all_goals
    after_reads_simp
    try simp only [h0, h1, h2, h3, h4, h5, h6, h7, h8, h9]
    try rfl

/-- The arrays after stretch 17 of the host lines. -/
def at17 : Valuation τ sig (Elt Ideal) := after hostOps0_17 (at16 m c)

theorem live17 :
    at17 m c (Proc.devRef .tc main_v33) = val_main_v33 (F := Ideal) (a0 m c) ∧
    at17 m c (Proc.devRef .tc main_v52) = val_main_v52 (F := Ideal) (a1 m c) ∧
    at17 m c (Proc.devRef .tc main_v54) = val_main_v54 (F := Ideal) (a2 m c) ∧
    at17 m c (Proc.devRef .tc main_v94) = widened (bias m c) ∧
    at17 m c (Proc.devRef .tc main_v141) = val_main_v102_0 (F := Ideal) (a0 m c) (a1 m c) ∧
    at17 m c (Proc.devRef .tc main_arg2) = a2 m c ∧
    at17 m c (Proc.devRef .tc main_arg3) = a3 m c := by
  obtain ⟨h0, h1, h2, h3, h4, h5, h6, h7, h8⟩ := live16 m c
  unfold at17
  refine ⟨?_, ?_, ?_, ?_, ?_, ?_, ?_⟩
  all_goals
    after_reads_simp
    try simp only [h0, h1, h2, h3, h4, h5, h6, h7, h8]
    try rfl

/-- The arrays after stretch 18 of the host lines. -/
def at18 : Valuation τ sig (Elt Ideal) := after hostOps0_18 (at17 m c)

theorem live18 :
    at18 m c (Proc.devRef .tc main_v159) = unheads (val_main_v33 (F := Ideal) (a0 m c)) ∧
    at18 m c (Proc.devRef .tc main_v161) = unheads (val_main_v52 (F := Ideal) (a1 m c)) ∧
    at18 m c (Proc.devRef .tc main_v162) = truncf (F := Ideal) .bf16 (a2 m c) bitsLt_bf16_f32 ∧
    at18 m c (Proc.devRef .tc main_v165) = truncf (F := Ideal) (φ := .f32) .bf16 (unheads (widened (bias m c))) bitsLt_bf16_f32 ∧
    at18 m c (Proc.devRef .tc main_v167) = unheads (outs m c) ∧
    at18 m c (Proc.devRef .tc main_v157) = logs m c ∧
    at18 m c (Proc.devRef .tc main_v185) = cosines ∧
    at18 m c (Proc.devRef .tc main_v190) = sines ∧
    at18 m c (Proc.devRef .tc main_arg3) = a3 m c := by
  obtain ⟨h0, h1, h2, h3, h4, h5, h6⟩ := live17 m c
  unfold at18
  unfold hostOps0_18
  generalize hf : (fun (a : (⟨S4x2x2048, .f32⟩ : BufTy).Contents (Elt Ideal)) (b : (⟨S4x6x2048, .f32⟩ : BufTy).Contents (Elt Ideal)) => concatenate S4x8x2048 1 [⟨S4x2x2048, a⟩, ⟨S4x6x2048, b⟩] concatenates_S4x2x2048_S4x6x2048_S4x8x2048_d1) = f
  generalize hg : (fun (a : (⟨S2048x32, .f32⟩ : BufTy).Contents (Elt Ideal)) (b : (⟨S2048x32, .f32⟩ : BufTy).Contents (Elt Ideal)) => concatenate S2048x64 1 [⟨S2048x32, a⟩, ⟨S2048x32, b⟩] concatenates_S2048x32_S2048x32_S2048x64_d1) = g
  refine ⟨?_, ?_, ?_, ?_, ?_, ?_, ?_, ?_, ?_⟩
  all_goals
    after_reads_simp
    try simp only [h0, h1, h2, h3, h4, h5, h6]
    try subst hf
    try subst hg
    try rfl

/-- The launch reads what the last stretch leaves. -/
theorem V_at (b : Ref sig .tc) : V m c b = at18 m c (Proc.devRef .tc b) := by
  unfold at18 at17 at16 at15 at14 at13 at12 at11 at10 at9 at8 at7 at6 at5 at4 at3 at2 at1 at0
  exact (congrFun (afterL_eq_after_flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18] (fun b => m (c, b))) (Proc.devRef .tc b)).symm

end Cert.AttnIdeal.Value
-- ==== Proof.AttnLayout.lean ====
module

public import proofs.«01_k».proof.Proof.AttnGrads
public import proofs.«01_k».proof.Proof.AttnEntry

/-!
The arrays the attention kernel's launch reads, at an index.
-/

@[expose] public section

set_option maxRecDepth 20000

noncomputable section

open Idealize.ShloMosaic Idealize.ShloMosaic.TcCoe Idealize.SL.Sem

namespace Cert.AttnIdeal.Value
open Cert.AttnIdeal Cert.AttnIdeal.Gen
open Cert.AttnGradIdeal.Read
open Cert.Reals

/-- The column of head `h`'s lane `d`. -/
def column (h : Fin 8) (d : Fin 64) : Fin 512 := ⟨64 * h.val + d.val, by omega⟩

theorem unheads_apply (x : (⟨S8x2048x64, .f32⟩ : BufTy).Contents (Elt Ideal)) (h : Fin 8) (n : Fin 2048) (d : Fin 64) :
    unheads x (ix2 n (column h d)) = x (ix3 h n d) := by
  unfold unheads
  refine (shapeCast_apply _ shapeCasts_S2048x8x64_S2048x512 (ix2 n (column h d)) (ix3 n h d) ?_).trans ?_
  · rewrite [Shape.rowMajor_val_three, Shape.rowMajor_val_two]
    show (n.val * 8 + h.val) * 64 + d.val = n.val * 512 + (64 * h.val + d.val)
    omega
  · exact transpose_apply [1, 0, 2] x transposes_S8x2048x64_S2048x8x64_1_0_2 (ix3 n h d) (ix3 h n d) (fun b => match b with
      | ⟨0, _⟩ => rfl
      | ⟨1, _⟩ => rfl
      | ⟨2, _⟩ => rfl)

/-- A column spread over the keys. -/
theorem spread_apply (x : (⟨S8x2048x1, .f32⟩ : BufTy).Contents (Elt Ideal)) (h : Fin 8) (n : Fin 2048) (d : Fin 64) :
    broadcastInDim S8x2048x64 ![0, 1, 2] bcast_S8x2048x1_S8x2048x64_0_1_2 x (ix3 h n d) = x (ix3 h n 0) :=
  broadcastInDim_apply _ bcast_S8x2048x1_S8x2048x64_0_1_2 x (ix3 h n d) (ix3 h n 0) (fun a => match a with
    | ⟨0, _⟩ => rfl
    | ⟨1, _⟩ => rfl
    | ⟨2, _⟩ => rfl)

/-- The product of the weights with the values, at an index. -/
theorem weigh_apply (y0 : (⟨S8x2048x2048, .f32⟩ : BufTy).Contents (Elt Ideal)) (y1 : (⟨S8x2048x64, .f32⟩ : BufTy).Contents (Elt Ideal)) (h : Fin 8) (n : Fin 2048) (d : Fin 64) :
    Host.dotGeneral (F := Ideal) (φ₁ := .f32) (φ₂ := .f32) dot_S8x2048x2048_S8x2048x64_S8x2048x64_2_1_1_2_0_0 none y0 y1 (ix3 h n d)
      = ∑ k : Fin 2048, y0 (ix3 h n k) * y1 (ix3 h k d) := by
  simp only [Host.dotGeneral]
  rw [Ideal.dotGeneral_apply, ← Equiv.sum_comp (ValueIdx.contrEquiv1 dot_S8x2048x2048_S8x2048x64_S8x2048x64_2_1_1_2_0_0 2048 rfl rfl).symm]
  refine Finset.sum_congr rfl fun k _ => ?_
  have hk := ValueIdx.contrEquiv1_symm_val dot_S8x2048x2048_S8x2048x64_S8x2048x64_2_1_1_2_0_0 2048 rfl rfl k
  refine congrArg₂ (fun x y : EReal => x * y) (congrArg y0 (funext fun a => Fin.ext ?_)) (congrArg y1 (funext fun a => Fin.ext ?_))
  · match a with
    | ⟨0, _⟩ => exact lhs_main_v131_0 _ _
    | ⟨1, _⟩ => exact lhs_main_v131_1 _ _
    | ⟨2, _⟩ => exact (lhs_main_v131_2 _ _).trans hk
  · match a with
    | ⟨0, _⟩ => exact rhs_main_v131_0 _ _
    | ⟨1, _⟩ => exact (rhs_main_v131_1 _ _).trans hk
    | ⟨2, _⟩ => exact rhs_main_v131_2 _ _

variable (m : (ℓ : Loc nD τ sig) → Buf (Elt Ideal) ℓ) (c : Dev nD)

theorem exps_eq : exps m c = val_main_v123 (F := Ideal) (a0 m c) (a1 m c) := by
  have e : val_main_v103 (F := Ideal) (a0 m c) (a1 m c) = val_main_v110 (F := Ideal) (a0 m c) (a1 m c) := by
    funext i
    rw [eq_ix2 i]
    exact (shift_eq _ _ (i 0) (i 1)).symm
  unfold exps tops val_main_v123 val_main_v122 val_main_v121 val_main_v120
  rw [e]

theorem sums_eq : sums m c = val_main_v125 (F := Ideal) (a0 m c) (a1 m c) := by
  unfold sums val_main_v125 val_main_v124
  rw [exps_eq]
  rfl

theorem tops_apply (h : Fin 8) (n : Fin 2048) : tops m c (ix3 h n 0) = val_main_v103 (F := Ideal) (a0 m c) (a1 m c) (ix2 h n) :=
  broadcastInDim_apply _ bcast_S8x2048_S8x2048x1_0_1 _ (ix3 h n 0) (ix2 h n) (fun a => match a with
    | ⟨0, _⟩ => rfl
    | ⟨1, _⟩ => rfl)

theorem outs_apply (h : Fin 8) (n : Fin 2048) (d : Fin 64) :
    outs m c (ix3 h n d) = Ideal.div (∑ j, val_main_v123 (F := Ideal) (a0 m c) (a1 m c) (ix3 h n j) * val_main_v54 (F := Ideal) (a2 m c) (ix3 h j d))
      (val_main_v125 (F := Ideal) (a0 m c) (a1 m c) (ix3 h n 0)) := by
  unfold outs
  rw [exps_eq, sums_eq]
  exact congrArg₂ Ideal.div (weigh_apply _ _ h n d) (spread_apply _ h n d)

/-- Two heads to a block, each block filled up by six rows. -/
theorem stacked_apply (x : (⟨S8x2048x1, .f32⟩ : BufTy).Contents (Elt Ideal)) (z : (⟨S4x6x2048, .f32⟩ : BufTy).Contents (Elt Ideal)) (p) (t : Fin 4) (hh : Fin 2) (n : Fin 2048) :
    concatenate S4x8x2048 1 [⟨S4x2x2048, shapeCast S4x2x2048 (shapeCast S8x2048 x shapeCasts_S8x2048x1_S8x2048) shapeCasts_S8x2048_S4x2x2048⟩, ⟨S4x6x2048, z⟩] p (ix3 t ⟨hh.val, by omega⟩ n)
      = x (ix3 ⟨2 * t.val + hh.val, by omega⟩ n 0) := by
  refine (concatenate_pair_apply_left (t := S4x8x2048) (s₁ := S4x2x2048) (s₂ := S4x6x2048) 1 _ _ _ _ rfl (ix3 t hh n)
      (fun b => by match b with | ⟨0, _⟩ => rfl | ⟨1, _⟩ => rfl | ⟨2, _⟩ => rfl)).trans ?_
  refine (shapeCast_apply _ shapeCasts_S8x2048_S4x2x2048 (ix3 t hh n) (ix2 ⟨2 * t.val + hh.val, by omega⟩ n) ?_).trans ?_
  · rewrite [Shape.rowMajor_val_two, Shape.rowMajor_val_three]
    have e : 2 * t.val + hh.val = t.val * 2 + hh.val := by omega
    exact congrArg (fun k => k * 2048 + n.val) e
  refine shapeCast_apply x shapeCasts_S8x2048x1_S8x2048 (ix2 ⟨2 * t.val + hh.val, by omega⟩ n) (ix3 ⟨2 * t.val + hh.val, by omega⟩ n 0) ?_
  rewrite [Shape.rowMajor_val_three, Shape.rowMajor_val_two]
  exact Nat.mul_one ((2 * t.val + hh.val) * 2048 + n.val)

theorem logsum_apply (u w : (⟨S8x2048x1, .f32⟩ : BufTy).Contents (Elt Ideal)) (i : S8x2048x1.Idx) :
    addf (F := Ideal) (φ := .f32) u (Host.log (F := Ideal) (φ := .f32) w) i = u i + Ideal.log (w i) := rfl

theorem logs_apply (t : Fin 4) (hh : Fin 2) (n : Fin 2048) :
    logs m c (ix3 t ⟨hh.val, by omega⟩ n) = tops m c (ix3 ⟨2 * t.val + hh.val, by omega⟩ n 0) + Ideal.log (sums m c (ix3 ⟨2 * t.val + hh.val, by omega⟩ n 0)) := by
  unfold logs
  generalize tops m c = u
  generalize sums m c = w
  exact (stacked_apply _ _ _ t hh n).trans (logsum_apply u w _)

/-- A choice by two bits, between the two values a bias takes. -/
theorem choice_apply (p q : (⟨S8x2048x8, .i1⟩ : BufTy).Contents (Elt Ideal)) (i : S8x2048x8.Idx) :
    select (andi p (noti q)) (broadcastInDim S8x2048x8 ![] bcast_S_S8x2048x8 (val_main_cst_9 (F := Ideal)))
      (broadcastInDim S8x2048x8 ![] bcast_S_S8x2048x8 (val_main_cst_2 (F := Ideal))) i = if p i = 1#1 ∧ q i = 0#1 then (⊥ : EReal) else 0 := by
  have both (a b : BitVec 1) : IntOp.andi a (~~~b) = 1#1 ↔ a = 1#1 ∧ b = 0#1 := by revert a b; decide
  by_cases h : p i = 1#1 ∧ q i = 0#1
  · rw [if_pos h]
    exact (if_pos ((both _ _).2 h)).trans word_bot
  · rw [if_neg h]
    exact (if_neg fun k => h ((both _ _).1 k)).trans Ideal.ofBits_zero_f32

/-- The bias of a query on a block it does not see. -/
theorem bias_hidden {h : Fin 8} {n : Fin 2048} {e : Fin 8} (p : Hidden (a0 m c) (a1 m c) h n e.val) : bias m c (ix3 h n e) = ⊥ := by
  obtain ⟨_, l, z⟩ := p
  unfold bias
  exact (choice_apply _ _ _).trans (if_pos ⟨(past_iff h n e).2 l, z⟩)

/-- The bias of a query on a block it may see. -/
theorem bias_shown {h : Fin 8} {n : Fin 2048} {e : Fin 8} (p : ¬ Hidden (a0 m c) (a1 m c) h n e.val) : bias m c (ix3 h n e) = 0 := by
  unfold bias
  exact (choice_apply _ _ _).trans (if_neg fun q => p ⟨e.isLt, (past_iff h n e).1 q.1, q.2⟩)

theorem widened_apply (x : (⟨S8x2048x8, .f32⟩ : BufTy).Contents (Elt Ideal)) (h : Fin 8) (n : Fin 2048) (d : Fin 64) :
    widened x (ix3 h n d) = if hd : d.val < 8 then x (ix3 h n ⟨d.val, hd⟩) else 0 := by
  unfold widened
  split_ifs with hd
  · exact concatenate_pair_apply_left (t := S8x2048x64) (s₁ := S8x2048x8) (s₂ := S8x2048x56) 2 _ _ _ _ rfl (ix3 h n ⟨d.val, hd⟩)
      (fun b => by match b with | ⟨0, _⟩ => rfl | ⟨1, _⟩ => rfl | ⟨2, _⟩ => rfl)
  · refine (concatenate_pair_apply_right (t := S8x2048x64) (s₁ := S8x2048x8) (s₂ := S8x2048x56) 2 _ _ _ (ix3 h n d) rfl rfl (ix3 h n ⟨d.val - 8, by omega⟩)
      (fun b hb => by match b with | ⟨0, _⟩ => rfl | ⟨1, _⟩ => rfl | ⟨2, _⟩ => exact absurd rfl hb)
      (by show (d.val - 8) + 8 = d.val; omega)).trans ?_
    exact Ideal.ofBits_zero_f32

end Cert.AttnIdeal.Value
-- ==== Proof.AttnOutputs.lean ====
module

public import proofs.«01_k».proof.Proof.AttnQueries
public import Idealize.ShloMosaic.Lib.KernelVsHost

/-!
What the kernel stores at a grid point: the three gradients, those of queries and keys turned back by the angles.
-/

@[expose] public section

set_option maxRecDepth 16384

noncomputable section

open Idealize.ShloMosaic Idealize.ShloMosaic.TcCoe Idealize.SL.Sem

namespace Cert.AttnIdeal.Point
open Cert.AttnIdeal Cert.AttnIdeal.Gen Cert.AttnIdeal.Gen.kernelRun0_A Cert.AttnIdeal.Stores

variable (B : Point)

/-- Gradients of the keys at a row and a lane. -/
def DKA (k : Fin 2048) (c : Fin 128) : EReal := B.DK ⟨c.val / 64, by omega⟩ 7 k ⟨c.val % 64, by omega⟩

/-- Gradients of the values at a row and a lane. -/
def DVA (k : Fin 2048) (c : Fin 128) : EReal := B.DV ⟨c.val / 64, by omega⟩ 7 k ⟨c.val % 64, by omega⟩

/-- One head's sums, copied into its lanes. -/
theorem lanes_piece {b : ℕ} (hb : b / 64 < 2) (eb : b = 64 * (b / 64)) {G : Fin 2 → Fin 2048 → Fin 64 → EReal} {L : List (View.Piece (Elt Ideal) S2048x64 .f32)} (h : Has L (G ⟨b / 64, hb⟩) fun _ _ => True)
    {mr : Memref sig .tc .vmem S2048x64 .f32} {inb : ∀ i, (![0, 0] : Fin 2 → ℕ) i + S2048x64.size i ≤ S2048x64.size i} {p}
    (y : Fin 2048) (x : Fin 64) (k : Fin 2048) (r : Fin 128) (hk : k.val = 0 + y.val) (hr : r.val = b + x.val) :
    shapeCast S2048x64 (mr.view.readCov L (Rect.unit (s := S2048x64) ![0, 0] S2048x64.size inb).toLoadRect) p (ix2 y x)
      = G ⟨r.val / 64, by omega⟩ k ⟨r.val % 64, by omega⟩ := by
  refine (same (s := S2048x64) _ _ _).trans ((h.load mr.view y x k x hk (by simp) trivial).trans ?_)
  have e1 : (⟨r.val / 64, by omega⟩ : Fin 2) = ⟨b / 64, hb⟩ := Fin.ext (by simp only; omega)
  have e2 : (⟨r.val % 64, by omega⟩ : Fin 64) = x := Fin.ext (by simp only; omega)
  rw [e1, e2]

theorem keys_kept : Has (sl.HS1_2 B.c B.arg1 B.harg1 B.arg2 B.harg2 B.arg3 B.harg3 B.arg4 B.harg4 B.arg5 B.harg5 B.arg6 B.harg6 B.arg7 B.harg7 B.arg16 B.arg18 B.arg19 B.arg20 B.arg21 B.arg23 B.x0 B.x1 B.x2 B.x3 B.x4 B.x5 B.x6) B.DKA fun _ _ => True := by
  unfold sl.HS1_2
  refine Has.cons (fun y x k r hk hr _ => lanes_piece (b := 64) (by decide) (by decide) (G := fun hh => B.DK hh 7) (B.dk 1 7) y x k r hk hr) ?_
  refine Has.cons (fun y x k r hk hr _ => lanes_piece (b := 0) (by decide) (by decide) (G := fun hh => B.DK hh 7) (B.dk 0 7) y x k r hk hr) (Has.none fun k r hk hr h => by omega)

theorem values_kept : Has (sl.HS2_2 B.c B.arg1 B.harg1 B.arg2 B.harg2 B.arg4 B.harg4 B.arg6 B.harg6 B.arg7 B.harg7 B.arg17 B.arg18 B.arg19 B.arg20 B.arg22 B.x0 B.x1 B.x3 B.x5 B.x6) B.DVA fun _ _ => True := by
  unfold sl.HS2_2
  refine Has.cons (fun y x k r hk hr _ => lanes_piece (b := 64) (by decide) (by decide) (G := fun hh => B.DV hh 7) (B.dv 1 7) y x k r hk hr) ?_
  refine Has.cons (fun y x k r hk hr _ => lanes_piece (b := 0) (by decide) (by decide) (G := fun hh => B.DV hh 7) (B.dv 0 7) y x k r hk hr) (Has.none fun k r hk hr h => by omega)

/-- The word that says whether a lane lies in the first half of its head. -/
def halfWord (w : BitVec 32) : BitVec 1 :=
  let n : BitVec 32 := Scalar.select (Scalar.cmpi .eq 64#32 0#32) 1#32 64#32
  let s := IntOp.remsi .vector w n
  IntOp.cmpi .slt (Scalar.select (IntOp.andi (IntOp.xori (IntOp.cmpi .slt s 0#32) (Scalar.cmpi .slt n 0#32)) (IntOp.cmpi .ne s 0#32)) (IntOp.addi s n) s) 32#32

theorem halfWord_eq : ∀ c : Fin 128, halfWord (BitVec.ofNat 32 c.val) = if c.val % 64 < 32 then 1#1 else 0#1 := by decide +kernel

theorem half_apply (n : Fin 2048) (c : Fin 128) : k0_pay680 (ix2 n c) = if c.val % 64 < 32 then 1#1 else 0#1 :=
  (congrArg halfWord (iota_single_apply .tc S2048x128 32 1 iota_S2048x128_d1_w32 (ix2 n c))).trans (halfWord_eq c)

/-- An array turned back by the angles, at a row and a lane. -/
def turned (v cs sn : Vec Ideal S2048x128 .f32) (n : Fin 2048) (c : Fin 128) : EReal :=
  v (ix2 n c) * cs (ix2 n c) + if c.val % 64 < 32 then v (ix2 n ⟨(c.val + 32) % 128, by omega⟩) * sn (ix2 n ⟨(c.val + 32) % 128, by omega⟩)
    else v (ix2 n ⟨(c.val + 96) % 128, by omega⟩) * sn (ix2 n ⟨(c.val + 96) % 128, by omega⟩)

theorem rotate_apply (x : Vec Ideal S2048x128 .f32) (b : BitVec 32) (s : ℕ) (hb : b.toNat % 128 = s) (p) (n : Fin 2048) (c c' : Fin 128) (h : c'.val = (c.val + 128 - s) % 128) :
    dynamicRotate 1 b none x p (ix2 n c) = x (ix2 n c') := by
  refine dynamicRotate_apply 1 b x p (ix2 n c) (ix2 n c') fun a => ?_
  match a with
  | ⟨0, _⟩ => rfl
  | ⟨1, _⟩ => exact h.trans (by rw [← hb]; rfl)

theorem turned_apply (v cs sn : Vec Ideal S2048x128 .f32) (n : Fin 2048) (c : Fin 128) :
    k0_pay681 (F := Ideal) (mulf v cs) (mulf v sn) k0_pay680 (ix2 n c) = turned v cs sn n c := by
  unfold turned
  refine congrArg (v (ix2 n c) * cs (ix2 n c) + ·) ?_
  refine (congrArg₂ (fun m (p : EReal × EReal) => Scalar.select m p.1 p.2) (half_apply n c) (congrArg₂ Prod.mk
    (rotate_apply (mulf (F := Ideal) (φ := .f32) v sn) 96#32 96 rfl rotates_S2048x128_d1 n c ⟨(c.val + 32) % 128, by omega⟩ (by simp only; omega))
    (rotate_apply (mulf (F := Ideal) (φ := .f32) v sn) 32#32 32 rfl rotates_S2048x128_d1 n c ⟨(c.val + 96) % 128, by omega⟩ (by simp only; omega)))).trans ?_
  by_cases h : c.val % 64 < 32
  · rw [if_pos h, if_pos h]; rfl
  · rw [if_neg h, if_neg h]; rfl

/-- A whole array, loaded. -/
theorem whole_input {mr : Memref sig .tc .vmem S2048x128 .f32} (h : mr.IsWhole) (X : Vec Ideal S2048x128 .f32) {inb : ∀ i, (![0, 0] : Fin 2 → ℕ) i + S2048x128.size i ≤ S2048x128.size i} {p} :
    shapeCast S2048x128 (View.readAt (Elt Ideal) mr.view (Rect.unit (s := S2048x128) ![0, 0] S2048x128.size inb).toLoadRect (h.unread X)) p = X :=
  funext fun j => (congrArg _ (eq_ix2 j)).trans ((same (s := S2048x128) _ _ _).trans ((input h X (j 0) (j 1) (j 0) (j 1) (by simp) (by simp)).trans (congrArg X (eq_ix2 j).symm)))

/-- A whole buffer, loaded. -/
theorem whole_kept {L : List (View.Piece (Elt Ideal) S2048x128 .f32)} {G : Fin 2048 → Fin 128 → EReal} (h : Has L G fun _ _ => True) (mr : Memref sig .tc .vmem S2048x128 .f32)
    {inb : ∀ i, (![0, 0] : Fin 2 → ℕ) i + S2048x128.size i ≤ S2048x128.size i} :
    mr.view.readCov L (Rect.unit (s := S2048x128) ![0, 0] S2048x128.size inb).toLoadRect = fun j => G (j 0) (j 1) :=
  funext fun j => (congrArg _ (eq_ix2 j)).trans (h.load mr.view (j 0) (j 1) (j 0) (j 1) (by simp) (by simp) trivial)

/-- An array turned back, from the loads of the angles' tables and of the sums. -/
theorem turned_loaded {L : List (View.Piece (Elt Ideal) S2048x128 .f32)} {G : Fin 2048 → Fin 128 → EReal} (h : Has L G fun _ _ => True) {mr m8 m9 : Memref sig .tc .vmem S2048x128 .f32}
    (h8 : m8.IsWhole) (h9 : m9.IsWhole) (cs sn : Vec Ideal S2048x128 .f32) {inb i8 i9 : ∀ i, (![0, 0] : Fin 2 → ℕ) i + S2048x128.size i ≤ S2048x128.size i} {p8 p9} (n : Fin 2048) (c : Fin 128) :
    k0_pay681 (F := Ideal)
      (mulf (φ := .f32) (mr.view.readCov L (Rect.unit (s := S2048x128) ![0, 0] S2048x128.size inb).toLoadRect)
        (shapeCast S2048x128 (View.readAt (Elt Ideal) m8.view (Rect.unit (s := S2048x128) ![0, 0] S2048x128.size i8).toLoadRect (h8.unread cs)) p8))
      (mulf (φ := .f32) (mr.view.readCov L (Rect.unit (s := S2048x128) ![0, 0] S2048x128.size inb).toLoadRect)
        (shapeCast S2048x128 (View.readAt (Elt Ideal) m9.view (Rect.unit (s := S2048x128) ![0, 0] S2048x128.size i9).toLoadRect (h9.unread sn)) p9)) k0_pay680 (ix2 n c)
      = turned (fun j => G (j 0) (j 1)) cs sn n c := by
  rw [whole_kept h, whole_input, whole_input]
  exact turned_apply _ _ _ n c

end Cert.AttnIdeal.Point
-- ==== Proof.AttnPoint.lean ====
module

public import proofs.«01_k».proof.Proof.AttnOutputs
public import proofs.«01_k».proof.Proof.Gen.AttnIdeal.Value
public import proofs.«01_k».proof.Proof.Gen.AttnGradIdeal.Read
public import Idealize.ShloMosaic.Lib.Pipeline.ValueKit
public import Idealize.ShloMosaic.Lib.Pointwise
public import Idealize.ShloMosaic.Lib.Claim

/-!
The blocks a grid point of the attention kernel is given, and what the point leaves of the three gradients.
-/

@[expose] public section
set_option maxRecDepth 16384
noncomputable section

open Idealize.ShloMosaic Idealize.ShloMosaic.TcCoe Idealize.SL.Sem

namespace Cert.AttnIdeal.Value
open Cert.AttnIdeal.Gen.kernelRun0_A Cert.AttnIdeal Cert.AttnIdeal.Gen Cert.AttnIdeal.Point
variable (m : (ℓ : Loc nD τ sig) → Buf (Elt Ideal) ℓ)

/-- The block every window takes at a grid point. -/
theorem idx : ∀ t : Fin cfg0.N, win0_0.index t = ![0, t.val] ∧ win0_1.index t = ![0, t.val] ∧ win0_2.index t = ![0, t.val] ∧ win0_3.index t = ![0, t.val]
    ∧ win0_4.index t = ![0, t.val] ∧ win0_5.index t = ![t.val, 0, 0] ∧ win0_6.index t = ![0, t.val] ∧ win0_7.index t = ![0, 0] ∧ win0_8.index t = ![0, 0]
    ∧ win0_9.index t = ![0, t.val] ∧ win0_10.index t = ![0, t.val] ∧ win0_11.index t = ![0, t.val] ∧ t.val < 4 :=
  (by decide +kernel : ∀ t : Fin grid0.N, _)

/-- The kernel's grid point `t`: its buffers and the blocks it reads. -/
def point (c : Dev nD) (t : Fin cfg0.N) : Point where
  c := c
  arg1 := ms0_0 t
  harg1 := hs0_0 t
  arg2 := ms0_1 t
  harg2 := hs0_1 t
  arg3 := ms0_2 t
  harg3 := hs0_2 t
  arg4 := ms0_3 t
  harg4 := hs0_3 t
  arg5 := ms0_4 t
  harg5 := hs0_4 t
  arg6 := ms0_5 t
  harg6 := hs0_5 t
  arg7 := ms0_6 t
  harg7 := hs0_6 t
  arg16 := scM0_3
  arg17 := scM0_4
  arg18 := scM0_5
  arg19 := scM0_6
  arg20 := scM0_7
  arg21 := scM0_8
  arg22 := scM0_9
  arg23 := scM0_10
  x0 := iblk m c 0 t
  x1 := iblk m c 1 t
  x2 := iblk m c 2 t
  x3 := iblk m c 3 t
  x4 := iblk m c 4 t
  x5 := iblk m c 5 t
  x6 := iblk m c 6 t

/-- One whole store, read back. -/
theorem out_read {sp : Space} (v : View sig .tc sp S2048x128 .bf16) {inb : ∀ i, (![0, 0] : Fin 2 → ℕ) i + S2048x128.size i ≤ S2048x128.size i} {x : Vec Ideal S2048x128 .bf16}
    {L : List (View.Piece (Elt Ideal) S2048x128 .bf16)} (hL : L = [⟨Rect.unit (s := S2048x128) ![0, 0] S2048x128.size inb, x⟩]) (j : S2048x128.Idx) :
    v.read (Elt Ideal) (v.writes (Elt Ideal) v.junk L) j = x (ix2 (j 0) (j 1)) := by
  subst hL
  refine (View.read_writes_junk_apply_eq_canon (Val := Elt Ideal) v j _).trans ((congrArg _ (eq_ix2 j)).trans ?_)
  exact Stores.canon_hit 0 0 2048 128 inb _ _ (j 0) (j 1) (j 0) (j 1) (by simp) (by simp)

/-- The last cast of the value gradients changes nothing. -/
theorem kept_cast (v : Vec Ideal S2048x128 .f32) (j : S2048x128.Idx) : k0_pay683 (F := Ideal) v j = v j := rfl

/-- The keys' turn is the queries'. -/
theorem keys_cast (a b v : Vec Ideal S2048x128 .f32) : k0_pay682 (F := Ideal) a b v = k0_pay681 (F := Ideal) (mulf (φ := .f32) v a) (mulf (φ := .f32) v b) k0_pay680 := rfl

/-- What point `t` leaves of the value gradients. -/
theorem dv_out (c : Dev nD) (t : Fin cfg0.N) (y : S2048x128.Idx) : (dats m 0 c).after 11 t y = (point m c t).DVA (y 0) (y 1) := by
  rw [after0_11]
  simp only [outsAt0]
  unfold out0_A_11
  refine (out_read VO0_11 (by rfl) y).trans ?_
  unfold sl.r_88 sl.v3550
  unfold point
  generalize iblk m c 0 t = x0
  generalize iblk m c 1 t = x1
  generalize iblk m c 2 t = x2
  generalize iblk m c 3 t = x3
  generalize iblk m c 4 t = x4
  generalize iblk m c 5 t = x5
  generalize iblk m c 6 t = x6
  let B : Point := ⟨c, ms0_0 t, hs0_0 t, ms0_1 t, hs0_1 t, ms0_2 t, hs0_2 t, ms0_3 t, hs0_3 t, ms0_4 t, hs0_4 t, ms0_5 t, hs0_5 t, ms0_6 t, hs0_6 t, scM0_3, scM0_4, scM0_5, scM0_6, scM0_7, scM0_8, scM0_9, scM0_10, x0, x1, x2, x3, x4, x5, x6⟩
  exact (kept_cast _ _).trans (congrFun (whole_kept B.values_kept scM0_2) _)

/-- What point `t` leaves of the key gradients. -/
theorem dk_out (c : Dev nD) (t : Fin cfg0.N) (y : S2048x128.Idx) :
    (dats m 0 c).after 10 t y = turned (fun j => (point m c t).DKA (j 0) (j 1)) (iblk m c 7 t) (iblk m c 8 t) (y 0) (y 1) := by
  rw [after0_10]
  simp only [outsAt0]
  unfold out0_A_10
  refine (out_read VO0_10 (by rfl) y).trans ?_
  unfold sl.r_84 sl.r_85 sl.v3522
  rw [keys_cast]
  unfold k0_pay676 k0_pay677
  unfold point
  generalize iblk m c 0 t = x0
  generalize iblk m c 1 t = x1
  generalize iblk m c 2 t = x2
  generalize iblk m c 3 t = x3
  generalize iblk m c 4 t = x4
  generalize iblk m c 5 t = x5
  generalize iblk m c 6 t = x6
  let B : Point := ⟨c, ms0_0 t, hs0_0 t, ms0_1 t, hs0_1 t, ms0_2 t, hs0_2 t, ms0_3 t, hs0_3 t, ms0_4 t, hs0_4 t, ms0_5 t, hs0_5 t, ms0_6 t, hs0_6 t, scM0_3, scM0_4, scM0_5, scM0_6, scM0_7, scM0_8, scM0_9, scM0_10, x0, x1, x2, x3, x4, x5, x6⟩
  exact turned_loaded B.keys_kept (mr := scM0_1) (hs0_7 t) (hs0_8 t) (iblk m c 7 t) (iblk m c 8 t) (y 0) (y 1)

/-- What point `t` leaves of the query gradients. -/
theorem dq_out (c : Dev nD) (t : Fin cfg0.N) (y : S2048x128.Idx) :
    (dats m 0 c).after 9 t y = turned (fun j => (point m c t).DQA (j 0) (j 1)) (iblk m c 7 t) (iblk m c 8 t) (y 0) (y 1) := by
  rw [after0_9]
  simp only [outsAt0]
  unfold out0_A_9
  refine (out_read VO0_9 (by rfl) y).trans ?_
  unfold sl.r_86 sl.r_87 sl.v3494 k0_pay678 k0_pay679 k0_pay676 k0_pay677
  unfold point
  generalize iblk m c 0 t = x0
  generalize iblk m c 1 t = x1
  generalize iblk m c 2 t = x2
  generalize iblk m c 3 t = x3
  generalize iblk m c 4 t = x4
  generalize iblk m c 5 t = x5
  generalize iblk m c 6 t = x6
  let B : Point := ⟨c, ms0_0 t, hs0_0 t, ms0_1 t, hs0_1 t, ms0_2 t, hs0_2 t, ms0_3 t, hs0_3 t, ms0_4 t, hs0_4 t, ms0_5 t, hs0_5 t, ms0_6 t, hs0_6 t, scM0_3, scM0_4, scM0_5, scM0_6, scM0_7, scM0_8, scM0_9, scM0_10, x0, x1, x2, x3, x4, x5, x6⟩
  exact turned_loaded B.dq (mr := scM0_0) (hs0_7 t) (hs0_8 t) (iblk m c 7 t) (iblk m c 8 t) (y 0) (y 1)

end Cert.AttnIdeal.Value
-- ==== Proof.AttnFits.lean ====
module

public import proofs.«01_k».proof.Proof.AttnLayout
public import proofs.«01_k».proof.Proof.AttnPoint

/-!
The blocks a grid point of the attention kernel reads are the queries, keys, values and gradients of its two heads.
-/

@[expose] public section

set_option maxRecDepth 20000

noncomputable section

open Idealize.ShloMosaic Idealize.ShloMosaic.TcCoe Idealize.SL.Sem

namespace Cert.AttnIdeal.Value
open Cert.AttnIdeal Cert.AttnIdeal.Gen
open Cert.AttnGradIdeal.Read
open Cert.Reals

variable (m : (ℓ : Loc nD τ sig) → Buf (Elt Ideal) ℓ) (c : Dev nD)

theorem point_lt (t : Fin cfg0.N) : t.val < 4 := (idx t).2.2.2.2.2.2.2.2.2.2.2.2

/-- The head a grid point's half works on. -/
def headAt (t : Fin cfg0.N) (hh : Fin 2) : Fin 8 := ⟨2 * t.val + hh.val, by have := point_lt t; omega⟩

/-- The column of an array that a lane of point `t`'s block is. -/
def wide (t : Fin cfg0.N) (e : Fin 128) : Fin 512 := ⟨t.val * 128 + e.val, by have := point_lt t; omega⟩

theorem wide_lane (t : Fin cfg0.N) (hh : Fin 2) (d : Fin 64) : wide t (Point.lane hh d) = column (headAt t hh) d :=
  Fin.ext (by show t.val * 128 + (64 * hh.val + d.val) = 64 * (2 * t.val + hh.val) + d.val; omega)

theorem q_block (t : Fin cfg0.N) (n : Fin 2048) (e : Fin 128) : iblk m c 0 t (ix2 n e) = V m c main_v159 (ix2 n (wide t e)) := by
  unfold iblk
  blk_simp
  generalize V m c main_v159 = y
  refine congrArg _ ?_
  blk_ext [wide, idx t]

theorem k_block (t : Fin cfg0.N) (n : Fin 2048) (e : Fin 128) : iblk m c 1 t (ix2 n e) = V m c main_v161 (ix2 n (wide t e)) := by
  unfold iblk
  blk_simp
  generalize V m c main_v161 = y
  refine congrArg _ ?_
  blk_ext [wide, idx t]

theorem v_block (t : Fin cfg0.N) (n : Fin 2048) (e : Fin 128) : iblk m c 2 t (ix2 n e) = V m c main_v162 (ix2 n (wide t e)) := by
  unfold iblk
  blk_simp
  generalize V m c main_v162 = y
  refine congrArg _ ?_
  blk_ext [wide, idx t]

theorem bias_block (t : Fin cfg0.N) (n : Fin 2048) (e : Fin 128) : iblk m c 3 t (ix2 n e) = V m c main_v165 (ix2 n (wide t e)) := by
  unfold iblk
  blk_simp
  generalize V m c main_v165 = y
  refine congrArg _ ?_
  blk_ext [wide, idx t]

theorem out_block (t : Fin cfg0.N) (n : Fin 2048) (e : Fin 128) : iblk m c 4 t (ix2 n e) = V m c main_v167 (ix2 n (wide t e)) := by
  unfold iblk
  blk_simp
  generalize V m c main_v167 = y
  refine congrArg _ ?_
  blk_ext [wide, idx t]

theorem g_block (t : Fin cfg0.N) (n : Fin 2048) (e : Fin 128) : iblk m c 6 t (ix2 n e) = V m c main_arg3 (ix2 n (wide t e)) := by
  unfold iblk
  blk_simp
  generalize V m c main_arg3 = y
  refine congrArg _ ?_
  blk_ext [wide, idx t]

theorem log_block (t : Fin cfg0.N) (r : Fin 8) (n : Fin 2048) : iblk m c 5 t (ix3 0 r n) = V m c main_v157 (ix3 ⟨t.val, point_lt t⟩ r n) := by
  unfold iblk
  blk_simp
  generalize V m c main_v157 = y
  refine congrArg _ ?_
  blk_ext [idx t]

theorem cos_block (t : Fin cfg0.N) (n : Fin 2048) (e : Fin 128) : iblk m c 7 t (ix2 n e) = V m c main_v185 (ix2 n e) := by
  unfold iblk
  blk_simp
  generalize V m c main_v185 = y
  refine congrArg _ ?_
  blk_ext [idx t]

theorem sin_block (t : Fin cfg0.N) (n : Fin 2048) (e : Fin 128) : iblk m c 8 t (ix2 n e) = V m c main_v190 (ix2 n e) := by
  unfold iblk
  blk_simp
  generalize V m c main_v190 = y
  refine congrArg _ ?_
  blk_ext [idx t]

theorem x0_eq (t : Fin cfg0.N) : (point m c t).x0 = iblk m c 0 t := by simp only [point]
theorem x1_eq (t : Fin cfg0.N) : (point m c t).x1 = iblk m c 1 t := by simp only [point]
theorem x2_eq (t : Fin cfg0.N) : (point m c t).x2 = iblk m c 2 t := by simp only [point]
theorem x3_eq (t : Fin cfg0.N) : (point m c t).x3 = iblk m c 3 t := by simp only [point]
theorem x4_eq (t : Fin cfg0.N) : (point m c t).x4 = iblk m c 4 t := by simp only [point]
theorem x5_eq (t : Fin cfg0.N) : (point m c t).x5 = iblk m c 5 t := by simp only [point]
theorem x6_eq (t : Fin cfg0.N) : (point m c t).x6 = iblk m c 6 t := by simp only [point]

/-- A row of the values, or of the result's gradient, head by head. -/
theorem heads_apply (x2 : (⟨S2048x512, .f32⟩ : BufTy).Contents (Elt Ideal)) (h : Fin 8) (n : Fin 2048) (d : Fin 64) :
    val_main_v54 (F := Ideal) x2 (ix3 h n d) = x2 (ix2 n (column h d)) := by
  rw [val_main_v54_apply, val_main_v53_apply]
  refine congrArg x2 ?_
  have r : (n.val * 8 + h.val) * 64 + d.val = n.val * 512 + (64 * h.val + d.val) := by omega
  refine (eq_ix2 _).trans (congrArg₂ ix2 (Fin.ext ?_) (Fin.ext ?_))
  · show ((n.val * 8 + h.val) * 64 + d.val) / 512 = n.val
    omega
  · show ((n.val * 8 + h.val) * 64 + d.val) % 512 = 64 * h.val + d.val
    omega

theorem result_heads (x3 : (⟨S2048x512, .f32⟩ : BufTy).Contents (Elt Ideal)) (h : Fin 8) (n : Fin 2048) (d : Fin 64) :
    val_main_v135 (F := Ideal) x3 (ix3 h n d) = x3 (ix2 n (column h d)) :=
  heads_apply x3 h n d

variable (h0 : ∀ i, IsReal (a0 m c i)) (h1 : ∀ i, IsReal (a1 m c i)) (h2 : ∀ i, IsReal (a2 m c i)) (h3 : ∀ i, IsReal (a3 m c i))

include h0 h1 h2 h3 in
/-- What the kernel reads at point `t` is what its two heads hold. -/
theorem fits (t : Fin cfg0.N) (hh : Fin 2) :
    (head (a0 m c) (a1 m c) (a2 m c) (a3 m c) (headAt t hh)).Fits (point m c t) hh (Hidden (a0 m c) (a1 m c) (headAt t hh)) := by
  obtain ⟨l0, l1, l2, l3, l4, l5, -, -, l8⟩ := live18 m c
  constructor
  · intro n d
    rw [x0_eq, q_block, V_at, l0, wide_lane, unheads_apply]
    exact q_eq _ _ _ _ h0 _ n d
  · intro n d
    rw [x1_eq, k_block, V_at, l1, wide_lane, unheads_apply]
    exact k_eq _ _ _ _ h1 _ n d
  · intro n d
    rw [x2_eq, v_block, V_at, l2, wide_lane]
    exact (heads_apply _ _ n d).symm.trans (v_eq _ _ _ _ h2 _ n d)
  · intro n d
    rw [x6_eq, g_block, V_at, l8, wide_lane]
    exact (result_heads _ _ n d).symm.trans (g_eq _ _ _ _ h3 _ n d)
  · exact word_eighth
  · intro n d p
    rw [x3_eq, bias_block, V_at, l3, wide_lane]
    refine (unheads_apply (widened (bias m c)) _ n d).trans ((widened_apply _ _ n d).trans ?_)
    obtain ⟨l, -, -⟩ := id p
    rw [dif_pos l]
    exact bias_hidden m c (e := ⟨d.val, l⟩) p
  · intro n d p
    rw [x3_eq, bias_block, V_at, l3, wide_lane]
    refine (unheads_apply (widened (bias m c)) _ n d).trans ((widened_apply _ _ n d).trans ?_)
    split_ifs with l
    · exact bias_shown m c (e := ⟨d.val, l⟩) p
    · rfl
  · exact seen_iff _ _ _
  · intro n d
    rw [x4_eq, out_block, V_at, l4, wide_lane, unheads_apply, outs_apply, column_eq _ _ (a2 m c) (a3 m c) h0 h1]
    have e : (∑ j, val_main_v123 (F := Ideal) (a0 m c) (a1 m c) (ix3 (headAt t hh) n j) * val_main_v54 (F := Ideal) (a2 m c) (ix3 (headAt t hh) j d))
        = ((∑ j, (head (a0 m c) (a1 m c) (a2 m c) (a3 m c) (headAt t hh)).weight n j * (head (a0 m c) (a1 m c) (a2 m c) (a3 m c) (headAt t hh)).v j d : ℝ) : EReal) := by
      rw [coe_sum]
      exact Finset.sum_congr rfl fun j _ => by rw [EReal.coe_mul, weight_eq _ _ (a2 m c) (a3 m c) h0 h1, v_eq (a0 m c) (a1 m c) _ (a3 m c) h2]
    rw [e, div_eq (total_ne _ _ _ _ _ _)]
    refine congrArg _ ?_
    unfold Head.out Head.prob
    rw [Finset.sum_div]
    exact Finset.sum_congr rfl fun j _ => by ring
  · intro n
    rw [x5_eq]
    refine (log_block m c t (Point.hrow hh) n).trans ?_
    rw [V_at, l5]
    refine (logs_apply m c ⟨t.val, point_lt t⟩ hh n).trans ?_
    rw [tops_apply, sums_eq]
    have e1 := top_eq (a0 m c) (a1 m c) (a2 m c) (a3 m c) h0 h1 (headAt t hh) n
    have e2 := column_eq (a0 m c) (a1 m c) (a2 m c) (a3 m c) h0 h1 (headAt t hh) n
    refine (congrArg₂ (fun x y : EReal => x + Ideal.log y) e1 e2).trans ?_
    rw [EReal.coe_add, Ideal.log_coe, if_neg (not_le.2 ((head (a0 m c) (a1 m c) (a2 m c) (a3 m c) (headAt t hh)).total_pos n))]

end Cert.AttnIdeal.Value
-- ==== Proof.AttnRotary.lean ====
module

public import proofs.«01_k».proof.Proof.AttnTurns
public import proofs.«01_k».proof.Proof.AttnFits

/-!
The kernel turns its gradients back by rotating the lanes of two heads at once; the reference turns the halves of each head.
-/

@[expose] public section

set_option maxRecDepth 20000

noncomputable section

open Idealize.ShloMosaic Idealize.ShloMosaic.TcCoe Idealize.SL.Sem

namespace Cert.AttnIdeal.Value
open Cert.AttnIdeal Cert.AttnIdeal.Gen
open Cert.AttnGradIdeal.Read
open Cert.Reals

/-- Four copies side by side. -/
theorem four_apply (x : (⟨S2048x32, .f32⟩ : BufTy).Contents (Elt Ideal)) (n : Fin 2048) (e : Fin 128) :
    shapeCast S2048x128 (broadcastInDim S1x2048x4x32 ![0, 1, 2, 3] bcast_S1x2048x1x32_S1x2048x4x32_0_1_2_3 (shapeCast S1x2048x1x32 x shapeCasts_S2048x32_S1x2048x1x32)) shapeCasts_S1x2048x4x32_S2048x128 (ix2 n e)
      = x (ix2 n ⟨e.val % 32, by omega⟩) := by
  refine (shapeCast_apply _ shapeCasts_S1x2048x4x32_S2048x128 (ix2 n e) (ix4 0 n ⟨e.val / 32, by omega⟩ ⟨e.val % 32, by omega⟩) ?_).trans ?_
  · rewrite [Shape.rowMajor_val_four, Shape.rowMajor_val_two]
    show ((0 * 2048 + n.val) * 4 + e.val / 32) * 32 + e.val % 32 = n.val * 128 + e.val
    omega
  refine (broadcastInDim_apply _ bcast_S1x2048x1x32_S1x2048x4x32_0_1_2_3 _ (ix4 0 n ⟨e.val / 32, by omega⟩ ⟨e.val % 32, by omega⟩) (ix4 0 n 0 ⟨e.val % 32, by omega⟩) (fun a => match a with
    | ⟨0, _⟩ => rfl
    | ⟨1, _⟩ => rfl
    | ⟨2, _⟩ => rfl
    | ⟨3, _⟩ => rfl)).trans ?_
  refine shapeCast_apply x shapeCasts_S2048x32_S1x2048x1x32 _ (ix2 n ⟨e.val % 32, by omega⟩) ?_
  rewrite [Shape.rowMajor_val_four, Shape.rowMajor_val_two]
  show n.val * 32 + e.val % 32 = ((0 * 2048 + n.val) * 1 + 0) * 32 + e.val % 32
  omega

/-- Two copies side by side. -/
theorem two_apply (x : (⟨S2048x64, .f32⟩ : BufTy).Contents (Elt Ideal)) (n : Fin 2048) (e : Fin 128) :
    shapeCast S2048x128 (broadcastInDim S1x2048x2x64 ![0, 1, 2, 3] bcast_S1x2048x1x64_S1x2048x2x64_0_1_2_3 (shapeCast S1x2048x1x64 x shapeCasts_S2048x64_S1x2048x1x64)) shapeCasts_S1x2048x2x64_S2048x128 (ix2 n e)
      = x (ix2 n ⟨e.val % 64, by omega⟩) := by
  refine (shapeCast_apply _ shapeCasts_S1x2048x2x64_S2048x128 (ix2 n e) (ix4 0 n ⟨e.val / 64, by omega⟩ ⟨e.val % 64, by omega⟩) ?_).trans ?_
  · rewrite [Shape.rowMajor_val_four, Shape.rowMajor_val_two]
    show ((0 * 2048 + n.val) * 2 + e.val / 64) * 64 + e.val % 64 = n.val * 128 + e.val
    omega
  refine (broadcastInDim_apply _ bcast_S1x2048x1x64_S1x2048x2x64_0_1_2_3 _ (ix4 0 n ⟨e.val / 64, by omega⟩ ⟨e.val % 64, by omega⟩) (ix4 0 n 0 ⟨e.val % 64, by omega⟩) (fun a => match a with
    | ⟨0, _⟩ => rfl
    | ⟨1, _⟩ => rfl
    | ⟨2, _⟩ => rfl
    | ⟨3, _⟩ => rfl)).trans ?_
  refine shapeCast_apply x shapeCasts_S2048x64_S1x2048x1x64 _ (ix2 n ⟨e.val % 64, by omega⟩) ?_
  rewrite [Shape.rowMajor_val_four, Shape.rowMajor_val_two]
  show n.val * 64 + e.val % 64 = ((0 * 2048 + n.val) * 1 + 0) * 64 + e.val % 64
  omega

/-- An array's negation, then the array. -/
theorem signed_apply (x : (⟨S2048x32, .f32⟩ : BufTy).Contents (Elt Ideal)) (p) (n : Fin 2048) (d : Fin 64) :
    concatenate S2048x64 1 [⟨S2048x32, Host.negf (F := Ideal) (φ := .f32) x⟩, ⟨S2048x32, x⟩] p (ix2 n d)
      = if d.val < 32 then -x (ix2 n ⟨d.val % 32, by omega⟩) else x (ix2 n ⟨d.val % 32, by omega⟩) := by
  split_ifs with hd
  · exact concatenate_pair_apply_left (t := S2048x64) (s₁ := S2048x32) (s₂ := S2048x32) 1 _ _ p _ rfl (ix2 n ⟨d.val % 32, by omega⟩)
      (fun b => by match b with | ⟨0, _⟩ => rfl | ⟨1, _⟩ => show d.val % 32 = d.val; omega)
  · exact concatenate_pair_apply_right (t := S2048x64) (s₁ := S2048x32) (s₂ := S2048x32) 1 _ _ p _ rfl rfl (ix2 n ⟨d.val % 32, by omega⟩)
      (fun b hb => by match b, hb with | ⟨0, _⟩, _ => rfl | ⟨1, _⟩, hb => exact absurd rfl hb) (by show d.val % 32 + 32 = d.val; omega)

theorem cosines_apply (n : Fin 2048) (e : Fin 128) : cosines (ix2 n e) = val_main_v13 (F := Ideal) (ix2 n ⟨e.val % 32, by omega⟩) := by
  unfold cosines
  generalize val_main_v13 (F := Ideal) = x
  exact four_apply x n e

theorem sines_apply (n : Fin 2048) (e : Fin 128) :
    sines (ix2 n e) = if e.val % 64 < 32 then -val_main_v14 (F := Ideal) (ix2 n ⟨e.val % 32, by omega⟩) else val_main_v14 (F := Ideal) (ix2 n ⟨e.val % 32, by omega⟩) := by
  unfold sines
  generalize val_main_v14 (F := Ideal) = x
  refine (two_apply _ n e).trans ((signed_apply x _ n ⟨e.val % 64, by omega⟩).trans ?_)
  have r : (⟨e.val % 64 % 32, by omega⟩ : Fin 32) = ⟨e.val % 32, by omega⟩ := Fin.ext (by show e.val % 64 % 32 = e.val % 32; omega)
  rw [r]

/-- The kernel's turn by rotations of the lanes is the turn of each head's halves. -/
theorem turned_back (v cs sn : Vec Ideal S2048x128 .f32) (y : Fin 8 → Fin 2048 → Fin 64 → EReal) (h : Fin 2 → Fin 8)
    (hv : ∀ n hh d, v (ix2 n (Point.lane hh d)) = y (h hh) n d)
    (hc : ∀ n e, cs (ix2 n e) = cosines (ix2 n e)) (hs : ∀ n e, sn (ix2 n e) = sines (ix2 n e)) (n : Fin 2048) (hh : Fin 2) (d : Fin 64) :
    Point.turned v cs sn n (Point.lane hh d) = back y (h hh) n d := by
  have l : (Point.lane hh d).val = 64 * hh.val + d.val := rfl
  unfold Point.turned back
  rw [hv, hc, cosines_apply]
  by_cases hd : d.val < 32
  · have e1 : (⟨((Point.lane hh d).val + 32) % 128, by omega⟩ : Fin 128) = Point.lane hh ⟨32 + d.val, by omega⟩ :=
      Fin.ext (by show (64 * hh.val + d.val + 32) % 128 = 64 * hh.val + (32 + d.val); omega)
    have e2 : (⟨(Point.lane hh d).val % 32, by omega⟩ : Fin 32) = ⟨d.val, hd⟩ := Fin.ext (by show (64 * hh.val + d.val) % 32 = d.val; omega)
    have e3 : (⟨(Point.lane hh ⟨32 + d.val, by omega⟩).val % 32, by omega⟩ : Fin 32) = ⟨d.val, hd⟩ :=
      Fin.ext (by show (64 * hh.val + (32 + d.val)) % 32 = d.val; omega)
    rw [dif_pos hd, if_pos (by omega), e1, e2, hv, hs, sines_apply, if_neg (by show ¬ (64 * hh.val + (32 + d.val)) % 64 < 32; omega), e3, add_comm]
  · have e1 : (⟨((Point.lane hh d).val + 96) % 128, by omega⟩ : Fin 128) = Point.lane hh ⟨d.val - 32, by omega⟩ :=
      Fin.ext (by show (64 * hh.val + d.val + 96) % 128 = 64 * hh.val + (d.val - 32); omega)
    have e2 : (⟨(Point.lane hh d).val % 32, by omega⟩ : Fin 32) = ⟨d.val - 32, by omega⟩ := Fin.ext (by show (64 * hh.val + d.val) % 32 = d.val - 32; omega)
    have e3 : (⟨(Point.lane hh ⟨d.val - 32, by omega⟩).val % 32, by omega⟩ : Fin 32) = ⟨d.val - 32, by omega⟩ :=
      Fin.ext (by show (64 * hh.val + (d.val - 32)) % 32 = d.val - 32; omega)
    rw [dif_neg hd, if_neg (by omega), e1, e2, hv, hs, sines_apply, if_pos (by show (64 * hh.val + (d.val - 32)) % 64 < 32; omega), e3, mul_neg, neg_mul]

end Cert.AttnIdeal.Value
-- ==== Proof.AttnFinite.lean ====
module

public import proofs.«01_k».proof.Proof.Reals
public import proofs.«01_k».proof.Proof.Gen.Pre_attn_finite
public import proofs.«01_k».proof.Proof.Gen.AttnIdeal.Value
public import Idealize.ShloMosaic.Lib.Pointwise

/-!
What the precondition of the attention claim gives.
-/

@[expose] public section

set_option maxRecDepth 20000

noncomputable section

open Idealize.ShloMosaic Idealize.ShloMosaic.TcCoe Idealize.SL.Sem

namespace Cert.AttnIdeal.Value
open Cert.AttnIdeal Cert.AttnIdeal.Gen
open Cert.Reals

/-- Finite arguments are real numbers. -/
theorem finite_args (x0 x1 x2 x3 : (⟨S2048x512, .f32⟩ : BufTy).Contents (Elt Ideal)) (h : Cert.Pre_attn_finite.fn (F := Ideal) x0 x1 x2 x3 = fun _ => 1#1) :
    (∀ i, IsReal (x0 i)) ∧ (∀ i, IsReal (x1 i)) ∧ (∀ i, IsReal (x2 i)) ∧ (∀ i, IsReal (x3 i)) := by
  have both (a b : BitVec 1) : IntOp.andi a b = 1#1 → a = 1#1 ∧ b = 1#1 := by revert a b; decide
  have e := congrFun h (Shape.Idx.first (by decide))
  unfold Cert.Pre_attn_finite.fn Cert.Pre_attn_finite.fn_part1 at e
  obtain ⟨e, e3⟩ := both _ _ e
  obtain ⟨e, e2⟩ := both _ _ e
  obtain ⟨e0, e1⟩ := both _ _ e
  exact ⟨of_all x0 _ _ (fun _ => rfl) _ _ _ e0, of_all x1 _ _ (fun _ => rfl) _ _ _ e1, of_all x2 _ _ (fun _ => rfl) _ _ _ e2, of_all x3 _ _ (fun _ => rfl) _ _ _ e3⟩

end Cert.AttnIdeal.Value
-- ==== Proof.AttnFinal.lean ====
module

public import proofs.«01_k».proof.Proof.AttnRotary
public import proofs.«01_k».proof.Proof.AttnFinite

/-!
The attention kernel's three arrays are the reference's gradients.
-/

@[expose] public section

set_option maxRecDepth 20000

noncomputable section

open Idealize.ShloMosaic Idealize.ShloMosaic.TcCoe Idealize.SL.Sem

namespace Cert.AttnIdeal.Value
open Cert.AttnIdeal Cert.AttnIdeal.Gen
open Cert.AttnGradIdeal.Read
open Cert.Reals

variable (m : (ℓ : Loc nD τ sig) → Buf (Elt Ideal) ℓ) (c : Dev nD)

variable (h0 : ∀ i, IsReal (a0 m c i)) (h1 : ∀ i, IsReal (a1 m c i)) (h2 : ∀ i, IsReal (a2 m c i)) (h3 : ∀ i, IsReal (a3 m c i))

theorem lane_split (e : Fin 128) : e = Point.lane ⟨e.val / 64, by omega⟩ ⟨e.val % 64, by omega⟩ := Fin.ext (by show e.val = 64 * (e.val / 64) + e.val % 64; omega)
theorem lane_head (hh : Fin 2) (d : Fin 64) : (⟨(Point.lane hh d).val / 64, by omega⟩ : Fin 2) = hh := Fin.ext (by show (64 * hh.val + d.val) / 64 = hh.val; omega)
theorem lane_in (hh : Fin 2) (d : Fin 64) : (⟨(Point.lane hh d).val % 64, by omega⟩ : Fin 64) = d := Fin.ext (by show (64 * hh.val + d.val) % 64 = d.val; omega)
theorem column_head (h : Fin 8) (d : Fin 64) : (⟨(column h d).val / 64, by omega⟩ : Fin 8) = h := Fin.ext (by show (64 * h.val + d.val) / 64 = h.val; omega)
theorem column_in (h : Fin 8) (d : Fin 64) : (⟨(column h d).val % 64, by omega⟩ : Fin 64) = d := Fin.ext (by show (64 * h.val + d.val) % 64 = d.val; omega)
theorem cosines_block (t : Fin cfg0.N) (n : Fin 2048) (e : Fin 128) : iblk m c 7 t (ix2 n e) = cosines (ix2 n e) := by
  rw [cos_block, V_at, (live18 m c).2.2.2.2.2.2.1]
theorem sines_block (t : Fin cfg0.N) (n : Fin 2048) (e : Fin 128) : iblk m c 8 t (ix2 n e) = sines (ix2 n e) := by
  rw [sin_block, V_at, (live18 m c).2.2.2.2.2.2.2.1]

include h0 h1 h2 h3 in
theorem dv_point (t : Fin cfg0.N) (n : Fin 2048) (e : Fin 128) : (point m c t).DVA n e = val_main_v196 (F := Ideal) (a0 m c) (a1 m c) (a3 m c) (ix2 n (wide t e)) := by
  rw [lane_split e, wide_lane]
  generalize (⟨e.val / 64, _⟩ : Fin 2) = hh
  generalize (⟨e.val % 64, _⟩ : Fin 64) = d
  refine Eq.trans ?_ (dv_at _ _ _ n _).symm
  rw [column_head, column_in, dvalue_eq _ _ (a2 m c) _ h0 h1 h3]
  unfold Point.DVA
  rw [lane_head, lane_in]
  exact (fits m c h0 h1 h2 h3 t hh).dvalues n d

theorem dv_final (h : Cert.Pre_attn_finite.fn (F := Ideal) (a0 m c) (a1 m c) (a2 m c) (a3 m c) = fun _ => 1#1) :
    (dats m 0 c).arrAt 11 (cfgs 0).N = val_main_v196 (F := Ideal) (a0 m c) (a1 m c) (a3 m c) := by
  obtain ⟨h0, h1, h2, h3⟩ := finite_args _ _ _ _ h
  refine (dats m 0 c).arrAt_eq_of_covers 11 _ (by decide +kernel) fun t _ y => ?_
  have place : (win0_11.blk t).view.emb y = ix2 (y 0) (wide t (y 1)) := by blk_ext [wide, idx t]
  blk_simp
  rw [dv_out, place]
  exact dv_point m c h0 h1 h2 h3 t (y 0) (y 1)

include h0 h1 h2 h3 in
theorem dk_point (t : Fin cfg0.N) (n : Fin 2048) (e : Fin 128) : Point.turned (fun j => (point m c t).DKA (j 0) (j 1)) (iblk m c 7 t) (iblk m c 8 t) n e = val_main_v195 (F := Ideal) (a0 m c) (a1 m c) (a2 m c) (a3 m c) (ix2 n (wide t e)) := by
  rw [lane_split e, wide_lane]
  generalize (⟨e.val / 64, _⟩ : Fin 2) = hh
  generalize (⟨e.val % 64, _⟩ : Fin 64) = d
  refine Eq.trans ?_ (dk_at _ _ _ _ n _).symm
  rw [column_head, column_in]
  refine turned_back _ _ _ _ (headAt t) (fun n hh d => ?_) (cosines_block m c t) (sines_block m c t) n hh d
  rw [dkey_eq _ _ _ _ h0 h1 h2 h3]
  show (point m c t).DKA n (Point.lane hh d) = _
  unfold Point.DKA
  rw [lane_head, lane_in]
  exact (fits m c h0 h1 h2 h3 t hh).dkeys n d

theorem dk_final (h : Cert.Pre_attn_finite.fn (F := Ideal) (a0 m c) (a1 m c) (a2 m c) (a3 m c) = fun _ => 1#1) :
    (dats m 0 c).arrAt 10 (cfgs 0).N = val_main_v195 (F := Ideal) (a0 m c) (a1 m c) (a2 m c) (a3 m c) := by
  obtain ⟨h0, h1, h2, h3⟩ := finite_args _ _ _ _ h
  refine (dats m 0 c).arrAt_eq_of_covers 10 _ (by decide +kernel) fun t _ y => ?_
  have place : (win0_10.blk t).view.emb y = ix2 (y 0) (wide t (y 1)) := by blk_ext [wide, idx t]
  blk_simp
  rw [dk_out, place]
  exact dk_point m c h0 h1 h2 h3 t (y 0) (y 1)

include h0 h1 h2 h3 in
theorem dq_point (t : Fin cfg0.N) (n : Fin 2048) (e : Fin 128) : Point.turned (fun j => (point m c t).DQA (j 0) (j 1)) (iblk m c 7 t) (iblk m c 8 t) n e = val_main_v194 (F := Ideal) (a0 m c) (a1 m c) (a2 m c) (a3 m c) (ix2 n (wide t e)) := by
  rw [lane_split e, wide_lane]
  generalize (⟨e.val / 64, _⟩ : Fin 2) = hh
  generalize (⟨e.val % 64, _⟩ : Fin 64) = d
  refine Eq.trans ?_ (dq_at _ _ _ _ n _).symm
  rw [column_head, column_in]
  refine turned_back _ _ _ _ (headAt t) (fun n hh d => ?_) (cosines_block m c t) (sines_block m c t) n hh d
  rw [dquery_eq _ _ _ _ h0 h1 h2 h3]
  show (point m c t).DQA n (Point.lane hh d) = _
  unfold Point.DQA
  rw [lane_head, lane_in]
  refine ((fits m c h0 h1 h2 h3 t hh).dqueries _ _ d).trans ?_
  exact congrArg (fun k : Fin 2048 => (((head (a0 m c) (a1 m c) (a2 m c) (a3 m c) (headAt t hh)).dquery k d : ℝ) : EReal))
    (Fin.ext (by show 256 * (n.val / 256) + n.val % 256 = n.val; omega))

theorem dq_final (h : Cert.Pre_attn_finite.fn (F := Ideal) (a0 m c) (a1 m c) (a2 m c) (a3 m c) = fun _ => 1#1) :
    (dats m 0 c).arrAt 9 (cfgs 0).N = val_main_v194 (F := Ideal) (a0 m c) (a1 m c) (a2 m c) (a3 m c) := by
  obtain ⟨h0, h1, h2, h3⟩ := finite_args _ _ _ _ h
  refine (dats m 0 c).arrAt_eq_of_covers 9 _ (by decide +kernel) fun t _ y => ?_
  have place : (win0_9.blk t).view.emb y = ix2 (y 0) (wide t (y 1)) := by blk_ext [wide, idx t]
  blk_simp
  rw [dq_out, place]
  exact dq_point m c h0 h1 h2 h3 t (y 0) (y 1)

end Cert.AttnIdeal.Value
-- ==== Proof.AttnClaim.lean ====
module

public import proofs.«01_k».proof.Proof.AttnFrames
public import proofs.«01_k».proof.Proof.AttnFinal
public import proofs.«01_k».proof.Proof.Gen.Pre_attn_finite

@[expose] public section

set_option maxRecDepth 16384

noncomputable section

open Idealize.ShloMosaic Idealize.SL.Sem

namespace Cert.Proof.Attn

theorem frameIdealPre : Cert.quiescent_AttnIdeal_pre_attn_finite := fun m ρ _ => Cert.AttnIdeal.Gen.frame m ρ

theorem frameReferencePre : Cert.quiescent_AttnGradIdeal_pre_attn_finite := fun m ρ _ => frameReference m ρ trivial

theorem algebraic : Cert.algebraic_AttnIdeal_AttnGradIdeal_pre_attn_finite := by
  intro m ρ m' ρ' hpre hagree
  refine ⟨_, _, _, Cert.AttnIdeal.Value.run_blocks m ρ, ?_⟩
  refine (θ_run Cert.AttnGradIdeal.defs _ _).mono (fun _ h c => ?_) (Cert.AttnGradIdeal.Value.run (F := Ideal) m' ρ')
  obtain ⟨a0, a1, a2, a3⟩ := hagree c
  obtain ⟨h0, h1, h2, hargs⟩ := h c
  refine ⟨h0.trans ?_, h1.trans ?_, h2.trans ?_, hargs⟩
  · refine (Cert.AttnGradIdeal.Read.val_main_v194_eq ..).trans ?_
    simp only [a0, a1, a2, a3]
    exact (Cert.AttnIdeal.Value.dq_final m c (hpre c)).symm
  · refine (Cert.AttnGradIdeal.Read.val_main_v195_eq ..).trans ?_
    simp only [a0, a1, a2, a3]
    exact (Cert.AttnIdeal.Value.dk_final m c (hpre c)).symm
  · refine (Cert.AttnGradIdeal.Read.val_main_v196_eq ..).trans ?_
    simp only [a0, a1, a2, a3]
    exact (Cert.AttnIdeal.Value.dv_final m c (hpre c)).symm

end Cert.Proof.Attn

end

end
-- ==== Proof.UpFrames.lean ====
module

public import proofs.«01_k».proof.Defs
public import proofs.«01_k».proof.Proof.Gen.Up.Frame
public import proofs.«01_k».proof.Proof.Gen.UpIdeal.Frame
public import proofs.«01_k».proof.Proof.Gen.UpHostIdeal.Run
public import Idealize.ShloMosaic.Lib.Quiescent

@[expose] public section

set_option maxRecDepth 16384

noncomputable section

open Idealize.ShloMosaic Idealize.SL.Sem

namespace Cert.Proof.Up

theorem frame : Cert.quiescent_Up := fun m ρ _ => Cert.Up.Gen.frame m ρ

theorem frameIdeal : Cert.quiescent_UpIdeal := fun m ρ _ => Cert.UpIdeal.Gen.frame m ρ

theorem frameReference : Cert.quiescent_UpHostIdeal := fun m ρ _ =>
  (θ_run Cert.UpHostIdeal.defs _ _).mono (fun r h => ⟨fun c => (h c).2.2.2, Idealize.ShloMosaic.sem_eq_zero_of_no_sems (by decide) r.2⟩) (Cert.UpHostIdeal.Value.run (F := Ideal) m ρ)

theorem preserves : Cert.preserves_Up_UpIdeal :=
  IdealRules.named_const.statement Cert.UpIdeal.κ "root_half" .f32 0x3F3504F3#32 (((Real.sqrt 2)⁻¹ : ℝ) : EReal) rfl

end Cert.Proof.Up

end

end
-- ==== Proof.UpFinal.lean ====
module

public import proofs.«01_k».proof.Proof.Gen.UpIdeal.Value
public import proofs.«01_k».proof.Proof.Gen.UpHostIdeal.Read
public import proofs.«01_k».proof.Proof.FfnRows
public import proofs.«01_k».proof.Proof.FfnGrads
public import Idealize.ShloMosaic.Lib.Pipeline.ValueKit
public import Idealize.ShloMosaic.Lib.Pointwise
public import Idealize.ShloMosaic.Lib.Claim

/-!
The forward convolution gate: its three results are those of its reference. The reference's lines are the ones the
gate's gradient starts from, so their entries are known from there.
-/

@[expose] public section

set_option maxRecDepth 16384

noncomputable section

open Idealize.ShloMosaic Idealize.ShloMosaic.TcCoe Idealize.SL.Sem

namespace Cert.UpHostIdeal.Rows
open Cert.UpHostIdeal Cert.UpHostIdeal.Read Cert.Gelu

variable (x0 : (⟨S2048x1024, .f32⟩ : BufTy).Contents (Elt Ideal)) (x1 x2 : (⟨S1024x2816, .f32⟩ : BufTy).Contents (Elt Ideal)) (x3 : (⟨S3x2816, .f32⟩ : BufTy).Contents (Elt Ideal)) (x4 : (⟨S2816, .f32⟩ : BufTy).Contents (Elt Ideal))
variable (i : Fin 2048) (j : Fin 2816)

theorem gelu_at : val_main_v37 (F := Ideal) x0 x1 x3 x4 (ix2 i j) = gelu (Cert.FfnGradIdeal.Rows.conv x0 x1 x3 x4 i j) :=
  Cert.FfnGradIdeal.Rows.gelu_at x0 x1 x3 x4 i j

theorem gate_at : val_main_v0 (F := Ideal) x0 x1 (ix2 i j) = ∑ k : Fin 1024, x0 (ix2 i k) * x1 (ix2 k j) := by
  pointwise [val_main_v0]

theorem up_at : val_main_v1 (F := Ideal) x0 x2 (ix2 i j) = ∑ k : Fin 1024, x0 (ix2 i k) * x2 (ix2 k j) := by
  pointwise [val_main_v1]

theorem act_at : val_main_v39 (F := Ideal) x0 x1 x2 x3 x4 (ix2 i j) = gelu (Cert.FfnGradIdeal.Rows.conv x0 x1 x3 x4 i j) * val_main_v1 (F := Ideal) x0 x2 (ix2 i j) := by
  pointwise [val_main_v39, val_main_v38]
  exact congrArg (fun x : EReal => x * _) (gelu_at ..)

end Cert.UpHostIdeal.Rows

namespace Cert.UpIdeal.Value
open Cert.UpHostIdeal.Read Cert.UpIdeal Cert.UpIdeal.Gen Cert.Gelu
open Cert.FfnBwdIdeal.Value (late_at)

section
variable (h : Vec Ideal S2048x1024 .bf16) (wg wu : Vec Ideal S256x1024 .bf16) (cw : Vec Ideal S3x256 .f32) (cb : Vec Ideal S1x256 .f32)
variable (r : Fin 2048) (j : Fin 256)

/-- A product of the rows with a block of weights. -/
abbrev prod (w : Vec Ideal S256x1024 .bf16) : EReal := ∑ k : Fin 1024, h (ix2 r k) * w (ix2 j k)

theorem gate_at : k0_pay3 (F := Ideal) h wg (ix2 r j) = prod h r j wg := by
  pointwise [k0_pay3, k0_pay2]

theorem up_at : k0_pay4 (F := Ideal) h wu (ix2 r j) = prod h r j wu := by
  pointwise [k0_pay4, k0_pay2]

/-- The convolution of a column with its three weights. -/
abbrev conv : EReal := cw (ix2 2 j) * prod h r j wg + cw (ix2 1 j) * late 1 (fun i => prod h i j wg) r + cw (ix2 0 j) * late 2 (fun i => prod h i j wg) r + cb (ix2 0 j)

theorem act_at (u : FVec Ideal S2048x256 .f32) : k0_pay1 (F := Ideal) u (k0_pay5 cb) (k0_pay6 h wg cw) (k0_pay7 h wg cw) (ix2 r j) = gelu (conv h wg cw cb r j) * u (ix2 r j) := by
  pointwise [k0_pay1, k0_pay5, k0_pay6, k0_pay7]
  simp only [gate_at]
  rw [late_at 1 1#32 rfl (by omega) (fun i => prod h i j wg) _ r _, late_at 2 2#32 rfl (by omega) (fun i => prod h i j wg) _ r _]
  refine congrArg (fun x : EReal => x * u (ix2 r j)) ?_
  exact (congrArg _ (by rw [cdf, one_eq]; rfl)).trans (gelu_eq (conv h wg cw cb r j))

end

variable (m : (ℓ : Loc nD τ sig) → Buf (Elt Ideal) ℓ) (c : Dev nD)

theorem h_entry : V m c main_v0 = (m ((c : Thread nD τ).loc main_arg0)) := by
  entry_read
  rfl

theorem wg_entry (l : Fin 2816) (k : Fin 1024) : V m c main_v2 (ix2 l k) = (m ((c : Thread nD τ).loc main_arg1)) (ix2 k l) := by
  entry_read
  generalize (m ((c : Thread nD τ).loc main_arg1)) = y
  pointwise []

theorem wu_entry (l : Fin 2816) (k : Fin 1024) : V m c main_v4 (ix2 l k) = (m ((c : Thread nD τ).loc main_arg2)) (ix2 k l) := by
  entry_read
  generalize (m ((c : Thread nD τ).loc main_arg2)) = y
  pointwise []

theorem cb_entry (l : Fin 2816) : V m c main_v5 (ix2 0 l) = (m ((c : Thread nD τ).loc main_arg4)) (ix1 l) := by
  entry_read
  generalize (m ((c : Thread nD τ).loc main_arg4)) = y
  pointwise []

/-- The column of the whole array at column `j` of tile `t`. -/
abbrev place (t : Fin cfg0.N) (j : Fin 256) : Fin 2816 := ⟨t.val * 256 + j.val, by have := t.isLt.trans_le (le_of_eq N_0); omega⟩

theorem idx : ∀ t : Fin cfg0.N, win0_0.index t = ![0, 0] ∧ win0_1.index t = ![t.val, 0] ∧ win0_2.index t = ![t.val, 0] ∧ win0_3.index t = ![0, t.val] ∧ win0_4.index t = ![0, t.val]
    ∧ win0_5.index t = ![0, t.val] ∧ win0_6.index t = ![0, t.val] ∧ win0_7.index t = ![0, t.val] := (by decide +kernel : ∀ t : Fin grid0.N, _)

variable (t : Fin cfg0.N) (r : Fin 2048) (j : Fin 256) (k : Fin 1024)

theorem h_block : iblk m c 0 t (ix2 r k) = (m ((c : Thread nD τ).loc main_arg0)) (ix2 r k) := by
  rw [← h_entry m c]
  unfold iblk; blk_simp; generalize V m c main_v0 = y; refine congrArg y ?_; blk_ext [place, idx t]

theorem wg_block : iblk m c 1 t (ix2 j k) = (m ((c : Thread nD τ).loc main_arg1)) (ix2 k (place t j)) := by
  rw [← wg_entry m c]
  unfold iblk; blk_simp; generalize V m c main_v2 = y; refine congrArg y ?_; blk_ext [place, idx t]

theorem wu_block : iblk m c 2 t (ix2 j k) = (m ((c : Thread nD τ).loc main_arg2)) (ix2 k (place t j)) := by
  rw [← wu_entry m c]
  unfold iblk; blk_simp; generalize V m c main_v4 = y; refine congrArg y ?_; blk_ext [place, idx t]

theorem cw_block (q : Fin 3) : iblk m c 3 t (ix2 q j) = (m ((c : Thread nD τ).loc main_arg3)) (ix2 q (place t j)) := by
  blk_point [iblk, V_main_arg3, place, idx t]

theorem cb_block : iblk m c 4 t (ix2 0 j) = (m ((c : Thread nD τ).loc main_arg4)) (ix1 (place t j)) := by
  rw [← cb_entry m c]
  unfold iblk; blk_simp; generalize V m c main_v5 = y; refine congrArg y ?_; blk_ext [place, idx t]

theorem a_eq : k0_pay3 (F := Ideal) (iblk m c 0 t) (iblk m c 1 t) (ix2 r j) = val_main_v0 (F := Ideal) (m ((c : Thread nD τ).loc main_arg0)) (m ((c : Thread nD τ).loc main_arg1)) (ix2 r (place t j)) :=
  (gate_at ..).trans ((Finset.sum_congr rfl fun k _ => congrArg₂ (fun x y : EReal => x * y) (h_block m c t r k) (wg_block m c t j k)).trans (Cert.UpHostIdeal.Rows.gate_at ..).symm)

theorem u_eq : k0_pay4 (F := Ideal) (iblk m c 0 t) (iblk m c 2 t) (ix2 r j) = val_main_v1 (F := Ideal) (m ((c : Thread nD τ).loc main_arg0)) (m ((c : Thread nD τ).loc main_arg2)) (ix2 r (place t j)) :=
  (up_at ..).trans ((Finset.sum_congr rfl fun k _ => congrArg₂ (fun x y : EReal => x * y) (h_block m c t r k) (wu_block m c t j k)).trans (Cert.UpHostIdeal.Rows.up_at ..).symm)

/-- The gate's column in the reference. -/
abbrev inputAt (l : Fin 2816) : Fin 2048 → EReal := Cert.FfnGradIdeal.Rows.col (m ((c : Thread nD τ).loc main_arg0)) (m ((c : Thread nD τ).loc main_arg1)) l

/-- Weight `q` of the convolution at column `l`. -/
abbrev weightAt (q : Fin 3) (l : Fin 2816) : EReal := (m ((c : Thread nD τ).loc main_arg3)) (ix2 q l)

theorem col_eq : (fun i => prod (iblk m c 0 t) i j (iblk m c 1 t)) = inputAt m c (place t j) :=
  funext fun i => (gate_at ..).symm.trans (a_eq m c t i j)

theorem conv_eq : conv (iblk m c 0 t) (iblk m c 1 t) (iblk m c 3 t) (iblk m c 4 t) r j
    = Cert.FfnGradIdeal.Rows.conv (m ((c : Thread nD τ).loc main_arg0)) (m ((c : Thread nD τ).loc main_arg1)) (m ((c : Thread nD τ).loc main_arg3)) (m ((c : Thread nD τ).loc main_arg4)) r (place t j) := by
  have e : conv (iblk m c 0 t) (iblk m c 1 t) (iblk m c 3 t) (iblk m c 4 t) r j = weightAt m c 2 (place t j) * inputAt m c (place t j) r + weightAt m c 1 (place t j) * late 1 (inputAt m c (place t j)) r
      + weightAt m c 0 (place t j) * late 2 (inputAt m c (place t j)) r + (m ((c : Thread nD τ).loc main_arg4)) (ix1 (place t j)) := by
    rw [← col_eq]
    exact congrArg₂ (fun x y : EReal => x + y) (congrArg₂ (fun x y : EReal => x + y) (congrArg₂ (fun x y : EReal => x + y) (congrArg (fun x : EReal => x * _) (cw_block m c t j 2)) (congrArg (fun x : EReal => x * _) (cw_block m c t j 1))) (congrArg (fun x : EReal => x * _) (cw_block m c t j 0))) (cb_block m c t j)
  refine e.trans (congrArg (· + _) ?_)
  rw [mul_comm (weightAt m c 2 _), mul_comm (weightAt m c 1 _), mul_comm (weightAt m c 0 _), add_comm (inputAt m c _ r * _), add_right_comm, add_comm (late 1 _ _ * _)]

theorem act_eq : k0_pay1 (F := Ideal) (k0_pay4 (iblk m c 0 t) (iblk m c 2 t)) (k0_pay5 (iblk m c 4 t)) (k0_pay6 (iblk m c 0 t) (iblk m c 1 t) (iblk m c 3 t)) (k0_pay7 (iblk m c 0 t) (iblk m c 1 t) (iblk m c 3 t)) (ix2 r j)
    = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r (place t j)) := by
  refine (act_at ..).trans (Eq.trans ?_ (Cert.UpHostIdeal.Rows.act_at ..).symm)
  exact congrArg₂ (fun x y : EReal => x * y) (congrArg gelu (conv_eq m c t r j)) (u_eq m c t r j)

theorem a_final : (dats m 0 c).arrAt 5 (cfgs 0).N = val_main_v0 (F := Ideal) (m ((c : Thread nD τ).loc main_arg0)) (m ((c : Thread nD τ).loc main_arg1)) := by
  refine (dats m 0 c).arrAt_eq_of_covers 5 _ (by decide +kernel) fun t _ y => ?_
  have at_place : (win0_5.blk t).view.emb y = ix2 (y 0) (place t (y 1)) := by blk_ext [place, idx t]
  blk_simp
  rw [after0_5]
  frame_out
  exact ((congrArg _ (eq_ix2 y)).trans (a_eq m c t (y 0) (y 1))).trans (congrArg _ at_place.symm)

theorem u_final : (dats m 0 c).arrAt 6 (cfgs 0).N = val_main_v1 (F := Ideal) (m ((c : Thread nD τ).loc main_arg0)) (m ((c : Thread nD τ).loc main_arg2)) := by
  refine (dats m 0 c).arrAt_eq_of_covers 6 _ (by decide +kernel) fun t _ y => ?_
  have at_place : (win0_6.blk t).view.emb y = ix2 (y 0) (place t (y 1)) := by blk_ext [place, idx t]
  blk_simp
  rw [after0_6]
  frame_out
  exact ((congrArg _ (eq_ix2 y)).trans (u_eq m c t (y 0) (y 1))).trans (congrArg _ at_place.symm)

theorem act_final : (dats m 0 c).arrAt 7 (cfgs 0).N = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  have at_place : (win0_7.blk t).view.emb y = ix2 (y 0) (place t (y 1)) := by blk_ext [place, idx t]
  blk_simp
  rw [after0_7]
  frame_out
  exact ((congrArg _ (eq_ix2 y)).trans (act_eq m c t (y 0) (y 1))).trans (congrArg _ at_place.symm)

end Cert.UpIdeal.Value

end
-- ==== Proof.UpClaim.lean ====
module

public import proofs.«01_k».proof.Proof.UpFrames
public import proofs.«01_k».proof.Proof.UpFinal

@[expose] public section

set_option maxRecDepth 16384

noncomputable section

open Idealize.ShloMosaic Idealize.SL.Sem

namespace Cert.Proof.Up

theorem algebraic : Cert.algebraic_UpIdeal_UpHostIdeal := by
  intro m ρ m' ρ' _ hagree
  refine ⟨_, _, _, Cert.UpIdeal.Value.run_blocks m ρ, ?_⟩
  refine (θ_run Cert.UpHostIdeal.defs _ _).mono (fun _ h c => ?_) (Cert.UpHostIdeal.Value.run (F := Ideal) m' ρ')
  obtain ⟨a0, a1, a2, a3, a4⟩ := hagree c
  obtain ⟨h0, h1, h2, hargs⟩ := h c
  refine ⟨h0.trans ?_, h1.trans ?_, h2.trans ?_, hargs⟩
  · refine (Cert.UpHostIdeal.Read.val_main_v0_eq ..).trans ?_
    simp only [a0, a1, a2, a3, a4]
    exact (Cert.UpIdeal.Value.a_final m c).symm
  · refine (Cert.UpHostIdeal.Read.val_main_v1_eq ..).trans ?_
    simp only [a0, a1, a2, a3, a4]
    exact (Cert.UpIdeal.Value.u_final m c).symm
  · refine (Cert.UpHostIdeal.Read.val_main_v39_eq ..).trans ?_
    simp only [a0, a1, a2, a3, a4]
    exact (Cert.UpIdeal.Value.act_final m c).symm

end Cert.Proof.Up

end

end
-- ==== Proof.ProjFrames.lean ====
module

public import proofs.«01_k».proof.Defs
public import proofs.«01_k».proof.Proof.Gen.Proj.Frame
public import proofs.«01_k».proof.Proof.Gen.ProjIdeal.Frame
public import proofs.«01_k».proof.Proof.Gen.ProjHostIdeal.Run
public import Idealize.ShloMosaic.Lib.Quiescent

@[expose] public section

set_option maxRecDepth 16384

noncomputable section

open Idealize.ShloMosaic Idealize.SL.Sem

namespace Cert.Proof.Proj

theorem frame : Cert.quiescent_Proj := fun m ρ _ => Cert.Proj.Gen.frame m ρ

theorem frameIdeal : Cert.quiescent_ProjIdeal := fun m ρ _ => Cert.ProjIdeal.Gen.frame m ρ

theorem frameReference : Cert.quiescent_ProjHostIdeal := fun m ρ _ =>
  (θ_run Cert.ProjHostIdeal.defs _ _).mono (fun r h => ⟨fun c => (h c).2.2.2.2.2.2.2, Idealize.ShloMosaic.sem_eq_zero_of_no_sems (by decide) r.2⟩) (Cert.ProjHostIdeal.Value.run (F := Ideal) m ρ)

theorem preserves : Cert.preserves_Proj_ProjIdeal :=
  trivial

end Cert.Proof.Proj

end

end
-- ==== Proof.ProjRef.lean ====
module

public import proofs.«01_k».proof.Proof.Gen.ProjHostIdeal.Read
public import proofs.«01_k».proof.Proof.AttnHeads
public import Idealize.ShloMosaic.Lib.Pipeline.ValueKit
public import Idealize.ShloMosaic.Lib.Pointwise
public import Idealize.ShloMosaic.Lib.KernelVsHost
public import Idealize.ShloMosaic.Lib.Claim

/-!
The input projection's reference, entry by entry.
-/

@[expose] public section

set_option maxRecDepth 16384

noncomputable section

open Idealize.ShloMosaic Idealize.ShloMosaic.TcCoe Idealize.SL.Sem

namespace Cert.ProjHostIdeal.Rows
open Cert.ProjHostIdeal Cert.ProjHostIdeal.Read

variable (x0 : (⟨S2048x1024, .f32⟩ : BufTy).Contents (Elt Ideal)) (x1 : (⟨S1024x4096, .f32⟩ : BufTy).Contents (Elt Ideal)) (x2 : (⟨S2048, .f32⟩ : BufTy).Contents (Elt Ideal))

/-- The angle's cosine and sine of a row and a pair of lanes. -/
abbrev cosAt (n : Fin 2048) (d : Fin 32) : EReal := val_main_v14 (F := Ideal) (ix2 n d)
abbrev sinAt (n : Fin 2048) (d : Fin 32) : EReal := val_main_v15 (F := Ideal) (ix2 n d)

/-- The lane a head's lane is paired with. -/
abbrev mate (l : Fin 512) : Fin 512 := if l.val % 64 < 32 then ⟨(l.val + 32) % 512, by omega⟩ else ⟨l.val - 32, by omega⟩

/-- A row's heads turned by the angles. -/
def turn (f : Fin 512 → EReal) (n : Fin 2048) (l : Fin 512) : EReal :=
  if l.val % 64 < 32 then f l * cosAt n ⟨l.val % 32, by omega⟩ - f (mate l) * sinAt n ⟨l.val % 32, by omega⟩
  else f l * cosAt n ⟨l.val % 32, by omega⟩ + f (mate l) * sinAt n ⟨l.val % 32, by omega⟩

theorem product_at (n : Fin 2048) (e : Fin 4096) : val_main_v0 (F := Ideal) x0 x1 (ix2 n e) = ∑ k : Fin 1024, x0 (ix2 n k) * x1 (ix2 k e) := by
  pointwise [val_main_v0]

/-- The columns of one section of the projection. -/
abbrev section_ (o : ℕ) (ho : o + 512 ≤ 4096) (n : Fin 2048) (l : Fin 512) : EReal := val_main_v0 (F := Ideal) x0 x1 (ix2 n ⟨o + l.val, by omega⟩)

theorem query_column (n : Fin 2048) (a : Fin 8) (d : Fin 64) (h : a.val * 64 + d.val < 512) : val_main_v37 (F := Ideal) x0 x1 (ix2 n ⟨a.val * 64 + d.val, h⟩) = val_main_v35 (F := Ideal) x0 x1 (ix3 a n d) := by
  unfold val_main_v37 val_main_v36
  generalize val_main_v35 (F := Ideal) x0 x1 = y
  pointwise []

theorem query_low (n : Fin 2048) (a : Fin 8) (d : Fin 32) : val_main_v27 (F := Ideal) x0 x1 (ix3 a n d)
    = section_ x0 x1 0 (by decide) n ⟨a.val * 64 + d.val, by omega⟩ * cosAt n d - section_ x0 x1 0 (by decide) n ⟨a.val * 64 + (32 + d.val), by omega⟩ * sinAt n d := by
  pointwise [val_main_v27, val_main_v23, val_main_v26, val_main_v19, val_main_v20, val_main_v18, val_main_v17, val_main_v16, val_main_v21, val_main_v22, val_main_v24, val_main_v25, section_, cosAt, sinAt]

theorem query_high (n : Fin 2048) (a : Fin 8) (d : Fin 32) : val_main_v34 (F := Ideal) x0 x1 (ix3 a n d)
    = section_ x0 x1 0 (by decide) n ⟨a.val * 64 + (32 + d.val), by omega⟩ * cosAt n d + section_ x0 x1 0 (by decide) n ⟨a.val * 64 + d.val, by omega⟩ * sinAt n d := by
  pointwise [val_main_v34, val_main_v30, val_main_v33, val_main_v19, val_main_v20, val_main_v18, val_main_v17, val_main_v16, val_main_v28, val_main_v29, val_main_v31, val_main_v32, section_, cosAt, sinAt]

theorem query_at (n : Fin 2048) (l : Fin 512) : val_main_v37 (F := Ideal) x0 x1 (ix2 n l) = turn (section_ x0 x1 0 (by decide) n) n l := by
  have hl : l = ⟨(⟨l.val / 64, by omega⟩ : Fin 8).val * 64 + (⟨l.val % 64, by omega⟩ : Fin 64).val, by simp only; omega⟩ := Fin.ext (by simp only; omega)
  refine (congrArg (fun e => val_main_v37 (F := Ideal) x0 x1 (ix2 n e)) hl).trans (((query_column ..).trans (Cert.AttnIdeal.Value.halves_apply _ _ _ _ n _)).trans ?_)
  unfold turn mate
  by_cases h : l.val % 64 < 32
  · have e : (⟨l.val % 64, h⟩ : Fin 32) = ⟨l.val % 32, by omega⟩ := Fin.ext (by simp only; omega)
    rw [dif_pos h, if_pos h, if_pos h, query_low, e]
    refine congrArg₂ (fun p q : EReal => p * _ - q * _) (congrArg _ (Fin.ext ?_)) (congrArg _ (Fin.ext ?_)) <;> simp only <;> omega
  · have e : (⟨l.val % 64 - 32, by omega⟩ : Fin 32) = ⟨l.val % 32, by omega⟩ := Fin.ext (by simp only; omega)
    rw [dif_neg h, if_neg h, if_neg h, query_high, e]
    refine congrArg₂ (fun p q : EReal => p * _ + q * _) (congrArg _ (Fin.ext ?_)) (congrArg _ (Fin.ext ?_)) <;> simp only <;> omega

theorem key_column (n : Fin 2048) (a : Fin 8) (d : Fin 64) (h : a.val * 64 + d.val < 512) : val_main_v59 (F := Ideal) x0 x1 (ix2 n ⟨a.val * 64 + d.val, h⟩) = val_main_v57 (F := Ideal) x0 x1 (ix3 a n d) := by
  unfold val_main_v59 val_main_v58
  generalize val_main_v57 (F := Ideal) x0 x1 = y
  pointwise []

theorem key_low (n : Fin 2048) (a : Fin 8) (d : Fin 32) : val_main_v49 (F := Ideal) x0 x1 (ix3 a n d)
    = section_ x0 x1 512 (by decide) n ⟨a.val * 64 + d.val, by omega⟩ * cosAt n d - section_ x0 x1 512 (by decide) n ⟨a.val * 64 + (32 + d.val), by omega⟩ * sinAt n d := by
  pointwise [val_main_v49, val_main_v45, val_main_v48, val_main_v41, val_main_v42, val_main_v40, val_main_v39, val_main_v38, val_main_v43, val_main_v44, val_main_v46, val_main_v47, section_, cosAt, sinAt]

theorem key_high (n : Fin 2048) (a : Fin 8) (d : Fin 32) : val_main_v56 (F := Ideal) x0 x1 (ix3 a n d)
    = section_ x0 x1 512 (by decide) n ⟨a.val * 64 + (32 + d.val), by omega⟩ * cosAt n d + section_ x0 x1 512 (by decide) n ⟨a.val * 64 + d.val, by omega⟩ * sinAt n d := by
  pointwise [val_main_v56, val_main_v52, val_main_v55, val_main_v41, val_main_v42, val_main_v40, val_main_v39, val_main_v38, val_main_v50, val_main_v51, val_main_v53, val_main_v54, section_, cosAt, sinAt]

theorem key_at (n : Fin 2048) (l : Fin 512) : val_main_v59 (F := Ideal) x0 x1 (ix2 n l) = turn (section_ x0 x1 512 (by decide) n) n l := by
  have hl : l = ⟨(⟨l.val / 64, by omega⟩ : Fin 8).val * 64 + (⟨l.val % 64, by omega⟩ : Fin 64).val, by simp only; omega⟩ := Fin.ext (by simp only; omega)
  refine (congrArg (fun e => val_main_v59 (F := Ideal) x0 x1 (ix2 n e)) hl).trans (((key_column ..).trans (Cert.AttnIdeal.Value.halves_apply _ _ _ _ n _)).trans ?_)
  unfold turn mate
  by_cases h : l.val % 64 < 32
  · have e : (⟨l.val % 64, h⟩ : Fin 32) = ⟨l.val % 32, by omega⟩ := Fin.ext (by simp only; omega)
    rw [dif_pos h, if_pos h, if_pos h, key_low, e]
    refine congrArg₂ (fun p q : EReal => p * _ - q * _) (congrArg _ (Fin.ext ?_)) (congrArg _ (Fin.ext ?_)) <;> simp only <;> omega
  · have e : (⟨l.val % 64 - 32, by omega⟩ : Fin 32) = ⟨l.val % 32, by omega⟩ := Fin.ext (by simp only; omega)
    rw [dif_neg h, if_neg h, if_neg h, key_high, e]
    refine congrArg₂ (fun p q : EReal => p * _ + q * _) (congrArg _ (Fin.ext ?_)) (congrArg _ (Fin.ext ?_)) <;> simp only <;> omega

theorem given_at (k : Fin 1024) (n : Fin 2048) : val_main_v66 (F := Ideal) x0 (ix2 k n) = x0 (ix2 n k) := by
  pointwise [val_main_v66, val_main_v65]

theorem value_at (n : Fin 2048) (l : Fin 512) : val_main_v68 (F := Ideal) x0 x1 (ix2 n l) = section_ x0 x1 1024 (by decide) n l := by
  pointwise [val_main_v68, val_main_v67, section_]

theorem input_at (n : Fin 2048) (l : Fin 512) : val_main_v69 (F := Ideal) x0 x1 (ix2 n l) = section_ x0 x1 1536 (by decide) n l := by
  pointwise [val_main_v69, section_]

theorem gate_at (n : Fin 2048) (l : Fin 2048) : val_main_v79 (F := Ideal) x0 x1 x2 (ix2 n l) = Ideal.logistic (val_main_v0 (F := Ideal) x0 x1 (ix2 n ⟨2048 + l.val, by omega⟩) + x2 (ix1 l)) := by
  pointwise [val_main_v79, val_main_v78, val_main_v77, val_main_v76, val_main_v75, val_main_v74, val_main_v73, val_main_v72, val_main_v71, val_main_v70, val_main_cst_4, val_main_cst_5]
  rfl

theorem mean_at (b : Fin 8) (l : Fin 512) : val_main_v64 (F := Ideal) x0 x1 (ix3 b 0 l) = Ideal.div (∑ k : Fin 256, val_main_v59 (F := Ideal) x0 x1 (ix2 ⟨b.val * 256 + k.val, by omega⟩ l)) (Ideal.ofBits .f32 0x43800000#32) := by
  pointwise [val_main_v64, val_main_v63, val_main_v62, val_main_v61, val_main_v60, val_main_cst_2, val_main_cst_3]

end Cert.ProjHostIdeal.Rows
end
-- ==== Proof.ProjEntry.lean ====
module

public import proofs.«01_k».proof.Proof.Gen.ProjIdeal.Value
public import proofs.«01_k».proof.Proof.ProjRef
public import proofs.«01_k».proof.Proof.AttnRotary
public import Idealize.ShloMosaic.Lib.Pipeline.ValueKit
public import Idealize.ShloMosaic.Lib.Pointwise
public import Idealize.ShloMosaic.Lib.KernelVsHost
public import Idealize.ShloMosaic.Lib.Claim

/-!
What the input projection reads, block by block.
-/

@[expose] public section

set_option maxRecDepth 16384

noncomputable section

open Idealize.ShloMosaic Idealize.ShloMosaic.TcCoe Idealize.SL.Sem

namespace Cert.ProjIdeal.Value
open Cert.ProjIdeal Cert.ProjIdeal.Gen
open Cert.ProjHostIdeal.Rows

variable (m : (ℓ : Loc nD τ sig) → Buf (Elt Ideal) ℓ) (c : Dev nD)

theorem win_entry (n : Fin 8) (k : Fin 1024) (x : Fin 512) : V m c main_v2 (ix3 n k x) = (m ((c : Thread nD τ).loc main_arg1)) (ix2 k ⟨n.val * 512 + x.val, by omega⟩) := by
  entry_read
  generalize (m ((c : Thread nD τ).loc main_arg1)) = y
  pointwise []

theorem bias_entry (l : Fin 2048) : V m c main_v3 (ix2 0 l) = (m ((c : Thread nD τ).loc main_arg2)) (ix1 l) := by
  entry_read
  generalize (m ((c : Thread nD τ).loc main_arg2)) = y
  pointwise []

theorem cos_entry (n : Fin 2048) (e : Fin 128) : V m c main_v21 (ix2 n e) = cosAt n ⟨e.val % 32, by omega⟩ := by
  entry_read
  exact Cert.AttnIdeal.Value.four_apply (Cert.ProjHostIdeal.Read.val_main_v14 (F := Ideal)) n e

theorem sin_entry (n : Fin 2048) (e : Fin 128) : V m c main_v26 (ix2 n e) = if e.val % 64 < 32 then -sinAt n ⟨e.val % 32, by omega⟩ else sinAt n ⟨e.val % 32, by omega⟩ := by
  entry_read
  refine (Cert.AttnIdeal.Value.two_apply _ n e).trans ((Cert.AttnIdeal.Value.signed_apply (Cert.ProjHostIdeal.Read.val_main_v15 (F := Ideal)) _ n ⟨e.val % 64, by omega⟩).trans ?_)
  simp only [Nat.mod_mod_of_dvd _ (show 32 ∣ 64 by decide)]

/-- The row of the whole array at row `r` of block `t`. -/
abbrev place (t : Fin cfg0.N) (r : Fin 256) : Fin 2048 := ⟨256 * t.val + r.val, by have := t.isLt.trans_le (le_of_eq N_0); omega⟩

theorem idx : ∀ t : Fin cfg0.N, win0_0.index t = ![t.val, 0] ∧ win0_1.index t = ![0, 0, 0] ∧ win0_2.index t = ![0, 0] ∧ win0_3.index t = ![t.val, 0] ∧ win0_4.index t = ![t.val, 0]
    ∧ win0_5.index t = ![0, t.val] ∧ win0_6.index t = ![t.val, 0] ∧ win0_7.index t = ![t.val, 0] ∧ win0_8.index t = ![t.val, 0] ∧ win0_9.index t = ![t.val, 0] ∧ win0_10.index t = ![t.val, 0]
    ∧ win0_11.index t = ![t.val, 0, 0] := by decide +kernel

variable (t : Fin cfg0.N) (r : Fin 256)

theorem x_block (k : Fin 1024) : iblk m c 0 t (ix2 r k) = (m ((c : Thread nD τ).loc main_arg0)) (ix2 (place t r) k) := by
  blk_point [iblk, V_main_arg0, place, idx t]

theorem win_block (n : Fin 8) (k : Fin 1024) (x : Fin 512) : iblk m c 1 t (ix3 n k x) = (m ((c : Thread nD τ).loc main_arg1)) (ix2 k ⟨n.val * 512 + x.val, by omega⟩) := by
  rw [← win_entry m c]
  unfold iblk; blk_simp; generalize V m c main_v2 = y; refine congrArg y ?_; blk_ext [place, idx t]

theorem bias_block (l : Fin 2048) : iblk m c 2 t (ix2 0 l) = (m ((c : Thread nD τ).loc main_arg2)) (ix1 l) := by
  rw [← bias_entry m c]
  unfold iblk; blk_simp; generalize V m c main_v3 = y; refine congrArg y ?_; blk_ext [place, idx t]

theorem cos_block (e : Fin 128) : iblk m c 3 t (ix2 r e) = cosAt (place t r) ⟨e.val % 32, by omega⟩ := by
  rw [← cos_entry m c]
  unfold iblk; blk_simp; generalize V m c main_v21 = y; refine congrArg y ?_; blk_ext [place, idx t]

theorem sin_block (e : Fin 128) : iblk m c 4 t (ix2 r e) = if e.val % 64 < 32 then -sinAt (place t r) ⟨e.val % 32, by omega⟩ else sinAt (place t r) ⟨e.val % 32, by omega⟩ := by
  rw [← sin_entry m c]
  unfold iblk; blk_simp; generalize V m c main_v26 = y; refine congrArg y ?_; blk_ext [place, idx t]

end Cert.ProjIdeal.Value
end
-- ==== Proof.ProjRows.lean ====
module

public import proofs.«01_k».proof.Proof.ProjEntry
public import proofs.«01_k».proof.Proof.AttnOutputs
public import Idealize.ShloMosaic.Lib.Pipeline.ValueKit
public import Idealize.ShloMosaic.Lib.Pointwise
public import Idealize.ShloMosaic.Lib.KernelVsHost
public import Idealize.ShloMosaic.Lib.Claim

/-!
One block of the input projection: a section's product, the turn of its lanes, the mean of its rows and the gate.
-/

@[expose] public section

set_option maxRecDepth 16384

noncomputable section

open Idealize.ShloMosaic Idealize.ShloMosaic.TcCoe Idealize.SL.Sem

namespace Cert.ProjIdeal.Value
open Cert.ProjIdeal Cert.ProjIdeal.Gen
open Cert.ProjHostIdeal.Rows

/-- A section's product at a row and a column. -/
theorem product_rows (x : FVec Ideal S256x1024 .bf16) (w : Vec Ideal S1x1024x512 .bf16) (r : Fin 256) (l : Fin 512) : k0_pay23 (F := Ideal) x w (ix2 r l) = ∑ k : Fin 1024, x (ix2 r k) * w (ix3 0 k l) := by
  pointwise [k0_pay23]

theorem value_rows (x : FVec Ideal S256x1024 .bf16) (w : Vec Ideal S1x1024x512 .bf16) (r : Fin 256) (l : Fin 512) : k0_pay37 (F := Ideal) x w (ix2 r l) = k0_pay23 (F := Ideal) x w (ix2 r l) := by
  pointwise [k0_pay37, k0_pay23]

theorem given_rows (x : Vec Ideal S256x1024 .f32) (k : Fin 1024) (r : Fin 256) : k0_pay4 (F := Ideal) x (ix2 k r) = x (ix2 r k) := by
  pointwise [k0_pay4]

theorem mean_rows (x : Vec Ideal S256x512 .f32) (l : Fin 512) : k0_pay36 (F := Ideal) (k0_pay35 (F := Ideal) x) (ix3 0 0 l) = Ideal.div (∑ k : Fin 256, x (ix2 k l)) (Ideal.ofBits .f32 0x43800000#32) := by
  pointwise [k0_pay36, k0_pay35]

/-- The gate's values at one section. -/
def gates (x : FVec Ideal S256x1024 .bf16) (w : Vec Ideal S1x1024x512 .bf16) (b : Vec Ideal S1x512 .f32) : FVec Ideal S256x512 .f32 := k0_pay39 (F := Ideal) x w b

theorem gate_rows (x : FVec Ideal S256x1024 .bf16) (w : Vec Ideal S1x1024x512 .bf16) (b : Vec Ideal S1x512 .f32) (r : Fin 256) (l : Fin 512) : gates x w b (ix2 r l) = Ideal.logistic (k0_pay23 (F := Ideal) x w (ix2 r l) + b (ix2 0 l)) := by
  pointwise [gates, k0_pay39, k0_pay23]

/-- Two heads' lanes turned by the angles' tables. -/
def spun (v cs sn : FVec Ideal S256x128 .f32) : FVec Ideal S256x128 .f32 :=
  addf (mulf v cs) (mulf (select k0_pay10 (dynamicRotate 1 96#32 none v rotates_S256x128_d1) (dynamicRotate 1 32#32 none v rotates_S256x128_d1)) sn)

theorem half_rows (r : Fin 256) (e : Fin 128) : k0_pay10 (ix2 r e) = if e.val % 64 < 32 then 1#1 else 0#1 :=
  (congrArg Cert.AttnIdeal.Point.halfWord (iota_single_apply .tc S256x128 32 1 iota_S256x128_d1_w32 (ix2 r e))).trans (Cert.AttnIdeal.Point.halfWord_eq e)

theorem rotate_rows (x : FVec Ideal S256x128 .f32) (b : BitVec 32) (s : ℕ) (hb : b.toNat % 128 = s) (p) (r : Fin 256) (e e' : Fin 128) (h : e'.val = (e.val + 128 - s) % 128) :
    dynamicRotate 1 b none x p (ix2 r e) = x (ix2 r e') := by
  refine dynamicRotate_apply 1 b x p (ix2 r e) (ix2 r e') fun a => ?_
  match a with
  | ⟨0, _⟩ => rfl
  | ⟨1, _⟩ => exact h.trans (by rw [← hb]; rfl)

theorem spun_rows (v cs sn : FVec Ideal S256x128 .f32) (r : Fin 256) (e : Fin 128) : spun v cs sn (ix2 r e)
    = v (ix2 r e) * cs (ix2 r e) + (if e.val % 64 < 32 then v (ix2 r ⟨(e.val + 32) % 128, by omega⟩) else v (ix2 r ⟨(e.val + 96) % 128, by omega⟩)) * sn (ix2 r e) := by
  refine congrArg (fun z : EReal => v (ix2 r e) * cs (ix2 r e) + z * sn (ix2 r e)) ?_
  refine (congrArg₂ (fun m (p : EReal × EReal) => Scalar.select m p.1 p.2) (half_rows r e) (congrArg₂ Prod.mk
    (rotate_rows v 96#32 96 rfl rotates_S256x128_d1 r e ⟨(e.val + 32) % 128, by omega⟩ (by simp only; omega))
    (rotate_rows v 32#32 32 rfl rotates_S256x128_d1 r e ⟨(e.val + 96) % 128, by omega⟩ (by simp only; omega)))).trans ?_
  by_cases h : e.val % 64 < 32
  · rw [if_pos h, if_pos h]; rfl
  · rw [if_neg h, if_neg h]; rfl

/-- The turned lanes are the reference's, two heads at a time. -/
theorem spun_turn (f : Fin 512 → EReal) (n : Fin 2048) (lo : ℕ) (hlo : lo + 128 ≤ 512) (hd : lo % 128 = 0) (v cs sn : FVec Ideal S256x128 .f32) (r : Fin 256)
    (hv : ∀ e : Fin 128, v (ix2 r e) = f ⟨lo + e.val, by omega⟩) (hc : ∀ e : Fin 128, cs (ix2 r e) = cosAt n ⟨e.val % 32, by omega⟩)
    (hs : ∀ e : Fin 128, sn (ix2 r e) = if e.val % 64 < 32 then -sinAt n ⟨e.val % 32, by omega⟩ else sinAt n ⟨e.val % 32, by omega⟩) (e : Fin 128) (l : Fin 512) (hl : l.val = lo + e.val) :
    spun v cs sn (ix2 r e) = turn f n l := by
  have hx : lo + e.val < 512 := by omega
  obtain rfl : l = ⟨lo + e.val, hx⟩ := Fin.ext hl
  have em : (⟨e.val % 32, by omega⟩ : Fin 32) = ⟨(lo + e.val) % 32, by omega⟩ := Fin.ext (by simp only; omega)
  rw [spun_rows, hc, hs, em]
  unfold turn mate
  simp only []
  by_cases h : e.val % 64 < 32
  · have h' : (lo + e.val) % 64 < 32 := by omega
    rw [if_pos h, if_pos h, if_pos h', if_pos h', hv, hv, mul_neg, sub_eq_add_neg]
    refine congrArg (fun z : EReal => f ⟨lo + e.val, hx⟩ * _ + -(z * _)) (congrArg f (Fin.ext ?_))
    simp only; omega
  · have h' : ¬ (lo + e.val) % 64 < 32 := by omega
    rw [if_neg h, if_neg h, if_neg h', if_neg h', hv, hv]
    refine congrArg (fun z : EReal => f ⟨lo + e.val, hx⟩ * _ + z * _) (congrArg f (Fin.ext ?_))
    simp only; omega

end Cert.ProjIdeal.Value
end
-- ==== Proof.ProjStores.lean ====
module

public import proofs.«01_k».proof.Proof.ProjRows
public import proofs.«01_k».proof.Proof.AttnStores
public import Idealize.ShloMosaic.Lib.Pipeline.ValueKit
public import Idealize.ShloMosaic.Lib.Pointwise
public import Idealize.ShloMosaic.Lib.KernelVsHost
public import Idealize.ShloMosaic.Lib.Claim

/-!
What a block of the input projection stores: turned queries and keys, the gate.
-/

@[expose] public section

set_option maxRecDepth 16384

noncomputable section

open Idealize.ShloMosaic Idealize.ShloMosaic.TcCoe Idealize.SL.Sem

namespace Cert.ProjIdeal.Value
open Cert.ProjIdeal Cert.ProjIdeal.Gen
open Cert.ProjHostIdeal.Rows
open Cert.ProjHostIdeal.Read
open Cert.AttnIdeal.Stores

variable (m : (ℓ : Loc nD τ sig) → Buf (Elt Ideal) ℓ) (c : Dev nD) (t : Fin cfg0.N)

theorem weight_at (n : Fin 8) (inb) (k : Fin 1024) (x : Fin 512) : View.ld (iblk m c 1 t) (Rect.unit (s := S8x1024x512) ![n.val, 0, 0] ![1, 1024, 512] inb) (ix3 0 k x) = (m ((c : Thread nD τ).loc main_arg1)) (ix2 k ⟨n.val * 512 + x.val, by omega⟩) := by
  refine Eq.trans ?_ (win_block m c t n k x)
  generalize iblk m c 1 t = y
  refine congrArg y ?_
  blk_ext []
  · exact (Rect.idx_unit_val ..).trans (Nat.add_zero _)
  · exact (Rect.idx_unit_val ..).trans (Nat.zero_add _)
  · exact (Rect.idx_unit_val ..).trans (Nat.zero_add _)

theorem bias_at (lo : ℕ) (hlo : lo + 512 ≤ 2048) (inb) (x : Fin 512) : View.ld (iblk m c 2 t) (Rect.unit (s := S1x2048) ![0, lo] ![1, 512] inb) (ix2 0 x) = (m ((c : Thread nD τ).loc main_arg2)) (ix1 ⟨lo + x.val, by omega⟩) := by
  refine Eq.trans ?_ (bias_block m c t ⟨lo + x.val, by omega⟩)
  generalize iblk m c 2 t = y
  refine congrArg y ?_
  blk_ext []
  exact Rect.idx_unit_val ..

/-- One section's product in a block. -/
abbrev sectionOf (n : ℕ) (inb : ∀ i, (![n, 0, 0] : Fin 3 → ℕ) i + (![1, 1024, 512] : Fin 3 → ℕ) i ≤ S8x1024x512.size i) : FVec Ideal S256x512 .f32 :=
  k0_pay23 (F := Ideal) (k0_pay3 (iblk m c 0 t)) (View.ld (iblk m c 1 t) (Rect.unit (s := S8x1024x512) ![n, 0, 0] ![1, 1024, 512] inb))

theorem section_at (n : Fin 8) (inb) (r : Fin 256) (x : Fin 512) : sectionOf m c t n.val inb (ix2 r x) = val_main_v0 (F := Ideal) (m ((c : Thread nD τ).loc main_arg0)) (m ((c : Thread nD τ).loc main_arg1)) (ix2 (place t r) ⟨n.val * 512 + x.val, by omega⟩) := by
  refine (product_rows ..).trans ((Finset.sum_congr rfl fun k _ => ?_).trans (product_at _ _ _ _).symm)
  exact congrArg₂ (fun a b : EReal => a * b) (x_block m c t r k) (weight_at m c t n inb k x)

/-- One section of the gate in a block. -/
theorem gate_piece (n : Fin 8) (lo : ℕ) (hlo : lo + 512 ≤ 2048) (hn : n.val * 512 = 2048 + lo) (inb) (inb') (y : Fin 256) (x : Fin 512) (k : Fin 256) (l : Fin 2048) (hk : k.val = 0 + y.val) (hl : l.val = lo + x.val) :
    gates (k0_pay3 (iblk m c 0 t)) (View.ld (iblk m c 1 t) (Rect.unit (s := S8x1024x512) ![n.val, 0, 0] ![1, 1024, 512] inb)) (View.ld (iblk m c 2 t) (Rect.unit (s := S1x2048) ![0, lo] ![1, 512] inb')) (ix2 y x)
      = val_main_v79 (F := Ideal) (m ((c : Thread nD τ).loc main_arg0)) (m ((c : Thread nD τ).loc main_arg1)) (m ((c : Thread nD τ).loc main_arg2)) (ix2 (place t k) l) := by
  obtain rfl : k = y := Fin.ext (hk.trans (Nat.zero_add _))
  have hx : lo + x.val < 2048 := by omega
  obtain rfl : l = ⟨lo + x.val, hx⟩ := Fin.ext hl
  refine (gate_rows ..).trans (Eq.trans ?_ (gate_at _ _ _ _ _).symm)
  refine congrArg Ideal.logistic (congrArg₂ (fun a b : EReal => a + b) ((section_at m c t n inb k x).trans ?_) (bias_at m c t lo hlo inb' x))
  exact congrArg _ (congrArg (fun e => ix2 (place t k) e) (Fin.ext (by simp only; omega)))

/-- The gate a block gives out. -/
def gatesL : List (View.Piece (Elt Ideal) S256x2048 .f32) :=
  [⟨Rect.unit ![0, 1536] ![256, 512] inb_S256x2048_S256x512_0_1536, gates (k0_pay3 (iblk m c 0 t)) (View.ld (iblk m c 1 t) (Rect.unit ![7, 0, 0] ![1, 1024, 512] inb_S8x1024x512_S1x1024x512_7_0_0)) (View.ld (iblk m c 2 t) (Rect.unit ![0, 1536] ![1, 512] inb_S1x2048_S1x512_0_1536))⟩,
    ⟨Rect.unit ![0, 1024] ![256, 512] inb_S256x2048_S256x512_0_1024, gates (k0_pay3 (iblk m c 0 t)) (View.ld (iblk m c 1 t) (Rect.unit ![6, 0, 0] ![1, 1024, 512] inb_S8x1024x512_S1x1024x512_6_0_0)) (View.ld (iblk m c 2 t) (Rect.unit ![0, 1024] ![1, 512] inb_S1x2048_S1x512_0_1024))⟩,
    ⟨Rect.unit ![0, 512] ![256, 512] inb_S256x2048_S256x512_0_512, gates (k0_pay3 (iblk m c 0 t)) (View.ld (iblk m c 1 t) (Rect.unit ![5, 0, 0] ![1, 1024, 512] inb_S8x1024x512_S1x1024x512_5_0_0)) (View.ld (iblk m c 2 t) (Rect.unit ![0, 512] ![1, 512] inb_S1x2048_S1x512_0_512))⟩,
    ⟨Rect.unit ![0, 0] ![256, 512] inb_S256x2048_S256x512_0_0, gates (k0_pay3 (iblk m c 0 t)) (View.ld (iblk m c 1 t) (Rect.unit ![4, 0, 0] ![1, 1024, 512] inb_S8x1024x512_S1x1024x512_4_0_0)) (View.ld (iblk m c 2 t) (Rect.unit ![0, 0] ![1, 512] inb_S1x2048_S1x512_0_0))⟩]

theorem gates_has : Has (gatesL m c t) (fun r l => val_main_v79 (F := Ideal) (m ((c : Thread nD τ).loc main_arg0)) (m ((c : Thread nD τ).loc main_arg1)) (m ((c : Thread nD τ).loc main_arg2)) (ix2 (place t r) l)) fun _ _ => True := by
  unfold gatesL
  refine Has.cons (fun y x k r hk hr _ => gate_piece m c t 7 1536 (by decide) rfl _ _ y x k r hk hr) ?_
  refine Has.cons (fun y x k r hk hr _ => gate_piece m c t 6 1024 (by decide) rfl _ _ y x k r hk hr) ?_
  refine Has.cons (fun y x k r hk hr _ => gate_piece m c t 5 512 (by decide) rfl _ _ y x k r hk hr) ?_
  refine Has.cons (fun y x k r hk hr _ => gate_piece m c t 4 0 (by decide) rfl _ _ y x k r hk hr) ?_
  exact Has.none fun k r hk hr h => by (try dsimp only at h); omega

/-- Two heads of a section, turned. -/
abbrev turned (z : FVec Ideal S256x512 .f32) (lo : ℕ) (h : S256x512.Slices ![0, lo] S256x128) : FVec Ideal S256x128 .f32 :=
  spun (extractStridedSlice S256x128 ![0, lo] z h) (k0_pay5 (iblk m c 3 t)) (k0_pay6 (iblk m c 4 t))

/-- A section's four stores. -/
def turnedL (z : FVec Ideal S256x512 .f32) : List (View.Piece (Elt Ideal) S256x512 .f32) :=
  [⟨Rect.unit ![0, 384] ![256, 128] inb_S256x512_S256x128_0_384, turned m c t z 384 slices_S256x512_o0_384_S256x128⟩,
    ⟨Rect.unit ![0, 256] ![256, 128] inb_S256x512_S256x128_0_256, turned m c t z 256 slices_S256x512_o0_256_S256x128⟩,
    ⟨Rect.unit ![0, 128] ![256, 128] inb_S256x512_S256x128_0_128, turned m c t z 128 slices_S256x512_o0_128_S256x128⟩,
    ⟨Rect.unit ![0, 0] ![256, 128] inb_S256x512_S256x128_0_0, turned m c t z 0 slices_S256x512_o0_0_S256x128⟩]

theorem turned_piece (z : FVec Ideal S256x512 .f32) (f : Fin 256 → Fin 512 → EReal) (hz : ∀ r l, z (ix2 r l) = f r l) (lo : ℕ) (hlo : lo + 128 ≤ 512) (hd : lo % 128 = 0) (h) (y : Fin 256) (x : Fin 128) (k : Fin 256) (l : Fin 512) (hk : k.val = 0 + y.val) (hl : l.val = lo + x.val) :
    turned m c t z lo h (ix2 y x) = turn (f k) (place t k) l := by
  obtain rfl : k = y := Fin.ext (hk.trans (Nat.zero_add _))
  refine spun_turn (f k) (place t k) lo hlo hd _ _ _ k (fun e => ?_) (fun e => ?_) (fun e => ?_) x l hl
  · refine Eq.trans ?_ (hz k ⟨lo + e.val, by omega⟩)
    pointwise []
  · refine Eq.trans ?_ (cos_block m c t k e)
    generalize iblk m c 3 t = y
    pointwise [k0_pay5]
  · refine Eq.trans ?_ (sin_block m c t k e)
    generalize iblk m c 4 t = y
    pointwise [k0_pay6]

theorem turned_has (z : FVec Ideal S256x512 .f32) (f : Fin 256 → Fin 512 → EReal) (hz : ∀ r l, z (ix2 r l) = f r l) : Has (turnedL m c t z) (fun r l => turn (f r) (place t r) l) fun _ _ => True := by
  unfold turnedL
  refine Has.cons (fun y x k r hk hr _ => turned_piece m c t z f hz 384 (by decide) rfl _ y x k r hk hr) ?_
  refine Has.cons (fun y x k r hk hr _ => turned_piece m c t z f hz 256 (by decide) rfl _ y x k r hk hr) ?_
  refine Has.cons (fun y x k r hk hr _ => turned_piece m c t z f hz 128 (by decide) rfl _ y x k r hk hr) ?_
  refine Has.cons (fun y x k r hk hr _ => turned_piece m c t z f hz 0 (by decide) rfl _ y x k r hk hr) ?_
  exact Has.none fun k r hk hr h => by (try dsimp only at h); omega

/-- The queries and the keys a block gives out. -/
abbrev queriesL : List (View.Piece (Elt Ideal) S256x512 .f32) := turnedL m c t (sectionOf m c t 0 inb_S8x1024x512_S1x1024x512_0_0_0)
abbrev keysL : List (View.Piece (Elt Ideal) S256x512 .f32) := turnedL m c t (sectionOf m c t 1 inb_S8x1024x512_S1x1024x512_1_0_0)

theorem queries_has : Has (queriesL m c t) (fun r l => val_main_v37 (F := Ideal) (m ((c : Thread nD τ).loc main_arg0)) (m ((c : Thread nD τ).loc main_arg1)) (ix2 (place t r) l)) fun _ _ => True := fun r l h =>
  (turned_has m c t _ (fun r => section_ (m ((c : Thread nD τ).loc main_arg0)) (m ((c : Thread nD τ).loc main_arg1)) 0 (by decide) (place t r)) (fun r l => (section_at m c t 0 _ r l).trans (congrArg _ (congrArg (fun e => ix2 (place t r) e) (Fin.ext (by simp))))) r l h).trans
    (query_at _ _ _ _).symm

theorem keys_has : Has (keysL m c t) (fun r l => val_main_v59 (F := Ideal) (m ((c : Thread nD τ).loc main_arg0)) (m ((c : Thread nD τ).loc main_arg1)) (ix2 (place t r) l)) fun _ _ => True := fun r l h =>
  (turned_has m c t _ (fun r => section_ (m ((c : Thread nD τ).loc main_arg0)) (m ((c : Thread nD τ).loc main_arg1)) 512 (by decide) (place t r)) (fun r l => (section_at m c t 1 _ r l).trans (congrArg _ (congrArg (fun e => ix2 (place t r) e) (Fin.ext (by simp))))) r l h).trans
    (key_at _ _ _ _).symm

end Cert.ProjIdeal.Value
end
-- ==== Proof.ProjFinal.lean ====
module

public import proofs.«01_k».proof.Proof.ProjStores
public import Idealize.ShloMosaic.Lib.Pipeline.ValueKit
public import Idealize.ShloMosaic.Lib.Pointwise
public import Idealize.ShloMosaic.Lib.KernelVsHost
public import Idealize.ShloMosaic.Lib.Claim

/-!
The seven arrays of the input projection are the reference's.
-/

@[expose] public section

set_option maxRecDepth 16384

noncomputable section

open Idealize.ShloMosaic Idealize.ShloMosaic.TcCoe Idealize.SL.Sem

namespace Cert.ProjIdeal.Value
open Cert.ProjIdeal Cert.ProjIdeal.Gen
open Cert.ProjHostIdeal.Rows
open Cert.ProjHostIdeal.Read
open Cert.AttnIdeal.Stores

variable (m : (ℓ : Loc nD τ sig) → Buf (Elt Ideal) ℓ) (c : Dev nD)

/-- The mean of a block's keys, from the stored keys. -/
theorem mean_eq (t : Fin cfg0.N) (v : Memref sig .tc .vmem S256x512 .f32) (inb) (l : Fin 512) :
    k0_pay36 (F := Ideal) (k0_pay35 (F := Ideal) (v.view.readCov (keysL m c t) (Rect.unit (s := S256x512) ![0, 0] ![256, 512] inb).toLoadRect)) (ix3 0 0 l)
      = val_main_v64 (F := Ideal) (m ((c : Thread nD τ).loc main_arg0)) (m ((c : Thread nD τ).loc main_arg1)) (ix3 ⟨t.val, t.isLt.trans_le (le_of_eq N_0)⟩ 0 l) := by
  refine (mean_rows ..).trans (Eq.trans ?_ (mean_at _ _ _ _).symm)
  refine congrArg (fun e : EReal => Ideal.div e _) (Finset.sum_congr rfl fun k _ => ?_)
  refine ((keys_has m c t).load v.view k l k l (Nat.zero_add _).symm (Nat.zero_add _).symm trivial).trans ?_
  exact congrArg _ (congrArg (fun e => ix2 e l) (Fin.ext (by simp only; omega)))

theorem xt_final : (dats m 0 c).arrAt 5 (cfgs 0).N = val_main_v66 (F := Ideal) (m ((c : Thread nD τ).loc main_arg0)) := by
  refine (dats m 0 c).arrAt_eq_of_covers 5 _ (by decide +kernel) fun t _ y => ?_
  have at_place : (win0_5.blk t).view.emb y = ix2 (y 0) (place t (y 1)) := by blk_ext [place, idx t]
  blk_simp
  rw [after0_5]
  unfold outsAt0
  frame_out
  refine Eq.trans ?_ (congrArg (val_main_v66 (F := Ideal) (m ((c : Thread nD τ).loc main_arg0))) at_place.symm)
  refine (congrArg _ (eq_ix2 y)).trans ?_
  exact (given_rows _ _ _).trans ((x_block m c t (y 1) (y 0)).trans (given_at _ _ _).symm)
theorem q_final : (dats m 0 c).arrAt 6 (cfgs 0).N = val_main_v37 (F := Ideal) (m ((c : Thread nD τ).loc main_arg0)) (m ((c : Thread nD τ).loc main_arg1)) := by
  refine (dats m 0 c).arrAt_eq_of_covers 6 _ (by decide +kernel) fun t _ y => ?_
  have at_place : (win0_6.blk t).view.emb y = ix2 (place t (y 0)) (y 1) := by blk_ext [place, idx t]
  blk_simp
  rw [after0_6]
  unfold outsAt0
  frame_out
  refine Eq.trans ?_ (congrArg (val_main_v37 (F := Ideal) (m ((c : Thread nD τ).loc main_arg0)) (m ((c : Thread nD τ).loc main_arg1))) at_place.symm)
  refine (congrArg _ (eq_ix2 y)).trans ?_
  exact queries_has m c t (y 0) (y 1) trivial
theorem k_final : (dats m 0 c).arrAt 7 (cfgs 0).N = val_main_v59 (F := Ideal) (m ((c : Thread nD τ).loc main_arg0)) (m ((c : Thread nD τ).loc main_arg1)) := by
  refine (dats m 0 c).arrAt_eq_of_covers 7 _ (by decide +kernel) fun t _ y => ?_
  have at_place : (win0_7.blk t).view.emb y = ix2 (place t (y 0)) (y 1) := by blk_ext [place, idx t]
  blk_simp
  rw [after0_7]
  unfold outsAt0
  frame_out
  refine Eq.trans ?_ (congrArg (val_main_v59 (F := Ideal) (m ((c : Thread nD τ).loc main_arg0)) (m ((c : Thread nD τ).loc main_arg1))) at_place.symm)
  refine (congrArg _ (eq_ix2 y)).trans ?_
  exact keys_has m c t (y 0) (y 1) trivial
theorem v_final : (dats m 0 c).arrAt 8 (cfgs 0).N = val_main_v68 (F := Ideal) (m ((c : Thread nD τ).loc main_arg0)) (m ((c : Thread nD τ).loc main_arg1)) := by
  refine (dats m 0 c).arrAt_eq_of_covers 8 _ (by decide +kernel) fun t _ y => ?_
  have at_place : (win0_8.blk t).view.emb y = ix2 (place t (y 0)) (y 1) := by blk_ext [place, idx t]
  blk_simp
  rw [after0_8]
  unfold outsAt0
  frame_out
  refine Eq.trans ?_ (congrArg (val_main_v68 (F := Ideal) (m ((c : Thread nD τ).loc main_arg0)) (m ((c : Thread nD τ).loc main_arg1))) at_place.symm)
  refine (congrArg _ (eq_ix2 y)).trans ?_
  exact (value_rows _ _ _ _).trans ((section_at m c t 2 inb_S8x1024x512_S1x1024x512_2_0_0 (y 0) (y 1)).trans (value_at _ _ _ _).symm)
theorem u_final : (dats m 0 c).arrAt 9 (cfgs 0).N = val_main_v69 (F := Ideal) (m ((c : Thread nD τ).loc main_arg0)) (m ((c : Thread nD τ).loc main_arg1)) := by
  refine (dats m 0 c).arrAt_eq_of_covers 9 _ (by decide +kernel) fun t _ y => ?_
  have at_place : (win0_9.blk t).view.emb y = ix2 (place t (y 0)) (y 1) := by blk_ext [place, idx t]
  blk_simp
  rw [after0_9]
  unfold outsAt0
  frame_out
  refine Eq.trans ?_ (congrArg (val_main_v69 (F := Ideal) (m ((c : Thread nD τ).loc main_arg0)) (m ((c : Thread nD τ).loc main_arg1))) at_place.symm)
  refine (congrArg _ (eq_ix2 y)).trans ?_
  exact (section_at m c t 3 inb_S8x1024x512_S1x1024x512_3_0_0 (y 0) (y 1)).trans (input_at _ _ _ _).symm
theorem g_final : (dats m 0 c).arrAt 10 (cfgs 0).N = val_main_v79 (F := Ideal) (m ((c : Thread nD τ).loc main_arg0)) (m ((c : Thread nD τ).loc main_arg1)) (m ((c : Thread nD τ).loc main_arg2)) := by
  refine (dats m 0 c).arrAt_eq_of_covers 10 _ (by decide +kernel) fun t _ y => ?_
  have at_place : (win0_10.blk t).view.emb y = ix2 (place t (y 0)) (y 1) := by blk_ext [place, idx t]
  blk_simp
  rw [after0_10]
  unfold outsAt0
  frame_out
  refine Eq.trans ?_ (congrArg (val_main_v79 (F := Ideal) (m ((c : Thread nD τ).loc main_arg0)) (m ((c : Thread nD τ).loc main_arg1)) (m ((c : Thread nD τ).loc main_arg2))) at_place.symm)
  refine (congrArg _ (eq_ix2 y)).trans ?_
  exact gates_has m c t (y 0) (y 1) trivial
theorem km_final : (dats m 0 c).arrAt 11 (cfgs 0).N = val_main_v64 (F := Ideal) (m ((c : Thread nD τ).loc main_arg0)) (m ((c : Thread nD τ).loc main_arg1)) := by
  refine (dats m 0 c).arrAt_eq_of_covers 11 _ (by decide +kernel) fun t _ y => ?_
  have at_place : (win0_11.blk t).view.emb y = ix3 ⟨t.val, t.isLt.trans_le (le_of_eq N_0)⟩ 0 (y 2) := by blk_ext [place, idx t]
  blk_simp
  rw [after0_11]
  unfold outsAt0
  frame_out
  refine Eq.trans ?_ (congrArg (val_main_v64 (F := Ideal) (m ((c : Thread nD τ).loc main_arg0)) (m ((c : Thread nD τ).loc main_arg1))) at_place.symm)
  refine (congrArg _ (eq_ix3 y)).trans ?_
  obtain h0 : y 0 = (0 : Fin 1) := Subsingleton.elim (α := Fin 1) _ _
  obtain h1 : y 1 = (0 : Fin 1) := Subsingleton.elim (α := Fin 1) _ _
  rw [h0, h1]
  exact mean_eq m c t (ms0_7 t) inb_S256x512_S256x512_0_0 (y 2)

end Cert.ProjIdeal.Value
end
-- ==== Proof.ProjClaim.lean ====
module

public import proofs.«01_k».proof.Proof.ProjFrames
public import proofs.«01_k».proof.Proof.ProjFinal

@[expose] public section

set_option maxRecDepth 16384

noncomputable section

open Idealize.ShloMosaic Idealize.SL.Sem

namespace Cert.Proof.Proj

theorem algebraic : Cert.algebraic_ProjIdeal_ProjHostIdeal := by
  intro m ρ m' ρ' _ hagree
  refine ⟨_, _, _, _, _, _, _, Cert.ProjIdeal.Value.run_blocks m ρ, ?_⟩
  refine (θ_run Cert.ProjHostIdeal.defs _ _).mono (fun _ h c => ?_) (Cert.ProjHostIdeal.Value.run (F := Ideal) m' ρ')
  obtain ⟨a0, a1, a2⟩ := hagree c
  obtain ⟨h0, h1, h2, h3, h4, h5, h6, hargs⟩ := h c
  refine ⟨h0.trans ?_, h1.trans ?_, h2.trans ?_, h3.trans ?_, h4.trans ?_, h5.trans ?_, h6.trans ?_, hargs⟩
  · refine (Cert.ProjHostIdeal.Read.val_main_v66_eq ..).trans ?_
    simp only [a0, a1, a2]
    exact (Cert.ProjIdeal.Value.xt_final m c).symm
  · refine (Cert.ProjHostIdeal.Read.val_main_v37_eq ..).trans ?_
    simp only [a0, a1, a2]
    exact (Cert.ProjIdeal.Value.q_final m c).symm
  · refine (Cert.ProjHostIdeal.Read.val_main_v59_eq ..).trans ?_
    simp only [a0, a1, a2]
    exact (Cert.ProjIdeal.Value.k_final m c).symm
  · refine (Cert.ProjHostIdeal.Read.val_main_v68_eq ..).trans ?_
    simp only [a0, a1, a2]
    exact (Cert.ProjIdeal.Value.v_final m c).symm
  · refine (Cert.ProjHostIdeal.Read.val_main_v69_eq ..).trans ?_
    simp only [a0, a1, a2]
    exact (Cert.ProjIdeal.Value.u_final m c).symm
  · refine (Cert.ProjHostIdeal.Read.val_main_v79_eq ..).trans ?_
    simp only [a0, a1, a2]
    exact (Cert.ProjIdeal.Value.g_final m c).symm
  · refine (Cert.ProjHostIdeal.Read.val_main_v64_eq ..).trans ?_
    simp only [a0, a1, a2]
    exact (Cert.ProjIdeal.Value.km_final m c).symm

end Cert.Proof.Proj

end

end
-- ==== Proof.MergeFrames.lean ====
module

public import proofs.«01_k».proof.Defs
public import proofs.«01_k».proof.Proof.Gen.Merge.Frame
public import proofs.«01_k».proof.Proof.Gen.MergeIdeal.Frame
public import proofs.«01_k».proof.Proof.Gen.MergeHostIdeal.Run
public import Idealize.ShloMosaic.Lib.Quiescent

@[expose] public section

set_option maxRecDepth 16384

noncomputable section

open Idealize.ShloMosaic Idealize.SL.Sem

namespace Cert.Proof.Merge

theorem frame : Cert.quiescent_Merge := fun m ρ _ => Cert.Merge.Gen.frame m ρ

theorem frameIdeal : Cert.quiescent_MergeIdeal := fun m ρ _ => Cert.MergeIdeal.Gen.frame m ρ

theorem frameReference : Cert.quiescent_MergeHostIdeal := fun m ρ _ =>
  (θ_run Cert.MergeHostIdeal.defs _ _).mono (fun r h => ⟨fun c => (h c).2.2.2.2.2.2.2.2.2.2, Idealize.ShloMosaic.sem_eq_zero_of_no_sems (by decide) r.2⟩) (Cert.MergeHostIdeal.Value.run (F := Ideal) m ρ)

theorem preserves : Cert.preserves_Merge_MergeIdeal :=
  trivial

end Cert.Proof.Merge

end

end
-- ==== Proof.MergeMean.lean ====
module

public import proofs.«01_k».proof.Proof.InpMean
public import proofs.«01_k».proof.Proof.InpGrads
public import proofs.«01_k».proof.Proof.Gen.MergeHostIdeal.Read
public import Idealize.ShloMosaic.Lib.Pipeline.ValueKit
public import Idealize.ShloMosaic.Lib.Pointwise
public import Idealize.ShloMosaic.Lib.Claim

/-!
The reference's running mean of the values to pool: a difference of two running sums over a count is the sum of the
window's values over it.
-/

@[expose] public section

set_option maxRecDepth 16384

noncomputable section

open Idealize.ShloMosaic Idealize.ShloMosaic.WordCmp

namespace Cert.MergeHostIdeal.Rows
open Cert.MergeHostIdeal Cert.MergeHostIdeal.Read Cert.InpMean Cert.Reals
open Cert.InpGradIdeal.Rows (ext foldl_add start_word count_word)

/-- The value `k` rows before row `r`, zero before the first row. -/
def back (f : ℕ → EReal) (r k : ℕ) : EReal := if k ≤ r then f (r - k) else 0

/-- The sum of the first `p` values of a column. -/
def cum (f : ℕ → EReal) (p : ℕ) : EReal := ∑ i ∈ Finset.range p, f i

/-- The values up to a row are those before the window and those of the window. -/
theorem cum_split (f : ℕ → EReal) (r w : ℕ) : cum f (r + 1) = cum f (r + 1 - w) + ∑ k ∈ Finset.range w, back f r k := by
  induction w with
  | zero => simp
  | succ w ih =>
    rw [ih, Finset.sum_range_succ]
    by_cases h : w ≤ r
    · have e : r + 1 - w = (r + 1 - (w + 1)) + 1 := by omega
      have e' : r + 1 - (w + 1) = r - w := by omega
      rw [back, if_pos h, e, cum, Finset.sum_range_succ, e', cum, add_assoc, add_comm (f (r - w))]
    · rw [back, if_neg h, add_zero, show r + 1 - w = r + 1 - (w + 1) by omega]

theorem ext_real {f : Fin 2048 → EReal} (hf : ∀ i, IsReal (f i)) (i : ℕ) : IsReal (ext f i) := by
  unfold ext
  split
  · exact hf _
  · exact ⟨0, rfl⟩

theorem cum_real {f : ℕ → EReal} (hf : ∀ i, IsReal (f i)) (p : ℕ) : IsReal (cum f p) := by
  unfold cum
  induction p with
  | zero => exact ⟨0, rfl⟩
  | succ p ih => rw [Finset.sum_range_succ]; exact ih.add (hf p)

theorem real_add_sub {a : EReal} (h : IsReal a) (b : EReal) : a + b - a = b := by
  obtain ⟨x, rfl⟩ := h
  rw [add_comm]
  exact EReal.add_sub_cancel_right

/-- The values of a window: the difference of two running sums. -/
theorem window {f : ℕ → EReal} (hf : ∀ i, IsReal (f i)) (r w : ℕ) : cum f (r + 1) - cum f (r + 1 - w) = ∑ k ∈ Finset.range w, back f r k := by
  rw [cum_split f r w]
  exact real_add_sub (cum_real hf _) _

/-- A row's pooled value: the mean of the last `w` rows up to it, less the row itself. -/
def pooled (w : ℕ) (f : Fin 2048 → EReal) (r : Fin 2048) : EReal := Ideal.div (∑ k ∈ Finset.range w, back (ext f) r.val k) (cnt w r.val) - f r

open Routing in
/-- The running sum from the first row down. -/
theorem earlier_at {R Rm1 C : ℕ} (hR : Rm1 + 1 = R) (x : (shape2 R C).Idx → EReal) (z : shape0.Idx → EReal) (hz : z = fun _ => 0)
    (h : (shape2 R C).ReduceWindows (![R, 1] : Fin 2 → ℕ) ![1, 1] ![Rm1, 0] ![0, 0] (shape2 R C)) (hu : 0 < shape0.numel) (j : Fin R) (l : Fin C) :
    Host.reduceWindowAdd (F := Ideal) (φ := .f32) ![R, 1] ![1, 1] ![Rm1, 0] ![0, 0] x z h hu (ix2 j l)
      = cum (ext fun i => x (ix2 i l)) (j.val + 1) := by
  subst hz
  have hj := j.isLt
  refine (foldl_add (List.finRange (shape2 R 1).numel) _ (0 : EReal)).trans ?_
  rw [← Fin.sum_univ_def]
  have last : cum (ext fun i => x (ix2 i l)) (j.val + 1) = ∑ n : Fin R, back (ext fun i => x (ix2 i l)) j.val n.val := by
    rw [cum_split _ j.val R, show j.val + 1 - R = 0 by omega, Fin.sum_univ_eq_sum_range (back (ext fun i => x (ix2 i l)) j.val) R]
    exact zero_add _
  rw [last]
  refine (zero_add _).trans (Fintype.sum_equiv ((finCongr (numel_col R)).trans Fin.revPerm) _ _ fun n => ?_)
  have hn := symm_col n
  have hw0 : ((shape2 R 1).rowMajor.symm n 0).val = n.val := by rw [hn]; rfl
  have hw1 : ((shape2 R 1).rowMajor.symm n 1).val = 0 := by rw [hn]; rfl
  have hl := l.isLt
  have hnR : n.val < R := lt_of_lt_of_eq n.isLt (numel_col R)
  have hv : (((finCongr (numel_col R)).trans Fin.revPerm) n).val = R - (n.val + 1) := rfl
  rw [hv]
  unfold back
  split
  · next hin =>
    have h0 := hin 0
    change Rm1 ≤ j.val * 1 + ((shape2 R 1).rowMajor.symm n 0).val ∧ j.val * 1 + ((shape2 R 1).rowMajor.symm n 0).val - Rm1 < R at h0
    rw [hw0] at h0
    rw [if_pos (by omega), ext, dif_pos (by omega)]
    refine congrArg x (funext fun a => Fin.ext ?_)
    match a with
    | ⟨0, _⟩ =>
      show j.val * 1 + ((shape2 R 1).rowMajor.symm n 0).val - Rm1 = j.val - (R - (n.val + 1))
      omega
    | ⟨1, _⟩ =>
      show l.val * 1 + ((shape2 R 1).rowMajor.symm n 1).val - 0 = l.val
      omega
  · next hin =>
    rw [if_neg fun hle => hin fun a => ?_]
    match a with
    | ⟨0, _⟩ =>
      show Rm1 ≤ j.val * 1 + ((shape2 R 1).rowMajor.symm n 0).val ∧ j.val * 1 + ((shape2 R 1).rowMajor.symm n 0).val - Rm1 < R
      omega
    | ⟨1, _⟩ =>
      show 0 ≤ l.val * 1 + ((shape2 R 1).rowMajor.symm n 1).val ∧ l.val * 1 + ((shape2 R 1).rowMajor.symm n 1).val - 0 < C
      omega

variable (x1 : (⟨S2048x512, .f32⟩ : BufTy).Contents (Elt Ideal))

/-- A column of the values to pool. -/
def column (l : Fin 512) (i : Fin 2048) : EReal := x1 (ix2 i l)

/-- The running sums, one row more than there are values. -/
theorem sums_at (p : Fin 2049) (l : Fin 512) : val_main_v3 (F := Ideal) x1 (ix2 p l) = cum (ext (column x1 l)) p.val := by
  have hp := p.isLt
  pointwise [val_main_v3, val_main_v1, val_main_cst]
  by_cases h : p.val < 1
  · simp (disch := omega) only [dif_pos, Ideal.ofBits_zero_f32]
    rw [show p.val = 0 by omega]
    rfl
  · simp (disch := omega) only [dif_neg, dif_pos]
    refine (earlier_at (Rm1 := 2047) rfl x1 (val_main_call0_v0 (F := Ideal)) (funext fun _ => Ideal.ofBits_zero_f32) _ _ _ l).trans ?_
    exact congrArg (cum _) (by simp only; omega)

theorem start_two (n : Fin 2048) : val_main_v22 (F := Ideal) (ix2 n 0) = BitVec.ofNat 32 (n.val + 1 - 2) := by
  pointwise [val_main_v22, val_main_v21, val_main_v18, val_main_v20, val_main_v10, val_main_v17, val_main_v19, val_main_v8, val_main_v9, val_main_c_3, val_main_c_4, val_main_v6, val_main_v7, val_main_c_1, val_main_v4, val_main_v5, val_main_c_0, val_main_c]
  exact start_word 0 n rfl

theorem count_two (n : Fin 2048) (z : Fin 1) : val_main_v25 (F := Ideal) (ix2 n z) = cnt 2 n.val := by
  pointwise [val_main_v25, val_main_v14, val_main_v13, val_main_v12, val_main_v10, val_main_v4, val_main_v11, val_main_v8, val_main_v9, val_main_c_2, val_main_v6, val_main_v7, val_main_c_1, val_main_v5, val_main_c_0, val_main_c]
  exact count_word 0 n rfl

theorem first_two (n : Fin 2048) (z : Fin 128) : val_main_v23 (F := Ideal) x1 (ix2 n z) = val_main_v16 (F := Ideal) x1 (ix2 ⟨n.val + 1 - 2, by omega⟩ z) :=
  Routing.gather_row _ rfl rfl rfl rfl rfl _ _ n z ⟨n.val + 1 - 2, by omega⟩ (start_two n) (by decide)

theorem pooled_two (h1 : ∀ i, IsReal (x1 i)) (n : Fin 2048) (z : Fin 128) : val_main_v29 (F := Ideal) x1 (ix2 n z) = pooled 2 (column x1 ⟨0 + z.val, by omega⟩) n := by
  have hc := count_two n 0
  have hf := first_two x1 n z
  pointwise [val_main_v29, val_main_v28, val_main_v27, val_main_v24, val_main_v15, val_main_v26]
  rw [hc, hf]
  pointwise [val_main_v16]
  simp only [sums_at]
  have hx := window (ext_real (f := column x1 ⟨0 + z.val, by omega⟩) fun i => h1 _) n.val 2
  unfold pooled
  try simp only [Nat.zero_add] at hx
  simp only [← hx, Nat.add_comm 1 n.val, Nat.zero_add]
  rfl

theorem start_four (n : Fin 2048) : val_main_v47 (F := Ideal) (ix2 n 0) = BitVec.ofNat 32 (n.val + 1 - 4) := by
  pointwise [val_main_v47, val_main_v46, val_main_v43, val_main_v45, val_main_v35, val_main_v42, val_main_v44, val_main_v33, val_main_v34, val_main_c_9, val_main_c_10, val_main_v31, val_main_v32, val_main_c_7, val_main_v4, val_main_v30, val_main_c_6, val_main_c_5]
  exact start_word 1 n rfl

theorem count_four (n : Fin 2048) (z : Fin 1) : val_main_v50 (F := Ideal) (ix2 n z) = cnt 4 n.val := by
  pointwise [val_main_v50, val_main_v39, val_main_v38, val_main_v37, val_main_v35, val_main_v4, val_main_v36, val_main_v33, val_main_v34, val_main_c_8, val_main_v31, val_main_v32, val_main_c_7, val_main_v30, val_main_c_6, val_main_c_5]
  exact count_word 1 n rfl

theorem first_four (n : Fin 2048) (z : Fin 128) : val_main_v48 (F := Ideal) x1 (ix2 n z) = val_main_v41 (F := Ideal) x1 (ix2 ⟨n.val + 1 - 4, by omega⟩ z) :=
  Routing.gather_row _ rfl rfl rfl rfl rfl _ _ n z ⟨n.val + 1 - 4, by omega⟩ (start_four n) (by decide)

theorem pooled_four (h1 : ∀ i, IsReal (x1 i)) (n : Fin 2048) (z : Fin 128) : val_main_v54 (F := Ideal) x1 (ix2 n z) = pooled 4 (column x1 ⟨128 + z.val, by omega⟩) n := by
  have hc := count_four n 0
  have hf := first_four x1 n z
  pointwise [val_main_v54, val_main_v53, val_main_v52, val_main_v49, val_main_v40, val_main_v51]
  rw [hc, hf]
  pointwise [val_main_v41]
  simp only [sums_at]
  have hx := window (ext_real (f := column x1 ⟨128 + z.val, by omega⟩) fun i => h1 _) n.val 4
  unfold pooled
  try simp only [Nat.zero_add] at hx
  simp only [← hx, Nat.add_comm 1 n.val, Nat.zero_add]
  rfl

theorem start_eight (n : Fin 2048) : val_main_v72 (F := Ideal) (ix2 n 0) = BitVec.ofNat 32 (n.val + 1 - 8) := by
  pointwise [val_main_v72, val_main_v71, val_main_v68, val_main_v70, val_main_v60, val_main_v67, val_main_v69, val_main_v58, val_main_v59, val_main_c_15, val_main_c_16, val_main_v56, val_main_v57, val_main_c_13, val_main_v4, val_main_v55, val_main_c_12, val_main_c_11]
  exact start_word 2 n rfl

theorem count_eight (n : Fin 2048) (z : Fin 1) : val_main_v75 (F := Ideal) (ix2 n z) = cnt 8 n.val := by
  pointwise [val_main_v75, val_main_v64, val_main_v63, val_main_v62, val_main_v60, val_main_v4, val_main_v61, val_main_v58, val_main_v59, val_main_c_14, val_main_v56, val_main_v57, val_main_c_13, val_main_v55, val_main_c_12, val_main_c_11]
  exact count_word 2 n rfl

theorem first_eight (n : Fin 2048) (z : Fin 128) : val_main_v73 (F := Ideal) x1 (ix2 n z) = val_main_v66 (F := Ideal) x1 (ix2 ⟨n.val + 1 - 8, by omega⟩ z) :=
  Routing.gather_row _ rfl rfl rfl rfl rfl _ _ n z ⟨n.val + 1 - 8, by omega⟩ (start_eight n) (by decide)

theorem pooled_eight (h1 : ∀ i, IsReal (x1 i)) (n : Fin 2048) (z : Fin 128) : val_main_v79 (F := Ideal) x1 (ix2 n z) = pooled 8 (column x1 ⟨256 + z.val, by omega⟩) n := by
  have hc := count_eight n 0
  have hf := first_eight x1 n z
  pointwise [val_main_v79, val_main_v78, val_main_v77, val_main_v74, val_main_v65, val_main_v76]
  rw [hc, hf]
  pointwise [val_main_v66]
  simp only [sums_at]
  have hx := window (ext_real (f := column x1 ⟨256 + z.val, by omega⟩) fun i => h1 _) n.val 8
  unfold pooled
  try simp only [Nat.zero_add] at hx
  simp only [← hx, Nat.add_comm 1 n.val, Nat.zero_add]
  rfl

theorem start_sixteen (n : Fin 2048) : val_main_v97 (F := Ideal) (ix2 n 0) = BitVec.ofNat 32 (n.val + 1 - 16) := by
  pointwise [val_main_v97, val_main_v96, val_main_v93, val_main_v95, val_main_v85, val_main_v92, val_main_v94, val_main_v83, val_main_v84, val_main_c_21, val_main_c_22, val_main_v81, val_main_v82, val_main_c_19, val_main_v4, val_main_v80, val_main_c_18, val_main_c_17]
  exact start_word 3 n rfl

theorem count_sixteen (n : Fin 2048) (z : Fin 1) : val_main_v100 (F := Ideal) (ix2 n z) = cnt 16 n.val := by
  pointwise [val_main_v100, val_main_v89, val_main_v88, val_main_v87, val_main_v85, val_main_v4, val_main_v86, val_main_v83, val_main_v84, val_main_c_20, val_main_v81, val_main_v82, val_main_c_19, val_main_v80, val_main_c_18, val_main_c_17]
  exact count_word 3 n rfl

theorem first_sixteen (n : Fin 2048) (z : Fin 128) : val_main_v98 (F := Ideal) x1 (ix2 n z) = val_main_v91 (F := Ideal) x1 (ix2 ⟨n.val + 1 - 16, by omega⟩ z) :=
  Routing.gather_row _ rfl rfl rfl rfl rfl _ _ n z ⟨n.val + 1 - 16, by omega⟩ (start_sixteen n) (by decide)

theorem pooled_sixteen (h1 : ∀ i, IsReal (x1 i)) (n : Fin 2048) (z : Fin 128) : val_main_v104 (F := Ideal) x1 (ix2 n z) = pooled 16 (column x1 ⟨384 + z.val, by omega⟩) n := by
  have hc := count_sixteen n 0
  have hf := first_sixteen x1 n z
  pointwise [val_main_v104, val_main_v103, val_main_v102, val_main_v99, val_main_v90, val_main_v101]
  rw [hc, hf]
  pointwise [val_main_v91]
  simp only [sums_at]
  have hx := window (ext_real (f := column x1 ⟨384 + z.val, by omega⟩) fun i => h1 _) n.val 16
  unfold pooled
  try simp only [Nat.zero_add] at hx
  simp only [← hx, Nat.add_comm 1 n.val, Nat.zero_add]
  rfl

/-- The pooled values. -/
theorem pooled_at (h1 : ∀ i, IsReal (x1 i)) (r : Fin 2048) (l : Fin 512) : val_main_v105 (F := Ideal) x1 (ix2 r l) = pooled (width l.val) (column x1 l) r := by
  have hl := l.isLt
  pointwise [val_main_v105]
  have hg : l.val / 128 = 0 ∨ l.val / 128 = 1 ∨ l.val / 128 = 2 ∨ l.val / 128 = 3 := by omega
  have hc (k : ℕ) (h) (e : k = l.val) : (⟨k, h⟩ : Fin 512) = l := Fin.ext e
  rcases hg with hg | hg | hg | hg
  · simp (disch := omega) only [dif_pos, dif_neg, zero_add, add_zero]
    rw [width, hg]
    refine (pooled_two x1 h1 r _).trans ?_
    simp (disch := omega) only [hc]
    rfl
  · simp (disch := omega) only [dif_pos, dif_neg, zero_add, add_zero]
    rw [width, hg]
    refine (pooled_four x1 h1 r _).trans ?_
    simp (disch := omega) only [hc]
    rfl
  · simp (disch := omega) only [dif_pos, dif_neg, zero_add, add_zero]
    rw [width, hg]
    refine (pooled_eight x1 h1 r _).trans ?_
    simp (disch := omega) only [hc]
    rfl
  · simp (disch := omega) only [dif_pos, dif_neg, zero_add, add_zero]
    rw [width, hg]
    refine (pooled_sixteen x1 h1 r _).trans ?_
    simp (disch := omega) only [hc]
    rfl

end Cert.MergeHostIdeal.Rows
end
-- ==== Proof.MergeEntry.lean ====
module

public import proofs.«01_k».proof.Proof.Gen.MergeIdeal.Value
public import proofs.«01_k».proof.Proof.MergeMean
public import proofs.«01_k».proof.Proof.InpRows
public import Idealize.ShloMosaic.Lib.Pipeline.ValueKit
public import Idealize.ShloMosaic.Lib.Pointwise
public import Idealize.ShloMosaic.Lib.Claim

/-!
The arrays the branch merge reads, block by block.
-/

@[expose] public section

set_option maxRecDepth 16384

noncomputable section

open Idealize.ShloMosaic Idealize.ShloMosaic.TcCoe Idealize.SL.Sem

namespace Cert.MergeIdeal.Value
open Cert.MergeIdeal Cert.MergeIdeal.Gen Cert.InpMean Cert.Reals

variable (m : (ℓ : Loc nD τ sig) → Buf (Elt Ideal) ℓ)

theorem wba_entry (c : Dev nD) : V m c main_v0 = (m ((c : Thread nD τ).loc main_arg4)) := by
  entry_read
  rfl

theorem wbp_entry (c : Dev nD) : V m c main_v1 = (m ((c : Thread nD τ).loc main_arg7)) := by
  entry_read
  rfl

theorem wout_entry (c : Dev nD) : V m c main_v2 = (m ((c : Thread nD τ).loc main_arg8)) := by
  entry_read
  rfl

theorem scale_entry (c : Dev nD) (l : Fin 512) : V m c main_v3 (ix2 0 l) = (m ((c : Thread nD τ).loc main_arg6)) (ix1 l) := by
  entry_read
  generalize (m ((c : Thread nD τ).loc main_arg6)) = y
  pointwise []

theorem gain_entry (c : Dev nD) (l : Fin 1024) : V m c main_v4 (ix2 0 l) = (m ((c : Thread nD τ).loc main_arg9)) (ix1 l) := by
  entry_read
  generalize (m ((c : Thread nD τ).loc main_arg9)) = y
  pointwise []

theorem shift_entry (c : Dev nD) (l : Fin 1024) : V m c main_v5 (ix2 0 l) = (m ((c : Thread nD τ).loc main_arg10)) (ix1 l) := by
  entry_read
  generalize (m ((c : Thread nD τ).loc main_arg10)) = y
  pointwise []

/-- The row of the whole array at row `r` of tile `t`. -/
abbrev place (t : Fin cfg0.N) (r : Fin 256) : Fin 2048 := ⟨256 * t.val + r.val, by have := t.isLt.trans_le (le_of_eq N_0); omega⟩

theorem coord : ∀ t : Fin cfg0.N, (grid0.coords t 0).val = t.val := by decide +kernel

theorem idx : ∀ t : Fin cfg0.N, win0_0.index t = ![t.val, 0] ∧ win0_1.index t = ![t.val, 0] ∧ win0_2.index t = ![t.val * 16 - 1, 0] ∧ win0_3.index t = ![t.val, 0] ∧ win0_4.index t = ![t.val, 0]
    ∧ win0_5.index t = ![0, 0] ∧ win0_6.index t = ![0, 0] ∧ win0_7.index t = ![0, 0] ∧ win0_8.index t = ![0, 0, 0] ∧ win0_9.index t = ![0, 0] ∧ win0_10.index t = ![0, 0] ∧ win0_11.index t = ![0, 0]
    ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0]
    ∧ win0_18.index t = ![t.val, 0] ∧ win0_19.index t = ![t.val, 0] ∧ win0_20.index t = ![t.val, 0] ∧ win0_21.index t = ![t.val, 0] := by decide +kernel

variable (c : Dev nD) (t : Fin cfg0.N) (r : Fin 256)

theorem o_block (l : Fin 512) : iblk m c 0 t (ix2 r l) = (m ((c : Thread nD τ).loc main_arg0)) (ix2 (place t r) l) := by
  blk_point [iblk, V_main_arg0, place, idx t]

theorem u_block (l : Fin 512) : iblk m c 1 t (ix2 r l) = (m ((c : Thread nD τ).loc main_arg1)) (ix2 (place t r) l) := by
  blk_point [iblk, V_main_arg1, place, idx t]

theorem gate_block (l : Fin 2048) : iblk m c 3 t (ix2 r l) = (m ((c : Thread nD τ).loc main_arg2)) (ix2 (place t r) l) := by
  blk_point [iblk, V_main_arg2, place, idx t]

theorem x_block (l : Fin 1024) : iblk m c 4 t (ix2 r l) = (m ((c : Thread nD τ).loc main_arg3)) (ix2 (place t r) l) := by
  blk_point [iblk, V_main_arg3, place, idx t]

theorem prev_block (ht : 0 < t.val) (q : Fin 16) (l : Fin 512) : iblk m c 2 t (ix2 q l) = (m ((c : Thread nD τ).loc main_arg1)) (ix2 ⟨256 * t.val - 16 + q.val, by have := t.isLt.trans_le (le_of_eq N_0); omega⟩ l) := by
  have h := (idx t).2.2.1
  blk_point [iblk, V_main_arg1, place, h]

theorem pool_block (g : Fin 4) (p q : Fin 128) : iblk m c 8 t (ix3 g p q) = (m ((c : Thread nD τ).loc main_arg5)) (ix3 g p q) := by
  blk_point [iblk, V_main_arg5, place, idx t]

theorem wba_block (k : Fin 512) (j : Fin 1024) : iblk m c 5 t (ix2 k j) = (m ((c : Thread nD τ).loc main_arg4)) (ix2 k j) := by
  rw [← wba_entry m c]
  unfold iblk; blk_simp; generalize V m c main_v0 = y; refine congrArg y ?_; blk_ext [place, idx t]

theorem wbp_block (k : Fin 512) (j : Fin 1024) : iblk m c 6 t (ix2 k j) = (m ((c : Thread nD τ).loc main_arg7)) (ix2 k j) := by
  rw [← wbp_entry m c]
  unfold iblk; blk_simp; generalize V m c main_v1 = y; refine congrArg y ?_; blk_ext [place, idx t]

theorem wout_block (k : Fin 1024) (j : Fin 1024) : iblk m c 7 t (ix2 k j) = (m ((c : Thread nD τ).loc main_arg8)) (ix2 k j) := by
  rw [← wout_entry m c]
  unfold iblk; blk_simp; generalize V m c main_v2 = y; refine congrArg y ?_; blk_ext [place, idx t]

theorem scale_block (l : Fin 512) : iblk m c 9 t (ix2 0 l) = (m ((c : Thread nD τ).loc main_arg6)) (ix1 l) := by
  rw [← scale_entry m c]
  unfold iblk; blk_simp; generalize V m c main_v3 = y; refine congrArg y ?_; blk_ext [place, idx t]

theorem gain_block (l : Fin 1024) : iblk m c 10 t (ix2 0 l) = (m ((c : Thread nD τ).loc main_arg9)) (ix1 l) := by
  rw [← gain_entry m c]
  unfold iblk; blk_simp; generalize V m c main_v4 = y; refine congrArg y ?_; blk_ext [place, idx t]

theorem shift_block (l : Fin 1024) : iblk m c 11 t (ix2 0 l) = (m ((c : Thread nD τ).loc main_arg10)) (ix1 l) := by
  rw [← shift_entry m c]
  unfold iblk; blk_simp; generalize V m c main_v5 = y; refine congrArg y ?_; blk_ext [place, idx t]

end Cert.MergeIdeal.Value
end
-- ==== Proof.MergePool.lean ====
module

public import proofs.«01_k».proof.Proof.MergeEntry
public import Idealize.ShloMosaic.Lib.Pipeline.ValueKit
public import Idealize.ShloMosaic.Lib.Pointwise
public import Idealize.ShloMosaic.Lib.Claim

/-!
One block of the branch merge: its running means, from the loads of the kept rows.
-/

@[expose] public section

set_option maxRecDepth 16384

noncomputable section

open Idealize.ShloMosaic Idealize.ShloMosaic.TcCoe Idealize.SL.Sem

namespace Cert.MergeIdeal.Value
open Cert.MergeIdeal Cert.MergeIdeal.Gen Cert.InpMean Cert.Reals

variable (i : grid0.Coords) (v5 : Vec Ideal S256x512 .f32) (f : ℕ → EReal) (r : Fin 256) (z : Fin 128)

/-- The last block's rows, nothing at the first block. -/
theorem prev_rows (v7 : Vec Ideal S16x512 .f32) (q : Fin 16) (l : Fin 512) : k0_pay7 (F := Ideal) i v7 (ix2 q l) = if 0 < (i 0).val then v7 (ix2 q l) else 0 := by
  have hi : (i 0).val < 8 := (i 0).isLt
  have e : k0_pay7 (F := Ideal) i v7 (ix2 q l) = Scalar.select (IntOp.cmpi .sgt (BitVec.ofNat 32 (i 0).val) (BitVec.ofNat 32 0)) (v7 (ix2 q l)) (FloatOps.ofBits (F := Ideal) .f32 0#32) := by
    pointwise [k0_pay7]
    rfl
  rw [e, Idealize.ShloMosaic.WordCmp.cmpi_sgt_ofNat (by omega) (by omega), Idealize.ShloMosaic.WordCmp.select_decide]
  split
  · rfl
  · exact Ideal.ofBits_zero_f32

theorem pool_two {l1 : Vec Ideal S256x128 .f32} (h0 : v5 (ix2 r ⟨0 + z.val, by omega⟩) = f 0) (h1 : l1 (ix2 r z) = f 1) :
    k0_pay9 (F := Ideal) i v5 l1 (ix2 r z) = Ideal.div (∑ k ∈ Finset.range 2, f k) (cnt 2 (256 * (i 0).val + r.val)) - f 0 := by
  have hc : v5 (ix2 r ⟨z.val, by omega⟩) = f 0 := (congrArg v5 (congrArg (ix2 r) (Fin.ext (by simp)))).trans h0
  have hn := Cert.InpIdeal.Value.own_cnt 0 ⟨(i 0).val, (i 0).isLt⟩ r rfl
  pointwise [k0_pay9]
  rw [h1]
  simp only [Finset.sum_range_succ, Finset.sum_range_zero, zero_add]
  refine congrArg₂ (fun a b : EReal => a - b) (congrArg₂ Ideal.div ?_ hn) hc
  rw [hc]

theorem pool_four {l1 l2 l3 : Vec Ideal S256x128 .f32} (h0 : v5 (ix2 r ⟨128 + z.val, by omega⟩) = f 0) (h1 : l1 (ix2 r z) = f 1) (h2 : l2 (ix2 r z) = f 2) (h3 : l3 (ix2 r z) = f 3) :
    k0_pay12 (F := Ideal) (BitVec.ofNat 32 (i 0).val) v5 l1 l2 l3 (ix2 r z) = Ideal.div (∑ k ∈ Finset.range 4, f k) (cnt 4 (256 * (i 0).val + r.val)) - f 0 := by
  have hc : v5 (ix2 r ⟨128 + z.val, by omega⟩) = f 0 := (congrArg v5 (congrArg (ix2 r) (Fin.ext (by simp)))).trans h0
  have hn := Cert.InpIdeal.Value.own_cnt 1 ⟨(i 0).val, (i 0).isLt⟩ r rfl
  pointwise [k0_pay12]
  rw [h1, h2, h3]
  simp only [Finset.sum_range_succ, Finset.sum_range_zero, zero_add]
  refine congrArg₂ (fun a b : EReal => a - b) (congrArg₂ Ideal.div ?_ hn) hc
  rw [hc]

theorem pool_eight {l1 l2 l3 l4 l5 l6 l7 : Vec Ideal S256x128 .f32} (h0 : v5 (ix2 r ⟨256 + z.val, by omega⟩) = f 0) (h1 : l1 (ix2 r z) = f 1) (h2 : l2 (ix2 r z) = f 2) (h3 : l3 (ix2 r z) = f 3) (h4 : l4 (ix2 r z) = f 4) (h5 : l5 (ix2 r z) = f 5) (h6 : l6 (ix2 r z) = f 6) (h7 : l7 (ix2 r z) = f 7) :
    k0_pay15 (F := Ideal) (BitVec.ofNat 32 (i 0).val) v5 l1 l2 l3 l4 l5 l6 l7 (ix2 r z) = Ideal.div (∑ k ∈ Finset.range 8, f k) (cnt 8 (256 * (i 0).val + r.val)) - f 0 := by
  have hc : v5 (ix2 r ⟨256 + z.val, by omega⟩) = f 0 := (congrArg v5 (congrArg (ix2 r) (Fin.ext (by simp)))).trans h0
  have hn := Cert.InpIdeal.Value.own_cnt 2 ⟨(i 0).val, (i 0).isLt⟩ r rfl
  pointwise [k0_pay15]
  rw [h1, h2, h3, h4, h5, h6, h7]
  simp only [Finset.sum_range_succ, Finset.sum_range_zero, zero_add]
  refine congrArg₂ (fun a b : EReal => a - b) (congrArg₂ Ideal.div ?_ hn) hc
  rw [hc]

theorem pool_sixteen {l1 l2 l3 l4 l5 l6 l7 l8 l9 l10 l11 l12 l13 l14 l15 : Vec Ideal S256x128 .f32} (h0 : v5 (ix2 r ⟨384 + z.val, by omega⟩) = f 0) (h1 : l1 (ix2 r z) = f 1) (h2 : l2 (ix2 r z) = f 2) (h3 : l3 (ix2 r z) = f 3) (h4 : l4 (ix2 r z) = f 4) (h5 : l5 (ix2 r z) = f 5) (h6 : l6 (ix2 r z) = f 6) (h7 : l7 (ix2 r z) = f 7) (h8 : l8 (ix2 r z) = f 8) (h9 : l9 (ix2 r z) = f 9) (h10 : l10 (ix2 r z) = f 10) (h11 : l11 (ix2 r z) = f 11) (h12 : l12 (ix2 r z) = f 12) (h13 : l13 (ix2 r z) = f 13) (h14 : l14 (ix2 r z) = f 14) (h15 : l15 (ix2 r z) = f 15) :
    k0_pay19 (F := Ideal) (BitVec.ofNat 32 (i 0).val) v5 (k0_pay18 v5 l1 l2 l3 l4 l5 l6 l7 l8 l9 l10 l11 l12 l13 l14) l15 (ix2 r z) = Ideal.div (∑ k ∈ Finset.range 16, f k) (cnt 16 (256 * (i 0).val + r.val)) - f 0 := by
  have hc : v5 (ix2 r ⟨384 + z.val, by omega⟩) = f 0 := (congrArg v5 (congrArg (ix2 r) (Fin.ext (by simp)))).trans h0
  have hn := Cert.InpIdeal.Value.own_cnt 3 ⟨(i 0).val, (i 0).isLt⟩ r rfl
  pointwise [k0_pay19, k0_pay18]
  rw [h1, h2, h3, h4, h5, h6, h7, h8, h9, h10, h11, h12, h13, h14, h15]
  simp only [Finset.sum_range_succ, Finset.sum_range_zero, zero_add]
  refine congrArg₂ (fun a b : EReal => a - b) (congrArg₂ Ideal.div ?_ hn) hc
  rw [hc]

end Cert.MergeIdeal.Value
end
-- ==== Proof.MergeRows.lean ====
module

public import proofs.«01_k».proof.Proof.MergePool
public import proofs.«01_k».proof.Proof.LayerNorm
public import Idealize.ShloMosaic.Lib.Pipeline.ValueKit
public import Idealize.ShloMosaic.Lib.Pointwise
public import Idealize.ShloMosaic.Lib.Claim

/-!
One block of the branch merge after its running means: products, gates and layer norm.
-/

@[expose] public section

set_option maxRecDepth 16384

noncomputable section

open Idealize.ShloMosaic Idealize.ShloMosaic.TcCoe Idealize.SL.Sem

namespace Cert.MergeIdeal.Value
open Cert.MergeIdeal Cert.MergeIdeal.Gen Cert.InpMean Cert.Reals
open Cert.LayerNorm

variable (r : Fin 256)

theorem attn_at (v0 : Vec Ideal S256x512 .f32) (v2 : Vec Ideal S512x1024 .bf16) (j : Fin 1024) : k0_pay6 (F := Ideal) v0 v2 (ix2 r j) = ∑ k : Fin 512, v0 (ix2 r k) * v2 (ix2 k j) := by
  pointwise [k0_pay6]

theorem group_at (v31 : FVec Ideal S256x128 .f32) (v35 : Vec Ideal S1x128x128 .f32) (d : Fin 128) : k0_pay11 (F := Ideal) v31 v35 (ix2 r d) = ∑ k : Fin 128, v31 (ix2 r k) * v35 (ix3 0 k d) := by
  pointwise [k0_pay11]

theorem scaled_at (v156 : Vec Ideal S256x512 .f32) (v158 : Vec Ideal S1x512 .f32) (l : Fin 512) : k0_pay22 (F := Ideal) v156 v158 (ix2 r l) = v156 (ix2 r l) * v158 (ix2 0 l) := by
  pointwise [k0_pay22]

theorem pool_at (v156 : Vec Ideal S256x512 .f32) (v158 : Vec Ideal S1x512 .f32) (v164 : Vec Ideal S512x1024 .bf16) (j : Fin 1024) :
    k0_pay23 (F := Ideal) v156 v158 v164 (ix2 r j) = ∑ l : Fin 512, k0_pay22 (F := Ideal) v156 v158 (ix2 r l) * v164 (ix2 l j) := by
  unfold k0_pay23
  generalize k0_pay22 (F := Ideal) v156 v158 = y
  pointwise []

variable (v4 v166 : FVec Ideal S256x1024 .f32) (v171 v173 v178 : Vec Ideal S256x1024 .f32) (v181 : Vec Ideal S1024x1024 .bf16) (j : Fin 1024)

theorem merged_at : k0_pay26 (F := Ideal) v4 v166 v171 v173 (ix2 r j) = v171 (ix2 r j) * v4 (ix2 r j) + v173 (ix2 r j) * v166 (ix2 r j) := by
  pointwise [k0_pay26]

/-- The residual of row `r` of the block. -/
abbrev line (k : Fin 1024) : EReal := Ideal.ofBits .f32 0x3F9837F0#32 * v178 (ix2 r k) + ∑ e : Fin 1024, k0_pay26 (F := Ideal) v4 v166 v171 v173 (ix2 r e) * v181 (ix2 e k)

theorem centred_at : k0_pay29 (F := Ideal) v4 v166 v171 v173 v178 v181 (ix2 r j) = centred (line r v4 v166 v171 v173 v178 v181) j := by
  unfold k0_pay29 line
  generalize k0_pay26 (F := Ideal) v4 v166 v171 v173 = y
  pointwise [centred, LayerNorm.mean]

theorem spread_at (z : Fin 1) : k0_pay30 (F := Ideal) v4 v166 v171 v173 v178 v181 (ix2 r z) = LayerNorm.mean fun k => centred (line r v4 v166 v171 v173 v178 v181) k * centred (line r v4 v166 v171 v173 v178 v181) k := by
  pointwise [k0_pay30, LayerNorm.mean]
  simp only [centred_at]

theorem rstd_at (z : Fin 1) : k0_pay1 (F := Ideal) (k0_pay30 (F := Ideal) v4 v166 v171 v173 v178 v181) eps (ix2 r z) = rstd (line r v4 v166 v171 v173 v178 v181) := by
  pointwise [k0_pay1, rstd, spread]
  simp only [spread_at]

theorem hat_at : k0_pay2 (F := Ideal) (k0_pay29 (F := Ideal) v4 v166 v171 v173 v178 v181) (k0_pay30 (F := Ideal) v4 v166 v171 v173 v178 v181) eps (ix2 r j) = hat (line r v4 v166 v171 v173 v178 v181) j := by
  pointwise [k0_pay2, hat]
  simp only [centred_at, rstd_at]

theorem out_at (g b : Vec Ideal S1x1024 .f32) : k0_pay3 (F := Ideal) (k0_pay27 g) (k0_pay28 b) (k0_pay29 (F := Ideal) v4 v166 v171 v173 v178 v181) (k0_pay30 (F := Ideal) v4 v166 v171 v173 v178 v181) eps (ix2 r j)
    = hat (line r v4 v166 v171 v173 v178 v181) j * g (ix2 0 j) + b (ix2 0 j) := by
  pointwise [k0_pay3, k0_pay27, k0_pay28]
  simp only [hat_at]

theorem scale_at (z : Fin 128) : k0_pay4 (F := Ideal) (k0_pay30 (F := Ideal) v4 v166 v171 v173 v178 v181) eps (ix2 r z) = rstd (line r v4 v166 v171 v173 v178 v181) := by
  pointwise [k0_pay4]
  simp only [rstd_at]

end Cert.MergeIdeal.Value
end
-- ==== Proof.MergeRef.lean ====
module

public import proofs.«01_k».proof.Proof.MergeMean
public import proofs.«01_k».proof.Proof.LayerNorm
public import Idealize.ShloMosaic.Lib.Pipeline.ValueKit
public import Idealize.ShloMosaic.Lib.Pointwise
public import Idealize.ShloMosaic.Lib.Claim

/-!
The branch merge's reference, entry by entry.
-/

@[expose] public section

set_option maxRecDepth 16384

noncomputable section

open Idealize.ShloMosaic

namespace Cert.MergeHostIdeal.Rows
open Cert.MergeHostIdeal Cert.MergeHostIdeal.Read Cert.Reals Cert.LayerNorm

variable (x0 : (⟨S2048x512, .f32⟩ : BufTy).Contents (Elt Ideal)) (x1 : (⟨S2048x512, .f32⟩ : BufTy).Contents (Elt Ideal)) (x2 : (⟨S2048x2048, .f32⟩ : BufTy).Contents (Elt Ideal)) (x3 : (⟨S2048x1024, .f32⟩ : BufTy).Contents (Elt Ideal)) (x4 : (⟨S512x1024, .f32⟩ : BufTy).Contents (Elt Ideal)) (x5 : (⟨S4x128x128, .f32⟩ : BufTy).Contents (Elt Ideal)) (x6 : (⟨S512, .f32⟩ : BufTy).Contents (Elt Ideal)) (x7 : (⟨S512x1024, .f32⟩ : BufTy).Contents (Elt Ideal)) (x8 : (⟨S1024x1024, .f32⟩ : BufTy).Contents (Elt Ideal)) (x9 : (⟨S1024, .f32⟩ : BufTy).Contents (Elt Ideal)) (x10 : (⟨S1024, .f32⟩ : BufTy).Contents (Elt Ideal))
variable (i : Fin 2048)

/-- The grouped product of the pooled values. -/
theorem mixed_at (g : Fin 4) (d : Fin 128) (h : g.val * 128 + d.val < 512) : val_main_v109 (F := Ideal) x1 x5 (ix2 i ⟨g.val * 128 + d.val, h⟩)
    = ∑ k : Fin 128, x5 (ix3 g k d) * val_main_v105 (F := Ideal) x1 (ix2 i ⟨g.val * 128 + k.val, by omega⟩) := by
  pointwise [val_main_v109, val_main_v108, val_main_v107, val_main_v106]

theorem attn_at (j : Fin 1024) : val_main_v0 (F := Ideal) x0 x4 (ix2 i j) = ∑ k : Fin 512, x0 (ix2 i k) * x4 (ix2 k j) := by
  pointwise [val_main_v0]

theorem scaled_at (l : Fin 512) : val_main_v112 (F := Ideal) x1 x5 x6 (ix2 i l) = val_main_v109 (F := Ideal) x1 x5 (ix2 i l) * x6 (ix1 l) := by
  pointwise [val_main_v112, val_main_v111, val_main_v110]

theorem pool_at (j : Fin 1024) : val_main_v113 (F := Ideal) x1 x5 x6 x7 (ix2 i j) = ∑ l : Fin 512, val_main_v112 (F := Ideal) x1 x5 x6 (ix2 i l) * x7 (ix2 l j) := by
  pointwise [val_main_v113]

theorem merged_at (j : Fin 1024) : val_main_v118 (F := Ideal) x0 x1 x2 x4 x5 x6 x7 (ix2 i j) = x2 (ix2 i ⟨j.val, by omega⟩) * val_main_v0 (F := Ideal) x0 x4 (ix2 i j) + x2 (ix2 i ⟨1024 + j.val, by omega⟩) * val_main_v113 (F := Ideal) x1 x5 x6 x7 (ix2 i j) := by
  pointwise [val_main_v118, val_main_v117, val_main_v116, val_main_v115, val_main_v114]

/-- The residual. -/
abbrev line (k : Fin 1024) : EReal := val_main_v122 (F := Ideal) x0 x1 x2 x3 x4 x5 x6 x7 x8 (ix2 i k)

theorem line_at (j : Fin 1024) : val_main_v122 (F := Ideal) x0 x1 x2 x3 x4 x5 x6 x7 x8 (ix2 i j) = Ideal.ofBits .f32 0x3F9837F0#32 * x3 (ix2 i j) + ∑ k : Fin 1024, val_main_v118 (F := Ideal) x0 x1 x2 x4 x5 x6 x7 (ix2 i k) * x8 (ix2 k j) := by
  pointwise [val_main_v122, val_main_v121, val_main_v120, val_main_v119, val_main_cst_23]

theorem mean_at (z : Fin 1) : val_main_v126 (F := Ideal) x0 x1 x2 x3 x4 x5 x6 x7 x8 (ix2 i z) = mean (line x0 x1 x2 x3 x4 x5 x6 x7 x8 i) := by
  pointwise [val_main_v126, val_main_v125, val_main_v124, val_main_v123, val_main_cst_24, val_main_cst_25, mean, line]

theorem centred_at (j : Fin 1024) : val_main_v128 (F := Ideal) x0 x1 x2 x3 x4 x5 x6 x7 x8 (ix2 i j) = centred (line x0 x1 x2 x3 x4 x5 x6 x7 x8 i) j := by
  pointwise [val_main_v128, val_main_v127, centred, line]
  simp only [mean_at]

theorem rstd_at (z : Fin 1) : val_main_v136 (F := Ideal) x0 x1 x2 x3 x4 x5 x6 x7 x8 (ix2 i z) = rstd (line x0 x1 x2 x3 x4 x5 x6 x7 x8 i) := by
  pointwise [val_main_v136, val_main_v135, val_main_v134, val_main_v133, val_main_v132, val_main_v131, val_main_v130, val_main_v129, val_main_cst_26, val_main_cst_27, val_main_cst_28, rstd, spread, mean]
  simp only [centred_at]

theorem hat_at (j : Fin 1024) : val_main_v140 (F := Ideal) x0 x1 x2 x3 x4 x5 x6 x7 x8 (ix2 i j) = hat (line x0 x1 x2 x3 x4 x5 x6 x7 x8 i) j := by
  pointwise [val_main_v140, val_main_v139, val_main_v138, val_main_v137, hat, centred, line]
  simp only [mean_at, rstd_at]

theorem out_at (j : Fin 1024) : val_main_v146 (F := Ideal) x0 x1 x2 x3 x4 x5 x6 x7 x8 x9 x10 (ix2 i j) = hat (line x0 x1 x2 x3 x4 x5 x6 x7 x8 i) j * x9 (ix1 j) + x10 (ix1 j) := by
  pointwise [val_main_v146, val_main_v145, val_main_v144, val_main_v143, val_main_v142, val_main_v141]
  simp only [hat_at]

theorem scale_at (z : Fin 128) : val_main_v152 (F := Ideal) x0 x1 x2 x3 x4 x5 x6 x7 x8 (ix2 i z) = rstd (line x0 x1 x2 x3 x4 x5 x6 x7 x8 i) := by
  pointwise [val_main_v152]
  simp only [rstd_at]

end Cert.MergeHostIdeal.Rows
end
-- ==== Proof.MergeStores.lean ====
module

public import proofs.«01_k».proof.Proof.MergeRows
public import proofs.«01_k».proof.Proof.MergeRef
public import proofs.«01_k».proof.Proof.AttnStores
public import Idealize.ShloMosaic.Lib.Pipeline.ValueKit
public import Idealize.ShloMosaic.Lib.Pointwise
public import Idealize.ShloMosaic.Lib.Claim

/-!
What the branch merge keeps, its pooled values and their grouped product, block by block.
-/

@[expose] public section

set_option maxRecDepth 16384

noncomputable section

open Idealize.ShloMosaic Idealize.ShloMosaic.TcCoe Idealize.SL.Sem

namespace Cert.MergeIdeal.Value
open Cert.MergeIdeal Cert.MergeIdeal.Gen Cert.InpMean Cert.Reals
open Cert.InpGradIdeal.Rows (ext)
open Cert.MergeHostIdeal.Rows (back pooled column)
open Cert.MergeHostIdeal.Read
open Cert.AttnIdeal.Stores

variable (m : (ℓ : Loc nD τ sig) → Buf (Elt Ideal) ℓ) (c : Dev nD) (t : Fin cfg0.N)

/-- The values of a column from its row `n - k`, counted from the block's first row. -/
abbrev past (l : Fin 512) (n k : ℕ) : EReal := back (ext (column (m ((c : Thread nD τ).loc main_arg1)) l)) (256 * t.val + n) k

/-- What a block keeps: the last rows of the block before, and its own. -/
def kept : List (View.Piece (Elt Ideal) S272x512 .f32) :=
  [⟨Rect.unit ![16, 0] ![256, 512] inb_S272x512_S256x512_16_0, k0_pay8 (F := Ideal) (iblk m c 1 t)⟩,
    ⟨Rect.unit ![0, 0] ![16, 512] inb_S272x512_S16x512_0_0, k0_pay7 (F := Ideal) (grid0.coords t) (iblk m c 2 t)⟩]

theorem kept_has : Has (kept m c t) (fun k l => past m c t l k.val 16) fun _ _ => True := by
  have ht := t.isLt.trans_le (le_of_eq N_0)
  unfold kept
  refine Has.cons (fun y x k l hk hl _ => ?_) ?_
  · have e : k0_pay8 (F := Ideal) (iblk m c 1 t) (ix2 y x) = iblk m c 1 t (ix2 y x) := by pointwise [k0_pay8]
    obtain rfl : l = x := Fin.ext (hl.trans (Nat.zero_add _))
    rw [e, u_block, past, back, if_pos (by omega), ext_lt _ (by omega)]
    exact congrArg _ (congrArg (fun i => ix2 i l) (Fin.ext (by simp only; omega)))
  refine Has.cons (fun y x k l hk hl _ => ?_) ?_
  · obtain rfl : l = x := Fin.ext (hl.trans (Nat.zero_add _))
    rw [prev_rows, coord, past, back]
    by_cases h : 0 < t.val
    · rw [if_pos h, prev_block m c t h, if_pos (by omega), ext_lt _ (by omega)]
      exact congrArg _ (congrArg (fun i => ix2 i l) (Fin.ext (by simp only; omega)))
    · rw [if_neg h, if_neg (by omega)]
  exact Has.none fun k r hk hr h => by (try dsimp only at h); omega

/-- A load of what is kept. -/
def part (k lo : ℕ) (inb : ∀ i, (![k, lo] : Fin 2 → ℕ) i + (![256, 128] : Fin 2 → ℕ) i ≤ S272x512.size i) : Vec Ideal S256x128 .f32 :=
  (View.whole cc0_scratch0).readCov (kept m c t) (Rect.unit (s := S272x512) ![k, lo] ![256, 128] inb).toLoadRect

theorem part_at (n k lo : ℕ) (inb) (hk : n + k = 16) (hlo : lo + 128 ≤ 512) (r : Fin 256) (z : Fin 128) :
    part m c t n lo inb (ix2 r z) = past m c t ⟨lo + z.val, by omega⟩ r.val k := by
  refine ((kept_has m c t).load _ r z ⟨n + r.val, by omega⟩ ⟨lo + z.val, by omega⟩ rfl rfl trivial).trans ?_
  unfold past back
  refine if_congr (by simp only; omega) (congrArg _ (by simp only; omega)) rfl

/-- The pooled value at a place of a block. -/
abbrev pooledAt (r : Fin 256) (l : Fin 512) : EReal := pooled (width l.val) (column (m ((c : Thread nD τ).loc main_arg1)) l) (place t r)

theorem pooled_piece (lo : ℕ) (hlo : lo + 128 ≤ 512) (w : ℕ) (hw : ∀ z, z < 128 → width (lo + z) = w) (v : FVec Ideal S256x128 .f32)
    (hv : ∀ (r : Fin 256) (z : Fin 128), v (ix2 r z) = Ideal.div (∑ k ∈ Finset.range w, past m c t ⟨lo + z.val, by omega⟩ r.val k) (cnt w (256 * (grid0.coords t 0).val + r.val)) - past m c t ⟨lo + z.val, by omega⟩ r.val 0)
    (y : Fin 256) (x : Fin 128) (k : Fin 256) (l : Fin 512) (hk : k.val = 0 + y.val) (hl : l.val = lo + x.val) : v (ix2 y x) = pooledAt m c t k l := by
  have ht := t.isLt.trans_le (le_of_eq N_0)
  obtain rfl : k = y := Fin.ext (hk.trans (Nat.zero_add _))
  have hx : lo + x.val < 512 := by omega
  obtain rfl : l = ⟨lo + x.val, hx⟩ := Fin.ext hl
  rw [hv, coord, pooledAt, pooled, hw _ x.isLt]
  refine congrArg (fun e : EReal => Ideal.div (∑ k_1 ∈ Finset.range w, past m c t ⟨lo + x.val, hx⟩ k.val k_1) (cnt w (256 * t.val + k.val)) - e) ?_
  rw [past, back, if_pos (Nat.zero_le _), ext_lt _ (by omega)]
  rfl

theorem wide (g z : ℕ) (h : z < 128) : width (128 * g + z) = 2 ^ (g + 1) := by
  unfold width
  rw [show (128 * g + z) / 128 = g by omega]

/-- The pooled values of group 0. -/
def means0 : FVec Ideal S256x128 .f32 := k0_pay9 (F := Ideal) (grid0.coords t) (iblk m c 1 t) (part m c t 15 0 inb_S272x512_S256x128_15_0)

theorem means0_at (y : Fin 256) (x : Fin 128) (k : Fin 256) (l : Fin 512) (hk : k.val = 0 + y.val) (hl : l.val = 0 + x.val) : means0 m c t (ix2 y x) = pooledAt m c t k l := by
  refine pooled_piece m c t 0 (by decide) 2 (wide 0) _ (fun r z => ?_) y x k l hk hl
  have hp (n k : ℕ) (inb) (h : n + k = 16) := part_at m c t n k 0 inb h (by decide) r z
  have h0 : iblk m c 1 t (ix2 r ⟨0 + z.val, by omega⟩) = past m c t ⟨0 + z.val, by omega⟩ r.val 0 := by
    have ht := t.isLt.trans_le (le_of_eq N_0)
    rw [u_block, past, back, if_pos (Nat.zero_le _), ext_lt _ (by omega)]
    rfl
  exact pool_two (grid0.coords t) _ (past m c t ⟨0 + z.val, by omega⟩ r.val) r z h0 (hp 15 1 _ rfl)

/-- The pooled values of group 1. -/
def means1 : FVec Ideal S256x128 .f32 := k0_pay12 (F := Ideal) (BitVec.ofNat 32 ↑(grid0.coords t 0)) (iblk m c 1 t) (part m c t 15 128 inb_S272x512_S256x128_15_128) (part m c t 14 128 inb_S272x512_S256x128_14_128) (part m c t 13 128 inb_S272x512_S256x128_13_128)

theorem means1_at (y : Fin 256) (x : Fin 128) (k : Fin 256) (l : Fin 512) (hk : k.val = 0 + y.val) (hl : l.val = 128 + x.val) : means1 m c t (ix2 y x) = pooledAt m c t k l := by
  refine pooled_piece m c t 128 (by decide) 4 (wide 1) _ (fun r z => ?_) y x k l hk hl
  have hp (n k : ℕ) (inb) (h : n + k = 16) := part_at m c t n k 128 inb h (by decide) r z
  have h0 : iblk m c 1 t (ix2 r ⟨128 + z.val, by omega⟩) = past m c t ⟨128 + z.val, by omega⟩ r.val 0 := by
    have ht := t.isLt.trans_le (le_of_eq N_0)
    rw [u_block, past, back, if_pos (Nat.zero_le _), ext_lt _ (by omega)]
    rfl
  exact pool_four (grid0.coords t) _ (past m c t ⟨128 + z.val, by omega⟩ r.val) r z h0 (hp 15 1 _ rfl) (hp 14 2 _ rfl) (hp 13 3 _ rfl)

/-- The pooled values of group 2. -/
def means2 : FVec Ideal S256x128 .f32 := k0_pay15 (F := Ideal) (BitVec.ofNat 32 ↑(grid0.coords t 0)) (iblk m c 1 t) (part m c t 15 256 inb_S272x512_S256x128_15_256) (part m c t 14 256 inb_S272x512_S256x128_14_256) (part m c t 13 256 inb_S272x512_S256x128_13_256) (part m c t 12 256 inb_S272x512_S256x128_12_256) (part m c t 11 256 inb_S272x512_S256x128_11_256) (part m c t 10 256 inb_S272x512_S256x128_10_256) (part m c t 9 256 inb_S272x512_S256x128_9_256)

theorem means2_at (y : Fin 256) (x : Fin 128) (k : Fin 256) (l : Fin 512) (hk : k.val = 0 + y.val) (hl : l.val = 256 + x.val) : means2 m c t (ix2 y x) = pooledAt m c t k l := by
  refine pooled_piece m c t 256 (by decide) 8 (wide 2) _ (fun r z => ?_) y x k l hk hl
  have hp (n k : ℕ) (inb) (h : n + k = 16) := part_at m c t n k 256 inb h (by decide) r z
  have h0 : iblk m c 1 t (ix2 r ⟨256 + z.val, by omega⟩) = past m c t ⟨256 + z.val, by omega⟩ r.val 0 := by
    have ht := t.isLt.trans_le (le_of_eq N_0)
    rw [u_block, past, back, if_pos (Nat.zero_le _), ext_lt _ (by omega)]
    rfl
  exact pool_eight (grid0.coords t) _ (past m c t ⟨256 + z.val, by omega⟩ r.val) r z h0 (hp 15 1 _ rfl) (hp 14 2 _ rfl) (hp 13 3 _ rfl) (hp 12 4 _ rfl) (hp 11 5 _ rfl) (hp 10 6 _ rfl) (hp 9 7 _ rfl)

/-- The pooled values of group 3. -/
def means3 : FVec Ideal S256x128 .f32 := k0_pay19 (F := Ideal) (BitVec.ofNat 32 ↑(grid0.coords t 0)) (iblk m c 1 t) (k0_pay18 (F := Ideal) (iblk m c 1 t) (part m c t 15 384 inb_S272x512_S256x128_15_384) (part m c t 14 384 inb_S272x512_S256x128_14_384) (part m c t 13 384 inb_S272x512_S256x128_13_384) (part m c t 12 384 inb_S272x512_S256x128_12_384) (part m c t 11 384 inb_S272x512_S256x128_11_384) (part m c t 10 384 inb_S272x512_S256x128_10_384) (part m c t 9 384 inb_S272x512_S256x128_9_384) (part m c t 8 384 inb_S272x512_S256x128_8_384) (part m c t 7 384 inb_S272x512_S256x128_7_384) (part m c t 6 384 inb_S272x512_S256x128_6_384) (part m c t 5 384 inb_S272x512_S256x128_5_384) (part m c t 4 384 inb_S272x512_S256x128_4_384) (part m c t 3 384 inb_S272x512_S256x128_3_384) (part m c t 2 384 inb_S272x512_S256x128_2_384)) (part m c t 1 384 inb_S272x512_S256x128_1_384)

theorem means3_at (y : Fin 256) (x : Fin 128) (k : Fin 256) (l : Fin 512) (hk : k.val = 0 + y.val) (hl : l.val = 384 + x.val) : means3 m c t (ix2 y x) = pooledAt m c t k l := by
  refine pooled_piece m c t 384 (by decide) 16 (wide 3) _ (fun r z => ?_) y x k l hk hl
  have hp (n k : ℕ) (inb) (h : n + k = 16) := part_at m c t n k 384 inb h (by decide) r z
  have h0 : iblk m c 1 t (ix2 r ⟨384 + z.val, by omega⟩) = past m c t ⟨384 + z.val, by omega⟩ r.val 0 := by
    have ht := t.isLt.trans_le (le_of_eq N_0)
    rw [u_block, past, back, if_pos (Nat.zero_le _), ext_lt _ (by omega)]
    rfl
  exact pool_sixteen (grid0.coords t) _ (past m c t ⟨384 + z.val, by omega⟩ r.val) r z h0 (hp 15 1 _ rfl) (hp 14 2 _ rfl) (hp 13 3 _ rfl) (hp 12 4 _ rfl) (hp 11 5 _ rfl) (hp 10 6 _ rfl) (hp 9 7 _ rfl) (hp 8 8 _ rfl) (hp 7 9 _ rfl) (hp 6 10 _ rfl) (hp 5 11 _ rfl) (hp 4 12 _ rfl) (hp 3 13 _ rfl) (hp 2 14 _ rfl) (hp 1 15 _ rfl)

/-- The pooled values a block gives out. -/
def meansL : List (View.Piece (Elt Ideal) S256x512 .bf16) :=
  [⟨Rect.unit ![0, 384] ![256, 128] inb_S256x512_S256x128_0_384, means3 m c t⟩,
    ⟨Rect.unit ![0, 256] ![256, 128] inb_S256x512_S256x128_0_256, means2 m c t⟩,
    ⟨Rect.unit ![0, 128] ![256, 128] inb_S256x512_S256x128_0_128, means1 m c t⟩,
    ⟨Rect.unit ![0, 0] ![256, 128] inb_S256x512_S256x128_0_0, means0 m c t⟩]

theorem means_has : Has (meansL m c t) (pooledAt m c t) fun _ _ => True := by
  unfold meansL
  refine Has.cons (fun y x k r hk hr _ => means3_at m c t y x k r hk hr) ?_
  refine Has.cons (fun y x k r hk hr _ => means2_at m c t y x k r hk hr) ?_
  refine Has.cons (fun y x k r hk hr _ => means1_at m c t y x k r hk hr) ?_
  refine Has.cons (fun y x k r hk hr _ => means0_at m c t y x k r hk hr) ?_
  exact Has.none fun k r hk hr h => by (try dsimp only at h); omega

/-- The pool weights of one group. -/
theorem weight_at (g : Fin 4) (inb) (k d : Fin 128) : View.ld (iblk m c 8 t) (Rect.unit (s := S4x128x128) ![g.val, 0, 0] ![1, 128, 128] inb) (ix3 0 k d) = (m ((c : Thread nD τ).loc main_arg5)) (ix3 g k d) := by
  refine Eq.trans ?_ (pool_block m c t g k d)
  generalize iblk m c 8 t = y
  refine congrArg y ?_
  blk_ext []
  · exact (Rect.idx_unit_val ..).trans (Nat.add_zero _)
  · exact (Rect.idx_unit_val ..).trans (Nat.zero_add _)
  · exact (Rect.idx_unit_val ..).trans (Nat.zero_add _)

variable (hu : ∀ i, IsReal ((m ((c : Thread nD τ).loc main_arg1)) i))

/-- The grouped product at a place of a block. -/
abbrev mixedAt (r : Fin 256) (l : Fin 512) : EReal := val_main_v109 (F := Ideal) (m ((c : Thread nD τ).loc main_arg1)) (m ((c : Thread nD τ).loc main_arg5)) (ix2 (place t r) l)

include hu in
theorem mixed_piece (g : Fin 4) (v : FVec Ideal S256x128 .f32) (hv : ∀ (y : Fin 256) (x : Fin 128) (k : Fin 256) (l : Fin 512), k.val = 0 + y.val → l.val = 128 * g.val + x.val → v (ix2 y x) = pooledAt m c t k l) (inb)
    (y : Fin 256) (x : Fin 128) (k : Fin 256) (l : Fin 512) (hk : k.val = 0 + y.val) (hl : l.val = 128 * g.val + x.val) :
    k0_pay11 (F := Ideal) v (View.ld (iblk m c 8 t) (Rect.unit (s := S4x128x128) ![g.val, 0, 0] ![1, 128, 128] inb)) (ix2 y x) = mixedAt m c t k l := by
  obtain rfl : k = y := Fin.ext (hk.trans (Nat.zero_add _))
  have hx : g.val * 128 + x.val < 512 := by omega
  obtain rfl : l = ⟨g.val * 128 + x.val, hx⟩ := Fin.ext (by simp only; omega)
  refine (group_at ..).trans (Eq.trans (Finset.sum_congr rfl fun n _ => ?_) (Cert.MergeHostIdeal.Rows.mixed_at _ _ (place t k) g x hx).symm)
  have hn : g.val * 128 + n.val < 512 := by omega
  refine (mul_comm _ _).trans (congrArg₂ (fun a b : EReal => a * b) (weight_at m c t g inb n x) ?_)
  exact (hv k n k ⟨g.val * 128 + n.val, hn⟩ (Nat.zero_add _).symm (by simp only; omega)).trans (Cert.MergeHostIdeal.Rows.pooled_at _ hu (place t k) ⟨g.val * 128 + n.val, hn⟩).symm

/-- The grouped product a block gives out. -/
def mixedL : List (View.Piece (Elt Ideal) S256x512 .f32) :=
  [⟨Rect.unit ![0, 384] ![256, 128] inb_S256x512_S256x128_0_384, k0_pay11 (F := Ideal) (means3 m c t) (View.ld (iblk m c 8 t) (Rect.unit ![3, 0, 0] ![1, 128, 128] inb_S4x128x128_S1x128x128_3_0_0))⟩,
    ⟨Rect.unit ![0, 256] ![256, 128] inb_S256x512_S256x128_0_256, k0_pay11 (F := Ideal) (means2 m c t) (View.ld (iblk m c 8 t) (Rect.unit ![2, 0, 0] ![1, 128, 128] inb_S4x128x128_S1x128x128_2_0_0))⟩,
    ⟨Rect.unit ![0, 128] ![256, 128] inb_S256x512_S256x128_0_128, k0_pay11 (F := Ideal) (means1 m c t) (View.ld (iblk m c 8 t) (Rect.unit ![1, 0, 0] ![1, 128, 128] inb_S4x128x128_S1x128x128_1_0_0))⟩,
    ⟨Rect.unit ![0, 0] ![256, 128] inb_S256x512_S256x128_0_0, k0_pay11 (F := Ideal) (means0 m c t) (View.ld (iblk m c 8 t) (Rect.unit ![0, 0, 0] ![1, 128, 128] inb_S4x128x128_S1x128x128_0_0_0))⟩]

include hu in
theorem mixed_has : Has (mixedL m c t) (mixedAt m c t) fun _ _ => True := by
  unfold mixedL
  refine Has.cons (fun y x k r hk hr _ => mixed_piece m c t hu 3 _ (means3_at m c t) _ y x k r hk hr) ?_
  refine Has.cons (fun y x k r hk hr _ => mixed_piece m c t hu 2 _ (means2_at m c t) _ y x k r hk hr) ?_
  refine Has.cons (fun y x k r hk hr _ => mixed_piece m c t hu 1 _ (means1_at m c t) _ y x k r hk hr) ?_
  refine Has.cons (fun y x k r hk hr _ => mixed_piece m c t hu 0 _ (means0_at m c t) _ y x k r hk hr) ?_
  exact Has.none fun k r hk hr h => by (try dsimp only at h); omega

end Cert.MergeIdeal.Value
end
-- ==== Proof.MergeFinal.lean ====
module

public import proofs.«01_k».proof.Proof.MergeStores
public import Idealize.ShloMosaic.Lib.Pipeline.ValueKit
public import Idealize.ShloMosaic.Lib.Pointwise
public import Idealize.ShloMosaic.Lib.Claim

/-!
The branch merge's kernel against the reference.
-/

@[expose] public section

set_option maxRecDepth 16384

noncomputable section

open Idealize.ShloMosaic Idealize.ShloMosaic.TcCoe Idealize.SL.Sem

namespace Cert.MergeIdeal.Value
open Cert.MergeIdeal Cert.MergeIdeal.Gen Cert.InpMean Cert.Reals
open Cert.LayerNorm
open Cert.MergeHostIdeal.Read
open Cert.AttnIdeal.Stores

variable (m : (ℓ : Loc nD τ sig) → Buf (Elt Ideal) ℓ) (c : Dev nD) (t : Fin cfg0.N) (mr : View sig .tc .vmem S256x512 .f32)

/-- The attention branch's projection. -/
abbrev att : FVec Ideal S256x1024 .f32 := k0_pay6 (F := Ideal) (iblk m c 0 t) (iblk m c 5 t)

/-- The grouped product, read back. -/
abbrev mixed : Vec Ideal S256x512 .f32 := mr.readCov (mixedL m c t) (Rect.unit (s := S256x512) ![0, 0] ![256, 512] inb_S256x512_S256x512_0_0).toLoadRect

/-- The pooling branch's projection. -/
abbrev pool : FVec Ideal S256x1024 .f32 := k0_pay23 (F := Ideal) (mixed m c t mr) (iblk m c 9 t) (iblk m c 6 t)

/-- The two halves of the gates. -/
abbrev left : Vec Ideal S256x1024 .f32 := View.ld (iblk m c 3 t) (Rect.unit (s := S256x2048) ![0, 0] ![256, 1024] inb_S256x2048_S256x1024_0_0)

abbrev right : Vec Ideal S256x1024 .f32 := View.ld (iblk m c 3 t) (Rect.unit (s := S256x2048) ![0, 1024] ![256, 1024] inb_S256x2048_S256x1024_0_1024)

theorem left_eq (r : Fin 256) (j : Fin 1024) : left m c t (ix2 r j) = (m ((c : Thread nD τ).loc main_arg2)) (ix2 (place t r) ⟨j.val, by omega⟩) := by
  refine Eq.trans ?_ (gate_block m c t r ⟨j.val, by omega⟩)
  unfold left
  generalize iblk m c 3 t = y
  refine congrArg y ?_
  blk_ext []
  · exact (Rect.idx_unit_val ..).trans (Nat.zero_add _)
  · exact (Rect.idx_unit_val ..).trans (Nat.zero_add _)

theorem right_eq (r : Fin 256) (j : Fin 1024) : right m c t (ix2 r j) = (m ((c : Thread nD τ).loc main_arg2)) (ix2 (place t r) ⟨1024 + j.val, by omega⟩) := by
  refine Eq.trans ?_ (gate_block m c t r ⟨1024 + j.val, by omega⟩)
  unfold right
  generalize iblk m c 3 t = y
  refine congrArg y ?_
  blk_ext []
  · exact (Rect.idx_unit_val ..).trans (Nat.zero_add _)
  · exact Rect.idx_unit_val ..

theorem ya_eq (r : Fin 256) (j : Fin 1024) : att m c t (ix2 r j) = val_main_v0 (F := Ideal) (m ((c : Thread nD τ).loc main_arg0)) (m ((c : Thread nD τ).loc main_arg4)) (ix2 (place t r) j) := by
  refine (attn_at ..).trans (Eq.trans ?_ (Cert.MergeHostIdeal.Rows.attn_at ..).symm)
  exact Finset.sum_congr rfl fun k _ => congrArg₂ (fun a b : EReal => a * b) (o_block m c t r k) (wba_block m c t k j)

variable (hu : ∀ i, IsReal ((m ((c : Thread nD τ).loc main_arg1)) i))
include hu

theorem mixed_eq (r : Fin 256) (l : Fin 512) : mixed m c t mr (ix2 r l) = val_main_v109 (F := Ideal) (m ((c : Thread nD τ).loc main_arg1)) (m ((c : Thread nD τ).loc main_arg5)) (ix2 (place t r) l) :=
  (mixed_has m c t hu).load mr r l r l (Nat.zero_add _).symm (Nat.zero_add _).symm trivial

theorem ypre_eq (r : Fin 256) (l : Fin 512) : k0_pay22 (F := Ideal) (mixed m c t mr) (iblk m c 9 t) (ix2 r l) = val_main_v112 (F := Ideal) (m ((c : Thread nD τ).loc main_arg1)) (m ((c : Thread nD τ).loc main_arg5)) (m ((c : Thread nD τ).loc main_arg6)) (ix2 (place t r) l) := by
  refine (scaled_at ..).trans (Eq.trans ?_ (Cert.MergeHostIdeal.Rows.scaled_at ..).symm)
  exact congrArg₂ (fun a b : EReal => a * b) (mixed_eq m c t mr hu r l) (scale_block m c t l)

theorem yp_eq (r : Fin 256) (j : Fin 1024) : pool m c t mr (ix2 r j) = val_main_v113 (F := Ideal) (m ((c : Thread nD τ).loc main_arg1)) (m ((c : Thread nD τ).loc main_arg5)) (m ((c : Thread nD τ).loc main_arg6)) (m ((c : Thread nD τ).loc main_arg7)) (ix2 (place t r) j) := by
  refine (pool_at ..).trans (Eq.trans ?_ (Cert.MergeHostIdeal.Rows.pool_at ..).symm)
  exact Finset.sum_congr rfl fun l _ => congrArg₂ (fun a b : EReal => a * b) (ypre_eq m c t mr hu r l) (wbp_block m c t l j)

theorem merged_eq (r : Fin 256) (j : Fin 1024) : k0_pay26 (F := Ideal) (att m c t) (pool m c t mr) (left m c t) (right m c t) (ix2 r j) = val_main_v118 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (ix2 (place t r) j) := by
  refine (merged_at ..).trans (Eq.trans ?_ (Cert.MergeHostIdeal.Rows.merged_at ..).symm)
  exact congrArg₂ (fun a b : EReal => a + b) (congrArg₂ (fun a b : EReal => a * b) (left_eq m c t r j) (ya_eq m c t r j)) (congrArg₂ (fun a b : EReal => a * b) (right_eq m c t r j) (yp_eq m c t mr hu r j))

theorem line_eq (r : Fin 256) : line r (att m c t) (pool m c t mr) (left m c t) (right m c t) (iblk m c 4 t) (iblk m c 7 t) = Cert.MergeHostIdeal.Rows.line (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (place t r) := by
  funext j
  refine Eq.trans ?_ (Cert.MergeHostIdeal.Rows.line_at ..).symm
  exact congrArg₂ (fun a b : EReal => Ideal.ofBits .f32 0x3F9837F0#32 * a + b) (x_block m c t r j) (Finset.sum_congr rfl fun k _ => congrArg₂ (fun a b : EReal => a * b) (merged_eq m c t mr hu r k) (wout_block m c t k j))

theorem xhat_eq (r : Fin 256) (j : Fin 1024) : k0_pay2 (F := Ideal) (k0_pay29 (att m c t) (pool m c t mr) (left m c t) (right m c t) (iblk m c 4 t) (iblk m c 7 t)) (k0_pay30 (att m c t) (pool m c t mr) (left m c t) (right m c t) (iblk m c 4 t) (iblk m c 7 t)) eps (ix2 r j) = val_main_v140 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 (place t r) j) := by
  refine (hat_at ..).trans (Eq.trans ?_ (Cert.MergeHostIdeal.Rows.hat_at ..).symm)
  rw [line_eq m c t mr hu r]

theorem rstd_eq (r : Fin 256) (j : Fin 128) : k0_pay4 (F := Ideal) (k0_pay30 (att m c t) (pool m c t mr) (left m c t) (right m c t) (iblk m c 4 t) (iblk m c 7 t)) eps (ix2 r j) = val_main_v152 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 (place t r) j) := by
  refine (scale_at ..).trans (Eq.trans ?_ (Cert.MergeHostIdeal.Rows.scale_at ..).symm)
  rw [line_eq m c t mr hu r]

theorem h_eq (r : Fin 256) (j : Fin 1024) : k0_pay3 (F := Ideal) (k0_pay27 (iblk m c 10 t)) (k0_pay28 (iblk m c 11 t)) (k0_pay29 (att m c t) (pool m c t mr) (left m c t) (right m c t) (iblk m c 4 t) (iblk m c 7 t)) (k0_pay30 (att m c t) (pool m c t mr) (left m c t) (right m c t) (iblk m c 4 t) (iblk m c 7 t)) eps (ix2 r j) = val_main_v146 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 (place t r) j) := by
  refine (out_at ..).trans (Eq.trans ?_ (Cert.MergeHostIdeal.Rows.out_at ..).symm)
  rw [line_eq m c t mr hu r, gain_block, shift_block]

omit hu in
theorem ya_final : (dats m 0 c).arrAt 12 (cfgs 0).N = val_main_v147 (F := Ideal) (m ((c : Thread nD τ).loc main_arg0)) (m ((c : Thread nD τ).loc main_arg4)) := by
  refine (dats m 0 c).arrAt_eq_of_covers 12 _ (by decide +kernel) fun t _ y => ?_
  have at_place : (win0_12.blk t).view.emb y = ix2 (place t (y 0)) (y 1) := by blk_ext [place, idx t]
  blk_simp
  rw [after0_12]
  unfold outsAt0
  frame_out
  exact ((congrArg _ (eq_ix2 y)).trans (ya_eq m c t (y 0) (y 1))).trans (congrArg _ at_place.symm)

theorem yp_final : (dats m 0 c).arrAt 13 (cfgs 0).N = val_main_v148 (F := Ideal) (m ((c : Thread nD τ).loc main_arg1)) (m ((c : Thread nD τ).loc main_arg5)) (m ((c : Thread nD τ).loc main_arg6)) (m ((c : Thread nD τ).loc main_arg7)) := by
  refine (dats m 0 c).arrAt_eq_of_covers 13 _ (by decide +kernel) fun t _ y => ?_
  have at_place : (win0_13.blk t).view.emb y = ix2 (place t (y 0)) (y 1) := by blk_ext [place, idx t]
  blk_simp
  rw [after0_13]
  unfold outsAt0
  frame_out
  exact ((congrArg _ (eq_ix2 y)).trans (yp_eq m c t (ms0_15 t).view hu (y 0) (y 1))).trans (congrArg _ at_place.symm)

theorem pooled_final : (dats m 0 c).arrAt 14 (cfgs 0).N = val_main_v149 (F := Ideal) (m ((c : Thread nD τ).loc main_arg1)) := by
  refine (dats m 0 c).arrAt_eq_of_covers 14 _ (by decide +kernel) fun t _ y => ?_
  have at_place : (win0_14.blk t).view.emb y = ix2 (place t (y 0)) (y 1) := by blk_ext [place, idx t]
  blk_simp
  rw [after0_14]
  unfold outsAt0
  frame_out
  exact ((congrArg _ (eq_ix2 y)).trans ((means_has m c t (y 0) (y 1) trivial).trans (Cert.MergeHostIdeal.Rows.pooled_at _ hu (place t (y 0)) (y 1)).symm)).trans (congrArg _ at_place.symm)

theorem mixed_final : (dats m 0 c).arrAt 15 (cfgs 0).N = val_main_v109 (F := Ideal) (m ((c : Thread nD τ).loc main_arg1)) (m ((c : Thread nD τ).loc main_arg5)) := by
  refine (dats m 0 c).arrAt_eq_of_covers 15 _ (by decide +kernel) fun t _ y => ?_
  have at_place : (win0_15.blk t).view.emb y = ix2 (place t (y 0)) (y 1) := by blk_ext [place, idx t]
  blk_simp
  rw [after0_15]
  unfold outsAt0
  frame_out
  refine Eq.trans ?_ (congrArg (val_main_v109 (F := Ideal) (m ((c : Thread nD τ).loc main_arg1)) (m ((c : Thread nD τ).loc main_arg5))) at_place.symm)
  refine (congrArg _ (eq_ix2 y)).trans ?_
  exact mixed_has m c t hu (y 0) (y 1) trivial

theorem ypre_final : (dats m 0 c).arrAt 16 (cfgs 0).N = val_main_v150 (F := Ideal) (m ((c : Thread nD τ).loc main_arg1)) (m ((c : Thread nD τ).loc main_arg5)) (m ((c : Thread nD τ).loc main_arg6)) := by
  refine (dats m 0 c).arrAt_eq_of_covers 16 _ (by decide +kernel) fun t _ y => ?_
  have at_place : (win0_16.blk t).view.emb y = ix2 (place t (y 0)) (y 1) := by blk_ext [place, idx t]
  blk_simp
  rw [after0_16]
  unfold outsAt0
  frame_out
  exact ((congrArg _ (eq_ix2 y)).trans (ypre_eq m c t (ms0_15 t).view hu (y 0) (y 1))).trans (congrArg _ at_place.symm)

theorem merged_final : (dats m 0 c).arrAt 17 (cfgs 0).N = val_main_v151 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  refine (dats m 0 c).arrAt_eq_of_covers 17 _ (by decide +kernel) fun t _ y => ?_
  have at_place : (win0_17.blk t).view.emb y = ix2 (place t (y 0)) (y 1) := by blk_ext [place, idx t]
  blk_simp
  rw [after0_17]
  unfold outsAt0
  frame_out
  exact ((congrArg _ (eq_ix2 y)).trans (merged_eq m c t (ms0_15 t).view hu (y 0) (y 1))).trans (congrArg _ at_place.symm)

theorem xhat_final : (dats m 0 c).arrAt 18 (cfgs 0).N = val_main_v140 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 18 _ (by decide +kernel) fun t _ y => ?_
  have at_place : (win0_18.blk t).view.emb y = ix2 (place t (y 0)) (y 1) := by blk_ext [place, idx t]
  blk_simp
  rw [after0_18]
  unfold outsAt0
  frame_out
  exact ((congrArg _ (eq_ix2 y)).trans (xhat_eq m c t (ms0_15 t).view hu (y 0) (y 1))).trans (congrArg _ at_place.symm)

theorem rstd_final : (dats m 0 c).arrAt 19 (cfgs 0).N = val_main_v152 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 19 _ (by decide +kernel) fun t _ y => ?_
  have at_place : (win0_19.blk t).view.emb y = ix2 (place t (y 0)) (y 1) := by blk_ext [place, idx t]
  blk_simp
  rw [after0_19]
  unfold outsAt0
  frame_out
  exact ((congrArg _ (eq_ix2 y)).trans (rstd_eq m c t (ms0_15 t).view hu (y 0) (y 1))).trans (congrArg _ at_place.symm)

theorem h_final : (dats m 0 c).arrAt 20 (cfgs 0).N = val_main_v146 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 20 _ (by decide +kernel) fun t _ y => ?_
  have at_place : (win0_20.blk t).view.emb y = ix2 (place t (y 0)) (y 1) := by blk_ext [place, idx t]
  blk_simp
  rw [after0_20]
  unfold outsAt0
  frame_out
  exact ((congrArg _ (eq_ix2 y)).trans (h_eq m c t (ms0_15 t).view hu (y 0) (y 1))).trans (congrArg _ at_place.symm)

theorem hb_final : (dats m 0 c).arrAt 21 (cfgs 0).N = val_main_v153 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 21 _ (by decide +kernel) fun t _ y => ?_
  have at_place : (win0_21.blk t).view.emb y = ix2 (place t (y 0)) (y 1) := by blk_ext [place, idx t]
  blk_simp
  rw [after0_21]
  unfold outsAt0
  frame_out
  exact ((congrArg _ (eq_ix2 y)).trans (h_eq m c t (ms0_15 t).view hu (y 0) (y 1))).trans (congrArg _ at_place.symm)

end Cert.MergeIdeal.Value
end
-- ==== Proof.MergeFinite.lean ====
module

public import proofs.«01_k».proof.Proof.Reals
public import proofs.«01_k».proof.Proof.MergeMean
public import proofs.«01_k».proof.Proof.Gen.Pre_merge_finite
public import proofs.«01_k».proof.Proof.Gen.MergeIdeal.Value
public import Idealize.ShloMosaic.Lib.Pipeline.ValueKit
public import Idealize.ShloMosaic.Lib.Pointwise
public import Idealize.ShloMosaic.Lib.Claim

/-!
What the precondition of the branch merge's claim gives.
-/

@[expose] public section

set_option maxRecDepth 16384

noncomputable section

open Idealize.ShloMosaic Idealize.ShloMosaic.TcCoe Idealize.SL.Sem

namespace Cert.MergeIdeal.Value
open Cert.MergeIdeal Cert.MergeIdeal.Gen Cert.Reals

/-- A finite pooled input is made of real numbers. -/
theorem finite_args (x0 : (⟨S2048x512, .f32⟩ : BufTy).Contents (Elt Ideal)) (x1 : (⟨S2048x512, .f32⟩ : BufTy).Contents (Elt Ideal)) (x2 : (⟨S2048x2048, .f32⟩ : BufTy).Contents (Elt Ideal)) (x3 : (⟨S2048x1024, .f32⟩ : BufTy).Contents (Elt Ideal)) (x4 : (⟨S512x1024, .f32⟩ : BufTy).Contents (Elt Ideal)) (x5 : (⟨S4x128x128, .f32⟩ : BufTy).Contents (Elt Ideal)) (x6 : (⟨S512, .f32⟩ : BufTy).Contents (Elt Ideal)) (x7 : (⟨S512x1024, .f32⟩ : BufTy).Contents (Elt Ideal)) (x8 : (⟨S1024x1024, .f32⟩ : BufTy).Contents (Elt Ideal)) (x9 : (⟨S1024, .f32⟩ : BufTy).Contents (Elt Ideal)) (x10 : (⟨S1024, .f32⟩ : BufTy).Contents (Elt Ideal))
    (h : Cert.Pre_merge_finite.fn (F := Ideal) x0 x1 x2 x3 x4 x5 x6 x7 x8 x9 x10 = fun _ => 1#1) : ∀ i, IsReal (x1 i) := by
  have e := congrFun h (Shape.Idx.first (by decide))
  unfold Cert.Pre_merge_finite.fn at e
  exact of_all x1 _ _ (fun _ => rfl) _ _ _ e

end Cert.MergeIdeal.Value
end
-- ==== Proof.MergeClaim.lean ====
module

public import proofs.«01_k».proof.Proof.MergeFrames
public import proofs.«01_k».proof.Proof.MergeFinal
public import proofs.«01_k».proof.Proof.MergeFinite
public import proofs.«01_k».proof.Proof.Gen.Pre_merge_finite

@[expose] public section

set_option maxRecDepth 16384

noncomputable section

open Idealize.ShloMosaic Idealize.SL.Sem

namespace Cert.Proof.Merge

theorem frameIdealPre : Cert.quiescent_MergeIdeal_pre_merge_finite := fun m ρ _ => Cert.MergeIdeal.Gen.frame m ρ

theorem frameReferencePre : Cert.quiescent_MergeHostIdeal_pre_merge_finite := fun m ρ _ => frameReference m ρ trivial

theorem algebraic : Cert.algebraic_MergeIdeal_MergeHostIdeal_pre_merge_finite := by
  intro m ρ m' ρ' hpre hagree
  refine ⟨_, _, _, _, _, _, _, _, _, _, Cert.MergeIdeal.Value.run_blocks m ρ, ?_⟩
  refine (θ_run Cert.MergeHostIdeal.defs _ _).mono (fun _ h c => ?_) (Cert.MergeHostIdeal.Value.run (F := Ideal) m' ρ')
  obtain ⟨a0, a1, a2, a3, a4, a5, a6, a7, a8, a9, a10⟩ := hagree c
  obtain ⟨h0, h1, h2, h3, h4, h5, h6, h7, h8, h9, hargs⟩ := h c
  refine ⟨h0.trans ?_, h1.trans ?_, h2.trans ?_, h3.trans ?_, h4.trans ?_, h5.trans ?_, h6.trans ?_, h7.trans ?_, h8.trans ?_, h9.trans ?_, hargs⟩
  · refine (Cert.MergeHostIdeal.Read.val_main_v147_eq ..).trans ?_
    simp only [a0, a1, a2, a3, a4, a5, a6, a7, a8, a9, a10]
    exact (Cert.MergeIdeal.Value.ya_final m c).symm
  · refine (Cert.MergeHostIdeal.Read.val_main_v148_eq ..).trans ?_
    simp only [a0, a1, a2, a3, a4, a5, a6, a7, a8, a9, a10]
    exact (Cert.MergeIdeal.Value.yp_final m c (Cert.MergeIdeal.Value.finite_args _ _ _ _ _ _ _ _ _ _ _ (hpre c))).symm
  · refine (Cert.MergeHostIdeal.Read.val_main_v149_eq ..).trans ?_
    simp only [a0, a1, a2, a3, a4, a5, a6, a7, a8, a9, a10]
    exact (Cert.MergeIdeal.Value.pooled_final m c (Cert.MergeIdeal.Value.finite_args _ _ _ _ _ _ _ _ _ _ _ (hpre c))).symm
  · refine (Cert.MergeHostIdeal.Read.val_main_v109_eq ..).trans ?_
    simp only [a0, a1, a2, a3, a4, a5, a6, a7, a8, a9, a10]
    exact (Cert.MergeIdeal.Value.mixed_final m c (Cert.MergeIdeal.Value.finite_args _ _ _ _ _ _ _ _ _ _ _ (hpre c))).symm
  · refine (Cert.MergeHostIdeal.Read.val_main_v150_eq ..).trans ?_
    simp only [a0, a1, a2, a3, a4, a5, a6, a7, a8, a9, a10]
    exact (Cert.MergeIdeal.Value.ypre_final m c (Cert.MergeIdeal.Value.finite_args _ _ _ _ _ _ _ _ _ _ _ (hpre c))).symm
  · refine (Cert.MergeHostIdeal.Read.val_main_v151_eq ..).trans ?_
    simp only [a0, a1, a2, a3, a4, a5, a6, a7, a8, a9, a10]
    exact (Cert.MergeIdeal.Value.merged_final m c (Cert.MergeIdeal.Value.finite_args _ _ _ _ _ _ _ _ _ _ _ (hpre c))).symm
  · refine (Cert.MergeHostIdeal.Read.val_main_v140_eq ..).trans ?_
    simp only [a0, a1, a2, a3, a4, a5, a6, a7, a8, a9, a10]
    exact (Cert.MergeIdeal.Value.xhat_final m c (Cert.MergeIdeal.Value.finite_args _ _ _ _ _ _ _ _ _ _ _ (hpre c))).symm
  · refine (Cert.MergeHostIdeal.Read.val_main_v152_eq ..).trans ?_
    simp only [a0, a1, a2, a3, a4, a5, a6, a7, a8, a9, a10]
    exact (Cert.MergeIdeal.Value.rstd_final m c (Cert.MergeIdeal.Value.finite_args _ _ _ _ _ _ _ _ _ _ _ (hpre c))).symm
  · refine (Cert.MergeHostIdeal.Read.val_main_v146_eq ..).trans ?_
    simp only [a0, a1, a2, a3, a4, a5, a6, a7, a8, a9, a10]
    exact (Cert.MergeIdeal.Value.h_final m c (Cert.MergeIdeal.Value.finite_args _ _ _ _ _ _ _ _ _ _ _ (hpre c))).symm
  · refine (Cert.MergeHostIdeal.Read.val_main_v153_eq ..).trans ?_
    simp only [a0, a1, a2, a3, a4, a5, a6, a7, a8, a9, a10]
    exact (Cert.MergeIdeal.Value.hb_final m c (Cert.MergeIdeal.Value.finite_args _ _ _ _ _ _ _ _ _ _ _ (hpre c))).symm

end Cert.Proof.Merge

end

end
-- ==== Proof.LookFrames.lean ====
module

public import proofs.«01_k».proof.Defs
public import proofs.«01_k».proof.Proof.Gen.Look.Frame
public import proofs.«01_k».proof.Proof.Gen.LookIdeal.Frame
public import proofs.«01_k».proof.Proof.Gen.LookHostIdeal.Run
public import Idealize.ShloMosaic.Lib.Quiescent

@[expose] public section

set_option maxRecDepth 16384

noncomputable section

open Idealize.ShloMosaic Idealize.SL.Sem

namespace Cert.Proof.Look

theorem frame : Cert.quiescent_Look := fun m ρ _ => Cert.Look.Gen.frame m ρ

theorem frameIdeal : Cert.quiescent_LookIdeal := fun m ρ _ => Cert.LookIdeal.Gen.frame m ρ

theorem frameReference : Cert.quiescent_LookHostIdeal := fun m ρ _ =>
  (θ_run Cert.LookHostIdeal.defs _ _).mono (fun r h => ⟨fun c => (h c).2, Idealize.ShloMosaic.sem_eq_zero_of_no_sems (by decide) r.2⟩) (Cert.LookHostIdeal.Value.run (F := Ideal) m ρ)

theorem preserves : Cert.preserves_Look_LookIdeal :=
  IdealRules.named_const.statement Cert.LookIdeal.κ "mask" .f32 0xF149F2CA#32 ⊥ rfl

end Cert.Proof.Look

end

end
-- ==== Proof.WeightsFrames.lean ====
module

public import proofs.«01_k».proof.Defs
public import proofs.«01_k».proof.Proof.Gen.Weights.Frame
public import proofs.«01_k».proof.Proof.Gen.WeightsIdeal.Frame
public import proofs.«01_k».proof.Proof.Gen.WeightsGradIdeal.Run
public import Idealize.ShloMosaic.Lib.Quiescent

@[expose] public section

set_option maxRecDepth 16384

noncomputable section

open Idealize.ShloMosaic Idealize.SL.Sem

namespace Cert.Proof.Weights

theorem frame : Cert.quiescent_Weights := fun m ρ _ => Cert.Weights.Gen.frame m ρ

theorem frameIdeal : Cert.quiescent_WeightsIdeal := fun m ρ _ => Cert.WeightsIdeal.Gen.frame m ρ

theorem frameReference : Cert.quiescent_WeightsGradIdeal := fun m ρ _ =>
  (θ_run Cert.WeightsGradIdeal.defs _ _).mono (fun r h => ⟨fun c => (h c).2, Idealize.ShloMosaic.sem_eq_zero_of_no_sems (by decide) r.2⟩) (Cert.WeightsGradIdeal.Value.run (F := Ideal) m ρ)

theorem preserves : Cert.preserves_Weights_WeightsIdeal :=
  trivial

end Cert.Proof.Weights

end

end
-- ==== Proof.WeightsFinal.lean ====
module

public import proofs.«01_k».proof.Proof.Gen.WeightsIdeal.Value
public import proofs.«01_k».proof.Proof.Gen.WeightsGradIdeal.Read
public import Idealize.ShloMosaic.Lib.Pipeline.ValueKit
public import Idealize.ShloMosaic.Lib.Pointwise
public import Idealize.ShloMosaic.Lib.KernelVsHost
public import Idealize.ShloMosaic.Lib.Claim

/-!
The gradient of the input weights, by owner of its columns.
-/

@[expose] public section

set_option maxRecDepth 16384

noncomputable section

open Idealize.ShloMosaic Idealize.ShloMosaic.TcCoe Idealize.SL.Sem

namespace Cert.WeightsIdeal.Value
open Cert.WeightsIdeal Cert.WeightsIdeal.Gen
open Cert.WeightsGradIdeal.Read

variable (m : (ℓ : Loc nD τ sig) → Buf (Elt Ideal) ℓ) (c : Dev nD)

theorem product_rows (x : Vec Ideal S1024x2048 .bf16) (z : Vec Ideal S2048x512 .bf16) (r : Fin 1024) (l : Fin 512) :
    k0_pay1 (F := Ideal) x z (ix3 0 r l) = ∑ k : Fin 2048, x (ix2 r k) * z (ix2 k l) := by
  pointwise [k0_pay1]

theorem product_at (x : (⟨S2048x1024, .f32⟩ : BufTy).Contents (Elt Ideal)) (z : (⟨S2048x4096, .f32⟩ : BufTy).Contents (Elt Ideal)) (n : Fin 8) (r : Fin 1024) (l : Fin 512) :
    val_main_v6 (F := Ideal) x z (ix3 n r l) = ∑ k : Fin 2048, z (ix2 k ⟨n.val * 512 + l.val, by omega⟩) * x (ix2 k r) := by
  pointwise [val_main_v6, val_main_v5, val_main_v4, val_main_v3, val_main_v2]

theorem given_entry (r : Fin 1024) (k : Fin 2048) : V m c main_v1 (ix2 r k) = (m ((c : Thread nD τ).loc main_arg0)) (ix2 k r) := by
  entry_read
  generalize (m ((c : Thread nD τ).loc main_arg0)) = y
  pointwise []

theorem sent_entry (k : Fin 2048) (l : Fin 4096) : V m c main_v2 (ix2 k l) = (m ((c : Thread nD τ).loc main_arg1)) (ix2 k l) := by
  entry_read
  generalize (m ((c : Thread nD τ).loc main_arg1)) = y
  pointwise []

/-- The column of the whole array at column `l` of block `t`. -/
abbrev place (t : Fin cfg0.N) (l : Fin 512) : Fin 4096 := ⟨t.val * 512 + l.val, by have := t.isLt.trans_le (le_of_eq N_0); omega⟩

theorem idx : ∀ t : Fin cfg0.N, win0_0.index t = ![0, 0] ∧ win0_1.index t = ![0, t.val] ∧ win0_2.index t = ![t.val, 0, 0] := by decide +kernel

variable (t : Fin cfg0.N)

theorem given_block (r : Fin 1024) (k : Fin 2048) : iblk m c 0 t (ix2 r k) = (m ((c : Thread nD τ).loc main_arg0)) (ix2 k r) := by
  rw [← given_entry m c]
  unfold iblk; blk_simp; generalize V m c main_v1 = y; refine congrArg y ?_; blk_ext [place, idx t]

theorem sent_block (k : Fin 2048) (l : Fin 512) : iblk m c 1 t (ix2 k l) = (m ((c : Thread nD τ).loc main_arg1)) (ix2 k (place t l)) := by
  rw [← sent_entry m c]
  unfold iblk; blk_simp; generalize V m c main_v2 = y; refine congrArg y ?_; blk_ext [place, idx t]

theorem w_final : (dats m 0 c).arrAt 2 (cfgs 0).N = val_main_v6 (F := Ideal) (m ((c : Thread nD τ).loc main_arg0)) (m ((c : Thread nD τ).loc main_arg1)) := by
  refine (dats m 0 c).arrAt_eq_of_covers 2 _ (by decide +kernel) fun t _ y => ?_
  have at_place : (win0_2.blk t).view.emb y = ix3 ⟨t.val, t.isLt.trans_le (le_of_eq N_0)⟩ (y 1) (y 2) := by blk_ext [place, idx t]
  blk_simp
  rw [after0_2]
  frame_out
  refine Eq.trans ?_ (congrArg (val_main_v6 (F := Ideal) (m ((c : Thread nD τ).loc main_arg0)) (m ((c : Thread nD τ).loc main_arg1))) at_place.symm)
  have first : y = ix3 0 (y 1) (y 2) := by
    refine funext fun a => ?_
    match a with
    | ⟨0, _⟩ => exact Fin.ext (Nat.lt_one_iff.1 (y 0).isLt)
    | ⟨1, _⟩ => rfl
    | ⟨2, _⟩ => rfl
  refine (congrArg _ first).trans ?_
  refine (product_rows _ _ _ _).trans ((Finset.sum_congr rfl fun k _ => ?_).trans (product_at _ _ _ _ _).symm)
  refine (congrArg₂ (fun x y : EReal => x * y) (given_block m c t (y 1) k) (sent_block m c t k (y 2))).trans (mul_comm _ _)

end Cert.WeightsIdeal.Value
end
-- ==== Proof.WeightsClaim.lean ====
module

public import proofs.«01_k».proof.Proof.WeightsFrames
public import proofs.«01_k».proof.Proof.WeightsFinal

@[expose] public section

set_option maxRecDepth 16384

noncomputable section

open Idealize.ShloMosaic Idealize.SL.Sem

namespace Cert.Proof.Weights

theorem algebraic : Cert.algebraic_WeightsIdeal_WeightsGradIdeal := by
  intro m ρ m' ρ' _ hagree
  refine ⟨_, Cert.WeightsIdeal.Value.run_blocks m ρ, ?_⟩
  refine (θ_run Cert.WeightsGradIdeal.defs _ _).mono (fun _ h c => ?_) (Cert.WeightsGradIdeal.Value.run (F := Ideal) m' ρ')
  obtain ⟨a0, a1⟩ := hagree c
  obtain ⟨h0, hargs⟩ := h c
  refine ⟨h0.trans ?_, hargs⟩
  · refine (Cert.WeightsGradIdeal.Read.val_main_v6_eq ..).trans ?_
    simp only [a0, a1]
    exact (Cert.WeightsIdeal.Value.w_final m c).symm

end Cert.Proof.Weights

end

end
-- ==== Proof.AdamFrames.lean ====
module

public import proofs.«01_k».proof.Defs
public import proofs.«01_k».proof.Proof.Gen.Adam.Frame
public import proofs.«01_k».proof.Proof.Gen.AdamIdeal.Frame
public import proofs.«01_k».proof.Proof.Gen.AdamHostIdeal.Run
public import Idealize.ShloMosaic.Lib.Quiescent

@[expose] public section

set_option maxRecDepth 16384

noncomputable section

open Idealize.ShloMosaic Idealize.SL.Sem

namespace Cert.Proof.Adam

theorem frame : Cert.quiescent_Adam := fun m ρ _ => Cert.Adam.Gen.frame m ρ

theorem frameIdeal : Cert.quiescent_AdamIdeal := fun m ρ _ => Cert.AdamIdeal.Gen.frame m ρ

theorem frameReference : Cert.quiescent_AdamHostIdeal := fun m ρ _ =>
  (θ_run Cert.AdamHostIdeal.defs _ _).mono (fun r h => ⟨fun c => (h c).2.2.2.2, Idealize.ShloMosaic.sem_eq_zero_of_no_sems (by decide) r.2⟩) (Cert.AdamHostIdeal.Value.run (F := Ideal) m ρ)

theorem preserves : Cert.preserves_Adam_AdamIdeal :=
  trivial

end Cert.Proof.Adam

end

end
-- ==== Proof.AdamFinal.lean ====
module

public import proofs.«01_k».proof.Proof.Gen.AdamIdeal.Value
public import proofs.«01_k».proof.Proof.Gen.AdamHostIdeal.Read
public import Idealize.ShloMosaic.Lib.Pipeline.ValueKit
public import Idealize.ShloMosaic.Lib.Pointwise
public import Idealize.ShloMosaic.Lib.KernelVsHost
public import Idealize.ShloMosaic.Lib.Claim

/-!
The sum of the partial gradients of a weight and one step of the optimiser.
-/

@[expose] public section

set_option maxRecDepth 16384

noncomputable section

open Idealize.ShloMosaic Idealize.ShloMosaic.TcCoe Idealize.SL.Sem

namespace Cert.AdamIdeal.Value
open Cert.AdamIdeal Cert.AdamIdeal.Gen
open Cert.AdamHostIdeal.Read

/-- One entry's mean, square mean and step from its gradient `g`. -/
def mean (g m : EReal) : EReal := Ideal.ofBits .f32 0x3F666666#32 * m + Ideal.ofBits .f32 0x3DCCCCCD#32 * g
def square (g v : EReal) : EReal := Ideal.ofBits .f32 0x3F7FBE77#32 * v + Ideal.ofBits .f32 0x3A83126F#32 * (g * g)
def step (g w m v : EReal) : EReal :=
  Ideal.ofBits .f32 0xBA83126F#32 * (Ideal.div (Ideal.div (mean g m) (Ideal.ofBits .f32 0x3F26BD02#32)) (Ideal.sqrt (Ideal.div (square g v) (Ideal.ofBits .f32 0x3C231ACC#32)) + Ideal.ofBits .f32 0x322BCC77#32) + Ideal.ofBits .f32 0x3C23D70A#32 * w)

section Reference
variable (p : (⟨S4x1024x512, .f32⟩ : BufTy).Contents (Elt Ideal)) (w m v : (⟨S1024x512, .f32⟩ : BufTy).Contents (Elt Ideal)) (r : Fin 1024) (l : Fin 512)

theorem sum_at : val_main_v0 (F := Ideal) p (ix2 r l) = ∑ d : Fin 4, p (ix3 d r l) := by
  pointwise [val_main_v0, val_main_cst]

theorem mean_at : val_main_v5 (F := Ideal) p m (ix2 r l) = mean (val_main_v0 (F := Ideal) p (ix2 r l)) (m (ix2 r l)) := rfl

theorem square_at : val_main_v11 (F := Ideal) p v (ix2 r l) = square (val_main_v0 (F := Ideal) p (ix2 r l)) (v (ix2 r l)) := rfl

theorem step_at : val_main_v24 (F := Ideal) p w m v (ix2 r l) = step (val_main_v0 (F := Ideal) p (ix2 r l)) (w (ix2 r l)) (m (ix2 r l)) (v (ix2 r l)) := rfl
end Reference

theorem sum_rows (a b d e : Vec Ideal S1x256x512 .bf16) (r : Fin 256) (l : Fin 512) :
    k0_pay2 (F := Ideal) a b d e (ix2 r l) = a (ix3 0 r l) + b (ix3 0 r l) + d (ix3 0 r l) + e (ix3 0 r l) := by
  pointwise [k0_pay2]

theorem mean_rows (a b d e : Vec Ideal S1x256x512 .bf16) (x : Vec Ideal S256x512 .f32) (r : Fin 256) (l : Fin 512) :
    k0_pay3 (F := Ideal) a b d e x (ix2 r l) = mean (k0_pay2 (F := Ideal) a b d e (ix2 r l)) (x (ix2 r l)) := rfl

theorem square_rows (a b d e : Vec Ideal S1x256x512 .bf16) (x : Vec Ideal S256x512 .f32) (r : Fin 256) (l : Fin 512) :
    k0_pay4 (F := Ideal) a b d e x (ix2 r l) = square (k0_pay2 (F := Ideal) a b d e (ix2 r l)) (x (ix2 r l)) := rfl

theorem step_rows (a b d e : Vec Ideal S1x256x512 .bf16) (w x v : Vec Ideal S256x512 .f32) (r : Fin 256) (l : Fin 512) :
    k0_pay1 (F := Ideal) w (k0_pay4 (F := Ideal) a b d e v) (k0_pay5 (F := Ideal) a b d e x) (Scalar.ofBits .f32 0x3C231ACC#32) (ix2 r l)
      = step (k0_pay2 (F := Ideal) a b d e (ix2 r l)) (w (ix2 r l)) (x (ix2 r l)) (v (ix2 r l)) := rfl

variable (m : (ℓ : Loc nD τ sig) → Buf (Elt Ideal) ℓ) (c : Dev nD)

theorem parts_entry (d : Fin 4) (r : Fin 1024) (l : Fin 512) : V m c main_v0 (ix3 d r l) = (m ((c : Thread nD τ).loc main_arg0)) (ix3 d r l) := by
  entry_read
  generalize (m ((c : Thread nD τ).loc main_arg0)) = y
  pointwise []

/-- The row of the whole array at row `r` of block `t`. -/
abbrev place (t : Fin cfg0.N) (r : Fin 256) : Fin 1024 := ⟨256 * t.val + r.val, by have := t.isLt.trans_le (le_of_eq N_0); omega⟩

theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] := by decide +kernel

variable (t : Fin cfg0.N) (r : Fin 256) (l : Fin 512)

theorem parts_block (d : Fin 4) : iblk m c 0 t (ix3 d r l) = (m ((c : Thread nD τ).loc main_arg0)) (ix3 d (place t r) l) := by
  rw [← parts_entry m c]
  unfold iblk; blk_simp; generalize V m c main_v0 = y; refine congrArg y ?_; blk_ext [place, idx t]

theorem weight_block : iblk m c 1 t (ix2 r l) = (m ((c : Thread nD τ).loc main_arg1)) (ix2 (place t r) l) := by
  blk_point [iblk, V_main_arg1, place, idx t]

theorem mean_block : iblk m c 2 t (ix2 r l) = (m ((c : Thread nD τ).loc main_arg2)) (ix2 (place t r) l) := by
  blk_point [iblk, V_main_arg2, place, idx t]

theorem square_block : iblk m c 3 t (ix2 r l) = (m ((c : Thread nD τ).loc main_arg3)) (ix2 (place t r) l) := by
  blk_point [iblk, V_main_arg3, place, idx t]

/-- The four partial gradients of a block, as the body loads them. -/
abbrev gradient : FVec Ideal S256x512 .f32 := k0_pay2 (F := Ideal) (View.ld (iblk m c 0 t) r0_0) (View.ld (iblk m c 0 t) r0_1) (View.ld (iblk m c 0 t) r0_2) (View.ld (iblk m c 0 t) r0_3)

theorem gradient_eq : gradient m c t (ix2 r l) = val_main_v0 (F := Ideal) (m ((c : Thread nD τ).loc main_arg0)) (ix2 (place t r) l) := by
  refine (sum_rows _ _ _ _ _ _).trans (Eq.trans ?_ (sum_at _ _ _).symm)
  rw [Fin.sum_univ_four, ← parts_block m c t r l 0, ← parts_block m c t r l 1, ← parts_block m c t r l 2, ← parts_block m c t r l 3]
  generalize iblk m c 0 t = y
  refine congrArg₂ (fun x y : EReal => x + y) (congrArg₂ (fun x y : EReal => x + y) (congrArg₂ (fun x y : EReal => x + y) ?_ ?_) ?_) ?_
  all_goals pointwise [r0_0, r0_1, r0_2, r0_3]

theorem square_load : View.ld (iblk m c 3 t) r0_4 (ix2 r l) = (m ((c : Thread nD τ).loc main_arg3)) (ix2 (place t r) l) := by
  rw [← square_block m c t r l]
  generalize iblk m c 3 t = y
  pointwise [r0_4]

theorem g_final : (dats m 0 c).arrAt 4 (cfgs 0).N = val_main_v0 (F := Ideal) (m ((c : Thread nD τ).loc main_arg0)) := by
  refine (dats m 0 c).arrAt_eq_of_covers 4 _ (by decide +kernel) fun t _ y => ?_
  have at_place : (win0_4.blk t).view.emb y = ix2 (place t (y 0)) (y 1) := by blk_ext [place, idx t]
  blk_simp
  rw [after0_4]
  frame_out
  refine Eq.trans ?_ (congrArg (val_main_v0 (F := Ideal) (m ((c : Thread nD τ).loc main_arg0))) at_place.symm)
  refine (congrArg _ (eq_ix2 y)).trans ?_
  exact gradient_eq m c t (y 0) (y 1)

theorem d_final : (dats m 0 c).arrAt 5 (cfgs 0).N = val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  have at_place : (win0_5.blk t).view.emb y = ix2 (place t (y 0)) (y 1) := by blk_ext [place, idx t]
  blk_simp
  rw [after0_5]
  frame_out
  refine Eq.trans ?_ (congrArg (val_main_v24 (F := Ideal) (m ((c : Thread nD τ).loc main_arg0)) (m ((c : Thread nD τ).loc main_arg1)) (m ((c : Thread nD τ).loc main_arg2)) (m ((c : Thread nD τ).loc main_arg3))) at_place.symm)
  refine (congrArg _ (eq_ix2 y)).trans ?_
  exact (step_rows (View.ld (iblk m c 0 t) r0_0) (View.ld (iblk m c 0 t) r0_1) (View.ld (iblk m c 0 t) r0_2) (View.ld (iblk m c 0 t) r0_3) _ _ _ _ _).trans <| ((congrArg₂ (fun (a b : EReal × EReal) => step a.1 a.2 b.1 b.2) (congrArg₂ Prod.mk (gradient_eq m c t (y 0) (y 1)) (weight_block m c t (y 0) (y 1)))
    (congrArg₂ Prod.mk (mean_block m c t (y 0) (y 1)) (square_load m c t (y 0) (y 1)))).trans (step_at _ _ _ _ _ _).symm)

theorem nm_final : (dats m 0 c).arrAt 6 (cfgs 0).N = val_main_v5 (F := Ideal) (m ((c : Thread nD τ).loc main_arg0)) (m ((c : Thread nD τ).loc main_arg2)) := by
  refine (dats m 0 c).arrAt_eq_of_covers 6 _ (by decide +kernel) fun t _ y => ?_
  have at_place : (win0_6.blk t).view.emb y = ix2 (place t (y 0)) (y 1) := by blk_ext [place, idx t]
  blk_simp
  rw [after0_6]
  frame_out
  refine Eq.trans ?_ (congrArg (val_main_v5 (F := Ideal) (m ((c : Thread nD τ).loc main_arg0)) (m ((c : Thread nD τ).loc main_arg2))) at_place.symm)
  refine (congrArg _ (eq_ix2 y)).trans ?_
  exact (mean_rows _ _ _ _ _ _ _).trans <| (congrArg₂ mean (gradient_eq m c t (y 0) (y 1)) (mean_block m c t (y 0) (y 1))).trans (mean_at _ _ _ _).symm

theorem nv_final : (dats m 0 c).arrAt 7 (cfgs 0).N = val_main_v11 (F := Ideal) (m ((c : Thread nD τ).loc main_arg0)) (m ((c : Thread nD τ).loc main_arg3)) := by
  refine (dats m 0 c).arrAt_eq_of_covers 7 _ (by decide +kernel) fun t _ y => ?_
  have at_place : (win0_7.blk t).view.emb y = ix2 (place t (y 0)) (y 1) := by blk_ext [place, idx t]
  blk_simp
  rw [after0_7]
  frame_out
  refine Eq.trans ?_ (congrArg (val_main_v11 (F := Ideal) (m ((c : Thread nD τ).loc main_arg0)) (m ((c : Thread nD τ).loc main_arg3))) at_place.symm)
  refine (congrArg _ (eq_ix2 y)).trans ?_
  exact (square_rows (View.ld (iblk m c 0 t) r0_0) (View.ld (iblk m c 0 t) r0_1) (View.ld (iblk m c 0 t) r0_2) (View.ld (iblk m c 0 t) r0_3) (View.ld (iblk m c 3 t) r0_4) _ _).trans <| (congrArg₂ square (gradient_eq m c t (y 0) (y 1)) (square_load m c t (y 0) (y 1))).trans (square_at _ _ _ _).symm

end Cert.AdamIdeal.Value
end
-- ==== Proof.AdamClaim.lean ====
module

public import proofs.«01_k».proof.Proof.AdamFrames
public import proofs.«01_k».proof.Proof.AdamFinal

@[expose] public section

set_option maxRecDepth 16384

noncomputable section

open Idealize.ShloMosaic Idealize.SL.Sem

namespace Cert.Proof.Adam

theorem algebraic : Cert.algebraic_AdamIdeal_AdamHostIdeal := by
  intro m ρ m' ρ' _ hagree
  refine ⟨_, _, _, _, Cert.AdamIdeal.Value.run_blocks m ρ, ?_⟩
  refine (θ_run Cert.AdamHostIdeal.defs _ _).mono (fun _ h c => ?_) (Cert.AdamHostIdeal.Value.run (F := Ideal) m' ρ')
  obtain ⟨a0, a1, a2, a3⟩ := hagree c
  obtain ⟨h0, h1, h2, h3, hargs⟩ := h c
  refine ⟨h0.trans ?_, h1.trans ?_, h2.trans ?_, h3.trans ?_, hargs⟩
  · refine (Cert.AdamHostIdeal.Read.val_main_v0_eq ..).trans ?_
    simp only [a0, a1, a2, a3]
    exact (Cert.AdamIdeal.Value.g_final m c).symm
  · refine (Cert.AdamHostIdeal.Read.val_main_v24_eq ..).trans ?_
    simp only [a0, a1, a2, a3]
    exact (Cert.AdamIdeal.Value.d_final m c).symm
  · refine (Cert.AdamHostIdeal.Read.val_main_v5_eq ..).trans ?_
    simp only [a0, a1, a2, a3]
    exact (Cert.AdamIdeal.Value.nm_final m c).symm
  · refine (Cert.AdamHostIdeal.Read.val_main_v11_eq ..).trans ?_
    simp only [a0, a1, a2, a3]
    exact (Cert.AdamIdeal.Value.nv_final m c).symm

end Cert.Proof.Adam

end

end
-- ==== Proof.UpdateFrames.lean ====
module

public import proofs.«01_k».proof.Defs
public import proofs.«01_k».proof.Proof.Gen.Update.Frame
public import proofs.«01_k».proof.Proof.Gen.UpdateIdeal.Frame
public import proofs.«01_k».proof.Proof.Gen.UpdateHostIdeal.Run
public import Idealize.ShloMosaic.Lib.Quiescent

@[expose] public section

set_option maxRecDepth 16384

noncomputable section

open Idealize.ShloMosaic Idealize.SL.Sem

namespace Cert.Proof.Update

theorem frame : Cert.quiescent_Update := fun m ρ _ => Cert.Update.Gen.frame m ρ

theorem frameIdeal : Cert.quiescent_UpdateIdeal := fun m ρ _ => Cert.UpdateIdeal.Gen.frame m ρ

theorem frameReference : Cert.quiescent_UpdateHostIdeal := fun m ρ _ =>
  (θ_run Cert.UpdateHostIdeal.defs _ _).mono (fun r h => ⟨fun c => (h c).2.2.2.2.2.2.2.2.2.2.2.2, Idealize.ShloMosaic.sem_eq_zero_of_no_sems (by decide) r.2⟩) (Cert.UpdateHostIdeal.Value.run (F := Ideal) m ρ)

theorem preserves : Cert.preserves_Update_UpdateIdeal :=
  trivial

end Cert.Proof.Update

end

end
-- ==== Proof.UpdateFinal.lean ====
module

public import proofs.«01_k».proof.Proof.Gen.UpdateIdeal.Value
public import proofs.«01_k».proof.Proof.Gen.UpdateHostIdeal.Read
public import proofs.«01_k».proof.Proof.AdamFinal

/-!
The optimiser's call of the three feed-forward weights: of each weight the sum of the chips' gradients and the step. The
gate and up weights go through the call turned over.
-/

@[expose] public section

set_option maxRecDepth 16384

noncomputable section

open Idealize.ShloMosaic Idealize.ShloMosaic.TcCoe Idealize.SL.Sem

namespace Cert.UpdateIdeal.Value
open Cert.UpdateIdeal Cert.UpdateIdeal.Gen
open Cert.UpdateHostIdeal.Read
open Cert.AdamIdeal.Value (mean square step)

section Rows
variable (a b d e : Vec Ideal S1x176x1024 .bf16) (w x v : Vec Ideal S176x1024 .f32) (y : S176x1024.Idx)

/-- The call's expressions for the mean, of each weight in turn. -/
theorem mean_rows : k0_pay4 (F := Ideal) a b d e x y = mean (k0_pay2 (F := Ideal) a b d e y) (x y)
    ∧ k0_pay8 (F := Ideal) (k0_pay2 (F := Ideal) a b d e) x y = mean (k0_pay2 (F := Ideal) a b d e y) (x y)
    ∧ k0_pay12 (F := Ideal) a b d e x y = mean (k0_pay2 (F := Ideal) a b d e y) (x y) := by
  refine ⟨?_, ?_, ?_⟩ <;> first | rfl | pointwise [k0_pay4, k0_pay8, k0_pay2, mean]

theorem square_rows : k0_pay5 (F := Ideal) a b d e v y = square (k0_pay2 (F := Ideal) a b d e y) (v y)
    ∧ k0_pay9 (F := Ideal) (k0_pay2 (F := Ideal) a b d e) v y = square (k0_pay2 (F := Ideal) a b d e y) (v y)
    ∧ k0_pay13 (F := Ideal) a b d e v y = square (k0_pay2 (F := Ideal) a b d e y) (v y) := by
  refine ⟨?_, ?_, ?_⟩ <;> first | rfl | pointwise [k0_pay5, k0_pay9, k0_pay2, square]

theorem step_rows : k0_pay6 (F := Ideal) (k0_pay3 (F := Ideal) w) (k0_pay4 (F := Ideal) a b d e x) (k0_pay5 (F := Ideal) a b d e v) (Scalar.ofBits .f32 0x3F26BD02#32) y = step (k0_pay2 (F := Ideal) a b d e y) (w y) (x y) (v y)
    ∧ k0_pay10 (F := Ideal) (k0_pay2 (F := Ideal) a b d e) w x v y = step (k0_pay2 (F := Ideal) a b d e y) (w y) (x y) (v y)
    ∧ k0_pay1 (F := Ideal) w (k0_pay14 (F := Ideal) a b d e x) (k0_pay15 (F := Ideal) a b d e v) (Scalar.ofBits .f32 0x322BCC77#32) y = step (k0_pay2 (F := Ideal) a b d e y) (w y) (x y) (v y) := by
  refine ⟨?_, ?_, ?_⟩ <;> first | rfl | pointwise [k0_pay10, k0_pay6, k0_pay3, k0_pay4, k0_pay5, k0_pay8, k0_pay9, k0_pay2, step, mean, square]

/-- The three sums are one expression. -/
theorem sum_rows : k0_pay7 (F := Ideal) = k0_pay2 (F := Ideal) ∧ k0_pay11 (F := Ideal) = k0_pay2 (F := Ideal) := ⟨rfl, rfl⟩
end Rows

/-- The sum of the four slices of a block. -/
abbrev gradient (x : Vec Ideal S4x176x1024 .bf16) : FVec Ideal S176x1024 .f32 := k0_pay2 (F := Ideal) (View.ld x r0_0) (View.ld x r0_1) (View.ld x r0_2) (View.ld x r0_3)

theorem gradient_at (x : Vec Ideal S4x176x1024 .bf16) (r : Fin 176) (l : Fin 1024) : gradient x (ix2 r l) = ∑ d : Fin 4, (x (ix3 d r l) : EReal) := by
  rw [Fin.sum_univ_four]
  pointwise [k0_pay2, r0_0, r0_1, r0_2, r0_3]

theorem whole (x : Vec Ideal S176x1024 .f32) : View.ld x r0_4 = x := View.ld_unit_zero (S := S176x1024) (funext fun a => by fin_cases a <;> rfl) _ x

section Turned
variable (p : (⟨S4x1024x352, .f32⟩ : BufTy).Contents (Elt Ideal)) (w x v : (⟨S1024x352, .f32⟩ : BufTy).Contents (Elt Ideal)) (r : Fin 352) (l : Fin 1024)

/-- The results of the gate and up weights are read turned over. -/
theorem turned : val_main_v75 (F := Ideal) p (ix2 r l) = val_main_v0 (F := Ideal) p (ix2 l r)
    ∧ val_main_v76 (F := Ideal) p w x v (ix2 r l) = step (val_main_v0 (F := Ideal) p (ix2 l r)) (w (ix2 l r)) (x (ix2 l r)) (v (ix2 l r))
    ∧ val_main_v77 (F := Ideal) p x (ix2 r l) = mean (val_main_v0 (F := Ideal) p (ix2 l r)) (x (ix2 l r))
    ∧ val_main_v78 (F := Ideal) p v (ix2 r l) = square (val_main_v0 (F := Ideal) p (ix2 l r)) (v (ix2 l r)) := by
  have h (f : (⟨S1024x352, .f32⟩ : BufTy).Contents (Elt Ideal)) : transpose S352x1024 [1, 0] f (by decide) (ix2 r l) = f (ix2 l r) := by pointwise []
  exact ⟨h _, h _, h _, h _⟩

theorem turned_sum : val_main_v0 (F := Ideal) p (ix2 l r) = ∑ d : Fin 4, (p (ix3 d l r) : EReal) := by
  pointwise [val_main_v0, val_main_cst]
end Turned

section Straight
variable (p : (⟨S4x352x1024, .f32⟩ : BufTy).Contents (Elt Ideal)) (w x v : (⟨S352x1024, .f32⟩ : BufTy).Contents (Elt Ideal)) (y : S352x1024.Idx)

theorem straight : val_main_v74 (F := Ideal) p w x v y = step (val_main_v50 (F := Ideal) p y) (w y) (x y) (v y)
    ∧ val_main_v55 (F := Ideal) p x y = mean (val_main_v50 (F := Ideal) p y) (x y) ∧ val_main_v61 (F := Ideal) p v y = square (val_main_v50 (F := Ideal) p y) (v y) := ⟨rfl, rfl, rfl⟩

theorem straight_sum (r : Fin 352) (l : Fin 1024) : val_main_v50 (F := Ideal) p (ix2 r l) = ∑ d : Fin 4, (p (ix3 d r l) : EReal) := by
  pointwise [val_main_v50, val_main_cst_19]
end Straight

variable (m : (ℓ : Loc nD τ sig) → Buf (Elt Ideal) ℓ) (c : Dev nD)

/-- The row of the whole array at row `r` of block `t`. -/
abbrev place (t : Fin cfg0.N) (r : Fin 176) : Fin 352 := ⟨176 * t.val + r.val, by have := t.isLt.trans_le (le_of_eq N_0); omega⟩

theorem idx : ∀ t : Fin cfg0.N, win0_0.index t = ![0, t.val, 0] ∧ win0_1.index t = ![t.val, 0] ∧ win0_2.index t = ![t.val, 0] ∧ win0_3.index t = ![t.val, 0] ∧ win0_4.index t = ![0, t.val, 0] ∧ win0_5.index t = ![t.val, 0] ∧ win0_6.index t = ![t.val, 0] ∧ win0_7.index t = ![t.val, 0] ∧ win0_8.index t = ![0, t.val, 0] ∧ win0_9.index t = ![t.val, 0] ∧ win0_10.index t = ![t.val, 0] ∧ win0_11.index t = ![t.val, 0] := by decide +kernel

theorem idx_out : ∀ t : Fin cfg0.N, win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] ∧ win0_19.index t = ![t.val, 0] ∧ win0_20.index t = ![t.val, 0] ∧ win0_21.index t = ![t.val, 0] ∧ win0_22.index t = ![t.val, 0] ∧ win0_23.index t = ![t.val, 0] := by decide +kernel

/-- What the call is given, by the arguments. -/
theorem given (d : Fin 4) (r : Fin 352) (l : Fin 1024) :
    V m c main_v1 (ix3 d r l) = (m ((c : Thread nD τ).loc main_arg0)) (ix3 d l r)
    ∧ V m c main_v2 (ix2 r l) = (m ((c : Thread nD τ).loc main_arg1)) (ix2 l r)
    ∧ V m c main_v3 (ix2 r l) = (m ((c : Thread nD τ).loc main_arg2)) (ix2 l r)
    ∧ V m c main_v4 (ix2 r l) = (m ((c : Thread nD τ).loc main_arg3)) (ix2 l r)
    ∧ V m c main_v6 (ix3 d r l) = (m ((c : Thread nD τ).loc main_arg4)) (ix3 d l r)
    ∧ V m c main_v7 (ix2 r l) = (m ((c : Thread nD τ).loc main_arg5)) (ix2 l r)
    ∧ V m c main_v8 (ix2 r l) = (m ((c : Thread nD τ).loc main_arg6)) (ix2 l r)
    ∧ V m c main_v9 (ix2 r l) = (m ((c : Thread nD τ).loc main_arg7)) (ix2 l r)
    ∧ V m c main_v10 (ix3 d r l) = (m ((c : Thread nD τ).loc main_arg8)) (ix3 d r l) := by
  refine ⟨?_, ?_, ?_, ?_, ?_, ?_, ?_, ?_, ?_⟩
  · entry_read; generalize (m ((c : Thread nD τ).loc main_arg0)) = y; pointwise []
  · entry_read; generalize (m ((c : Thread nD τ).loc main_arg1)) = y; pointwise []
  · entry_read; generalize (m ((c : Thread nD τ).loc main_arg2)) = y; pointwise []
  · entry_read; generalize (m ((c : Thread nD τ).loc main_arg3)) = y; pointwise []
  · entry_read; generalize (m ((c : Thread nD τ).loc main_arg4)) = y; pointwise []
  · entry_read; generalize (m ((c : Thread nD τ).loc main_arg5)) = y; pointwise []
  · entry_read; generalize (m ((c : Thread nD τ).loc main_arg6)) = y; pointwise []
  · entry_read; generalize (m ((c : Thread nD τ).loc main_arg7)) = y; pointwise []
  · entry_read; generalize (m ((c : Thread nD τ).loc main_arg8)) = y; pointwise []

variable (t : Fin cfg0.N) (d : Fin 4) (r : Fin 176) (l : Fin 1024)

set_option maxHeartbeats 2000000 in
/-- The blocks of a grid point, by the arguments. -/
theorem blocks :
    iblk m c 0 t (ix3 d r l) = (m ((c : Thread nD τ).loc main_arg0)) (ix3 d l (place t r))
    ∧ iblk m c 1 t (ix2 r l) = (m ((c : Thread nD τ).loc main_arg1)) (ix2 l (place t r))
    ∧ iblk m c 2 t (ix2 r l) = (m ((c : Thread nD τ).loc main_arg2)) (ix2 l (place t r))
    ∧ iblk m c 3 t (ix2 r l) = (m ((c : Thread nD τ).loc main_arg3)) (ix2 l (place t r))
    ∧ iblk m c 4 t (ix3 d r l) = (m ((c : Thread nD τ).loc main_arg4)) (ix3 d l (place t r))
    ∧ iblk m c 5 t (ix2 r l) = (m ((c : Thread nD τ).loc main_arg5)) (ix2 l (place t r))
    ∧ iblk m c 6 t (ix2 r l) = (m ((c : Thread nD τ).loc main_arg6)) (ix2 l (place t r))
    ∧ iblk m c 7 t (ix2 r l) = (m ((c : Thread nD τ).loc main_arg7)) (ix2 l (place t r))
    ∧ iblk m c 8 t (ix3 d r l) = (m ((c : Thread nD τ).loc main_arg8)) (ix3 d (place t r) l)
    ∧ iblk m c 9 t (ix2 r l) = (m ((c : Thread nD τ).loc main_arg9)) (ix2 (place t r) l)
    ∧ iblk m c 10 t (ix2 r l) = (m ((c : Thread nD τ).loc main_arg10)) (ix2 (place t r) l)
    ∧ iblk m c 11 t (ix2 r l) = (m ((c : Thread nD τ).loc main_arg11)) (ix2 (place t r) l) := by
  obtain ⟨g0, g1, g2, g3, g4, g5, g6, g7, g8⟩ := given m c d (place t r) l
  refine ⟨?_, ?_, ?_, ?_, ?_, ?_, ?_, ?_, ?_, ?_, ?_, ?_⟩
  · rw [← g0]; unfold iblk; blk_simp; generalize V m c main_v1 = y; refine congrArg y ?_; blk_ext [place, idx t]
  · rw [← g1]; unfold iblk; blk_simp; generalize V m c main_v2 = y; refine congrArg y ?_; blk_ext [place, idx t]
  · rw [← g2]; unfold iblk; blk_simp; generalize V m c main_v3 = y; refine congrArg y ?_; blk_ext [place, idx t]
  · rw [← g3]; unfold iblk; blk_simp; generalize V m c main_v4 = y; refine congrArg y ?_; blk_ext [place, idx t]
  · rw [← g4]; unfold iblk; blk_simp; generalize V m c main_v6 = y; refine congrArg y ?_; blk_ext [place, idx t]
  · rw [← g5]; unfold iblk; blk_simp; generalize V m c main_v7 = y; refine congrArg y ?_; blk_ext [place, idx t]
  · rw [← g6]; unfold iblk; blk_simp; generalize V m c main_v8 = y; refine congrArg y ?_; blk_ext [place, idx t]
  · rw [← g7]; unfold iblk; blk_simp; generalize V m c main_v9 = y; refine congrArg y ?_; blk_ext [place, idx t]
  · rw [← g8]; unfold iblk; blk_simp; generalize V m c main_v10 = y; refine congrArg y ?_; blk_ext [place, idx t]
  · blk_point [iblk, V_main_arg9, place, idx t]
  · blk_point [iblk, V_main_arg10, place, idx t]
  · blk_point [iblk, V_main_arg11, place, idx t]

theorem gate_sum : gradient (iblk m c 0 t) (ix2 r l) = val_main_v0 (F := Ideal) (m ((c : Thread nD τ).loc main_arg0)) (ix2 l (place t r)) := by
  rw [turned_sum, gradient_at]; exact Finset.sum_congr rfl fun d _ => (blocks m c t d r l).1

theorem up_sum : gradient (iblk m c 4 t) (ix2 r l) = val_main_v0 (F := Ideal) (m ((c : Thread nD τ).loc main_arg4)) (ix2 l (place t r)) := by
  rw [turned_sum, gradient_at]; exact Finset.sum_congr rfl fun d _ => (blocks m c t d r l).2.2.2.2.1

theorem down_sum : gradient (iblk m c 8 t) (ix2 r l) = val_main_v50 (F := Ideal) (m ((c : Thread nD τ).loc main_arg8)) (ix2 (place t r) l) := by
  rw [straight_sum, gradient_at]; exact Finset.sum_congr rfl fun d _ => (blocks m c t d r l).2.2.2.2.2.2.2.2.1

set_option maxHeartbeats 2000000 in
/-- Where an entry of a block of results lies. -/
theorem at_place (y : S176x1024.Idx) :
    (win0_12.blk t).view.emb y = ix2 (place t (y 0)) (y 1)
    ∧ (win0_13.blk t).view.emb y = ix2 (place t (y 0)) (y 1)
    ∧ (win0_14.blk t).view.emb y = ix2 (place t (y 0)) (y 1)
    ∧ (win0_15.blk t).view.emb y = ix2 (place t (y 0)) (y 1)
    ∧ (win0_16.blk t).view.emb y = ix2 (place t (y 0)) (y 1)
    ∧ (win0_17.blk t).view.emb y = ix2 (place t (y 0)) (y 1)
    ∧ (win0_18.blk t).view.emb y = ix2 (place t (y 0)) (y 1)
    ∧ (win0_19.blk t).view.emb y = ix2 (place t (y 0)) (y 1)
    ∧ (win0_20.blk t).view.emb y = ix2 (place t (y 0)) (y 1)
    ∧ (win0_21.blk t).view.emb y = ix2 (place t (y 0)) (y 1)
    ∧ (win0_22.blk t).view.emb y = ix2 (place t (y 0)) (y 1)
    ∧ (win0_23.blk t).view.emb y = ix2 (place t (y 0)) (y 1) := by
  refine ⟨?_, ?_, ?_, ?_, ?_, ?_, ?_, ?_, ?_, ?_, ?_, ?_⟩ <;> blk_ext [place, idx_out t]

theorem step_congr {g g' w w' x x' v v' : EReal} (h : g = g') (hw : w = w') (hx : x = x') (hv : v = v') : step g w x v = step g' w' x' v' := by rw [h, hw, hx, hv]

theorem gate_g_final : (dats m 0 c).arrAt 12 (cfgs 0).N = val_main_v75 (F := Ideal) (m ((c : Thread nD τ).loc main_arg0)) := by
  refine (dats m 0 c).arrAt_eq_of_covers 12 _ (by decide +kernel) fun t _ y => ?_
  blk_simp
  rw [after0_12]
  frame_out
  try simp only [whole, sum_rows, k0_pay16, k0_pay17, k0_pay18]
  refine Eq.trans ?_ (congrArg (val_main_v75 (F := Ideal) (m ((c : Thread nD τ).loc main_arg0))) (at_place t y).1.symm)
  refine (congrArg _ (eq_ix2 y)).trans ?_
  exact (gate_sum m c t (y 0) (y 1)).trans (turned (m ((c : Thread nD τ).loc main_arg0)) (m ((c : Thread nD τ).loc main_arg1)) (m ((c : Thread nD τ).loc main_arg2)) (m ((c : Thread nD τ).loc main_arg3)) (place t (y 0)) (y 1)).1.symm

theorem gate_d_final : (dats m 0 c).arrAt 13 (cfgs 0).N = val_main_v76 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 13 _ (by decide +kernel) fun t _ y => ?_
  blk_simp
  rw [after0_13]
  frame_out
  try simp only [whole, sum_rows, k0_pay16, k0_pay17, k0_pay18]
  refine Eq.trans ?_ (congrArg (val_main_v76 (F := Ideal) (m ((c : Thread nD τ).loc main_arg0)) (m ((c : Thread nD τ).loc main_arg1)) (m ((c : Thread nD τ).loc main_arg2)) (m ((c : Thread nD τ).loc main_arg3))) (at_place t y).2.1.symm)
  refine (congrArg _ (eq_ix2 y)).trans ?_
  exact ((step_rows _ _ _ _ _ _ _ _).1.trans (step_congr (gate_sum m c t (y 0) (y 1)) (blocks m c t 0 (y 0) (y 1)).2.1 (blocks m c t 0 (y 0) (y 1)).2.2.1 (blocks m c t 0 (y 0) (y 1)).2.2.2.1)).trans (turned (m ((c : Thread nD τ).loc main_arg0)) (m ((c : Thread nD τ).loc main_arg1)) (m ((c : Thread nD τ).loc main_arg2)) (m ((c : Thread nD τ).loc main_arg3)) (place t (y 0)) (y 1)).2.1.symm

theorem gate_nm_final : (dats m 0 c).arrAt 14 (cfgs 0).N = val_main_v77 (F := Ideal) (m ((c : Thread nD τ).loc main_arg0)) (m ((c : Thread nD τ).loc main_arg2)) := by
  refine (dats m 0 c).arrAt_eq_of_covers 14 _ (by decide +kernel) fun t _ y => ?_
  blk_simp
  rw [after0_14]
  frame_out
  try simp only [whole, sum_rows, k0_pay16, k0_pay17, k0_pay18]
  refine Eq.trans ?_ (congrArg (val_main_v77 (F := Ideal) (m ((c : Thread nD τ).loc main_arg0)) (m ((c : Thread nD τ).loc main_arg2))) (at_place t y).2.2.1.symm)
  refine (congrArg _ (eq_ix2 y)).trans ?_
  exact ((mean_rows _ _ _ _ _ _).1.trans (congrArg₂ mean (gate_sum m c t (y 0) (y 1)) (blocks m c t 0 (y 0) (y 1)).2.2.1)).trans (turned (m ((c : Thread nD τ).loc main_arg0)) (m ((c : Thread nD τ).loc main_arg1)) (m ((c : Thread nD τ).loc main_arg2)) (m ((c : Thread nD τ).loc main_arg3)) (place t (y 0)) (y 1)).2.2.1.symm

theorem gate_nv_final : (dats m 0 c).arrAt 15 (cfgs 0).N = val_main_v78 (F := Ideal) (m ((c : Thread nD τ).loc main_arg0)) (m ((c : Thread nD τ).loc main_arg3)) := by
  refine (dats m 0 c).arrAt_eq_of_covers 15 _ (by decide +kernel) fun t _ y => ?_
  blk_simp
  rw [after0_15]
  frame_out
  try simp only [whole, sum_rows, k0_pay16, k0_pay17, k0_pay18]
  refine Eq.trans ?_ (congrArg (val_main_v78 (F := Ideal) (m ((c : Thread nD τ).loc main_arg0)) (m ((c : Thread nD τ).loc main_arg3))) (at_place t y).2.2.2.1.symm)
  refine (congrArg _ (eq_ix2 y)).trans ?_
  exact ((square_rows _ _ _ _ _ _).1.trans (congrArg₂ square (gate_sum m c t (y 0) (y 1)) (blocks m c t 0 (y 0) (y 1)).2.2.2.1)).trans (turned (m ((c : Thread nD τ).loc main_arg0)) (m ((c : Thread nD τ).loc main_arg1)) (m ((c : Thread nD τ).loc main_arg2)) (m ((c : Thread nD τ).loc main_arg3)) (place t (y 0)) (y 1)).2.2.2.symm

theorem up_g_final : (dats m 0 c).arrAt 16 (cfgs 0).N = val_main_v79 (F := Ideal) (m ((c : Thread nD τ).loc main_arg4)) := by
  refine (dats m 0 c).arrAt_eq_of_covers 16 _ (by decide +kernel) fun t _ y => ?_
  blk_simp
  rw [after0_16]
  frame_out
  try simp only [whole, sum_rows, k0_pay16, k0_pay17, k0_pay18]
  refine Eq.trans ?_ (congrArg (val_main_v79 (F := Ideal) (m ((c : Thread nD τ).loc main_arg4))) (at_place t y).2.2.2.2.1.symm)
  refine (congrArg _ (eq_ix2 y)).trans ?_
  exact (up_sum m c t (y 0) (y 1)).trans (turned (m ((c : Thread nD τ).loc main_arg4)) (m ((c : Thread nD τ).loc main_arg5)) (m ((c : Thread nD τ).loc main_arg6)) (m ((c : Thread nD τ).loc main_arg7)) (place t (y 0)) (y 1)).1.symm

theorem up_d_final : (dats m 0 c).arrAt 17 (cfgs 0).N = val_main_v80 (F := Ideal) (m ((c : Thread nD τ).loc main_arg4)) (m ((c : Thread nD τ).loc main_arg5)) (m ((c : Thread nD τ).loc main_arg6)) (m ((c : Thread nD τ).loc main_arg7)) := by
  refine (dats m 0 c).arrAt_eq_of_covers 17 _ (by decide +kernel) fun t _ y => ?_
  blk_simp
  rw [after0_17]
  frame_out
  try simp only [whole, sum_rows, k0_pay16, k0_pay17, k0_pay18]
  refine Eq.trans ?_ (congrArg (val_main_v80 (F := Ideal) (m ((c : Thread nD τ).loc main_arg4)) (m ((c : Thread nD τ).loc main_arg5)) (m ((c : Thread nD τ).loc main_arg6)) (m ((c : Thread nD τ).loc main_arg7))) (at_place t y).2.2.2.2.2.1.symm)
  refine (congrArg _ (eq_ix2 y)).trans ?_
  exact ((step_rows _ _ _ _ _ _ _ _).2.1.trans (step_congr (up_sum m c t (y 0) (y 1)) (blocks m c t 0 (y 0) (y 1)).2.2.2.2.2.1 (blocks m c t 0 (y 0) (y 1)).2.2.2.2.2.2.1 (blocks m c t 0 (y 0) (y 1)).2.2.2.2.2.2.2.1)).trans (turned (m ((c : Thread nD τ).loc main_arg4)) (m ((c : Thread nD τ).loc main_arg5)) (m ((c : Thread nD τ).loc main_arg6)) (m ((c : Thread nD τ).loc main_arg7)) (place t (y 0)) (y 1)).2.1.symm

theorem up_nm_final : (dats m 0 c).arrAt 18 (cfgs 0).N = val_main_v81 (F := Ideal) (m ((c : Thread nD τ).loc main_arg4)) (m ((c : Thread nD τ).loc main_arg6)) := by
  refine (dats m 0 c).arrAt_eq_of_covers 18 _ (by decide +kernel) fun t _ y => ?_
  blk_simp
  rw [after0_18]
  frame_out
  try simp only [whole, sum_rows, k0_pay16, k0_pay17, k0_pay18]
  refine Eq.trans ?_ (congrArg (val_main_v81 (F := Ideal) (m ((c : Thread nD τ).loc main_arg4)) (m ((c : Thread nD τ).loc main_arg6))) (at_place t y).2.2.2.2.2.2.1.symm)
  refine (congrArg _ (eq_ix2 y)).trans ?_
  exact ((mean_rows _ _ _ _ _ _).2.1.trans (congrArg₂ mean (up_sum m c t (y 0) (y 1)) (blocks m c t 0 (y 0) (y 1)).2.2.2.2.2.2.1)).trans (turned (m ((c : Thread nD τ).loc main_arg4)) (m ((c : Thread nD τ).loc main_arg5)) (m ((c : Thread nD τ).loc main_arg6)) (m ((c : Thread nD τ).loc main_arg7)) (place t (y 0)) (y 1)).2.2.1.symm

theorem up_nv_final : (dats m 0 c).arrAt 19 (cfgs 0).N = val_main_v82 (F := Ideal) (m ((c : Thread nD τ).loc main_arg4)) (m ((c : Thread nD τ).loc main_arg7)) := by
  refine (dats m 0 c).arrAt_eq_of_covers 19 _ (by decide +kernel) fun t _ y => ?_
  blk_simp
  rw [after0_19]
  frame_out
  try simp only [whole, sum_rows, k0_pay16, k0_pay17, k0_pay18]
  refine Eq.trans ?_ (congrArg (val_main_v82 (F := Ideal) (m ((c : Thread nD τ).loc main_arg4)) (m ((c : Thread nD τ).loc main_arg7))) (at_place t y).2.2.2.2.2.2.2.1.symm)
  refine (congrArg _ (eq_ix2 y)).trans ?_
  exact ((square_rows _ _ _ _ _ _).2.1.trans (congrArg₂ square (up_sum m c t (y 0) (y 1)) (blocks m c t 0 (y 0) (y 1)).2.2.2.2.2.2.2.1)).trans (turned (m ((c : Thread nD τ).loc main_arg4)) (m ((c : Thread nD τ).loc main_arg5)) (m ((c : Thread nD τ).loc main_arg6)) (m ((c : Thread nD τ).loc main_arg7)) (place t (y 0)) (y 1)).2.2.2.symm

theorem down_g_final : (dats m 0 c).arrAt 20 (cfgs 0).N = val_main_v50 (F := Ideal) (m ((c : Thread nD τ).loc main_arg8)) := by
  refine (dats m 0 c).arrAt_eq_of_covers 20 _ (by decide +kernel) fun t _ y => ?_
  blk_simp
  rw [after0_20]
  frame_out
  try simp only [whole, sum_rows, k0_pay16, k0_pay17, k0_pay18]
  refine Eq.trans ?_ (congrArg (val_main_v50 (F := Ideal) (m ((c : Thread nD τ).loc main_arg8))) (at_place t y).2.2.2.2.2.2.2.2.1.symm)
  refine (congrArg _ (eq_ix2 y)).trans ?_
  exact (down_sum m c t (y 0) (y 1))

theorem down_d_final : (dats m 0 c).arrAt 21 (cfgs 0).N = val_main_v74 (F := Ideal) (m ((c : Thread nD τ).loc main_arg8)) (m ((c : Thread nD τ).loc main_arg9)) (m ((c : Thread nD τ).loc main_arg10)) (m ((c : Thread nD τ).loc main_arg11)) := by
  refine (dats m 0 c).arrAt_eq_of_covers 21 _ (by decide +kernel) fun t _ y => ?_
  blk_simp
  rw [after0_21]
  frame_out
  try simp only [whole, sum_rows, k0_pay16, k0_pay17, k0_pay18]
  refine Eq.trans ?_ (congrArg (val_main_v74 (F := Ideal) (m ((c : Thread nD τ).loc main_arg8)) (m ((c : Thread nD τ).loc main_arg9)) (m ((c : Thread nD τ).loc main_arg10)) (m ((c : Thread nD τ).loc main_arg11))) (at_place t y).2.2.2.2.2.2.2.2.2.1.symm)
  refine (congrArg _ (eq_ix2 y)).trans ?_
  exact ((step_rows _ _ _ _ _ _ _ _).2.2.trans (step_congr (down_sum m c t (y 0) (y 1)) (blocks m c t 0 (y 0) (y 1)).2.2.2.2.2.2.2.2.2.1 (blocks m c t 0 (y 0) (y 1)).2.2.2.2.2.2.2.2.2.2.1 (blocks m c t 0 (y 0) (y 1)).2.2.2.2.2.2.2.2.2.2.2)).trans (straight (m ((c : Thread nD τ).loc main_arg8)) (m ((c : Thread nD τ).loc main_arg9)) (m ((c : Thread nD τ).loc main_arg10)) (m ((c : Thread nD τ).loc main_arg11)) (ix2 (place t (y 0)) (y 1))).1.symm

theorem down_nm_final : (dats m 0 c).arrAt 22 (cfgs 0).N = val_main_v55 (F := Ideal) (m ((c : Thread nD τ).loc main_arg8)) (m ((c : Thread nD τ).loc main_arg10)) := by
  refine (dats m 0 c).arrAt_eq_of_covers 22 _ (by decide +kernel) fun t _ y => ?_
  blk_simp
  rw [after0_22]
  frame_out
  try simp only [whole, sum_rows, k0_pay16, k0_pay17, k0_pay18]
  refine Eq.trans ?_ (congrArg (val_main_v55 (F := Ideal) (m ((c : Thread nD τ).loc main_arg8)) (m ((c : Thread nD τ).loc main_arg10))) (at_place t y).2.2.2.2.2.2.2.2.2.2.1.symm)
  refine (congrArg _ (eq_ix2 y)).trans ?_
  exact ((mean_rows _ _ _ _ _ _).2.2.trans (congrArg₂ mean (down_sum m c t (y 0) (y 1)) (blocks m c t 0 (y 0) (y 1)).2.2.2.2.2.2.2.2.2.2.1)).trans (straight (m ((c : Thread nD τ).loc main_arg8)) (m ((c : Thread nD τ).loc main_arg9)) (m ((c : Thread nD τ).loc main_arg10)) (m ((c : Thread nD τ).loc main_arg11)) (ix2 (place t (y 0)) (y 1))).2.1.symm

theorem down_nv_final : (dats m 0 c).arrAt 23 (cfgs 0).N = val_main_v61 (F := Ideal) (m ((c : Thread nD τ).loc main_arg8)) (m ((c : Thread nD τ).loc main_arg11)) := by
  refine (dats m 0 c).arrAt_eq_of_covers 23 _ (by decide +kernel) fun t _ y => ?_
  blk_simp
  rw [after0_23]
  frame_out
  try simp only [whole, sum_rows, k0_pay16, k0_pay17, k0_pay18]
  refine Eq.trans ?_ (congrArg (val_main_v61 (F := Ideal) (m ((c : Thread nD τ).loc main_arg8)) (m ((c : Thread nD τ).loc main_arg11))) (at_place t y).2.2.2.2.2.2.2.2.2.2.2.symm)
  refine (congrArg _ (eq_ix2 y)).trans ?_
  exact ((square_rows _ _ _ _ _ _).2.2.trans (congrArg₂ square (down_sum m c t (y 0) (y 1)) (blocks m c t 0 (y 0) (y 1)).2.2.2.2.2.2.2.2.2.2.2)).trans (straight (m ((c : Thread nD τ).loc main_arg8)) (m ((c : Thread nD τ).loc main_arg9)) (m ((c : Thread nD τ).loc main_arg10)) (m ((c : Thread nD τ).loc main_arg11)) (ix2 (place t (y 0)) (y 1))).2.2.symm

end Cert.UpdateIdeal.Value

end

end
-- ==== Proof.UpdateClaim.lean ====
module

public import proofs.«01_k».proof.Proof.UpdateFrames
public import proofs.«01_k».proof.Proof.UpdateFinal

@[expose] public section

set_option maxRecDepth 16384

noncomputable section

open Idealize.ShloMosaic Idealize.SL.Sem

namespace Cert.Proof.Update

set_option maxHeartbeats 2000000 in
theorem algebraic : Cert.algebraic_UpdateIdeal_UpdateHostIdeal := by
  intro m ρ m' ρ' _ hagree
  refine ⟨_, _, _, _, _, _, _, _, _, _, _, _, Cert.UpdateIdeal.Value.run_blocks m ρ, ?_⟩
  refine (θ_run Cert.UpdateHostIdeal.defs _ _).mono (fun _ h c => ?_) (Cert.UpdateHostIdeal.Value.run (F := Ideal) m' ρ')
  obtain ⟨a0, a1, a2, a3, a4, a5, a6, a7, a8, a9, a10, a11⟩ := hagree c
  obtain ⟨h0, h1, h2, h3, h4, h5, h6, h7, h8, h9, h10, h11, hargs⟩ := h c
  refine ⟨h0.trans ?_, h1.trans ?_, h2.trans ?_, h3.trans ?_, h4.trans ?_, h5.trans ?_, h6.trans ?_, h7.trans ?_, h8.trans ?_, h9.trans ?_, h10.trans ?_, h11.trans ?_, hargs⟩
  · refine (Cert.UpdateHostIdeal.Read.val_main_v75_eq ..).trans ?_
    simp only [a0, a1, a2, a3, a4, a5, a6, a7, a8, a9, a10, a11]
    exact (Cert.UpdateIdeal.Value.gate_g_final m c).symm
  · refine (Cert.UpdateHostIdeal.Read.val_main_v76_eq ..).trans ?_
    simp only [a0, a1, a2, a3, a4, a5, a6, a7, a8, a9, a10, a11]
    exact (Cert.UpdateIdeal.Value.gate_d_final m c).symm
  · refine (Cert.UpdateHostIdeal.Read.val_main_v77_eq ..).trans ?_
    simp only [a0, a1, a2, a3, a4, a5, a6, a7, a8, a9, a10, a11]
    exact (Cert.UpdateIdeal.Value.gate_nm_final m c).symm
  · refine (Cert.UpdateHostIdeal.Read.val_main_v78_eq ..).trans ?_
    simp only [a0, a1, a2, a3, a4, a5, a6, a7, a8, a9, a10, a11]
    exact (Cert.UpdateIdeal.Value.gate_nv_final m c).symm
  · refine (Cert.UpdateHostIdeal.Read.val_main_v79_eq ..).trans ?_
    simp only [a0, a1, a2, a3, a4, a5, a6, a7, a8, a9, a10, a11]
    exact (Cert.UpdateIdeal.Value.up_g_final m c).symm
  · refine (Cert.UpdateHostIdeal.Read.val_main_v80_eq ..).trans ?_
    simp only [a0, a1, a2, a3, a4, a5, a6, a7, a8, a9, a10, a11]
    exact (Cert.UpdateIdeal.Value.up_d_final m c).symm
  · refine (Cert.UpdateHostIdeal.Read.val_main_v81_eq ..).trans ?_
    simp only [a0, a1, a2, a3, a4, a5, a6, a7, a8, a9, a10, a11]
    exact (Cert.UpdateIdeal.Value.up_nm_final m c).symm
  · refine (Cert.UpdateHostIdeal.Read.val_main_v82_eq ..).trans ?_
    simp only [a0, a1, a2, a3, a4, a5, a6, a7, a8, a9, a10, a11]
    exact (Cert.UpdateIdeal.Value.up_nv_final m c).symm
  · refine (Cert.UpdateHostIdeal.Read.val_main_v50_eq ..).trans ?_
    simp only [a0, a1, a2, a3, a4, a5, a6, a7, a8, a9, a10, a11]
    exact (Cert.UpdateIdeal.Value.down_g_final m c).symm
  · refine (Cert.UpdateHostIdeal.Read.val_main_v74_eq ..).trans ?_
    simp only [a0, a1, a2, a3, a4, a5, a6, a7, a8, a9, a10, a11]
    exact (Cert.UpdateIdeal.Value.down_d_final m c).symm
  · refine (Cert.UpdateHostIdeal.Read.val_main_v55_eq ..).trans ?_
    simp only [a0, a1, a2, a3, a4, a5, a6, a7, a8, a9, a10, a11]
    exact (Cert.UpdateIdeal.Value.down_nm_final m c).symm
  · refine (Cert.UpdateHostIdeal.Read.val_main_v61_eq ..).trans ?_
    simp only [a0, a1, a2, a3, a4, a5, a6, a7, a8, a9, a10, a11]
    exact (Cert.UpdateIdeal.Value.down_nv_final m c).symm

end Cert.Proof.Update

end

end
-- ==== Proof.lean ====
/- Assembles the claims proved one by one in the modules imported here. -/
module

public import proofs.«01_k».proof.Defs
public import proofs.«01_k».proof.Proof.Gen.Mix
public import proofs.«01_k».proof.Proof.Gen.MixIdeal
public import proofs.«01_k».proof.Proof.Gen.MixGradIdeal
public import proofs.«01_k».proof.Proof.Gen.MixIdeal.Value
public import proofs.«01_k».proof.Proof.Gen.MixGradIdeal.Run
public import proofs.«01_k».proof.Proof.Gen.MixGradIdeal.Read
public import proofs.«01_k».proof.Proof.MixClaim
public import proofs.«01_k».proof.Proof.Gen.Down
public import proofs.«01_k».proof.Proof.Gen.DownIdeal
public import proofs.«01_k».proof.Proof.Gen.DownGradIdeal
public import proofs.«01_k».proof.Proof.Gen.DownIdeal.Value
public import proofs.«01_k».proof.Proof.Gen.DownGradIdeal.Run
public import proofs.«01_k».proof.Proof.Gen.DownGradIdeal.Read
public import proofs.«01_k».proof.Proof.DownClaim
public import proofs.«01_k».proof.Proof.Gen.Norm
public import proofs.«01_k».proof.Proof.Gen.NormIdeal
public import proofs.«01_k».proof.Proof.Gen.NormGradIdeal
public import proofs.«01_k».proof.Proof.Gen.NormIdeal.Value
public import proofs.«01_k».proof.Proof.Gen.NormGradIdeal.Run
public import proofs.«01_k».proof.Proof.Gen.NormGradIdeal.Read
public import proofs.«01_k».proof.Proof.NormClaim
public import proofs.«01_k».proof.Proof.Gen.Inp
public import proofs.«01_k».proof.Proof.Gen.InpIdeal
public import proofs.«01_k».proof.Proof.Gen.InpGradIdeal
public import proofs.«01_k».proof.Proof.Gen.InpIdeal.Value
public import proofs.«01_k».proof.Proof.Gen.InpGradIdeal.Run
public import proofs.«01_k».proof.Proof.Gen.InpGradIdeal.Read
public import proofs.«01_k».proof.Proof.InpClaim
public import proofs.«01_k».proof.Proof.Gen.FfnBwd
public import proofs.«01_k».proof.Proof.Gen.FfnBwdIdeal
public import proofs.«01_k».proof.Proof.Gen.FfnGradIdeal
public import proofs.«01_k».proof.Proof.Gen.FfnBwdIdeal.Value
public import proofs.«01_k».proof.Proof.Gen.FfnGradIdeal.Run
public import proofs.«01_k».proof.Proof.Gen.FfnGradIdeal.Read
public import proofs.«01_k».proof.Proof.FfnBwdClaim
public import proofs.«01_k».proof.Proof.Gen.Attn
public import proofs.«01_k».proof.Proof.Gen.AttnIdeal
public import proofs.«01_k».proof.Proof.Gen.AttnGradIdeal
public import proofs.«01_k».proof.Proof.Gen.AttnIdeal.Value
public import proofs.«01_k».proof.Proof.Gen.AttnGradIdeal.Run
public import proofs.«01_k».proof.Proof.Gen.AttnGradIdeal.Read
public import proofs.«01_k».proof.Proof.AttnClaim
public import proofs.«01_k».proof.Proof.Gen.Up
public import proofs.«01_k».proof.Proof.Gen.UpIdeal
public import proofs.«01_k».proof.Proof.Gen.UpHostIdeal
public import proofs.«01_k».proof.Proof.Gen.UpIdeal.Value
public import proofs.«01_k».proof.Proof.Gen.UpHostIdeal.Run
public import proofs.«01_k».proof.Proof.Gen.UpHostIdeal.Read
public import proofs.«01_k».proof.Proof.UpClaim
public import proofs.«01_k».proof.Proof.Gen.Proj
public import proofs.«01_k».proof.Proof.Gen.ProjIdeal
public import proofs.«01_k».proof.Proof.Gen.ProjHostIdeal
public import proofs.«01_k».proof.Proof.Gen.ProjIdeal.Value
public import proofs.«01_k».proof.Proof.Gen.ProjHostIdeal.Run
public import proofs.«01_k».proof.Proof.Gen.ProjHostIdeal.Read
public import proofs.«01_k».proof.Proof.ProjClaim
public import proofs.«01_k».proof.Proof.Gen.Merge
public import proofs.«01_k».proof.Proof.Gen.MergeIdeal
public import proofs.«01_k».proof.Proof.Gen.MergeHostIdeal
public import proofs.«01_k».proof.Proof.Gen.MergeIdeal.Value
public import proofs.«01_k».proof.Proof.Gen.MergeHostIdeal.Run
public import proofs.«01_k».proof.Proof.Gen.MergeHostIdeal.Read
public import proofs.«01_k».proof.Proof.MergeClaim
public import proofs.«01_k».proof.Proof.Gen.Look
public import proofs.«01_k».proof.Proof.Gen.LookIdeal
public import proofs.«01_k».proof.Proof.Gen.LookHostIdeal
public import proofs.«01_k».proof.Proof.Gen.LookIdeal.Value
public import proofs.«01_k».proof.Proof.Gen.LookHostIdeal.Run
public import proofs.«01_k».proof.Proof.Gen.LookHostIdeal.Read
public import proofs.«01_k».proof.Proof.LookFrames
public import proofs.«01_k».proof.Proof.Gen.Weights
public import proofs.«01_k».proof.Proof.Gen.WeightsIdeal
public import proofs.«01_k».proof.Proof.Gen.WeightsGradIdeal
public import proofs.«01_k».proof.Proof.Gen.WeightsIdeal.Value
public import proofs.«01_k».proof.Proof.Gen.WeightsGradIdeal.Run
public import proofs.«01_k».proof.Proof.Gen.WeightsGradIdeal.Read
public import proofs.«01_k».proof.Proof.WeightsClaim
public import proofs.«01_k».proof.Proof.Gen.Adam
public import proofs.«01_k».proof.Proof.Gen.AdamIdeal
public import proofs.«01_k».proof.Proof.Gen.AdamHostIdeal
public import proofs.«01_k».proof.Proof.Gen.AdamIdeal.Value
public import proofs.«01_k».proof.Proof.Gen.AdamHostIdeal.Run
public import proofs.«01_k».proof.Proof.Gen.AdamHostIdeal.Read
public import proofs.«01_k».proof.Proof.AdamClaim
public import proofs.«01_k».proof.Proof.Gen.Update
public import proofs.«01_k».proof.Proof.Gen.UpdateIdeal
public import proofs.«01_k».proof.Proof.Gen.UpdateHostIdeal
public import proofs.«01_k».proof.Proof.Gen.UpdateIdeal.Value
public import proofs.«01_k».proof.Proof.Gen.UpdateHostIdeal.Run
public import proofs.«01_k».proof.Proof.Gen.UpdateHostIdeal.Read
public import proofs.«01_k».proof.Proof.UpdateClaim

@[expose] public section

noncomputable section

namespace Cert.Proof

theorem claim : Cert.Claim :=
  ⟨Cert.Mix.Gen.facts,
   Cert.MixIdeal.Gen.facts,
   Cert.MixGradIdeal.Gen.facts,
   Cert.Down.Gen.facts,
   Cert.DownIdeal.Gen.facts,
   Cert.DownGradIdeal.Gen.facts,
   Cert.Norm.Gen.facts,
   Cert.NormIdeal.Gen.facts,
   Cert.NormGradIdeal.Gen.facts,
   Cert.Inp.Gen.facts,
   Cert.InpIdeal.Gen.facts,
   Cert.InpGradIdeal.Gen.facts,
   Cert.FfnBwd.Gen.facts,
   Cert.FfnBwdIdeal.Gen.facts,
   Cert.FfnGradIdeal.Gen.facts,
   Cert.Attn.Gen.facts,
   Cert.AttnIdeal.Gen.facts,
   Cert.AttnGradIdeal.Gen.facts,
   Cert.Up.Gen.facts,
   Cert.UpIdeal.Gen.facts,
   Cert.UpHostIdeal.Gen.facts,
   Cert.Proj.Gen.facts,
   Cert.ProjIdeal.Gen.facts,
   Cert.ProjHostIdeal.Gen.facts,
   Cert.Merge.Gen.facts,
   Cert.MergeIdeal.Gen.facts,
   Cert.MergeHostIdeal.Gen.facts,
   Cert.Look.Gen.facts,
   Cert.LookIdeal.Gen.facts,
   Cert.LookHostIdeal.Gen.facts,
   Cert.Weights.Gen.facts,
   Cert.WeightsIdeal.Gen.facts,
   Cert.WeightsGradIdeal.Gen.facts,
   Cert.Adam.Gen.facts,
   Cert.AdamIdeal.Gen.facts,
   Cert.AdamHostIdeal.Gen.facts,
   Cert.Update.Gen.facts,
   Cert.UpdateIdeal.Gen.facts,
   Cert.UpdateHostIdeal.Gen.facts,
   Cert.Pre_down_finite.Gen.facts,
   Cert.Pre_norm_finite.Gen.facts,
   Cert.Pre_inp_finite.Gen.facts,
   Cert.Pre_ffn_finite.Gen.facts,
   Cert.Pre_attn_finite.Gen.facts,
   Cert.Pre_merge_finite.Gen.facts,
   Mix.frame,
   Mix.frameIdeal,
   Mix.frameReference,
   Down.frame,
   Down.frameIdeal,
   Down.frameIdealPre,
   Down.frameReference,
   Down.frameReferencePre,
   Norm.frame,
   Norm.frameIdeal,
   Norm.frameIdealPre,
   Norm.frameReference,
   Norm.frameReferencePre,
   Inp.frame,
   Inp.frameIdeal,
   Inp.frameIdealPre,
   Inp.frameReference,
   Inp.frameReferencePre,
   FfnBwd.frame,
   FfnBwd.frameIdeal,
   FfnBwd.frameIdealPre,
   FfnBwd.frameReference,
   FfnBwd.frameReferencePre,
   Attn.frame,
   Attn.frameIdeal,
   Attn.frameIdealPre,
   Attn.frameReference,
   Attn.frameReferencePre,
   Up.frame,
   Up.frameIdeal,
   Up.frameReference,
   Proj.frame,
   Proj.frameIdeal,
   Proj.frameReference,
   Merge.frame,
   Merge.frameIdeal,
   Merge.frameIdealPre,
   Merge.frameReference,
   Merge.frameReferencePre,
   Look.frame,
   Look.frameIdeal,
   Look.frameReference,
   Weights.frame,
   Weights.frameIdeal,
   Weights.frameReference,
   Adam.frame,
   Adam.frameIdeal,
   Adam.frameReference,
   Update.frame,
   Update.frameIdeal,
   Update.frameReference,
   Mix.preserves,
   Mix.algebraic,
   Down.preserves,
   Down.algebraic,
   Norm.preserves,
   Norm.algebraic,
   Inp.preserves,
   Inp.algebraic,
   FfnBwd.preserves,
   FfnBwd.algebraic,
   Attn.preserves,
   Attn.algebraic,
   Up.preserves,
   Up.algebraic,
   Proj.preserves,
   Proj.algebraic,
   Merge.preserves,
   Merge.algebraic,
   Look.preserves,
   Weights.preserves,
   Weights.algebraic,
   Adam.preserves,
   Adam.algebraic,
   Update.preserves,
   Update.algebraic⟩

end Cert.Proof

end

end
